-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000000x16 : Shape := ⟨2, ![1000000, 16]⟩
abbrev S16384x50 : Shape := ⟨2, ![16384, 50]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : FVec F S1000000x16 .f32) (main_arg1 : IVec S16384x50 32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg1 main_v0
  let main_c_0 : IVec S_ 32 := constantI S_ 32 1000000#32
  let main_v2 : IVec S16384x50 32 := broadcastInDim S16384x50 ![] bcast_S_S16384x50 main_c_0
  let main_v3 : IVec S16384x50 1 := cmpi .slt main_arg1 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S1000000x16 : Shape := ⟨2, ![1000000, 16]⟩
abbrev S16384x50 : Shape := ⟨2, ![16384, 50]⟩
abbrev S50x16384 : Shape := ⟨2, ![50, 16384]⟩
abbrev S50x2x128x8x128 : Shape := ⟨5, ![50, 2, 128, 8, 128]⟩
abbrev S50x512 : Shape := ⟨2, ![50, 512]⟩
abbrev S512x16 : Shape := ⟨2, ![512, 16]⟩
abbrev S2x4x8x128 : Shape := ⟨4, ![2, 4, 8, 128]⟩
abbrev S_ : Shape := ⟨0, ![]⟩
abbrev S1x512 : Shape := ⟨2, ![1, 512]⟩
abbrev S512 : Shape := ⟨1, ![512]⟩
abbrev S1x2x4x8x128 : Shape := ⟨5, ![1, 2, 4, 8, 128]⟩
abbrev S16 : Shape := ⟨1, ![16]⟩
abbrev S1x1x1x16 : Shape := ⟨4, ![1, 1, 1, 16]⟩
abbrev S128x128x50x2x8 : Shape := ⟨5, ![128, 128, 50, 2, 8]⟩
abbrev S16384x50x16 : Shape := ⟨3, ![16384, 50, 16]⟩

abbrev nBuf : Table → Nat
  | .hbm => 6
  | .local .scVector .vmem => 7
  | _ => 0

abbrev bufTy : (tb : Table) → Fin (nBuf tb) → BufTy
  | .hbm, ⟨0, _⟩ => ⟨S1000000x16, .f32⟩
  | .hbm, ⟨1, _⟩ => ⟨S16384x50, .i32⟩
  | .hbm, ⟨2, _⟩ => ⟨S50x16384, .i32⟩
  | .hbm, ⟨3, _⟩ => ⟨S50x2x128x8x128, .f32⟩
  | .hbm, ⟨4, _⟩ => ⟨S128x128x50x2x8, .f32⟩
  | .hbm, ⟨5, _⟩ => ⟨S16384x50x16, .f32⟩
  | .local .scVector .vmem, ⟨0, _⟩ => ⟨S50x512, .i32⟩
  | .local .scVector .vmem, ⟨1, _⟩ => ⟨S512x16, .f32⟩
  | .local .scVector .vmem, ⟨2, _⟩ => ⟨S512x16, .f32⟩
  | .local .scVector .vmem, ⟨3, _⟩ => ⟨S512x16, .f32⟩
  | .local .scVector .vmem, ⟨4, _⟩ => ⟨S2x4x8x128, .f32⟩
  | .local .scVector .vmem, ⟨5, _⟩ => ⟨S2x4x8x128, .f32⟩
  | .local .scVector .vmem, ⟨6, _⟩ => ⟨S2x4x8x128, .f32⟩
  | _, _ => ⟨S1000000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_41_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t1_loop : Scf.Loop 32 :=
  let c0_i32_11 : BitVec 32 := 0#32
  let c17_i32 : BitVec 32 := 17#32
  let v13 : BitVec 32 := Scalar.addi c0_i32_11 c17_i32
  let c1_i32_12 : BitVec 32 := 1#32
  ⟨c0_i32_11, v13, c1_i32_12⟩
def k0_cond1 (k0_t1 : Fin k0_t1_loop.trips) : BitVec 1 :=
  let c0_i32_11 : BitVec 32 := 0#32
  let c1_i32_12 : BitVec 32 := 1#32
  let arg18 : BitVec 32 := Scf.iv c0_i32_11 c1_i32_12 k0_t1
  let c3_i32 : BitVec 32 := 3#32
  let v26 : BitVec 32 := Scalar.muli arg18 c3_i32
  let c0_i32_41 : BitVec 32 := 0#32
  let v27 : BitVec 32 := Scalar.addi v26 c0_i32_41
  let c50_i32 : BitVec 32 := 50#32
  let v28 : BitVec 1 := Scalar.cmpi .slt v27 c50_i32
  let v29 : BitVec 32 := Scalar.extui v28
  let c0_i32_42 : BitVec 32 := 0#32
  let v30 : BitVec 1 := Scalar.cmpi .ne v29 c0_i32_42
  v30

def k0_off2 (k0_t1 : Fin k0_t1_loop.trips) : Fin 2 → Nat :=
  let c0_i32_11 : BitVec 32 := 0#32
  let c1_i32_12 : BitVec 32 := 1#32
  let arg18 : BitVec 32 := Scf.iv c0_i32_11 c1_i32_12 k0_t1
  let c3_i32 : BitVec 32 := 3#32
  let v26 : BitVec 32 := Scalar.muli arg18 c3_i32
  let c0_i32_41 : BitVec 32 := 0#32
  let v27 : BitVec 32 := Scalar.addi v26 c0_i32_41
  let c0_i32_51 : BitVec 32 := 0#32
  ![v27.toNat, 0]

def k0_chk1 (k0_t1 : Fin k0_t1_loop.trips) (v49 : IVec S16 32) (v50 : IVec S16 32) : Prop :=
  (∀ (k0_h1 : k0_cond1 k0_t1 = 1#1), ∀ a x, ((![v49, v50] : Fin 2 → IVec S16 32) a x).toNat < S512x16.size a)
theorem k0_idx1_inb : ∀ (k0_t1 : Fin k0_t1_loop.trips) (v49 : IVec S16 32) (v50 : IVec S16 32) (k0_hw1 : k0_chk1 k0_t1 v49 v50), ∀ (k0_h1 : k0_cond1 k0_t1 = 1#1), ∀ a x, ((![v49, v50] : Fin 2 → IVec S16 32) a x).toNat < S512x16.size a := fun k0_t1 v49 v50 k0_hw1 k0_h1 => k0_hw1 k0_h1

def k0_chk2 (k0_t1 : Fin k0_t1_loop.trips) (v49 : IVec S16 32) (v52 : IVec S16 32) : Prop :=
  (∀ (k0_h1 : k0_cond1 k0_t1 = 1#1), ∀ a x, ((![v49, v52] : Fin 2 → IVec S16 32) a x).toNat < S512x16.size a)
theorem k0_idx2_inb : ∀ (k0_t1 : Fin k0_t1_loop.trips) (v49 : IVec S16 32) (v52 : IVec S16 32) (k0_hw2 : k0_chk2 k0_t1 v49 v52), ∀ (k0_h1 : k0_cond1 k0_t1 = 1#1), ∀ a x, ((![v49, v52] : Fin 2 → IVec S16 32) a x).toNat < S512x16.size a := fun k0_t1 v49 v52 k0_hw2 k0_h1 => k0_hw2 k0_h1

def k0_chk3 (k0_t1 : Fin k0_t1_loop.trips) (v49 : IVec S16 32) (v54 : IVec S16 32) : Prop :=
  (∀ (k0_h1 : k0_cond1 k0_t1 = 1#1), ∀ a x, ((![v49, v54] : Fin 2 → IVec S16 32) a x).toNat < S512x16.size a)
theorem k0_idx3_inb : ∀ (k0_t1 : Fin k0_t1_loop.trips) (v49 : IVec S16 32) (v54 : IVec S16 32) (k0_hw3 : k0_chk3 k0_t1 v49 v54), ∀ (k0_h1 : k0_cond1 k0_t1 = 1#1), ∀ a x, ((![v49, v54] : Fin 2 → IVec S16 32) a x).toNat < S512x16.size a := fun k0_t1 v49 v54 k0_hw3 k0_h1 => k0_hw3 k0_h1

def k0_chk4 (k0_t1 : Fin k0_t1_loop.trips) (v49 : IVec S16 32) (v56 : IVec S16 32) : Prop :=
  (∀ (k0_h1 : k0_cond1 k0_t1 = 1#1), ∀ a x, ((![v49, v56] : Fin 2 → IVec S16 32) a x).toNat < S512x16.size a)
theorem k0_idx4_inb : ∀ (k0_t1 : Fin k0_t1_loop.trips) (v49 : IVec S16 32) (v56 : IVec S16 32) (k0_hw4 : k0_chk4 k0_t1 v49 v56), ∀ (k0_h1 : k0_cond1 k0_t1 = 1#1), ∀ a x, ((![v49, v56] : Fin 2 → IVec S16 32) a x).toNat < S512x16.size a := fun k0_t1 v49 v56 k0_hw4 k0_h1 => k0_hw4 k0_h1

def k0_chk5 (k0_t1 : Fin k0_t1_loop.trips) (v49 : IVec S16 32) (v58 : IVec S16 32) : Prop :=
  (∀ (k0_h1 : k0_cond1 k0_t1 = 1#1), ∀ a x, ((![v49, v58] : Fin 2 → IVec S16 32) a x).toNat < S512x16.size a)
theorem k0_idx5_inb : ∀ (k0_t1 : Fin k0_t1_loop.trips) (v49 : IVec S16 32) (v58 : IVec S16 32) (k0_hw5 : k0_chk5 k0_t1 v49 v58), ∀ (k0_h1 : k0_cond1 k0_t1 = 1#1), ∀ a x, ((![v49, v58] : Fin 2 → IVec S16 32) a x).toNat < S512x16.size a := fun k0_t1 v49 v58 k0_hw5 k0_h1 => k0_hw5 k0_h1

def k0_chk6 (k0_t1 : Fin k0_t1_loop.trips) (v49 : IVec S16 32) (v60 : IVec S16 32) : Prop :=
  (∀ (k0_h1 : k0_cond1 k0_t1 = 1#1), ∀ a x, ((![v49, v60] : Fin 2 → IVec S16 32) a x).toNat < S512x16.size a)
theorem k0_idx6_inb : ∀ (k0_t1 : Fin k0_t1_loop.trips) (v49 : IVec S16 32) (v60 : IVec S16 32) (k0_hw6 : k0_chk6 k0_t1 v49 v60), ∀ (k0_h1 : k0_cond1 k0_t1 = 1#1), ∀ a x, ((![v49, v60] : Fin 2 → IVec S16 32) a x).toNat < S512x16.size a := fun k0_t1 v49 v60 k0_hw6 k0_h1 => k0_hw6 k0_h1

def k0_chk7 (k0_t1 : Fin k0_t1_loop.trips) (v49 : IVec S16 32) (v62 : IVec S16 32) : Prop :=
  (∀ (k0_h1 : k0_cond1 k0_t1 = 1#1), ∀ a x, ((![v49, v62] : Fin 2 → IVec S16 32) a x).toNat < S512x16.size a)
theorem k0_idx7_inb : ∀ (k0_t1 : Fin k0_t1_loop.trips) (v49 : IVec S16 32) (v62 : IVec S16 32) (k0_hw7 : k0_chk7 k0_t1 v49 v62), ∀ (k0_h1 : k0_cond1 k0_t1 = 1#1), ∀ a x, ((![v49, v62] : Fin 2 → IVec S16 32) a x).toNat < S512x16.size a := fun k0_t1 v49 v62 k0_hw7 k0_h1 => k0_hw7 k0_h1

def k0_chk8 (k0_t1 : Fin k0_t1_loop.trips) (v49 : IVec S16 32) (v64 : IVec S16 32) : Prop :=
  (∀ (k0_h1 : k0_cond1 k0_t1 = 1#1), ∀ a x, ((![v49, v64] : Fin 2 → IVec S16 32) a x).toNat < S512x16.size a)
theorem k0_idx8_inb : ∀ (k0_t1 : Fin k0_t1_loop.trips) (v49 : IVec S16 32) (v64 : IVec S16 32) (k0_hw8 : k0_chk8 k0_t1 v49 v64), ∀ (k0_h1 : k0_cond1 k0_t1 = 1#1), ∀ a x, ((![v49, v64] : Fin 2 → IVec S16 32) a x).toNat < S512x16.size a := fun k0_t1 v49 v64 k0_hw8 k0_h1 => k0_hw8 k0_h1

def k0_chk9 (k0_t1 : Fin k0_t1_loop.trips) (v49 : IVec S16 32) (v66 : IVec S16 32) : Prop :=
  (∀ (k0_h1 : k0_cond1 k0_t1 = 1#1), ∀ a x, ((![v49, v66] : Fin 2 → IVec S16 32) a x).toNat < S512x16.size a)
theorem k0_idx9_inb : ∀ (k0_t1 : Fin k0_t1_loop.trips) (v49 : IVec S16 32) (v66 : IVec S16 32) (k0_hw9 : k0_chk9 k0_t1 v49 v66), ∀ (k0_h1 : k0_cond1 k0_t1 = 1#1), ∀ a x, ((![v49, v66] : Fin 2 → IVec S16 32) a x).toNat < S512x16.size a := fun k0_t1 v49 v66 k0_hw9 k0_h1 => k0_hw9 k0_h1

def k0_chk10 (k0_t1 : Fin k0_t1_loop.trips) (v49 : IVec S16 32) (v68 : IVec S16 32) : Prop :=
  (∀ (k0_h1 : k0_cond1 k0_t1 = 1#1), ∀ a x, ((![v49, v68] : Fin 2 → IVec S16 32) a x).toNat < S512x16.size a)
theorem k0_idx10_inb : ∀ (k0_t1 : Fin k0_t1_loop.trips) (v49 : IVec S16 32) (v68 : IVec S16 32) (k0_hw10 : k0_chk10 k0_t1 v49 v68), ∀ (k0_h1 : k0_cond1 k0_t1 = 1#1), ∀ a x, ((![v49, v68] : Fin 2 → IVec S16 32) a x).toNat < S512x16.size a := fun k0_t1 v49 v68 k0_hw10 k0_h1 => k0_hw10 k0_h1

def k0_chk11 (k0_t1 : Fin k0_t1_loop.trips) (v49 : IVec S16 32) (v70 : IVec S16 32) : Prop :=
  (∀ (k0_h1 : k0_cond1 k0_t1 = 1#1), ∀ a x, ((![v49, v70] : Fin 2 → IVec S16 32) a x).toNat < S512x16.size a)
theorem k0_idx11_inb : ∀ (k0_t1 : Fin k0_t1_loop.trips) (v49 : IVec S16 32) (v70 : IVec S16 32) (k0_hw11 : k0_chk11 k0_t1 v49 v70), ∀ (k0_h1 : k0_cond1 k0_t1 = 1#1), ∀ a x, ((![v49, v70] : Fin 2 → IVec S16 32) a x).toNat < S512x16.size a := fun k0_t1 v49 v70 k0_hw11 k0_h1 => k0_hw11 k0_h1

def k0_chk12 (k0_t1 : Fin k0_t1_loop.trips) (v49 : IVec S16 32) (v72 : IVec S16 32) : Prop :=
  (∀ (k0_h1 : k0_cond1 k0_t1 = 1#1), ∀ a x, ((![v49, v72] : Fin 2 → IVec S16 32) a x).toNat < S512x16.size a)
theorem k0_idx12_inb : ∀ (k0_t1 : Fin k0_t1_loop.trips) (v49 : IVec S16 32) (v72 : IVec S16 32) (k0_hw12 : k0_chk12 k0_t1 v49 v72), ∀ (k0_h1 : k0_cond1 k0_t1 = 1#1), ∀ a x, ((![v49, v72] : Fin 2 → IVec S16 32) a x).toNat < S512x16.size a := fun k0_t1 v49 v72 k0_hw12 k0_h1 => k0_hw12 k0_h1

def k0_chk13 (k0_t1 : Fin k0_t1_loop.trips) (v49 : IVec S16 32) (v74 : IVec S16 32) : Prop :=
  (∀ (k0_h1 : k0_cond1 k0_t1 = 1#1), ∀ a x, ((![v49, v74] : Fin 2 → IVec S16 32) a x).toNat < S512x16.size a)
theorem k0_idx13_inb : ∀ (k0_t1 : Fin k0_t1_loop.trips) (v49 : IVec S16 32) (v74 : IVec S16 32) (k0_hw13 : k0_chk13 k0_t1 v49 v74), ∀ (k0_h1 : k0_cond1 k0_t1 = 1#1), ∀ a x, ((![v49, v74] : Fin 2 → IVec S16 32) a x).toNat < S512x16.size a := fun k0_t1 v49 v74 k0_hw13 k0_h1 => k0_hw13 k0_h1

def k0_chk14 (k0_t1 : Fin k0_t1_loop.trips) (v49 : IVec S16 32) (v76 : IVec S16 32) : Prop :=
  (∀ (k0_h1 : k0_cond1 k0_t1 = 1#1), ∀ a x, ((![v49, v76] : Fin 2 → IVec S16 32) a x).toNat < S512x16.size a)
theorem k0_idx14_inb : ∀ (k0_t1 : Fin k0_t1_loop.trips) (v49 : IVec S16 32) (v76 : IVec S16 32) (k0_hw14 : k0_chk14 k0_t1 v49 v76), ∀ (k0_h1 : k0_cond1 k0_t1 = 1#1), ∀ a x, ((![v49, v76] : Fin 2 → IVec S16 32) a x).toNat < S512x16.size a := fun k0_t1 v49 v76 k0_hw14 k0_h1 => k0_hw14 k0_h1

def k0_chk15 (k0_t1 : Fin k0_t1_loop.trips) (v49 : IVec S16 32) (v78 : IVec S16 32) : Prop :=
  (∀ (k0_h1 : k0_cond1 k0_t1 = 1#1), ∀ a x, ((![v49, v78] : Fin 2 → IVec S16 32) a x).toNat < S512x16.size a)
theorem k0_idx15_inb : ∀ (k0_t1 : Fin k0_t1_loop.trips) (v49 : IVec S16 32) (v78 : IVec S16 32) (k0_hw15 : k0_chk15 k0_t1 v49 v78), ∀ (k0_h1 : k0_cond1 k0_t1 = 1#1), ∀ a x, ((![v49, v78] : Fin 2 → IVec S16 32) a x).toNat < S512x16.size a := fun k0_t1 v49 v78 k0_hw15 k0_h1 => k0_hw15 k0_h1

def k0_chk16 (k0_t1 : Fin k0_t1_loop.trips) (v49 : IVec S16 32) (v80 : IVec S16 32) : Prop :=
  (∀ (k0_h1 : k0_cond1 k0_t1 = 1#1), ∀ a x, ((![v49, v80] : Fin 2 → IVec S16 32) a x).toNat < S512x16.size a)
theorem k0_idx16_inb : ∀ (k0_t1 : Fin k0_t1_loop.trips) (v49 : IVec S16 32) (v80 : IVec S16 32) (k0_hw16 : k0_chk16 k0_t1 v49 v80), ∀ (k0_h1 : k0_cond1 k0_t1 = 1#1), ∀ a x, ((![v49, v80] : Fin 2 → IVec S16 32) a x).toNat < S512x16.size a := fun k0_t1 v49 v80 k0_hw16 k0_h1 => k0_hw16 k0_h1

def k0_chk17 (k0_t1 : Fin k0_t1_loop.trips) (v148 : IVec S16 32) (v149 : IVec S16 32) : Prop :=
  (∀ (k0_h1 : k0_cond1 k0_t1 = 1#1), ∀ a x, ((![v148, v149] : Fin 2 → IVec S16 32) a x).toNat < S512x16.size a)
theorem k0_idx17_inb : ∀ (k0_t1 : Fin k0_t1_loop.trips) (v148 : IVec S16 32) (v149 : IVec S16 32) (k0_hw17 : k0_chk17 k0_t1 v148 v149), ∀ (k0_h1 : k0_cond1 k0_t1 = 1#1), ∀ a x, ((![v148, v149] : Fin 2 → IVec S16 32) a x).toNat < S512x16.size a := fun k0_t1 v148 v149 k0_hw17 k0_h1 => k0_hw17 k0_h1

def k0_chk18 (k0_t1 : Fin k0_t1_loop.trips) (v148 : IVec S16 32) (v151 : IVec S16 32) : Prop :=
  (∀ (k0_h1 : k0_cond1 k0_t1 = 1#1), ∀ a x, ((![v148, v151] : Fin 2 → IVec S16 32) a x).toNat < S512x16.size a)
theorem k0_idx18_inb : ∀ (k0_t1 : Fin k0_t1_loop.trips) (v148 : IVec S16 32) (v151 : IVec S16 32) (k0_hw18 : k0_chk18 k0_t1 v148 v151), ∀ (k0_h1 : k0_cond1 k0_t1 = 1#1), ∀ a x, ((![v148, v151] : Fin 2 → IVec S16 32) a x).toNat < S512x16.size a := fun k0_t1 v148 v151 k0_hw18 k0_h1 => k0_hw18 k0_h1

def k0_chk19 (k0_t1 : Fin k0_t1_loop.trips) (v148 : IVec S16 32) (v153 : IVec S16 32) : Prop :=
  (∀ (k0_h1 : k0_cond1 k0_t1 = 1#1), ∀ a x, ((![v148, v153] : Fin 2 → IVec S16 32) a x).toNat < S512x16.size a)
theorem k0_idx19_inb : ∀ (k0_t1 : Fin k0_t1_loop.trips) (v148 : IVec S16 32) (v153 : IVec S16 32) (k0_hw19 : k0_chk19 k0_t1 v148 v153), ∀ (k0_h1 : k0_cond1 k0_t1 = 1#1), ∀ a x, ((![v148, v153] : Fin 2 → IVec S16 32) a x).toNat < S512x16.size a := fun k0_t1 v148 v153 k0_hw19 k0_h1 => k0_hw19 k0_h1

def k0_chk20 (k0_t1 : Fin k0_t1_loop.trips) (v148 : IVec S16 32) (v155 : IVec S16 32) : Prop :=
  (∀ (k0_h1 : k0_cond1 k0_t1 = 1#1), ∀ a x, ((![v148, v155] : Fin 2 → IVec S16 32) a x).toNat < S512x16.size a)
theorem k0_idx20_inb : ∀ (k0_t1 : Fin k0_t1_loop.trips) (v148 : IVec S16 32) (v155 : IVec S16 32) (k0_hw20 : k0_chk20 k0_t1 v148 v155), ∀ (k0_h1 : k0_cond1 k0_t1 = 1#1), ∀ a x, ((![v148, v155] : Fin 2 → IVec S16 32) a x).toNat < S512x16.size a := fun k0_t1 v148 v155 k0_hw20 k0_h1 => k0_hw20 k0_h1

def k0_chk21 (k0_t1 : Fin k0_t1_loop.trips) (v148 : IVec S16 32) (v157 : IVec S16 32) : Prop :=
  (∀ (k0_h1 : k0_cond1 k0_t1 = 1#1), ∀ a x, ((![v148, v157] : Fin 2 → IVec S16 32) a x).toNat < S512x16.size a)
theorem k0_idx21_inb : ∀ (k0_t1 : Fin k0_t1_loop.trips) (v148 : IVec S16 32) (v157 : IVec S16 32) (k0_hw21 : k0_chk21 k0_t1 v148 v157), ∀ (k0_h1 : k0_cond1 k0_t1 = 1#1), ∀ a x, ((![v148, v157] : Fin 2 → IVec S16 32) a x).toNat < S512x16.size a := fun k0_t1 v148 v157 k0_hw21 k0_h1 => k0_hw21 k0_h1

def k0_chk22 (k0_t1 : Fin k0_t1_loop.trips) (v148 : IVec S16 32) (v159 : IVec S16 32) : Prop :=
  (∀ (k0_h1 : k0_cond1 k0_t1 = 1#1), ∀ a x, ((![v148, v159] : Fin 2 → IVec S16 32) a x).toNat < S512x16.size a)
theorem k0_idx22_inb : ∀ (k0_t1 : Fin k0_t1_loop.trips) (v148 : IVec S16 32) (v159 : IVec S16 32) (k0_hw22 : k0_chk22 k0_t1 v148 v159), ∀ (k0_h1 : k0_cond1 k0_t1 = 1#1), ∀ a x, ((![v148, v159] : Fin 2 → IVec S16 32) a x).toNat < S512x16.size a := fun k0_t1 v148 v159 k0_hw22 k0_h1 => k0_hw22 k0_h1

def k0_chk23 (k0_t1 : Fin k0_t1_loop.trips) (v148 : IVec S16 32) (v161 : IVec S16 32) : Prop :=
  (∀ (k0_h1 : k0_cond1 k0_t1 = 1#1), ∀ a x, ((![v148, v161] : Fin 2 → IVec S16 32) a x).toNat < S512x16.size a)
theorem k0_idx23_inb : ∀ (k0_t1 : Fin k0_t1_loop.trips) (v148 : IVec S16 32) (v161 : IVec S16 32) (k0_hw23 : k0_chk23 k0_t1 v148 v161), ∀ (k0_h1 : k0_cond1 k0_t1 = 1#1), ∀ a x, ((![v148, v161] : Fin 2 → IVec S16 32) a x).toNat < S512x16.size a := fun k0_t1 v148 v161 k0_hw23 k0_h1 => k0_hw23 k0_h1

def k0_chk24 (k0_t1 : Fin k0_t1_loop.trips) (v148 : IVec S16 32) (v163 : IVec S16 32) : Prop :=
  (∀ (k0_h1 : k0_cond1 k0_t1 = 1#1), ∀ a x, ((![v148, v163] : Fin 2 → IVec S16 32) a x).toNat < S512x16.size a)
theorem k0_idx24_inb : ∀ (k0_t1 : Fin k0_t1_loop.trips) (v148 : IVec S16 32) (v163 : IVec S16 32) (k0_hw24 : k0_chk24 k0_t1 v148 v163), ∀ (k0_h1 : k0_cond1 k0_t1 = 1#1), ∀ a x, ((![v148, v163] : Fin 2 → IVec S16 32) a x).toNat < S512x16.size a := fun k0_t1 v148 v163 k0_hw24 k0_h1 => k0_hw24 k0_h1

def k0_chk25 (k0_t1 : Fin k0_t1_loop.trips) (v148 : IVec S16 32) (v165 : IVec S16 32) : Prop :=
  (∀ (k0_h1 : k0_cond1 k0_t1 = 1#1), ∀ a x, ((![v148, v165] : Fin 2 → IVec S16 32) a x).toNat < S512x16.size a)
theorem k0_idx25_inb : ∀ (k0_t1 : Fin k0_t1_loop.trips) (v148 : IVec S16 32) (v165 : IVec S16 32) (k0_hw25 : k0_chk25 k0_t1 v148 v165), ∀ (k0_h1 : k0_cond1 k0_t1 = 1#1), ∀ a x, ((![v148, v165] : Fin 2 → IVec S16 32) a x).toNat < S512x16.size a := fun k0_t1 v148 v165 k0_hw25 k0_h1 => k0_hw25 k0_h1

def k0_chk26 (k0_t1 : Fin k0_t1_loop.trips) (v148 : IVec S16 32) (v167 : IVec S16 32) : Prop :=
  (∀ (k0_h1 : k0_cond1 k0_t1 = 1#1), ∀ a x, ((![v148, v167] : Fin 2 → IVec S16 32) a x).toNat < S512x16.size a)
theorem k0_idx26_inb : ∀ (k0_t1 : Fin k0_t1_loop.trips) (v148 : IVec S16 32) (v167 : IVec S16 32) (k0_hw26 : k0_chk26 k0_t1 v148 v167), ∀ (k0_h1 : k0_cond1 k0_t1 = 1#1), ∀ a x, ((![v148, v167] : Fin 2 → IVec S16 32) a x).toNat < S512x16.size a := fun k0_t1 v148 v167 k0_hw26 k0_h1 => k0_hw26 k0_h1

def k0_chk27 (k0_t1 : Fin k0_t1_loop.trips) (v148 : IVec S16 32) (v169 : IVec S16 32) : Prop :=
  (∀ (k0_h1 : k0_cond1 k0_t1 = 1#1), ∀ a x, ((![v148, v169] : Fin 2 → IVec S16 32) a x).toNat < S512x16.size a)
theorem k0_idx27_inb : ∀ (k0_t1 : Fin k0_t1_loop.trips) (v148 : IVec S16 32) (v169 : IVec S16 32) (k0_hw27 : k0_chk27 k0_t1 v148 v169), ∀ (k0_h1 : k0_cond1 k0_t1 = 1#1), ∀ a x, ((![v148, v169] : Fin 2 → IVec S16 32) a x).toNat < S512x16.size a := fun k0_t1 v148 v169 k0_hw27 k0_h1 => k0_hw27 k0_h1

def k0_chk28 (k0_t1 : Fin k0_t1_loop.trips) (v148 : IVec S16 32) (v171 : IVec S16 32) : Prop :=
  (∀ (k0_h1 : k0_cond1 k0_t1 = 1#1), ∀ a x, ((![v148, v171] : Fin 2 → IVec S16 32) a x).toNat < S512x16.size a)
theorem k0_idx28_inb : ∀ (k0_t1 : Fin k0_t1_loop.trips) (v148 : IVec S16 32) (v171 : IVec S16 32) (k0_hw28 : k0_chk28 k0_t1 v148 v171), ∀ (k0_h1 : k0_cond1 k0_t1 = 1#1), ∀ a x, ((![v148, v171] : Fin 2 → IVec S16 32) a x).toNat < S512x16.size a := fun k0_t1 v148 v171 k0_hw28 k0_h1 => k0_hw28 k0_h1

def k0_chk29 (k0_t1 : Fin k0_t1_loop.trips) (v148 : IVec S16 32) (v173 : IVec S16 32) : Prop :=
  (∀ (k0_h1 : k0_cond1 k0_t1 = 1#1), ∀ a x, ((![v148, v173] : Fin 2 → IVec S16 32) a x).toNat < S512x16.size a)
theorem k0_idx29_inb : ∀ (k0_t1 : Fin k0_t1_loop.trips) (v148 : IVec S16 32) (v173 : IVec S16 32) (k0_hw29 : k0_chk29 k0_t1 v148 v173), ∀ (k0_h1 : k0_cond1 k0_t1 = 1#1), ∀ a x, ((![v148, v173] : Fin 2 → IVec S16 32) a x).toNat < S512x16.size a := fun k0_t1 v148 v173 k0_hw29 k0_h1 => k0_hw29 k0_h1

def k0_chk30 (k0_t1 : Fin k0_t1_loop.trips) (v148 : IVec S16 32) (v175 : IVec S16 32) : Prop :=
  (∀ (k0_h1 : k0_cond1 k0_t1 = 1#1), ∀ a x, ((![v148, v175] : Fin 2 → IVec S16 32) a x).toNat < S512x16.size a)
theorem k0_idx30_inb : ∀ (k0_t1 : Fin k0_t1_loop.trips) (v148 : IVec S16 32) (v175 : IVec S16 32) (k0_hw30 : k0_chk30 k0_t1 v148 v175), ∀ (k0_h1 : k0_cond1 k0_t1 = 1#1), ∀ a x, ((![v148, v175] : Fin 2 → IVec S16 32) a x).toNat < S512x16.size a := fun k0_t1 v148 v175 k0_hw30 k0_h1 => k0_hw30 k0_h1

def k0_chk31 (k0_t1 : Fin k0_t1_loop.trips) (v148 : IVec S16 32) (v177 : IVec S16 32) : Prop :=
  (∀ (k0_h1 : k0_cond1 k0_t1 = 1#1), ∀ a x, ((![v148, v177] : Fin 2 → IVec S16 32) a x).toNat < S512x16.size a)
theorem k0_idx31_inb : ∀ (k0_t1 : Fin k0_t1_loop.trips) (v148 : IVec S16 32) (v177 : IVec S16 32) (k0_hw31 : k0_chk31 k0_t1 v148 v177), ∀ (k0_h1 : k0_cond1 k0_t1 = 1#1), ∀ a x, ((![v148, v177] : Fin 2 → IVec S16 32) a x).toNat < S512x16.size a := fun k0_t1 v148 v177 k0_hw31 k0_h1 => k0_hw31 k0_h1

def k0_chk32 (k0_t1 : Fin k0_t1_loop.trips) (v148 : IVec S16 32) (v179 : IVec S16 32) : Prop :=
  (∀ (k0_h1 : k0_cond1 k0_t1 = 1#1), ∀ a x, ((![v148, v179] : Fin 2 → IVec S16 32) a x).toNat < S512x16.size a)
theorem k0_idx32_inb : ∀ (k0_t1 : Fin k0_t1_loop.trips) (v148 : IVec S16 32) (v179 : IVec S16 32) (k0_hw32 : k0_chk32 k0_t1 v148 v179), ∀ (k0_h1 : k0_cond1 k0_t1 = 1#1), ∀ a x, ((![v148, v179] : Fin 2 → IVec S16 32) a x).toNat < S512x16.size a := fun k0_t1 v148 v179 k0_hw32 k0_h1 => k0_hw32 k0_h1

def k0_chk33 (k0_t1 : Fin k0_t1_loop.trips) (v247 : IVec S16 32) (v248 : IVec S16 32) : Prop :=
  (∀ (k0_h1 : k0_cond1 k0_t1 = 1#1), ∀ a x, ((![v247, v248] : Fin 2 → IVec S16 32) a x).toNat < S512x16.size a)
theorem k0_idx33_inb : ∀ (k0_t1 : Fin k0_t1_loop.trips) (v247 : IVec S16 32) (v248 : IVec S16 32) (k0_hw33 : k0_chk33 k0_t1 v247 v248), ∀ (k0_h1 : k0_cond1 k0_t1 = 1#1), ∀ a x, ((![v247, v248] : Fin 2 → IVec S16 32) a x).toNat < S512x16.size a := fun k0_t1 v247 v248 k0_hw33 k0_h1 => k0_hw33 k0_h1

def k0_chk34 (k0_t1 : Fin k0_t1_loop.trips) (v247 : IVec S16 32) (v250 : IVec S16 32) : Prop :=
  (∀ (k0_h1 : k0_cond1 k0_t1 = 1#1), ∀ a x, ((![v247, v250] : Fin 2 → IVec S16 32) a x).toNat < S512x16.size a)
theorem k0_idx34_inb : ∀ (k0_t1 : Fin k0_t1_loop.trips) (v247 : IVec S16 32) (v250 : IVec S16 32) (k0_hw34 : k0_chk34 k0_t1 v247 v250), ∀ (k0_h1 : k0_cond1 k0_t1 = 1#1), ∀ a x, ((![v247, v250] : Fin 2 → IVec S16 32) a x).toNat < S512x16.size a := fun k0_t1 v247 v250 k0_hw34 k0_h1 => k0_hw34 k0_h1

def k0_chk35 (k0_t1 : Fin k0_t1_loop.trips) (v247 : IVec S16 32) (v252 : IVec S16 32) : Prop :=
  (∀ (k0_h1 : k0_cond1 k0_t1 = 1#1), ∀ a x, ((![v247, v252] : Fin 2 → IVec S16 32) a x).toNat < S512x16.size a)
theorem k0_idx35_inb : ∀ (k0_t1 : Fin k0_t1_loop.trips) (v247 : IVec S16 32) (v252 : IVec S16 32) (k0_hw35 : k0_chk35 k0_t1 v247 v252), ∀ (k0_h1 : k0_cond1 k0_t1 = 1#1), ∀ a x, ((![v247, v252] : Fin 2 → IVec S16 32) a x).toNat < S512x16.size a := fun k0_t1 v247 v252 k0_hw35 k0_h1 => k0_hw35 k0_h1

def k0_chk36 (k0_t1 : Fin k0_t1_loop.trips) (v247 : IVec S16 32) (v254 : IVec S16 32) : Prop :=
  (∀ (k0_h1 : k0_cond1 k0_t1 = 1#1), ∀ a x, ((![v247, v254] : Fin 2 → IVec S16 32) a x).toNat < S512x16.size a)
theorem k0_idx36_inb : ∀ (k0_t1 : Fin k0_t1_loop.trips) (v247 : IVec S16 32) (v254 : IVec S16 32) (k0_hw36 : k0_chk36 k0_t1 v247 v254), ∀ (k0_h1 : k0_cond1 k0_t1 = 1#1), ∀ a x, ((![v247, v254] : Fin 2 → IVec S16 32) a x).toNat < S512x16.size a := fun k0_t1 v247 v254 k0_hw36 k0_h1 => k0_hw36 k0_h1

def k0_chk37 (k0_t1 : Fin k0_t1_loop.trips) (v247 : IVec S16 32) (v256 : IVec S16 32) : Prop :=
  (∀ (k0_h1 : k0_cond1 k0_t1 = 1#1), ∀ a x, ((![v247, v256] : Fin 2 → IVec S16 32) a x).toNat < S512x16.size a)
theorem k0_idx37_inb : ∀ (k0_t1 : Fin k0_t1_loop.trips) (v247 : IVec S16 32) (v256 : IVec S16 32) (k0_hw37 : k0_chk37 k0_t1 v247 v256), ∀ (k0_h1 : k0_cond1 k0_t1 = 1#1), ∀ a x, ((![v247, v256] : Fin 2 → IVec S16 32) a x).toNat < S512x16.size a := fun k0_t1 v247 v256 k0_hw37 k0_h1 => k0_hw37 k0_h1

def k0_chk38 (k0_t1 : Fin k0_t1_loop.trips) (v247 : IVec S16 32) (v258 : IVec S16 32) : Prop :=
  (∀ (k0_h1 : k0_cond1 k0_t1 = 1#1), ∀ a x, ((![v247, v258] : Fin 2 → IVec S16 32) a x).toNat < S512x16.size a)
theorem k0_idx38_inb : ∀ (k0_t1 : Fin k0_t1_loop.trips) (v247 : IVec S16 32) (v258 : IVec S16 32) (k0_hw38 : k0_chk38 k0_t1 v247 v258), ∀ (k0_h1 : k0_cond1 k0_t1 = 1#1), ∀ a x, ((![v247, v258] : Fin 2 → IVec S16 32) a x).toNat < S512x16.size a := fun k0_t1 v247 v258 k0_hw38 k0_h1 => k0_hw38 k0_h1

def k0_chk39 (k0_t1 : Fin k0_t1_loop.trips) (v247 : IVec S16 32) (v260 : IVec S16 32) : Prop :=
  (∀ (k0_h1 : k0_cond1 k0_t1 = 1#1), ∀ a x, ((![v247, v260] : Fin 2 → IVec S16 32) a x).toNat < S512x16.size a)
theorem k0_idx39_inb : ∀ (k0_t1 : Fin k0_t1_loop.trips) (v247 : IVec S16 32) (v260 : IVec S16 32) (k0_hw39 : k0_chk39 k0_t1 v247 v260), ∀ (k0_h1 : k0_cond1 k0_t1 = 1#1), ∀ a x, ((![v247, v260] : Fin 2 → IVec S16 32) a x).toNat < S512x16.size a := fun k0_t1 v247 v260 k0_hw39 k0_h1 => k0_hw39 k0_h1

def k0_chk40 (k0_t1 : Fin k0_t1_loop.trips) (v247 : IVec S16 32) (v262 : IVec S16 32) : Prop :=
  (∀ (k0_h1 : k0_cond1 k0_t1 = 1#1), ∀ a x, ((![v247, v262] : Fin 2 → IVec S16 32) a x).toNat < S512x16.size a)
theorem k0_idx40_inb : ∀ (k0_t1 : Fin k0_t1_loop.trips) (v247 : IVec S16 32) (v262 : IVec S16 32) (k0_hw40 : k0_chk40 k0_t1 v247 v262), ∀ (k0_h1 : k0_cond1 k0_t1 = 1#1), ∀ a x, ((![v247, v262] : Fin 2 → IVec S16 32) a x).toNat < S512x16.size a := fun k0_t1 v247 v262 k0_hw40 k0_h1 => k0_hw40 k0_h1

def k0_chk41 (k0_t1 : Fin k0_t1_loop.trips) (v247 : IVec S16 32) (v264 : IVec S16 32) : Prop :=
  (∀ (k0_h1 : k0_cond1 k0_t1 = 1#1), ∀ a x, ((![v247, v264] : Fin 2 → IVec S16 32) a x).toNat < S512x16.size a)
theorem k0_idx41_inb : ∀ (k0_t1 : Fin k0_t1_loop.trips) (v247 : IVec S16 32) (v264 : IVec S16 32) (k0_hw41 : k0_chk41 k0_t1 v247 v264), ∀ (k0_h1 : k0_cond1 k0_t1 = 1#1), ∀ a x, ((![v247, v264] : Fin 2 → IVec S16 32) a x).toNat < S512x16.size a := fun k0_t1 v247 v264 k0_hw41 k0_h1 => k0_hw41 k0_h1

def k0_chk42 (k0_t1 : Fin k0_t1_loop.trips) (v247 : IVec S16 32) (v266 : IVec S16 32) : Prop :=
  (∀ (k0_h1 : k0_cond1 k0_t1 = 1#1), ∀ a x, ((![v247, v266] : Fin 2 → IVec S16 32) a x).toNat < S512x16.size a)
theorem k0_idx42_inb : ∀ (k0_t1 : Fin k0_t1_loop.trips) (v247 : IVec S16 32) (v266 : IVec S16 32) (k0_hw42 : k0_chk42 k0_t1 v247 v266), ∀ (k0_h1 : k0_cond1 k0_t1 = 1#1), ∀ a x, ((![v247, v266] : Fin 2 → IVec S16 32) a x).toNat < S512x16.size a := fun k0_t1 v247 v266 k0_hw42 k0_h1 => k0_hw42 k0_h1

def k0_chk43 (k0_t1 : Fin k0_t1_loop.trips) (v247 : IVec S16 32) (v268 : IVec S16 32) : Prop :=
  (∀ (k0_h1 : k0_cond1 k0_t1 = 1#1), ∀ a x, ((![v247, v268] : Fin 2 → IVec S16 32) a x).toNat < S512x16.size a)
theorem k0_idx43_inb : ∀ (k0_t1 : Fin k0_t1_loop.trips) (v247 : IVec S16 32) (v268 : IVec S16 32) (k0_hw43 : k0_chk43 k0_t1 v247 v268), ∀ (k0_h1 : k0_cond1 k0_t1 = 1#1), ∀ a x, ((![v247, v268] : Fin 2 → IVec S16 32) a x).toNat < S512x16.size a := fun k0_t1 v247 v268 k0_hw43 k0_h1 => k0_hw43 k0_h1

def k0_chk44 (k0_t1 : Fin k0_t1_loop.trips) (v247 : IVec S16 32) (v270 : IVec S16 32) : Prop :=
  (∀ (k0_h1 : k0_cond1 k0_t1 = 1#1), ∀ a x, ((![v247, v270] : Fin 2 → IVec S16 32) a x).toNat < S512x16.size a)
theorem k0_idx44_inb : ∀ (k0_t1 : Fin k0_t1_loop.trips) (v247 : IVec S16 32) (v270 : IVec S16 32) (k0_hw44 : k0_chk44 k0_t1 v247 v270), ∀ (k0_h1 : k0_cond1 k0_t1 = 1#1), ∀ a x, ((![v247, v270] : Fin 2 → IVec S16 32) a x).toNat < S512x16.size a := fun k0_t1 v247 v270 k0_hw44 k0_h1 => k0_hw44 k0_h1

def k0_chk45 (k0_t1 : Fin k0_t1_loop.trips) (v247 : IVec S16 32) (v272 : IVec S16 32) : Prop :=
  (∀ (k0_h1 : k0_cond1 k0_t1 = 1#1), ∀ a x, ((![v247, v272] : Fin 2 → IVec S16 32) a x).toNat < S512x16.size a)
theorem k0_idx45_inb : ∀ (k0_t1 : Fin k0_t1_loop.trips) (v247 : IVec S16 32) (v272 : IVec S16 32) (k0_hw45 : k0_chk45 k0_t1 v247 v272), ∀ (k0_h1 : k0_cond1 k0_t1 = 1#1), ∀ a x, ((![v247, v272] : Fin 2 → IVec S16 32) a x).toNat < S512x16.size a := fun k0_t1 v247 v272 k0_hw45 k0_h1 => k0_hw45 k0_h1

def k0_chk46 (k0_t1 : Fin k0_t1_loop.trips) (v247 : IVec S16 32) (v274 : IVec S16 32) : Prop :=
  (∀ (k0_h1 : k0_cond1 k0_t1 = 1#1), ∀ a x, ((![v247, v274] : Fin 2 → IVec S16 32) a x).toNat < S512x16.size a)
theorem k0_idx46_inb : ∀ (k0_t1 : Fin k0_t1_loop.trips) (v247 : IVec S16 32) (v274 : IVec S16 32) (k0_hw46 : k0_chk46 k0_t1 v247 v274), ∀ (k0_h1 : k0_cond1 k0_t1 = 1#1), ∀ a x, ((![v247, v274] : Fin 2 → IVec S16 32) a x).toNat < S512x16.size a := fun k0_t1 v247 v274 k0_hw46 k0_h1 => k0_hw46 k0_h1

def k0_chk47 (k0_t1 : Fin k0_t1_loop.trips) (v247 : IVec S16 32) (v276 : IVec S16 32) : Prop :=
  (∀ (k0_h1 : k0_cond1 k0_t1 = 1#1), ∀ a x, ((![v247, v276] : Fin 2 → IVec S16 32) a x).toNat < S512x16.size a)
theorem k0_idx47_inb : ∀ (k0_t1 : Fin k0_t1_loop.trips) (v247 : IVec S16 32) (v276 : IVec S16 32) (k0_hw47 : k0_chk47 k0_t1 v247 v276), ∀ (k0_h1 : k0_cond1 k0_t1 = 1#1), ∀ a x, ((![v247, v276] : Fin 2 → IVec S16 32) a x).toNat < S512x16.size a := fun k0_t1 v247 v276 k0_hw47 k0_h1 => k0_hw47 k0_h1

def k0_chk48 (k0_t1 : Fin k0_t1_loop.trips) (v247 : IVec S16 32) (v278 : IVec S16 32) : Prop :=
  (∀ (k0_h1 : k0_cond1 k0_t1 = 1#1), ∀ a x, ((![v247, v278] : Fin 2 → IVec S16 32) a x).toNat < S512x16.size a)
theorem k0_idx48_inb : ∀ (k0_t1 : Fin k0_t1_loop.trips) (v247 : IVec S16 32) (v278 : IVec S16 32) (k0_hw48 : k0_chk48 k0_t1 v247 v278), ∀ (k0_h1 : k0_cond1 k0_t1 = 1#1), ∀ a x, ((![v247, v278] : Fin 2 → IVec S16 32) a x).toNat < S512x16.size a := fun k0_t1 v247 v278 k0_hw48 k0_h1 => k0_hw48 k0_h1

def k0_chk49 (k0_t1 : Fin k0_t1_loop.trips) (v346 : IVec S16 32) (v347 : IVec S16 32) : Prop :=
  (∀ (k0_h1 : k0_cond1 k0_t1 = 1#1), ∀ a x, ((![v346, v347] : Fin 2 → IVec S16 32) a x).toNat < S512x16.size a)
theorem k0_idx49_inb : ∀ (k0_t1 : Fin k0_t1_loop.trips) (v346 : IVec S16 32) (v347 : IVec S16 32) (k0_hw49 : k0_chk49 k0_t1 v346 v347), ∀ (k0_h1 : k0_cond1 k0_t1 = 1#1), ∀ a x, ((![v346, v347] : Fin 2 → IVec S16 32) a x).toNat < S512x16.size a := fun k0_t1 v346 v347 k0_hw49 k0_h1 => k0_hw49 k0_h1

def k0_chk50 (k0_t1 : Fin k0_t1_loop.trips) (v346 : IVec S16 32) (v349 : IVec S16 32) : Prop :=
  (∀ (k0_h1 : k0_cond1 k0_t1 = 1#1), ∀ a x, ((![v346, v349] : Fin 2 → IVec S16 32) a x).toNat < S512x16.size a)
theorem k0_idx50_inb : ∀ (k0_t1 : Fin k0_t1_loop.trips) (v346 : IVec S16 32) (v349 : IVec S16 32) (k0_hw50 : k0_chk50 k0_t1 v346 v349), ∀ (k0_h1 : k0_cond1 k0_t1 = 1#1), ∀ a x, ((![v346, v349] : Fin 2 → IVec S16 32) a x).toNat < S512x16.size a := fun k0_t1 v346 v349 k0_hw50 k0_h1 => k0_hw50 k0_h1

def k0_chk51 (k0_t1 : Fin k0_t1_loop.trips) (v346 : IVec S16 32) (v351 : IVec S16 32) : Prop :=
  (∀ (k0_h1 : k0_cond1 k0_t1 = 1#1), ∀ a x, ((![v346, v351] : Fin 2 → IVec S16 32) a x).toNat < S512x16.size a)
theorem k0_idx51_inb : ∀ (k0_t1 : Fin k0_t1_loop.trips) (v346 : IVec S16 32) (v351 : IVec S16 32) (k0_hw51 : k0_chk51 k0_t1 v346 v351), ∀ (k0_h1 : k0_cond1 k0_t1 = 1#1), ∀ a x, ((![v346, v351] : Fin 2 → IVec S16 32) a x).toNat < S512x16.size a := fun k0_t1 v346 v351 k0_hw51 k0_h1 => k0_hw51 k0_h1

def k0_chk52 (k0_t1 : Fin k0_t1_loop.trips) (v346 : IVec S16 32) (v353 : IVec S16 32) : Prop :=
  (∀ (k0_h1 : k0_cond1 k0_t1 = 1#1), ∀ a x, ((![v346, v353] : Fin 2 → IVec S16 32) a x).toNat < S512x16.size a)
theorem k0_idx52_inb : ∀ (k0_t1 : Fin k0_t1_loop.trips) (v346 : IVec S16 32) (v353 : IVec S16 32) (k0_hw52 : k0_chk52 k0_t1 v346 v353), ∀ (k0_h1 : k0_cond1 k0_t1 = 1#1), ∀ a x, ((![v346, v353] : Fin 2 → IVec S16 32) a x).toNat < S512x16.size a := fun k0_t1 v346 v353 k0_hw52 k0_h1 => k0_hw52 k0_h1

def k0_chk53 (k0_t1 : Fin k0_t1_loop.trips) (v346 : IVec S16 32) (v355 : IVec S16 32) : Prop :=
  (∀ (k0_h1 : k0_cond1 k0_t1 = 1#1), ∀ a x, ((![v346, v355] : Fin 2 → IVec S16 32) a x).toNat < S512x16.size a)
theorem k0_idx53_inb : ∀ (k0_t1 : Fin k0_t1_loop.trips) (v346 : IVec S16 32) (v355 : IVec S16 32) (k0_hw53 : k0_chk53 k0_t1 v346 v355), ∀ (k0_h1 : k0_cond1 k0_t1 = 1#1), ∀ a x, ((![v346, v355] : Fin 2 → IVec S16 32) a x).toNat < S512x16.size a := fun k0_t1 v346 v355 k0_hw53 k0_h1 => k0_hw53 k0_h1

def k0_chk54 (k0_t1 : Fin k0_t1_loop.trips) (v346 : IVec S16 32) (v357 : IVec S16 32) : Prop :=
  (∀ (k0_h1 : k0_cond1 k0_t1 = 1#1), ∀ a x, ((![v346, v357] : Fin 2 → IVec S16 32) a x).toNat < S512x16.size a)
theorem k0_idx54_inb : ∀ (k0_t1 : Fin k0_t1_loop.trips) (v346 : IVec S16 32) (v357 : IVec S16 32) (k0_hw54 : k0_chk54 k0_t1 v346 v357), ∀ (k0_h1 : k0_cond1 k0_t1 = 1#1), ∀ a x, ((![v346, v357] : Fin 2 → IVec S16 32) a x).toNat < S512x16.size a := fun k0_t1 v346 v357 k0_hw54 k0_h1 => k0_hw54 k0_h1

def k0_chk55 (k0_t1 : Fin k0_t1_loop.trips) (v346 : IVec S16 32) (v359 : IVec S16 32) : Prop :=
  (∀ (k0_h1 : k0_cond1 k0_t1 = 1#1), ∀ a x, ((![v346, v359] : Fin 2 → IVec S16 32) a x).toNat < S512x16.size a)
theorem k0_idx55_inb : ∀ (k0_t1 : Fin k0_t1_loop.trips) (v346 : IVec S16 32) (v359 : IVec S16 32) (k0_hw55 : k0_chk55 k0_t1 v346 v359), ∀ (k0_h1 : k0_cond1 k0_t1 = 1#1), ∀ a x, ((![v346, v359] : Fin 2 → IVec S16 32) a x).toNat < S512x16.size a := fun k0_t1 v346 v359 k0_hw55 k0_h1 => k0_hw55 k0_h1

def k0_chk56 (k0_t1 : Fin k0_t1_loop.trips) (v346 : IVec S16 32) (v361 : IVec S16 32) : Prop :=
  (∀ (k0_h1 : k0_cond1 k0_t1 = 1#1), ∀ a x, ((![v346, v361] : Fin 2 → IVec S16 32) a x).toNat < S512x16.size a)
theorem k0_idx56_inb : ∀ (k0_t1 : Fin k0_t1_loop.trips) (v346 : IVec S16 32) (v361 : IVec S16 32) (k0_hw56 : k0_chk56 k0_t1 v346 v361), ∀ (k0_h1 : k0_cond1 k0_t1 = 1#1), ∀ a x, ((![v346, v361] : Fin 2 → IVec S16 32) a x).toNat < S512x16.size a := fun k0_t1 v346 v361 k0_hw56 k0_h1 => k0_hw56 k0_h1

def k0_chk57 (k0_t1 : Fin k0_t1_loop.trips) (v346 : IVec S16 32) (v363 : IVec S16 32) : Prop :=
  (∀ (k0_h1 : k0_cond1 k0_t1 = 1#1), ∀ a x, ((![v346, v363] : Fin 2 → IVec S16 32) a x).toNat < S512x16.size a)
theorem k0_idx57_inb : ∀ (k0_t1 : Fin k0_t1_loop.trips) (v346 : IVec S16 32) (v363 : IVec S16 32) (k0_hw57 : k0_chk57 k0_t1 v346 v363), ∀ (k0_h1 : k0_cond1 k0_t1 = 1#1), ∀ a x, ((![v346, v363] : Fin 2 → IVec S16 32) a x).toNat < S512x16.size a := fun k0_t1 v346 v363 k0_hw57 k0_h1 => k0_hw57 k0_h1

def k0_chk58 (k0_t1 : Fin k0_t1_loop.trips) (v346 : IVec S16 32) (v365 : IVec S16 32) : Prop :=
  (∀ (k0_h1 : k0_cond1 k0_t1 = 1#1), ∀ a x, ((![v346, v365] : Fin 2 → IVec S16 32) a x).toNat < S512x16.size a)
theorem k0_idx58_inb : ∀ (k0_t1 : Fin k0_t1_loop.trips) (v346 : IVec S16 32) (v365 : IVec S16 32) (k0_hw58 : k0_chk58 k0_t1 v346 v365), ∀ (k0_h1 : k0_cond1 k0_t1 = 1#1), ∀ a x, ((![v346, v365] : Fin 2 → IVec S16 32) a x).toNat < S512x16.size a := fun k0_t1 v346 v365 k0_hw58 k0_h1 => k0_hw58 k0_h1

def k0_chk59 (k0_t1 : Fin k0_t1_loop.trips) (v346 : IVec S16 32) (v367 : IVec S16 32) : Prop :=
  (∀ (k0_h1 : k0_cond1 k0_t1 = 1#1), ∀ a x, ((![v346, v367] : Fin 2 → IVec S16 32) a x).toNat < S512x16.size a)
theorem k0_idx59_inb : ∀ (k0_t1 : Fin k0_t1_loop.trips) (v346 : IVec S16 32) (v367 : IVec S16 32) (k0_hw59 : k0_chk59 k0_t1 v346 v367), ∀ (k0_h1 : k0_cond1 k0_t1 = 1#1), ∀ a x, ((![v346, v367] : Fin 2 → IVec S16 32) a x).toNat < S512x16.size a := fun k0_t1 v346 v367 k0_hw59 k0_h1 => k0_hw59 k0_h1

def k0_chk60 (k0_t1 : Fin k0_t1_loop.trips) (v346 : IVec S16 32) (v369 : IVec S16 32) : Prop :=
  (∀ (k0_h1 : k0_cond1 k0_t1 = 1#1), ∀ a x, ((![v346, v369] : Fin 2 → IVec S16 32) a x).toNat < S512x16.size a)
theorem k0_idx60_inb : ∀ (k0_t1 : Fin k0_t1_loop.trips) (v346 : IVec S16 32) (v369 : IVec S16 32) (k0_hw60 : k0_chk60 k0_t1 v346 v369), ∀ (k0_h1 : k0_cond1 k0_t1 = 1#1), ∀ a x, ((![v346, v369] : Fin 2 → IVec S16 32) a x).toNat < S512x16.size a := fun k0_t1 v346 v369 k0_hw60 k0_h1 => k0_hw60 k0_h1

def k0_chk61 (k0_t1 : Fin k0_t1_loop.trips) (v346 : IVec S16 32) (v371 : IVec S16 32) : Prop :=
  (∀ (k0_h1 : k0_cond1 k0_t1 = 1#1), ∀ a x, ((![v346, v371] : Fin 2 → IVec S16 32) a x).toNat < S512x16.size a)
theorem k0_idx61_inb : ∀ (k0_t1 : Fin k0_t1_loop.trips) (v346 : IVec S16 32) (v371 : IVec S16 32) (k0_hw61 : k0_chk61 k0_t1 v346 v371), ∀ (k0_h1 : k0_cond1 k0_t1 = 1#1), ∀ a x, ((![v346, v371] : Fin 2 → IVec S16 32) a x).toNat < S512x16.size a := fun k0_t1 v346 v371 k0_hw61 k0_h1 => k0_hw61 k0_h1

def k0_chk62 (k0_t1 : Fin k0_t1_loop.trips) (v346 : IVec S16 32) (v373 : IVec S16 32) : Prop :=
  (∀ (k0_h1 : k0_cond1 k0_t1 = 1#1), ∀ a x, ((![v346, v373] : Fin 2 → IVec S16 32) a x).toNat < S512x16.size a)
theorem k0_idx62_inb : ∀ (k0_t1 : Fin k0_t1_loop.trips) (v346 : IVec S16 32) (v373 : IVec S16 32) (k0_hw62 : k0_chk62 k0_t1 v346 v373), ∀ (k0_h1 : k0_cond1 k0_t1 = 1#1), ∀ a x, ((![v346, v373] : Fin 2 → IVec S16 32) a x).toNat < S512x16.size a := fun k0_t1 v346 v373 k0_hw62 k0_h1 => k0_hw62 k0_h1

def k0_chk63 (k0_t1 : Fin k0_t1_loop.trips) (v346 : IVec S16 32) (v375 : IVec S16 32) : Prop :=
  (∀ (k0_h1 : k0_cond1 k0_t1 = 1#1), ∀ a x, ((![v346, v375] : Fin 2 → IVec S16 32) a x).toNat < S512x16.size a)
theorem k0_idx63_inb : ∀ (k0_t1 : Fin k0_t1_loop.trips) (v346 : IVec S16 32) (v375 : IVec S16 32) (k0_hw63 : k0_chk63 k0_t1 v346 v375), ∀ (k0_h1 : k0_cond1 k0_t1 = 1#1), ∀ a x, ((![v346, v375] : Fin 2 → IVec S16 32) a x).toNat < S512x16.size a := fun k0_t1 v346 v375 k0_hw63 k0_h1 => k0_hw63 k0_h1

def k0_chk64 (k0_t1 : Fin k0_t1_loop.trips) (v346 : IVec S16 32) (v377 : IVec S16 32) : Prop :=
  (∀ (k0_h1 : k0_cond1 k0_t1 = 1#1), ∀ a x, ((![v346, v377] : Fin 2 → IVec S16 32) a x).toNat < S512x16.size a)
theorem k0_idx64_inb : ∀ (k0_t1 : Fin k0_t1_loop.trips) (v346 : IVec S16 32) (v377 : IVec S16 32) (k0_hw64 : k0_chk64 k0_t1 v346 v377), ∀ (k0_h1 : k0_cond1 k0_t1 = 1#1), ∀ a x, ((![v346, v377] : Fin 2 → IVec S16 32) a x).toNat < S512x16.size a := fun k0_t1 v346 v377 k0_hw64 k0_h1 => k0_hw64 k0_h1

def k0_chk65 (k0_t1 : Fin k0_t1_loop.trips) (v445 : IVec S16 32) (v446 : IVec S16 32) : Prop :=
  (∀ (k0_h1 : k0_cond1 k0_t1 = 1#1), ∀ a x, ((![v445, v446] : Fin 2 → IVec S16 32) a x).toNat < S512x16.size a)
theorem k0_idx65_inb : ∀ (k0_t1 : Fin k0_t1_loop.trips) (v445 : IVec S16 32) (v446 : IVec S16 32) (k0_hw65 : k0_chk65 k0_t1 v445 v446), ∀ (k0_h1 : k0_cond1 k0_t1 = 1#1), ∀ a x, ((![v445, v446] : Fin 2 → IVec S16 32) a x).toNat < S512x16.size a := fun k0_t1 v445 v446 k0_hw65 k0_h1 => k0_hw65 k0_h1

def k0_chk66 (k0_t1 : Fin k0_t1_loop.trips) (v445 : IVec S16 32) (v448 : IVec S16 32) : Prop :=
  (∀ (k0_h1 : k0_cond1 k0_t1 = 1#1), ∀ a x, ((![v445, v448] : Fin 2 → IVec S16 32) a x).toNat < S512x16.size a)
theorem k0_idx66_inb : ∀ (k0_t1 : Fin k0_t1_loop.trips) (v445 : IVec S16 32) (v448 : IVec S16 32) (k0_hw66 : k0_chk66 k0_t1 v445 v448), ∀ (k0_h1 : k0_cond1 k0_t1 = 1#1), ∀ a x, ((![v445, v448] : Fin 2 → IVec S16 32) a x).toNat < S512x16.size a := fun k0_t1 v445 v448 k0_hw66 k0_h1 => k0_hw66 k0_h1

def k0_chk67 (k0_t1 : Fin k0_t1_loop.trips) (v445 : IVec S16 32) (v450 : IVec S16 32) : Prop :=
  (∀ (k0_h1 : k0_cond1 k0_t1 = 1#1), ∀ a x, ((![v445, v450] : Fin 2 → IVec S16 32) a x).toNat < S512x16.size a)
theorem k0_idx67_inb : ∀ (k0_t1 : Fin k0_t1_loop.trips) (v445 : IVec S16 32) (v450 : IVec S16 32) (k0_hw67 : k0_chk67 k0_t1 v445 v450), ∀ (k0_h1 : k0_cond1 k0_t1 = 1#1), ∀ a x, ((![v445, v450] : Fin 2 → IVec S16 32) a x).toNat < S512x16.size a := fun k0_t1 v445 v450 k0_hw67 k0_h1 => k0_hw67 k0_h1

def k0_chk68 (k0_t1 : Fin k0_t1_loop.trips) (v445 : IVec S16 32) (v452 : IVec S16 32) : Prop :=
  (∀ (k0_h1 : k0_cond1 k0_t1 = 1#1), ∀ a x, ((![v445, v452] : Fin 2 → IVec S16 32) a x).toNat < S512x16.size a)
theorem k0_idx68_inb : ∀ (k0_t1 : Fin k0_t1_loop.trips) (v445 : IVec S16 32) (v452 : IVec S16 32) (k0_hw68 : k0_chk68 k0_t1 v445 v452), ∀ (k0_h1 : k0_cond1 k0_t1 = 1#1), ∀ a x, ((![v445, v452] : Fin 2 → IVec S16 32) a x).toNat < S512x16.size a := fun k0_t1 v445 v452 k0_hw68 k0_h1 => k0_hw68 k0_h1

def k0_chk69 (k0_t1 : Fin k0_t1_loop.trips) (v445 : IVec S16 32) (v454 : IVec S16 32) : Prop :=
  (∀ (k0_h1 : k0_cond1 k0_t1 = 1#1), ∀ a x, ((![v445, v454] : Fin 2 → IVec S16 32) a x).toNat < S512x16.size a)
theorem k0_idx69_inb : ∀ (k0_t1 : Fin k0_t1_loop.trips) (v445 : IVec S16 32) (v454 : IVec S16 32) (k0_hw69 : k0_chk69 k0_t1 v445 v454), ∀ (k0_h1 : k0_cond1 k0_t1 = 1#1), ∀ a x, ((![v445, v454] : Fin 2 → IVec S16 32) a x).toNat < S512x16.size a := fun k0_t1 v445 v454 k0_hw69 k0_h1 => k0_hw69 k0_h1

def k0_chk70 (k0_t1 : Fin k0_t1_loop.trips) (v445 : IVec S16 32) (v456 : IVec S16 32) : Prop :=
  (∀ (k0_h1 : k0_cond1 k0_t1 = 1#1), ∀ a x, ((![v445, v456] : Fin 2 → IVec S16 32) a x).toNat < S512x16.size a)
theorem k0_idx70_inb : ∀ (k0_t1 : Fin k0_t1_loop.trips) (v445 : IVec S16 32) (v456 : IVec S16 32) (k0_hw70 : k0_chk70 k0_t1 v445 v456), ∀ (k0_h1 : k0_cond1 k0_t1 = 1#1), ∀ a x, ((![v445, v456] : Fin 2 → IVec S16 32) a x).toNat < S512x16.size a := fun k0_t1 v445 v456 k0_hw70 k0_h1 => k0_hw70 k0_h1

def k0_chk71 (k0_t1 : Fin k0_t1_loop.trips) (v445 : IVec S16 32) (v458 : IVec S16 32) : Prop :=
  (∀ (k0_h1 : k0_cond1 k0_t1 = 1#1), ∀ a x, ((![v445, v458] : Fin 2 → IVec S16 32) a x).toNat < S512x16.size a)
theorem k0_idx71_inb : ∀ (k0_t1 : Fin k0_t1_loop.trips) (v445 : IVec S16 32) (v458 : IVec S16 32) (k0_hw71 : k0_chk71 k0_t1 v445 v458), ∀ (k0_h1 : k0_cond1 k0_t1 = 1#1), ∀ a x, ((![v445, v458] : Fin 2 → IVec S16 32) a x).toNat < S512x16.size a := fun k0_t1 v445 v458 k0_hw71 k0_h1 => k0_hw71 k0_h1

def k0_chk72 (k0_t1 : Fin k0_t1_loop.trips) (v445 : IVec S16 32) (v460 : IVec S16 32) : Prop :=
  (∀ (k0_h1 : k0_cond1 k0_t1 = 1#1), ∀ a x, ((![v445, v460] : Fin 2 → IVec S16 32) a x).toNat < S512x16.size a)
theorem k0_idx72_inb : ∀ (k0_t1 : Fin k0_t1_loop.trips) (v445 : IVec S16 32) (v460 : IVec S16 32) (k0_hw72 : k0_chk72 k0_t1 v445 v460), ∀ (k0_h1 : k0_cond1 k0_t1 = 1#1), ∀ a x, ((![v445, v460] : Fin 2 → IVec S16 32) a x).toNat < S512x16.size a := fun k0_t1 v445 v460 k0_hw72 k0_h1 => k0_hw72 k0_h1

def k0_chk73 (k0_t1 : Fin k0_t1_loop.trips) (v445 : IVec S16 32) (v462 : IVec S16 32) : Prop :=
  (∀ (k0_h1 : k0_cond1 k0_t1 = 1#1), ∀ a x, ((![v445, v462] : Fin 2 → IVec S16 32) a x).toNat < S512x16.size a)
theorem k0_idx73_inb : ∀ (k0_t1 : Fin k0_t1_loop.trips) (v445 : IVec S16 32) (v462 : IVec S16 32) (k0_hw73 : k0_chk73 k0_t1 v445 v462), ∀ (k0_h1 : k0_cond1 k0_t1 = 1#1), ∀ a x, ((![v445, v462] : Fin 2 → IVec S16 32) a x).toNat < S512x16.size a := fun k0_t1 v445 v462 k0_hw73 k0_h1 => k0_hw73 k0_h1

def k0_chk74 (k0_t1 : Fin k0_t1_loop.trips) (v445 : IVec S16 32) (v464 : IVec S16 32) : Prop :=
  (∀ (k0_h1 : k0_cond1 k0_t1 = 1#1), ∀ a x, ((![v445, v464] : Fin 2 → IVec S16 32) a x).toNat < S512x16.size a)
theorem k0_idx74_inb : ∀ (k0_t1 : Fin k0_t1_loop.trips) (v445 : IVec S16 32) (v464 : IVec S16 32) (k0_hw74 : k0_chk74 k0_t1 v445 v464), ∀ (k0_h1 : k0_cond1 k0_t1 = 1#1), ∀ a x, ((![v445, v464] : Fin 2 → IVec S16 32) a x).toNat < S512x16.size a := fun k0_t1 v445 v464 k0_hw74 k0_h1 => k0_hw74 k0_h1

def k0_chk75 (k0_t1 : Fin k0_t1_loop.trips) (v445 : IVec S16 32) (v466 : IVec S16 32) : Prop :=
  (∀ (k0_h1 : k0_cond1 k0_t1 = 1#1), ∀ a x, ((![v445, v466] : Fin 2 → IVec S16 32) a x).toNat < S512x16.size a)
theorem k0_idx75_inb : ∀ (k0_t1 : Fin k0_t1_loop.trips) (v445 : IVec S16 32) (v466 : IVec S16 32) (k0_hw75 : k0_chk75 k0_t1 v445 v466), ∀ (k0_h1 : k0_cond1 k0_t1 = 1#1), ∀ a x, ((![v445, v466] : Fin 2 → IVec S16 32) a x).toNat < S512x16.size a := fun k0_t1 v445 v466 k0_hw75 k0_h1 => k0_hw75 k0_h1

def k0_chk76 (k0_t1 : Fin k0_t1_loop.trips) (v445 : IVec S16 32) (v468 : IVec S16 32) : Prop :=
  (∀ (k0_h1 : k0_cond1 k0_t1 = 1#1), ∀ a x, ((![v445, v468] : Fin 2 → IVec S16 32) a x).toNat < S512x16.size a)
theorem k0_idx76_inb : ∀ (k0_t1 : Fin k0_t1_loop.trips) (v445 : IVec S16 32) (v468 : IVec S16 32) (k0_hw76 : k0_chk76 k0_t1 v445 v468), ∀ (k0_h1 : k0_cond1 k0_t1 = 1#1), ∀ a x, ((![v445, v468] : Fin 2 → IVec S16 32) a x).toNat < S512x16.size a := fun k0_t1 v445 v468 k0_hw76 k0_h1 => k0_hw76 k0_h1

def k0_chk77 (k0_t1 : Fin k0_t1_loop.trips) (v445 : IVec S16 32) (v470 : IVec S16 32) : Prop :=
  (∀ (k0_h1 : k0_cond1 k0_t1 = 1#1), ∀ a x, ((![v445, v470] : Fin 2 → IVec S16 32) a x).toNat < S512x16.size a)
theorem k0_idx77_inb : ∀ (k0_t1 : Fin k0_t1_loop.trips) (v445 : IVec S16 32) (v470 : IVec S16 32) (k0_hw77 : k0_chk77 k0_t1 v445 v470), ∀ (k0_h1 : k0_cond1 k0_t1 = 1#1), ∀ a x, ((![v445, v470] : Fin 2 → IVec S16 32) a x).toNat < S512x16.size a := fun k0_t1 v445 v470 k0_hw77 k0_h1 => k0_hw77 k0_h1

def k0_chk78 (k0_t1 : Fin k0_t1_loop.trips) (v445 : IVec S16 32) (v472 : IVec S16 32) : Prop :=
  (∀ (k0_h1 : k0_cond1 k0_t1 = 1#1), ∀ a x, ((![v445, v472] : Fin 2 → IVec S16 32) a x).toNat < S512x16.size a)
theorem k0_idx78_inb : ∀ (k0_t1 : Fin k0_t1_loop.trips) (v445 : IVec S16 32) (v472 : IVec S16 32) (k0_hw78 : k0_chk78 k0_t1 v445 v472), ∀ (k0_h1 : k0_cond1 k0_t1 = 1#1), ∀ a x, ((![v445, v472] : Fin 2 → IVec S16 32) a x).toNat < S512x16.size a := fun k0_t1 v445 v472 k0_hw78 k0_h1 => k0_hw78 k0_h1

def k0_chk79 (k0_t1 : Fin k0_t1_loop.trips) (v445 : IVec S16 32) (v474 : IVec S16 32) : Prop :=
  (∀ (k0_h1 : k0_cond1 k0_t1 = 1#1), ∀ a x, ((![v445, v474] : Fin 2 → IVec S16 32) a x).toNat < S512x16.size a)
theorem k0_idx79_inb : ∀ (k0_t1 : Fin k0_t1_loop.trips) (v445 : IVec S16 32) (v474 : IVec S16 32) (k0_hw79 : k0_chk79 k0_t1 v445 v474), ∀ (k0_h1 : k0_cond1 k0_t1 = 1#1), ∀ a x, ((![v445, v474] : Fin 2 → IVec S16 32) a x).toNat < S512x16.size a := fun k0_t1 v445 v474 k0_hw79 k0_h1 => k0_hw79 k0_h1

def k0_chk80 (k0_t1 : Fin k0_t1_loop.trips) (v445 : IVec S16 32) (v476 : IVec S16 32) : Prop :=
  (∀ (k0_h1 : k0_cond1 k0_t1 = 1#1), ∀ a x, ((![v445, v476] : Fin 2 → IVec S16 32) a x).toNat < S512x16.size a)
theorem k0_idx80_inb : ∀ (k0_t1 : Fin k0_t1_loop.trips) (v445 : IVec S16 32) (v476 : IVec S16 32) (k0_hw80 : k0_chk80 k0_t1 v445 v476), ∀ (k0_h1 : k0_cond1 k0_t1 = 1#1), ∀ a x, ((![v445, v476] : Fin 2 → IVec S16 32) a x).toNat < S512x16.size a := fun k0_t1 v445 v476 k0_hw80 k0_h1 => k0_hw80 k0_h1

def k0_chk81 (k0_t1 : Fin k0_t1_loop.trips) (v544 : IVec S16 32) (v545 : IVec S16 32) : Prop :=
  (∀ (k0_h1 : k0_cond1 k0_t1 = 1#1), ∀ a x, ((![v544, v545] : Fin 2 → IVec S16 32) a x).toNat < S512x16.size a)
theorem k0_idx81_inb : ∀ (k0_t1 : Fin k0_t1_loop.trips) (v544 : IVec S16 32) (v545 : IVec S16 32) (k0_hw81 : k0_chk81 k0_t1 v544 v545), ∀ (k0_h1 : k0_cond1 k0_t1 = 1#1), ∀ a x, ((![v544, v545] : Fin 2 → IVec S16 32) a x).toNat < S512x16.size a := fun k0_t1 v544 v545 k0_hw81 k0_h1 => k0_hw81 k0_h1

def k0_chk82 (k0_t1 : Fin k0_t1_loop.trips) (v544 : IVec S16 32) (v547 : IVec S16 32) : Prop :=
  (∀ (k0_h1 : k0_cond1 k0_t1 = 1#1), ∀ a x, ((![v544, v547] : Fin 2 → IVec S16 32) a x).toNat < S512x16.size a)
theorem k0_idx82_inb : ∀ (k0_t1 : Fin k0_t1_loop.trips) (v544 : IVec S16 32) (v547 : IVec S16 32) (k0_hw82 : k0_chk82 k0_t1 v544 v547), ∀ (k0_h1 : k0_cond1 k0_t1 = 1#1), ∀ a x, ((![v544, v547] : Fin 2 → IVec S16 32) a x).toNat < S512x16.size a := fun k0_t1 v544 v547 k0_hw82 k0_h1 => k0_hw82 k0_h1

def k0_chk83 (k0_t1 : Fin k0_t1_loop.trips) (v544 : IVec S16 32) (v549 : IVec S16 32) : Prop :=
  (∀ (k0_h1 : k0_cond1 k0_t1 = 1#1), ∀ a x, ((![v544, v549] : Fin 2 → IVec S16 32) a x).toNat < S512x16.size a)
theorem k0_idx83_inb : ∀ (k0_t1 : Fin k0_t1_loop.trips) (v544 : IVec S16 32) (v549 : IVec S16 32) (k0_hw83 : k0_chk83 k0_t1 v544 v549), ∀ (k0_h1 : k0_cond1 k0_t1 = 1#1), ∀ a x, ((![v544, v549] : Fin 2 → IVec S16 32) a x).toNat < S512x16.size a := fun k0_t1 v544 v549 k0_hw83 k0_h1 => k0_hw83 k0_h1

def k0_chk84 (k0_t1 : Fin k0_t1_loop.trips) (v544 : IVec S16 32) (v551 : IVec S16 32) : Prop :=
  (∀ (k0_h1 : k0_cond1 k0_t1 = 1#1), ∀ a x, ((![v544, v551] : Fin 2 → IVec S16 32) a x).toNat < S512x16.size a)
theorem k0_idx84_inb : ∀ (k0_t1 : Fin k0_t1_loop.trips) (v544 : IVec S16 32) (v551 : IVec S16 32) (k0_hw84 : k0_chk84 k0_t1 v544 v551), ∀ (k0_h1 : k0_cond1 k0_t1 = 1#1), ∀ a x, ((![v544, v551] : Fin 2 → IVec S16 32) a x).toNat < S512x16.size a := fun k0_t1 v544 v551 k0_hw84 k0_h1 => k0_hw84 k0_h1

def k0_chk85 (k0_t1 : Fin k0_t1_loop.trips) (v544 : IVec S16 32) (v553 : IVec S16 32) : Prop :=
  (∀ (k0_h1 : k0_cond1 k0_t1 = 1#1), ∀ a x, ((![v544, v553] : Fin 2 → IVec S16 32) a x).toNat < S512x16.size a)
theorem k0_idx85_inb : ∀ (k0_t1 : Fin k0_t1_loop.trips) (v544 : IVec S16 32) (v553 : IVec S16 32) (k0_hw85 : k0_chk85 k0_t1 v544 v553), ∀ (k0_h1 : k0_cond1 k0_t1 = 1#1), ∀ a x, ((![v544, v553] : Fin 2 → IVec S16 32) a x).toNat < S512x16.size a := fun k0_t1 v544 v553 k0_hw85 k0_h1 => k0_hw85 k0_h1

def k0_chk86 (k0_t1 : Fin k0_t1_loop.trips) (v544 : IVec S16 32) (v555 : IVec S16 32) : Prop :=
  (∀ (k0_h1 : k0_cond1 k0_t1 = 1#1), ∀ a x, ((![v544, v555] : Fin 2 → IVec S16 32) a x).toNat < S512x16.size a)
theorem k0_idx86_inb : ∀ (k0_t1 : Fin k0_t1_loop.trips) (v544 : IVec S16 32) (v555 : IVec S16 32) (k0_hw86 : k0_chk86 k0_t1 v544 v555), ∀ (k0_h1 : k0_cond1 k0_t1 = 1#1), ∀ a x, ((![v544, v555] : Fin 2 → IVec S16 32) a x).toNat < S512x16.size a := fun k0_t1 v544 v555 k0_hw86 k0_h1 => k0_hw86 k0_h1

def k0_chk87 (k0_t1 : Fin k0_t1_loop.trips) (v544 : IVec S16 32) (v557 : IVec S16 32) : Prop :=
  (∀ (k0_h1 : k0_cond1 k0_t1 = 1#1), ∀ a x, ((![v544, v557] : Fin 2 → IVec S16 32) a x).toNat < S512x16.size a)
theorem k0_idx87_inb : ∀ (k0_t1 : Fin k0_t1_loop.trips) (v544 : IVec S16 32) (v557 : IVec S16 32) (k0_hw87 : k0_chk87 k0_t1 v544 v557), ∀ (k0_h1 : k0_cond1 k0_t1 = 1#1), ∀ a x, ((![v544, v557] : Fin 2 → IVec S16 32) a x).toNat < S512x16.size a := fun k0_t1 v544 v557 k0_hw87 k0_h1 => k0_hw87 k0_h1

def k0_chk88 (k0_t1 : Fin k0_t1_loop.trips) (v544 : IVec S16 32) (v559 : IVec S16 32) : Prop :=
  (∀ (k0_h1 : k0_cond1 k0_t1 = 1#1), ∀ a x, ((![v544, v559] : Fin 2 → IVec S16 32) a x).toNat < S512x16.size a)
theorem k0_idx88_inb : ∀ (k0_t1 : Fin k0_t1_loop.trips) (v544 : IVec S16 32) (v559 : IVec S16 32) (k0_hw88 : k0_chk88 k0_t1 v544 v559), ∀ (k0_h1 : k0_cond1 k0_t1 = 1#1), ∀ a x, ((![v544, v559] : Fin 2 → IVec S16 32) a x).toNat < S512x16.size a := fun k0_t1 v544 v559 k0_hw88 k0_h1 => k0_hw88 k0_h1

def k0_chk89 (k0_t1 : Fin k0_t1_loop.trips) (v544 : IVec S16 32) (v561 : IVec S16 32) : Prop :=
  (∀ (k0_h1 : k0_cond1 k0_t1 = 1#1), ∀ a x, ((![v544, v561] : Fin 2 → IVec S16 32) a x).toNat < S512x16.size a)
theorem k0_idx89_inb : ∀ (k0_t1 : Fin k0_t1_loop.trips) (v544 : IVec S16 32) (v561 : IVec S16 32) (k0_hw89 : k0_chk89 k0_t1 v544 v561), ∀ (k0_h1 : k0_cond1 k0_t1 = 1#1), ∀ a x, ((![v544, v561] : Fin 2 → IVec S16 32) a x).toNat < S512x16.size a := fun k0_t1 v544 v561 k0_hw89 k0_h1 => k0_hw89 k0_h1

def k0_chk90 (k0_t1 : Fin k0_t1_loop.trips) (v544 : IVec S16 32) (v563 : IVec S16 32) : Prop :=
  (∀ (k0_h1 : k0_cond1 k0_t1 = 1#1), ∀ a x, ((![v544, v563] : Fin 2 → IVec S16 32) a x).toNat < S512x16.size a)
theorem k0_idx90_inb : ∀ (k0_t1 : Fin k0_t1_loop.trips) (v544 : IVec S16 32) (v563 : IVec S16 32) (k0_hw90 : k0_chk90 k0_t1 v544 v563), ∀ (k0_h1 : k0_cond1 k0_t1 = 1#1), ∀ a x, ((![v544, v563] : Fin 2 → IVec S16 32) a x).toNat < S512x16.size a := fun k0_t1 v544 v563 k0_hw90 k0_h1 => k0_hw90 k0_h1

def k0_chk91 (k0_t1 : Fin k0_t1_loop.trips) (v544 : IVec S16 32) (v565 : IVec S16 32) : Prop :=
  (∀ (k0_h1 : k0_cond1 k0_t1 = 1#1), ∀ a x, ((![v544, v565] : Fin 2 → IVec S16 32) a x).toNat < S512x16.size a)
theorem k0_idx91_inb : ∀ (k0_t1 : Fin k0_t1_loop.trips) (v544 : IVec S16 32) (v565 : IVec S16 32) (k0_hw91 : k0_chk91 k0_t1 v544 v565), ∀ (k0_h1 : k0_cond1 k0_t1 = 1#1), ∀ a x, ((![v544, v565] : Fin 2 → IVec S16 32) a x).toNat < S512x16.size a := fun k0_t1 v544 v565 k0_hw91 k0_h1 => k0_hw91 k0_h1

def k0_chk92 (k0_t1 : Fin k0_t1_loop.trips) (v544 : IVec S16 32) (v567 : IVec S16 32) : Prop :=
  (∀ (k0_h1 : k0_cond1 k0_t1 = 1#1), ∀ a x, ((![v544, v567] : Fin 2 → IVec S16 32) a x).toNat < S512x16.size a)
theorem k0_idx92_inb : ∀ (k0_t1 : Fin k0_t1_loop.trips) (v544 : IVec S16 32) (v567 : IVec S16 32) (k0_hw92 : k0_chk92 k0_t1 v544 v567), ∀ (k0_h1 : k0_cond1 k0_t1 = 1#1), ∀ a x, ((![v544, v567] : Fin 2 → IVec S16 32) a x).toNat < S512x16.size a := fun k0_t1 v544 v567 k0_hw92 k0_h1 => k0_hw92 k0_h1

def k0_chk93 (k0_t1 : Fin k0_t1_loop.trips) (v544 : IVec S16 32) (v569 : IVec S16 32) : Prop :=
  (∀ (k0_h1 : k0_cond1 k0_t1 = 1#1), ∀ a x, ((![v544, v569] : Fin 2 → IVec S16 32) a x).toNat < S512x16.size a)
theorem k0_idx93_inb : ∀ (k0_t1 : Fin k0_t1_loop.trips) (v544 : IVec S16 32) (v569 : IVec S16 32) (k0_hw93 : k0_chk93 k0_t1 v544 v569), ∀ (k0_h1 : k0_cond1 k0_t1 = 1#1), ∀ a x, ((![v544, v569] : Fin 2 → IVec S16 32) a x).toNat < S512x16.size a := fun k0_t1 v544 v569 k0_hw93 k0_h1 => k0_hw93 k0_h1

def k0_chk94 (k0_t1 : Fin k0_t1_loop.trips) (v544 : IVec S16 32) (v571 : IVec S16 32) : Prop :=
  (∀ (k0_h1 : k0_cond1 k0_t1 = 1#1), ∀ a x, ((![v544, v571] : Fin 2 → IVec S16 32) a x).toNat < S512x16.size a)
theorem k0_idx94_inb : ∀ (k0_t1 : Fin k0_t1_loop.trips) (v544 : IVec S16 32) (v571 : IVec S16 32) (k0_hw94 : k0_chk94 k0_t1 v544 v571), ∀ (k0_h1 : k0_cond1 k0_t1 = 1#1), ∀ a x, ((![v544, v571] : Fin 2 → IVec S16 32) a x).toNat < S512x16.size a := fun k0_t1 v544 v571 k0_hw94 k0_h1 => k0_hw94 k0_h1

def k0_chk95 (k0_t1 : Fin k0_t1_loop.trips) (v544 : IVec S16 32) (v573 : IVec S16 32) : Prop :=
  (∀ (k0_h1 : k0_cond1 k0_t1 = 1#1), ∀ a x, ((![v544, v573] : Fin 2 → IVec S16 32) a x).toNat < S512x16.size a)
theorem k0_idx95_inb : ∀ (k0_t1 : Fin k0_t1_loop.trips) (v544 : IVec S16 32) (v573 : IVec S16 32) (k0_hw95 : k0_chk95 k0_t1 v544 v573), ∀ (k0_h1 : k0_cond1 k0_t1 = 1#1), ∀ a x, ((![v544, v573] : Fin 2 → IVec S16 32) a x).toNat < S512x16.size a := fun k0_t1 v544 v573 k0_hw95 k0_h1 => k0_hw95 k0_h1

def k0_chk96 (k0_t1 : Fin k0_t1_loop.trips) (v544 : IVec S16 32) (v575 : IVec S16 32) : Prop :=
  (∀ (k0_h1 : k0_cond1 k0_t1 = 1#1), ∀ a x, ((![v544, v575] : Fin 2 → IVec S16 32) a x).toNat < S512x16.size a)
theorem k0_idx96_inb : ∀ (k0_t1 : Fin k0_t1_loop.trips) (v544 : IVec S16 32) (v575 : IVec S16 32) (k0_hw96 : k0_chk96 k0_t1 v544 v575), ∀ (k0_h1 : k0_cond1 k0_t1 = 1#1), ∀ a x, ((![v544, v575] : Fin 2 → IVec S16 32) a x).toNat < S512x16.size a := fun k0_t1 v544 v575 k0_hw96 k0_h1 => k0_hw96 k0_h1

def k0_chk97 (k0_t1 : Fin k0_t1_loop.trips) (v643 : IVec S16 32) (v644 : IVec S16 32) : Prop :=
  (∀ (k0_h1 : k0_cond1 k0_t1 = 1#1), ∀ a x, ((![v643, v644] : Fin 2 → IVec S16 32) a x).toNat < S512x16.size a)
theorem k0_idx97_inb : ∀ (k0_t1 : Fin k0_t1_loop.trips) (v643 : IVec S16 32) (v644 : IVec S16 32) (k0_hw97 : k0_chk97 k0_t1 v643 v644), ∀ (k0_h1 : k0_cond1 k0_t1 = 1#1), ∀ a x, ((![v643, v644] : Fin 2 → IVec S16 32) a x).toNat < S512x16.size a := fun k0_t1 v643 v644 k0_hw97 k0_h1 => k0_hw97 k0_h1

def k0_chk98 (k0_t1 : Fin k0_t1_loop.trips) (v643 : IVec S16 32) (v646 : IVec S16 32) : Prop :=
  (∀ (k0_h1 : k0_cond1 k0_t1 = 1#1), ∀ a x, ((![v643, v646] : Fin 2 → IVec S16 32) a x).toNat < S512x16.size a)
theorem k0_idx98_inb : ∀ (k0_t1 : Fin k0_t1_loop.trips) (v643 : IVec S16 32) (v646 : IVec S16 32) (k0_hw98 : k0_chk98 k0_t1 v643 v646), ∀ (k0_h1 : k0_cond1 k0_t1 = 1#1), ∀ a x, ((![v643, v646] : Fin 2 → IVec S16 32) a x).toNat < S512x16.size a := fun k0_t1 v643 v646 k0_hw98 k0_h1 => k0_hw98 k0_h1

def k0_chk99 (k0_t1 : Fin k0_t1_loop.trips) (v643 : IVec S16 32) (v648 : IVec S16 32) : Prop :=
  (∀ (k0_h1 : k0_cond1 k0_t1 = 1#1), ∀ a x, ((![v643, v648] : Fin 2 → IVec S16 32) a x).toNat < S512x16.size a)
theorem k0_idx99_inb : ∀ (k0_t1 : Fin k0_t1_loop.trips) (v643 : IVec S16 32) (v648 : IVec S16 32) (k0_hw99 : k0_chk99 k0_t1 v643 v648), ∀ (k0_h1 : k0_cond1 k0_t1 = 1#1), ∀ a x, ((![v643, v648] : Fin 2 → IVec S16 32) a x).toNat < S512x16.size a := fun k0_t1 v643 v648 k0_hw99 k0_h1 => k0_hw99 k0_h1

def k0_chk100 (k0_t1 : Fin k0_t1_loop.trips) (v643 : IVec S16 32) (v650 : IVec S16 32) : Prop :=
  (∀ (k0_h1 : k0_cond1 k0_t1 = 1#1), ∀ a x, ((![v643, v650] : Fin 2 → IVec S16 32) a x).toNat < S512x16.size a)
theorem k0_idx100_inb : ∀ (k0_t1 : Fin k0_t1_loop.trips) (v643 : IVec S16 32) (v650 : IVec S16 32) (k0_hw100 : k0_chk100 k0_t1 v643 v650), ∀ (k0_h1 : k0_cond1 k0_t1 = 1#1), ∀ a x, ((![v643, v650] : Fin 2 → IVec S16 32) a x).toNat < S512x16.size a := fun k0_t1 v643 v650 k0_hw100 k0_h1 => k0_hw100 k0_h1

def k0_chk101 (k0_t1 : Fin k0_t1_loop.trips) (v643 : IVec S16 32) (v652 : IVec S16 32) : Prop :=
  (∀ (k0_h1 : k0_cond1 k0_t1 = 1#1), ∀ a x, ((![v643, v652] : Fin 2 → IVec S16 32) a x).toNat < S512x16.size a)
theorem k0_idx101_inb : ∀ (k0_t1 : Fin k0_t1_loop.trips) (v643 : IVec S16 32) (v652 : IVec S16 32) (k0_hw101 : k0_chk101 k0_t1 v643 v652), ∀ (k0_h1 : k0_cond1 k0_t1 = 1#1), ∀ a x, ((![v643, v652] : Fin 2 → IVec S16 32) a x).toNat < S512x16.size a := fun k0_t1 v643 v652 k0_hw101 k0_h1 => k0_hw101 k0_h1

def k0_chk102 (k0_t1 : Fin k0_t1_loop.trips) (v643 : IVec S16 32) (v654 : IVec S16 32) : Prop :=
  (∀ (k0_h1 : k0_cond1 k0_t1 = 1#1), ∀ a x, ((![v643, v654] : Fin 2 → IVec S16 32) a x).toNat < S512x16.size a)
theorem k0_idx102_inb : ∀ (k0_t1 : Fin k0_t1_loop.trips) (v643 : IVec S16 32) (v654 : IVec S16 32) (k0_hw102 : k0_chk102 k0_t1 v643 v654), ∀ (k0_h1 : k0_cond1 k0_t1 = 1#1), ∀ a x, ((![v643, v654] : Fin 2 → IVec S16 32) a x).toNat < S512x16.size a := fun k0_t1 v643 v654 k0_hw102 k0_h1 => k0_hw102 k0_h1

def k0_chk103 (k0_t1 : Fin k0_t1_loop.trips) (v643 : IVec S16 32) (v656 : IVec S16 32) : Prop :=
  (∀ (k0_h1 : k0_cond1 k0_t1 = 1#1), ∀ a x, ((![v643, v656] : Fin 2 → IVec S16 32) a x).toNat < S512x16.size a)
theorem k0_idx103_inb : ∀ (k0_t1 : Fin k0_t1_loop.trips) (v643 : IVec S16 32) (v656 : IVec S16 32) (k0_hw103 : k0_chk103 k0_t1 v643 v656), ∀ (k0_h1 : k0_cond1 k0_t1 = 1#1), ∀ a x, ((![v643, v656] : Fin 2 → IVec S16 32) a x).toNat < S512x16.size a := fun k0_t1 v643 v656 k0_hw103 k0_h1 => k0_hw103 k0_h1

def k0_chk104 (k0_t1 : Fin k0_t1_loop.trips) (v643 : IVec S16 32) (v658 : IVec S16 32) : Prop :=
  (∀ (k0_h1 : k0_cond1 k0_t1 = 1#1), ∀ a x, ((![v643, v658] : Fin 2 → IVec S16 32) a x).toNat < S512x16.size a)
theorem k0_idx104_inb : ∀ (k0_t1 : Fin k0_t1_loop.trips) (v643 : IVec S16 32) (v658 : IVec S16 32) (k0_hw104 : k0_chk104 k0_t1 v643 v658), ∀ (k0_h1 : k0_cond1 k0_t1 = 1#1), ∀ a x, ((![v643, v658] : Fin 2 → IVec S16 32) a x).toNat < S512x16.size a := fun k0_t1 v643 v658 k0_hw104 k0_h1 => k0_hw104 k0_h1

def k0_chk105 (k0_t1 : Fin k0_t1_loop.trips) (v643 : IVec S16 32) (v660 : IVec S16 32) : Prop :=
  (∀ (k0_h1 : k0_cond1 k0_t1 = 1#1), ∀ a x, ((![v643, v660] : Fin 2 → IVec S16 32) a x).toNat < S512x16.size a)
theorem k0_idx105_inb : ∀ (k0_t1 : Fin k0_t1_loop.trips) (v643 : IVec S16 32) (v660 : IVec S16 32) (k0_hw105 : k0_chk105 k0_t1 v643 v660), ∀ (k0_h1 : k0_cond1 k0_t1 = 1#1), ∀ a x, ((![v643, v660] : Fin 2 → IVec S16 32) a x).toNat < S512x16.size a := fun k0_t1 v643 v660 k0_hw105 k0_h1 => k0_hw105 k0_h1

def k0_chk106 (k0_t1 : Fin k0_t1_loop.trips) (v643 : IVec S16 32) (v662 : IVec S16 32) : Prop :=
  (∀ (k0_h1 : k0_cond1 k0_t1 = 1#1), ∀ a x, ((![v643, v662] : Fin 2 → IVec S16 32) a x).toNat < S512x16.size a)
theorem k0_idx106_inb : ∀ (k0_t1 : Fin k0_t1_loop.trips) (v643 : IVec S16 32) (v662 : IVec S16 32) (k0_hw106 : k0_chk106 k0_t1 v643 v662), ∀ (k0_h1 : k0_cond1 k0_t1 = 1#1), ∀ a x, ((![v643, v662] : Fin 2 → IVec S16 32) a x).toNat < S512x16.size a := fun k0_t1 v643 v662 k0_hw106 k0_h1 => k0_hw106 k0_h1

def k0_chk107 (k0_t1 : Fin k0_t1_loop.trips) (v643 : IVec S16 32) (v664 : IVec S16 32) : Prop :=
  (∀ (k0_h1 : k0_cond1 k0_t1 = 1#1), ∀ a x, ((![v643, v664] : Fin 2 → IVec S16 32) a x).toNat < S512x16.size a)
theorem k0_idx107_inb : ∀ (k0_t1 : Fin k0_t1_loop.trips) (v643 : IVec S16 32) (v664 : IVec S16 32) (k0_hw107 : k0_chk107 k0_t1 v643 v664), ∀ (k0_h1 : k0_cond1 k0_t1 = 1#1), ∀ a x, ((![v643, v664] : Fin 2 → IVec S16 32) a x).toNat < S512x16.size a := fun k0_t1 v643 v664 k0_hw107 k0_h1 => k0_hw107 k0_h1

def k0_chk108 (k0_t1 : Fin k0_t1_loop.trips) (v643 : IVec S16 32) (v666 : IVec S16 32) : Prop :=
  (∀ (k0_h1 : k0_cond1 k0_t1 = 1#1), ∀ a x, ((![v643, v666] : Fin 2 → IVec S16 32) a x).toNat < S512x16.size a)
theorem k0_idx108_inb : ∀ (k0_t1 : Fin k0_t1_loop.trips) (v643 : IVec S16 32) (v666 : IVec S16 32) (k0_hw108 : k0_chk108 k0_t1 v643 v666), ∀ (k0_h1 : k0_cond1 k0_t1 = 1#1), ∀ a x, ((![v643, v666] : Fin 2 → IVec S16 32) a x).toNat < S512x16.size a := fun k0_t1 v643 v666 k0_hw108 k0_h1 => k0_hw108 k0_h1

def k0_chk109 (k0_t1 : Fin k0_t1_loop.trips) (v643 : IVec S16 32) (v668 : IVec S16 32) : Prop :=
  (∀ (k0_h1 : k0_cond1 k0_t1 = 1#1), ∀ a x, ((![v643, v668] : Fin 2 → IVec S16 32) a x).toNat < S512x16.size a)
theorem k0_idx109_inb : ∀ (k0_t1 : Fin k0_t1_loop.trips) (v643 : IVec S16 32) (v668 : IVec S16 32) (k0_hw109 : k0_chk109 k0_t1 v643 v668), ∀ (k0_h1 : k0_cond1 k0_t1 = 1#1), ∀ a x, ((![v643, v668] : Fin 2 → IVec S16 32) a x).toNat < S512x16.size a := fun k0_t1 v643 v668 k0_hw109 k0_h1 => k0_hw109 k0_h1

def k0_chk110 (k0_t1 : Fin k0_t1_loop.trips) (v643 : IVec S16 32) (v670 : IVec S16 32) : Prop :=
  (∀ (k0_h1 : k0_cond1 k0_t1 = 1#1), ∀ a x, ((![v643, v670] : Fin 2 → IVec S16 32) a x).toNat < S512x16.size a)
theorem k0_idx110_inb : ∀ (k0_t1 : Fin k0_t1_loop.trips) (v643 : IVec S16 32) (v670 : IVec S16 32) (k0_hw110 : k0_chk110 k0_t1 v643 v670), ∀ (k0_h1 : k0_cond1 k0_t1 = 1#1), ∀ a x, ((![v643, v670] : Fin 2 → IVec S16 32) a x).toNat < S512x16.size a := fun k0_t1 v643 v670 k0_hw110 k0_h1 => k0_hw110 k0_h1

def k0_chk111 (k0_t1 : Fin k0_t1_loop.trips) (v643 : IVec S16 32) (v672 : IVec S16 32) : Prop :=
  (∀ (k0_h1 : k0_cond1 k0_t1 = 1#1), ∀ a x, ((![v643, v672] : Fin 2 → IVec S16 32) a x).toNat < S512x16.size a)
theorem k0_idx111_inb : ∀ (k0_t1 : Fin k0_t1_loop.trips) (v643 : IVec S16 32) (v672 : IVec S16 32) (k0_hw111 : k0_chk111 k0_t1 v643 v672), ∀ (k0_h1 : k0_cond1 k0_t1 = 1#1), ∀ a x, ((![v643, v672] : Fin 2 → IVec S16 32) a x).toNat < S512x16.size a := fun k0_t1 v643 v672 k0_hw111 k0_h1 => k0_hw111 k0_h1

def k0_chk112 (k0_t1 : Fin k0_t1_loop.trips) (v643 : IVec S16 32) (v674 : IVec S16 32) : Prop :=
  (∀ (k0_h1 : k0_cond1 k0_t1 = 1#1), ∀ a x, ((![v643, v674] : Fin 2 → IVec S16 32) a x).toNat < S512x16.size a)
theorem k0_idx112_inb : ∀ (k0_t1 : Fin k0_t1_loop.trips) (v643 : IVec S16 32) (v674 : IVec S16 32) (k0_hw112 : k0_chk112 k0_t1 v643 v674), ∀ (k0_h1 : k0_cond1 k0_t1 = 1#1), ∀ a x, ((![v643, v674] : Fin 2 → IVec S16 32) a x).toNat < S512x16.size a := fun k0_t1 v643 v674 k0_hw112 k0_h1 => k0_hw112 k0_h1

def k0_chk113 (k0_t1 : Fin k0_t1_loop.trips) (v742 : IVec S16 32) (v743 : IVec S16 32) : Prop :=
  (∀ (k0_h1 : k0_cond1 k0_t1 = 1#1), ∀ a x, ((![v742, v743] : Fin 2 → IVec S16 32) a x).toNat < S512x16.size a)
theorem k0_idx113_inb : ∀ (k0_t1 : Fin k0_t1_loop.trips) (v742 : IVec S16 32) (v743 : IVec S16 32) (k0_hw113 : k0_chk113 k0_t1 v742 v743), ∀ (k0_h1 : k0_cond1 k0_t1 = 1#1), ∀ a x, ((![v742, v743] : Fin 2 → IVec S16 32) a x).toNat < S512x16.size a := fun k0_t1 v742 v743 k0_hw113 k0_h1 => k0_hw113 k0_h1

def k0_chk114 (k0_t1 : Fin k0_t1_loop.trips) (v742 : IVec S16 32) (v745 : IVec S16 32) : Prop :=
  (∀ (k0_h1 : k0_cond1 k0_t1 = 1#1), ∀ a x, ((![v742, v745] : Fin 2 → IVec S16 32) a x).toNat < S512x16.size a)
theorem k0_idx114_inb : ∀ (k0_t1 : Fin k0_t1_loop.trips) (v742 : IVec S16 32) (v745 : IVec S16 32) (k0_hw114 : k0_chk114 k0_t1 v742 v745), ∀ (k0_h1 : k0_cond1 k0_t1 = 1#1), ∀ a x, ((![v742, v745] : Fin 2 → IVec S16 32) a x).toNat < S512x16.size a := fun k0_t1 v742 v745 k0_hw114 k0_h1 => k0_hw114 k0_h1

def k0_chk115 (k0_t1 : Fin k0_t1_loop.trips) (v742 : IVec S16 32) (v747 : IVec S16 32) : Prop :=
  (∀ (k0_h1 : k0_cond1 k0_t1 = 1#1), ∀ a x, ((![v742, v747] : Fin 2 → IVec S16 32) a x).toNat < S512x16.size a)
theorem k0_idx115_inb : ∀ (k0_t1 : Fin k0_t1_loop.trips) (v742 : IVec S16 32) (v747 : IVec S16 32) (k0_hw115 : k0_chk115 k0_t1 v742 v747), ∀ (k0_h1 : k0_cond1 k0_t1 = 1#1), ∀ a x, ((![v742, v747] : Fin 2 → IVec S16 32) a x).toNat < S512x16.size a := fun k0_t1 v742 v747 k0_hw115 k0_h1 => k0_hw115 k0_h1

def k0_chk116 (k0_t1 : Fin k0_t1_loop.trips) (v742 : IVec S16 32) (v749 : IVec S16 32) : Prop :=
  (∀ (k0_h1 : k0_cond1 k0_t1 = 1#1), ∀ a x, ((![v742, v749] : Fin 2 → IVec S16 32) a x).toNat < S512x16.size a)
theorem k0_idx116_inb : ∀ (k0_t1 : Fin k0_t1_loop.trips) (v742 : IVec S16 32) (v749 : IVec S16 32) (k0_hw116 : k0_chk116 k0_t1 v742 v749), ∀ (k0_h1 : k0_cond1 k0_t1 = 1#1), ∀ a x, ((![v742, v749] : Fin 2 → IVec S16 32) a x).toNat < S512x16.size a := fun k0_t1 v742 v749 k0_hw116 k0_h1 => k0_hw116 k0_h1

def k0_chk117 (k0_t1 : Fin k0_t1_loop.trips) (v742 : IVec S16 32) (v751 : IVec S16 32) : Prop :=
  (∀ (k0_h1 : k0_cond1 k0_t1 = 1#1), ∀ a x, ((![v742, v751] : Fin 2 → IVec S16 32) a x).toNat < S512x16.size a)
theorem k0_idx117_inb : ∀ (k0_t1 : Fin k0_t1_loop.trips) (v742 : IVec S16 32) (v751 : IVec S16 32) (k0_hw117 : k0_chk117 k0_t1 v742 v751), ∀ (k0_h1 : k0_cond1 k0_t1 = 1#1), ∀ a x, ((![v742, v751] : Fin 2 → IVec S16 32) a x).toNat < S512x16.size a := fun k0_t1 v742 v751 k0_hw117 k0_h1 => k0_hw117 k0_h1

def k0_chk118 (k0_t1 : Fin k0_t1_loop.trips) (v742 : IVec S16 32) (v753 : IVec S16 32) : Prop :=
  (∀ (k0_h1 : k0_cond1 k0_t1 = 1#1), ∀ a x, ((![v742, v753] : Fin 2 → IVec S16 32) a x).toNat < S512x16.size a)
theorem k0_idx118_inb : ∀ (k0_t1 : Fin k0_t1_loop.trips) (v742 : IVec S16 32) (v753 : IVec S16 32) (k0_hw118 : k0_chk118 k0_t1 v742 v753), ∀ (k0_h1 : k0_cond1 k0_t1 = 1#1), ∀ a x, ((![v742, v753] : Fin 2 → IVec S16 32) a x).toNat < S512x16.size a := fun k0_t1 v742 v753 k0_hw118 k0_h1 => k0_hw118 k0_h1

def k0_chk119 (k0_t1 : Fin k0_t1_loop.trips) (v742 : IVec S16 32) (v755 : IVec S16 32) : Prop :=
  (∀ (k0_h1 : k0_cond1 k0_t1 = 1#1), ∀ a x, ((![v742, v755] : Fin 2 → IVec S16 32) a x).toNat < S512x16.size a)
theorem k0_idx119_inb : ∀ (k0_t1 : Fin k0_t1_loop.trips) (v742 : IVec S16 32) (v755 : IVec S16 32) (k0_hw119 : k0_chk119 k0_t1 v742 v755), ∀ (k0_h1 : k0_cond1 k0_t1 = 1#1), ∀ a x, ((![v742, v755] : Fin 2 → IVec S16 32) a x).toNat < S512x16.size a := fun k0_t1 v742 v755 k0_hw119 k0_h1 => k0_hw119 k0_h1

def k0_chk120 (k0_t1 : Fin k0_t1_loop.trips) (v742 : IVec S16 32) (v757 : IVec S16 32) : Prop :=
  (∀ (k0_h1 : k0_cond1 k0_t1 = 1#1), ∀ a x, ((![v742, v757] : Fin 2 → IVec S16 32) a x).toNat < S512x16.size a)
theorem k0_idx120_inb : ∀ (k0_t1 : Fin k0_t1_loop.trips) (v742 : IVec S16 32) (v757 : IVec S16 32) (k0_hw120 : k0_chk120 k0_t1 v742 v757), ∀ (k0_h1 : k0_cond1 k0_t1 = 1#1), ∀ a x, ((![v742, v757] : Fin 2 → IVec S16 32) a x).toNat < S512x16.size a := fun k0_t1 v742 v757 k0_hw120 k0_h1 => k0_hw120 k0_h1

def k0_chk121 (k0_t1 : Fin k0_t1_loop.trips) (v742 : IVec S16 32) (v759 : IVec S16 32) : Prop :=
  (∀ (k0_h1 : k0_cond1 k0_t1 = 1#1), ∀ a x, ((![v742, v759] : Fin 2 → IVec S16 32) a x).toNat < S512x16.size a)
theorem k0_idx121_inb : ∀ (k0_t1 : Fin k0_t1_loop.trips) (v742 : IVec S16 32) (v759 : IVec S16 32) (k0_hw121 : k0_chk121 k0_t1 v742 v759), ∀ (k0_h1 : k0_cond1 k0_t1 = 1#1), ∀ a x, ((![v742, v759] : Fin 2 → IVec S16 32) a x).toNat < S512x16.size a := fun k0_t1 v742 v759 k0_hw121 k0_h1 => k0_hw121 k0_h1

def k0_chk122 (k0_t1 : Fin k0_t1_loop.trips) (v742 : IVec S16 32) (v761 : IVec S16 32) : Prop :=
  (∀ (k0_h1 : k0_cond1 k0_t1 = 1#1), ∀ a x, ((![v742, v761] : Fin 2 → IVec S16 32) a x).toNat < S512x16.size a)
theorem k0_idx122_inb : ∀ (k0_t1 : Fin k0_t1_loop.trips) (v742 : IVec S16 32) (v761 : IVec S16 32) (k0_hw122 : k0_chk122 k0_t1 v742 v761), ∀ (k0_h1 : k0_cond1 k0_t1 = 1#1), ∀ a x, ((![v742, v761] : Fin 2 → IVec S16 32) a x).toNat < S512x16.size a := fun k0_t1 v742 v761 k0_hw122 k0_h1 => k0_hw122 k0_h1

def k0_chk123 (k0_t1 : Fin k0_t1_loop.trips) (v742 : IVec S16 32) (v763 : IVec S16 32) : Prop :=
  (∀ (k0_h1 : k0_cond1 k0_t1 = 1#1), ∀ a x, ((![v742, v763] : Fin 2 → IVec S16 32) a x).toNat < S512x16.size a)
theorem k0_idx123_inb : ∀ (k0_t1 : Fin k0_t1_loop.trips) (v742 : IVec S16 32) (v763 : IVec S16 32) (k0_hw123 : k0_chk123 k0_t1 v742 v763), ∀ (k0_h1 : k0_cond1 k0_t1 = 1#1), ∀ a x, ((![v742, v763] : Fin 2 → IVec S16 32) a x).toNat < S512x16.size a := fun k0_t1 v742 v763 k0_hw123 k0_h1 => k0_hw123 k0_h1

def k0_chk124 (k0_t1 : Fin k0_t1_loop.trips) (v742 : IVec S16 32) (v765 : IVec S16 32) : Prop :=
  (∀ (k0_h1 : k0_cond1 k0_t1 = 1#1), ∀ a x, ((![v742, v765] : Fin 2 → IVec S16 32) a x).toNat < S512x16.size a)
theorem k0_idx124_inb : ∀ (k0_t1 : Fin k0_t1_loop.trips) (v742 : IVec S16 32) (v765 : IVec S16 32) (k0_hw124 : k0_chk124 k0_t1 v742 v765), ∀ (k0_h1 : k0_cond1 k0_t1 = 1#1), ∀ a x, ((![v742, v765] : Fin 2 → IVec S16 32) a x).toNat < S512x16.size a := fun k0_t1 v742 v765 k0_hw124 k0_h1 => k0_hw124 k0_h1

def k0_chk125 (k0_t1 : Fin k0_t1_loop.trips) (v742 : IVec S16 32) (v767 : IVec S16 32) : Prop :=
  (∀ (k0_h1 : k0_cond1 k0_t1 = 1#1), ∀ a x, ((![v742, v767] : Fin 2 → IVec S16 32) a x).toNat < S512x16.size a)
theorem k0_idx125_inb : ∀ (k0_t1 : Fin k0_t1_loop.trips) (v742 : IVec S16 32) (v767 : IVec S16 32) (k0_hw125 : k0_chk125 k0_t1 v742 v767), ∀ (k0_h1 : k0_cond1 k0_t1 = 1#1), ∀ a x, ((![v742, v767] : Fin 2 → IVec S16 32) a x).toNat < S512x16.size a := fun k0_t1 v742 v767 k0_hw125 k0_h1 => k0_hw125 k0_h1

def k0_chk126 (k0_t1 : Fin k0_t1_loop.trips) (v742 : IVec S16 32) (v769 : IVec S16 32) : Prop :=
  (∀ (k0_h1 : k0_cond1 k0_t1 = 1#1), ∀ a x, ((![v742, v769] : Fin 2 → IVec S16 32) a x).toNat < S512x16.size a)
theorem k0_idx126_inb : ∀ (k0_t1 : Fin k0_t1_loop.trips) (v742 : IVec S16 32) (v769 : IVec S16 32) (k0_hw126 : k0_chk126 k0_t1 v742 v769), ∀ (k0_h1 : k0_cond1 k0_t1 = 1#1), ∀ a x, ((![v742, v769] : Fin 2 → IVec S16 32) a x).toNat < S512x16.size a := fun k0_t1 v742 v769 k0_hw126 k0_h1 => k0_hw126 k0_h1

def k0_chk127 (k0_t1 : Fin k0_t1_loop.trips) (v742 : IVec S16 32) (v771 : IVec S16 32) : Prop :=
  (∀ (k0_h1 : k0_cond1 k0_t1 = 1#1), ∀ a x, ((![v742, v771] : Fin 2 → IVec S16 32) a x).toNat < S512x16.size a)
theorem k0_idx127_inb : ∀ (k0_t1 : Fin k0_t1_loop.trips) (v742 : IVec S16 32) (v771 : IVec S16 32) (k0_hw127 : k0_chk127 k0_t1 v742 v771), ∀ (k0_h1 : k0_cond1 k0_t1 = 1#1), ∀ a x, ((![v742, v771] : Fin 2 → IVec S16 32) a x).toNat < S512x16.size a := fun k0_t1 v742 v771 k0_hw127 k0_h1 => k0_hw127 k0_h1

def k0_chk128 (k0_t1 : Fin k0_t1_loop.trips) (v742 : IVec S16 32) (v773 : IVec S16 32) : Prop :=
  (∀ (k0_h1 : k0_cond1 k0_t1 = 1#1), ∀ a x, ((![v742, v773] : Fin 2 → IVec S16 32) a x).toNat < S512x16.size a)
theorem k0_idx128_inb : ∀ (k0_t1 : Fin k0_t1_loop.trips) (v742 : IVec S16 32) (v773 : IVec S16 32) (k0_hw128 : k0_chk128 k0_t1 v742 v773), ∀ (k0_h1 : k0_cond1 k0_t1 = 1#1), ∀ a x, ((![v742, v773] : Fin 2 → IVec S16 32) a x).toNat < S512x16.size a := fun k0_t1 v742 v773 k0_hw128 k0_h1 => k0_hw128 k0_h1

def k0_chk129 (k0_t1 : Fin k0_t1_loop.trips) (v841 : IVec S16 32) (v842 : IVec S16 32) : Prop :=
  (∀ (k0_h1 : k0_cond1 k0_t1 = 1#1), ∀ a x, ((![v841, v842] : Fin 2 → IVec S16 32) a x).toNat < S512x16.size a)
theorem k0_idx129_inb : ∀ (k0_t1 : Fin k0_t1_loop.trips) (v841 : IVec S16 32) (v842 : IVec S16 32) (k0_hw129 : k0_chk129 k0_t1 v841 v842), ∀ (k0_h1 : k0_cond1 k0_t1 = 1#1), ∀ a x, ((![v841, v842] : Fin 2 → IVec S16 32) a x).toNat < S512x16.size a := fun k0_t1 v841 v842 k0_hw129 k0_h1 => k0_hw129 k0_h1

def k0_chk130 (k0_t1 : Fin k0_t1_loop.trips) (v841 : IVec S16 32) (v844 : IVec S16 32) : Prop :=
  (∀ (k0_h1 : k0_cond1 k0_t1 = 1#1), ∀ a x, ((![v841, v844] : Fin 2 → IVec S16 32) a x).toNat < S512x16.size a)
theorem k0_idx130_inb : ∀ (k0_t1 : Fin k0_t1_loop.trips) (v841 : IVec S16 32) (v844 : IVec S16 32) (k0_hw130 : k0_chk130 k0_t1 v841 v844), ∀ (k0_h1 : k0_cond1 k0_t1 = 1#1), ∀ a x, ((![v841, v844] : Fin 2 → IVec S16 32) a x).toNat < S512x16.size a := fun k0_t1 v841 v844 k0_hw130 k0_h1 => k0_hw130 k0_h1

def k0_chk131 (k0_t1 : Fin k0_t1_loop.trips) (v841 : IVec S16 32) (v846 : IVec S16 32) : Prop :=
  (∀ (k0_h1 : k0_cond1 k0_t1 = 1#1), ∀ a x, ((![v841, v846] : Fin 2 → IVec S16 32) a x).toNat < S512x16.size a)
theorem k0_idx131_inb : ∀ (k0_t1 : Fin k0_t1_loop.trips) (v841 : IVec S16 32) (v846 : IVec S16 32) (k0_hw131 : k0_chk131 k0_t1 v841 v846), ∀ (k0_h1 : k0_cond1 k0_t1 = 1#1), ∀ a x, ((![v841, v846] : Fin 2 → IVec S16 32) a x).toNat < S512x16.size a := fun k0_t1 v841 v846 k0_hw131 k0_h1 => k0_hw131 k0_h1

def k0_chk132 (k0_t1 : Fin k0_t1_loop.trips) (v841 : IVec S16 32) (v848 : IVec S16 32) : Prop :=
  (∀ (k0_h1 : k0_cond1 k0_t1 = 1#1), ∀ a x, ((![v841, v848] : Fin 2 → IVec S16 32) a x).toNat < S512x16.size a)
theorem k0_idx132_inb : ∀ (k0_t1 : Fin k0_t1_loop.trips) (v841 : IVec S16 32) (v848 : IVec S16 32) (k0_hw132 : k0_chk132 k0_t1 v841 v848), ∀ (k0_h1 : k0_cond1 k0_t1 = 1#1), ∀ a x, ((![v841, v848] : Fin 2 → IVec S16 32) a x).toNat < S512x16.size a := fun k0_t1 v841 v848 k0_hw132 k0_h1 => k0_hw132 k0_h1

def k0_chk133 (k0_t1 : Fin k0_t1_loop.trips) (v841 : IVec S16 32) (v850 : IVec S16 32) : Prop :=
  (∀ (k0_h1 : k0_cond1 k0_t1 = 1#1), ∀ a x, ((![v841, v850] : Fin 2 → IVec S16 32) a x).toNat < S512x16.size a)
theorem k0_idx133_inb : ∀ (k0_t1 : Fin k0_t1_loop.trips) (v841 : IVec S16 32) (v850 : IVec S16 32) (k0_hw133 : k0_chk133 k0_t1 v841 v850), ∀ (k0_h1 : k0_cond1 k0_t1 = 1#1), ∀ a x, ((![v841, v850] : Fin 2 → IVec S16 32) a x).toNat < S512x16.size a := fun k0_t1 v841 v850 k0_hw133 k0_h1 => k0_hw133 k0_h1

def k0_chk134 (k0_t1 : Fin k0_t1_loop.trips) (v841 : IVec S16 32) (v852 : IVec S16 32) : Prop :=
  (∀ (k0_h1 : k0_cond1 k0_t1 = 1#1), ∀ a x, ((![v841, v852] : Fin 2 → IVec S16 32) a x).toNat < S512x16.size a)
theorem k0_idx134_inb : ∀ (k0_t1 : Fin k0_t1_loop.trips) (v841 : IVec S16 32) (v852 : IVec S16 32) (k0_hw134 : k0_chk134 k0_t1 v841 v852), ∀ (k0_h1 : k0_cond1 k0_t1 = 1#1), ∀ a x, ((![v841, v852] : Fin 2 → IVec S16 32) a x).toNat < S512x16.size a := fun k0_t1 v841 v852 k0_hw134 k0_h1 => k0_hw134 k0_h1

def k0_chk135 (k0_t1 : Fin k0_t1_loop.trips) (v841 : IVec S16 32) (v854 : IVec S16 32) : Prop :=
  (∀ (k0_h1 : k0_cond1 k0_t1 = 1#1), ∀ a x, ((![v841, v854] : Fin 2 → IVec S16 32) a x).toNat < S512x16.size a)
theorem k0_idx135_inb : ∀ (k0_t1 : Fin k0_t1_loop.trips) (v841 : IVec S16 32) (v854 : IVec S16 32) (k0_hw135 : k0_chk135 k0_t1 v841 v854), ∀ (k0_h1 : k0_cond1 k0_t1 = 1#1), ∀ a x, ((![v841, v854] : Fin 2 → IVec S16 32) a x).toNat < S512x16.size a := fun k0_t1 v841 v854 k0_hw135 k0_h1 => k0_hw135 k0_h1

def k0_chk136 (k0_t1 : Fin k0_t1_loop.trips) (v841 : IVec S16 32) (v856 : IVec S16 32) : Prop :=
  (∀ (k0_h1 : k0_cond1 k0_t1 = 1#1), ∀ a x, ((![v841, v856] : Fin 2 → IVec S16 32) a x).toNat < S512x16.size a)
theorem k0_idx136_inb : ∀ (k0_t1 : Fin k0_t1_loop.trips) (v841 : IVec S16 32) (v856 : IVec S16 32) (k0_hw136 : k0_chk136 k0_t1 v841 v856), ∀ (k0_h1 : k0_cond1 k0_t1 = 1#1), ∀ a x, ((![v841, v856] : Fin 2 → IVec S16 32) a x).toNat < S512x16.size a := fun k0_t1 v841 v856 k0_hw136 k0_h1 => k0_hw136 k0_h1

def k0_chk137 (k0_t1 : Fin k0_t1_loop.trips) (v841 : IVec S16 32) (v858 : IVec S16 32) : Prop :=
  (∀ (k0_h1 : k0_cond1 k0_t1 = 1#1), ∀ a x, ((![v841, v858] : Fin 2 → IVec S16 32) a x).toNat < S512x16.size a)
theorem k0_idx137_inb : ∀ (k0_t1 : Fin k0_t1_loop.trips) (v841 : IVec S16 32) (v858 : IVec S16 32) (k0_hw137 : k0_chk137 k0_t1 v841 v858), ∀ (k0_h1 : k0_cond1 k0_t1 = 1#1), ∀ a x, ((![v841, v858] : Fin 2 → IVec S16 32) a x).toNat < S512x16.size a := fun k0_t1 v841 v858 k0_hw137 k0_h1 => k0_hw137 k0_h1

def k0_chk138 (k0_t1 : Fin k0_t1_loop.trips) (v841 : IVec S16 32) (v860 : IVec S16 32) : Prop :=
  (∀ (k0_h1 : k0_cond1 k0_t1 = 1#1), ∀ a x, ((![v841, v860] : Fin 2 → IVec S16 32) a x).toNat < S512x16.size a)
theorem k0_idx138_inb : ∀ (k0_t1 : Fin k0_t1_loop.trips) (v841 : IVec S16 32) (v860 : IVec S16 32) (k0_hw138 : k0_chk138 k0_t1 v841 v860), ∀ (k0_h1 : k0_cond1 k0_t1 = 1#1), ∀ a x, ((![v841, v860] : Fin 2 → IVec S16 32) a x).toNat < S512x16.size a := fun k0_t1 v841 v860 k0_hw138 k0_h1 => k0_hw138 k0_h1

def k0_chk139 (k0_t1 : Fin k0_t1_loop.trips) (v841 : IVec S16 32) (v862 : IVec S16 32) : Prop :=
  (∀ (k0_h1 : k0_cond1 k0_t1 = 1#1), ∀ a x, ((![v841, v862] : Fin 2 → IVec S16 32) a x).toNat < S512x16.size a)
theorem k0_idx139_inb : ∀ (k0_t1 : Fin k0_t1_loop.trips) (v841 : IVec S16 32) (v862 : IVec S16 32) (k0_hw139 : k0_chk139 k0_t1 v841 v862), ∀ (k0_h1 : k0_cond1 k0_t1 = 1#1), ∀ a x, ((![v841, v862] : Fin 2 → IVec S16 32) a x).toNat < S512x16.size a := fun k0_t1 v841 v862 k0_hw139 k0_h1 => k0_hw139 k0_h1

def k0_chk140 (k0_t1 : Fin k0_t1_loop.trips) (v841 : IVec S16 32) (v864 : IVec S16 32) : Prop :=
  (∀ (k0_h1 : k0_cond1 k0_t1 = 1#1), ∀ a x, ((![v841, v864] : Fin 2 → IVec S16 32) a x).toNat < S512x16.size a)
theorem k0_idx140_inb : ∀ (k0_t1 : Fin k0_t1_loop.trips) (v841 : IVec S16 32) (v864 : IVec S16 32) (k0_hw140 : k0_chk140 k0_t1 v841 v864), ∀ (k0_h1 : k0_cond1 k0_t1 = 1#1), ∀ a x, ((![v841, v864] : Fin 2 → IVec S16 32) a x).toNat < S512x16.size a := fun k0_t1 v841 v864 k0_hw140 k0_h1 => k0_hw140 k0_h1

def k0_chk141 (k0_t1 : Fin k0_t1_loop.trips) (v841 : IVec S16 32) (v866 : IVec S16 32) : Prop :=
  (∀ (k0_h1 : k0_cond1 k0_t1 = 1#1), ∀ a x, ((![v841, v866] : Fin 2 → IVec S16 32) a x).toNat < S512x16.size a)
theorem k0_idx141_inb : ∀ (k0_t1 : Fin k0_t1_loop.trips) (v841 : IVec S16 32) (v866 : IVec S16 32) (k0_hw141 : k0_chk141 k0_t1 v841 v866), ∀ (k0_h1 : k0_cond1 k0_t1 = 1#1), ∀ a x, ((![v841, v866] : Fin 2 → IVec S16 32) a x).toNat < S512x16.size a := fun k0_t1 v841 v866 k0_hw141 k0_h1 => k0_hw141 k0_h1

def k0_chk142 (k0_t1 : Fin k0_t1_loop.trips) (v841 : IVec S16 32) (v868 : IVec S16 32) : Prop :=
  (∀ (k0_h1 : k0_cond1 k0_t1 = 1#1), ∀ a x, ((![v841, v868] : Fin 2 → IVec S16 32) a x).toNat < S512x16.size a)
theorem k0_idx142_inb : ∀ (k0_t1 : Fin k0_t1_loop.trips) (v841 : IVec S16 32) (v868 : IVec S16 32) (k0_hw142 : k0_chk142 k0_t1 v841 v868), ∀ (k0_h1 : k0_cond1 k0_t1 = 1#1), ∀ a x, ((![v841, v868] : Fin 2 → IVec S16 32) a x).toNat < S512x16.size a := fun k0_t1 v841 v868 k0_hw142 k0_h1 => k0_hw142 k0_h1

def k0_chk143 (k0_t1 : Fin k0_t1_loop.trips) (v841 : IVec S16 32) (v870 : IVec S16 32) : Prop :=
  (∀ (k0_h1 : k0_cond1 k0_t1 = 1#1), ∀ a x, ((![v841, v870] : Fin 2 → IVec S16 32) a x).toNat < S512x16.size a)
theorem k0_idx143_inb : ∀ (k0_t1 : Fin k0_t1_loop.trips) (v841 : IVec S16 32) (v870 : IVec S16 32) (k0_hw143 : k0_chk143 k0_t1 v841 v870), ∀ (k0_h1 : k0_cond1 k0_t1 = 1#1), ∀ a x, ((![v841, v870] : Fin 2 → IVec S16 32) a x).toNat < S512x16.size a := fun k0_t1 v841 v870 k0_hw143 k0_h1 => k0_hw143 k0_h1

def k0_chk144 (k0_t1 : Fin k0_t1_loop.trips) (v841 : IVec S16 32) (v872 : IVec S16 32) : Prop :=
  (∀ (k0_h1 : k0_cond1 k0_t1 = 1#1), ∀ a x, ((![v841, v872] : Fin 2 → IVec S16 32) a x).toNat < S512x16.size a)
theorem k0_idx144_inb : ∀ (k0_t1 : Fin k0_t1_loop.trips) (v841 : IVec S16 32) (v872 : IVec S16 32) (k0_hw144 : k0_chk144 k0_t1 v841 v872), ∀ (k0_h1 : k0_cond1 k0_t1 = 1#1), ∀ a x, ((![v841, v872] : Fin 2 → IVec S16 32) a x).toNat < S512x16.size a := fun k0_t1 v841 v872 k0_hw144 k0_h1 => k0_hw144 k0_h1

def k0_chk145 (k0_t1 : Fin k0_t1_loop.trips) (v940 : IVec S16 32) (v941 : IVec S16 32) : Prop :=
  (∀ (k0_h1 : k0_cond1 k0_t1 = 1#1), ∀ a x, ((![v940, v941] : Fin 2 → IVec S16 32) a x).toNat < S512x16.size a)
theorem k0_idx145_inb : ∀ (k0_t1 : Fin k0_t1_loop.trips) (v940 : IVec S16 32) (v941 : IVec S16 32) (k0_hw145 : k0_chk145 k0_t1 v940 v941), ∀ (k0_h1 : k0_cond1 k0_t1 = 1#1), ∀ a x, ((![v940, v941] : Fin 2 → IVec S16 32) a x).toNat < S512x16.size a := fun k0_t1 v940 v941 k0_hw145 k0_h1 => k0_hw145 k0_h1

def k0_chk146 (k0_t1 : Fin k0_t1_loop.trips) (v940 : IVec S16 32) (v943 : IVec S16 32) : Prop :=
  (∀ (k0_h1 : k0_cond1 k0_t1 = 1#1), ∀ a x, ((![v940, v943] : Fin 2 → IVec S16 32) a x).toNat < S512x16.size a)
theorem k0_idx146_inb : ∀ (k0_t1 : Fin k0_t1_loop.trips) (v940 : IVec S16 32) (v943 : IVec S16 32) (k0_hw146 : k0_chk146 k0_t1 v940 v943), ∀ (k0_h1 : k0_cond1 k0_t1 = 1#1), ∀ a x, ((![v940, v943] : Fin 2 → IVec S16 32) a x).toNat < S512x16.size a := fun k0_t1 v940 v943 k0_hw146 k0_h1 => k0_hw146 k0_h1

def k0_chk147 (k0_t1 : Fin k0_t1_loop.trips) (v940 : IVec S16 32) (v945 : IVec S16 32) : Prop :=
  (∀ (k0_h1 : k0_cond1 k0_t1 = 1#1), ∀ a x, ((![v940, v945] : Fin 2 → IVec S16 32) a x).toNat < S512x16.size a)
theorem k0_idx147_inb : ∀ (k0_t1 : Fin k0_t1_loop.trips) (v940 : IVec S16 32) (v945 : IVec S16 32) (k0_hw147 : k0_chk147 k0_t1 v940 v945), ∀ (k0_h1 : k0_cond1 k0_t1 = 1#1), ∀ a x, ((![v940, v945] : Fin 2 → IVec S16 32) a x).toNat < S512x16.size a := fun k0_t1 v940 v945 k0_hw147 k0_h1 => k0_hw147 k0_h1

def k0_chk148 (k0_t1 : Fin k0_t1_loop.trips) (v940 : IVec S16 32) (v947 : IVec S16 32) : Prop :=
  (∀ (k0_h1 : k0_cond1 k0_t1 = 1#1), ∀ a x, ((![v940, v947] : Fin 2 → IVec S16 32) a x).toNat < S512x16.size a)
theorem k0_idx148_inb : ∀ (k0_t1 : Fin k0_t1_loop.trips) (v940 : IVec S16 32) (v947 : IVec S16 32) (k0_hw148 : k0_chk148 k0_t1 v940 v947), ∀ (k0_h1 : k0_cond1 k0_t1 = 1#1), ∀ a x, ((![v940, v947] : Fin 2 → IVec S16 32) a x).toNat < S512x16.size a := fun k0_t1 v940 v947 k0_hw148 k0_h1 => k0_hw148 k0_h1

def k0_chk149 (k0_t1 : Fin k0_t1_loop.trips) (v940 : IVec S16 32) (v949 : IVec S16 32) : Prop :=
  (∀ (k0_h1 : k0_cond1 k0_t1 = 1#1), ∀ a x, ((![v940, v949] : Fin 2 → IVec S16 32) a x).toNat < S512x16.size a)
theorem k0_idx149_inb : ∀ (k0_t1 : Fin k0_t1_loop.trips) (v940 : IVec S16 32) (v949 : IVec S16 32) (k0_hw149 : k0_chk149 k0_t1 v940 v949), ∀ (k0_h1 : k0_cond1 k0_t1 = 1#1), ∀ a x, ((![v940, v949] : Fin 2 → IVec S16 32) a x).toNat < S512x16.size a := fun k0_t1 v940 v949 k0_hw149 k0_h1 => k0_hw149 k0_h1

def k0_chk150 (k0_t1 : Fin k0_t1_loop.trips) (v940 : IVec S16 32) (v951 : IVec S16 32) : Prop :=
  (∀ (k0_h1 : k0_cond1 k0_t1 = 1#1), ∀ a x, ((![v940, v951] : Fin 2 → IVec S16 32) a x).toNat < S512x16.size a)
theorem k0_idx150_inb : ∀ (k0_t1 : Fin k0_t1_loop.trips) (v940 : IVec S16 32) (v951 : IVec S16 32) (k0_hw150 : k0_chk150 k0_t1 v940 v951), ∀ (k0_h1 : k0_cond1 k0_t1 = 1#1), ∀ a x, ((![v940, v951] : Fin 2 → IVec S16 32) a x).toNat < S512x16.size a := fun k0_t1 v940 v951 k0_hw150 k0_h1 => k0_hw150 k0_h1

def k0_chk151 (k0_t1 : Fin k0_t1_loop.trips) (v940 : IVec S16 32) (v953 : IVec S16 32) : Prop :=
  (∀ (k0_h1 : k0_cond1 k0_t1 = 1#1), ∀ a x, ((![v940, v953] : Fin 2 → IVec S16 32) a x).toNat < S512x16.size a)
theorem k0_idx151_inb : ∀ (k0_t1 : Fin k0_t1_loop.trips) (v940 : IVec S16 32) (v953 : IVec S16 32) (k0_hw151 : k0_chk151 k0_t1 v940 v953), ∀ (k0_h1 : k0_cond1 k0_t1 = 1#1), ∀ a x, ((![v940, v953] : Fin 2 → IVec S16 32) a x).toNat < S512x16.size a := fun k0_t1 v940 v953 k0_hw151 k0_h1 => k0_hw151 k0_h1

def k0_chk152 (k0_t1 : Fin k0_t1_loop.trips) (v940 : IVec S16 32) (v955 : IVec S16 32) : Prop :=
  (∀ (k0_h1 : k0_cond1 k0_t1 = 1#1), ∀ a x, ((![v940, v955] : Fin 2 → IVec S16 32) a x).toNat < S512x16.size a)
theorem k0_idx152_inb : ∀ (k0_t1 : Fin k0_t1_loop.trips) (v940 : IVec S16 32) (v955 : IVec S16 32) (k0_hw152 : k0_chk152 k0_t1 v940 v955), ∀ (k0_h1 : k0_cond1 k0_t1 = 1#1), ∀ a x, ((![v940, v955] : Fin 2 → IVec S16 32) a x).toNat < S512x16.size a := fun k0_t1 v940 v955 k0_hw152 k0_h1 => k0_hw152 k0_h1

def k0_chk153 (k0_t1 : Fin k0_t1_loop.trips) (v940 : IVec S16 32) (v957 : IVec S16 32) : Prop :=
  (∀ (k0_h1 : k0_cond1 k0_t1 = 1#1), ∀ a x, ((![v940, v957] : Fin 2 → IVec S16 32) a x).toNat < S512x16.size a)
theorem k0_idx153_inb : ∀ (k0_t1 : Fin k0_t1_loop.trips) (v940 : IVec S16 32) (v957 : IVec S16 32) (k0_hw153 : k0_chk153 k0_t1 v940 v957), ∀ (k0_h1 : k0_cond1 k0_t1 = 1#1), ∀ a x, ((![v940, v957] : Fin 2 → IVec S16 32) a x).toNat < S512x16.size a := fun k0_t1 v940 v957 k0_hw153 k0_h1 => k0_hw153 k0_h1

def k0_chk154 (k0_t1 : Fin k0_t1_loop.trips) (v940 : IVec S16 32) (v959 : IVec S16 32) : Prop :=
  (∀ (k0_h1 : k0_cond1 k0_t1 = 1#1), ∀ a x, ((![v940, v959] : Fin 2 → IVec S16 32) a x).toNat < S512x16.size a)
theorem k0_idx154_inb : ∀ (k0_t1 : Fin k0_t1_loop.trips) (v940 : IVec S16 32) (v959 : IVec S16 32) (k0_hw154 : k0_chk154 k0_t1 v940 v959), ∀ (k0_h1 : k0_cond1 k0_t1 = 1#1), ∀ a x, ((![v940, v959] : Fin 2 → IVec S16 32) a x).toNat < S512x16.size a := fun k0_t1 v940 v959 k0_hw154 k0_h1 => k0_hw154 k0_h1

def k0_chk155 (k0_t1 : Fin k0_t1_loop.trips) (v940 : IVec S16 32) (v961 : IVec S16 32) : Prop :=
  (∀ (k0_h1 : k0_cond1 k0_t1 = 1#1), ∀ a x, ((![v940, v961] : Fin 2 → IVec S16 32) a x).toNat < S512x16.size a)
theorem k0_idx155_inb : ∀ (k0_t1 : Fin k0_t1_loop.trips) (v940 : IVec S16 32) (v961 : IVec S16 32) (k0_hw155 : k0_chk155 k0_t1 v940 v961), ∀ (k0_h1 : k0_cond1 k0_t1 = 1#1), ∀ a x, ((![v940, v961] : Fin 2 → IVec S16 32) a x).toNat < S512x16.size a := fun k0_t1 v940 v961 k0_hw155 k0_h1 => k0_hw155 k0_h1

def k0_chk156 (k0_t1 : Fin k0_t1_loop.trips) (v940 : IVec S16 32) (v963 : IVec S16 32) : Prop :=
  (∀ (k0_h1 : k0_cond1 k0_t1 = 1#1), ∀ a x, ((![v940, v963] : Fin 2 → IVec S16 32) a x).toNat < S512x16.size a)
theorem k0_idx156_inb : ∀ (k0_t1 : Fin k0_t1_loop.trips) (v940 : IVec S16 32) (v963 : IVec S16 32) (k0_hw156 : k0_chk156 k0_t1 v940 v963), ∀ (k0_h1 : k0_cond1 k0_t1 = 1#1), ∀ a x, ((![v940, v963] : Fin 2 → IVec S16 32) a x).toNat < S512x16.size a := fun k0_t1 v940 v963 k0_hw156 k0_h1 => k0_hw156 k0_h1

def k0_chk157 (k0_t1 : Fin k0_t1_loop.trips) (v940 : IVec S16 32) (v965 : IVec S16 32) : Prop :=
  (∀ (k0_h1 : k0_cond1 k0_t1 = 1#1), ∀ a x, ((![v940, v965] : Fin 2 → IVec S16 32) a x).toNat < S512x16.size a)
theorem k0_idx157_inb : ∀ (k0_t1 : Fin k0_t1_loop.trips) (v940 : IVec S16 32) (v965 : IVec S16 32) (k0_hw157 : k0_chk157 k0_t1 v940 v965), ∀ (k0_h1 : k0_cond1 k0_t1 = 1#1), ∀ a x, ((![v940, v965] : Fin 2 → IVec S16 32) a x).toNat < S512x16.size a := fun k0_t1 v940 v965 k0_hw157 k0_h1 => k0_hw157 k0_h1

def k0_chk158 (k0_t1 : Fin k0_t1_loop.trips) (v940 : IVec S16 32) (v967 : IVec S16 32) : Prop :=
  (∀ (k0_h1 : k0_cond1 k0_t1 = 1#1), ∀ a x, ((![v940, v967] : Fin 2 → IVec S16 32) a x).toNat < S512x16.size a)
theorem k0_idx158_inb : ∀ (k0_t1 : Fin k0_t1_loop.trips) (v940 : IVec S16 32) (v967 : IVec S16 32) (k0_hw158 : k0_chk158 k0_t1 v940 v967), ∀ (k0_h1 : k0_cond1 k0_t1 = 1#1), ∀ a x, ((![v940, v967] : Fin 2 → IVec S16 32) a x).toNat < S512x16.size a := fun k0_t1 v940 v967 k0_hw158 k0_h1 => k0_hw158 k0_h1

def k0_chk159 (k0_t1 : Fin k0_t1_loop.trips) (v940 : IVec S16 32) (v969 : IVec S16 32) : Prop :=
  (∀ (k0_h1 : k0_cond1 k0_t1 = 1#1), ∀ a x, ((![v940, v969] : Fin 2 → IVec S16 32) a x).toNat < S512x16.size a)
theorem k0_idx159_inb : ∀ (k0_t1 : Fin k0_t1_loop.trips) (v940 : IVec S16 32) (v969 : IVec S16 32) (k0_hw159 : k0_chk159 k0_t1 v940 v969), ∀ (k0_h1 : k0_cond1 k0_t1 = 1#1), ∀ a x, ((![v940, v969] : Fin 2 → IVec S16 32) a x).toNat < S512x16.size a := fun k0_t1 v940 v969 k0_hw159 k0_h1 => k0_hw159 k0_h1

def k0_chk160 (k0_t1 : Fin k0_t1_loop.trips) (v940 : IVec S16 32) (v971 : IVec S16 32) : Prop :=
  (∀ (k0_h1 : k0_cond1 k0_t1 = 1#1), ∀ a x, ((![v940, v971] : Fin 2 → IVec S16 32) a x).toNat < S512x16.size a)
theorem k0_idx160_inb : ∀ (k0_t1 : Fin k0_t1_loop.trips) (v940 : IVec S16 32) (v971 : IVec S16 32) (k0_hw160 : k0_chk160 k0_t1 v940 v971), ∀ (k0_h1 : k0_cond1 k0_t1 = 1#1), ∀ a x, ((![v940, v971] : Fin 2 → IVec S16 32) a x).toNat < S512x16.size a := fun k0_t1 v940 v971 k0_hw160 k0_h1 => k0_hw160 k0_h1

def k0_chk161 (k0_t1 : Fin k0_t1_loop.trips) (v1039 : IVec S16 32) (v1040 : IVec S16 32) : Prop :=
  (∀ (k0_h1 : k0_cond1 k0_t1 = 1#1), ∀ a x, ((![v1039, v1040] : Fin 2 → IVec S16 32) a x).toNat < S512x16.size a)
theorem k0_idx161_inb : ∀ (k0_t1 : Fin k0_t1_loop.trips) (v1039 : IVec S16 32) (v1040 : IVec S16 32) (k0_hw161 : k0_chk161 k0_t1 v1039 v1040), ∀ (k0_h1 : k0_cond1 k0_t1 = 1#1), ∀ a x, ((![v1039, v1040] : Fin 2 → IVec S16 32) a x).toNat < S512x16.size a := fun k0_t1 v1039 v1040 k0_hw161 k0_h1 => k0_hw161 k0_h1

def k0_chk162 (k0_t1 : Fin k0_t1_loop.trips) (v1039 : IVec S16 32) (v1042 : IVec S16 32) : Prop :=
  (∀ (k0_h1 : k0_cond1 k0_t1 = 1#1), ∀ a x, ((![v1039, v1042] : Fin 2 → IVec S16 32) a x).toNat < S512x16.size a)
theorem k0_idx162_inb : ∀ (k0_t1 : Fin k0_t1_loop.trips) (v1039 : IVec S16 32) (v1042 : IVec S16 32) (k0_hw162 : k0_chk162 k0_t1 v1039 v1042), ∀ (k0_h1 : k0_cond1 k0_t1 = 1#1), ∀ a x, ((![v1039, v1042] : Fin 2 → IVec S16 32) a x).toNat < S512x16.size a := fun k0_t1 v1039 v1042 k0_hw162 k0_h1 => k0_hw162 k0_h1

def k0_chk163 (k0_t1 : Fin k0_t1_loop.trips) (v1039 : IVec S16 32) (v1044 : IVec S16 32) : Prop :=
  (∀ (k0_h1 : k0_cond1 k0_t1 = 1#1), ∀ a x, ((![v1039, v1044] : Fin 2 → IVec S16 32) a x).toNat < S512x16.size a)
theorem k0_idx163_inb : ∀ (k0_t1 : Fin k0_t1_loop.trips) (v1039 : IVec S16 32) (v1044 : IVec S16 32) (k0_hw163 : k0_chk163 k0_t1 v1039 v1044), ∀ (k0_h1 : k0_cond1 k0_t1 = 1#1), ∀ a x, ((![v1039, v1044] : Fin 2 → IVec S16 32) a x).toNat < S512x16.size a := fun k0_t1 v1039 v1044 k0_hw163 k0_h1 => k0_hw163 k0_h1

def k0_chk164 (k0_t1 : Fin k0_t1_loop.trips) (v1039 : IVec S16 32) (v1046 : IVec S16 32) : Prop :=
  (∀ (k0_h1 : k0_cond1 k0_t1 = 1#1), ∀ a x, ((![v1039, v1046] : Fin 2 → IVec S16 32) a x).toNat < S512x16.size a)
theorem k0_idx164_inb : ∀ (k0_t1 : Fin k0_t1_loop.trips) (v1039 : IVec S16 32) (v1046 : IVec S16 32) (k0_hw164 : k0_chk164 k0_t1 v1039 v1046), ∀ (k0_h1 : k0_cond1 k0_t1 = 1#1), ∀ a x, ((![v1039, v1046] : Fin 2 → IVec S16 32) a x).toNat < S512x16.size a := fun k0_t1 v1039 v1046 k0_hw164 k0_h1 => k0_hw164 k0_h1

def k0_chk165 (k0_t1 : Fin k0_t1_loop.trips) (v1039 : IVec S16 32) (v1048 : IVec S16 32) : Prop :=
  (∀ (k0_h1 : k0_cond1 k0_t1 = 1#1), ∀ a x, ((![v1039, v1048] : Fin 2 → IVec S16 32) a x).toNat < S512x16.size a)
theorem k0_idx165_inb : ∀ (k0_t1 : Fin k0_t1_loop.trips) (v1039 : IVec S16 32) (v1048 : IVec S16 32) (k0_hw165 : k0_chk165 k0_t1 v1039 v1048), ∀ (k0_h1 : k0_cond1 k0_t1 = 1#1), ∀ a x, ((![v1039, v1048] : Fin 2 → IVec S16 32) a x).toNat < S512x16.size a := fun k0_t1 v1039 v1048 k0_hw165 k0_h1 => k0_hw165 k0_h1

def k0_chk166 (k0_t1 : Fin k0_t1_loop.trips) (v1039 : IVec S16 32) (v1050 : IVec S16 32) : Prop :=
  (∀ (k0_h1 : k0_cond1 k0_t1 = 1#1), ∀ a x, ((![v1039, v1050] : Fin 2 → IVec S16 32) a x).toNat < S512x16.size a)
theorem k0_idx166_inb : ∀ (k0_t1 : Fin k0_t1_loop.trips) (v1039 : IVec S16 32) (v1050 : IVec S16 32) (k0_hw166 : k0_chk166 k0_t1 v1039 v1050), ∀ (k0_h1 : k0_cond1 k0_t1 = 1#1), ∀ a x, ((![v1039, v1050] : Fin 2 → IVec S16 32) a x).toNat < S512x16.size a := fun k0_t1 v1039 v1050 k0_hw166 k0_h1 => k0_hw166 k0_h1

def k0_chk167 (k0_t1 : Fin k0_t1_loop.trips) (v1039 : IVec S16 32) (v1052 : IVec S16 32) : Prop :=
  (∀ (k0_h1 : k0_cond1 k0_t1 = 1#1), ∀ a x, ((![v1039, v1052] : Fin 2 → IVec S16 32) a x).toNat < S512x16.size a)
theorem k0_idx167_inb : ∀ (k0_t1 : Fin k0_t1_loop.trips) (v1039 : IVec S16 32) (v1052 : IVec S16 32) (k0_hw167 : k0_chk167 k0_t1 v1039 v1052), ∀ (k0_h1 : k0_cond1 k0_t1 = 1#1), ∀ a x, ((![v1039, v1052] : Fin 2 → IVec S16 32) a x).toNat < S512x16.size a := fun k0_t1 v1039 v1052 k0_hw167 k0_h1 => k0_hw167 k0_h1

def k0_chk168 (k0_t1 : Fin k0_t1_loop.trips) (v1039 : IVec S16 32) (v1054 : IVec S16 32) : Prop :=
  (∀ (k0_h1 : k0_cond1 k0_t1 = 1#1), ∀ a x, ((![v1039, v1054] : Fin 2 → IVec S16 32) a x).toNat < S512x16.size a)
theorem k0_idx168_inb : ∀ (k0_t1 : Fin k0_t1_loop.trips) (v1039 : IVec S16 32) (v1054 : IVec S16 32) (k0_hw168 : k0_chk168 k0_t1 v1039 v1054), ∀ (k0_h1 : k0_cond1 k0_t1 = 1#1), ∀ a x, ((![v1039, v1054] : Fin 2 → IVec S16 32) a x).toNat < S512x16.size a := fun k0_t1 v1039 v1054 k0_hw168 k0_h1 => k0_hw168 k0_h1

def k0_chk169 (k0_t1 : Fin k0_t1_loop.trips) (v1039 : IVec S16 32) (v1056 : IVec S16 32) : Prop :=
  (∀ (k0_h1 : k0_cond1 k0_t1 = 1#1), ∀ a x, ((![v1039, v1056] : Fin 2 → IVec S16 32) a x).toNat < S512x16.size a)
theorem k0_idx169_inb : ∀ (k0_t1 : Fin k0_t1_loop.trips) (v1039 : IVec S16 32) (v1056 : IVec S16 32) (k0_hw169 : k0_chk169 k0_t1 v1039 v1056), ∀ (k0_h1 : k0_cond1 k0_t1 = 1#1), ∀ a x, ((![v1039, v1056] : Fin 2 → IVec S16 32) a x).toNat < S512x16.size a := fun k0_t1 v1039 v1056 k0_hw169 k0_h1 => k0_hw169 k0_h1

def k0_chk170 (k0_t1 : Fin k0_t1_loop.trips) (v1039 : IVec S16 32) (v1058 : IVec S16 32) : Prop :=
  (∀ (k0_h1 : k0_cond1 k0_t1 = 1#1), ∀ a x, ((![v1039, v1058] : Fin 2 → IVec S16 32) a x).toNat < S512x16.size a)
theorem k0_idx170_inb : ∀ (k0_t1 : Fin k0_t1_loop.trips) (v1039 : IVec S16 32) (v1058 : IVec S16 32) (k0_hw170 : k0_chk170 k0_t1 v1039 v1058), ∀ (k0_h1 : k0_cond1 k0_t1 = 1#1), ∀ a x, ((![v1039, v1058] : Fin 2 → IVec S16 32) a x).toNat < S512x16.size a := fun k0_t1 v1039 v1058 k0_hw170 k0_h1 => k0_hw170 k0_h1

def k0_chk171 (k0_t1 : Fin k0_t1_loop.trips) (v1039 : IVec S16 32) (v1060 : IVec S16 32) : Prop :=
  (∀ (k0_h1 : k0_cond1 k0_t1 = 1#1), ∀ a x, ((![v1039, v1060] : Fin 2 → IVec S16 32) a x).toNat < S512x16.size a)
theorem k0_idx171_inb : ∀ (k0_t1 : Fin k0_t1_loop.trips) (v1039 : IVec S16 32) (v1060 : IVec S16 32) (k0_hw171 : k0_chk171 k0_t1 v1039 v1060), ∀ (k0_h1 : k0_cond1 k0_t1 = 1#1), ∀ a x, ((![v1039, v1060] : Fin 2 → IVec S16 32) a x).toNat < S512x16.size a := fun k0_t1 v1039 v1060 k0_hw171 k0_h1 => k0_hw171 k0_h1

def k0_chk172 (k0_t1 : Fin k0_t1_loop.trips) (v1039 : IVec S16 32) (v1062 : IVec S16 32) : Prop :=
  (∀ (k0_h1 : k0_cond1 k0_t1 = 1#1), ∀ a x, ((![v1039, v1062] : Fin 2 → IVec S16 32) a x).toNat < S512x16.size a)
theorem k0_idx172_inb : ∀ (k0_t1 : Fin k0_t1_loop.trips) (v1039 : IVec S16 32) (v1062 : IVec S16 32) (k0_hw172 : k0_chk172 k0_t1 v1039 v1062), ∀ (k0_h1 : k0_cond1 k0_t1 = 1#1), ∀ a x, ((![v1039, v1062] : Fin 2 → IVec S16 32) a x).toNat < S512x16.size a := fun k0_t1 v1039 v1062 k0_hw172 k0_h1 => k0_hw172 k0_h1

def k0_chk173 (k0_t1 : Fin k0_t1_loop.trips) (v1039 : IVec S16 32) (v1064 : IVec S16 32) : Prop :=
  (∀ (k0_h1 : k0_cond1 k0_t1 = 1#1), ∀ a x, ((![v1039, v1064] : Fin 2 → IVec S16 32) a x).toNat < S512x16.size a)
theorem k0_idx173_inb : ∀ (k0_t1 : Fin k0_t1_loop.trips) (v1039 : IVec S16 32) (v1064 : IVec S16 32) (k0_hw173 : k0_chk173 k0_t1 v1039 v1064), ∀ (k0_h1 : k0_cond1 k0_t1 = 1#1), ∀ a x, ((![v1039, v1064] : Fin 2 → IVec S16 32) a x).toNat < S512x16.size a := fun k0_t1 v1039 v1064 k0_hw173 k0_h1 => k0_hw173 k0_h1

def k0_chk174 (k0_t1 : Fin k0_t1_loop.trips) (v1039 : IVec S16 32) (v1066 : IVec S16 32) : Prop :=
  (∀ (k0_h1 : k0_cond1 k0_t1 = 1#1), ∀ a x, ((![v1039, v1066] : Fin 2 → IVec S16 32) a x).toNat < S512x16.size a)
theorem k0_idx174_inb : ∀ (k0_t1 : Fin k0_t1_loop.trips) (v1039 : IVec S16 32) (v1066 : IVec S16 32) (k0_hw174 : k0_chk174 k0_t1 v1039 v1066), ∀ (k0_h1 : k0_cond1 k0_t1 = 1#1), ∀ a x, ((![v1039, v1066] : Fin 2 → IVec S16 32) a x).toNat < S512x16.size a := fun k0_t1 v1039 v1066 k0_hw174 k0_h1 => k0_hw174 k0_h1

def k0_chk175 (k0_t1 : Fin k0_t1_loop.trips) (v1039 : IVec S16 32) (v1068 : IVec S16 32) : Prop :=
  (∀ (k0_h1 : k0_cond1 k0_t1 = 1#1), ∀ a x, ((![v1039, v1068] : Fin 2 → IVec S16 32) a x).toNat < S512x16.size a)
theorem k0_idx175_inb : ∀ (k0_t1 : Fin k0_t1_loop.trips) (v1039 : IVec S16 32) (v1068 : IVec S16 32) (k0_hw175 : k0_chk175 k0_t1 v1039 v1068), ∀ (k0_h1 : k0_cond1 k0_t1 = 1#1), ∀ a x, ((![v1039, v1068] : Fin 2 → IVec S16 32) a x).toNat < S512x16.size a := fun k0_t1 v1039 v1068 k0_hw175 k0_h1 => k0_hw175 k0_h1

def k0_chk176 (k0_t1 : Fin k0_t1_loop.trips) (v1039 : IVec S16 32) (v1070 : IVec S16 32) : Prop :=
  (∀ (k0_h1 : k0_cond1 k0_t1 = 1#1), ∀ a x, ((![v1039, v1070] : Fin 2 → IVec S16 32) a x).toNat < S512x16.size a)
theorem k0_idx176_inb : ∀ (k0_t1 : Fin k0_t1_loop.trips) (v1039 : IVec S16 32) (v1070 : IVec S16 32) (k0_hw176 : k0_chk176 k0_t1 v1039 v1070), ∀ (k0_h1 : k0_cond1 k0_t1 = 1#1), ∀ a x, ((![v1039, v1070] : Fin 2 → IVec S16 32) a x).toNat < S512x16.size a := fun k0_t1 v1039 v1070 k0_hw176 k0_h1 => k0_hw176 k0_h1

def k0_chk177 (k0_t1 : Fin k0_t1_loop.trips) (v1138 : IVec S16 32) (v1139 : IVec S16 32) : Prop :=
  (∀ (k0_h1 : k0_cond1 k0_t1 = 1#1), ∀ a x, ((![v1138, v1139] : Fin 2 → IVec S16 32) a x).toNat < S512x16.size a)
theorem k0_idx177_inb : ∀ (k0_t1 : Fin k0_t1_loop.trips) (v1138 : IVec S16 32) (v1139 : IVec S16 32) (k0_hw177 : k0_chk177 k0_t1 v1138 v1139), ∀ (k0_h1 : k0_cond1 k0_t1 = 1#1), ∀ a x, ((![v1138, v1139] : Fin 2 → IVec S16 32) a x).toNat < S512x16.size a := fun k0_t1 v1138 v1139 k0_hw177 k0_h1 => k0_hw177 k0_h1

def k0_chk178 (k0_t1 : Fin k0_t1_loop.trips) (v1138 : IVec S16 32) (v1141 : IVec S16 32) : Prop :=
  (∀ (k0_h1 : k0_cond1 k0_t1 = 1#1), ∀ a x, ((![v1138, v1141] : Fin 2 → IVec S16 32) a x).toNat < S512x16.size a)
theorem k0_idx178_inb : ∀ (k0_t1 : Fin k0_t1_loop.trips) (v1138 : IVec S16 32) (v1141 : IVec S16 32) (k0_hw178 : k0_chk178 k0_t1 v1138 v1141), ∀ (k0_h1 : k0_cond1 k0_t1 = 1#1), ∀ a x, ((![v1138, v1141] : Fin 2 → IVec S16 32) a x).toNat < S512x16.size a := fun k0_t1 v1138 v1141 k0_hw178 k0_h1 => k0_hw178 k0_h1

def k0_chk179 (k0_t1 : Fin k0_t1_loop.trips) (v1138 : IVec S16 32) (v1143 : IVec S16 32) : Prop :=
  (∀ (k0_h1 : k0_cond1 k0_t1 = 1#1), ∀ a x, ((![v1138, v1143] : Fin 2 → IVec S16 32) a x).toNat < S512x16.size a)
theorem k0_idx179_inb : ∀ (k0_t1 : Fin k0_t1_loop.trips) (v1138 : IVec S16 32) (v1143 : IVec S16 32) (k0_hw179 : k0_chk179 k0_t1 v1138 v1143), ∀ (k0_h1 : k0_cond1 k0_t1 = 1#1), ∀ a x, ((![v1138, v1143] : Fin 2 → IVec S16 32) a x).toNat < S512x16.size a := fun k0_t1 v1138 v1143 k0_hw179 k0_h1 => k0_hw179 k0_h1

def k0_chk180 (k0_t1 : Fin k0_t1_loop.trips) (v1138 : IVec S16 32) (v1145 : IVec S16 32) : Prop :=
  (∀ (k0_h1 : k0_cond1 k0_t1 = 1#1), ∀ a x, ((![v1138, v1145] : Fin 2 → IVec S16 32) a x).toNat < S512x16.size a)
theorem k0_idx180_inb : ∀ (k0_t1 : Fin k0_t1_loop.trips) (v1138 : IVec S16 32) (v1145 : IVec S16 32) (k0_hw180 : k0_chk180 k0_t1 v1138 v1145), ∀ (k0_h1 : k0_cond1 k0_t1 = 1#1), ∀ a x, ((![v1138, v1145] : Fin 2 → IVec S16 32) a x).toNat < S512x16.size a := fun k0_t1 v1138 v1145 k0_hw180 k0_h1 => k0_hw180 k0_h1

def k0_chk181 (k0_t1 : Fin k0_t1_loop.trips) (v1138 : IVec S16 32) (v1147 : IVec S16 32) : Prop :=
  (∀ (k0_h1 : k0_cond1 k0_t1 = 1#1), ∀ a x, ((![v1138, v1147] : Fin 2 → IVec S16 32) a x).toNat < S512x16.size a)
theorem k0_idx181_inb : ∀ (k0_t1 : Fin k0_t1_loop.trips) (v1138 : IVec S16 32) (v1147 : IVec S16 32) (k0_hw181 : k0_chk181 k0_t1 v1138 v1147), ∀ (k0_h1 : k0_cond1 k0_t1 = 1#1), ∀ a x, ((![v1138, v1147] : Fin 2 → IVec S16 32) a x).toNat < S512x16.size a := fun k0_t1 v1138 v1147 k0_hw181 k0_h1 => k0_hw181 k0_h1

def k0_chk182 (k0_t1 : Fin k0_t1_loop.trips) (v1138 : IVec S16 32) (v1149 : IVec S16 32) : Prop :=
  (∀ (k0_h1 : k0_cond1 k0_t1 = 1#1), ∀ a x, ((![v1138, v1149] : Fin 2 → IVec S16 32) a x).toNat < S512x16.size a)
theorem k0_idx182_inb : ∀ (k0_t1 : Fin k0_t1_loop.trips) (v1138 : IVec S16 32) (v1149 : IVec S16 32) (k0_hw182 : k0_chk182 k0_t1 v1138 v1149), ∀ (k0_h1 : k0_cond1 k0_t1 = 1#1), ∀ a x, ((![v1138, v1149] : Fin 2 → IVec S16 32) a x).toNat < S512x16.size a := fun k0_t1 v1138 v1149 k0_hw182 k0_h1 => k0_hw182 k0_h1

def k0_chk183 (k0_t1 : Fin k0_t1_loop.trips) (v1138 : IVec S16 32) (v1151 : IVec S16 32) : Prop :=
  (∀ (k0_h1 : k0_cond1 k0_t1 = 1#1), ∀ a x, ((![v1138, v1151] : Fin 2 → IVec S16 32) a x).toNat < S512x16.size a)
theorem k0_idx183_inb : ∀ (k0_t1 : Fin k0_t1_loop.trips) (v1138 : IVec S16 32) (v1151 : IVec S16 32) (k0_hw183 : k0_chk183 k0_t1 v1138 v1151), ∀ (k0_h1 : k0_cond1 k0_t1 = 1#1), ∀ a x, ((![v1138, v1151] : Fin 2 → IVec S16 32) a x).toNat < S512x16.size a := fun k0_t1 v1138 v1151 k0_hw183 k0_h1 => k0_hw183 k0_h1

def k0_chk184 (k0_t1 : Fin k0_t1_loop.trips) (v1138 : IVec S16 32) (v1153 : IVec S16 32) : Prop :=
  (∀ (k0_h1 : k0_cond1 k0_t1 = 1#1), ∀ a x, ((![v1138, v1153] : Fin 2 → IVec S16 32) a x).toNat < S512x16.size a)
theorem k0_idx184_inb : ∀ (k0_t1 : Fin k0_t1_loop.trips) (v1138 : IVec S16 32) (v1153 : IVec S16 32) (k0_hw184 : k0_chk184 k0_t1 v1138 v1153), ∀ (k0_h1 : k0_cond1 k0_t1 = 1#1), ∀ a x, ((![v1138, v1153] : Fin 2 → IVec S16 32) a x).toNat < S512x16.size a := fun k0_t1 v1138 v1153 k0_hw184 k0_h1 => k0_hw184 k0_h1

def k0_chk185 (k0_t1 : Fin k0_t1_loop.trips) (v1138 : IVec S16 32) (v1155 : IVec S16 32) : Prop :=
  (∀ (k0_h1 : k0_cond1 k0_t1 = 1#1), ∀ a x, ((![v1138, v1155] : Fin 2 → IVec S16 32) a x).toNat < S512x16.size a)
theorem k0_idx185_inb : ∀ (k0_t1 : Fin k0_t1_loop.trips) (v1138 : IVec S16 32) (v1155 : IVec S16 32) (k0_hw185 : k0_chk185 k0_t1 v1138 v1155), ∀ (k0_h1 : k0_cond1 k0_t1 = 1#1), ∀ a x, ((![v1138, v1155] : Fin 2 → IVec S16 32) a x).toNat < S512x16.size a := fun k0_t1 v1138 v1155 k0_hw185 k0_h1 => k0_hw185 k0_h1

def k0_chk186 (k0_t1 : Fin k0_t1_loop.trips) (v1138 : IVec S16 32) (v1157 : IVec S16 32) : Prop :=
  (∀ (k0_h1 : k0_cond1 k0_t1 = 1#1), ∀ a x, ((![v1138, v1157] : Fin 2 → IVec S16 32) a x).toNat < S512x16.size a)
theorem k0_idx186_inb : ∀ (k0_t1 : Fin k0_t1_loop.trips) (v1138 : IVec S16 32) (v1157 : IVec S16 32) (k0_hw186 : k0_chk186 k0_t1 v1138 v1157), ∀ (k0_h1 : k0_cond1 k0_t1 = 1#1), ∀ a x, ((![v1138, v1157] : Fin 2 → IVec S16 32) a x).toNat < S512x16.size a := fun k0_t1 v1138 v1157 k0_hw186 k0_h1 => k0_hw186 k0_h1

def k0_chk187 (k0_t1 : Fin k0_t1_loop.trips) (v1138 : IVec S16 32) (v1159 : IVec S16 32) : Prop :=
  (∀ (k0_h1 : k0_cond1 k0_t1 = 1#1), ∀ a x, ((![v1138, v1159] : Fin 2 → IVec S16 32) a x).toNat < S512x16.size a)
theorem k0_idx187_inb : ∀ (k0_t1 : Fin k0_t1_loop.trips) (v1138 : IVec S16 32) (v1159 : IVec S16 32) (k0_hw187 : k0_chk187 k0_t1 v1138 v1159), ∀ (k0_h1 : k0_cond1 k0_t1 = 1#1), ∀ a x, ((![v1138, v1159] : Fin 2 → IVec S16 32) a x).toNat < S512x16.size a := fun k0_t1 v1138 v1159 k0_hw187 k0_h1 => k0_hw187 k0_h1

def k0_chk188 (k0_t1 : Fin k0_t1_loop.trips) (v1138 : IVec S16 32) (v1161 : IVec S16 32) : Prop :=
  (∀ (k0_h1 : k0_cond1 k0_t1 = 1#1), ∀ a x, ((![v1138, v1161] : Fin 2 → IVec S16 32) a x).toNat < S512x16.size a)
theorem k0_idx188_inb : ∀ (k0_t1 : Fin k0_t1_loop.trips) (v1138 : IVec S16 32) (v1161 : IVec S16 32) (k0_hw188 : k0_chk188 k0_t1 v1138 v1161), ∀ (k0_h1 : k0_cond1 k0_t1 = 1#1), ∀ a x, ((![v1138, v1161] : Fin 2 → IVec S16 32) a x).toNat < S512x16.size a := fun k0_t1 v1138 v1161 k0_hw188 k0_h1 => k0_hw188 k0_h1

def k0_chk189 (k0_t1 : Fin k0_t1_loop.trips) (v1138 : IVec S16 32) (v1163 : IVec S16 32) : Prop :=
  (∀ (k0_h1 : k0_cond1 k0_t1 = 1#1), ∀ a x, ((![v1138, v1163] : Fin 2 → IVec S16 32) a x).toNat < S512x16.size a)
theorem k0_idx189_inb : ∀ (k0_t1 : Fin k0_t1_loop.trips) (v1138 : IVec S16 32) (v1163 : IVec S16 32) (k0_hw189 : k0_chk189 k0_t1 v1138 v1163), ∀ (k0_h1 : k0_cond1 k0_t1 = 1#1), ∀ a x, ((![v1138, v1163] : Fin 2 → IVec S16 32) a x).toNat < S512x16.size a := fun k0_t1 v1138 v1163 k0_hw189 k0_h1 => k0_hw189 k0_h1

def k0_chk190 (k0_t1 : Fin k0_t1_loop.trips) (v1138 : IVec S16 32) (v1165 : IVec S16 32) : Prop :=
  (∀ (k0_h1 : k0_cond1 k0_t1 = 1#1), ∀ a x, ((![v1138, v1165] : Fin 2 → IVec S16 32) a x).toNat < S512x16.size a)
theorem k0_idx190_inb : ∀ (k0_t1 : Fin k0_t1_loop.trips) (v1138 : IVec S16 32) (v1165 : IVec S16 32) (k0_hw190 : k0_chk190 k0_t1 v1138 v1165), ∀ (k0_h1 : k0_cond1 k0_t1 = 1#1), ∀ a x, ((![v1138, v1165] : Fin 2 → IVec S16 32) a x).toNat < S512x16.size a := fun k0_t1 v1138 v1165 k0_hw190 k0_h1 => k0_hw190 k0_h1

def k0_chk191 (k0_t1 : Fin k0_t1_loop.trips) (v1138 : IVec S16 32) (v1167 : IVec S16 32) : Prop :=
  (∀ (k0_h1 : k0_cond1 k0_t1 = 1#1), ∀ a x, ((![v1138, v1167] : Fin 2 → IVec S16 32) a x).toNat < S512x16.size a)
theorem k0_idx191_inb : ∀ (k0_t1 : Fin k0_t1_loop.trips) (v1138 : IVec S16 32) (v1167 : IVec S16 32) (k0_hw191 : k0_chk191 k0_t1 v1138 v1167), ∀ (k0_h1 : k0_cond1 k0_t1 = 1#1), ∀ a x, ((![v1138, v1167] : Fin 2 → IVec S16 32) a x).toNat < S512x16.size a := fun k0_t1 v1138 v1167 k0_hw191 k0_h1 => k0_hw191 k0_h1

def k0_chk192 (k0_t1 : Fin k0_t1_loop.trips) (v1138 : IVec S16 32) (v1169 : IVec S16 32) : Prop :=
  (∀ (k0_h1 : k0_cond1 k0_t1 = 1#1), ∀ a x, ((![v1138, v1169] : Fin 2 → IVec S16 32) a x).toNat < S512x16.size a)
theorem k0_idx192_inb : ∀ (k0_t1 : Fin k0_t1_loop.trips) (v1138 : IVec S16 32) (v1169 : IVec S16 32) (k0_hw192 : k0_chk192 k0_t1 v1138 v1169), ∀ (k0_h1 : k0_cond1 k0_t1 = 1#1), ∀ a x, ((![v1138, v1169] : Fin 2 → IVec S16 32) a x).toNat < S512x16.size a := fun k0_t1 v1138 v1169 k0_hw192 k0_h1 => k0_hw192 k0_h1

def k0_chk193 (k0_t1 : Fin k0_t1_loop.trips) (v1237 : IVec S16 32) (v1238 : IVec S16 32) : Prop :=
  (∀ (k0_h1 : k0_cond1 k0_t1 = 1#1), ∀ a x, ((![v1237, v1238] : Fin 2 → IVec S16 32) a x).toNat < S512x16.size a)
theorem k0_idx193_inb : ∀ (k0_t1 : Fin k0_t1_loop.trips) (v1237 : IVec S16 32) (v1238 : IVec S16 32) (k0_hw193 : k0_chk193 k0_t1 v1237 v1238), ∀ (k0_h1 : k0_cond1 k0_t1 = 1#1), ∀ a x, ((![v1237, v1238] : Fin 2 → IVec S16 32) a x).toNat < S512x16.size a := fun k0_t1 v1237 v1238 k0_hw193 k0_h1 => k0_hw193 k0_h1

def k0_chk194 (k0_t1 : Fin k0_t1_loop.trips) (v1237 : IVec S16 32) (v1240 : IVec S16 32) : Prop :=
  (∀ (k0_h1 : k0_cond1 k0_t1 = 1#1), ∀ a x, ((![v1237, v1240] : Fin 2 → IVec S16 32) a x).toNat < S512x16.size a)
theorem k0_idx194_inb : ∀ (k0_t1 : Fin k0_t1_loop.trips) (v1237 : IVec S16 32) (v1240 : IVec S16 32) (k0_hw194 : k0_chk194 k0_t1 v1237 v1240), ∀ (k0_h1 : k0_cond1 k0_t1 = 1#1), ∀ a x, ((![v1237, v1240] : Fin 2 → IVec S16 32) a x).toNat < S512x16.size a := fun k0_t1 v1237 v1240 k0_hw194 k0_h1 => k0_hw194 k0_h1

def k0_chk195 (k0_t1 : Fin k0_t1_loop.trips) (v1237 : IVec S16 32) (v1242 : IVec S16 32) : Prop :=
  (∀ (k0_h1 : k0_cond1 k0_t1 = 1#1), ∀ a x, ((![v1237, v1242] : Fin 2 → IVec S16 32) a x).toNat < S512x16.size a)
theorem k0_idx195_inb : ∀ (k0_t1 : Fin k0_t1_loop.trips) (v1237 : IVec S16 32) (v1242 : IVec S16 32) (k0_hw195 : k0_chk195 k0_t1 v1237 v1242), ∀ (k0_h1 : k0_cond1 k0_t1 = 1#1), ∀ a x, ((![v1237, v1242] : Fin 2 → IVec S16 32) a x).toNat < S512x16.size a := fun k0_t1 v1237 v1242 k0_hw195 k0_h1 => k0_hw195 k0_h1

def k0_chk196 (k0_t1 : Fin k0_t1_loop.trips) (v1237 : IVec S16 32) (v1244 : IVec S16 32) : Prop :=
  (∀ (k0_h1 : k0_cond1 k0_t1 = 1#1), ∀ a x, ((![v1237, v1244] : Fin 2 → IVec S16 32) a x).toNat < S512x16.size a)
theorem k0_idx196_inb : ∀ (k0_t1 : Fin k0_t1_loop.trips) (v1237 : IVec S16 32) (v1244 : IVec S16 32) (k0_hw196 : k0_chk196 k0_t1 v1237 v1244), ∀ (k0_h1 : k0_cond1 k0_t1 = 1#1), ∀ a x, ((![v1237, v1244] : Fin 2 → IVec S16 32) a x).toNat < S512x16.size a := fun k0_t1 v1237 v1244 k0_hw196 k0_h1 => k0_hw196 k0_h1

def k0_chk197 (k0_t1 : Fin k0_t1_loop.trips) (v1237 : IVec S16 32) (v1246 : IVec S16 32) : Prop :=
  (∀ (k0_h1 : k0_cond1 k0_t1 = 1#1), ∀ a x, ((![v1237, v1246] : Fin 2 → IVec S16 32) a x).toNat < S512x16.size a)
theorem k0_idx197_inb : ∀ (k0_t1 : Fin k0_t1_loop.trips) (v1237 : IVec S16 32) (v1246 : IVec S16 32) (k0_hw197 : k0_chk197 k0_t1 v1237 v1246), ∀ (k0_h1 : k0_cond1 k0_t1 = 1#1), ∀ a x, ((![v1237, v1246] : Fin 2 → IVec S16 32) a x).toNat < S512x16.size a := fun k0_t1 v1237 v1246 k0_hw197 k0_h1 => k0_hw197 k0_h1

def k0_chk198 (k0_t1 : Fin k0_t1_loop.trips) (v1237 : IVec S16 32) (v1248 : IVec S16 32) : Prop :=
  (∀ (k0_h1 : k0_cond1 k0_t1 = 1#1), ∀ a x, ((![v1237, v1248] : Fin 2 → IVec S16 32) a x).toNat < S512x16.size a)
theorem k0_idx198_inb : ∀ (k0_t1 : Fin k0_t1_loop.trips) (v1237 : IVec S16 32) (v1248 : IVec S16 32) (k0_hw198 : k0_chk198 k0_t1 v1237 v1248), ∀ (k0_h1 : k0_cond1 k0_t1 = 1#1), ∀ a x, ((![v1237, v1248] : Fin 2 → IVec S16 32) a x).toNat < S512x16.size a := fun k0_t1 v1237 v1248 k0_hw198 k0_h1 => k0_hw198 k0_h1

def k0_chk199 (k0_t1 : Fin k0_t1_loop.trips) (v1237 : IVec S16 32) (v1250 : IVec S16 32) : Prop :=
  (∀ (k0_h1 : k0_cond1 k0_t1 = 1#1), ∀ a x, ((![v1237, v1250] : Fin 2 → IVec S16 32) a x).toNat < S512x16.size a)
theorem k0_idx199_inb : ∀ (k0_t1 : Fin k0_t1_loop.trips) (v1237 : IVec S16 32) (v1250 : IVec S16 32) (k0_hw199 : k0_chk199 k0_t1 v1237 v1250), ∀ (k0_h1 : k0_cond1 k0_t1 = 1#1), ∀ a x, ((![v1237, v1250] : Fin 2 → IVec S16 32) a x).toNat < S512x16.size a := fun k0_t1 v1237 v1250 k0_hw199 k0_h1 => k0_hw199 k0_h1

def k0_chk200 (k0_t1 : Fin k0_t1_loop.trips) (v1237 : IVec S16 32) (v1252 : IVec S16 32) : Prop :=
  (∀ (k0_h1 : k0_cond1 k0_t1 = 1#1), ∀ a x, ((![v1237, v1252] : Fin 2 → IVec S16 32) a x).toNat < S512x16.size a)
theorem k0_idx200_inb : ∀ (k0_t1 : Fin k0_t1_loop.trips) (v1237 : IVec S16 32) (v1252 : IVec S16 32) (k0_hw200 : k0_chk200 k0_t1 v1237 v1252), ∀ (k0_h1 : k0_cond1 k0_t1 = 1#1), ∀ a x, ((![v1237, v1252] : Fin 2 → IVec S16 32) a x).toNat < S512x16.size a := fun k0_t1 v1237 v1252 k0_hw200 k0_h1 => k0_hw200 k0_h1

def k0_chk201 (k0_t1 : Fin k0_t1_loop.trips) (v1237 : IVec S16 32) (v1254 : IVec S16 32) : Prop :=
  (∀ (k0_h1 : k0_cond1 k0_t1 = 1#1), ∀ a x, ((![v1237, v1254] : Fin 2 → IVec S16 32) a x).toNat < S512x16.size a)
theorem k0_idx201_inb : ∀ (k0_t1 : Fin k0_t1_loop.trips) (v1237 : IVec S16 32) (v1254 : IVec S16 32) (k0_hw201 : k0_chk201 k0_t1 v1237 v1254), ∀ (k0_h1 : k0_cond1 k0_t1 = 1#1), ∀ a x, ((![v1237, v1254] : Fin 2 → IVec S16 32) a x).toNat < S512x16.size a := fun k0_t1 v1237 v1254 k0_hw201 k0_h1 => k0_hw201 k0_h1

def k0_chk202 (k0_t1 : Fin k0_t1_loop.trips) (v1237 : IVec S16 32) (v1256 : IVec S16 32) : Prop :=
  (∀ (k0_h1 : k0_cond1 k0_t1 = 1#1), ∀ a x, ((![v1237, v1256] : Fin 2 → IVec S16 32) a x).toNat < S512x16.size a)
theorem k0_idx202_inb : ∀ (k0_t1 : Fin k0_t1_loop.trips) (v1237 : IVec S16 32) (v1256 : IVec S16 32) (k0_hw202 : k0_chk202 k0_t1 v1237 v1256), ∀ (k0_h1 : k0_cond1 k0_t1 = 1#1), ∀ a x, ((![v1237, v1256] : Fin 2 → IVec S16 32) a x).toNat < S512x16.size a := fun k0_t1 v1237 v1256 k0_hw202 k0_h1 => k0_hw202 k0_h1

def k0_chk203 (k0_t1 : Fin k0_t1_loop.trips) (v1237 : IVec S16 32) (v1258 : IVec S16 32) : Prop :=
  (∀ (k0_h1 : k0_cond1 k0_t1 = 1#1), ∀ a x, ((![v1237, v1258] : Fin 2 → IVec S16 32) a x).toNat < S512x16.size a)
theorem k0_idx203_inb : ∀ (k0_t1 : Fin k0_t1_loop.trips) (v1237 : IVec S16 32) (v1258 : IVec S16 32) (k0_hw203 : k0_chk203 k0_t1 v1237 v1258), ∀ (k0_h1 : k0_cond1 k0_t1 = 1#1), ∀ a x, ((![v1237, v1258] : Fin 2 → IVec S16 32) a x).toNat < S512x16.size a := fun k0_t1 v1237 v1258 k0_hw203 k0_h1 => k0_hw203 k0_h1

def k0_chk204 (k0_t1 : Fin k0_t1_loop.trips) (v1237 : IVec S16 32) (v1260 : IVec S16 32) : Prop :=
  (∀ (k0_h1 : k0_cond1 k0_t1 = 1#1), ∀ a x, ((![v1237, v1260] : Fin 2 → IVec S16 32) a x).toNat < S512x16.size a)
theorem k0_idx204_inb : ∀ (k0_t1 : Fin k0_t1_loop.trips) (v1237 : IVec S16 32) (v1260 : IVec S16 32) (k0_hw204 : k0_chk204 k0_t1 v1237 v1260), ∀ (k0_h1 : k0_cond1 k0_t1 = 1#1), ∀ a x, ((![v1237, v1260] : Fin 2 → IVec S16 32) a x).toNat < S512x16.size a := fun k0_t1 v1237 v1260 k0_hw204 k0_h1 => k0_hw204 k0_h1

def k0_chk205 (k0_t1 : Fin k0_t1_loop.trips) (v1237 : IVec S16 32) (v1262 : IVec S16 32) : Prop :=
  (∀ (k0_h1 : k0_cond1 k0_t1 = 1#1), ∀ a x, ((![v1237, v1262] : Fin 2 → IVec S16 32) a x).toNat < S512x16.size a)
theorem k0_idx205_inb : ∀ (k0_t1 : Fin k0_t1_loop.trips) (v1237 : IVec S16 32) (v1262 : IVec S16 32) (k0_hw205 : k0_chk205 k0_t1 v1237 v1262), ∀ (k0_h1 : k0_cond1 k0_t1 = 1#1), ∀ a x, ((![v1237, v1262] : Fin 2 → IVec S16 32) a x).toNat < S512x16.size a := fun k0_t1 v1237 v1262 k0_hw205 k0_h1 => k0_hw205 k0_h1

def k0_chk206 (k0_t1 : Fin k0_t1_loop.trips) (v1237 : IVec S16 32) (v1264 : IVec S16 32) : Prop :=
  (∀ (k0_h1 : k0_cond1 k0_t1 = 1#1), ∀ a x, ((![v1237, v1264] : Fin 2 → IVec S16 32) a x).toNat < S512x16.size a)
theorem k0_idx206_inb : ∀ (k0_t1 : Fin k0_t1_loop.trips) (v1237 : IVec S16 32) (v1264 : IVec S16 32) (k0_hw206 : k0_chk206 k0_t1 v1237 v1264), ∀ (k0_h1 : k0_cond1 k0_t1 = 1#1), ∀ a x, ((![v1237, v1264] : Fin 2 → IVec S16 32) a x).toNat < S512x16.size a := fun k0_t1 v1237 v1264 k0_hw206 k0_h1 => k0_hw206 k0_h1

def k0_chk207 (k0_t1 : Fin k0_t1_loop.trips) (v1237 : IVec S16 32) (v1266 : IVec S16 32) : Prop :=
  (∀ (k0_h1 : k0_cond1 k0_t1 = 1#1), ∀ a x, ((![v1237, v1266] : Fin 2 → IVec S16 32) a x).toNat < S512x16.size a)
theorem k0_idx207_inb : ∀ (k0_t1 : Fin k0_t1_loop.trips) (v1237 : IVec S16 32) (v1266 : IVec S16 32) (k0_hw207 : k0_chk207 k0_t1 v1237 v1266), ∀ (k0_h1 : k0_cond1 k0_t1 = 1#1), ∀ a x, ((![v1237, v1266] : Fin 2 → IVec S16 32) a x).toNat < S512x16.size a := fun k0_t1 v1237 v1266 k0_hw207 k0_h1 => k0_hw207 k0_h1

def k0_chk208 (k0_t1 : Fin k0_t1_loop.trips) (v1237 : IVec S16 32) (v1268 : IVec S16 32) : Prop :=
  (∀ (k0_h1 : k0_cond1 k0_t1 = 1#1), ∀ a x, ((![v1237, v1268] : Fin 2 → IVec S16 32) a x).toNat < S512x16.size a)
theorem k0_idx208_inb : ∀ (k0_t1 : Fin k0_t1_loop.trips) (v1237 : IVec S16 32) (v1268 : IVec S16 32) (k0_hw208 : k0_chk208 k0_t1 v1237 v1268), ∀ (k0_h1 : k0_cond1 k0_t1 = 1#1), ∀ a x, ((![v1237, v1268] : Fin 2 → IVec S16 32) a x).toNat < S512x16.size a := fun k0_t1 v1237 v1268 k0_hw208 k0_h1 => k0_hw208 k0_h1

def k0_chk209 (k0_t1 : Fin k0_t1_loop.trips) (v1336 : IVec S16 32) (v1337 : IVec S16 32) : Prop :=
  (∀ (k0_h1 : k0_cond1 k0_t1 = 1#1), ∀ a x, ((![v1336, v1337] : Fin 2 → IVec S16 32) a x).toNat < S512x16.size a)
theorem k0_idx209_inb : ∀ (k0_t1 : Fin k0_t1_loop.trips) (v1336 : IVec S16 32) (v1337 : IVec S16 32) (k0_hw209 : k0_chk209 k0_t1 v1336 v1337), ∀ (k0_h1 : k0_cond1 k0_t1 = 1#1), ∀ a x, ((![v1336, v1337] : Fin 2 → IVec S16 32) a x).toNat < S512x16.size a := fun k0_t1 v1336 v1337 k0_hw209 k0_h1 => k0_hw209 k0_h1

def k0_chk210 (k0_t1 : Fin k0_t1_loop.trips) (v1336 : IVec S16 32) (v1339 : IVec S16 32) : Prop :=
  (∀ (k0_h1 : k0_cond1 k0_t1 = 1#1), ∀ a x, ((![v1336, v1339] : Fin 2 → IVec S16 32) a x).toNat < S512x16.size a)
theorem k0_idx210_inb : ∀ (k0_t1 : Fin k0_t1_loop.trips) (v1336 : IVec S16 32) (v1339 : IVec S16 32) (k0_hw210 : k0_chk210 k0_t1 v1336 v1339), ∀ (k0_h1 : k0_cond1 k0_t1 = 1#1), ∀ a x, ((![v1336, v1339] : Fin 2 → IVec S16 32) a x).toNat < S512x16.size a := fun k0_t1 v1336 v1339 k0_hw210 k0_h1 => k0_hw210 k0_h1

def k0_chk211 (k0_t1 : Fin k0_t1_loop.trips) (v1336 : IVec S16 32) (v1341 : IVec S16 32) : Prop :=
  (∀ (k0_h1 : k0_cond1 k0_t1 = 1#1), ∀ a x, ((![v1336, v1341] : Fin 2 → IVec S16 32) a x).toNat < S512x16.size a)
theorem k0_idx211_inb : ∀ (k0_t1 : Fin k0_t1_loop.trips) (v1336 : IVec S16 32) (v1341 : IVec S16 32) (k0_hw211 : k0_chk211 k0_t1 v1336 v1341), ∀ (k0_h1 : k0_cond1 k0_t1 = 1#1), ∀ a x, ((![v1336, v1341] : Fin 2 → IVec S16 32) a x).toNat < S512x16.size a := fun k0_t1 v1336 v1341 k0_hw211 k0_h1 => k0_hw211 k0_h1

def k0_chk212 (k0_t1 : Fin k0_t1_loop.trips) (v1336 : IVec S16 32) (v1343 : IVec S16 32) : Prop :=
  (∀ (k0_h1 : k0_cond1 k0_t1 = 1#1), ∀ a x, ((![v1336, v1343] : Fin 2 → IVec S16 32) a x).toNat < S512x16.size a)
theorem k0_idx212_inb : ∀ (k0_t1 : Fin k0_t1_loop.trips) (v1336 : IVec S16 32) (v1343 : IVec S16 32) (k0_hw212 : k0_chk212 k0_t1 v1336 v1343), ∀ (k0_h1 : k0_cond1 k0_t1 = 1#1), ∀ a x, ((![v1336, v1343] : Fin 2 → IVec S16 32) a x).toNat < S512x16.size a := fun k0_t1 v1336 v1343 k0_hw212 k0_h1 => k0_hw212 k0_h1

def k0_chk213 (k0_t1 : Fin k0_t1_loop.trips) (v1336 : IVec S16 32) (v1345 : IVec S16 32) : Prop :=
  (∀ (k0_h1 : k0_cond1 k0_t1 = 1#1), ∀ a x, ((![v1336, v1345] : Fin 2 → IVec S16 32) a x).toNat < S512x16.size a)
theorem k0_idx213_inb : ∀ (k0_t1 : Fin k0_t1_loop.trips) (v1336 : IVec S16 32) (v1345 : IVec S16 32) (k0_hw213 : k0_chk213 k0_t1 v1336 v1345), ∀ (k0_h1 : k0_cond1 k0_t1 = 1#1), ∀ a x, ((![v1336, v1345] : Fin 2 → IVec S16 32) a x).toNat < S512x16.size a := fun k0_t1 v1336 v1345 k0_hw213 k0_h1 => k0_hw213 k0_h1

def k0_chk214 (k0_t1 : Fin k0_t1_loop.trips) (v1336 : IVec S16 32) (v1347 : IVec S16 32) : Prop :=
  (∀ (k0_h1 : k0_cond1 k0_t1 = 1#1), ∀ a x, ((![v1336, v1347] : Fin 2 → IVec S16 32) a x).toNat < S512x16.size a)
theorem k0_idx214_inb : ∀ (k0_t1 : Fin k0_t1_loop.trips) (v1336 : IVec S16 32) (v1347 : IVec S16 32) (k0_hw214 : k0_chk214 k0_t1 v1336 v1347), ∀ (k0_h1 : k0_cond1 k0_t1 = 1#1), ∀ a x, ((![v1336, v1347] : Fin 2 → IVec S16 32) a x).toNat < S512x16.size a := fun k0_t1 v1336 v1347 k0_hw214 k0_h1 => k0_hw214 k0_h1

def k0_chk215 (k0_t1 : Fin k0_t1_loop.trips) (v1336 : IVec S16 32) (v1349 : IVec S16 32) : Prop :=
  (∀ (k0_h1 : k0_cond1 k0_t1 = 1#1), ∀ a x, ((![v1336, v1349] : Fin 2 → IVec S16 32) a x).toNat < S512x16.size a)
theorem k0_idx215_inb : ∀ (k0_t1 : Fin k0_t1_loop.trips) (v1336 : IVec S16 32) (v1349 : IVec S16 32) (k0_hw215 : k0_chk215 k0_t1 v1336 v1349), ∀ (k0_h1 : k0_cond1 k0_t1 = 1#1), ∀ a x, ((![v1336, v1349] : Fin 2 → IVec S16 32) a x).toNat < S512x16.size a := fun k0_t1 v1336 v1349 k0_hw215 k0_h1 => k0_hw215 k0_h1

def k0_chk216 (k0_t1 : Fin k0_t1_loop.trips) (v1336 : IVec S16 32) (v1351 : IVec S16 32) : Prop :=
  (∀ (k0_h1 : k0_cond1 k0_t1 = 1#1), ∀ a x, ((![v1336, v1351] : Fin 2 → IVec S16 32) a x).toNat < S512x16.size a)
theorem k0_idx216_inb : ∀ (k0_t1 : Fin k0_t1_loop.trips) (v1336 : IVec S16 32) (v1351 : IVec S16 32) (k0_hw216 : k0_chk216 k0_t1 v1336 v1351), ∀ (k0_h1 : k0_cond1 k0_t1 = 1#1), ∀ a x, ((![v1336, v1351] : Fin 2 → IVec S16 32) a x).toNat < S512x16.size a := fun k0_t1 v1336 v1351 k0_hw216 k0_h1 => k0_hw216 k0_h1

def k0_chk217 (k0_t1 : Fin k0_t1_loop.trips) (v1336 : IVec S16 32) (v1353 : IVec S16 32) : Prop :=
  (∀ (k0_h1 : k0_cond1 k0_t1 = 1#1), ∀ a x, ((![v1336, v1353] : Fin 2 → IVec S16 32) a x).toNat < S512x16.size a)
theorem k0_idx217_inb : ∀ (k0_t1 : Fin k0_t1_loop.trips) (v1336 : IVec S16 32) (v1353 : IVec S16 32) (k0_hw217 : k0_chk217 k0_t1 v1336 v1353), ∀ (k0_h1 : k0_cond1 k0_t1 = 1#1), ∀ a x, ((![v1336, v1353] : Fin 2 → IVec S16 32) a x).toNat < S512x16.size a := fun k0_t1 v1336 v1353 k0_hw217 k0_h1 => k0_hw217 k0_h1

def k0_chk218 (k0_t1 : Fin k0_t1_loop.trips) (v1336 : IVec S16 32) (v1355 : IVec S16 32) : Prop :=
  (∀ (k0_h1 : k0_cond1 k0_t1 = 1#1), ∀ a x, ((![v1336, v1355] : Fin 2 → IVec S16 32) a x).toNat < S512x16.size a)
theorem k0_idx218_inb : ∀ (k0_t1 : Fin k0_t1_loop.trips) (v1336 : IVec S16 32) (v1355 : IVec S16 32) (k0_hw218 : k0_chk218 k0_t1 v1336 v1355), ∀ (k0_h1 : k0_cond1 k0_t1 = 1#1), ∀ a x, ((![v1336, v1355] : Fin 2 → IVec S16 32) a x).toNat < S512x16.size a := fun k0_t1 v1336 v1355 k0_hw218 k0_h1 => k0_hw218 k0_h1

def k0_chk219 (k0_t1 : Fin k0_t1_loop.trips) (v1336 : IVec S16 32) (v1357 : IVec S16 32) : Prop :=
  (∀ (k0_h1 : k0_cond1 k0_t1 = 1#1), ∀ a x, ((![v1336, v1357] : Fin 2 → IVec S16 32) a x).toNat < S512x16.size a)
theorem k0_idx219_inb : ∀ (k0_t1 : Fin k0_t1_loop.trips) (v1336 : IVec S16 32) (v1357 : IVec S16 32) (k0_hw219 : k0_chk219 k0_t1 v1336 v1357), ∀ (k0_h1 : k0_cond1 k0_t1 = 1#1), ∀ a x, ((![v1336, v1357] : Fin 2 → IVec S16 32) a x).toNat < S512x16.size a := fun k0_t1 v1336 v1357 k0_hw219 k0_h1 => k0_hw219 k0_h1

def k0_chk220 (k0_t1 : Fin k0_t1_loop.trips) (v1336 : IVec S16 32) (v1359 : IVec S16 32) : Prop :=
  (∀ (k0_h1 : k0_cond1 k0_t1 = 1#1), ∀ a x, ((![v1336, v1359] : Fin 2 → IVec S16 32) a x).toNat < S512x16.size a)
theorem k0_idx220_inb : ∀ (k0_t1 : Fin k0_t1_loop.trips) (v1336 : IVec S16 32) (v1359 : IVec S16 32) (k0_hw220 : k0_chk220 k0_t1 v1336 v1359), ∀ (k0_h1 : k0_cond1 k0_t1 = 1#1), ∀ a x, ((![v1336, v1359] : Fin 2 → IVec S16 32) a x).toNat < S512x16.size a := fun k0_t1 v1336 v1359 k0_hw220 k0_h1 => k0_hw220 k0_h1

def k0_chk221 (k0_t1 : Fin k0_t1_loop.trips) (v1336 : IVec S16 32) (v1361 : IVec S16 32) : Prop :=
  (∀ (k0_h1 : k0_cond1 k0_t1 = 1#1), ∀ a x, ((![v1336, v1361] : Fin 2 → IVec S16 32) a x).toNat < S512x16.size a)
theorem k0_idx221_inb : ∀ (k0_t1 : Fin k0_t1_loop.trips) (v1336 : IVec S16 32) (v1361 : IVec S16 32) (k0_hw221 : k0_chk221 k0_t1 v1336 v1361), ∀ (k0_h1 : k0_cond1 k0_t1 = 1#1), ∀ a x, ((![v1336, v1361] : Fin 2 → IVec S16 32) a x).toNat < S512x16.size a := fun k0_t1 v1336 v1361 k0_hw221 k0_h1 => k0_hw221 k0_h1

def k0_chk222 (k0_t1 : Fin k0_t1_loop.trips) (v1336 : IVec S16 32) (v1363 : IVec S16 32) : Prop :=
  (∀ (k0_h1 : k0_cond1 k0_t1 = 1#1), ∀ a x, ((![v1336, v1363] : Fin 2 → IVec S16 32) a x).toNat < S512x16.size a)
theorem k0_idx222_inb : ∀ (k0_t1 : Fin k0_t1_loop.trips) (v1336 : IVec S16 32) (v1363 : IVec S16 32) (k0_hw222 : k0_chk222 k0_t1 v1336 v1363), ∀ (k0_h1 : k0_cond1 k0_t1 = 1#1), ∀ a x, ((![v1336, v1363] : Fin 2 → IVec S16 32) a x).toNat < S512x16.size a := fun k0_t1 v1336 v1363 k0_hw222 k0_h1 => k0_hw222 k0_h1

def k0_chk223 (k0_t1 : Fin k0_t1_loop.trips) (v1336 : IVec S16 32) (v1365 : IVec S16 32) : Prop :=
  (∀ (k0_h1 : k0_cond1 k0_t1 = 1#1), ∀ a x, ((![v1336, v1365] : Fin 2 → IVec S16 32) a x).toNat < S512x16.size a)
theorem k0_idx223_inb : ∀ (k0_t1 : Fin k0_t1_loop.trips) (v1336 : IVec S16 32) (v1365 : IVec S16 32) (k0_hw223 : k0_chk223 k0_t1 v1336 v1365), ∀ (k0_h1 : k0_cond1 k0_t1 = 1#1), ∀ a x, ((![v1336, v1365] : Fin 2 → IVec S16 32) a x).toNat < S512x16.size a := fun k0_t1 v1336 v1365 k0_hw223 k0_h1 => k0_hw223 k0_h1

def k0_chk224 (k0_t1 : Fin k0_t1_loop.trips) (v1336 : IVec S16 32) (v1367 : IVec S16 32) : Prop :=
  (∀ (k0_h1 : k0_cond1 k0_t1 = 1#1), ∀ a x, ((![v1336, v1367] : Fin 2 → IVec S16 32) a x).toNat < S512x16.size a)
theorem k0_idx224_inb : ∀ (k0_t1 : Fin k0_t1_loop.trips) (v1336 : IVec S16 32) (v1367 : IVec S16 32) (k0_hw224 : k0_chk224 k0_t1 v1336 v1367), ∀ (k0_h1 : k0_cond1 k0_t1 = 1#1), ∀ a x, ((![v1336, v1367] : Fin 2 → IVec S16 32) a x).toNat < S512x16.size a := fun k0_t1 v1336 v1367 k0_hw224 k0_h1 => k0_hw224 k0_h1

def k0_chk225 (k0_t1 : Fin k0_t1_loop.trips) (v1435 : IVec S16 32) (v1436 : IVec S16 32) : Prop :=
  (∀ (k0_h1 : k0_cond1 k0_t1 = 1#1), ∀ a x, ((![v1435, v1436] : Fin 2 → IVec S16 32) a x).toNat < S512x16.size a)
theorem k0_idx225_inb : ∀ (k0_t1 : Fin k0_t1_loop.trips) (v1435 : IVec S16 32) (v1436 : IVec S16 32) (k0_hw225 : k0_chk225 k0_t1 v1435 v1436), ∀ (k0_h1 : k0_cond1 k0_t1 = 1#1), ∀ a x, ((![v1435, v1436] : Fin 2 → IVec S16 32) a x).toNat < S512x16.size a := fun k0_t1 v1435 v1436 k0_hw225 k0_h1 => k0_hw225 k0_h1

def k0_chk226 (k0_t1 : Fin k0_t1_loop.trips) (v1435 : IVec S16 32) (v1438 : IVec S16 32) : Prop :=
  (∀ (k0_h1 : k0_cond1 k0_t1 = 1#1), ∀ a x, ((![v1435, v1438] : Fin 2 → IVec S16 32) a x).toNat < S512x16.size a)
theorem k0_idx226_inb : ∀ (k0_t1 : Fin k0_t1_loop.trips) (v1435 : IVec S16 32) (v1438 : IVec S16 32) (k0_hw226 : k0_chk226 k0_t1 v1435 v1438), ∀ (k0_h1 : k0_cond1 k0_t1 = 1#1), ∀ a x, ((![v1435, v1438] : Fin 2 → IVec S16 32) a x).toNat < S512x16.size a := fun k0_t1 v1435 v1438 k0_hw226 k0_h1 => k0_hw226 k0_h1

def k0_chk227 (k0_t1 : Fin k0_t1_loop.trips) (v1435 : IVec S16 32) (v1440 : IVec S16 32) : Prop :=
  (∀ (k0_h1 : k0_cond1 k0_t1 = 1#1), ∀ a x, ((![v1435, v1440] : Fin 2 → IVec S16 32) a x).toNat < S512x16.size a)
theorem k0_idx227_inb : ∀ (k0_t1 : Fin k0_t1_loop.trips) (v1435 : IVec S16 32) (v1440 : IVec S16 32) (k0_hw227 : k0_chk227 k0_t1 v1435 v1440), ∀ (k0_h1 : k0_cond1 k0_t1 = 1#1), ∀ a x, ((![v1435, v1440] : Fin 2 → IVec S16 32) a x).toNat < S512x16.size a := fun k0_t1 v1435 v1440 k0_hw227 k0_h1 => k0_hw227 k0_h1

def k0_chk228 (k0_t1 : Fin k0_t1_loop.trips) (v1435 : IVec S16 32) (v1442 : IVec S16 32) : Prop :=
  (∀ (k0_h1 : k0_cond1 k0_t1 = 1#1), ∀ a x, ((![v1435, v1442] : Fin 2 → IVec S16 32) a x).toNat < S512x16.size a)
theorem k0_idx228_inb : ∀ (k0_t1 : Fin k0_t1_loop.trips) (v1435 : IVec S16 32) (v1442 : IVec S16 32) (k0_hw228 : k0_chk228 k0_t1 v1435 v1442), ∀ (k0_h1 : k0_cond1 k0_t1 = 1#1), ∀ a x, ((![v1435, v1442] : Fin 2 → IVec S16 32) a x).toNat < S512x16.size a := fun k0_t1 v1435 v1442 k0_hw228 k0_h1 => k0_hw228 k0_h1

def k0_chk229 (k0_t1 : Fin k0_t1_loop.trips) (v1435 : IVec S16 32) (v1444 : IVec S16 32) : Prop :=
  (∀ (k0_h1 : k0_cond1 k0_t1 = 1#1), ∀ a x, ((![v1435, v1444] : Fin 2 → IVec S16 32) a x).toNat < S512x16.size a)
theorem k0_idx229_inb : ∀ (k0_t1 : Fin k0_t1_loop.trips) (v1435 : IVec S16 32) (v1444 : IVec S16 32) (k0_hw229 : k0_chk229 k0_t1 v1435 v1444), ∀ (k0_h1 : k0_cond1 k0_t1 = 1#1), ∀ a x, ((![v1435, v1444] : Fin 2 → IVec S16 32) a x).toNat < S512x16.size a := fun k0_t1 v1435 v1444 k0_hw229 k0_h1 => k0_hw229 k0_h1

def k0_chk230 (k0_t1 : Fin k0_t1_loop.trips) (v1435 : IVec S16 32) (v1446 : IVec S16 32) : Prop :=
  (∀ (k0_h1 : k0_cond1 k0_t1 = 1#1), ∀ a x, ((![v1435, v1446] : Fin 2 → IVec S16 32) a x).toNat < S512x16.size a)
theorem k0_idx230_inb : ∀ (k0_t1 : Fin k0_t1_loop.trips) (v1435 : IVec S16 32) (v1446 : IVec S16 32) (k0_hw230 : k0_chk230 k0_t1 v1435 v1446), ∀ (k0_h1 : k0_cond1 k0_t1 = 1#1), ∀ a x, ((![v1435, v1446] : Fin 2 → IVec S16 32) a x).toNat < S512x16.size a := fun k0_t1 v1435 v1446 k0_hw230 k0_h1 => k0_hw230 k0_h1

def k0_chk231 (k0_t1 : Fin k0_t1_loop.trips) (v1435 : IVec S16 32) (v1448 : IVec S16 32) : Prop :=
  (∀ (k0_h1 : k0_cond1 k0_t1 = 1#1), ∀ a x, ((![v1435, v1448] : Fin 2 → IVec S16 32) a x).toNat < S512x16.size a)
theorem k0_idx231_inb : ∀ (k0_t1 : Fin k0_t1_loop.trips) (v1435 : IVec S16 32) (v1448 : IVec S16 32) (k0_hw231 : k0_chk231 k0_t1 v1435 v1448), ∀ (k0_h1 : k0_cond1 k0_t1 = 1#1), ∀ a x, ((![v1435, v1448] : Fin 2 → IVec S16 32) a x).toNat < S512x16.size a := fun k0_t1 v1435 v1448 k0_hw231 k0_h1 => k0_hw231 k0_h1

def k0_chk232 (k0_t1 : Fin k0_t1_loop.trips) (v1435 : IVec S16 32) (v1450 : IVec S16 32) : Prop :=
  (∀ (k0_h1 : k0_cond1 k0_t1 = 1#1), ∀ a x, ((![v1435, v1450] : Fin 2 → IVec S16 32) a x).toNat < S512x16.size a)
theorem k0_idx232_inb : ∀ (k0_t1 : Fin k0_t1_loop.trips) (v1435 : IVec S16 32) (v1450 : IVec S16 32) (k0_hw232 : k0_chk232 k0_t1 v1435 v1450), ∀ (k0_h1 : k0_cond1 k0_t1 = 1#1), ∀ a x, ((![v1435, v1450] : Fin 2 → IVec S16 32) a x).toNat < S512x16.size a := fun k0_t1 v1435 v1450 k0_hw232 k0_h1 => k0_hw232 k0_h1

def k0_chk233 (k0_t1 : Fin k0_t1_loop.trips) (v1435 : IVec S16 32) (v1452 : IVec S16 32) : Prop :=
  (∀ (k0_h1 : k0_cond1 k0_t1 = 1#1), ∀ a x, ((![v1435, v1452] : Fin 2 → IVec S16 32) a x).toNat < S512x16.size a)
theorem k0_idx233_inb : ∀ (k0_t1 : Fin k0_t1_loop.trips) (v1435 : IVec S16 32) (v1452 : IVec S16 32) (k0_hw233 : k0_chk233 k0_t1 v1435 v1452), ∀ (k0_h1 : k0_cond1 k0_t1 = 1#1), ∀ a x, ((![v1435, v1452] : Fin 2 → IVec S16 32) a x).toNat < S512x16.size a := fun k0_t1 v1435 v1452 k0_hw233 k0_h1 => k0_hw233 k0_h1

def k0_chk234 (k0_t1 : Fin k0_t1_loop.trips) (v1435 : IVec S16 32) (v1454 : IVec S16 32) : Prop :=
  (∀ (k0_h1 : k0_cond1 k0_t1 = 1#1), ∀ a x, ((![v1435, v1454] : Fin 2 → IVec S16 32) a x).toNat < S512x16.size a)
theorem k0_idx234_inb : ∀ (k0_t1 : Fin k0_t1_loop.trips) (v1435 : IVec S16 32) (v1454 : IVec S16 32) (k0_hw234 : k0_chk234 k0_t1 v1435 v1454), ∀ (k0_h1 : k0_cond1 k0_t1 = 1#1), ∀ a x, ((![v1435, v1454] : Fin 2 → IVec S16 32) a x).toNat < S512x16.size a := fun k0_t1 v1435 v1454 k0_hw234 k0_h1 => k0_hw234 k0_h1

def k0_chk235 (k0_t1 : Fin k0_t1_loop.trips) (v1435 : IVec S16 32) (v1456 : IVec S16 32) : Prop :=
  (∀ (k0_h1 : k0_cond1 k0_t1 = 1#1), ∀ a x, ((![v1435, v1456] : Fin 2 → IVec S16 32) a x).toNat < S512x16.size a)
theorem k0_idx235_inb : ∀ (k0_t1 : Fin k0_t1_loop.trips) (v1435 : IVec S16 32) (v1456 : IVec S16 32) (k0_hw235 : k0_chk235 k0_t1 v1435 v1456), ∀ (k0_h1 : k0_cond1 k0_t1 = 1#1), ∀ a x, ((![v1435, v1456] : Fin 2 → IVec S16 32) a x).toNat < S512x16.size a := fun k0_t1 v1435 v1456 k0_hw235 k0_h1 => k0_hw235 k0_h1

def k0_chk236 (k0_t1 : Fin k0_t1_loop.trips) (v1435 : IVec S16 32) (v1458 : IVec S16 32) : Prop :=
  (∀ (k0_h1 : k0_cond1 k0_t1 = 1#1), ∀ a x, ((![v1435, v1458] : Fin 2 → IVec S16 32) a x).toNat < S512x16.size a)
theorem k0_idx236_inb : ∀ (k0_t1 : Fin k0_t1_loop.trips) (v1435 : IVec S16 32) (v1458 : IVec S16 32) (k0_hw236 : k0_chk236 k0_t1 v1435 v1458), ∀ (k0_h1 : k0_cond1 k0_t1 = 1#1), ∀ a x, ((![v1435, v1458] : Fin 2 → IVec S16 32) a x).toNat < S512x16.size a := fun k0_t1 v1435 v1458 k0_hw236 k0_h1 => k0_hw236 k0_h1

def k0_chk237 (k0_t1 : Fin k0_t1_loop.trips) (v1435 : IVec S16 32) (v1460 : IVec S16 32) : Prop :=
  (∀ (k0_h1 : k0_cond1 k0_t1 = 1#1), ∀ a x, ((![v1435, v1460] : Fin 2 → IVec S16 32) a x).toNat < S512x16.size a)
theorem k0_idx237_inb : ∀ (k0_t1 : Fin k0_t1_loop.trips) (v1435 : IVec S16 32) (v1460 : IVec S16 32) (k0_hw237 : k0_chk237 k0_t1 v1435 v1460), ∀ (k0_h1 : k0_cond1 k0_t1 = 1#1), ∀ a x, ((![v1435, v1460] : Fin 2 → IVec S16 32) a x).toNat < S512x16.size a := fun k0_t1 v1435 v1460 k0_hw237 k0_h1 => k0_hw237 k0_h1

def k0_chk238 (k0_t1 : Fin k0_t1_loop.trips) (v1435 : IVec S16 32) (v1462 : IVec S16 32) : Prop :=
  (∀ (k0_h1 : k0_cond1 k0_t1 = 1#1), ∀ a x, ((![v1435, v1462] : Fin 2 → IVec S16 32) a x).toNat < S512x16.size a)
theorem k0_idx238_inb : ∀ (k0_t1 : Fin k0_t1_loop.trips) (v1435 : IVec S16 32) (v1462 : IVec S16 32) (k0_hw238 : k0_chk238 k0_t1 v1435 v1462), ∀ (k0_h1 : k0_cond1 k0_t1 = 1#1), ∀ a x, ((![v1435, v1462] : Fin 2 → IVec S16 32) a x).toNat < S512x16.size a := fun k0_t1 v1435 v1462 k0_hw238 k0_h1 => k0_hw238 k0_h1

def k0_chk239 (k0_t1 : Fin k0_t1_loop.trips) (v1435 : IVec S16 32) (v1464 : IVec S16 32) : Prop :=
  (∀ (k0_h1 : k0_cond1 k0_t1 = 1#1), ∀ a x, ((![v1435, v1464] : Fin 2 → IVec S16 32) a x).toNat < S512x16.size a)
theorem k0_idx239_inb : ∀ (k0_t1 : Fin k0_t1_loop.trips) (v1435 : IVec S16 32) (v1464 : IVec S16 32) (k0_hw239 : k0_chk239 k0_t1 v1435 v1464), ∀ (k0_h1 : k0_cond1 k0_t1 = 1#1), ∀ a x, ((![v1435, v1464] : Fin 2 → IVec S16 32) a x).toNat < S512x16.size a := fun k0_t1 v1435 v1464 k0_hw239 k0_h1 => k0_hw239 k0_h1

def k0_chk240 (k0_t1 : Fin k0_t1_loop.trips) (v1435 : IVec S16 32) (v1466 : IVec S16 32) : Prop :=
  (∀ (k0_h1 : k0_cond1 k0_t1 = 1#1), ∀ a x, ((![v1435, v1466] : Fin 2 → IVec S16 32) a x).toNat < S512x16.size a)
theorem k0_idx240_inb : ∀ (k0_t1 : Fin k0_t1_loop.trips) (v1435 : IVec S16 32) (v1466 : IVec S16 32) (k0_hw240 : k0_chk240 k0_t1 v1435 v1466), ∀ (k0_h1 : k0_cond1 k0_t1 = 1#1), ∀ a x, ((![v1435, v1466] : Fin 2 → IVec S16 32) a x).toNat < S512x16.size a := fun k0_t1 v1435 v1466 k0_hw240 k0_h1 => k0_hw240 k0_h1

def k0_chk241 (k0_t1 : Fin k0_t1_loop.trips) (v1534 : IVec S16 32) (v1535 : IVec S16 32) : Prop :=
  (∀ (k0_h1 : k0_cond1 k0_t1 = 1#1), ∀ a x, ((![v1534, v1535] : Fin 2 → IVec S16 32) a x).toNat < S512x16.size a)
theorem k0_idx241_inb : ∀ (k0_t1 : Fin k0_t1_loop.trips) (v1534 : IVec S16 32) (v1535 : IVec S16 32) (k0_hw241 : k0_chk241 k0_t1 v1534 v1535), ∀ (k0_h1 : k0_cond1 k0_t1 = 1#1), ∀ a x, ((![v1534, v1535] : Fin 2 → IVec S16 32) a x).toNat < S512x16.size a := fun k0_t1 v1534 v1535 k0_hw241 k0_h1 => k0_hw241 k0_h1

def k0_chk242 (k0_t1 : Fin k0_t1_loop.trips) (v1534 : IVec S16 32) (v1537 : IVec S16 32) : Prop :=
  (∀ (k0_h1 : k0_cond1 k0_t1 = 1#1), ∀ a x, ((![v1534, v1537] : Fin 2 → IVec S16 32) a x).toNat < S512x16.size a)
theorem k0_idx242_inb : ∀ (k0_t1 : Fin k0_t1_loop.trips) (v1534 : IVec S16 32) (v1537 : IVec S16 32) (k0_hw242 : k0_chk242 k0_t1 v1534 v1537), ∀ (k0_h1 : k0_cond1 k0_t1 = 1#1), ∀ a x, ((![v1534, v1537] : Fin 2 → IVec S16 32) a x).toNat < S512x16.size a := fun k0_t1 v1534 v1537 k0_hw242 k0_h1 => k0_hw242 k0_h1

def k0_chk243 (k0_t1 : Fin k0_t1_loop.trips) (v1534 : IVec S16 32) (v1539 : IVec S16 32) : Prop :=
  (∀ (k0_h1 : k0_cond1 k0_t1 = 1#1), ∀ a x, ((![v1534, v1539] : Fin 2 → IVec S16 32) a x).toNat < S512x16.size a)
theorem k0_idx243_inb : ∀ (k0_t1 : Fin k0_t1_loop.trips) (v1534 : IVec S16 32) (v1539 : IVec S16 32) (k0_hw243 : k0_chk243 k0_t1 v1534 v1539), ∀ (k0_h1 : k0_cond1 k0_t1 = 1#1), ∀ a x, ((![v1534, v1539] : Fin 2 → IVec S16 32) a x).toNat < S512x16.size a := fun k0_t1 v1534 v1539 k0_hw243 k0_h1 => k0_hw243 k0_h1

def k0_chk244 (k0_t1 : Fin k0_t1_loop.trips) (v1534 : IVec S16 32) (v1541 : IVec S16 32) : Prop :=
  (∀ (k0_h1 : k0_cond1 k0_t1 = 1#1), ∀ a x, ((![v1534, v1541] : Fin 2 → IVec S16 32) a x).toNat < S512x16.size a)
theorem k0_idx244_inb : ∀ (k0_t1 : Fin k0_t1_loop.trips) (v1534 : IVec S16 32) (v1541 : IVec S16 32) (k0_hw244 : k0_chk244 k0_t1 v1534 v1541), ∀ (k0_h1 : k0_cond1 k0_t1 = 1#1), ∀ a x, ((![v1534, v1541] : Fin 2 → IVec S16 32) a x).toNat < S512x16.size a := fun k0_t1 v1534 v1541 k0_hw244 k0_h1 => k0_hw244 k0_h1

def k0_chk245 (k0_t1 : Fin k0_t1_loop.trips) (v1534 : IVec S16 32) (v1543 : IVec S16 32) : Prop :=
  (∀ (k0_h1 : k0_cond1 k0_t1 = 1#1), ∀ a x, ((![v1534, v1543] : Fin 2 → IVec S16 32) a x).toNat < S512x16.size a)
theorem k0_idx245_inb : ∀ (k0_t1 : Fin k0_t1_loop.trips) (v1534 : IVec S16 32) (v1543 : IVec S16 32) (k0_hw245 : k0_chk245 k0_t1 v1534 v1543), ∀ (k0_h1 : k0_cond1 k0_t1 = 1#1), ∀ a x, ((![v1534, v1543] : Fin 2 → IVec S16 32) a x).toNat < S512x16.size a := fun k0_t1 v1534 v1543 k0_hw245 k0_h1 => k0_hw245 k0_h1

def k0_chk246 (k0_t1 : Fin k0_t1_loop.trips) (v1534 : IVec S16 32) (v1545 : IVec S16 32) : Prop :=
  (∀ (k0_h1 : k0_cond1 k0_t1 = 1#1), ∀ a x, ((![v1534, v1545] : Fin 2 → IVec S16 32) a x).toNat < S512x16.size a)
theorem k0_idx246_inb : ∀ (k0_t1 : Fin k0_t1_loop.trips) (v1534 : IVec S16 32) (v1545 : IVec S16 32) (k0_hw246 : k0_chk246 k0_t1 v1534 v1545), ∀ (k0_h1 : k0_cond1 k0_t1 = 1#1), ∀ a x, ((![v1534, v1545] : Fin 2 → IVec S16 32) a x).toNat < S512x16.size a := fun k0_t1 v1534 v1545 k0_hw246 k0_h1 => k0_hw246 k0_h1

def k0_chk247 (k0_t1 : Fin k0_t1_loop.trips) (v1534 : IVec S16 32) (v1547 : IVec S16 32) : Prop :=
  (∀ (k0_h1 : k0_cond1 k0_t1 = 1#1), ∀ a x, ((![v1534, v1547] : Fin 2 → IVec S16 32) a x).toNat < S512x16.size a)
theorem k0_idx247_inb : ∀ (k0_t1 : Fin k0_t1_loop.trips) (v1534 : IVec S16 32) (v1547 : IVec S16 32) (k0_hw247 : k0_chk247 k0_t1 v1534 v1547), ∀ (k0_h1 : k0_cond1 k0_t1 = 1#1), ∀ a x, ((![v1534, v1547] : Fin 2 → IVec S16 32) a x).toNat < S512x16.size a := fun k0_t1 v1534 v1547 k0_hw247 k0_h1 => k0_hw247 k0_h1

def k0_chk248 (k0_t1 : Fin k0_t1_loop.trips) (v1534 : IVec S16 32) (v1549 : IVec S16 32) : Prop :=
  (∀ (k0_h1 : k0_cond1 k0_t1 = 1#1), ∀ a x, ((![v1534, v1549] : Fin 2 → IVec S16 32) a x).toNat < S512x16.size a)
theorem k0_idx248_inb : ∀ (k0_t1 : Fin k0_t1_loop.trips) (v1534 : IVec S16 32) (v1549 : IVec S16 32) (k0_hw248 : k0_chk248 k0_t1 v1534 v1549), ∀ (k0_h1 : k0_cond1 k0_t1 = 1#1), ∀ a x, ((![v1534, v1549] : Fin 2 → IVec S16 32) a x).toNat < S512x16.size a := fun k0_t1 v1534 v1549 k0_hw248 k0_h1 => k0_hw248 k0_h1

def k0_chk249 (k0_t1 : Fin k0_t1_loop.trips) (v1534 : IVec S16 32) (v1551 : IVec S16 32) : Prop :=
  (∀ (k0_h1 : k0_cond1 k0_t1 = 1#1), ∀ a x, ((![v1534, v1551] : Fin 2 → IVec S16 32) a x).toNat < S512x16.size a)
theorem k0_idx249_inb : ∀ (k0_t1 : Fin k0_t1_loop.trips) (v1534 : IVec S16 32) (v1551 : IVec S16 32) (k0_hw249 : k0_chk249 k0_t1 v1534 v1551), ∀ (k0_h1 : k0_cond1 k0_t1 = 1#1), ∀ a x, ((![v1534, v1551] : Fin 2 → IVec S16 32) a x).toNat < S512x16.size a := fun k0_t1 v1534 v1551 k0_hw249 k0_h1 => k0_hw249 k0_h1

def k0_chk250 (k0_t1 : Fin k0_t1_loop.trips) (v1534 : IVec S16 32) (v1553 : IVec S16 32) : Prop :=
  (∀ (k0_h1 : k0_cond1 k0_t1 = 1#1), ∀ a x, ((![v1534, v1553] : Fin 2 → IVec S16 32) a x).toNat < S512x16.size a)
theorem k0_idx250_inb : ∀ (k0_t1 : Fin k0_t1_loop.trips) (v1534 : IVec S16 32) (v1553 : IVec S16 32) (k0_hw250 : k0_chk250 k0_t1 v1534 v1553), ∀ (k0_h1 : k0_cond1 k0_t1 = 1#1), ∀ a x, ((![v1534, v1553] : Fin 2 → IVec S16 32) a x).toNat < S512x16.size a := fun k0_t1 v1534 v1553 k0_hw250 k0_h1 => k0_hw250 k0_h1

def k0_chk251 (k0_t1 : Fin k0_t1_loop.trips) (v1534 : IVec S16 32) (v1555 : IVec S16 32) : Prop :=
  (∀ (k0_h1 : k0_cond1 k0_t1 = 1#1), ∀ a x, ((![v1534, v1555] : Fin 2 → IVec S16 32) a x).toNat < S512x16.size a)
theorem k0_idx251_inb : ∀ (k0_t1 : Fin k0_t1_loop.trips) (v1534 : IVec S16 32) (v1555 : IVec S16 32) (k0_hw251 : k0_chk251 k0_t1 v1534 v1555), ∀ (k0_h1 : k0_cond1 k0_t1 = 1#1), ∀ a x, ((![v1534, v1555] : Fin 2 → IVec S16 32) a x).toNat < S512x16.size a := fun k0_t1 v1534 v1555 k0_hw251 k0_h1 => k0_hw251 k0_h1

def k0_chk252 (k0_t1 : Fin k0_t1_loop.trips) (v1534 : IVec S16 32) (v1557 : IVec S16 32) : Prop :=
  (∀ (k0_h1 : k0_cond1 k0_t1 = 1#1), ∀ a x, ((![v1534, v1557] : Fin 2 → IVec S16 32) a x).toNat < S512x16.size a)
theorem k0_idx252_inb : ∀ (k0_t1 : Fin k0_t1_loop.trips) (v1534 : IVec S16 32) (v1557 : IVec S16 32) (k0_hw252 : k0_chk252 k0_t1 v1534 v1557), ∀ (k0_h1 : k0_cond1 k0_t1 = 1#1), ∀ a x, ((![v1534, v1557] : Fin 2 → IVec S16 32) a x).toNat < S512x16.size a := fun k0_t1 v1534 v1557 k0_hw252 k0_h1 => k0_hw252 k0_h1

def k0_chk253 (k0_t1 : Fin k0_t1_loop.trips) (v1534 : IVec S16 32) (v1559 : IVec S16 32) : Prop :=
  (∀ (k0_h1 : k0_cond1 k0_t1 = 1#1), ∀ a x, ((![v1534, v1559] : Fin 2 → IVec S16 32) a x).toNat < S512x16.size a)
theorem k0_idx253_inb : ∀ (k0_t1 : Fin k0_t1_loop.trips) (v1534 : IVec S16 32) (v1559 : IVec S16 32) (k0_hw253 : k0_chk253 k0_t1 v1534 v1559), ∀ (k0_h1 : k0_cond1 k0_t1 = 1#1), ∀ a x, ((![v1534, v1559] : Fin 2 → IVec S16 32) a x).toNat < S512x16.size a := fun k0_t1 v1534 v1559 k0_hw253 k0_h1 => k0_hw253 k0_h1

def k0_chk254 (k0_t1 : Fin k0_t1_loop.trips) (v1534 : IVec S16 32) (v1561 : IVec S16 32) : Prop :=
  (∀ (k0_h1 : k0_cond1 k0_t1 = 1#1), ∀ a x, ((![v1534, v1561] : Fin 2 → IVec S16 32) a x).toNat < S512x16.size a)
theorem k0_idx254_inb : ∀ (k0_t1 : Fin k0_t1_loop.trips) (v1534 : IVec S16 32) (v1561 : IVec S16 32) (k0_hw254 : k0_chk254 k0_t1 v1534 v1561), ∀ (k0_h1 : k0_cond1 k0_t1 = 1#1), ∀ a x, ((![v1534, v1561] : Fin 2 → IVec S16 32) a x).toNat < S512x16.size a := fun k0_t1 v1534 v1561 k0_hw254 k0_h1 => k0_hw254 k0_h1

def k0_chk255 (k0_t1 : Fin k0_t1_loop.trips) (v1534 : IVec S16 32) (v1563 : IVec S16 32) : Prop :=
  (∀ (k0_h1 : k0_cond1 k0_t1 = 1#1), ∀ a x, ((![v1534, v1563] : Fin 2 → IVec S16 32) a x).toNat < S512x16.size a)
theorem k0_idx255_inb : ∀ (k0_t1 : Fin k0_t1_loop.trips) (v1534 : IVec S16 32) (v1563 : IVec S16 32) (k0_hw255 : k0_chk255 k0_t1 v1534 v1563), ∀ (k0_h1 : k0_cond1 k0_t1 = 1#1), ∀ a x, ((![v1534, v1563] : Fin 2 → IVec S16 32) a x).toNat < S512x16.size a := fun k0_t1 v1534 v1563 k0_hw255 k0_h1 => k0_hw255 k0_h1

def k0_chk256 (k0_t1 : Fin k0_t1_loop.trips) (v1534 : IVec S16 32) (v1565 : IVec S16 32) : Prop :=
  (∀ (k0_h1 : k0_cond1 k0_t1 = 1#1), ∀ a x, ((![v1534, v1565] : Fin 2 → IVec S16 32) a x).toNat < S512x16.size a)
theorem k0_idx256_inb : ∀ (k0_t1 : Fin k0_t1_loop.trips) (v1534 : IVec S16 32) (v1565 : IVec S16 32) (k0_hw256 : k0_chk256 k0_t1 v1534 v1565), ∀ (k0_h1 : k0_cond1 k0_t1 = 1#1), ∀ a x, ((![v1534, v1565] : Fin 2 → IVec S16 32) a x).toNat < S512x16.size a := fun k0_t1 v1534 v1565 k0_hw256 k0_h1 => k0_hw256 k0_h1

def k0_chk257 (k0_t1 : Fin k0_t1_loop.trips) (v1633 : IVec S16 32) (v1634 : IVec S16 32) : Prop :=
  (∀ (k0_h1 : k0_cond1 k0_t1 = 1#1), ∀ a x, ((![v1633, v1634] : Fin 2 → IVec S16 32) a x).toNat < S512x16.size a)
theorem k0_idx257_inb : ∀ (k0_t1 : Fin k0_t1_loop.trips) (v1633 : IVec S16 32) (v1634 : IVec S16 32) (k0_hw257 : k0_chk257 k0_t1 v1633 v1634), ∀ (k0_h1 : k0_cond1 k0_t1 = 1#1), ∀ a x, ((![v1633, v1634] : Fin 2 → IVec S16 32) a x).toNat < S512x16.size a := fun k0_t1 v1633 v1634 k0_hw257 k0_h1 => k0_hw257 k0_h1

def k0_chk258 (k0_t1 : Fin k0_t1_loop.trips) (v1633 : IVec S16 32) (v1636 : IVec S16 32) : Prop :=
  (∀ (k0_h1 : k0_cond1 k0_t1 = 1#1), ∀ a x, ((![v1633, v1636] : Fin 2 → IVec S16 32) a x).toNat < S512x16.size a)
theorem k0_idx258_inb : ∀ (k0_t1 : Fin k0_t1_loop.trips) (v1633 : IVec S16 32) (v1636 : IVec S16 32) (k0_hw258 : k0_chk258 k0_t1 v1633 v1636), ∀ (k0_h1 : k0_cond1 k0_t1 = 1#1), ∀ a x, ((![v1633, v1636] : Fin 2 → IVec S16 32) a x).toNat < S512x16.size a := fun k0_t1 v1633 v1636 k0_hw258 k0_h1 => k0_hw258 k0_h1

def k0_chk259 (k0_t1 : Fin k0_t1_loop.trips) (v1633 : IVec S16 32) (v1638 : IVec S16 32) : Prop :=
  (∀ (k0_h1 : k0_cond1 k0_t1 = 1#1), ∀ a x, ((![v1633, v1638] : Fin 2 → IVec S16 32) a x).toNat < S512x16.size a)
theorem k0_idx259_inb : ∀ (k0_t1 : Fin k0_t1_loop.trips) (v1633 : IVec S16 32) (v1638 : IVec S16 32) (k0_hw259 : k0_chk259 k0_t1 v1633 v1638), ∀ (k0_h1 : k0_cond1 k0_t1 = 1#1), ∀ a x, ((![v1633, v1638] : Fin 2 → IVec S16 32) a x).toNat < S512x16.size a := fun k0_t1 v1633 v1638 k0_hw259 k0_h1 => k0_hw259 k0_h1

def k0_chk260 (k0_t1 : Fin k0_t1_loop.trips) (v1633 : IVec S16 32) (v1640 : IVec S16 32) : Prop :=
  (∀ (k0_h1 : k0_cond1 k0_t1 = 1#1), ∀ a x, ((![v1633, v1640] : Fin 2 → IVec S16 32) a x).toNat < S512x16.size a)
theorem k0_idx260_inb : ∀ (k0_t1 : Fin k0_t1_loop.trips) (v1633 : IVec S16 32) (v1640 : IVec S16 32) (k0_hw260 : k0_chk260 k0_t1 v1633 v1640), ∀ (k0_h1 : k0_cond1 k0_t1 = 1#1), ∀ a x, ((![v1633, v1640] : Fin 2 → IVec S16 32) a x).toNat < S512x16.size a := fun k0_t1 v1633 v1640 k0_hw260 k0_h1 => k0_hw260 k0_h1

def k0_chk261 (k0_t1 : Fin k0_t1_loop.trips) (v1633 : IVec S16 32) (v1642 : IVec S16 32) : Prop :=
  (∀ (k0_h1 : k0_cond1 k0_t1 = 1#1), ∀ a x, ((![v1633, v1642] : Fin 2 → IVec S16 32) a x).toNat < S512x16.size a)
theorem k0_idx261_inb : ∀ (k0_t1 : Fin k0_t1_loop.trips) (v1633 : IVec S16 32) (v1642 : IVec S16 32) (k0_hw261 : k0_chk261 k0_t1 v1633 v1642), ∀ (k0_h1 : k0_cond1 k0_t1 = 1#1), ∀ a x, ((![v1633, v1642] : Fin 2 → IVec S16 32) a x).toNat < S512x16.size a := fun k0_t1 v1633 v1642 k0_hw261 k0_h1 => k0_hw261 k0_h1

def k0_chk262 (k0_t1 : Fin k0_t1_loop.trips) (v1633 : IVec S16 32) (v1644 : IVec S16 32) : Prop :=
  (∀ (k0_h1 : k0_cond1 k0_t1 = 1#1), ∀ a x, ((![v1633, v1644] : Fin 2 → IVec S16 32) a x).toNat < S512x16.size a)
theorem k0_idx262_inb : ∀ (k0_t1 : Fin k0_t1_loop.trips) (v1633 : IVec S16 32) (v1644 : IVec S16 32) (k0_hw262 : k0_chk262 k0_t1 v1633 v1644), ∀ (k0_h1 : k0_cond1 k0_t1 = 1#1), ∀ a x, ((![v1633, v1644] : Fin 2 → IVec S16 32) a x).toNat < S512x16.size a := fun k0_t1 v1633 v1644 k0_hw262 k0_h1 => k0_hw262 k0_h1

def k0_chk263 (k0_t1 : Fin k0_t1_loop.trips) (v1633 : IVec S16 32) (v1646 : IVec S16 32) : Prop :=
  (∀ (k0_h1 : k0_cond1 k0_t1 = 1#1), ∀ a x, ((![v1633, v1646] : Fin 2 → IVec S16 32) a x).toNat < S512x16.size a)
theorem k0_idx263_inb : ∀ (k0_t1 : Fin k0_t1_loop.trips) (v1633 : IVec S16 32) (v1646 : IVec S16 32) (k0_hw263 : k0_chk263 k0_t1 v1633 v1646), ∀ (k0_h1 : k0_cond1 k0_t1 = 1#1), ∀ a x, ((![v1633, v1646] : Fin 2 → IVec S16 32) a x).toNat < S512x16.size a := fun k0_t1 v1633 v1646 k0_hw263 k0_h1 => k0_hw263 k0_h1

def k0_chk264 (k0_t1 : Fin k0_t1_loop.trips) (v1633 : IVec S16 32) (v1648 : IVec S16 32) : Prop :=
  (∀ (k0_h1 : k0_cond1 k0_t1 = 1#1), ∀ a x, ((![v1633, v1648] : Fin 2 → IVec S16 32) a x).toNat < S512x16.size a)
theorem k0_idx264_inb : ∀ (k0_t1 : Fin k0_t1_loop.trips) (v1633 : IVec S16 32) (v1648 : IVec S16 32) (k0_hw264 : k0_chk264 k0_t1 v1633 v1648), ∀ (k0_h1 : k0_cond1 k0_t1 = 1#1), ∀ a x, ((![v1633, v1648] : Fin 2 → IVec S16 32) a x).toNat < S512x16.size a := fun k0_t1 v1633 v1648 k0_hw264 k0_h1 => k0_hw264 k0_h1

def k0_chk265 (k0_t1 : Fin k0_t1_loop.trips) (v1633 : IVec S16 32) (v1650 : IVec S16 32) : Prop :=
  (∀ (k0_h1 : k0_cond1 k0_t1 = 1#1), ∀ a x, ((![v1633, v1650] : Fin 2 → IVec S16 32) a x).toNat < S512x16.size a)
theorem k0_idx265_inb : ∀ (k0_t1 : Fin k0_t1_loop.trips) (v1633 : IVec S16 32) (v1650 : IVec S16 32) (k0_hw265 : k0_chk265 k0_t1 v1633 v1650), ∀ (k0_h1 : k0_cond1 k0_t1 = 1#1), ∀ a x, ((![v1633, v1650] : Fin 2 → IVec S16 32) a x).toNat < S512x16.size a := fun k0_t1 v1633 v1650 k0_hw265 k0_h1 => k0_hw265 k0_h1

def k0_chk266 (k0_t1 : Fin k0_t1_loop.trips) (v1633 : IVec S16 32) (v1652 : IVec S16 32) : Prop :=
  (∀ (k0_h1 : k0_cond1 k0_t1 = 1#1), ∀ a x, ((![v1633, v1652] : Fin 2 → IVec S16 32) a x).toNat < S512x16.size a)
theorem k0_idx266_inb : ∀ (k0_t1 : Fin k0_t1_loop.trips) (v1633 : IVec S16 32) (v1652 : IVec S16 32) (k0_hw266 : k0_chk266 k0_t1 v1633 v1652), ∀ (k0_h1 : k0_cond1 k0_t1 = 1#1), ∀ a x, ((![v1633, v1652] : Fin 2 → IVec S16 32) a x).toNat < S512x16.size a := fun k0_t1 v1633 v1652 k0_hw266 k0_h1 => k0_hw266 k0_h1

def k0_chk267 (k0_t1 : Fin k0_t1_loop.trips) (v1633 : IVec S16 32) (v1654 : IVec S16 32) : Prop :=
  (∀ (k0_h1 : k0_cond1 k0_t1 = 1#1), ∀ a x, ((![v1633, v1654] : Fin 2 → IVec S16 32) a x).toNat < S512x16.size a)
theorem k0_idx267_inb : ∀ (k0_t1 : Fin k0_t1_loop.trips) (v1633 : IVec S16 32) (v1654 : IVec S16 32) (k0_hw267 : k0_chk267 k0_t1 v1633 v1654), ∀ (k0_h1 : k0_cond1 k0_t1 = 1#1), ∀ a x, ((![v1633, v1654] : Fin 2 → IVec S16 32) a x).toNat < S512x16.size a := fun k0_t1 v1633 v1654 k0_hw267 k0_h1 => k0_hw267 k0_h1

def k0_chk268 (k0_t1 : Fin k0_t1_loop.trips) (v1633 : IVec S16 32) (v1656 : IVec S16 32) : Prop :=
  (∀ (k0_h1 : k0_cond1 k0_t1 = 1#1), ∀ a x, ((![v1633, v1656] : Fin 2 → IVec S16 32) a x).toNat < S512x16.size a)
theorem k0_idx268_inb : ∀ (k0_t1 : Fin k0_t1_loop.trips) (v1633 : IVec S16 32) (v1656 : IVec S16 32) (k0_hw268 : k0_chk268 k0_t1 v1633 v1656), ∀ (k0_h1 : k0_cond1 k0_t1 = 1#1), ∀ a x, ((![v1633, v1656] : Fin 2 → IVec S16 32) a x).toNat < S512x16.size a := fun k0_t1 v1633 v1656 k0_hw268 k0_h1 => k0_hw268 k0_h1

def k0_chk269 (k0_t1 : Fin k0_t1_loop.trips) (v1633 : IVec S16 32) (v1658 : IVec S16 32) : Prop :=
  (∀ (k0_h1 : k0_cond1 k0_t1 = 1#1), ∀ a x, ((![v1633, v1658] : Fin 2 → IVec S16 32) a x).toNat < S512x16.size a)
theorem k0_idx269_inb : ∀ (k0_t1 : Fin k0_t1_loop.trips) (v1633 : IVec S16 32) (v1658 : IVec S16 32) (k0_hw269 : k0_chk269 k0_t1 v1633 v1658), ∀ (k0_h1 : k0_cond1 k0_t1 = 1#1), ∀ a x, ((![v1633, v1658] : Fin 2 → IVec S16 32) a x).toNat < S512x16.size a := fun k0_t1 v1633 v1658 k0_hw269 k0_h1 => k0_hw269 k0_h1

def k0_chk270 (k0_t1 : Fin k0_t1_loop.trips) (v1633 : IVec S16 32) (v1660 : IVec S16 32) : Prop :=
  (∀ (k0_h1 : k0_cond1 k0_t1 = 1#1), ∀ a x, ((![v1633, v1660] : Fin 2 → IVec S16 32) a x).toNat < S512x16.size a)
theorem k0_idx270_inb : ∀ (k0_t1 : Fin k0_t1_loop.trips) (v1633 : IVec S16 32) (v1660 : IVec S16 32) (k0_hw270 : k0_chk270 k0_t1 v1633 v1660), ∀ (k0_h1 : k0_cond1 k0_t1 = 1#1), ∀ a x, ((![v1633, v1660] : Fin 2 → IVec S16 32) a x).toNat < S512x16.size a := fun k0_t1 v1633 v1660 k0_hw270 k0_h1 => k0_hw270 k0_h1

def k0_chk271 (k0_t1 : Fin k0_t1_loop.trips) (v1633 : IVec S16 32) (v1662 : IVec S16 32) : Prop :=
  (∀ (k0_h1 : k0_cond1 k0_t1 = 1#1), ∀ a x, ((![v1633, v1662] : Fin 2 → IVec S16 32) a x).toNat < S512x16.size a)
theorem k0_idx271_inb : ∀ (k0_t1 : Fin k0_t1_loop.trips) (v1633 : IVec S16 32) (v1662 : IVec S16 32) (k0_hw271 : k0_chk271 k0_t1 v1633 v1662), ∀ (k0_h1 : k0_cond1 k0_t1 = 1#1), ∀ a x, ((![v1633, v1662] : Fin 2 → IVec S16 32) a x).toNat < S512x16.size a := fun k0_t1 v1633 v1662 k0_hw271 k0_h1 => k0_hw271 k0_h1

def k0_chk272 (k0_t1 : Fin k0_t1_loop.trips) (v1633 : IVec S16 32) (v1664 : IVec S16 32) : Prop :=
  (∀ (k0_h1 : k0_cond1 k0_t1 = 1#1), ∀ a x, ((![v1633, v1664] : Fin 2 → IVec S16 32) a x).toNat < S512x16.size a)
theorem k0_idx272_inb : ∀ (k0_t1 : Fin k0_t1_loop.trips) (v1633 : IVec S16 32) (v1664 : IVec S16 32) (k0_hw272 : k0_chk272 k0_t1 v1633 v1664), ∀ (k0_h1 : k0_cond1 k0_t1 = 1#1), ∀ a x, ((![v1633, v1664] : Fin 2 → IVec S16 32) a x).toNat < S512x16.size a := fun k0_t1 v1633 v1664 k0_hw272 k0_h1 => k0_hw272 k0_h1

def k0_chk273 (k0_t1 : Fin k0_t1_loop.trips) (v1732 : IVec S16 32) (v1733 : IVec S16 32) : Prop :=
  (∀ (k0_h1 : k0_cond1 k0_t1 = 1#1), ∀ a x, ((![v1732, v1733] : Fin 2 → IVec S16 32) a x).toNat < S512x16.size a)
theorem k0_idx273_inb : ∀ (k0_t1 : Fin k0_t1_loop.trips) (v1732 : IVec S16 32) (v1733 : IVec S16 32) (k0_hw273 : k0_chk273 k0_t1 v1732 v1733), ∀ (k0_h1 : k0_cond1 k0_t1 = 1#1), ∀ a x, ((![v1732, v1733] : Fin 2 → IVec S16 32) a x).toNat < S512x16.size a := fun k0_t1 v1732 v1733 k0_hw273 k0_h1 => k0_hw273 k0_h1

def k0_chk274 (k0_t1 : Fin k0_t1_loop.trips) (v1732 : IVec S16 32) (v1735 : IVec S16 32) : Prop :=
  (∀ (k0_h1 : k0_cond1 k0_t1 = 1#1), ∀ a x, ((![v1732, v1735] : Fin 2 → IVec S16 32) a x).toNat < S512x16.size a)
theorem k0_idx274_inb : ∀ (k0_t1 : Fin k0_t1_loop.trips) (v1732 : IVec S16 32) (v1735 : IVec S16 32) (k0_hw274 : k0_chk274 k0_t1 v1732 v1735), ∀ (k0_h1 : k0_cond1 k0_t1 = 1#1), ∀ a x, ((![v1732, v1735] : Fin 2 → IVec S16 32) a x).toNat < S512x16.size a := fun k0_t1 v1732 v1735 k0_hw274 k0_h1 => k0_hw274 k0_h1

def k0_chk275 (k0_t1 : Fin k0_t1_loop.trips) (v1732 : IVec S16 32) (v1737 : IVec S16 32) : Prop :=
  (∀ (k0_h1 : k0_cond1 k0_t1 = 1#1), ∀ a x, ((![v1732, v1737] : Fin 2 → IVec S16 32) a x).toNat < S512x16.size a)
theorem k0_idx275_inb : ∀ (k0_t1 : Fin k0_t1_loop.trips) (v1732 : IVec S16 32) (v1737 : IVec S16 32) (k0_hw275 : k0_chk275 k0_t1 v1732 v1737), ∀ (k0_h1 : k0_cond1 k0_t1 = 1#1), ∀ a x, ((![v1732, v1737] : Fin 2 → IVec S16 32) a x).toNat < S512x16.size a := fun k0_t1 v1732 v1737 k0_hw275 k0_h1 => k0_hw275 k0_h1

def k0_chk276 (k0_t1 : Fin k0_t1_loop.trips) (v1732 : IVec S16 32) (v1739 : IVec S16 32) : Prop :=
  (∀ (k0_h1 : k0_cond1 k0_t1 = 1#1), ∀ a x, ((![v1732, v1739] : Fin 2 → IVec S16 32) a x).toNat < S512x16.size a)
theorem k0_idx276_inb : ∀ (k0_t1 : Fin k0_t1_loop.trips) (v1732 : IVec S16 32) (v1739 : IVec S16 32) (k0_hw276 : k0_chk276 k0_t1 v1732 v1739), ∀ (k0_h1 : k0_cond1 k0_t1 = 1#1), ∀ a x, ((![v1732, v1739] : Fin 2 → IVec S16 32) a x).toNat < S512x16.size a := fun k0_t1 v1732 v1739 k0_hw276 k0_h1 => k0_hw276 k0_h1

def k0_chk277 (k0_t1 : Fin k0_t1_loop.trips) (v1732 : IVec S16 32) (v1741 : IVec S16 32) : Prop :=
  (∀ (k0_h1 : k0_cond1 k0_t1 = 1#1), ∀ a x, ((![v1732, v1741] : Fin 2 → IVec S16 32) a x).toNat < S512x16.size a)
theorem k0_idx277_inb : ∀ (k0_t1 : Fin k0_t1_loop.trips) (v1732 : IVec S16 32) (v1741 : IVec S16 32) (k0_hw277 : k0_chk277 k0_t1 v1732 v1741), ∀ (k0_h1 : k0_cond1 k0_t1 = 1#1), ∀ a x, ((![v1732, v1741] : Fin 2 → IVec S16 32) a x).toNat < S512x16.size a := fun k0_t1 v1732 v1741 k0_hw277 k0_h1 => k0_hw277 k0_h1

def k0_chk278 (k0_t1 : Fin k0_t1_loop.trips) (v1732 : IVec S16 32) (v1743 : IVec S16 32) : Prop :=
  (∀ (k0_h1 : k0_cond1 k0_t1 = 1#1), ∀ a x, ((![v1732, v1743] : Fin 2 → IVec S16 32) a x).toNat < S512x16.size a)
theorem k0_idx278_inb : ∀ (k0_t1 : Fin k0_t1_loop.trips) (v1732 : IVec S16 32) (v1743 : IVec S16 32) (k0_hw278 : k0_chk278 k0_t1 v1732 v1743), ∀ (k0_h1 : k0_cond1 k0_t1 = 1#1), ∀ a x, ((![v1732, v1743] : Fin 2 → IVec S16 32) a x).toNat < S512x16.size a := fun k0_t1 v1732 v1743 k0_hw278 k0_h1 => k0_hw278 k0_h1

def k0_chk279 (k0_t1 : Fin k0_t1_loop.trips) (v1732 : IVec S16 32) (v1745 : IVec S16 32) : Prop :=
  (∀ (k0_h1 : k0_cond1 k0_t1 = 1#1), ∀ a x, ((![v1732, v1745] : Fin 2 → IVec S16 32) a x).toNat < S512x16.size a)
theorem k0_idx279_inb : ∀ (k0_t1 : Fin k0_t1_loop.trips) (v1732 : IVec S16 32) (v1745 : IVec S16 32) (k0_hw279 : k0_chk279 k0_t1 v1732 v1745), ∀ (k0_h1 : k0_cond1 k0_t1 = 1#1), ∀ a x, ((![v1732, v1745] : Fin 2 → IVec S16 32) a x).toNat < S512x16.size a := fun k0_t1 v1732 v1745 k0_hw279 k0_h1 => k0_hw279 k0_h1

def k0_chk280 (k0_t1 : Fin k0_t1_loop.trips) (v1732 : IVec S16 32) (v1747 : IVec S16 32) : Prop :=
  (∀ (k0_h1 : k0_cond1 k0_t1 = 1#1), ∀ a x, ((![v1732, v1747] : Fin 2 → IVec S16 32) a x).toNat < S512x16.size a)
theorem k0_idx280_inb : ∀ (k0_t1 : Fin k0_t1_loop.trips) (v1732 : IVec S16 32) (v1747 : IVec S16 32) (k0_hw280 : k0_chk280 k0_t1 v1732 v1747), ∀ (k0_h1 : k0_cond1 k0_t1 = 1#1), ∀ a x, ((![v1732, v1747] : Fin 2 → IVec S16 32) a x).toNat < S512x16.size a := fun k0_t1 v1732 v1747 k0_hw280 k0_h1 => k0_hw280 k0_h1

def k0_chk281 (k0_t1 : Fin k0_t1_loop.trips) (v1732 : IVec S16 32) (v1749 : IVec S16 32) : Prop :=
  (∀ (k0_h1 : k0_cond1 k0_t1 = 1#1), ∀ a x, ((![v1732, v1749] : Fin 2 → IVec S16 32) a x).toNat < S512x16.size a)
theorem k0_idx281_inb : ∀ (k0_t1 : Fin k0_t1_loop.trips) (v1732 : IVec S16 32) (v1749 : IVec S16 32) (k0_hw281 : k0_chk281 k0_t1 v1732 v1749), ∀ (k0_h1 : k0_cond1 k0_t1 = 1#1), ∀ a x, ((![v1732, v1749] : Fin 2 → IVec S16 32) a x).toNat < S512x16.size a := fun k0_t1 v1732 v1749 k0_hw281 k0_h1 => k0_hw281 k0_h1

def k0_chk282 (k0_t1 : Fin k0_t1_loop.trips) (v1732 : IVec S16 32) (v1751 : IVec S16 32) : Prop :=
  (∀ (k0_h1 : k0_cond1 k0_t1 = 1#1), ∀ a x, ((![v1732, v1751] : Fin 2 → IVec S16 32) a x).toNat < S512x16.size a)
theorem k0_idx282_inb : ∀ (k0_t1 : Fin k0_t1_loop.trips) (v1732 : IVec S16 32) (v1751 : IVec S16 32) (k0_hw282 : k0_chk282 k0_t1 v1732 v1751), ∀ (k0_h1 : k0_cond1 k0_t1 = 1#1), ∀ a x, ((![v1732, v1751] : Fin 2 → IVec S16 32) a x).toNat < S512x16.size a := fun k0_t1 v1732 v1751 k0_hw282 k0_h1 => k0_hw282 k0_h1

def k0_chk283 (k0_t1 : Fin k0_t1_loop.trips) (v1732 : IVec S16 32) (v1753 : IVec S16 32) : Prop :=
  (∀ (k0_h1 : k0_cond1 k0_t1 = 1#1), ∀ a x, ((![v1732, v1753] : Fin 2 → IVec S16 32) a x).toNat < S512x16.size a)
theorem k0_idx283_inb : ∀ (k0_t1 : Fin k0_t1_loop.trips) (v1732 : IVec S16 32) (v1753 : IVec S16 32) (k0_hw283 : k0_chk283 k0_t1 v1732 v1753), ∀ (k0_h1 : k0_cond1 k0_t1 = 1#1), ∀ a x, ((![v1732, v1753] : Fin 2 → IVec S16 32) a x).toNat < S512x16.size a := fun k0_t1 v1732 v1753 k0_hw283 k0_h1 => k0_hw283 k0_h1

def k0_chk284 (k0_t1 : Fin k0_t1_loop.trips) (v1732 : IVec S16 32) (v1755 : IVec S16 32) : Prop :=
  (∀ (k0_h1 : k0_cond1 k0_t1 = 1#1), ∀ a x, ((![v1732, v1755] : Fin 2 → IVec S16 32) a x).toNat < S512x16.size a)
theorem k0_idx284_inb : ∀ (k0_t1 : Fin k0_t1_loop.trips) (v1732 : IVec S16 32) (v1755 : IVec S16 32) (k0_hw284 : k0_chk284 k0_t1 v1732 v1755), ∀ (k0_h1 : k0_cond1 k0_t1 = 1#1), ∀ a x, ((![v1732, v1755] : Fin 2 → IVec S16 32) a x).toNat < S512x16.size a := fun k0_t1 v1732 v1755 k0_hw284 k0_h1 => k0_hw284 k0_h1

def k0_chk285 (k0_t1 : Fin k0_t1_loop.trips) (v1732 : IVec S16 32) (v1757 : IVec S16 32) : Prop :=
  (∀ (k0_h1 : k0_cond1 k0_t1 = 1#1), ∀ a x, ((![v1732, v1757] : Fin 2 → IVec S16 32) a x).toNat < S512x16.size a)
theorem k0_idx285_inb : ∀ (k0_t1 : Fin k0_t1_loop.trips) (v1732 : IVec S16 32) (v1757 : IVec S16 32) (k0_hw285 : k0_chk285 k0_t1 v1732 v1757), ∀ (k0_h1 : k0_cond1 k0_t1 = 1#1), ∀ a x, ((![v1732, v1757] : Fin 2 → IVec S16 32) a x).toNat < S512x16.size a := fun k0_t1 v1732 v1757 k0_hw285 k0_h1 => k0_hw285 k0_h1

def k0_chk286 (k0_t1 : Fin k0_t1_loop.trips) (v1732 : IVec S16 32) (v1759 : IVec S16 32) : Prop :=
  (∀ (k0_h1 : k0_cond1 k0_t1 = 1#1), ∀ a x, ((![v1732, v1759] : Fin 2 → IVec S16 32) a x).toNat < S512x16.size a)
theorem k0_idx286_inb : ∀ (k0_t1 : Fin k0_t1_loop.trips) (v1732 : IVec S16 32) (v1759 : IVec S16 32) (k0_hw286 : k0_chk286 k0_t1 v1732 v1759), ∀ (k0_h1 : k0_cond1 k0_t1 = 1#1), ∀ a x, ((![v1732, v1759] : Fin 2 → IVec S16 32) a x).toNat < S512x16.size a := fun k0_t1 v1732 v1759 k0_hw286 k0_h1 => k0_hw286 k0_h1

def k0_chk287 (k0_t1 : Fin k0_t1_loop.trips) (v1732 : IVec S16 32) (v1761 : IVec S16 32) : Prop :=
  (∀ (k0_h1 : k0_cond1 k0_t1 = 1#1), ∀ a x, ((![v1732, v1761] : Fin 2 → IVec S16 32) a x).toNat < S512x16.size a)
theorem k0_idx287_inb : ∀ (k0_t1 : Fin k0_t1_loop.trips) (v1732 : IVec S16 32) (v1761 : IVec S16 32) (k0_hw287 : k0_chk287 k0_t1 v1732 v1761), ∀ (k0_h1 : k0_cond1 k0_t1 = 1#1), ∀ a x, ((![v1732, v1761] : Fin 2 → IVec S16 32) a x).toNat < S512x16.size a := fun k0_t1 v1732 v1761 k0_hw287 k0_h1 => k0_hw287 k0_h1

def k0_chk288 (k0_t1 : Fin k0_t1_loop.trips) (v1732 : IVec S16 32) (v1763 : IVec S16 32) : Prop :=
  (∀ (k0_h1 : k0_cond1 k0_t1 = 1#1), ∀ a x, ((![v1732, v1763] : Fin 2 → IVec S16 32) a x).toNat < S512x16.size a)
theorem k0_idx288_inb : ∀ (k0_t1 : Fin k0_t1_loop.trips) (v1732 : IVec S16 32) (v1763 : IVec S16 32) (k0_hw288 : k0_chk288 k0_t1 v1732 v1763), ∀ (k0_h1 : k0_cond1 k0_t1 = 1#1), ∀ a x, ((![v1732, v1763] : Fin 2 → IVec S16 32) a x).toNat < S512x16.size a := fun k0_t1 v1732 v1763 k0_hw288 k0_h1 => k0_hw288 k0_h1

def k0_chk289 (k0_t1 : Fin k0_t1_loop.trips) (v1831 : IVec S16 32) (v1832 : IVec S16 32) : Prop :=
  (∀ (k0_h1 : k0_cond1 k0_t1 = 1#1), ∀ a x, ((![v1831, v1832] : Fin 2 → IVec S16 32) a x).toNat < S512x16.size a)
theorem k0_idx289_inb : ∀ (k0_t1 : Fin k0_t1_loop.trips) (v1831 : IVec S16 32) (v1832 : IVec S16 32) (k0_hw289 : k0_chk289 k0_t1 v1831 v1832), ∀ (k0_h1 : k0_cond1 k0_t1 = 1#1), ∀ a x, ((![v1831, v1832] : Fin 2 → IVec S16 32) a x).toNat < S512x16.size a := fun k0_t1 v1831 v1832 k0_hw289 k0_h1 => k0_hw289 k0_h1

def k0_chk290 (k0_t1 : Fin k0_t1_loop.trips) (v1831 : IVec S16 32) (v1834 : IVec S16 32) : Prop :=
  (∀ (k0_h1 : k0_cond1 k0_t1 = 1#1), ∀ a x, ((![v1831, v1834] : Fin 2 → IVec S16 32) a x).toNat < S512x16.size a)
theorem k0_idx290_inb : ∀ (k0_t1 : Fin k0_t1_loop.trips) (v1831 : IVec S16 32) (v1834 : IVec S16 32) (k0_hw290 : k0_chk290 k0_t1 v1831 v1834), ∀ (k0_h1 : k0_cond1 k0_t1 = 1#1), ∀ a x, ((![v1831, v1834] : Fin 2 → IVec S16 32) a x).toNat < S512x16.size a := fun k0_t1 v1831 v1834 k0_hw290 k0_h1 => k0_hw290 k0_h1

def k0_chk291 (k0_t1 : Fin k0_t1_loop.trips) (v1831 : IVec S16 32) (v1836 : IVec S16 32) : Prop :=
  (∀ (k0_h1 : k0_cond1 k0_t1 = 1#1), ∀ a x, ((![v1831, v1836] : Fin 2 → IVec S16 32) a x).toNat < S512x16.size a)
theorem k0_idx291_inb : ∀ (k0_t1 : Fin k0_t1_loop.trips) (v1831 : IVec S16 32) (v1836 : IVec S16 32) (k0_hw291 : k0_chk291 k0_t1 v1831 v1836), ∀ (k0_h1 : k0_cond1 k0_t1 = 1#1), ∀ a x, ((![v1831, v1836] : Fin 2 → IVec S16 32) a x).toNat < S512x16.size a := fun k0_t1 v1831 v1836 k0_hw291 k0_h1 => k0_hw291 k0_h1

def k0_chk292 (k0_t1 : Fin k0_t1_loop.trips) (v1831 : IVec S16 32) (v1838 : IVec S16 32) : Prop :=
  (∀ (k0_h1 : k0_cond1 k0_t1 = 1#1), ∀ a x, ((![v1831, v1838] : Fin 2 → IVec S16 32) a x).toNat < S512x16.size a)
theorem k0_idx292_inb : ∀ (k0_t1 : Fin k0_t1_loop.trips) (v1831 : IVec S16 32) (v1838 : IVec S16 32) (k0_hw292 : k0_chk292 k0_t1 v1831 v1838), ∀ (k0_h1 : k0_cond1 k0_t1 = 1#1), ∀ a x, ((![v1831, v1838] : Fin 2 → IVec S16 32) a x).toNat < S512x16.size a := fun k0_t1 v1831 v1838 k0_hw292 k0_h1 => k0_hw292 k0_h1

def k0_chk293 (k0_t1 : Fin k0_t1_loop.trips) (v1831 : IVec S16 32) (v1840 : IVec S16 32) : Prop :=
  (∀ (k0_h1 : k0_cond1 k0_t1 = 1#1), ∀ a x, ((![v1831, v1840] : Fin 2 → IVec S16 32) a x).toNat < S512x16.size a)
theorem k0_idx293_inb : ∀ (k0_t1 : Fin k0_t1_loop.trips) (v1831 : IVec S16 32) (v1840 : IVec S16 32) (k0_hw293 : k0_chk293 k0_t1 v1831 v1840), ∀ (k0_h1 : k0_cond1 k0_t1 = 1#1), ∀ a x, ((![v1831, v1840] : Fin 2 → IVec S16 32) a x).toNat < S512x16.size a := fun k0_t1 v1831 v1840 k0_hw293 k0_h1 => k0_hw293 k0_h1

def k0_chk294 (k0_t1 : Fin k0_t1_loop.trips) (v1831 : IVec S16 32) (v1842 : IVec S16 32) : Prop :=
  (∀ (k0_h1 : k0_cond1 k0_t1 = 1#1), ∀ a x, ((![v1831, v1842] : Fin 2 → IVec S16 32) a x).toNat < S512x16.size a)
theorem k0_idx294_inb : ∀ (k0_t1 : Fin k0_t1_loop.trips) (v1831 : IVec S16 32) (v1842 : IVec S16 32) (k0_hw294 : k0_chk294 k0_t1 v1831 v1842), ∀ (k0_h1 : k0_cond1 k0_t1 = 1#1), ∀ a x, ((![v1831, v1842] : Fin 2 → IVec S16 32) a x).toNat < S512x16.size a := fun k0_t1 v1831 v1842 k0_hw294 k0_h1 => k0_hw294 k0_h1

def k0_chk295 (k0_t1 : Fin k0_t1_loop.trips) (v1831 : IVec S16 32) (v1844 : IVec S16 32) : Prop :=
  (∀ (k0_h1 : k0_cond1 k0_t1 = 1#1), ∀ a x, ((![v1831, v1844] : Fin 2 → IVec S16 32) a x).toNat < S512x16.size a)
theorem k0_idx295_inb : ∀ (k0_t1 : Fin k0_t1_loop.trips) (v1831 : IVec S16 32) (v1844 : IVec S16 32) (k0_hw295 : k0_chk295 k0_t1 v1831 v1844), ∀ (k0_h1 : k0_cond1 k0_t1 = 1#1), ∀ a x, ((![v1831, v1844] : Fin 2 → IVec S16 32) a x).toNat < S512x16.size a := fun k0_t1 v1831 v1844 k0_hw295 k0_h1 => k0_hw295 k0_h1

def k0_chk296 (k0_t1 : Fin k0_t1_loop.trips) (v1831 : IVec S16 32) (v1846 : IVec S16 32) : Prop :=
  (∀ (k0_h1 : k0_cond1 k0_t1 = 1#1), ∀ a x, ((![v1831, v1846] : Fin 2 → IVec S16 32) a x).toNat < S512x16.size a)
theorem k0_idx296_inb : ∀ (k0_t1 : Fin k0_t1_loop.trips) (v1831 : IVec S16 32) (v1846 : IVec S16 32) (k0_hw296 : k0_chk296 k0_t1 v1831 v1846), ∀ (k0_h1 : k0_cond1 k0_t1 = 1#1), ∀ a x, ((![v1831, v1846] : Fin 2 → IVec S16 32) a x).toNat < S512x16.size a := fun k0_t1 v1831 v1846 k0_hw296 k0_h1 => k0_hw296 k0_h1

def k0_chk297 (k0_t1 : Fin k0_t1_loop.trips) (v1831 : IVec S16 32) (v1848 : IVec S16 32) : Prop :=
  (∀ (k0_h1 : k0_cond1 k0_t1 = 1#1), ∀ a x, ((![v1831, v1848] : Fin 2 → IVec S16 32) a x).toNat < S512x16.size a)
theorem k0_idx297_inb : ∀ (k0_t1 : Fin k0_t1_loop.trips) (v1831 : IVec S16 32) (v1848 : IVec S16 32) (k0_hw297 : k0_chk297 k0_t1 v1831 v1848), ∀ (k0_h1 : k0_cond1 k0_t1 = 1#1), ∀ a x, ((![v1831, v1848] : Fin 2 → IVec S16 32) a x).toNat < S512x16.size a := fun k0_t1 v1831 v1848 k0_hw297 k0_h1 => k0_hw297 k0_h1

def k0_chk298 (k0_t1 : Fin k0_t1_loop.trips) (v1831 : IVec S16 32) (v1850 : IVec S16 32) : Prop :=
  (∀ (k0_h1 : k0_cond1 k0_t1 = 1#1), ∀ a x, ((![v1831, v1850] : Fin 2 → IVec S16 32) a x).toNat < S512x16.size a)
theorem k0_idx298_inb : ∀ (k0_t1 : Fin k0_t1_loop.trips) (v1831 : IVec S16 32) (v1850 : IVec S16 32) (k0_hw298 : k0_chk298 k0_t1 v1831 v1850), ∀ (k0_h1 : k0_cond1 k0_t1 = 1#1), ∀ a x, ((![v1831, v1850] : Fin 2 → IVec S16 32) a x).toNat < S512x16.size a := fun k0_t1 v1831 v1850 k0_hw298 k0_h1 => k0_hw298 k0_h1

def k0_chk299 (k0_t1 : Fin k0_t1_loop.trips) (v1831 : IVec S16 32) (v1852 : IVec S16 32) : Prop :=
  (∀ (k0_h1 : k0_cond1 k0_t1 = 1#1), ∀ a x, ((![v1831, v1852] : Fin 2 → IVec S16 32) a x).toNat < S512x16.size a)
theorem k0_idx299_inb : ∀ (k0_t1 : Fin k0_t1_loop.trips) (v1831 : IVec S16 32) (v1852 : IVec S16 32) (k0_hw299 : k0_chk299 k0_t1 v1831 v1852), ∀ (k0_h1 : k0_cond1 k0_t1 = 1#1), ∀ a x, ((![v1831, v1852] : Fin 2 → IVec S16 32) a x).toNat < S512x16.size a := fun k0_t1 v1831 v1852 k0_hw299 k0_h1 => k0_hw299 k0_h1

def k0_chk300 (k0_t1 : Fin k0_t1_loop.trips) (v1831 : IVec S16 32) (v1854 : IVec S16 32) : Prop :=
  (∀ (k0_h1 : k0_cond1 k0_t1 = 1#1), ∀ a x, ((![v1831, v1854] : Fin 2 → IVec S16 32) a x).toNat < S512x16.size a)
theorem k0_idx300_inb : ∀ (k0_t1 : Fin k0_t1_loop.trips) (v1831 : IVec S16 32) (v1854 : IVec S16 32) (k0_hw300 : k0_chk300 k0_t1 v1831 v1854), ∀ (k0_h1 : k0_cond1 k0_t1 = 1#1), ∀ a x, ((![v1831, v1854] : Fin 2 → IVec S16 32) a x).toNat < S512x16.size a := fun k0_t1 v1831 v1854 k0_hw300 k0_h1 => k0_hw300 k0_h1

def k0_chk301 (k0_t1 : Fin k0_t1_loop.trips) (v1831 : IVec S16 32) (v1856 : IVec S16 32) : Prop :=
  (∀ (k0_h1 : k0_cond1 k0_t1 = 1#1), ∀ a x, ((![v1831, v1856] : Fin 2 → IVec S16 32) a x).toNat < S512x16.size a)
theorem k0_idx301_inb : ∀ (k0_t1 : Fin k0_t1_loop.trips) (v1831 : IVec S16 32) (v1856 : IVec S16 32) (k0_hw301 : k0_chk301 k0_t1 v1831 v1856), ∀ (k0_h1 : k0_cond1 k0_t1 = 1#1), ∀ a x, ((![v1831, v1856] : Fin 2 → IVec S16 32) a x).toNat < S512x16.size a := fun k0_t1 v1831 v1856 k0_hw301 k0_h1 => k0_hw301 k0_h1

def k0_chk302 (k0_t1 : Fin k0_t1_loop.trips) (v1831 : IVec S16 32) (v1858 : IVec S16 32) : Prop :=
  (∀ (k0_h1 : k0_cond1 k0_t1 = 1#1), ∀ a x, ((![v1831, v1858] : Fin 2 → IVec S16 32) a x).toNat < S512x16.size a)
theorem k0_idx302_inb : ∀ (k0_t1 : Fin k0_t1_loop.trips) (v1831 : IVec S16 32) (v1858 : IVec S16 32) (k0_hw302 : k0_chk302 k0_t1 v1831 v1858), ∀ (k0_h1 : k0_cond1 k0_t1 = 1#1), ∀ a x, ((![v1831, v1858] : Fin 2 → IVec S16 32) a x).toNat < S512x16.size a := fun k0_t1 v1831 v1858 k0_hw302 k0_h1 => k0_hw302 k0_h1

def k0_chk303 (k0_t1 : Fin k0_t1_loop.trips) (v1831 : IVec S16 32) (v1860 : IVec S16 32) : Prop :=
  (∀ (k0_h1 : k0_cond1 k0_t1 = 1#1), ∀ a x, ((![v1831, v1860] : Fin 2 → IVec S16 32) a x).toNat < S512x16.size a)
theorem k0_idx303_inb : ∀ (k0_t1 : Fin k0_t1_loop.trips) (v1831 : IVec S16 32) (v1860 : IVec S16 32) (k0_hw303 : k0_chk303 k0_t1 v1831 v1860), ∀ (k0_h1 : k0_cond1 k0_t1 = 1#1), ∀ a x, ((![v1831, v1860] : Fin 2 → IVec S16 32) a x).toNat < S512x16.size a := fun k0_t1 v1831 v1860 k0_hw303 k0_h1 => k0_hw303 k0_h1

def k0_chk304 (k0_t1 : Fin k0_t1_loop.trips) (v1831 : IVec S16 32) (v1862 : IVec S16 32) : Prop :=
  (∀ (k0_h1 : k0_cond1 k0_t1 = 1#1), ∀ a x, ((![v1831, v1862] : Fin 2 → IVec S16 32) a x).toNat < S512x16.size a)
theorem k0_idx304_inb : ∀ (k0_t1 : Fin k0_t1_loop.trips) (v1831 : IVec S16 32) (v1862 : IVec S16 32) (k0_hw304 : k0_chk304 k0_t1 v1831 v1862), ∀ (k0_h1 : k0_cond1 k0_t1 = 1#1), ∀ a x, ((![v1831, v1862] : Fin 2 → IVec S16 32) a x).toNat < S512x16.size a := fun k0_t1 v1831 v1862 k0_hw304 k0_h1 => k0_hw304 k0_h1

def k0_chk305 (k0_t1 : Fin k0_t1_loop.trips) (v1930 : IVec S16 32) (v1931 : IVec S16 32) : Prop :=
  (∀ (k0_h1 : k0_cond1 k0_t1 = 1#1), ∀ a x, ((![v1930, v1931] : Fin 2 → IVec S16 32) a x).toNat < S512x16.size a)
theorem k0_idx305_inb : ∀ (k0_t1 : Fin k0_t1_loop.trips) (v1930 : IVec S16 32) (v1931 : IVec S16 32) (k0_hw305 : k0_chk305 k0_t1 v1930 v1931), ∀ (k0_h1 : k0_cond1 k0_t1 = 1#1), ∀ a x, ((![v1930, v1931] : Fin 2 → IVec S16 32) a x).toNat < S512x16.size a := fun k0_t1 v1930 v1931 k0_hw305 k0_h1 => k0_hw305 k0_h1

def k0_chk306 (k0_t1 : Fin k0_t1_loop.trips) (v1930 : IVec S16 32) (v1933 : IVec S16 32) : Prop :=
  (∀ (k0_h1 : k0_cond1 k0_t1 = 1#1), ∀ a x, ((![v1930, v1933] : Fin 2 → IVec S16 32) a x).toNat < S512x16.size a)
theorem k0_idx306_inb : ∀ (k0_t1 : Fin k0_t1_loop.trips) (v1930 : IVec S16 32) (v1933 : IVec S16 32) (k0_hw306 : k0_chk306 k0_t1 v1930 v1933), ∀ (k0_h1 : k0_cond1 k0_t1 = 1#1), ∀ a x, ((![v1930, v1933] : Fin 2 → IVec S16 32) a x).toNat < S512x16.size a := fun k0_t1 v1930 v1933 k0_hw306 k0_h1 => k0_hw306 k0_h1

def k0_chk307 (k0_t1 : Fin k0_t1_loop.trips) (v1930 : IVec S16 32) (v1935 : IVec S16 32) : Prop :=
  (∀ (k0_h1 : k0_cond1 k0_t1 = 1#1), ∀ a x, ((![v1930, v1935] : Fin 2 → IVec S16 32) a x).toNat < S512x16.size a)
theorem k0_idx307_inb : ∀ (k0_t1 : Fin k0_t1_loop.trips) (v1930 : IVec S16 32) (v1935 : IVec S16 32) (k0_hw307 : k0_chk307 k0_t1 v1930 v1935), ∀ (k0_h1 : k0_cond1 k0_t1 = 1#1), ∀ a x, ((![v1930, v1935] : Fin 2 → IVec S16 32) a x).toNat < S512x16.size a := fun k0_t1 v1930 v1935 k0_hw307 k0_h1 => k0_hw307 k0_h1

def k0_chk308 (k0_t1 : Fin k0_t1_loop.trips) (v1930 : IVec S16 32) (v1937 : IVec S16 32) : Prop :=
  (∀ (k0_h1 : k0_cond1 k0_t1 = 1#1), ∀ a x, ((![v1930, v1937] : Fin 2 → IVec S16 32) a x).toNat < S512x16.size a)
theorem k0_idx308_inb : ∀ (k0_t1 : Fin k0_t1_loop.trips) (v1930 : IVec S16 32) (v1937 : IVec S16 32) (k0_hw308 : k0_chk308 k0_t1 v1930 v1937), ∀ (k0_h1 : k0_cond1 k0_t1 = 1#1), ∀ a x, ((![v1930, v1937] : Fin 2 → IVec S16 32) a x).toNat < S512x16.size a := fun k0_t1 v1930 v1937 k0_hw308 k0_h1 => k0_hw308 k0_h1

def k0_chk309 (k0_t1 : Fin k0_t1_loop.trips) (v1930 : IVec S16 32) (v1939 : IVec S16 32) : Prop :=
  (∀ (k0_h1 : k0_cond1 k0_t1 = 1#1), ∀ a x, ((![v1930, v1939] : Fin 2 → IVec S16 32) a x).toNat < S512x16.size a)
theorem k0_idx309_inb : ∀ (k0_t1 : Fin k0_t1_loop.trips) (v1930 : IVec S16 32) (v1939 : IVec S16 32) (k0_hw309 : k0_chk309 k0_t1 v1930 v1939), ∀ (k0_h1 : k0_cond1 k0_t1 = 1#1), ∀ a x, ((![v1930, v1939] : Fin 2 → IVec S16 32) a x).toNat < S512x16.size a := fun k0_t1 v1930 v1939 k0_hw309 k0_h1 => k0_hw309 k0_h1

def k0_chk310 (k0_t1 : Fin k0_t1_loop.trips) (v1930 : IVec S16 32) (v1941 : IVec S16 32) : Prop :=
  (∀ (k0_h1 : k0_cond1 k0_t1 = 1#1), ∀ a x, ((![v1930, v1941] : Fin 2 → IVec S16 32) a x).toNat < S512x16.size a)
theorem k0_idx310_inb : ∀ (k0_t1 : Fin k0_t1_loop.trips) (v1930 : IVec S16 32) (v1941 : IVec S16 32) (k0_hw310 : k0_chk310 k0_t1 v1930 v1941), ∀ (k0_h1 : k0_cond1 k0_t1 = 1#1), ∀ a x, ((![v1930, v1941] : Fin 2 → IVec S16 32) a x).toNat < S512x16.size a := fun k0_t1 v1930 v1941 k0_hw310 k0_h1 => k0_hw310 k0_h1

def k0_chk311 (k0_t1 : Fin k0_t1_loop.trips) (v1930 : IVec S16 32) (v1943 : IVec S16 32) : Prop :=
  (∀ (k0_h1 : k0_cond1 k0_t1 = 1#1), ∀ a x, ((![v1930, v1943] : Fin 2 → IVec S16 32) a x).toNat < S512x16.size a)
theorem k0_idx311_inb : ∀ (k0_t1 : Fin k0_t1_loop.trips) (v1930 : IVec S16 32) (v1943 : IVec S16 32) (k0_hw311 : k0_chk311 k0_t1 v1930 v1943), ∀ (k0_h1 : k0_cond1 k0_t1 = 1#1), ∀ a x, ((![v1930, v1943] : Fin 2 → IVec S16 32) a x).toNat < S512x16.size a := fun k0_t1 v1930 v1943 k0_hw311 k0_h1 => k0_hw311 k0_h1

def k0_chk312 (k0_t1 : Fin k0_t1_loop.trips) (v1930 : IVec S16 32) (v1945 : IVec S16 32) : Prop :=
  (∀ (k0_h1 : k0_cond1 k0_t1 = 1#1), ∀ a x, ((![v1930, v1945] : Fin 2 → IVec S16 32) a x).toNat < S512x16.size a)
theorem k0_idx312_inb : ∀ (k0_t1 : Fin k0_t1_loop.trips) (v1930 : IVec S16 32) (v1945 : IVec S16 32) (k0_hw312 : k0_chk312 k0_t1 v1930 v1945), ∀ (k0_h1 : k0_cond1 k0_t1 = 1#1), ∀ a x, ((![v1930, v1945] : Fin 2 → IVec S16 32) a x).toNat < S512x16.size a := fun k0_t1 v1930 v1945 k0_hw312 k0_h1 => k0_hw312 k0_h1

def k0_chk313 (k0_t1 : Fin k0_t1_loop.trips) (v1930 : IVec S16 32) (v1947 : IVec S16 32) : Prop :=
  (∀ (k0_h1 : k0_cond1 k0_t1 = 1#1), ∀ a x, ((![v1930, v1947] : Fin 2 → IVec S16 32) a x).toNat < S512x16.size a)
theorem k0_idx313_inb : ∀ (k0_t1 : Fin k0_t1_loop.trips) (v1930 : IVec S16 32) (v1947 : IVec S16 32) (k0_hw313 : k0_chk313 k0_t1 v1930 v1947), ∀ (k0_h1 : k0_cond1 k0_t1 = 1#1), ∀ a x, ((![v1930, v1947] : Fin 2 → IVec S16 32) a x).toNat < S512x16.size a := fun k0_t1 v1930 v1947 k0_hw313 k0_h1 => k0_hw313 k0_h1

def k0_chk314 (k0_t1 : Fin k0_t1_loop.trips) (v1930 : IVec S16 32) (v1949 : IVec S16 32) : Prop :=
  (∀ (k0_h1 : k0_cond1 k0_t1 = 1#1), ∀ a x, ((![v1930, v1949] : Fin 2 → IVec S16 32) a x).toNat < S512x16.size a)
theorem k0_idx314_inb : ∀ (k0_t1 : Fin k0_t1_loop.trips) (v1930 : IVec S16 32) (v1949 : IVec S16 32) (k0_hw314 : k0_chk314 k0_t1 v1930 v1949), ∀ (k0_h1 : k0_cond1 k0_t1 = 1#1), ∀ a x, ((![v1930, v1949] : Fin 2 → IVec S16 32) a x).toNat < S512x16.size a := fun k0_t1 v1930 v1949 k0_hw314 k0_h1 => k0_hw314 k0_h1

def k0_chk315 (k0_t1 : Fin k0_t1_loop.trips) (v1930 : IVec S16 32) (v1951 : IVec S16 32) : Prop :=
  (∀ (k0_h1 : k0_cond1 k0_t1 = 1#1), ∀ a x, ((![v1930, v1951] : Fin 2 → IVec S16 32) a x).toNat < S512x16.size a)
theorem k0_idx315_inb : ∀ (k0_t1 : Fin k0_t1_loop.trips) (v1930 : IVec S16 32) (v1951 : IVec S16 32) (k0_hw315 : k0_chk315 k0_t1 v1930 v1951), ∀ (k0_h1 : k0_cond1 k0_t1 = 1#1), ∀ a x, ((![v1930, v1951] : Fin 2 → IVec S16 32) a x).toNat < S512x16.size a := fun k0_t1 v1930 v1951 k0_hw315 k0_h1 => k0_hw315 k0_h1

def k0_chk316 (k0_t1 : Fin k0_t1_loop.trips) (v1930 : IVec S16 32) (v1953 : IVec S16 32) : Prop :=
  (∀ (k0_h1 : k0_cond1 k0_t1 = 1#1), ∀ a x, ((![v1930, v1953] : Fin 2 → IVec S16 32) a x).toNat < S512x16.size a)
theorem k0_idx316_inb : ∀ (k0_t1 : Fin k0_t1_loop.trips) (v1930 : IVec S16 32) (v1953 : IVec S16 32) (k0_hw316 : k0_chk316 k0_t1 v1930 v1953), ∀ (k0_h1 : k0_cond1 k0_t1 = 1#1), ∀ a x, ((![v1930, v1953] : Fin 2 → IVec S16 32) a x).toNat < S512x16.size a := fun k0_t1 v1930 v1953 k0_hw316 k0_h1 => k0_hw316 k0_h1

def k0_chk317 (k0_t1 : Fin k0_t1_loop.trips) (v1930 : IVec S16 32) (v1955 : IVec S16 32) : Prop :=
  (∀ (k0_h1 : k0_cond1 k0_t1 = 1#1), ∀ a x, ((![v1930, v1955] : Fin 2 → IVec S16 32) a x).toNat < S512x16.size a)
theorem k0_idx317_inb : ∀ (k0_t1 : Fin k0_t1_loop.trips) (v1930 : IVec S16 32) (v1955 : IVec S16 32) (k0_hw317 : k0_chk317 k0_t1 v1930 v1955), ∀ (k0_h1 : k0_cond1 k0_t1 = 1#1), ∀ a x, ((![v1930, v1955] : Fin 2 → IVec S16 32) a x).toNat < S512x16.size a := fun k0_t1 v1930 v1955 k0_hw317 k0_h1 => k0_hw317 k0_h1

def k0_chk318 (k0_t1 : Fin k0_t1_loop.trips) (v1930 : IVec S16 32) (v1957 : IVec S16 32) : Prop :=
  (∀ (k0_h1 : k0_cond1 k0_t1 = 1#1), ∀ a x, ((![v1930, v1957] : Fin 2 → IVec S16 32) a x).toNat < S512x16.size a)
theorem k0_idx318_inb : ∀ (k0_t1 : Fin k0_t1_loop.trips) (v1930 : IVec S16 32) (v1957 : IVec S16 32) (k0_hw318 : k0_chk318 k0_t1 v1930 v1957), ∀ (k0_h1 : k0_cond1 k0_t1 = 1#1), ∀ a x, ((![v1930, v1957] : Fin 2 → IVec S16 32) a x).toNat < S512x16.size a := fun k0_t1 v1930 v1957 k0_hw318 k0_h1 => k0_hw318 k0_h1

def k0_chk319 (k0_t1 : Fin k0_t1_loop.trips) (v1930 : IVec S16 32) (v1959 : IVec S16 32) : Prop :=
  (∀ (k0_h1 : k0_cond1 k0_t1 = 1#1), ∀ a x, ((![v1930, v1959] : Fin 2 → IVec S16 32) a x).toNat < S512x16.size a)
theorem k0_idx319_inb : ∀ (k0_t1 : Fin k0_t1_loop.trips) (v1930 : IVec S16 32) (v1959 : IVec S16 32) (k0_hw319 : k0_chk319 k0_t1 v1930 v1959), ∀ (k0_h1 : k0_cond1 k0_t1 = 1#1), ∀ a x, ((![v1930, v1959] : Fin 2 → IVec S16 32) a x).toNat < S512x16.size a := fun k0_t1 v1930 v1959 k0_hw319 k0_h1 => k0_hw319 k0_h1

def k0_chk320 (k0_t1 : Fin k0_t1_loop.trips) (v1930 : IVec S16 32) (v1961 : IVec S16 32) : Prop :=
  (∀ (k0_h1 : k0_cond1 k0_t1 = 1#1), ∀ a x, ((![v1930, v1961] : Fin 2 → IVec S16 32) a x).toNat < S512x16.size a)
theorem k0_idx320_inb : ∀ (k0_t1 : Fin k0_t1_loop.trips) (v1930 : IVec S16 32) (v1961 : IVec S16 32) (k0_hw320 : k0_chk320 k0_t1 v1930 v1961), ∀ (k0_h1 : k0_cond1 k0_t1 = 1#1), ∀ a x, ((![v1930, v1961] : Fin 2 → IVec S16 32) a x).toNat < S512x16.size a := fun k0_t1 v1930 v1961 k0_hw320 k0_h1 => k0_hw320 k0_h1

def k0_chk321 (k0_t1 : Fin k0_t1_loop.trips) (v2029 : IVec S16 32) (v2030 : IVec S16 32) : Prop :=
  (∀ (k0_h1 : k0_cond1 k0_t1 = 1#1), ∀ a x, ((![v2029, v2030] : Fin 2 → IVec S16 32) a x).toNat < S512x16.size a)
theorem k0_idx321_inb : ∀ (k0_t1 : Fin k0_t1_loop.trips) (v2029 : IVec S16 32) (v2030 : IVec S16 32) (k0_hw321 : k0_chk321 k0_t1 v2029 v2030), ∀ (k0_h1 : k0_cond1 k0_t1 = 1#1), ∀ a x, ((![v2029, v2030] : Fin 2 → IVec S16 32) a x).toNat < S512x16.size a := fun k0_t1 v2029 v2030 k0_hw321 k0_h1 => k0_hw321 k0_h1

def k0_chk322 (k0_t1 : Fin k0_t1_loop.trips) (v2029 : IVec S16 32) (v2032 : IVec S16 32) : Prop :=
  (∀ (k0_h1 : k0_cond1 k0_t1 = 1#1), ∀ a x, ((![v2029, v2032] : Fin 2 → IVec S16 32) a x).toNat < S512x16.size a)
theorem k0_idx322_inb : ∀ (k0_t1 : Fin k0_t1_loop.trips) (v2029 : IVec S16 32) (v2032 : IVec S16 32) (k0_hw322 : k0_chk322 k0_t1 v2029 v2032), ∀ (k0_h1 : k0_cond1 k0_t1 = 1#1), ∀ a x, ((![v2029, v2032] : Fin 2 → IVec S16 32) a x).toNat < S512x16.size a := fun k0_t1 v2029 v2032 k0_hw322 k0_h1 => k0_hw322 k0_h1

def k0_chk323 (k0_t1 : Fin k0_t1_loop.trips) (v2029 : IVec S16 32) (v2034 : IVec S16 32) : Prop :=
  (∀ (k0_h1 : k0_cond1 k0_t1 = 1#1), ∀ a x, ((![v2029, v2034] : Fin 2 → IVec S16 32) a x).toNat < S512x16.size a)
theorem k0_idx323_inb : ∀ (k0_t1 : Fin k0_t1_loop.trips) (v2029 : IVec S16 32) (v2034 : IVec S16 32) (k0_hw323 : k0_chk323 k0_t1 v2029 v2034), ∀ (k0_h1 : k0_cond1 k0_t1 = 1#1), ∀ a x, ((![v2029, v2034] : Fin 2 → IVec S16 32) a x).toNat < S512x16.size a := fun k0_t1 v2029 v2034 k0_hw323 k0_h1 => k0_hw323 k0_h1

def k0_chk324 (k0_t1 : Fin k0_t1_loop.trips) (v2029 : IVec S16 32) (v2036 : IVec S16 32) : Prop :=
  (∀ (k0_h1 : k0_cond1 k0_t1 = 1#1), ∀ a x, ((![v2029, v2036] : Fin 2 → IVec S16 32) a x).toNat < S512x16.size a)
theorem k0_idx324_inb : ∀ (k0_t1 : Fin k0_t1_loop.trips) (v2029 : IVec S16 32) (v2036 : IVec S16 32) (k0_hw324 : k0_chk324 k0_t1 v2029 v2036), ∀ (k0_h1 : k0_cond1 k0_t1 = 1#1), ∀ a x, ((![v2029, v2036] : Fin 2 → IVec S16 32) a x).toNat < S512x16.size a := fun k0_t1 v2029 v2036 k0_hw324 k0_h1 => k0_hw324 k0_h1

def k0_chk325 (k0_t1 : Fin k0_t1_loop.trips) (v2029 : IVec S16 32) (v2038 : IVec S16 32) : Prop :=
  (∀ (k0_h1 : k0_cond1 k0_t1 = 1#1), ∀ a x, ((![v2029, v2038] : Fin 2 → IVec S16 32) a x).toNat < S512x16.size a)
theorem k0_idx325_inb : ∀ (k0_t1 : Fin k0_t1_loop.trips) (v2029 : IVec S16 32) (v2038 : IVec S16 32) (k0_hw325 : k0_chk325 k0_t1 v2029 v2038), ∀ (k0_h1 : k0_cond1 k0_t1 = 1#1), ∀ a x, ((![v2029, v2038] : Fin 2 → IVec S16 32) a x).toNat < S512x16.size a := fun k0_t1 v2029 v2038 k0_hw325 k0_h1 => k0_hw325 k0_h1

def k0_chk326 (k0_t1 : Fin k0_t1_loop.trips) (v2029 : IVec S16 32) (v2040 : IVec S16 32) : Prop :=
  (∀ (k0_h1 : k0_cond1 k0_t1 = 1#1), ∀ a x, ((![v2029, v2040] : Fin 2 → IVec S16 32) a x).toNat < S512x16.size a)
theorem k0_idx326_inb : ∀ (k0_t1 : Fin k0_t1_loop.trips) (v2029 : IVec S16 32) (v2040 : IVec S16 32) (k0_hw326 : k0_chk326 k0_t1 v2029 v2040), ∀ (k0_h1 : k0_cond1 k0_t1 = 1#1), ∀ a x, ((![v2029, v2040] : Fin 2 → IVec S16 32) a x).toNat < S512x16.size a := fun k0_t1 v2029 v2040 k0_hw326 k0_h1 => k0_hw326 k0_h1

def k0_chk327 (k0_t1 : Fin k0_t1_loop.trips) (v2029 : IVec S16 32) (v2042 : IVec S16 32) : Prop :=
  (∀ (k0_h1 : k0_cond1 k0_t1 = 1#1), ∀ a x, ((![v2029, v2042] : Fin 2 → IVec S16 32) a x).toNat < S512x16.size a)
theorem k0_idx327_inb : ∀ (k0_t1 : Fin k0_t1_loop.trips) (v2029 : IVec S16 32) (v2042 : IVec S16 32) (k0_hw327 : k0_chk327 k0_t1 v2029 v2042), ∀ (k0_h1 : k0_cond1 k0_t1 = 1#1), ∀ a x, ((![v2029, v2042] : Fin 2 → IVec S16 32) a x).toNat < S512x16.size a := fun k0_t1 v2029 v2042 k0_hw327 k0_h1 => k0_hw327 k0_h1

def k0_chk328 (k0_t1 : Fin k0_t1_loop.trips) (v2029 : IVec S16 32) (v2044 : IVec S16 32) : Prop :=
  (∀ (k0_h1 : k0_cond1 k0_t1 = 1#1), ∀ a x, ((![v2029, v2044] : Fin 2 → IVec S16 32) a x).toNat < S512x16.size a)
theorem k0_idx328_inb : ∀ (k0_t1 : Fin k0_t1_loop.trips) (v2029 : IVec S16 32) (v2044 : IVec S16 32) (k0_hw328 : k0_chk328 k0_t1 v2029 v2044), ∀ (k0_h1 : k0_cond1 k0_t1 = 1#1), ∀ a x, ((![v2029, v2044] : Fin 2 → IVec S16 32) a x).toNat < S512x16.size a := fun k0_t1 v2029 v2044 k0_hw328 k0_h1 => k0_hw328 k0_h1

def k0_chk329 (k0_t1 : Fin k0_t1_loop.trips) (v2029 : IVec S16 32) (v2046 : IVec S16 32) : Prop :=
  (∀ (k0_h1 : k0_cond1 k0_t1 = 1#1), ∀ a x, ((![v2029, v2046] : Fin 2 → IVec S16 32) a x).toNat < S512x16.size a)
theorem k0_idx329_inb : ∀ (k0_t1 : Fin k0_t1_loop.trips) (v2029 : IVec S16 32) (v2046 : IVec S16 32) (k0_hw329 : k0_chk329 k0_t1 v2029 v2046), ∀ (k0_h1 : k0_cond1 k0_t1 = 1#1), ∀ a x, ((![v2029, v2046] : Fin 2 → IVec S16 32) a x).toNat < S512x16.size a := fun k0_t1 v2029 v2046 k0_hw329 k0_h1 => k0_hw329 k0_h1

def k0_chk330 (k0_t1 : Fin k0_t1_loop.trips) (v2029 : IVec S16 32) (v2048 : IVec S16 32) : Prop :=
  (∀ (k0_h1 : k0_cond1 k0_t1 = 1#1), ∀ a x, ((![v2029, v2048] : Fin 2 → IVec S16 32) a x).toNat < S512x16.size a)
theorem k0_idx330_inb : ∀ (k0_t1 : Fin k0_t1_loop.trips) (v2029 : IVec S16 32) (v2048 : IVec S16 32) (k0_hw330 : k0_chk330 k0_t1 v2029 v2048), ∀ (k0_h1 : k0_cond1 k0_t1 = 1#1), ∀ a x, ((![v2029, v2048] : Fin 2 → IVec S16 32) a x).toNat < S512x16.size a := fun k0_t1 v2029 v2048 k0_hw330 k0_h1 => k0_hw330 k0_h1

def k0_chk331 (k0_t1 : Fin k0_t1_loop.trips) (v2029 : IVec S16 32) (v2050 : IVec S16 32) : Prop :=
  (∀ (k0_h1 : k0_cond1 k0_t1 = 1#1), ∀ a x, ((![v2029, v2050] : Fin 2 → IVec S16 32) a x).toNat < S512x16.size a)
theorem k0_idx331_inb : ∀ (k0_t1 : Fin k0_t1_loop.trips) (v2029 : IVec S16 32) (v2050 : IVec S16 32) (k0_hw331 : k0_chk331 k0_t1 v2029 v2050), ∀ (k0_h1 : k0_cond1 k0_t1 = 1#1), ∀ a x, ((![v2029, v2050] : Fin 2 → IVec S16 32) a x).toNat < S512x16.size a := fun k0_t1 v2029 v2050 k0_hw331 k0_h1 => k0_hw331 k0_h1

def k0_chk332 (k0_t1 : Fin k0_t1_loop.trips) (v2029 : IVec S16 32) (v2052 : IVec S16 32) : Prop :=
  (∀ (k0_h1 : k0_cond1 k0_t1 = 1#1), ∀ a x, ((![v2029, v2052] : Fin 2 → IVec S16 32) a x).toNat < S512x16.size a)
theorem k0_idx332_inb : ∀ (k0_t1 : Fin k0_t1_loop.trips) (v2029 : IVec S16 32) (v2052 : IVec S16 32) (k0_hw332 : k0_chk332 k0_t1 v2029 v2052), ∀ (k0_h1 : k0_cond1 k0_t1 = 1#1), ∀ a x, ((![v2029, v2052] : Fin 2 → IVec S16 32) a x).toNat < S512x16.size a := fun k0_t1 v2029 v2052 k0_hw332 k0_h1 => k0_hw332 k0_h1

def k0_chk333 (k0_t1 : Fin k0_t1_loop.trips) (v2029 : IVec S16 32) (v2054 : IVec S16 32) : Prop :=
  (∀ (k0_h1 : k0_cond1 k0_t1 = 1#1), ∀ a x, ((![v2029, v2054] : Fin 2 → IVec S16 32) a x).toNat < S512x16.size a)
theorem k0_idx333_inb : ∀ (k0_t1 : Fin k0_t1_loop.trips) (v2029 : IVec S16 32) (v2054 : IVec S16 32) (k0_hw333 : k0_chk333 k0_t1 v2029 v2054), ∀ (k0_h1 : k0_cond1 k0_t1 = 1#1), ∀ a x, ((![v2029, v2054] : Fin 2 → IVec S16 32) a x).toNat < S512x16.size a := fun k0_t1 v2029 v2054 k0_hw333 k0_h1 => k0_hw333 k0_h1

def k0_chk334 (k0_t1 : Fin k0_t1_loop.trips) (v2029 : IVec S16 32) (v2056 : IVec S16 32) : Prop :=
  (∀ (k0_h1 : k0_cond1 k0_t1 = 1#1), ∀ a x, ((![v2029, v2056] : Fin 2 → IVec S16 32) a x).toNat < S512x16.size a)
theorem k0_idx334_inb : ∀ (k0_t1 : Fin k0_t1_loop.trips) (v2029 : IVec S16 32) (v2056 : IVec S16 32) (k0_hw334 : k0_chk334 k0_t1 v2029 v2056), ∀ (k0_h1 : k0_cond1 k0_t1 = 1#1), ∀ a x, ((![v2029, v2056] : Fin 2 → IVec S16 32) a x).toNat < S512x16.size a := fun k0_t1 v2029 v2056 k0_hw334 k0_h1 => k0_hw334 k0_h1

def k0_chk335 (k0_t1 : Fin k0_t1_loop.trips) (v2029 : IVec S16 32) (v2058 : IVec S16 32) : Prop :=
  (∀ (k0_h1 : k0_cond1 k0_t1 = 1#1), ∀ a x, ((![v2029, v2058] : Fin 2 → IVec S16 32) a x).toNat < S512x16.size a)
theorem k0_idx335_inb : ∀ (k0_t1 : Fin k0_t1_loop.trips) (v2029 : IVec S16 32) (v2058 : IVec S16 32) (k0_hw335 : k0_chk335 k0_t1 v2029 v2058), ∀ (k0_h1 : k0_cond1 k0_t1 = 1#1), ∀ a x, ((![v2029, v2058] : Fin 2 → IVec S16 32) a x).toNat < S512x16.size a := fun k0_t1 v2029 v2058 k0_hw335 k0_h1 => k0_hw335 k0_h1

def k0_chk336 (k0_t1 : Fin k0_t1_loop.trips) (v2029 : IVec S16 32) (v2060 : IVec S16 32) : Prop :=
  (∀ (k0_h1 : k0_cond1 k0_t1 = 1#1), ∀ a x, ((![v2029, v2060] : Fin 2 → IVec S16 32) a x).toNat < S512x16.size a)
theorem k0_idx336_inb : ∀ (k0_t1 : Fin k0_t1_loop.trips) (v2029 : IVec S16 32) (v2060 : IVec S16 32) (k0_hw336 : k0_chk336 k0_t1 v2029 v2060), ∀ (k0_h1 : k0_cond1 k0_t1 = 1#1), ∀ a x, ((![v2029, v2060] : Fin 2 → IVec S16 32) a x).toNat < S512x16.size a := fun k0_t1 v2029 v2060 k0_hw336 k0_h1 => k0_hw336 k0_h1

def k0_chk337 (k0_t1 : Fin k0_t1_loop.trips) (v2128 : IVec S16 32) (v2129 : IVec S16 32) : Prop :=
  (∀ (k0_h1 : k0_cond1 k0_t1 = 1#1), ∀ a x, ((![v2128, v2129] : Fin 2 → IVec S16 32) a x).toNat < S512x16.size a)
theorem k0_idx337_inb : ∀ (k0_t1 : Fin k0_t1_loop.trips) (v2128 : IVec S16 32) (v2129 : IVec S16 32) (k0_hw337 : k0_chk337 k0_t1 v2128 v2129), ∀ (k0_h1 : k0_cond1 k0_t1 = 1#1), ∀ a x, ((![v2128, v2129] : Fin 2 → IVec S16 32) a x).toNat < S512x16.size a := fun k0_t1 v2128 v2129 k0_hw337 k0_h1 => k0_hw337 k0_h1

def k0_chk338 (k0_t1 : Fin k0_t1_loop.trips) (v2128 : IVec S16 32) (v2131 : IVec S16 32) : Prop :=
  (∀ (k0_h1 : k0_cond1 k0_t1 = 1#1), ∀ a x, ((![v2128, v2131] : Fin 2 → IVec S16 32) a x).toNat < S512x16.size a)
theorem k0_idx338_inb : ∀ (k0_t1 : Fin k0_t1_loop.trips) (v2128 : IVec S16 32) (v2131 : IVec S16 32) (k0_hw338 : k0_chk338 k0_t1 v2128 v2131), ∀ (k0_h1 : k0_cond1 k0_t1 = 1#1), ∀ a x, ((![v2128, v2131] : Fin 2 → IVec S16 32) a x).toNat < S512x16.size a := fun k0_t1 v2128 v2131 k0_hw338 k0_h1 => k0_hw338 k0_h1

def k0_chk339 (k0_t1 : Fin k0_t1_loop.trips) (v2128 : IVec S16 32) (v2133 : IVec S16 32) : Prop :=
  (∀ (k0_h1 : k0_cond1 k0_t1 = 1#1), ∀ a x, ((![v2128, v2133] : Fin 2 → IVec S16 32) a x).toNat < S512x16.size a)
theorem k0_idx339_inb : ∀ (k0_t1 : Fin k0_t1_loop.trips) (v2128 : IVec S16 32) (v2133 : IVec S16 32) (k0_hw339 : k0_chk339 k0_t1 v2128 v2133), ∀ (k0_h1 : k0_cond1 k0_t1 = 1#1), ∀ a x, ((![v2128, v2133] : Fin 2 → IVec S16 32) a x).toNat < S512x16.size a := fun k0_t1 v2128 v2133 k0_hw339 k0_h1 => k0_hw339 k0_h1

def k0_chk340 (k0_t1 : Fin k0_t1_loop.trips) (v2128 : IVec S16 32) (v2135 : IVec S16 32) : Prop :=
  (∀ (k0_h1 : k0_cond1 k0_t1 = 1#1), ∀ a x, ((![v2128, v2135] : Fin 2 → IVec S16 32) a x).toNat < S512x16.size a)
theorem k0_idx340_inb : ∀ (k0_t1 : Fin k0_t1_loop.trips) (v2128 : IVec S16 32) (v2135 : IVec S16 32) (k0_hw340 : k0_chk340 k0_t1 v2128 v2135), ∀ (k0_h1 : k0_cond1 k0_t1 = 1#1), ∀ a x, ((![v2128, v2135] : Fin 2 → IVec S16 32) a x).toNat < S512x16.size a := fun k0_t1 v2128 v2135 k0_hw340 k0_h1 => k0_hw340 k0_h1

def k0_chk341 (k0_t1 : Fin k0_t1_loop.trips) (v2128 : IVec S16 32) (v2137 : IVec S16 32) : Prop :=
  (∀ (k0_h1 : k0_cond1 k0_t1 = 1#1), ∀ a x, ((![v2128, v2137] : Fin 2 → IVec S16 32) a x).toNat < S512x16.size a)
theorem k0_idx341_inb : ∀ (k0_t1 : Fin k0_t1_loop.trips) (v2128 : IVec S16 32) (v2137 : IVec S16 32) (k0_hw341 : k0_chk341 k0_t1 v2128 v2137), ∀ (k0_h1 : k0_cond1 k0_t1 = 1#1), ∀ a x, ((![v2128, v2137] : Fin 2 → IVec S16 32) a x).toNat < S512x16.size a := fun k0_t1 v2128 v2137 k0_hw341 k0_h1 => k0_hw341 k0_h1

def k0_chk342 (k0_t1 : Fin k0_t1_loop.trips) (v2128 : IVec S16 32) (v2139 : IVec S16 32) : Prop :=
  (∀ (k0_h1 : k0_cond1 k0_t1 = 1#1), ∀ a x, ((![v2128, v2139] : Fin 2 → IVec S16 32) a x).toNat < S512x16.size a)
theorem k0_idx342_inb : ∀ (k0_t1 : Fin k0_t1_loop.trips) (v2128 : IVec S16 32) (v2139 : IVec S16 32) (k0_hw342 : k0_chk342 k0_t1 v2128 v2139), ∀ (k0_h1 : k0_cond1 k0_t1 = 1#1), ∀ a x, ((![v2128, v2139] : Fin 2 → IVec S16 32) a x).toNat < S512x16.size a := fun k0_t1 v2128 v2139 k0_hw342 k0_h1 => k0_hw342 k0_h1

def k0_chk343 (k0_t1 : Fin k0_t1_loop.trips) (v2128 : IVec S16 32) (v2141 : IVec S16 32) : Prop :=
  (∀ (k0_h1 : k0_cond1 k0_t1 = 1#1), ∀ a x, ((![v2128, v2141] : Fin 2 → IVec S16 32) a x).toNat < S512x16.size a)
theorem k0_idx343_inb : ∀ (k0_t1 : Fin k0_t1_loop.trips) (v2128 : IVec S16 32) (v2141 : IVec S16 32) (k0_hw343 : k0_chk343 k0_t1 v2128 v2141), ∀ (k0_h1 : k0_cond1 k0_t1 = 1#1), ∀ a x, ((![v2128, v2141] : Fin 2 → IVec S16 32) a x).toNat < S512x16.size a := fun k0_t1 v2128 v2141 k0_hw343 k0_h1 => k0_hw343 k0_h1

def k0_chk344 (k0_t1 : Fin k0_t1_loop.trips) (v2128 : IVec S16 32) (v2143 : IVec S16 32) : Prop :=
  (∀ (k0_h1 : k0_cond1 k0_t1 = 1#1), ∀ a x, ((![v2128, v2143] : Fin 2 → IVec S16 32) a x).toNat < S512x16.size a)
theorem k0_idx344_inb : ∀ (k0_t1 : Fin k0_t1_loop.trips) (v2128 : IVec S16 32) (v2143 : IVec S16 32) (k0_hw344 : k0_chk344 k0_t1 v2128 v2143), ∀ (k0_h1 : k0_cond1 k0_t1 = 1#1), ∀ a x, ((![v2128, v2143] : Fin 2 → IVec S16 32) a x).toNat < S512x16.size a := fun k0_t1 v2128 v2143 k0_hw344 k0_h1 => k0_hw344 k0_h1

def k0_chk345 (k0_t1 : Fin k0_t1_loop.trips) (v2128 : IVec S16 32) (v2145 : IVec S16 32) : Prop :=
  (∀ (k0_h1 : k0_cond1 k0_t1 = 1#1), ∀ a x, ((![v2128, v2145] : Fin 2 → IVec S16 32) a x).toNat < S512x16.size a)
theorem k0_idx345_inb : ∀ (k0_t1 : Fin k0_t1_loop.trips) (v2128 : IVec S16 32) (v2145 : IVec S16 32) (k0_hw345 : k0_chk345 k0_t1 v2128 v2145), ∀ (k0_h1 : k0_cond1 k0_t1 = 1#1), ∀ a x, ((![v2128, v2145] : Fin 2 → IVec S16 32) a x).toNat < S512x16.size a := fun k0_t1 v2128 v2145 k0_hw345 k0_h1 => k0_hw345 k0_h1

def k0_chk346 (k0_t1 : Fin k0_t1_loop.trips) (v2128 : IVec S16 32) (v2147 : IVec S16 32) : Prop :=
  (∀ (k0_h1 : k0_cond1 k0_t1 = 1#1), ∀ a x, ((![v2128, v2147] : Fin 2 → IVec S16 32) a x).toNat < S512x16.size a)
theorem k0_idx346_inb : ∀ (k0_t1 : Fin k0_t1_loop.trips) (v2128 : IVec S16 32) (v2147 : IVec S16 32) (k0_hw346 : k0_chk346 k0_t1 v2128 v2147), ∀ (k0_h1 : k0_cond1 k0_t1 = 1#1), ∀ a x, ((![v2128, v2147] : Fin 2 → IVec S16 32) a x).toNat < S512x16.size a := fun k0_t1 v2128 v2147 k0_hw346 k0_h1 => k0_hw346 k0_h1

def k0_chk347 (k0_t1 : Fin k0_t1_loop.trips) (v2128 : IVec S16 32) (v2149 : IVec S16 32) : Prop :=
  (∀ (k0_h1 : k0_cond1 k0_t1 = 1#1), ∀ a x, ((![v2128, v2149] : Fin 2 → IVec S16 32) a x).toNat < S512x16.size a)
theorem k0_idx347_inb : ∀ (k0_t1 : Fin k0_t1_loop.trips) (v2128 : IVec S16 32) (v2149 : IVec S16 32) (k0_hw347 : k0_chk347 k0_t1 v2128 v2149), ∀ (k0_h1 : k0_cond1 k0_t1 = 1#1), ∀ a x, ((![v2128, v2149] : Fin 2 → IVec S16 32) a x).toNat < S512x16.size a := fun k0_t1 v2128 v2149 k0_hw347 k0_h1 => k0_hw347 k0_h1

def k0_chk348 (k0_t1 : Fin k0_t1_loop.trips) (v2128 : IVec S16 32) (v2151 : IVec S16 32) : Prop :=
  (∀ (k0_h1 : k0_cond1 k0_t1 = 1#1), ∀ a x, ((![v2128, v2151] : Fin 2 → IVec S16 32) a x).toNat < S512x16.size a)
theorem k0_idx348_inb : ∀ (k0_t1 : Fin k0_t1_loop.trips) (v2128 : IVec S16 32) (v2151 : IVec S16 32) (k0_hw348 : k0_chk348 k0_t1 v2128 v2151), ∀ (k0_h1 : k0_cond1 k0_t1 = 1#1), ∀ a x, ((![v2128, v2151] : Fin 2 → IVec S16 32) a x).toNat < S512x16.size a := fun k0_t1 v2128 v2151 k0_hw348 k0_h1 => k0_hw348 k0_h1

def k0_chk349 (k0_t1 : Fin k0_t1_loop.trips) (v2128 : IVec S16 32) (v2153 : IVec S16 32) : Prop :=
  (∀ (k0_h1 : k0_cond1 k0_t1 = 1#1), ∀ a x, ((![v2128, v2153] : Fin 2 → IVec S16 32) a x).toNat < S512x16.size a)
theorem k0_idx349_inb : ∀ (k0_t1 : Fin k0_t1_loop.trips) (v2128 : IVec S16 32) (v2153 : IVec S16 32) (k0_hw349 : k0_chk349 k0_t1 v2128 v2153), ∀ (k0_h1 : k0_cond1 k0_t1 = 1#1), ∀ a x, ((![v2128, v2153] : Fin 2 → IVec S16 32) a x).toNat < S512x16.size a := fun k0_t1 v2128 v2153 k0_hw349 k0_h1 => k0_hw349 k0_h1

def k0_chk350 (k0_t1 : Fin k0_t1_loop.trips) (v2128 : IVec S16 32) (v2155 : IVec S16 32) : Prop :=
  (∀ (k0_h1 : k0_cond1 k0_t1 = 1#1), ∀ a x, ((![v2128, v2155] : Fin 2 → IVec S16 32) a x).toNat < S512x16.size a)
theorem k0_idx350_inb : ∀ (k0_t1 : Fin k0_t1_loop.trips) (v2128 : IVec S16 32) (v2155 : IVec S16 32) (k0_hw350 : k0_chk350 k0_t1 v2128 v2155), ∀ (k0_h1 : k0_cond1 k0_t1 = 1#1), ∀ a x, ((![v2128, v2155] : Fin 2 → IVec S16 32) a x).toNat < S512x16.size a := fun k0_t1 v2128 v2155 k0_hw350 k0_h1 => k0_hw350 k0_h1

def k0_chk351 (k0_t1 : Fin k0_t1_loop.trips) (v2128 : IVec S16 32) (v2157 : IVec S16 32) : Prop :=
  (∀ (k0_h1 : k0_cond1 k0_t1 = 1#1), ∀ a x, ((![v2128, v2157] : Fin 2 → IVec S16 32) a x).toNat < S512x16.size a)
theorem k0_idx351_inb : ∀ (k0_t1 : Fin k0_t1_loop.trips) (v2128 : IVec S16 32) (v2157 : IVec S16 32) (k0_hw351 : k0_chk351 k0_t1 v2128 v2157), ∀ (k0_h1 : k0_cond1 k0_t1 = 1#1), ∀ a x, ((![v2128, v2157] : Fin 2 → IVec S16 32) a x).toNat < S512x16.size a := fun k0_t1 v2128 v2157 k0_hw351 k0_h1 => k0_hw351 k0_h1

def k0_chk352 (k0_t1 : Fin k0_t1_loop.trips) (v2128 : IVec S16 32) (v2159 : IVec S16 32) : Prop :=
  (∀ (k0_h1 : k0_cond1 k0_t1 = 1#1), ∀ a x, ((![v2128, v2159] : Fin 2 → IVec S16 32) a x).toNat < S512x16.size a)
theorem k0_idx352_inb : ∀ (k0_t1 : Fin k0_t1_loop.trips) (v2128 : IVec S16 32) (v2159 : IVec S16 32) (k0_hw352 : k0_chk352 k0_t1 v2128 v2159), ∀ (k0_h1 : k0_cond1 k0_t1 = 1#1), ∀ a x, ((![v2128, v2159] : Fin 2 → IVec S16 32) a x).toNat < S512x16.size a := fun k0_t1 v2128 v2159 k0_hw352 k0_h1 => k0_hw352 k0_h1

def k0_chk353 (k0_t1 : Fin k0_t1_loop.trips) (v2227 : IVec S16 32) (v2228 : IVec S16 32) : Prop :=
  (∀ (k0_h1 : k0_cond1 k0_t1 = 1#1), ∀ a x, ((![v2227, v2228] : Fin 2 → IVec S16 32) a x).toNat < S512x16.size a)
theorem k0_idx353_inb : ∀ (k0_t1 : Fin k0_t1_loop.trips) (v2227 : IVec S16 32) (v2228 : IVec S16 32) (k0_hw353 : k0_chk353 k0_t1 v2227 v2228), ∀ (k0_h1 : k0_cond1 k0_t1 = 1#1), ∀ a x, ((![v2227, v2228] : Fin 2 → IVec S16 32) a x).toNat < S512x16.size a := fun k0_t1 v2227 v2228 k0_hw353 k0_h1 => k0_hw353 k0_h1

def k0_chk354 (k0_t1 : Fin k0_t1_loop.trips) (v2227 : IVec S16 32) (v2230 : IVec S16 32) : Prop :=
  (∀ (k0_h1 : k0_cond1 k0_t1 = 1#1), ∀ a x, ((![v2227, v2230] : Fin 2 → IVec S16 32) a x).toNat < S512x16.size a)
theorem k0_idx354_inb : ∀ (k0_t1 : Fin k0_t1_loop.trips) (v2227 : IVec S16 32) (v2230 : IVec S16 32) (k0_hw354 : k0_chk354 k0_t1 v2227 v2230), ∀ (k0_h1 : k0_cond1 k0_t1 = 1#1), ∀ a x, ((![v2227, v2230] : Fin 2 → IVec S16 32) a x).toNat < S512x16.size a := fun k0_t1 v2227 v2230 k0_hw354 k0_h1 => k0_hw354 k0_h1

def k0_chk355 (k0_t1 : Fin k0_t1_loop.trips) (v2227 : IVec S16 32) (v2232 : IVec S16 32) : Prop :=
  (∀ (k0_h1 : k0_cond1 k0_t1 = 1#1), ∀ a x, ((![v2227, v2232] : Fin 2 → IVec S16 32) a x).toNat < S512x16.size a)
theorem k0_idx355_inb : ∀ (k0_t1 : Fin k0_t1_loop.trips) (v2227 : IVec S16 32) (v2232 : IVec S16 32) (k0_hw355 : k0_chk355 k0_t1 v2227 v2232), ∀ (k0_h1 : k0_cond1 k0_t1 = 1#1), ∀ a x, ((![v2227, v2232] : Fin 2 → IVec S16 32) a x).toNat < S512x16.size a := fun k0_t1 v2227 v2232 k0_hw355 k0_h1 => k0_hw355 k0_h1

def k0_chk356 (k0_t1 : Fin k0_t1_loop.trips) (v2227 : IVec S16 32) (v2234 : IVec S16 32) : Prop :=
  (∀ (k0_h1 : k0_cond1 k0_t1 = 1#1), ∀ a x, ((![v2227, v2234] : Fin 2 → IVec S16 32) a x).toNat < S512x16.size a)
theorem k0_idx356_inb : ∀ (k0_t1 : Fin k0_t1_loop.trips) (v2227 : IVec S16 32) (v2234 : IVec S16 32) (k0_hw356 : k0_chk356 k0_t1 v2227 v2234), ∀ (k0_h1 : k0_cond1 k0_t1 = 1#1), ∀ a x, ((![v2227, v2234] : Fin 2 → IVec S16 32) a x).toNat < S512x16.size a := fun k0_t1 v2227 v2234 k0_hw356 k0_h1 => k0_hw356 k0_h1

def k0_chk357 (k0_t1 : Fin k0_t1_loop.trips) (v2227 : IVec S16 32) (v2236 : IVec S16 32) : Prop :=
  (∀ (k0_h1 : k0_cond1 k0_t1 = 1#1), ∀ a x, ((![v2227, v2236] : Fin 2 → IVec S16 32) a x).toNat < S512x16.size a)
theorem k0_idx357_inb : ∀ (k0_t1 : Fin k0_t1_loop.trips) (v2227 : IVec S16 32) (v2236 : IVec S16 32) (k0_hw357 : k0_chk357 k0_t1 v2227 v2236), ∀ (k0_h1 : k0_cond1 k0_t1 = 1#1), ∀ a x, ((![v2227, v2236] : Fin 2 → IVec S16 32) a x).toNat < S512x16.size a := fun k0_t1 v2227 v2236 k0_hw357 k0_h1 => k0_hw357 k0_h1

def k0_chk358 (k0_t1 : Fin k0_t1_loop.trips) (v2227 : IVec S16 32) (v2238 : IVec S16 32) : Prop :=
  (∀ (k0_h1 : k0_cond1 k0_t1 = 1#1), ∀ a x, ((![v2227, v2238] : Fin 2 → IVec S16 32) a x).toNat < S512x16.size a)
theorem k0_idx358_inb : ∀ (k0_t1 : Fin k0_t1_loop.trips) (v2227 : IVec S16 32) (v2238 : IVec S16 32) (k0_hw358 : k0_chk358 k0_t1 v2227 v2238), ∀ (k0_h1 : k0_cond1 k0_t1 = 1#1), ∀ a x, ((![v2227, v2238] : Fin 2 → IVec S16 32) a x).toNat < S512x16.size a := fun k0_t1 v2227 v2238 k0_hw358 k0_h1 => k0_hw358 k0_h1

def k0_chk359 (k0_t1 : Fin k0_t1_loop.trips) (v2227 : IVec S16 32) (v2240 : IVec S16 32) : Prop :=
  (∀ (k0_h1 : k0_cond1 k0_t1 = 1#1), ∀ a x, ((![v2227, v2240] : Fin 2 → IVec S16 32) a x).toNat < S512x16.size a)
theorem k0_idx359_inb : ∀ (k0_t1 : Fin k0_t1_loop.trips) (v2227 : IVec S16 32) (v2240 : IVec S16 32) (k0_hw359 : k0_chk359 k0_t1 v2227 v2240), ∀ (k0_h1 : k0_cond1 k0_t1 = 1#1), ∀ a x, ((![v2227, v2240] : Fin 2 → IVec S16 32) a x).toNat < S512x16.size a := fun k0_t1 v2227 v2240 k0_hw359 k0_h1 => k0_hw359 k0_h1

def k0_chk360 (k0_t1 : Fin k0_t1_loop.trips) (v2227 : IVec S16 32) (v2242 : IVec S16 32) : Prop :=
  (∀ (k0_h1 : k0_cond1 k0_t1 = 1#1), ∀ a x, ((![v2227, v2242] : Fin 2 → IVec S16 32) a x).toNat < S512x16.size a)
theorem k0_idx360_inb : ∀ (k0_t1 : Fin k0_t1_loop.trips) (v2227 : IVec S16 32) (v2242 : IVec S16 32) (k0_hw360 : k0_chk360 k0_t1 v2227 v2242), ∀ (k0_h1 : k0_cond1 k0_t1 = 1#1), ∀ a x, ((![v2227, v2242] : Fin 2 → IVec S16 32) a x).toNat < S512x16.size a := fun k0_t1 v2227 v2242 k0_hw360 k0_h1 => k0_hw360 k0_h1

def k0_chk361 (k0_t1 : Fin k0_t1_loop.trips) (v2227 : IVec S16 32) (v2244 : IVec S16 32) : Prop :=
  (∀ (k0_h1 : k0_cond1 k0_t1 = 1#1), ∀ a x, ((![v2227, v2244] : Fin 2 → IVec S16 32) a x).toNat < S512x16.size a)
theorem k0_idx361_inb : ∀ (k0_t1 : Fin k0_t1_loop.trips) (v2227 : IVec S16 32) (v2244 : IVec S16 32) (k0_hw361 : k0_chk361 k0_t1 v2227 v2244), ∀ (k0_h1 : k0_cond1 k0_t1 = 1#1), ∀ a x, ((![v2227, v2244] : Fin 2 → IVec S16 32) a x).toNat < S512x16.size a := fun k0_t1 v2227 v2244 k0_hw361 k0_h1 => k0_hw361 k0_h1

def k0_chk362 (k0_t1 : Fin k0_t1_loop.trips) (v2227 : IVec S16 32) (v2246 : IVec S16 32) : Prop :=
  (∀ (k0_h1 : k0_cond1 k0_t1 = 1#1), ∀ a x, ((![v2227, v2246] : Fin 2 → IVec S16 32) a x).toNat < S512x16.size a)
theorem k0_idx362_inb : ∀ (k0_t1 : Fin k0_t1_loop.trips) (v2227 : IVec S16 32) (v2246 : IVec S16 32) (k0_hw362 : k0_chk362 k0_t1 v2227 v2246), ∀ (k0_h1 : k0_cond1 k0_t1 = 1#1), ∀ a x, ((![v2227, v2246] : Fin 2 → IVec S16 32) a x).toNat < S512x16.size a := fun k0_t1 v2227 v2246 k0_hw362 k0_h1 => k0_hw362 k0_h1

def k0_chk363 (k0_t1 : Fin k0_t1_loop.trips) (v2227 : IVec S16 32) (v2248 : IVec S16 32) : Prop :=
  (∀ (k0_h1 : k0_cond1 k0_t1 = 1#1), ∀ a x, ((![v2227, v2248] : Fin 2 → IVec S16 32) a x).toNat < S512x16.size a)
theorem k0_idx363_inb : ∀ (k0_t1 : Fin k0_t1_loop.trips) (v2227 : IVec S16 32) (v2248 : IVec S16 32) (k0_hw363 : k0_chk363 k0_t1 v2227 v2248), ∀ (k0_h1 : k0_cond1 k0_t1 = 1#1), ∀ a x, ((![v2227, v2248] : Fin 2 → IVec S16 32) a x).toNat < S512x16.size a := fun k0_t1 v2227 v2248 k0_hw363 k0_h1 => k0_hw363 k0_h1

def k0_chk364 (k0_t1 : Fin k0_t1_loop.trips) (v2227 : IVec S16 32) (v2250 : IVec S16 32) : Prop :=
  (∀ (k0_h1 : k0_cond1 k0_t1 = 1#1), ∀ a x, ((![v2227, v2250] : Fin 2 → IVec S16 32) a x).toNat < S512x16.size a)
theorem k0_idx364_inb : ∀ (k0_t1 : Fin k0_t1_loop.trips) (v2227 : IVec S16 32) (v2250 : IVec S16 32) (k0_hw364 : k0_chk364 k0_t1 v2227 v2250), ∀ (k0_h1 : k0_cond1 k0_t1 = 1#1), ∀ a x, ((![v2227, v2250] : Fin 2 → IVec S16 32) a x).toNat < S512x16.size a := fun k0_t1 v2227 v2250 k0_hw364 k0_h1 => k0_hw364 k0_h1

def k0_chk365 (k0_t1 : Fin k0_t1_loop.trips) (v2227 : IVec S16 32) (v2252 : IVec S16 32) : Prop :=
  (∀ (k0_h1 : k0_cond1 k0_t1 = 1#1), ∀ a x, ((![v2227, v2252] : Fin 2 → IVec S16 32) a x).toNat < S512x16.size a)
theorem k0_idx365_inb : ∀ (k0_t1 : Fin k0_t1_loop.trips) (v2227 : IVec S16 32) (v2252 : IVec S16 32) (k0_hw365 : k0_chk365 k0_t1 v2227 v2252), ∀ (k0_h1 : k0_cond1 k0_t1 = 1#1), ∀ a x, ((![v2227, v2252] : Fin 2 → IVec S16 32) a x).toNat < S512x16.size a := fun k0_t1 v2227 v2252 k0_hw365 k0_h1 => k0_hw365 k0_h1

def k0_chk366 (k0_t1 : Fin k0_t1_loop.trips) (v2227 : IVec S16 32) (v2254 : IVec S16 32) : Prop :=
  (∀ (k0_h1 : k0_cond1 k0_t1 = 1#1), ∀ a x, ((![v2227, v2254] : Fin 2 → IVec S16 32) a x).toNat < S512x16.size a)
theorem k0_idx366_inb : ∀ (k0_t1 : Fin k0_t1_loop.trips) (v2227 : IVec S16 32) (v2254 : IVec S16 32) (k0_hw366 : k0_chk366 k0_t1 v2227 v2254), ∀ (k0_h1 : k0_cond1 k0_t1 = 1#1), ∀ a x, ((![v2227, v2254] : Fin 2 → IVec S16 32) a x).toNat < S512x16.size a := fun k0_t1 v2227 v2254 k0_hw366 k0_h1 => k0_hw366 k0_h1

def k0_chk367 (k0_t1 : Fin k0_t1_loop.trips) (v2227 : IVec S16 32) (v2256 : IVec S16 32) : Prop :=
  (∀ (k0_h1 : k0_cond1 k0_t1 = 1#1), ∀ a x, ((![v2227, v2256] : Fin 2 → IVec S16 32) a x).toNat < S512x16.size a)
theorem k0_idx367_inb : ∀ (k0_t1 : Fin k0_t1_loop.trips) (v2227 : IVec S16 32) (v2256 : IVec S16 32) (k0_hw367 : k0_chk367 k0_t1 v2227 v2256), ∀ (k0_h1 : k0_cond1 k0_t1 = 1#1), ∀ a x, ((![v2227, v2256] : Fin 2 → IVec S16 32) a x).toNat < S512x16.size a := fun k0_t1 v2227 v2256 k0_hw367 k0_h1 => k0_hw367 k0_h1

def k0_chk368 (k0_t1 : Fin k0_t1_loop.trips) (v2227 : IVec S16 32) (v2258 : IVec S16 32) : Prop :=
  (∀ (k0_h1 : k0_cond1 k0_t1 = 1#1), ∀ a x, ((![v2227, v2258] : Fin 2 → IVec S16 32) a x).toNat < S512x16.size a)
theorem k0_idx368_inb : ∀ (k0_t1 : Fin k0_t1_loop.trips) (v2227 : IVec S16 32) (v2258 : IVec S16 32) (k0_hw368 : k0_chk368 k0_t1 v2227 v2258), ∀ (k0_h1 : k0_cond1 k0_t1 = 1#1), ∀ a x, ((![v2227, v2258] : Fin 2 → IVec S16 32) a x).toNat < S512x16.size a := fun k0_t1 v2227 v2258 k0_hw368 k0_h1 => k0_hw368 k0_h1

def k0_chk369 (k0_t1 : Fin k0_t1_loop.trips) (v2326 : IVec S16 32) (v2327 : IVec S16 32) : Prop :=
  (∀ (k0_h1 : k0_cond1 k0_t1 = 1#1), ∀ a x, ((![v2326, v2327] : Fin 2 → IVec S16 32) a x).toNat < S512x16.size a)
theorem k0_idx369_inb : ∀ (k0_t1 : Fin k0_t1_loop.trips) (v2326 : IVec S16 32) (v2327 : IVec S16 32) (k0_hw369 : k0_chk369 k0_t1 v2326 v2327), ∀ (k0_h1 : k0_cond1 k0_t1 = 1#1), ∀ a x, ((![v2326, v2327] : Fin 2 → IVec S16 32) a x).toNat < S512x16.size a := fun k0_t1 v2326 v2327 k0_hw369 k0_h1 => k0_hw369 k0_h1

def k0_chk370 (k0_t1 : Fin k0_t1_loop.trips) (v2326 : IVec S16 32) (v2329 : IVec S16 32) : Prop :=
  (∀ (k0_h1 : k0_cond1 k0_t1 = 1#1), ∀ a x, ((![v2326, v2329] : Fin 2 → IVec S16 32) a x).toNat < S512x16.size a)
theorem k0_idx370_inb : ∀ (k0_t1 : Fin k0_t1_loop.trips) (v2326 : IVec S16 32) (v2329 : IVec S16 32) (k0_hw370 : k0_chk370 k0_t1 v2326 v2329), ∀ (k0_h1 : k0_cond1 k0_t1 = 1#1), ∀ a x, ((![v2326, v2329] : Fin 2 → IVec S16 32) a x).toNat < S512x16.size a := fun k0_t1 v2326 v2329 k0_hw370 k0_h1 => k0_hw370 k0_h1

def k0_chk371 (k0_t1 : Fin k0_t1_loop.trips) (v2326 : IVec S16 32) (v2331 : IVec S16 32) : Prop :=
  (∀ (k0_h1 : k0_cond1 k0_t1 = 1#1), ∀ a x, ((![v2326, v2331] : Fin 2 → IVec S16 32) a x).toNat < S512x16.size a)
theorem k0_idx371_inb : ∀ (k0_t1 : Fin k0_t1_loop.trips) (v2326 : IVec S16 32) (v2331 : IVec S16 32) (k0_hw371 : k0_chk371 k0_t1 v2326 v2331), ∀ (k0_h1 : k0_cond1 k0_t1 = 1#1), ∀ a x, ((![v2326, v2331] : Fin 2 → IVec S16 32) a x).toNat < S512x16.size a := fun k0_t1 v2326 v2331 k0_hw371 k0_h1 => k0_hw371 k0_h1

def k0_chk372 (k0_t1 : Fin k0_t1_loop.trips) (v2326 : IVec S16 32) (v2333 : IVec S16 32) : Prop :=
  (∀ (k0_h1 : k0_cond1 k0_t1 = 1#1), ∀ a x, ((![v2326, v2333] : Fin 2 → IVec S16 32) a x).toNat < S512x16.size a)
theorem k0_idx372_inb : ∀ (k0_t1 : Fin k0_t1_loop.trips) (v2326 : IVec S16 32) (v2333 : IVec S16 32) (k0_hw372 : k0_chk372 k0_t1 v2326 v2333), ∀ (k0_h1 : k0_cond1 k0_t1 = 1#1), ∀ a x, ((![v2326, v2333] : Fin 2 → IVec S16 32) a x).toNat < S512x16.size a := fun k0_t1 v2326 v2333 k0_hw372 k0_h1 => k0_hw372 k0_h1

def k0_chk373 (k0_t1 : Fin k0_t1_loop.trips) (v2326 : IVec S16 32) (v2335 : IVec S16 32) : Prop :=
  (∀ (k0_h1 : k0_cond1 k0_t1 = 1#1), ∀ a x, ((![v2326, v2335] : Fin 2 → IVec S16 32) a x).toNat < S512x16.size a)
theorem k0_idx373_inb : ∀ (k0_t1 : Fin k0_t1_loop.trips) (v2326 : IVec S16 32) (v2335 : IVec S16 32) (k0_hw373 : k0_chk373 k0_t1 v2326 v2335), ∀ (k0_h1 : k0_cond1 k0_t1 = 1#1), ∀ a x, ((![v2326, v2335] : Fin 2 → IVec S16 32) a x).toNat < S512x16.size a := fun k0_t1 v2326 v2335 k0_hw373 k0_h1 => k0_hw373 k0_h1

def k0_chk374 (k0_t1 : Fin k0_t1_loop.trips) (v2326 : IVec S16 32) (v2337 : IVec S16 32) : Prop :=
  (∀ (k0_h1 : k0_cond1 k0_t1 = 1#1), ∀ a x, ((![v2326, v2337] : Fin 2 → IVec S16 32) a x).toNat < S512x16.size a)
theorem k0_idx374_inb : ∀ (k0_t1 : Fin k0_t1_loop.trips) (v2326 : IVec S16 32) (v2337 : IVec S16 32) (k0_hw374 : k0_chk374 k0_t1 v2326 v2337), ∀ (k0_h1 : k0_cond1 k0_t1 = 1#1), ∀ a x, ((![v2326, v2337] : Fin 2 → IVec S16 32) a x).toNat < S512x16.size a := fun k0_t1 v2326 v2337 k0_hw374 k0_h1 => k0_hw374 k0_h1

def k0_chk375 (k0_t1 : Fin k0_t1_loop.trips) (v2326 : IVec S16 32) (v2339 : IVec S16 32) : Prop :=
  (∀ (k0_h1 : k0_cond1 k0_t1 = 1#1), ∀ a x, ((![v2326, v2339] : Fin 2 → IVec S16 32) a x).toNat < S512x16.size a)
theorem k0_idx375_inb : ∀ (k0_t1 : Fin k0_t1_loop.trips) (v2326 : IVec S16 32) (v2339 : IVec S16 32) (k0_hw375 : k0_chk375 k0_t1 v2326 v2339), ∀ (k0_h1 : k0_cond1 k0_t1 = 1#1), ∀ a x, ((![v2326, v2339] : Fin 2 → IVec S16 32) a x).toNat < S512x16.size a := fun k0_t1 v2326 v2339 k0_hw375 k0_h1 => k0_hw375 k0_h1

def k0_chk376 (k0_t1 : Fin k0_t1_loop.trips) (v2326 : IVec S16 32) (v2341 : IVec S16 32) : Prop :=
  (∀ (k0_h1 : k0_cond1 k0_t1 = 1#1), ∀ a x, ((![v2326, v2341] : Fin 2 → IVec S16 32) a x).toNat < S512x16.size a)
theorem k0_idx376_inb : ∀ (k0_t1 : Fin k0_t1_loop.trips) (v2326 : IVec S16 32) (v2341 : IVec S16 32) (k0_hw376 : k0_chk376 k0_t1 v2326 v2341), ∀ (k0_h1 : k0_cond1 k0_t1 = 1#1), ∀ a x, ((![v2326, v2341] : Fin 2 → IVec S16 32) a x).toNat < S512x16.size a := fun k0_t1 v2326 v2341 k0_hw376 k0_h1 => k0_hw376 k0_h1

def k0_chk377 (k0_t1 : Fin k0_t1_loop.trips) (v2326 : IVec S16 32) (v2343 : IVec S16 32) : Prop :=
  (∀ (k0_h1 : k0_cond1 k0_t1 = 1#1), ∀ a x, ((![v2326, v2343] : Fin 2 → IVec S16 32) a x).toNat < S512x16.size a)
theorem k0_idx377_inb : ∀ (k0_t1 : Fin k0_t1_loop.trips) (v2326 : IVec S16 32) (v2343 : IVec S16 32) (k0_hw377 : k0_chk377 k0_t1 v2326 v2343), ∀ (k0_h1 : k0_cond1 k0_t1 = 1#1), ∀ a x, ((![v2326, v2343] : Fin 2 → IVec S16 32) a x).toNat < S512x16.size a := fun k0_t1 v2326 v2343 k0_hw377 k0_h1 => k0_hw377 k0_h1

def k0_chk378 (k0_t1 : Fin k0_t1_loop.trips) (v2326 : IVec S16 32) (v2345 : IVec S16 32) : Prop :=
  (∀ (k0_h1 : k0_cond1 k0_t1 = 1#1), ∀ a x, ((![v2326, v2345] : Fin 2 → IVec S16 32) a x).toNat < S512x16.size a)
theorem k0_idx378_inb : ∀ (k0_t1 : Fin k0_t1_loop.trips) (v2326 : IVec S16 32) (v2345 : IVec S16 32) (k0_hw378 : k0_chk378 k0_t1 v2326 v2345), ∀ (k0_h1 : k0_cond1 k0_t1 = 1#1), ∀ a x, ((![v2326, v2345] : Fin 2 → IVec S16 32) a x).toNat < S512x16.size a := fun k0_t1 v2326 v2345 k0_hw378 k0_h1 => k0_hw378 k0_h1

def k0_chk379 (k0_t1 : Fin k0_t1_loop.trips) (v2326 : IVec S16 32) (v2347 : IVec S16 32) : Prop :=
  (∀ (k0_h1 : k0_cond1 k0_t1 = 1#1), ∀ a x, ((![v2326, v2347] : Fin 2 → IVec S16 32) a x).toNat < S512x16.size a)
theorem k0_idx379_inb : ∀ (k0_t1 : Fin k0_t1_loop.trips) (v2326 : IVec S16 32) (v2347 : IVec S16 32) (k0_hw379 : k0_chk379 k0_t1 v2326 v2347), ∀ (k0_h1 : k0_cond1 k0_t1 = 1#1), ∀ a x, ((![v2326, v2347] : Fin 2 → IVec S16 32) a x).toNat < S512x16.size a := fun k0_t1 v2326 v2347 k0_hw379 k0_h1 => k0_hw379 k0_h1

def k0_chk380 (k0_t1 : Fin k0_t1_loop.trips) (v2326 : IVec S16 32) (v2349 : IVec S16 32) : Prop :=
  (∀ (k0_h1 : k0_cond1 k0_t1 = 1#1), ∀ a x, ((![v2326, v2349] : Fin 2 → IVec S16 32) a x).toNat < S512x16.size a)
theorem k0_idx380_inb : ∀ (k0_t1 : Fin k0_t1_loop.trips) (v2326 : IVec S16 32) (v2349 : IVec S16 32) (k0_hw380 : k0_chk380 k0_t1 v2326 v2349), ∀ (k0_h1 : k0_cond1 k0_t1 = 1#1), ∀ a x, ((![v2326, v2349] : Fin 2 → IVec S16 32) a x).toNat < S512x16.size a := fun k0_t1 v2326 v2349 k0_hw380 k0_h1 => k0_hw380 k0_h1

def k0_chk381 (k0_t1 : Fin k0_t1_loop.trips) (v2326 : IVec S16 32) (v2351 : IVec S16 32) : Prop :=
  (∀ (k0_h1 : k0_cond1 k0_t1 = 1#1), ∀ a x, ((![v2326, v2351] : Fin 2 → IVec S16 32) a x).toNat < S512x16.size a)
theorem k0_idx381_inb : ∀ (k0_t1 : Fin k0_t1_loop.trips) (v2326 : IVec S16 32) (v2351 : IVec S16 32) (k0_hw381 : k0_chk381 k0_t1 v2326 v2351), ∀ (k0_h1 : k0_cond1 k0_t1 = 1#1), ∀ a x, ((![v2326, v2351] : Fin 2 → IVec S16 32) a x).toNat < S512x16.size a := fun k0_t1 v2326 v2351 k0_hw381 k0_h1 => k0_hw381 k0_h1

def k0_chk382 (k0_t1 : Fin k0_t1_loop.trips) (v2326 : IVec S16 32) (v2353 : IVec S16 32) : Prop :=
  (∀ (k0_h1 : k0_cond1 k0_t1 = 1#1), ∀ a x, ((![v2326, v2353] : Fin 2 → IVec S16 32) a x).toNat < S512x16.size a)
theorem k0_idx382_inb : ∀ (k0_t1 : Fin k0_t1_loop.trips) (v2326 : IVec S16 32) (v2353 : IVec S16 32) (k0_hw382 : k0_chk382 k0_t1 v2326 v2353), ∀ (k0_h1 : k0_cond1 k0_t1 = 1#1), ∀ a x, ((![v2326, v2353] : Fin 2 → IVec S16 32) a x).toNat < S512x16.size a := fun k0_t1 v2326 v2353 k0_hw382 k0_h1 => k0_hw382 k0_h1

def k0_chk383 (k0_t1 : Fin k0_t1_loop.trips) (v2326 : IVec S16 32) (v2355 : IVec S16 32) : Prop :=
  (∀ (k0_h1 : k0_cond1 k0_t1 = 1#1), ∀ a x, ((![v2326, v2355] : Fin 2 → IVec S16 32) a x).toNat < S512x16.size a)
theorem k0_idx383_inb : ∀ (k0_t1 : Fin k0_t1_loop.trips) (v2326 : IVec S16 32) (v2355 : IVec S16 32) (k0_hw383 : k0_chk383 k0_t1 v2326 v2355), ∀ (k0_h1 : k0_cond1 k0_t1 = 1#1), ∀ a x, ((![v2326, v2355] : Fin 2 → IVec S16 32) a x).toNat < S512x16.size a := fun k0_t1 v2326 v2355 k0_hw383 k0_h1 => k0_hw383 k0_h1

def k0_chk384 (k0_t1 : Fin k0_t1_loop.trips) (v2326 : IVec S16 32) (v2357 : IVec S16 32) : Prop :=
  (∀ (k0_h1 : k0_cond1 k0_t1 = 1#1), ∀ a x, ((![v2326, v2357] : Fin 2 → IVec S16 32) a x).toNat < S512x16.size a)
theorem k0_idx384_inb : ∀ (k0_t1 : Fin k0_t1_loop.trips) (v2326 : IVec S16 32) (v2357 : IVec S16 32) (k0_hw384 : k0_chk384 k0_t1 v2326 v2357), ∀ (k0_h1 : k0_cond1 k0_t1 = 1#1), ∀ a x, ((![v2326, v2357] : Fin 2 → IVec S16 32) a x).toNat < S512x16.size a := fun k0_t1 v2326 v2357 k0_hw384 k0_h1 => k0_hw384 k0_h1

def k0_chk385 (k0_t1 : Fin k0_t1_loop.trips) (v2425 : IVec S16 32) (v2426 : IVec S16 32) : Prop :=
  (∀ (k0_h1 : k0_cond1 k0_t1 = 1#1), ∀ a x, ((![v2425, v2426] : Fin 2 → IVec S16 32) a x).toNat < S512x16.size a)
theorem k0_idx385_inb : ∀ (k0_t1 : Fin k0_t1_loop.trips) (v2425 : IVec S16 32) (v2426 : IVec S16 32) (k0_hw385 : k0_chk385 k0_t1 v2425 v2426), ∀ (k0_h1 : k0_cond1 k0_t1 = 1#1), ∀ a x, ((![v2425, v2426] : Fin 2 → IVec S16 32) a x).toNat < S512x16.size a := fun k0_t1 v2425 v2426 k0_hw385 k0_h1 => k0_hw385 k0_h1

def k0_chk386 (k0_t1 : Fin k0_t1_loop.trips) (v2425 : IVec S16 32) (v2428 : IVec S16 32) : Prop :=
  (∀ (k0_h1 : k0_cond1 k0_t1 = 1#1), ∀ a x, ((![v2425, v2428] : Fin 2 → IVec S16 32) a x).toNat < S512x16.size a)
theorem k0_idx386_inb : ∀ (k0_t1 : Fin k0_t1_loop.trips) (v2425 : IVec S16 32) (v2428 : IVec S16 32) (k0_hw386 : k0_chk386 k0_t1 v2425 v2428), ∀ (k0_h1 : k0_cond1 k0_t1 = 1#1), ∀ a x, ((![v2425, v2428] : Fin 2 → IVec S16 32) a x).toNat < S512x16.size a := fun k0_t1 v2425 v2428 k0_hw386 k0_h1 => k0_hw386 k0_h1

def k0_chk387 (k0_t1 : Fin k0_t1_loop.trips) (v2425 : IVec S16 32) (v2430 : IVec S16 32) : Prop :=
  (∀ (k0_h1 : k0_cond1 k0_t1 = 1#1), ∀ a x, ((![v2425, v2430] : Fin 2 → IVec S16 32) a x).toNat < S512x16.size a)
theorem k0_idx387_inb : ∀ (k0_t1 : Fin k0_t1_loop.trips) (v2425 : IVec S16 32) (v2430 : IVec S16 32) (k0_hw387 : k0_chk387 k0_t1 v2425 v2430), ∀ (k0_h1 : k0_cond1 k0_t1 = 1#1), ∀ a x, ((![v2425, v2430] : Fin 2 → IVec S16 32) a x).toNat < S512x16.size a := fun k0_t1 v2425 v2430 k0_hw387 k0_h1 => k0_hw387 k0_h1

def k0_chk388 (k0_t1 : Fin k0_t1_loop.trips) (v2425 : IVec S16 32) (v2432 : IVec S16 32) : Prop :=
  (∀ (k0_h1 : k0_cond1 k0_t1 = 1#1), ∀ a x, ((![v2425, v2432] : Fin 2 → IVec S16 32) a x).toNat < S512x16.size a)
theorem k0_idx388_inb : ∀ (k0_t1 : Fin k0_t1_loop.trips) (v2425 : IVec S16 32) (v2432 : IVec S16 32) (k0_hw388 : k0_chk388 k0_t1 v2425 v2432), ∀ (k0_h1 : k0_cond1 k0_t1 = 1#1), ∀ a x, ((![v2425, v2432] : Fin 2 → IVec S16 32) a x).toNat < S512x16.size a := fun k0_t1 v2425 v2432 k0_hw388 k0_h1 => k0_hw388 k0_h1

def k0_chk389 (k0_t1 : Fin k0_t1_loop.trips) (v2425 : IVec S16 32) (v2434 : IVec S16 32) : Prop :=
  (∀ (k0_h1 : k0_cond1 k0_t1 = 1#1), ∀ a x, ((![v2425, v2434] : Fin 2 → IVec S16 32) a x).toNat < S512x16.size a)
theorem k0_idx389_inb : ∀ (k0_t1 : Fin k0_t1_loop.trips) (v2425 : IVec S16 32) (v2434 : IVec S16 32) (k0_hw389 : k0_chk389 k0_t1 v2425 v2434), ∀ (k0_h1 : k0_cond1 k0_t1 = 1#1), ∀ a x, ((![v2425, v2434] : Fin 2 → IVec S16 32) a x).toNat < S512x16.size a := fun k0_t1 v2425 v2434 k0_hw389 k0_h1 => k0_hw389 k0_h1

def k0_chk390 (k0_t1 : Fin k0_t1_loop.trips) (v2425 : IVec S16 32) (v2436 : IVec S16 32) : Prop :=
  (∀ (k0_h1 : k0_cond1 k0_t1 = 1#1), ∀ a x, ((![v2425, v2436] : Fin 2 → IVec S16 32) a x).toNat < S512x16.size a)
theorem k0_idx390_inb : ∀ (k0_t1 : Fin k0_t1_loop.trips) (v2425 : IVec S16 32) (v2436 : IVec S16 32) (k0_hw390 : k0_chk390 k0_t1 v2425 v2436), ∀ (k0_h1 : k0_cond1 k0_t1 = 1#1), ∀ a x, ((![v2425, v2436] : Fin 2 → IVec S16 32) a x).toNat < S512x16.size a := fun k0_t1 v2425 v2436 k0_hw390 k0_h1 => k0_hw390 k0_h1

def k0_chk391 (k0_t1 : Fin k0_t1_loop.trips) (v2425 : IVec S16 32) (v2438 : IVec S16 32) : Prop :=
  (∀ (k0_h1 : k0_cond1 k0_t1 = 1#1), ∀ a x, ((![v2425, v2438] : Fin 2 → IVec S16 32) a x).toNat < S512x16.size a)
theorem k0_idx391_inb : ∀ (k0_t1 : Fin k0_t1_loop.trips) (v2425 : IVec S16 32) (v2438 : IVec S16 32) (k0_hw391 : k0_chk391 k0_t1 v2425 v2438), ∀ (k0_h1 : k0_cond1 k0_t1 = 1#1), ∀ a x, ((![v2425, v2438] : Fin 2 → IVec S16 32) a x).toNat < S512x16.size a := fun k0_t1 v2425 v2438 k0_hw391 k0_h1 => k0_hw391 k0_h1

def k0_chk392 (k0_t1 : Fin k0_t1_loop.trips) (v2425 : IVec S16 32) (v2440 : IVec S16 32) : Prop :=
  (∀ (k0_h1 : k0_cond1 k0_t1 = 1#1), ∀ a x, ((![v2425, v2440] : Fin 2 → IVec S16 32) a x).toNat < S512x16.size a)
theorem k0_idx392_inb : ∀ (k0_t1 : Fin k0_t1_loop.trips) (v2425 : IVec S16 32) (v2440 : IVec S16 32) (k0_hw392 : k0_chk392 k0_t1 v2425 v2440), ∀ (k0_h1 : k0_cond1 k0_t1 = 1#1), ∀ a x, ((![v2425, v2440] : Fin 2 → IVec S16 32) a x).toNat < S512x16.size a := fun k0_t1 v2425 v2440 k0_hw392 k0_h1 => k0_hw392 k0_h1

def k0_chk393 (k0_t1 : Fin k0_t1_loop.trips) (v2425 : IVec S16 32) (v2442 : IVec S16 32) : Prop :=
  (∀ (k0_h1 : k0_cond1 k0_t1 = 1#1), ∀ a x, ((![v2425, v2442] : Fin 2 → IVec S16 32) a x).toNat < S512x16.size a)
theorem k0_idx393_inb : ∀ (k0_t1 : Fin k0_t1_loop.trips) (v2425 : IVec S16 32) (v2442 : IVec S16 32) (k0_hw393 : k0_chk393 k0_t1 v2425 v2442), ∀ (k0_h1 : k0_cond1 k0_t1 = 1#1), ∀ a x, ((![v2425, v2442] : Fin 2 → IVec S16 32) a x).toNat < S512x16.size a := fun k0_t1 v2425 v2442 k0_hw393 k0_h1 => k0_hw393 k0_h1

def k0_chk394 (k0_t1 : Fin k0_t1_loop.trips) (v2425 : IVec S16 32) (v2444 : IVec S16 32) : Prop :=
  (∀ (k0_h1 : k0_cond1 k0_t1 = 1#1), ∀ a x, ((![v2425, v2444] : Fin 2 → IVec S16 32) a x).toNat < S512x16.size a)
theorem k0_idx394_inb : ∀ (k0_t1 : Fin k0_t1_loop.trips) (v2425 : IVec S16 32) (v2444 : IVec S16 32) (k0_hw394 : k0_chk394 k0_t1 v2425 v2444), ∀ (k0_h1 : k0_cond1 k0_t1 = 1#1), ∀ a x, ((![v2425, v2444] : Fin 2 → IVec S16 32) a x).toNat < S512x16.size a := fun k0_t1 v2425 v2444 k0_hw394 k0_h1 => k0_hw394 k0_h1

def k0_chk395 (k0_t1 : Fin k0_t1_loop.trips) (v2425 : IVec S16 32) (v2446 : IVec S16 32) : Prop :=
  (∀ (k0_h1 : k0_cond1 k0_t1 = 1#1), ∀ a x, ((![v2425, v2446] : Fin 2 → IVec S16 32) a x).toNat < S512x16.size a)
theorem k0_idx395_inb : ∀ (k0_t1 : Fin k0_t1_loop.trips) (v2425 : IVec S16 32) (v2446 : IVec S16 32) (k0_hw395 : k0_chk395 k0_t1 v2425 v2446), ∀ (k0_h1 : k0_cond1 k0_t1 = 1#1), ∀ a x, ((![v2425, v2446] : Fin 2 → IVec S16 32) a x).toNat < S512x16.size a := fun k0_t1 v2425 v2446 k0_hw395 k0_h1 => k0_hw395 k0_h1

def k0_chk396 (k0_t1 : Fin k0_t1_loop.trips) (v2425 : IVec S16 32) (v2448 : IVec S16 32) : Prop :=
  (∀ (k0_h1 : k0_cond1 k0_t1 = 1#1), ∀ a x, ((![v2425, v2448] : Fin 2 → IVec S16 32) a x).toNat < S512x16.size a)
theorem k0_idx396_inb : ∀ (k0_t1 : Fin k0_t1_loop.trips) (v2425 : IVec S16 32) (v2448 : IVec S16 32) (k0_hw396 : k0_chk396 k0_t1 v2425 v2448), ∀ (k0_h1 : k0_cond1 k0_t1 = 1#1), ∀ a x, ((![v2425, v2448] : Fin 2 → IVec S16 32) a x).toNat < S512x16.size a := fun k0_t1 v2425 v2448 k0_hw396 k0_h1 => k0_hw396 k0_h1

def k0_chk397 (k0_t1 : Fin k0_t1_loop.trips) (v2425 : IVec S16 32) (v2450 : IVec S16 32) : Prop :=
  (∀ (k0_h1 : k0_cond1 k0_t1 = 1#1), ∀ a x, ((![v2425, v2450] : Fin 2 → IVec S16 32) a x).toNat < S512x16.size a)
theorem k0_idx397_inb : ∀ (k0_t1 : Fin k0_t1_loop.trips) (v2425 : IVec S16 32) (v2450 : IVec S16 32) (k0_hw397 : k0_chk397 k0_t1 v2425 v2450), ∀ (k0_h1 : k0_cond1 k0_t1 = 1#1), ∀ a x, ((![v2425, v2450] : Fin 2 → IVec S16 32) a x).toNat < S512x16.size a := fun k0_t1 v2425 v2450 k0_hw397 k0_h1 => k0_hw397 k0_h1

def k0_chk398 (k0_t1 : Fin k0_t1_loop.trips) (v2425 : IVec S16 32) (v2452 : IVec S16 32) : Prop :=
  (∀ (k0_h1 : k0_cond1 k0_t1 = 1#1), ∀ a x, ((![v2425, v2452] : Fin 2 → IVec S16 32) a x).toNat < S512x16.size a)
theorem k0_idx398_inb : ∀ (k0_t1 : Fin k0_t1_loop.trips) (v2425 : IVec S16 32) (v2452 : IVec S16 32) (k0_hw398 : k0_chk398 k0_t1 v2425 v2452), ∀ (k0_h1 : k0_cond1 k0_t1 = 1#1), ∀ a x, ((![v2425, v2452] : Fin 2 → IVec S16 32) a x).toNat < S512x16.size a := fun k0_t1 v2425 v2452 k0_hw398 k0_h1 => k0_hw398 k0_h1

def k0_chk399 (k0_t1 : Fin k0_t1_loop.trips) (v2425 : IVec S16 32) (v2454 : IVec S16 32) : Prop :=
  (∀ (k0_h1 : k0_cond1 k0_t1 = 1#1), ∀ a x, ((![v2425, v2454] : Fin 2 → IVec S16 32) a x).toNat < S512x16.size a)
theorem k0_idx399_inb : ∀ (k0_t1 : Fin k0_t1_loop.trips) (v2425 : IVec S16 32) (v2454 : IVec S16 32) (k0_hw399 : k0_chk399 k0_t1 v2425 v2454), ∀ (k0_h1 : k0_cond1 k0_t1 = 1#1), ∀ a x, ((![v2425, v2454] : Fin 2 → IVec S16 32) a x).toNat < S512x16.size a := fun k0_t1 v2425 v2454 k0_hw399 k0_h1 => k0_hw399 k0_h1

def k0_chk400 (k0_t1 : Fin k0_t1_loop.trips) (v2425 : IVec S16 32) (v2456 : IVec S16 32) : Prop :=
  (∀ (k0_h1 : k0_cond1 k0_t1 = 1#1), ∀ a x, ((![v2425, v2456] : Fin 2 → IVec S16 32) a x).toNat < S512x16.size a)
theorem k0_idx400_inb : ∀ (k0_t1 : Fin k0_t1_loop.trips) (v2425 : IVec S16 32) (v2456 : IVec S16 32) (k0_hw400 : k0_chk400 k0_t1 v2425 v2456), ∀ (k0_h1 : k0_cond1 k0_t1 = 1#1), ∀ a x, ((![v2425, v2456] : Fin 2 → IVec S16 32) a x).toNat < S512x16.size a := fun k0_t1 v2425 v2456 k0_hw400 k0_h1 => k0_hw400 k0_h1

def k0_chk401 (k0_t1 : Fin k0_t1_loop.trips) (v2524 : IVec S16 32) (v2525 : IVec S16 32) : Prop :=
  (∀ (k0_h1 : k0_cond1 k0_t1 = 1#1), ∀ a x, ((![v2524, v2525] : Fin 2 → IVec S16 32) a x).toNat < S512x16.size a)
theorem k0_idx401_inb : ∀ (k0_t1 : Fin k0_t1_loop.trips) (v2524 : IVec S16 32) (v2525 : IVec S16 32) (k0_hw401 : k0_chk401 k0_t1 v2524 v2525), ∀ (k0_h1 : k0_cond1 k0_t1 = 1#1), ∀ a x, ((![v2524, v2525] : Fin 2 → IVec S16 32) a x).toNat < S512x16.size a := fun k0_t1 v2524 v2525 k0_hw401 k0_h1 => k0_hw401 k0_h1

def k0_chk402 (k0_t1 : Fin k0_t1_loop.trips) (v2524 : IVec S16 32) (v2527 : IVec S16 32) : Prop :=
  (∀ (k0_h1 : k0_cond1 k0_t1 = 1#1), ∀ a x, ((![v2524, v2527] : Fin 2 → IVec S16 32) a x).toNat < S512x16.size a)
theorem k0_idx402_inb : ∀ (k0_t1 : Fin k0_t1_loop.trips) (v2524 : IVec S16 32) (v2527 : IVec S16 32) (k0_hw402 : k0_chk402 k0_t1 v2524 v2527), ∀ (k0_h1 : k0_cond1 k0_t1 = 1#1), ∀ a x, ((![v2524, v2527] : Fin 2 → IVec S16 32) a x).toNat < S512x16.size a := fun k0_t1 v2524 v2527 k0_hw402 k0_h1 => k0_hw402 k0_h1

def k0_chk403 (k0_t1 : Fin k0_t1_loop.trips) (v2524 : IVec S16 32) (v2529 : IVec S16 32) : Prop :=
  (∀ (k0_h1 : k0_cond1 k0_t1 = 1#1), ∀ a x, ((![v2524, v2529] : Fin 2 → IVec S16 32) a x).toNat < S512x16.size a)
theorem k0_idx403_inb : ∀ (k0_t1 : Fin k0_t1_loop.trips) (v2524 : IVec S16 32) (v2529 : IVec S16 32) (k0_hw403 : k0_chk403 k0_t1 v2524 v2529), ∀ (k0_h1 : k0_cond1 k0_t1 = 1#1), ∀ a x, ((![v2524, v2529] : Fin 2 → IVec S16 32) a x).toNat < S512x16.size a := fun k0_t1 v2524 v2529 k0_hw403 k0_h1 => k0_hw403 k0_h1

def k0_chk404 (k0_t1 : Fin k0_t1_loop.trips) (v2524 : IVec S16 32) (v2531 : IVec S16 32) : Prop :=
  (∀ (k0_h1 : k0_cond1 k0_t1 = 1#1), ∀ a x, ((![v2524, v2531] : Fin 2 → IVec S16 32) a x).toNat < S512x16.size a)
theorem k0_idx404_inb : ∀ (k0_t1 : Fin k0_t1_loop.trips) (v2524 : IVec S16 32) (v2531 : IVec S16 32) (k0_hw404 : k0_chk404 k0_t1 v2524 v2531), ∀ (k0_h1 : k0_cond1 k0_t1 = 1#1), ∀ a x, ((![v2524, v2531] : Fin 2 → IVec S16 32) a x).toNat < S512x16.size a := fun k0_t1 v2524 v2531 k0_hw404 k0_h1 => k0_hw404 k0_h1

def k0_chk405 (k0_t1 : Fin k0_t1_loop.trips) (v2524 : IVec S16 32) (v2533 : IVec S16 32) : Prop :=
  (∀ (k0_h1 : k0_cond1 k0_t1 = 1#1), ∀ a x, ((![v2524, v2533] : Fin 2 → IVec S16 32) a x).toNat < S512x16.size a)
theorem k0_idx405_inb : ∀ (k0_t1 : Fin k0_t1_loop.trips) (v2524 : IVec S16 32) (v2533 : IVec S16 32) (k0_hw405 : k0_chk405 k0_t1 v2524 v2533), ∀ (k0_h1 : k0_cond1 k0_t1 = 1#1), ∀ a x, ((![v2524, v2533] : Fin 2 → IVec S16 32) a x).toNat < S512x16.size a := fun k0_t1 v2524 v2533 k0_hw405 k0_h1 => k0_hw405 k0_h1

def k0_chk406 (k0_t1 : Fin k0_t1_loop.trips) (v2524 : IVec S16 32) (v2535 : IVec S16 32) : Prop :=
  (∀ (k0_h1 : k0_cond1 k0_t1 = 1#1), ∀ a x, ((![v2524, v2535] : Fin 2 → IVec S16 32) a x).toNat < S512x16.size a)
theorem k0_idx406_inb : ∀ (k0_t1 : Fin k0_t1_loop.trips) (v2524 : IVec S16 32) (v2535 : IVec S16 32) (k0_hw406 : k0_chk406 k0_t1 v2524 v2535), ∀ (k0_h1 : k0_cond1 k0_t1 = 1#1), ∀ a x, ((![v2524, v2535] : Fin 2 → IVec S16 32) a x).toNat < S512x16.size a := fun k0_t1 v2524 v2535 k0_hw406 k0_h1 => k0_hw406 k0_h1

def k0_chk407 (k0_t1 : Fin k0_t1_loop.trips) (v2524 : IVec S16 32) (v2537 : IVec S16 32) : Prop :=
  (∀ (k0_h1 : k0_cond1 k0_t1 = 1#1), ∀ a x, ((![v2524, v2537] : Fin 2 → IVec S16 32) a x).toNat < S512x16.size a)
theorem k0_idx407_inb : ∀ (k0_t1 : Fin k0_t1_loop.trips) (v2524 : IVec S16 32) (v2537 : IVec S16 32) (k0_hw407 : k0_chk407 k0_t1 v2524 v2537), ∀ (k0_h1 : k0_cond1 k0_t1 = 1#1), ∀ a x, ((![v2524, v2537] : Fin 2 → IVec S16 32) a x).toNat < S512x16.size a := fun k0_t1 v2524 v2537 k0_hw407 k0_h1 => k0_hw407 k0_h1

def k0_chk408 (k0_t1 : Fin k0_t1_loop.trips) (v2524 : IVec S16 32) (v2539 : IVec S16 32) : Prop :=
  (∀ (k0_h1 : k0_cond1 k0_t1 = 1#1), ∀ a x, ((![v2524, v2539] : Fin 2 → IVec S16 32) a x).toNat < S512x16.size a)
theorem k0_idx408_inb : ∀ (k0_t1 : Fin k0_t1_loop.trips) (v2524 : IVec S16 32) (v2539 : IVec S16 32) (k0_hw408 : k0_chk408 k0_t1 v2524 v2539), ∀ (k0_h1 : k0_cond1 k0_t1 = 1#1), ∀ a x, ((![v2524, v2539] : Fin 2 → IVec S16 32) a x).toNat < S512x16.size a := fun k0_t1 v2524 v2539 k0_hw408 k0_h1 => k0_hw408 k0_h1

def k0_chk409 (k0_t1 : Fin k0_t1_loop.trips) (v2524 : IVec S16 32) (v2541 : IVec S16 32) : Prop :=
  (∀ (k0_h1 : k0_cond1 k0_t1 = 1#1), ∀ a x, ((![v2524, v2541] : Fin 2 → IVec S16 32) a x).toNat < S512x16.size a)
theorem k0_idx409_inb : ∀ (k0_t1 : Fin k0_t1_loop.trips) (v2524 : IVec S16 32) (v2541 : IVec S16 32) (k0_hw409 : k0_chk409 k0_t1 v2524 v2541), ∀ (k0_h1 : k0_cond1 k0_t1 = 1#1), ∀ a x, ((![v2524, v2541] : Fin 2 → IVec S16 32) a x).toNat < S512x16.size a := fun k0_t1 v2524 v2541 k0_hw409 k0_h1 => k0_hw409 k0_h1

def k0_chk410 (k0_t1 : Fin k0_t1_loop.trips) (v2524 : IVec S16 32) (v2543 : IVec S16 32) : Prop :=
  (∀ (k0_h1 : k0_cond1 k0_t1 = 1#1), ∀ a x, ((![v2524, v2543] : Fin 2 → IVec S16 32) a x).toNat < S512x16.size a)
theorem k0_idx410_inb : ∀ (k0_t1 : Fin k0_t1_loop.trips) (v2524 : IVec S16 32) (v2543 : IVec S16 32) (k0_hw410 : k0_chk410 k0_t1 v2524 v2543), ∀ (k0_h1 : k0_cond1 k0_t1 = 1#1), ∀ a x, ((![v2524, v2543] : Fin 2 → IVec S16 32) a x).toNat < S512x16.size a := fun k0_t1 v2524 v2543 k0_hw410 k0_h1 => k0_hw410 k0_h1

def k0_chk411 (k0_t1 : Fin k0_t1_loop.trips) (v2524 : IVec S16 32) (v2545 : IVec S16 32) : Prop :=
  (∀ (k0_h1 : k0_cond1 k0_t1 = 1#1), ∀ a x, ((![v2524, v2545] : Fin 2 → IVec S16 32) a x).toNat < S512x16.size a)
theorem k0_idx411_inb : ∀ (k0_t1 : Fin k0_t1_loop.trips) (v2524 : IVec S16 32) (v2545 : IVec S16 32) (k0_hw411 : k0_chk411 k0_t1 v2524 v2545), ∀ (k0_h1 : k0_cond1 k0_t1 = 1#1), ∀ a x, ((![v2524, v2545] : Fin 2 → IVec S16 32) a x).toNat < S512x16.size a := fun k0_t1 v2524 v2545 k0_hw411 k0_h1 => k0_hw411 k0_h1

def k0_chk412 (k0_t1 : Fin k0_t1_loop.trips) (v2524 : IVec S16 32) (v2547 : IVec S16 32) : Prop :=
  (∀ (k0_h1 : k0_cond1 k0_t1 = 1#1), ∀ a x, ((![v2524, v2547] : Fin 2 → IVec S16 32) a x).toNat < S512x16.size a)
theorem k0_idx412_inb : ∀ (k0_t1 : Fin k0_t1_loop.trips) (v2524 : IVec S16 32) (v2547 : IVec S16 32) (k0_hw412 : k0_chk412 k0_t1 v2524 v2547), ∀ (k0_h1 : k0_cond1 k0_t1 = 1#1), ∀ a x, ((![v2524, v2547] : Fin 2 → IVec S16 32) a x).toNat < S512x16.size a := fun k0_t1 v2524 v2547 k0_hw412 k0_h1 => k0_hw412 k0_h1

def k0_chk413 (k0_t1 : Fin k0_t1_loop.trips) (v2524 : IVec S16 32) (v2549 : IVec S16 32) : Prop :=
  (∀ (k0_h1 : k0_cond1 k0_t1 = 1#1), ∀ a x, ((![v2524, v2549] : Fin 2 → IVec S16 32) a x).toNat < S512x16.size a)
theorem k0_idx413_inb : ∀ (k0_t1 : Fin k0_t1_loop.trips) (v2524 : IVec S16 32) (v2549 : IVec S16 32) (k0_hw413 : k0_chk413 k0_t1 v2524 v2549), ∀ (k0_h1 : k0_cond1 k0_t1 = 1#1), ∀ a x, ((![v2524, v2549] : Fin 2 → IVec S16 32) a x).toNat < S512x16.size a := fun k0_t1 v2524 v2549 k0_hw413 k0_h1 => k0_hw413 k0_h1

def k0_chk414 (k0_t1 : Fin k0_t1_loop.trips) (v2524 : IVec S16 32) (v2551 : IVec S16 32) : Prop :=
  (∀ (k0_h1 : k0_cond1 k0_t1 = 1#1), ∀ a x, ((![v2524, v2551] : Fin 2 → IVec S16 32) a x).toNat < S512x16.size a)
theorem k0_idx414_inb : ∀ (k0_t1 : Fin k0_t1_loop.trips) (v2524 : IVec S16 32) (v2551 : IVec S16 32) (k0_hw414 : k0_chk414 k0_t1 v2524 v2551), ∀ (k0_h1 : k0_cond1 k0_t1 = 1#1), ∀ a x, ((![v2524, v2551] : Fin 2 → IVec S16 32) a x).toNat < S512x16.size a := fun k0_t1 v2524 v2551 k0_hw414 k0_h1 => k0_hw414 k0_h1

def k0_chk415 (k0_t1 : Fin k0_t1_loop.trips) (v2524 : IVec S16 32) (v2553 : IVec S16 32) : Prop :=
  (∀ (k0_h1 : k0_cond1 k0_t1 = 1#1), ∀ a x, ((![v2524, v2553] : Fin 2 → IVec S16 32) a x).toNat < S512x16.size a)
theorem k0_idx415_inb : ∀ (k0_t1 : Fin k0_t1_loop.trips) (v2524 : IVec S16 32) (v2553 : IVec S16 32) (k0_hw415 : k0_chk415 k0_t1 v2524 v2553), ∀ (k0_h1 : k0_cond1 k0_t1 = 1#1), ∀ a x, ((![v2524, v2553] : Fin 2 → IVec S16 32) a x).toNat < S512x16.size a := fun k0_t1 v2524 v2553 k0_hw415 k0_h1 => k0_hw415 k0_h1

def k0_chk416 (k0_t1 : Fin k0_t1_loop.trips) (v2524 : IVec S16 32) (v2555 : IVec S16 32) : Prop :=
  (∀ (k0_h1 : k0_cond1 k0_t1 = 1#1), ∀ a x, ((![v2524, v2555] : Fin 2 → IVec S16 32) a x).toNat < S512x16.size a)
theorem k0_idx416_inb : ∀ (k0_t1 : Fin k0_t1_loop.trips) (v2524 : IVec S16 32) (v2555 : IVec S16 32) (k0_hw416 : k0_chk416 k0_t1 v2524 v2555), ∀ (k0_h1 : k0_cond1 k0_t1 = 1#1), ∀ a x, ((![v2524, v2555] : Fin 2 → IVec S16 32) a x).toNat < S512x16.size a := fun k0_t1 v2524 v2555 k0_hw416 k0_h1 => k0_hw416 k0_h1

def k0_chk417 (k0_t1 : Fin k0_t1_loop.trips) (v2623 : IVec S16 32) (v2624 : IVec S16 32) : Prop :=
  (∀ (k0_h1 : k0_cond1 k0_t1 = 1#1), ∀ a x, ((![v2623, v2624] : Fin 2 → IVec S16 32) a x).toNat < S512x16.size a)
theorem k0_idx417_inb : ∀ (k0_t1 : Fin k0_t1_loop.trips) (v2623 : IVec S16 32) (v2624 : IVec S16 32) (k0_hw417 : k0_chk417 k0_t1 v2623 v2624), ∀ (k0_h1 : k0_cond1 k0_t1 = 1#1), ∀ a x, ((![v2623, v2624] : Fin 2 → IVec S16 32) a x).toNat < S512x16.size a := fun k0_t1 v2623 v2624 k0_hw417 k0_h1 => k0_hw417 k0_h1

def k0_chk418 (k0_t1 : Fin k0_t1_loop.trips) (v2623 : IVec S16 32) (v2626 : IVec S16 32) : Prop :=
  (∀ (k0_h1 : k0_cond1 k0_t1 = 1#1), ∀ a x, ((![v2623, v2626] : Fin 2 → IVec S16 32) a x).toNat < S512x16.size a)
theorem k0_idx418_inb : ∀ (k0_t1 : Fin k0_t1_loop.trips) (v2623 : IVec S16 32) (v2626 : IVec S16 32) (k0_hw418 : k0_chk418 k0_t1 v2623 v2626), ∀ (k0_h1 : k0_cond1 k0_t1 = 1#1), ∀ a x, ((![v2623, v2626] : Fin 2 → IVec S16 32) a x).toNat < S512x16.size a := fun k0_t1 v2623 v2626 k0_hw418 k0_h1 => k0_hw418 k0_h1

def k0_chk419 (k0_t1 : Fin k0_t1_loop.trips) (v2623 : IVec S16 32) (v2628 : IVec S16 32) : Prop :=
  (∀ (k0_h1 : k0_cond1 k0_t1 = 1#1), ∀ a x, ((![v2623, v2628] : Fin 2 → IVec S16 32) a x).toNat < S512x16.size a)
theorem k0_idx419_inb : ∀ (k0_t1 : Fin k0_t1_loop.trips) (v2623 : IVec S16 32) (v2628 : IVec S16 32) (k0_hw419 : k0_chk419 k0_t1 v2623 v2628), ∀ (k0_h1 : k0_cond1 k0_t1 = 1#1), ∀ a x, ((![v2623, v2628] : Fin 2 → IVec S16 32) a x).toNat < S512x16.size a := fun k0_t1 v2623 v2628 k0_hw419 k0_h1 => k0_hw419 k0_h1

def k0_chk420 (k0_t1 : Fin k0_t1_loop.trips) (v2623 : IVec S16 32) (v2630 : IVec S16 32) : Prop :=
  (∀ (k0_h1 : k0_cond1 k0_t1 = 1#1), ∀ a x, ((![v2623, v2630] : Fin 2 → IVec S16 32) a x).toNat < S512x16.size a)
theorem k0_idx420_inb : ∀ (k0_t1 : Fin k0_t1_loop.trips) (v2623 : IVec S16 32) (v2630 : IVec S16 32) (k0_hw420 : k0_chk420 k0_t1 v2623 v2630), ∀ (k0_h1 : k0_cond1 k0_t1 = 1#1), ∀ a x, ((![v2623, v2630] : Fin 2 → IVec S16 32) a x).toNat < S512x16.size a := fun k0_t1 v2623 v2630 k0_hw420 k0_h1 => k0_hw420 k0_h1

def k0_chk421 (k0_t1 : Fin k0_t1_loop.trips) (v2623 : IVec S16 32) (v2632 : IVec S16 32) : Prop :=
  (∀ (k0_h1 : k0_cond1 k0_t1 = 1#1), ∀ a x, ((![v2623, v2632] : Fin 2 → IVec S16 32) a x).toNat < S512x16.size a)
theorem k0_idx421_inb : ∀ (k0_t1 : Fin k0_t1_loop.trips) (v2623 : IVec S16 32) (v2632 : IVec S16 32) (k0_hw421 : k0_chk421 k0_t1 v2623 v2632), ∀ (k0_h1 : k0_cond1 k0_t1 = 1#1), ∀ a x, ((![v2623, v2632] : Fin 2 → IVec S16 32) a x).toNat < S512x16.size a := fun k0_t1 v2623 v2632 k0_hw421 k0_h1 => k0_hw421 k0_h1

def k0_chk422 (k0_t1 : Fin k0_t1_loop.trips) (v2623 : IVec S16 32) (v2634 : IVec S16 32) : Prop :=
  (∀ (k0_h1 : k0_cond1 k0_t1 = 1#1), ∀ a x, ((![v2623, v2634] : Fin 2 → IVec S16 32) a x).toNat < S512x16.size a)
theorem k0_idx422_inb : ∀ (k0_t1 : Fin k0_t1_loop.trips) (v2623 : IVec S16 32) (v2634 : IVec S16 32) (k0_hw422 : k0_chk422 k0_t1 v2623 v2634), ∀ (k0_h1 : k0_cond1 k0_t1 = 1#1), ∀ a x, ((![v2623, v2634] : Fin 2 → IVec S16 32) a x).toNat < S512x16.size a := fun k0_t1 v2623 v2634 k0_hw422 k0_h1 => k0_hw422 k0_h1

def k0_chk423 (k0_t1 : Fin k0_t1_loop.trips) (v2623 : IVec S16 32) (v2636 : IVec S16 32) : Prop :=
  (∀ (k0_h1 : k0_cond1 k0_t1 = 1#1), ∀ a x, ((![v2623, v2636] : Fin 2 → IVec S16 32) a x).toNat < S512x16.size a)
theorem k0_idx423_inb : ∀ (k0_t1 : Fin k0_t1_loop.trips) (v2623 : IVec S16 32) (v2636 : IVec S16 32) (k0_hw423 : k0_chk423 k0_t1 v2623 v2636), ∀ (k0_h1 : k0_cond1 k0_t1 = 1#1), ∀ a x, ((![v2623, v2636] : Fin 2 → IVec S16 32) a x).toNat < S512x16.size a := fun k0_t1 v2623 v2636 k0_hw423 k0_h1 => k0_hw423 k0_h1

def k0_chk424 (k0_t1 : Fin k0_t1_loop.trips) (v2623 : IVec S16 32) (v2638 : IVec S16 32) : Prop :=
  (∀ (k0_h1 : k0_cond1 k0_t1 = 1#1), ∀ a x, ((![v2623, v2638] : Fin 2 → IVec S16 32) a x).toNat < S512x16.size a)
theorem k0_idx424_inb : ∀ (k0_t1 : Fin k0_t1_loop.trips) (v2623 : IVec S16 32) (v2638 : IVec S16 32) (k0_hw424 : k0_chk424 k0_t1 v2623 v2638), ∀ (k0_h1 : k0_cond1 k0_t1 = 1#1), ∀ a x, ((![v2623, v2638] : Fin 2 → IVec S16 32) a x).toNat < S512x16.size a := fun k0_t1 v2623 v2638 k0_hw424 k0_h1 => k0_hw424 k0_h1

def k0_chk425 (k0_t1 : Fin k0_t1_loop.trips) (v2623 : IVec S16 32) (v2640 : IVec S16 32) : Prop :=
  (∀ (k0_h1 : k0_cond1 k0_t1 = 1#1), ∀ a x, ((![v2623, v2640] : Fin 2 → IVec S16 32) a x).toNat < S512x16.size a)
theorem k0_idx425_inb : ∀ (k0_t1 : Fin k0_t1_loop.trips) (v2623 : IVec S16 32) (v2640 : IVec S16 32) (k0_hw425 : k0_chk425 k0_t1 v2623 v2640), ∀ (k0_h1 : k0_cond1 k0_t1 = 1#1), ∀ a x, ((![v2623, v2640] : Fin 2 → IVec S16 32) a x).toNat < S512x16.size a := fun k0_t1 v2623 v2640 k0_hw425 k0_h1 => k0_hw425 k0_h1

def k0_chk426 (k0_t1 : Fin k0_t1_loop.trips) (v2623 : IVec S16 32) (v2642 : IVec S16 32) : Prop :=
  (∀ (k0_h1 : k0_cond1 k0_t1 = 1#1), ∀ a x, ((![v2623, v2642] : Fin 2 → IVec S16 32) a x).toNat < S512x16.size a)
theorem k0_idx426_inb : ∀ (k0_t1 : Fin k0_t1_loop.trips) (v2623 : IVec S16 32) (v2642 : IVec S16 32) (k0_hw426 : k0_chk426 k0_t1 v2623 v2642), ∀ (k0_h1 : k0_cond1 k0_t1 = 1#1), ∀ a x, ((![v2623, v2642] : Fin 2 → IVec S16 32) a x).toNat < S512x16.size a := fun k0_t1 v2623 v2642 k0_hw426 k0_h1 => k0_hw426 k0_h1

def k0_chk427 (k0_t1 : Fin k0_t1_loop.trips) (v2623 : IVec S16 32) (v2644 : IVec S16 32) : Prop :=
  (∀ (k0_h1 : k0_cond1 k0_t1 = 1#1), ∀ a x, ((![v2623, v2644] : Fin 2 → IVec S16 32) a x).toNat < S512x16.size a)
theorem k0_idx427_inb : ∀ (k0_t1 : Fin k0_t1_loop.trips) (v2623 : IVec S16 32) (v2644 : IVec S16 32) (k0_hw427 : k0_chk427 k0_t1 v2623 v2644), ∀ (k0_h1 : k0_cond1 k0_t1 = 1#1), ∀ a x, ((![v2623, v2644] : Fin 2 → IVec S16 32) a x).toNat < S512x16.size a := fun k0_t1 v2623 v2644 k0_hw427 k0_h1 => k0_hw427 k0_h1

def k0_chk428 (k0_t1 : Fin k0_t1_loop.trips) (v2623 : IVec S16 32) (v2646 : IVec S16 32) : Prop :=
  (∀ (k0_h1 : k0_cond1 k0_t1 = 1#1), ∀ a x, ((![v2623, v2646] : Fin 2 → IVec S16 32) a x).toNat < S512x16.size a)
theorem k0_idx428_inb : ∀ (k0_t1 : Fin k0_t1_loop.trips) (v2623 : IVec S16 32) (v2646 : IVec S16 32) (k0_hw428 : k0_chk428 k0_t1 v2623 v2646), ∀ (k0_h1 : k0_cond1 k0_t1 = 1#1), ∀ a x, ((![v2623, v2646] : Fin 2 → IVec S16 32) a x).toNat < S512x16.size a := fun k0_t1 v2623 v2646 k0_hw428 k0_h1 => k0_hw428 k0_h1

def k0_chk429 (k0_t1 : Fin k0_t1_loop.trips) (v2623 : IVec S16 32) (v2648 : IVec S16 32) : Prop :=
  (∀ (k0_h1 : k0_cond1 k0_t1 = 1#1), ∀ a x, ((![v2623, v2648] : Fin 2 → IVec S16 32) a x).toNat < S512x16.size a)
theorem k0_idx429_inb : ∀ (k0_t1 : Fin k0_t1_loop.trips) (v2623 : IVec S16 32) (v2648 : IVec S16 32) (k0_hw429 : k0_chk429 k0_t1 v2623 v2648), ∀ (k0_h1 : k0_cond1 k0_t1 = 1#1), ∀ a x, ((![v2623, v2648] : Fin 2 → IVec S16 32) a x).toNat < S512x16.size a := fun k0_t1 v2623 v2648 k0_hw429 k0_h1 => k0_hw429 k0_h1

def k0_chk430 (k0_t1 : Fin k0_t1_loop.trips) (v2623 : IVec S16 32) (v2650 : IVec S16 32) : Prop :=
  (∀ (k0_h1 : k0_cond1 k0_t1 = 1#1), ∀ a x, ((![v2623, v2650] : Fin 2 → IVec S16 32) a x).toNat < S512x16.size a)
theorem k0_idx430_inb : ∀ (k0_t1 : Fin k0_t1_loop.trips) (v2623 : IVec S16 32) (v2650 : IVec S16 32) (k0_hw430 : k0_chk430 k0_t1 v2623 v2650), ∀ (k0_h1 : k0_cond1 k0_t1 = 1#1), ∀ a x, ((![v2623, v2650] : Fin 2 → IVec S16 32) a x).toNat < S512x16.size a := fun k0_t1 v2623 v2650 k0_hw430 k0_h1 => k0_hw430 k0_h1

def k0_chk431 (k0_t1 : Fin k0_t1_loop.trips) (v2623 : IVec S16 32) (v2652 : IVec S16 32) : Prop :=
  (∀ (k0_h1 : k0_cond1 k0_t1 = 1#1), ∀ a x, ((![v2623, v2652] : Fin 2 → IVec S16 32) a x).toNat < S512x16.size a)
theorem k0_idx431_inb : ∀ (k0_t1 : Fin k0_t1_loop.trips) (v2623 : IVec S16 32) (v2652 : IVec S16 32) (k0_hw431 : k0_chk431 k0_t1 v2623 v2652), ∀ (k0_h1 : k0_cond1 k0_t1 = 1#1), ∀ a x, ((![v2623, v2652] : Fin 2 → IVec S16 32) a x).toNat < S512x16.size a := fun k0_t1 v2623 v2652 k0_hw431 k0_h1 => k0_hw431 k0_h1

def k0_chk432 (k0_t1 : Fin k0_t1_loop.trips) (v2623 : IVec S16 32) (v2654 : IVec S16 32) : Prop :=
  (∀ (k0_h1 : k0_cond1 k0_t1 = 1#1), ∀ a x, ((![v2623, v2654] : Fin 2 → IVec S16 32) a x).toNat < S512x16.size a)
theorem k0_idx432_inb : ∀ (k0_t1 : Fin k0_t1_loop.trips) (v2623 : IVec S16 32) (v2654 : IVec S16 32) (k0_hw432 : k0_chk432 k0_t1 v2623 v2654), ∀ (k0_h1 : k0_cond1 k0_t1 = 1#1), ∀ a x, ((![v2623, v2654] : Fin 2 → IVec S16 32) a x).toNat < S512x16.size a := fun k0_t1 v2623 v2654 k0_hw432 k0_h1 => k0_hw432 k0_h1

def k0_chk433 (k0_t1 : Fin k0_t1_loop.trips) (v2722 : IVec S16 32) (v2723 : IVec S16 32) : Prop :=
  (∀ (k0_h1 : k0_cond1 k0_t1 = 1#1), ∀ a x, ((![v2722, v2723] : Fin 2 → IVec S16 32) a x).toNat < S512x16.size a)
theorem k0_idx433_inb : ∀ (k0_t1 : Fin k0_t1_loop.trips) (v2722 : IVec S16 32) (v2723 : IVec S16 32) (k0_hw433 : k0_chk433 k0_t1 v2722 v2723), ∀ (k0_h1 : k0_cond1 k0_t1 = 1#1), ∀ a x, ((![v2722, v2723] : Fin 2 → IVec S16 32) a x).toNat < S512x16.size a := fun k0_t1 v2722 v2723 k0_hw433 k0_h1 => k0_hw433 k0_h1

def k0_chk434 (k0_t1 : Fin k0_t1_loop.trips) (v2722 : IVec S16 32) (v2725 : IVec S16 32) : Prop :=
  (∀ (k0_h1 : k0_cond1 k0_t1 = 1#1), ∀ a x, ((![v2722, v2725] : Fin 2 → IVec S16 32) a x).toNat < S512x16.size a)
theorem k0_idx434_inb : ∀ (k0_t1 : Fin k0_t1_loop.trips) (v2722 : IVec S16 32) (v2725 : IVec S16 32) (k0_hw434 : k0_chk434 k0_t1 v2722 v2725), ∀ (k0_h1 : k0_cond1 k0_t1 = 1#1), ∀ a x, ((![v2722, v2725] : Fin 2 → IVec S16 32) a x).toNat < S512x16.size a := fun k0_t1 v2722 v2725 k0_hw434 k0_h1 => k0_hw434 k0_h1

def k0_chk435 (k0_t1 : Fin k0_t1_loop.trips) (v2722 : IVec S16 32) (v2727 : IVec S16 32) : Prop :=
  (∀ (k0_h1 : k0_cond1 k0_t1 = 1#1), ∀ a x, ((![v2722, v2727] : Fin 2 → IVec S16 32) a x).toNat < S512x16.size a)
theorem k0_idx435_inb : ∀ (k0_t1 : Fin k0_t1_loop.trips) (v2722 : IVec S16 32) (v2727 : IVec S16 32) (k0_hw435 : k0_chk435 k0_t1 v2722 v2727), ∀ (k0_h1 : k0_cond1 k0_t1 = 1#1), ∀ a x, ((![v2722, v2727] : Fin 2 → IVec S16 32) a x).toNat < S512x16.size a := fun k0_t1 v2722 v2727 k0_hw435 k0_h1 => k0_hw435 k0_h1

def k0_chk436 (k0_t1 : Fin k0_t1_loop.trips) (v2722 : IVec S16 32) (v2729 : IVec S16 32) : Prop :=
  (∀ (k0_h1 : k0_cond1 k0_t1 = 1#1), ∀ a x, ((![v2722, v2729] : Fin 2 → IVec S16 32) a x).toNat < S512x16.size a)
theorem k0_idx436_inb : ∀ (k0_t1 : Fin k0_t1_loop.trips) (v2722 : IVec S16 32) (v2729 : IVec S16 32) (k0_hw436 : k0_chk436 k0_t1 v2722 v2729), ∀ (k0_h1 : k0_cond1 k0_t1 = 1#1), ∀ a x, ((![v2722, v2729] : Fin 2 → IVec S16 32) a x).toNat < S512x16.size a := fun k0_t1 v2722 v2729 k0_hw436 k0_h1 => k0_hw436 k0_h1

def k0_chk437 (k0_t1 : Fin k0_t1_loop.trips) (v2722 : IVec S16 32) (v2731 : IVec S16 32) : Prop :=
  (∀ (k0_h1 : k0_cond1 k0_t1 = 1#1), ∀ a x, ((![v2722, v2731] : Fin 2 → IVec S16 32) a x).toNat < S512x16.size a)
theorem k0_idx437_inb : ∀ (k0_t1 : Fin k0_t1_loop.trips) (v2722 : IVec S16 32) (v2731 : IVec S16 32) (k0_hw437 : k0_chk437 k0_t1 v2722 v2731), ∀ (k0_h1 : k0_cond1 k0_t1 = 1#1), ∀ a x, ((![v2722, v2731] : Fin 2 → IVec S16 32) a x).toNat < S512x16.size a := fun k0_t1 v2722 v2731 k0_hw437 k0_h1 => k0_hw437 k0_h1

def k0_chk438 (k0_t1 : Fin k0_t1_loop.trips) (v2722 : IVec S16 32) (v2733 : IVec S16 32) : Prop :=
  (∀ (k0_h1 : k0_cond1 k0_t1 = 1#1), ∀ a x, ((![v2722, v2733] : Fin 2 → IVec S16 32) a x).toNat < S512x16.size a)
theorem k0_idx438_inb : ∀ (k0_t1 : Fin k0_t1_loop.trips) (v2722 : IVec S16 32) (v2733 : IVec S16 32) (k0_hw438 : k0_chk438 k0_t1 v2722 v2733), ∀ (k0_h1 : k0_cond1 k0_t1 = 1#1), ∀ a x, ((![v2722, v2733] : Fin 2 → IVec S16 32) a x).toNat < S512x16.size a := fun k0_t1 v2722 v2733 k0_hw438 k0_h1 => k0_hw438 k0_h1

def k0_chk439 (k0_t1 : Fin k0_t1_loop.trips) (v2722 : IVec S16 32) (v2735 : IVec S16 32) : Prop :=
  (∀ (k0_h1 : k0_cond1 k0_t1 = 1#1), ∀ a x, ((![v2722, v2735] : Fin 2 → IVec S16 32) a x).toNat < S512x16.size a)
theorem k0_idx439_inb : ∀ (k0_t1 : Fin k0_t1_loop.trips) (v2722 : IVec S16 32) (v2735 : IVec S16 32) (k0_hw439 : k0_chk439 k0_t1 v2722 v2735), ∀ (k0_h1 : k0_cond1 k0_t1 = 1#1), ∀ a x, ((![v2722, v2735] : Fin 2 → IVec S16 32) a x).toNat < S512x16.size a := fun k0_t1 v2722 v2735 k0_hw439 k0_h1 => k0_hw439 k0_h1

def k0_chk440 (k0_t1 : Fin k0_t1_loop.trips) (v2722 : IVec S16 32) (v2737 : IVec S16 32) : Prop :=
  (∀ (k0_h1 : k0_cond1 k0_t1 = 1#1), ∀ a x, ((![v2722, v2737] : Fin 2 → IVec S16 32) a x).toNat < S512x16.size a)
theorem k0_idx440_inb : ∀ (k0_t1 : Fin k0_t1_loop.trips) (v2722 : IVec S16 32) (v2737 : IVec S16 32) (k0_hw440 : k0_chk440 k0_t1 v2722 v2737), ∀ (k0_h1 : k0_cond1 k0_t1 = 1#1), ∀ a x, ((![v2722, v2737] : Fin 2 → IVec S16 32) a x).toNat < S512x16.size a := fun k0_t1 v2722 v2737 k0_hw440 k0_h1 => k0_hw440 k0_h1

def k0_chk441 (k0_t1 : Fin k0_t1_loop.trips) (v2722 : IVec S16 32) (v2739 : IVec S16 32) : Prop :=
  (∀ (k0_h1 : k0_cond1 k0_t1 = 1#1), ∀ a x, ((![v2722, v2739] : Fin 2 → IVec S16 32) a x).toNat < S512x16.size a)
theorem k0_idx441_inb : ∀ (k0_t1 : Fin k0_t1_loop.trips) (v2722 : IVec S16 32) (v2739 : IVec S16 32) (k0_hw441 : k0_chk441 k0_t1 v2722 v2739), ∀ (k0_h1 : k0_cond1 k0_t1 = 1#1), ∀ a x, ((![v2722, v2739] : Fin 2 → IVec S16 32) a x).toNat < S512x16.size a := fun k0_t1 v2722 v2739 k0_hw441 k0_h1 => k0_hw441 k0_h1

def k0_chk442 (k0_t1 : Fin k0_t1_loop.trips) (v2722 : IVec S16 32) (v2741 : IVec S16 32) : Prop :=
  (∀ (k0_h1 : k0_cond1 k0_t1 = 1#1), ∀ a x, ((![v2722, v2741] : Fin 2 → IVec S16 32) a x).toNat < S512x16.size a)
theorem k0_idx442_inb : ∀ (k0_t1 : Fin k0_t1_loop.trips) (v2722 : IVec S16 32) (v2741 : IVec S16 32) (k0_hw442 : k0_chk442 k0_t1 v2722 v2741), ∀ (k0_h1 : k0_cond1 k0_t1 = 1#1), ∀ a x, ((![v2722, v2741] : Fin 2 → IVec S16 32) a x).toNat < S512x16.size a := fun k0_t1 v2722 v2741 k0_hw442 k0_h1 => k0_hw442 k0_h1

def k0_chk443 (k0_t1 : Fin k0_t1_loop.trips) (v2722 : IVec S16 32) (v2743 : IVec S16 32) : Prop :=
  (∀ (k0_h1 : k0_cond1 k0_t1 = 1#1), ∀ a x, ((![v2722, v2743] : Fin 2 → IVec S16 32) a x).toNat < S512x16.size a)
theorem k0_idx443_inb : ∀ (k0_t1 : Fin k0_t1_loop.trips) (v2722 : IVec S16 32) (v2743 : IVec S16 32) (k0_hw443 : k0_chk443 k0_t1 v2722 v2743), ∀ (k0_h1 : k0_cond1 k0_t1 = 1#1), ∀ a x, ((![v2722, v2743] : Fin 2 → IVec S16 32) a x).toNat < S512x16.size a := fun k0_t1 v2722 v2743 k0_hw443 k0_h1 => k0_hw443 k0_h1

def k0_chk444 (k0_t1 : Fin k0_t1_loop.trips) (v2722 : IVec S16 32) (v2745 : IVec S16 32) : Prop :=
  (∀ (k0_h1 : k0_cond1 k0_t1 = 1#1), ∀ a x, ((![v2722, v2745] : Fin 2 → IVec S16 32) a x).toNat < S512x16.size a)
theorem k0_idx444_inb : ∀ (k0_t1 : Fin k0_t1_loop.trips) (v2722 : IVec S16 32) (v2745 : IVec S16 32) (k0_hw444 : k0_chk444 k0_t1 v2722 v2745), ∀ (k0_h1 : k0_cond1 k0_t1 = 1#1), ∀ a x, ((![v2722, v2745] : Fin 2 → IVec S16 32) a x).toNat < S512x16.size a := fun k0_t1 v2722 v2745 k0_hw444 k0_h1 => k0_hw444 k0_h1

def k0_chk445 (k0_t1 : Fin k0_t1_loop.trips) (v2722 : IVec S16 32) (v2747 : IVec S16 32) : Prop :=
  (∀ (k0_h1 : k0_cond1 k0_t1 = 1#1), ∀ a x, ((![v2722, v2747] : Fin 2 → IVec S16 32) a x).toNat < S512x16.size a)
theorem k0_idx445_inb : ∀ (k0_t1 : Fin k0_t1_loop.trips) (v2722 : IVec S16 32) (v2747 : IVec S16 32) (k0_hw445 : k0_chk445 k0_t1 v2722 v2747), ∀ (k0_h1 : k0_cond1 k0_t1 = 1#1), ∀ a x, ((![v2722, v2747] : Fin 2 → IVec S16 32) a x).toNat < S512x16.size a := fun k0_t1 v2722 v2747 k0_hw445 k0_h1 => k0_hw445 k0_h1

def k0_chk446 (k0_t1 : Fin k0_t1_loop.trips) (v2722 : IVec S16 32) (v2749 : IVec S16 32) : Prop :=
  (∀ (k0_h1 : k0_cond1 k0_t1 = 1#1), ∀ a x, ((![v2722, v2749] : Fin 2 → IVec S16 32) a x).toNat < S512x16.size a)
theorem k0_idx446_inb : ∀ (k0_t1 : Fin k0_t1_loop.trips) (v2722 : IVec S16 32) (v2749 : IVec S16 32) (k0_hw446 : k0_chk446 k0_t1 v2722 v2749), ∀ (k0_h1 : k0_cond1 k0_t1 = 1#1), ∀ a x, ((![v2722, v2749] : Fin 2 → IVec S16 32) a x).toNat < S512x16.size a := fun k0_t1 v2722 v2749 k0_hw446 k0_h1 => k0_hw446 k0_h1

def k0_chk447 (k0_t1 : Fin k0_t1_loop.trips) (v2722 : IVec S16 32) (v2751 : IVec S16 32) : Prop :=
  (∀ (k0_h1 : k0_cond1 k0_t1 = 1#1), ∀ a x, ((![v2722, v2751] : Fin 2 → IVec S16 32) a x).toNat < S512x16.size a)
theorem k0_idx447_inb : ∀ (k0_t1 : Fin k0_t1_loop.trips) (v2722 : IVec S16 32) (v2751 : IVec S16 32) (k0_hw447 : k0_chk447 k0_t1 v2722 v2751), ∀ (k0_h1 : k0_cond1 k0_t1 = 1#1), ∀ a x, ((![v2722, v2751] : Fin 2 → IVec S16 32) a x).toNat < S512x16.size a := fun k0_t1 v2722 v2751 k0_hw447 k0_h1 => k0_hw447 k0_h1

def k0_chk448 (k0_t1 : Fin k0_t1_loop.trips) (v2722 : IVec S16 32) (v2753 : IVec S16 32) : Prop :=
  (∀ (k0_h1 : k0_cond1 k0_t1 = 1#1), ∀ a x, ((![v2722, v2753] : Fin 2 → IVec S16 32) a x).toNat < S512x16.size a)
theorem k0_idx448_inb : ∀ (k0_t1 : Fin k0_t1_loop.trips) (v2722 : IVec S16 32) (v2753 : IVec S16 32) (k0_hw448 : k0_chk448 k0_t1 v2722 v2753), ∀ (k0_h1 : k0_cond1 k0_t1 = 1#1), ∀ a x, ((![v2722, v2753] : Fin 2 → IVec S16 32) a x).toNat < S512x16.size a := fun k0_t1 v2722 v2753 k0_hw448 k0_h1 => k0_hw448 k0_h1

def k0_chk449 (k0_t1 : Fin k0_t1_loop.trips) (v2821 : IVec S16 32) (v2822 : IVec S16 32) : Prop :=
  (∀ (k0_h1 : k0_cond1 k0_t1 = 1#1), ∀ a x, ((![v2821, v2822] : Fin 2 → IVec S16 32) a x).toNat < S512x16.size a)
theorem k0_idx449_inb : ∀ (k0_t1 : Fin k0_t1_loop.trips) (v2821 : IVec S16 32) (v2822 : IVec S16 32) (k0_hw449 : k0_chk449 k0_t1 v2821 v2822), ∀ (k0_h1 : k0_cond1 k0_t1 = 1#1), ∀ a x, ((![v2821, v2822] : Fin 2 → IVec S16 32) a x).toNat < S512x16.size a := fun k0_t1 v2821 v2822 k0_hw449 k0_h1 => k0_hw449 k0_h1

def k0_chk450 (k0_t1 : Fin k0_t1_loop.trips) (v2821 : IVec S16 32) (v2824 : IVec S16 32) : Prop :=
  (∀ (k0_h1 : k0_cond1 k0_t1 = 1#1), ∀ a x, ((![v2821, v2824] : Fin 2 → IVec S16 32) a x).toNat < S512x16.size a)
theorem k0_idx450_inb : ∀ (k0_t1 : Fin k0_t1_loop.trips) (v2821 : IVec S16 32) (v2824 : IVec S16 32) (k0_hw450 : k0_chk450 k0_t1 v2821 v2824), ∀ (k0_h1 : k0_cond1 k0_t1 = 1#1), ∀ a x, ((![v2821, v2824] : Fin 2 → IVec S16 32) a x).toNat < S512x16.size a := fun k0_t1 v2821 v2824 k0_hw450 k0_h1 => k0_hw450 k0_h1

def k0_chk451 (k0_t1 : Fin k0_t1_loop.trips) (v2821 : IVec S16 32) (v2826 : IVec S16 32) : Prop :=
  (∀ (k0_h1 : k0_cond1 k0_t1 = 1#1), ∀ a x, ((![v2821, v2826] : Fin 2 → IVec S16 32) a x).toNat < S512x16.size a)
theorem k0_idx451_inb : ∀ (k0_t1 : Fin k0_t1_loop.trips) (v2821 : IVec S16 32) (v2826 : IVec S16 32) (k0_hw451 : k0_chk451 k0_t1 v2821 v2826), ∀ (k0_h1 : k0_cond1 k0_t1 = 1#1), ∀ a x, ((![v2821, v2826] : Fin 2 → IVec S16 32) a x).toNat < S512x16.size a := fun k0_t1 v2821 v2826 k0_hw451 k0_h1 => k0_hw451 k0_h1

def k0_chk452 (k0_t1 : Fin k0_t1_loop.trips) (v2821 : IVec S16 32) (v2828 : IVec S16 32) : Prop :=
  (∀ (k0_h1 : k0_cond1 k0_t1 = 1#1), ∀ a x, ((![v2821, v2828] : Fin 2 → IVec S16 32) a x).toNat < S512x16.size a)
theorem k0_idx452_inb : ∀ (k0_t1 : Fin k0_t1_loop.trips) (v2821 : IVec S16 32) (v2828 : IVec S16 32) (k0_hw452 : k0_chk452 k0_t1 v2821 v2828), ∀ (k0_h1 : k0_cond1 k0_t1 = 1#1), ∀ a x, ((![v2821, v2828] : Fin 2 → IVec S16 32) a x).toNat < S512x16.size a := fun k0_t1 v2821 v2828 k0_hw452 k0_h1 => k0_hw452 k0_h1

def k0_chk453 (k0_t1 : Fin k0_t1_loop.trips) (v2821 : IVec S16 32) (v2830 : IVec S16 32) : Prop :=
  (∀ (k0_h1 : k0_cond1 k0_t1 = 1#1), ∀ a x, ((![v2821, v2830] : Fin 2 → IVec S16 32) a x).toNat < S512x16.size a)
theorem k0_idx453_inb : ∀ (k0_t1 : Fin k0_t1_loop.trips) (v2821 : IVec S16 32) (v2830 : IVec S16 32) (k0_hw453 : k0_chk453 k0_t1 v2821 v2830), ∀ (k0_h1 : k0_cond1 k0_t1 = 1#1), ∀ a x, ((![v2821, v2830] : Fin 2 → IVec S16 32) a x).toNat < S512x16.size a := fun k0_t1 v2821 v2830 k0_hw453 k0_h1 => k0_hw453 k0_h1

def k0_chk454 (k0_t1 : Fin k0_t1_loop.trips) (v2821 : IVec S16 32) (v2832 : IVec S16 32) : Prop :=
  (∀ (k0_h1 : k0_cond1 k0_t1 = 1#1), ∀ a x, ((![v2821, v2832] : Fin 2 → IVec S16 32) a x).toNat < S512x16.size a)
theorem k0_idx454_inb : ∀ (k0_t1 : Fin k0_t1_loop.trips) (v2821 : IVec S16 32) (v2832 : IVec S16 32) (k0_hw454 : k0_chk454 k0_t1 v2821 v2832), ∀ (k0_h1 : k0_cond1 k0_t1 = 1#1), ∀ a x, ((![v2821, v2832] : Fin 2 → IVec S16 32) a x).toNat < S512x16.size a := fun k0_t1 v2821 v2832 k0_hw454 k0_h1 => k0_hw454 k0_h1

def k0_chk455 (k0_t1 : Fin k0_t1_loop.trips) (v2821 : IVec S16 32) (v2834 : IVec S16 32) : Prop :=
  (∀ (k0_h1 : k0_cond1 k0_t1 = 1#1), ∀ a x, ((![v2821, v2834] : Fin 2 → IVec S16 32) a x).toNat < S512x16.size a)
theorem k0_idx455_inb : ∀ (k0_t1 : Fin k0_t1_loop.trips) (v2821 : IVec S16 32) (v2834 : IVec S16 32) (k0_hw455 : k0_chk455 k0_t1 v2821 v2834), ∀ (k0_h1 : k0_cond1 k0_t1 = 1#1), ∀ a x, ((![v2821, v2834] : Fin 2 → IVec S16 32) a x).toNat < S512x16.size a := fun k0_t1 v2821 v2834 k0_hw455 k0_h1 => k0_hw455 k0_h1

def k0_chk456 (k0_t1 : Fin k0_t1_loop.trips) (v2821 : IVec S16 32) (v2836 : IVec S16 32) : Prop :=
  (∀ (k0_h1 : k0_cond1 k0_t1 = 1#1), ∀ a x, ((![v2821, v2836] : Fin 2 → IVec S16 32) a x).toNat < S512x16.size a)
theorem k0_idx456_inb : ∀ (k0_t1 : Fin k0_t1_loop.trips) (v2821 : IVec S16 32) (v2836 : IVec S16 32) (k0_hw456 : k0_chk456 k0_t1 v2821 v2836), ∀ (k0_h1 : k0_cond1 k0_t1 = 1#1), ∀ a x, ((![v2821, v2836] : Fin 2 → IVec S16 32) a x).toNat < S512x16.size a := fun k0_t1 v2821 v2836 k0_hw456 k0_h1 => k0_hw456 k0_h1

def k0_chk457 (k0_t1 : Fin k0_t1_loop.trips) (v2821 : IVec S16 32) (v2838 : IVec S16 32) : Prop :=
  (∀ (k0_h1 : k0_cond1 k0_t1 = 1#1), ∀ a x, ((![v2821, v2838] : Fin 2 → IVec S16 32) a x).toNat < S512x16.size a)
theorem k0_idx457_inb : ∀ (k0_t1 : Fin k0_t1_loop.trips) (v2821 : IVec S16 32) (v2838 : IVec S16 32) (k0_hw457 : k0_chk457 k0_t1 v2821 v2838), ∀ (k0_h1 : k0_cond1 k0_t1 = 1#1), ∀ a x, ((![v2821, v2838] : Fin 2 → IVec S16 32) a x).toNat < S512x16.size a := fun k0_t1 v2821 v2838 k0_hw457 k0_h1 => k0_hw457 k0_h1

def k0_chk458 (k0_t1 : Fin k0_t1_loop.trips) (v2821 : IVec S16 32) (v2840 : IVec S16 32) : Prop :=
  (∀ (k0_h1 : k0_cond1 k0_t1 = 1#1), ∀ a x, ((![v2821, v2840] : Fin 2 → IVec S16 32) a x).toNat < S512x16.size a)
theorem k0_idx458_inb : ∀ (k0_t1 : Fin k0_t1_loop.trips) (v2821 : IVec S16 32) (v2840 : IVec S16 32) (k0_hw458 : k0_chk458 k0_t1 v2821 v2840), ∀ (k0_h1 : k0_cond1 k0_t1 = 1#1), ∀ a x, ((![v2821, v2840] : Fin 2 → IVec S16 32) a x).toNat < S512x16.size a := fun k0_t1 v2821 v2840 k0_hw458 k0_h1 => k0_hw458 k0_h1

def k0_chk459 (k0_t1 : Fin k0_t1_loop.trips) (v2821 : IVec S16 32) (v2842 : IVec S16 32) : Prop :=
  (∀ (k0_h1 : k0_cond1 k0_t1 = 1#1), ∀ a x, ((![v2821, v2842] : Fin 2 → IVec S16 32) a x).toNat < S512x16.size a)
theorem k0_idx459_inb : ∀ (k0_t1 : Fin k0_t1_loop.trips) (v2821 : IVec S16 32) (v2842 : IVec S16 32) (k0_hw459 : k0_chk459 k0_t1 v2821 v2842), ∀ (k0_h1 : k0_cond1 k0_t1 = 1#1), ∀ a x, ((![v2821, v2842] : Fin 2 → IVec S16 32) a x).toNat < S512x16.size a := fun k0_t1 v2821 v2842 k0_hw459 k0_h1 => k0_hw459 k0_h1

def k0_chk460 (k0_t1 : Fin k0_t1_loop.trips) (v2821 : IVec S16 32) (v2844 : IVec S16 32) : Prop :=
  (∀ (k0_h1 : k0_cond1 k0_t1 = 1#1), ∀ a x, ((![v2821, v2844] : Fin 2 → IVec S16 32) a x).toNat < S512x16.size a)
theorem k0_idx460_inb : ∀ (k0_t1 : Fin k0_t1_loop.trips) (v2821 : IVec S16 32) (v2844 : IVec S16 32) (k0_hw460 : k0_chk460 k0_t1 v2821 v2844), ∀ (k0_h1 : k0_cond1 k0_t1 = 1#1), ∀ a x, ((![v2821, v2844] : Fin 2 → IVec S16 32) a x).toNat < S512x16.size a := fun k0_t1 v2821 v2844 k0_hw460 k0_h1 => k0_hw460 k0_h1

def k0_chk461 (k0_t1 : Fin k0_t1_loop.trips) (v2821 : IVec S16 32) (v2846 : IVec S16 32) : Prop :=
  (∀ (k0_h1 : k0_cond1 k0_t1 = 1#1), ∀ a x, ((![v2821, v2846] : Fin 2 → IVec S16 32) a x).toNat < S512x16.size a)
theorem k0_idx461_inb : ∀ (k0_t1 : Fin k0_t1_loop.trips) (v2821 : IVec S16 32) (v2846 : IVec S16 32) (k0_hw461 : k0_chk461 k0_t1 v2821 v2846), ∀ (k0_h1 : k0_cond1 k0_t1 = 1#1), ∀ a x, ((![v2821, v2846] : Fin 2 → IVec S16 32) a x).toNat < S512x16.size a := fun k0_t1 v2821 v2846 k0_hw461 k0_h1 => k0_hw461 k0_h1

def k0_chk462 (k0_t1 : Fin k0_t1_loop.trips) (v2821 : IVec S16 32) (v2848 : IVec S16 32) : Prop :=
  (∀ (k0_h1 : k0_cond1 k0_t1 = 1#1), ∀ a x, ((![v2821, v2848] : Fin 2 → IVec S16 32) a x).toNat < S512x16.size a)
theorem k0_idx462_inb : ∀ (k0_t1 : Fin k0_t1_loop.trips) (v2821 : IVec S16 32) (v2848 : IVec S16 32) (k0_hw462 : k0_chk462 k0_t1 v2821 v2848), ∀ (k0_h1 : k0_cond1 k0_t1 = 1#1), ∀ a x, ((![v2821, v2848] : Fin 2 → IVec S16 32) a x).toNat < S512x16.size a := fun k0_t1 v2821 v2848 k0_hw462 k0_h1 => k0_hw462 k0_h1

def k0_chk463 (k0_t1 : Fin k0_t1_loop.trips) (v2821 : IVec S16 32) (v2850 : IVec S16 32) : Prop :=
  (∀ (k0_h1 : k0_cond1 k0_t1 = 1#1), ∀ a x, ((![v2821, v2850] : Fin 2 → IVec S16 32) a x).toNat < S512x16.size a)
theorem k0_idx463_inb : ∀ (k0_t1 : Fin k0_t1_loop.trips) (v2821 : IVec S16 32) (v2850 : IVec S16 32) (k0_hw463 : k0_chk463 k0_t1 v2821 v2850), ∀ (k0_h1 : k0_cond1 k0_t1 = 1#1), ∀ a x, ((![v2821, v2850] : Fin 2 → IVec S16 32) a x).toNat < S512x16.size a := fun k0_t1 v2821 v2850 k0_hw463 k0_h1 => k0_hw463 k0_h1

def k0_chk464 (k0_t1 : Fin k0_t1_loop.trips) (v2821 : IVec S16 32) (v2852 : IVec S16 32) : Prop :=
  (∀ (k0_h1 : k0_cond1 k0_t1 = 1#1), ∀ a x, ((![v2821, v2852] : Fin 2 → IVec S16 32) a x).toNat < S512x16.size a)
theorem k0_idx464_inb : ∀ (k0_t1 : Fin k0_t1_loop.trips) (v2821 : IVec S16 32) (v2852 : IVec S16 32) (k0_hw464 : k0_chk464 k0_t1 v2821 v2852), ∀ (k0_h1 : k0_cond1 k0_t1 = 1#1), ∀ a x, ((![v2821, v2852] : Fin 2 → IVec S16 32) a x).toNat < S512x16.size a := fun k0_t1 v2821 v2852 k0_hw464 k0_h1 => k0_hw464 k0_h1

def k0_chk465 (k0_t1 : Fin k0_t1_loop.trips) (v2920 : IVec S16 32) (v2921 : IVec S16 32) : Prop :=
  (∀ (k0_h1 : k0_cond1 k0_t1 = 1#1), ∀ a x, ((![v2920, v2921] : Fin 2 → IVec S16 32) a x).toNat < S512x16.size a)
theorem k0_idx465_inb : ∀ (k0_t1 : Fin k0_t1_loop.trips) (v2920 : IVec S16 32) (v2921 : IVec S16 32) (k0_hw465 : k0_chk465 k0_t1 v2920 v2921), ∀ (k0_h1 : k0_cond1 k0_t1 = 1#1), ∀ a x, ((![v2920, v2921] : Fin 2 → IVec S16 32) a x).toNat < S512x16.size a := fun k0_t1 v2920 v2921 k0_hw465 k0_h1 => k0_hw465 k0_h1

def k0_chk466 (k0_t1 : Fin k0_t1_loop.trips) (v2920 : IVec S16 32) (v2923 : IVec S16 32) : Prop :=
  (∀ (k0_h1 : k0_cond1 k0_t1 = 1#1), ∀ a x, ((![v2920, v2923] : Fin 2 → IVec S16 32) a x).toNat < S512x16.size a)
theorem k0_idx466_inb : ∀ (k0_t1 : Fin k0_t1_loop.trips) (v2920 : IVec S16 32) (v2923 : IVec S16 32) (k0_hw466 : k0_chk466 k0_t1 v2920 v2923), ∀ (k0_h1 : k0_cond1 k0_t1 = 1#1), ∀ a x, ((![v2920, v2923] : Fin 2 → IVec S16 32) a x).toNat < S512x16.size a := fun k0_t1 v2920 v2923 k0_hw466 k0_h1 => k0_hw466 k0_h1

def k0_chk467 (k0_t1 : Fin k0_t1_loop.trips) (v2920 : IVec S16 32) (v2925 : IVec S16 32) : Prop :=
  (∀ (k0_h1 : k0_cond1 k0_t1 = 1#1), ∀ a x, ((![v2920, v2925] : Fin 2 → IVec S16 32) a x).toNat < S512x16.size a)
theorem k0_idx467_inb : ∀ (k0_t1 : Fin k0_t1_loop.trips) (v2920 : IVec S16 32) (v2925 : IVec S16 32) (k0_hw467 : k0_chk467 k0_t1 v2920 v2925), ∀ (k0_h1 : k0_cond1 k0_t1 = 1#1), ∀ a x, ((![v2920, v2925] : Fin 2 → IVec S16 32) a x).toNat < S512x16.size a := fun k0_t1 v2920 v2925 k0_hw467 k0_h1 => k0_hw467 k0_h1

def k0_chk468 (k0_t1 : Fin k0_t1_loop.trips) (v2920 : IVec S16 32) (v2927 : IVec S16 32) : Prop :=
  (∀ (k0_h1 : k0_cond1 k0_t1 = 1#1), ∀ a x, ((![v2920, v2927] : Fin 2 → IVec S16 32) a x).toNat < S512x16.size a)
theorem k0_idx468_inb : ∀ (k0_t1 : Fin k0_t1_loop.trips) (v2920 : IVec S16 32) (v2927 : IVec S16 32) (k0_hw468 : k0_chk468 k0_t1 v2920 v2927), ∀ (k0_h1 : k0_cond1 k0_t1 = 1#1), ∀ a x, ((![v2920, v2927] : Fin 2 → IVec S16 32) a x).toNat < S512x16.size a := fun k0_t1 v2920 v2927 k0_hw468 k0_h1 => k0_hw468 k0_h1

def k0_chk469 (k0_t1 : Fin k0_t1_loop.trips) (v2920 : IVec S16 32) (v2929 : IVec S16 32) : Prop :=
  (∀ (k0_h1 : k0_cond1 k0_t1 = 1#1), ∀ a x, ((![v2920, v2929] : Fin 2 → IVec S16 32) a x).toNat < S512x16.size a)
theorem k0_idx469_inb : ∀ (k0_t1 : Fin k0_t1_loop.trips) (v2920 : IVec S16 32) (v2929 : IVec S16 32) (k0_hw469 : k0_chk469 k0_t1 v2920 v2929), ∀ (k0_h1 : k0_cond1 k0_t1 = 1#1), ∀ a x, ((![v2920, v2929] : Fin 2 → IVec S16 32) a x).toNat < S512x16.size a := fun k0_t1 v2920 v2929 k0_hw469 k0_h1 => k0_hw469 k0_h1

def k0_chk470 (k0_t1 : Fin k0_t1_loop.trips) (v2920 : IVec S16 32) (v2931 : IVec S16 32) : Prop :=
  (∀ (k0_h1 : k0_cond1 k0_t1 = 1#1), ∀ a x, ((![v2920, v2931] : Fin 2 → IVec S16 32) a x).toNat < S512x16.size a)
theorem k0_idx470_inb : ∀ (k0_t1 : Fin k0_t1_loop.trips) (v2920 : IVec S16 32) (v2931 : IVec S16 32) (k0_hw470 : k0_chk470 k0_t1 v2920 v2931), ∀ (k0_h1 : k0_cond1 k0_t1 = 1#1), ∀ a x, ((![v2920, v2931] : Fin 2 → IVec S16 32) a x).toNat < S512x16.size a := fun k0_t1 v2920 v2931 k0_hw470 k0_h1 => k0_hw470 k0_h1

def k0_chk471 (k0_t1 : Fin k0_t1_loop.trips) (v2920 : IVec S16 32) (v2933 : IVec S16 32) : Prop :=
  (∀ (k0_h1 : k0_cond1 k0_t1 = 1#1), ∀ a x, ((![v2920, v2933] : Fin 2 → IVec S16 32) a x).toNat < S512x16.size a)
theorem k0_idx471_inb : ∀ (k0_t1 : Fin k0_t1_loop.trips) (v2920 : IVec S16 32) (v2933 : IVec S16 32) (k0_hw471 : k0_chk471 k0_t1 v2920 v2933), ∀ (k0_h1 : k0_cond1 k0_t1 = 1#1), ∀ a x, ((![v2920, v2933] : Fin 2 → IVec S16 32) a x).toNat < S512x16.size a := fun k0_t1 v2920 v2933 k0_hw471 k0_h1 => k0_hw471 k0_h1

def k0_chk472 (k0_t1 : Fin k0_t1_loop.trips) (v2920 : IVec S16 32) (v2935 : IVec S16 32) : Prop :=
  (∀ (k0_h1 : k0_cond1 k0_t1 = 1#1), ∀ a x, ((![v2920, v2935] : Fin 2 → IVec S16 32) a x).toNat < S512x16.size a)
theorem k0_idx472_inb : ∀ (k0_t1 : Fin k0_t1_loop.trips) (v2920 : IVec S16 32) (v2935 : IVec S16 32) (k0_hw472 : k0_chk472 k0_t1 v2920 v2935), ∀ (k0_h1 : k0_cond1 k0_t1 = 1#1), ∀ a x, ((![v2920, v2935] : Fin 2 → IVec S16 32) a x).toNat < S512x16.size a := fun k0_t1 v2920 v2935 k0_hw472 k0_h1 => k0_hw472 k0_h1

def k0_chk473 (k0_t1 : Fin k0_t1_loop.trips) (v2920 : IVec S16 32) (v2937 : IVec S16 32) : Prop :=
  (∀ (k0_h1 : k0_cond1 k0_t1 = 1#1), ∀ a x, ((![v2920, v2937] : Fin 2 → IVec S16 32) a x).toNat < S512x16.size a)
theorem k0_idx473_inb : ∀ (k0_t1 : Fin k0_t1_loop.trips) (v2920 : IVec S16 32) (v2937 : IVec S16 32) (k0_hw473 : k0_chk473 k0_t1 v2920 v2937), ∀ (k0_h1 : k0_cond1 k0_t1 = 1#1), ∀ a x, ((![v2920, v2937] : Fin 2 → IVec S16 32) a x).toNat < S512x16.size a := fun k0_t1 v2920 v2937 k0_hw473 k0_h1 => k0_hw473 k0_h1

def k0_chk474 (k0_t1 : Fin k0_t1_loop.trips) (v2920 : IVec S16 32) (v2939 : IVec S16 32) : Prop :=
  (∀ (k0_h1 : k0_cond1 k0_t1 = 1#1), ∀ a x, ((![v2920, v2939] : Fin 2 → IVec S16 32) a x).toNat < S512x16.size a)
theorem k0_idx474_inb : ∀ (k0_t1 : Fin k0_t1_loop.trips) (v2920 : IVec S16 32) (v2939 : IVec S16 32) (k0_hw474 : k0_chk474 k0_t1 v2920 v2939), ∀ (k0_h1 : k0_cond1 k0_t1 = 1#1), ∀ a x, ((![v2920, v2939] : Fin 2 → IVec S16 32) a x).toNat < S512x16.size a := fun k0_t1 v2920 v2939 k0_hw474 k0_h1 => k0_hw474 k0_h1

def k0_chk475 (k0_t1 : Fin k0_t1_loop.trips) (v2920 : IVec S16 32) (v2941 : IVec S16 32) : Prop :=
  (∀ (k0_h1 : k0_cond1 k0_t1 = 1#1), ∀ a x, ((![v2920, v2941] : Fin 2 → IVec S16 32) a x).toNat < S512x16.size a)
theorem k0_idx475_inb : ∀ (k0_t1 : Fin k0_t1_loop.trips) (v2920 : IVec S16 32) (v2941 : IVec S16 32) (k0_hw475 : k0_chk475 k0_t1 v2920 v2941), ∀ (k0_h1 : k0_cond1 k0_t1 = 1#1), ∀ a x, ((![v2920, v2941] : Fin 2 → IVec S16 32) a x).toNat < S512x16.size a := fun k0_t1 v2920 v2941 k0_hw475 k0_h1 => k0_hw475 k0_h1

def k0_chk476 (k0_t1 : Fin k0_t1_loop.trips) (v2920 : IVec S16 32) (v2943 : IVec S16 32) : Prop :=
  (∀ (k0_h1 : k0_cond1 k0_t1 = 1#1), ∀ a x, ((![v2920, v2943] : Fin 2 → IVec S16 32) a x).toNat < S512x16.size a)
theorem k0_idx476_inb : ∀ (k0_t1 : Fin k0_t1_loop.trips) (v2920 : IVec S16 32) (v2943 : IVec S16 32) (k0_hw476 : k0_chk476 k0_t1 v2920 v2943), ∀ (k0_h1 : k0_cond1 k0_t1 = 1#1), ∀ a x, ((![v2920, v2943] : Fin 2 → IVec S16 32) a x).toNat < S512x16.size a := fun k0_t1 v2920 v2943 k0_hw476 k0_h1 => k0_hw476 k0_h1

def k0_chk477 (k0_t1 : Fin k0_t1_loop.trips) (v2920 : IVec S16 32) (v2945 : IVec S16 32) : Prop :=
  (∀ (k0_h1 : k0_cond1 k0_t1 = 1#1), ∀ a x, ((![v2920, v2945] : Fin 2 → IVec S16 32) a x).toNat < S512x16.size a)
theorem k0_idx477_inb : ∀ (k0_t1 : Fin k0_t1_loop.trips) (v2920 : IVec S16 32) (v2945 : IVec S16 32) (k0_hw477 : k0_chk477 k0_t1 v2920 v2945), ∀ (k0_h1 : k0_cond1 k0_t1 = 1#1), ∀ a x, ((![v2920, v2945] : Fin 2 → IVec S16 32) a x).toNat < S512x16.size a := fun k0_t1 v2920 v2945 k0_hw477 k0_h1 => k0_hw477 k0_h1

def k0_chk478 (k0_t1 : Fin k0_t1_loop.trips) (v2920 : IVec S16 32) (v2947 : IVec S16 32) : Prop :=
  (∀ (k0_h1 : k0_cond1 k0_t1 = 1#1), ∀ a x, ((![v2920, v2947] : Fin 2 → IVec S16 32) a x).toNat < S512x16.size a)
theorem k0_idx478_inb : ∀ (k0_t1 : Fin k0_t1_loop.trips) (v2920 : IVec S16 32) (v2947 : IVec S16 32) (k0_hw478 : k0_chk478 k0_t1 v2920 v2947), ∀ (k0_h1 : k0_cond1 k0_t1 = 1#1), ∀ a x, ((![v2920, v2947] : Fin 2 → IVec S16 32) a x).toNat < S512x16.size a := fun k0_t1 v2920 v2947 k0_hw478 k0_h1 => k0_hw478 k0_h1

def k0_chk479 (k0_t1 : Fin k0_t1_loop.trips) (v2920 : IVec S16 32) (v2949 : IVec S16 32) : Prop :=
  (∀ (k0_h1 : k0_cond1 k0_t1 = 1#1), ∀ a x, ((![v2920, v2949] : Fin 2 → IVec S16 32) a x).toNat < S512x16.size a)
theorem k0_idx479_inb : ∀ (k0_t1 : Fin k0_t1_loop.trips) (v2920 : IVec S16 32) (v2949 : IVec S16 32) (k0_hw479 : k0_chk479 k0_t1 v2920 v2949), ∀ (k0_h1 : k0_cond1 k0_t1 = 1#1), ∀ a x, ((![v2920, v2949] : Fin 2 → IVec S16 32) a x).toNat < S512x16.size a := fun k0_t1 v2920 v2949 k0_hw479 k0_h1 => k0_hw479 k0_h1

def k0_chk480 (k0_t1 : Fin k0_t1_loop.trips) (v2920 : IVec S16 32) (v2951 : IVec S16 32) : Prop :=
  (∀ (k0_h1 : k0_cond1 k0_t1 = 1#1), ∀ a x, ((![v2920, v2951] : Fin 2 → IVec S16 32) a x).toNat < S512x16.size a)
theorem k0_idx480_inb : ∀ (k0_t1 : Fin k0_t1_loop.trips) (v2920 : IVec S16 32) (v2951 : IVec S16 32) (k0_hw480 : k0_chk480 k0_t1 v2920 v2951), ∀ (k0_h1 : k0_cond1 k0_t1 = 1#1), ∀ a x, ((![v2920, v2951] : Fin 2 → IVec S16 32) a x).toNat < S512x16.size a := fun k0_t1 v2920 v2951 k0_hw480 k0_h1 => k0_hw480 k0_h1

def k0_chk481 (k0_t1 : Fin k0_t1_loop.trips) (v3019 : IVec S16 32) (v3020 : IVec S16 32) : Prop :=
  (∀ (k0_h1 : k0_cond1 k0_t1 = 1#1), ∀ a x, ((![v3019, v3020] : Fin 2 → IVec S16 32) a x).toNat < S512x16.size a)
theorem k0_idx481_inb : ∀ (k0_t1 : Fin k0_t1_loop.trips) (v3019 : IVec S16 32) (v3020 : IVec S16 32) (k0_hw481 : k0_chk481 k0_t1 v3019 v3020), ∀ (k0_h1 : k0_cond1 k0_t1 = 1#1), ∀ a x, ((![v3019, v3020] : Fin 2 → IVec S16 32) a x).toNat < S512x16.size a := fun k0_t1 v3019 v3020 k0_hw481 k0_h1 => k0_hw481 k0_h1

def k0_chk482 (k0_t1 : Fin k0_t1_loop.trips) (v3019 : IVec S16 32) (v3022 : IVec S16 32) : Prop :=
  (∀ (k0_h1 : k0_cond1 k0_t1 = 1#1), ∀ a x, ((![v3019, v3022] : Fin 2 → IVec S16 32) a x).toNat < S512x16.size a)
theorem k0_idx482_inb : ∀ (k0_t1 : Fin k0_t1_loop.trips) (v3019 : IVec S16 32) (v3022 : IVec S16 32) (k0_hw482 : k0_chk482 k0_t1 v3019 v3022), ∀ (k0_h1 : k0_cond1 k0_t1 = 1#1), ∀ a x, ((![v3019, v3022] : Fin 2 → IVec S16 32) a x).toNat < S512x16.size a := fun k0_t1 v3019 v3022 k0_hw482 k0_h1 => k0_hw482 k0_h1

def k0_chk483 (k0_t1 : Fin k0_t1_loop.trips) (v3019 : IVec S16 32) (v3024 : IVec S16 32) : Prop :=
  (∀ (k0_h1 : k0_cond1 k0_t1 = 1#1), ∀ a x, ((![v3019, v3024] : Fin 2 → IVec S16 32) a x).toNat < S512x16.size a)
theorem k0_idx483_inb : ∀ (k0_t1 : Fin k0_t1_loop.trips) (v3019 : IVec S16 32) (v3024 : IVec S16 32) (k0_hw483 : k0_chk483 k0_t1 v3019 v3024), ∀ (k0_h1 : k0_cond1 k0_t1 = 1#1), ∀ a x, ((![v3019, v3024] : Fin 2 → IVec S16 32) a x).toNat < S512x16.size a := fun k0_t1 v3019 v3024 k0_hw483 k0_h1 => k0_hw483 k0_h1

def k0_chk484 (k0_t1 : Fin k0_t1_loop.trips) (v3019 : IVec S16 32) (v3026 : IVec S16 32) : Prop :=
  (∀ (k0_h1 : k0_cond1 k0_t1 = 1#1), ∀ a x, ((![v3019, v3026] : Fin 2 → IVec S16 32) a x).toNat < S512x16.size a)
theorem k0_idx484_inb : ∀ (k0_t1 : Fin k0_t1_loop.trips) (v3019 : IVec S16 32) (v3026 : IVec S16 32) (k0_hw484 : k0_chk484 k0_t1 v3019 v3026), ∀ (k0_h1 : k0_cond1 k0_t1 = 1#1), ∀ a x, ((![v3019, v3026] : Fin 2 → IVec S16 32) a x).toNat < S512x16.size a := fun k0_t1 v3019 v3026 k0_hw484 k0_h1 => k0_hw484 k0_h1

def k0_chk485 (k0_t1 : Fin k0_t1_loop.trips) (v3019 : IVec S16 32) (v3028 : IVec S16 32) : Prop :=
  (∀ (k0_h1 : k0_cond1 k0_t1 = 1#1), ∀ a x, ((![v3019, v3028] : Fin 2 → IVec S16 32) a x).toNat < S512x16.size a)
theorem k0_idx485_inb : ∀ (k0_t1 : Fin k0_t1_loop.trips) (v3019 : IVec S16 32) (v3028 : IVec S16 32) (k0_hw485 : k0_chk485 k0_t1 v3019 v3028), ∀ (k0_h1 : k0_cond1 k0_t1 = 1#1), ∀ a x, ((![v3019, v3028] : Fin 2 → IVec S16 32) a x).toNat < S512x16.size a := fun k0_t1 v3019 v3028 k0_hw485 k0_h1 => k0_hw485 k0_h1

def k0_chk486 (k0_t1 : Fin k0_t1_loop.trips) (v3019 : IVec S16 32) (v3030 : IVec S16 32) : Prop :=
  (∀ (k0_h1 : k0_cond1 k0_t1 = 1#1), ∀ a x, ((![v3019, v3030] : Fin 2 → IVec S16 32) a x).toNat < S512x16.size a)
theorem k0_idx486_inb : ∀ (k0_t1 : Fin k0_t1_loop.trips) (v3019 : IVec S16 32) (v3030 : IVec S16 32) (k0_hw486 : k0_chk486 k0_t1 v3019 v3030), ∀ (k0_h1 : k0_cond1 k0_t1 = 1#1), ∀ a x, ((![v3019, v3030] : Fin 2 → IVec S16 32) a x).toNat < S512x16.size a := fun k0_t1 v3019 v3030 k0_hw486 k0_h1 => k0_hw486 k0_h1

def k0_chk487 (k0_t1 : Fin k0_t1_loop.trips) (v3019 : IVec S16 32) (v3032 : IVec S16 32) : Prop :=
  (∀ (k0_h1 : k0_cond1 k0_t1 = 1#1), ∀ a x, ((![v3019, v3032] : Fin 2 → IVec S16 32) a x).toNat < S512x16.size a)
theorem k0_idx487_inb : ∀ (k0_t1 : Fin k0_t1_loop.trips) (v3019 : IVec S16 32) (v3032 : IVec S16 32) (k0_hw487 : k0_chk487 k0_t1 v3019 v3032), ∀ (k0_h1 : k0_cond1 k0_t1 = 1#1), ∀ a x, ((![v3019, v3032] : Fin 2 → IVec S16 32) a x).toNat < S512x16.size a := fun k0_t1 v3019 v3032 k0_hw487 k0_h1 => k0_hw487 k0_h1

def k0_chk488 (k0_t1 : Fin k0_t1_loop.trips) (v3019 : IVec S16 32) (v3034 : IVec S16 32) : Prop :=
  (∀ (k0_h1 : k0_cond1 k0_t1 = 1#1), ∀ a x, ((![v3019, v3034] : Fin 2 → IVec S16 32) a x).toNat < S512x16.size a)
theorem k0_idx488_inb : ∀ (k0_t1 : Fin k0_t1_loop.trips) (v3019 : IVec S16 32) (v3034 : IVec S16 32) (k0_hw488 : k0_chk488 k0_t1 v3019 v3034), ∀ (k0_h1 : k0_cond1 k0_t1 = 1#1), ∀ a x, ((![v3019, v3034] : Fin 2 → IVec S16 32) a x).toNat < S512x16.size a := fun k0_t1 v3019 v3034 k0_hw488 k0_h1 => k0_hw488 k0_h1

def k0_chk489 (k0_t1 : Fin k0_t1_loop.trips) (v3019 : IVec S16 32) (v3036 : IVec S16 32) : Prop :=
  (∀ (k0_h1 : k0_cond1 k0_t1 = 1#1), ∀ a x, ((![v3019, v3036] : Fin 2 → IVec S16 32) a x).toNat < S512x16.size a)
theorem k0_idx489_inb : ∀ (k0_t1 : Fin k0_t1_loop.trips) (v3019 : IVec S16 32) (v3036 : IVec S16 32) (k0_hw489 : k0_chk489 k0_t1 v3019 v3036), ∀ (k0_h1 : k0_cond1 k0_t1 = 1#1), ∀ a x, ((![v3019, v3036] : Fin 2 → IVec S16 32) a x).toNat < S512x16.size a := fun k0_t1 v3019 v3036 k0_hw489 k0_h1 => k0_hw489 k0_h1

def k0_chk490 (k0_t1 : Fin k0_t1_loop.trips) (v3019 : IVec S16 32) (v3038 : IVec S16 32) : Prop :=
  (∀ (k0_h1 : k0_cond1 k0_t1 = 1#1), ∀ a x, ((![v3019, v3038] : Fin 2 → IVec S16 32) a x).toNat < S512x16.size a)
theorem k0_idx490_inb : ∀ (k0_t1 : Fin k0_t1_loop.trips) (v3019 : IVec S16 32) (v3038 : IVec S16 32) (k0_hw490 : k0_chk490 k0_t1 v3019 v3038), ∀ (k0_h1 : k0_cond1 k0_t1 = 1#1), ∀ a x, ((![v3019, v3038] : Fin 2 → IVec S16 32) a x).toNat < S512x16.size a := fun k0_t1 v3019 v3038 k0_hw490 k0_h1 => k0_hw490 k0_h1

def k0_chk491 (k0_t1 : Fin k0_t1_loop.trips) (v3019 : IVec S16 32) (v3040 : IVec S16 32) : Prop :=
  (∀ (k0_h1 : k0_cond1 k0_t1 = 1#1), ∀ a x, ((![v3019, v3040] : Fin 2 → IVec S16 32) a x).toNat < S512x16.size a)
theorem k0_idx491_inb : ∀ (k0_t1 : Fin k0_t1_loop.trips) (v3019 : IVec S16 32) (v3040 : IVec S16 32) (k0_hw491 : k0_chk491 k0_t1 v3019 v3040), ∀ (k0_h1 : k0_cond1 k0_t1 = 1#1), ∀ a x, ((![v3019, v3040] : Fin 2 → IVec S16 32) a x).toNat < S512x16.size a := fun k0_t1 v3019 v3040 k0_hw491 k0_h1 => k0_hw491 k0_h1

def k0_chk492 (k0_t1 : Fin k0_t1_loop.trips) (v3019 : IVec S16 32) (v3042 : IVec S16 32) : Prop :=
  (∀ (k0_h1 : k0_cond1 k0_t1 = 1#1), ∀ a x, ((![v3019, v3042] : Fin 2 → IVec S16 32) a x).toNat < S512x16.size a)
theorem k0_idx492_inb : ∀ (k0_t1 : Fin k0_t1_loop.trips) (v3019 : IVec S16 32) (v3042 : IVec S16 32) (k0_hw492 : k0_chk492 k0_t1 v3019 v3042), ∀ (k0_h1 : k0_cond1 k0_t1 = 1#1), ∀ a x, ((![v3019, v3042] : Fin 2 → IVec S16 32) a x).toNat < S512x16.size a := fun k0_t1 v3019 v3042 k0_hw492 k0_h1 => k0_hw492 k0_h1

def k0_chk493 (k0_t1 : Fin k0_t1_loop.trips) (v3019 : IVec S16 32) (v3044 : IVec S16 32) : Prop :=
  (∀ (k0_h1 : k0_cond1 k0_t1 = 1#1), ∀ a x, ((![v3019, v3044] : Fin 2 → IVec S16 32) a x).toNat < S512x16.size a)
theorem k0_idx493_inb : ∀ (k0_t1 : Fin k0_t1_loop.trips) (v3019 : IVec S16 32) (v3044 : IVec S16 32) (k0_hw493 : k0_chk493 k0_t1 v3019 v3044), ∀ (k0_h1 : k0_cond1 k0_t1 = 1#1), ∀ a x, ((![v3019, v3044] : Fin 2 → IVec S16 32) a x).toNat < S512x16.size a := fun k0_t1 v3019 v3044 k0_hw493 k0_h1 => k0_hw493 k0_h1

def k0_chk494 (k0_t1 : Fin k0_t1_loop.trips) (v3019 : IVec S16 32) (v3046 : IVec S16 32) : Prop :=
  (∀ (k0_h1 : k0_cond1 k0_t1 = 1#1), ∀ a x, ((![v3019, v3046] : Fin 2 → IVec S16 32) a x).toNat < S512x16.size a)
theorem k0_idx494_inb : ∀ (k0_t1 : Fin k0_t1_loop.trips) (v3019 : IVec S16 32) (v3046 : IVec S16 32) (k0_hw494 : k0_chk494 k0_t1 v3019 v3046), ∀ (k0_h1 : k0_cond1 k0_t1 = 1#1), ∀ a x, ((![v3019, v3046] : Fin 2 → IVec S16 32) a x).toNat < S512x16.size a := fun k0_t1 v3019 v3046 k0_hw494 k0_h1 => k0_hw494 k0_h1

def k0_chk495 (k0_t1 : Fin k0_t1_loop.trips) (v3019 : IVec S16 32) (v3048 : IVec S16 32) : Prop :=
  (∀ (k0_h1 : k0_cond1 k0_t1 = 1#1), ∀ a x, ((![v3019, v3048] : Fin 2 → IVec S16 32) a x).toNat < S512x16.size a)
theorem k0_idx495_inb : ∀ (k0_t1 : Fin k0_t1_loop.trips) (v3019 : IVec S16 32) (v3048 : IVec S16 32) (k0_hw495 : k0_chk495 k0_t1 v3019 v3048), ∀ (k0_h1 : k0_cond1 k0_t1 = 1#1), ∀ a x, ((![v3019, v3048] : Fin 2 → IVec S16 32) a x).toNat < S512x16.size a := fun k0_t1 v3019 v3048 k0_hw495 k0_h1 => k0_hw495 k0_h1

def k0_chk496 (k0_t1 : Fin k0_t1_loop.trips) (v3019 : IVec S16 32) (v3050 : IVec S16 32) : Prop :=
  (∀ (k0_h1 : k0_cond1 k0_t1 = 1#1), ∀ a x, ((![v3019, v3050] : Fin 2 → IVec S16 32) a x).toNat < S512x16.size a)
theorem k0_idx496_inb : ∀ (k0_t1 : Fin k0_t1_loop.trips) (v3019 : IVec S16 32) (v3050 : IVec S16 32) (k0_hw496 : k0_chk496 k0_t1 v3019 v3050), ∀ (k0_h1 : k0_cond1 k0_t1 = 1#1), ∀ a x, ((![v3019, v3050] : Fin 2 → IVec S16 32) a x).toNat < S512x16.size a := fun k0_t1 v3019 v3050 k0_hw496 k0_h1 => k0_hw496 k0_h1

def k0_chk497 (k0_t1 : Fin k0_t1_loop.trips) (v3118 : IVec S16 32) (v3119 : IVec S16 32) : Prop :=
  (∀ (k0_h1 : k0_cond1 k0_t1 = 1#1), ∀ a x, ((![v3118, v3119] : Fin 2 → IVec S16 32) a x).toNat < S512x16.size a)
theorem k0_idx497_inb : ∀ (k0_t1 : Fin k0_t1_loop.trips) (v3118 : IVec S16 32) (v3119 : IVec S16 32) (k0_hw497 : k0_chk497 k0_t1 v3118 v3119), ∀ (k0_h1 : k0_cond1 k0_t1 = 1#1), ∀ a x, ((![v3118, v3119] : Fin 2 → IVec S16 32) a x).toNat < S512x16.size a := fun k0_t1 v3118 v3119 k0_hw497 k0_h1 => k0_hw497 k0_h1

def k0_chk498 (k0_t1 : Fin k0_t1_loop.trips) (v3118 : IVec S16 32) (v3121 : IVec S16 32) : Prop :=
  (∀ (k0_h1 : k0_cond1 k0_t1 = 1#1), ∀ a x, ((![v3118, v3121] : Fin 2 → IVec S16 32) a x).toNat < S512x16.size a)
theorem k0_idx498_inb : ∀ (k0_t1 : Fin k0_t1_loop.trips) (v3118 : IVec S16 32) (v3121 : IVec S16 32) (k0_hw498 : k0_chk498 k0_t1 v3118 v3121), ∀ (k0_h1 : k0_cond1 k0_t1 = 1#1), ∀ a x, ((![v3118, v3121] : Fin 2 → IVec S16 32) a x).toNat < S512x16.size a := fun k0_t1 v3118 v3121 k0_hw498 k0_h1 => k0_hw498 k0_h1

def k0_chk499 (k0_t1 : Fin k0_t1_loop.trips) (v3118 : IVec S16 32) (v3123 : IVec S16 32) : Prop :=
  (∀ (k0_h1 : k0_cond1 k0_t1 = 1#1), ∀ a x, ((![v3118, v3123] : Fin 2 → IVec S16 32) a x).toNat < S512x16.size a)
theorem k0_idx499_inb : ∀ (k0_t1 : Fin k0_t1_loop.trips) (v3118 : IVec S16 32) (v3123 : IVec S16 32) (k0_hw499 : k0_chk499 k0_t1 v3118 v3123), ∀ (k0_h1 : k0_cond1 k0_t1 = 1#1), ∀ a x, ((![v3118, v3123] : Fin 2 → IVec S16 32) a x).toNat < S512x16.size a := fun k0_t1 v3118 v3123 k0_hw499 k0_h1 => k0_hw499 k0_h1

def k0_chk500 (k0_t1 : Fin k0_t1_loop.trips) (v3118 : IVec S16 32) (v3125 : IVec S16 32) : Prop :=
  (∀ (k0_h1 : k0_cond1 k0_t1 = 1#1), ∀ a x, ((![v3118, v3125] : Fin 2 → IVec S16 32) a x).toNat < S512x16.size a)
theorem k0_idx500_inb : ∀ (k0_t1 : Fin k0_t1_loop.trips) (v3118 : IVec S16 32) (v3125 : IVec S16 32) (k0_hw500 : k0_chk500 k0_t1 v3118 v3125), ∀ (k0_h1 : k0_cond1 k0_t1 = 1#1), ∀ a x, ((![v3118, v3125] : Fin 2 → IVec S16 32) a x).toNat < S512x16.size a := fun k0_t1 v3118 v3125 k0_hw500 k0_h1 => k0_hw500 k0_h1

def k0_chk501 (k0_t1 : Fin k0_t1_loop.trips) (v3118 : IVec S16 32) (v3127 : IVec S16 32) : Prop :=
  (∀ (k0_h1 : k0_cond1 k0_t1 = 1#1), ∀ a x, ((![v3118, v3127] : Fin 2 → IVec S16 32) a x).toNat < S512x16.size a)
theorem k0_idx501_inb : ∀ (k0_t1 : Fin k0_t1_loop.trips) (v3118 : IVec S16 32) (v3127 : IVec S16 32) (k0_hw501 : k0_chk501 k0_t1 v3118 v3127), ∀ (k0_h1 : k0_cond1 k0_t1 = 1#1), ∀ a x, ((![v3118, v3127] : Fin 2 → IVec S16 32) a x).toNat < S512x16.size a := fun k0_t1 v3118 v3127 k0_hw501 k0_h1 => k0_hw501 k0_h1

def k0_chk502 (k0_t1 : Fin k0_t1_loop.trips) (v3118 : IVec S16 32) (v3129 : IVec S16 32) : Prop :=
  (∀ (k0_h1 : k0_cond1 k0_t1 = 1#1), ∀ a x, ((![v3118, v3129] : Fin 2 → IVec S16 32) a x).toNat < S512x16.size a)
theorem k0_idx502_inb : ∀ (k0_t1 : Fin k0_t1_loop.trips) (v3118 : IVec S16 32) (v3129 : IVec S16 32) (k0_hw502 : k0_chk502 k0_t1 v3118 v3129), ∀ (k0_h1 : k0_cond1 k0_t1 = 1#1), ∀ a x, ((![v3118, v3129] : Fin 2 → IVec S16 32) a x).toNat < S512x16.size a := fun k0_t1 v3118 v3129 k0_hw502 k0_h1 => k0_hw502 k0_h1

def k0_chk503 (k0_t1 : Fin k0_t1_loop.trips) (v3118 : IVec S16 32) (v3131 : IVec S16 32) : Prop :=
  (∀ (k0_h1 : k0_cond1 k0_t1 = 1#1), ∀ a x, ((![v3118, v3131] : Fin 2 → IVec S16 32) a x).toNat < S512x16.size a)
theorem k0_idx503_inb : ∀ (k0_t1 : Fin k0_t1_loop.trips) (v3118 : IVec S16 32) (v3131 : IVec S16 32) (k0_hw503 : k0_chk503 k0_t1 v3118 v3131), ∀ (k0_h1 : k0_cond1 k0_t1 = 1#1), ∀ a x, ((![v3118, v3131] : Fin 2 → IVec S16 32) a x).toNat < S512x16.size a := fun k0_t1 v3118 v3131 k0_hw503 k0_h1 => k0_hw503 k0_h1

def k0_chk504 (k0_t1 : Fin k0_t1_loop.trips) (v3118 : IVec S16 32) (v3133 : IVec S16 32) : Prop :=
  (∀ (k0_h1 : k0_cond1 k0_t1 = 1#1), ∀ a x, ((![v3118, v3133] : Fin 2 → IVec S16 32) a x).toNat < S512x16.size a)
theorem k0_idx504_inb : ∀ (k0_t1 : Fin k0_t1_loop.trips) (v3118 : IVec S16 32) (v3133 : IVec S16 32) (k0_hw504 : k0_chk504 k0_t1 v3118 v3133), ∀ (k0_h1 : k0_cond1 k0_t1 = 1#1), ∀ a x, ((![v3118, v3133] : Fin 2 → IVec S16 32) a x).toNat < S512x16.size a := fun k0_t1 v3118 v3133 k0_hw504 k0_h1 => k0_hw504 k0_h1

def k0_chk505 (k0_t1 : Fin k0_t1_loop.trips) (v3118 : IVec S16 32) (v3135 : IVec S16 32) : Prop :=
  (∀ (k0_h1 : k0_cond1 k0_t1 = 1#1), ∀ a x, ((![v3118, v3135] : Fin 2 → IVec S16 32) a x).toNat < S512x16.size a)
theorem k0_idx505_inb : ∀ (k0_t1 : Fin k0_t1_loop.trips) (v3118 : IVec S16 32) (v3135 : IVec S16 32) (k0_hw505 : k0_chk505 k0_t1 v3118 v3135), ∀ (k0_h1 : k0_cond1 k0_t1 = 1#1), ∀ a x, ((![v3118, v3135] : Fin 2 → IVec S16 32) a x).toNat < S512x16.size a := fun k0_t1 v3118 v3135 k0_hw505 k0_h1 => k0_hw505 k0_h1

def k0_chk506 (k0_t1 : Fin k0_t1_loop.trips) (v3118 : IVec S16 32) (v3137 : IVec S16 32) : Prop :=
  (∀ (k0_h1 : k0_cond1 k0_t1 = 1#1), ∀ a x, ((![v3118, v3137] : Fin 2 → IVec S16 32) a x).toNat < S512x16.size a)
theorem k0_idx506_inb : ∀ (k0_t1 : Fin k0_t1_loop.trips) (v3118 : IVec S16 32) (v3137 : IVec S16 32) (k0_hw506 : k0_chk506 k0_t1 v3118 v3137), ∀ (k0_h1 : k0_cond1 k0_t1 = 1#1), ∀ a x, ((![v3118, v3137] : Fin 2 → IVec S16 32) a x).toNat < S512x16.size a := fun k0_t1 v3118 v3137 k0_hw506 k0_h1 => k0_hw506 k0_h1

def k0_chk507 (k0_t1 : Fin k0_t1_loop.trips) (v3118 : IVec S16 32) (v3139 : IVec S16 32) : Prop :=
  (∀ (k0_h1 : k0_cond1 k0_t1 = 1#1), ∀ a x, ((![v3118, v3139] : Fin 2 → IVec S16 32) a x).toNat < S512x16.size a)
theorem k0_idx507_inb : ∀ (k0_t1 : Fin k0_t1_loop.trips) (v3118 : IVec S16 32) (v3139 : IVec S16 32) (k0_hw507 : k0_chk507 k0_t1 v3118 v3139), ∀ (k0_h1 : k0_cond1 k0_t1 = 1#1), ∀ a x, ((![v3118, v3139] : Fin 2 → IVec S16 32) a x).toNat < S512x16.size a := fun k0_t1 v3118 v3139 k0_hw507 k0_h1 => k0_hw507 k0_h1

def k0_chk508 (k0_t1 : Fin k0_t1_loop.trips) (v3118 : IVec S16 32) (v3141 : IVec S16 32) : Prop :=
  (∀ (k0_h1 : k0_cond1 k0_t1 = 1#1), ∀ a x, ((![v3118, v3141] : Fin 2 → IVec S16 32) a x).toNat < S512x16.size a)
theorem k0_idx508_inb : ∀ (k0_t1 : Fin k0_t1_loop.trips) (v3118 : IVec S16 32) (v3141 : IVec S16 32) (k0_hw508 : k0_chk508 k0_t1 v3118 v3141), ∀ (k0_h1 : k0_cond1 k0_t1 = 1#1), ∀ a x, ((![v3118, v3141] : Fin 2 → IVec S16 32) a x).toNat < S512x16.size a := fun k0_t1 v3118 v3141 k0_hw508 k0_h1 => k0_hw508 k0_h1

def k0_chk509 (k0_t1 : Fin k0_t1_loop.trips) (v3118 : IVec S16 32) (v3143 : IVec S16 32) : Prop :=
  (∀ (k0_h1 : k0_cond1 k0_t1 = 1#1), ∀ a x, ((![v3118, v3143] : Fin 2 → IVec S16 32) a x).toNat < S512x16.size a)
theorem k0_idx509_inb : ∀ (k0_t1 : Fin k0_t1_loop.trips) (v3118 : IVec S16 32) (v3143 : IVec S16 32) (k0_hw509 : k0_chk509 k0_t1 v3118 v3143), ∀ (k0_h1 : k0_cond1 k0_t1 = 1#1), ∀ a x, ((![v3118, v3143] : Fin 2 → IVec S16 32) a x).toNat < S512x16.size a := fun k0_t1 v3118 v3143 k0_hw509 k0_h1 => k0_hw509 k0_h1

def k0_chk510 (k0_t1 : Fin k0_t1_loop.trips) (v3118 : IVec S16 32) (v3145 : IVec S16 32) : Prop :=
  (∀ (k0_h1 : k0_cond1 k0_t1 = 1#1), ∀ a x, ((![v3118, v3145] : Fin 2 → IVec S16 32) a x).toNat < S512x16.size a)
theorem k0_idx510_inb : ∀ (k0_t1 : Fin k0_t1_loop.trips) (v3118 : IVec S16 32) (v3145 : IVec S16 32) (k0_hw510 : k0_chk510 k0_t1 v3118 v3145), ∀ (k0_h1 : k0_cond1 k0_t1 = 1#1), ∀ a x, ((![v3118, v3145] : Fin 2 → IVec S16 32) a x).toNat < S512x16.size a := fun k0_t1 v3118 v3145 k0_hw510 k0_h1 => k0_hw510 k0_h1

def k0_chk511 (k0_t1 : Fin k0_t1_loop.trips) (v3118 : IVec S16 32) (v3147 : IVec S16 32) : Prop :=
  (∀ (k0_h1 : k0_cond1 k0_t1 = 1#1), ∀ a x, ((![v3118, v3147] : Fin 2 → IVec S16 32) a x).toNat < S512x16.size a)
theorem k0_idx511_inb : ∀ (k0_t1 : Fin k0_t1_loop.trips) (v3118 : IVec S16 32) (v3147 : IVec S16 32) (k0_hw511 : k0_chk511 k0_t1 v3118 v3147), ∀ (k0_h1 : k0_cond1 k0_t1 = 1#1), ∀ a x, ((![v3118, v3147] : Fin 2 → IVec S16 32) a x).toNat < S512x16.size a := fun k0_t1 v3118 v3147 k0_hw511 k0_h1 => k0_hw511 k0_h1

def k0_chk512 (k0_t1 : Fin k0_t1_loop.trips) (v3118 : IVec S16 32) (v3149 : IVec S16 32) : Prop :=
  (∀ (k0_h1 : k0_cond1 k0_t1 = 1#1), ∀ a x, ((![v3118, v3149] : Fin 2 → IVec S16 32) a x).toNat < S512x16.size a)
theorem k0_idx512_inb : ∀ (k0_t1 : Fin k0_t1_loop.trips) (v3118 : IVec S16 32) (v3149 : IVec S16 32) (k0_hw512 : k0_chk512 k0_t1 v3118 v3149), ∀ (k0_h1 : k0_cond1 k0_t1 = 1#1), ∀ a x, ((![v3118, v3149] : Fin 2 → IVec S16 32) a x).toNat < S512x16.size a := fun k0_t1 v3118 v3149 k0_hw512 k0_h1 => k0_hw512 k0_h1
def k0_off3 (i : grid0.Coords) (k0_t1 : Fin k0_t1_loop.trips) : Fin 5 → Nat :=
  let c0_i32_11 : BitVec 32 := 0#32
  let c1_i32_12 : BitVec 32 := 1#32
  let arg18 : BitVec 32 := Scf.iv c0_i32_11 c1_i32_12 k0_t1
  let c3_i32 : BitVec 32 := 3#32
  let v26 : BitVec 32 := Scalar.muli arg18 c3_i32
  let c0_i32_41 : BitVec 32 := 0#32
  let v27 : BitVec 32 := Scalar.addi v26 c0_i32_41
  let c0_i32_2598 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_2599 : BitVec 32 := 0#32
  let c0_i32_2600 : BitVec 32 := 0#32
  ![v27.toNat, 0, v3.toNat, 0, 0]
def k0_cond3 (k0_t1 : Fin k0_t1_loop.trips) : BitVec 1 :=
  let c0_i32_11 : BitVec 32 := 0#32
  let c1_i32_12 : BitVec 32 := 1#32
  let arg18 : BitVec 32 := Scf.iv c0_i32_11 c1_i32_12 k0_t1
  let c3_i32 : BitVec 32 := 3#32
  let v26 : BitVec 32 := Scalar.muli arg18 c3_i32
  let c0_i32_41 : BitVec 32 := 0#32
  let v27 : BitVec 32 := Scalar.addi v26 c0_i32_41
  let c3_i32_2604 : BitVec 32 := 3#32
  let v3219 : BitVec 32 := Scalar.addi v27 c3_i32_2604
  let c50_i32_2605 : BitVec 32 := 50#32
  let v3220 : BitVec 1 := Scalar.cmpi .slt v3219 c50_i32_2605
  let v3221 : BitVec 32 := Scalar.extui v3220
  let c0_i32_2606 : BitVec 32 := 0#32
  let v3222 : BitVec 1 := Scalar.cmpi .ne v3221 c0_i32_2606
  v3222

def k0_off4 (k0_t1 : Fin k0_t1_loop.trips) : Fin 2 → Nat :=
  let c0_i32_11 : BitVec 32 := 0#32
  let c1_i32_12 : BitVec 32 := 1#32
  let arg18 : BitVec 32 := Scf.iv c0_i32_11 c1_i32_12 k0_t1
  let c3_i32 : BitVec 32 := 3#32
  let v26 : BitVec 32 := Scalar.muli arg18 c3_i32
  let c0_i32_41 : BitVec 32 := 0#32
  let v27 : BitVec 32 := Scalar.addi v26 c0_i32_41
  let c3_i32_2607 : BitVec 32 := 3#32
  let v3223 : BitVec 32 := Scalar.addi v27 c3_i32_2607
  let c0_i32_2608 : BitVec 32 := 0#32
  ![v3223.toNat, 0]
def k0_cond4 (k0_t1 : Fin k0_t1_loop.trips) : BitVec 1 :=
  let c0_i32_11 : BitVec 32 := 0#32
  let c1_i32_12 : BitVec 32 := 1#32
  let arg18 : BitVec 32 := Scf.iv c0_i32_11 c1_i32_12 k0_t1
  let c3_i32_43 : BitVec 32 := 3#32
  let v31 : BitVec 32 := Scalar.muli arg18 c3_i32_43
  let c1_i32_44 : BitVec 32 := 1#32
  let v32 : BitVec 32 := Scalar.addi v31 c1_i32_44
  let c50_i32_45 : BitVec 32 := 50#32
  let v33 : BitVec 1 := Scalar.cmpi .slt v32 c50_i32_45
  let v34 : BitVec 32 := Scalar.extui v33
  let c0_i32_46 : BitVec 32 := 0#32
  let v35 : BitVec 1 := Scalar.cmpi .ne v34 c0_i32_46
  v35

def k0_off5 (k0_t1 : Fin k0_t1_loop.trips) : Fin 2 → Nat :=
  let c0_i32_11 : BitVec 32 := 0#32
  let c1_i32_12 : BitVec 32 := 1#32
  let arg18 : BitVec 32 := Scf.iv c0_i32_11 c1_i32_12 k0_t1
  let c3_i32_43 : BitVec 32 := 3#32
  let v31 : BitVec 32 := Scalar.muli arg18 c3_i32_43
  let c1_i32_44 : BitVec 32 := 1#32
  let v32 : BitVec 32 := Scalar.addi v31 c1_i32_44
  let c0_i32_51 : BitVec 32 := 0#32
  ![v32.toNat, 0]

def k0_chk513 (k0_t1 : Fin k0_t1_loop.trips) (v49 : IVec S16 32) (v50 : IVec S16 32) : Prop :=
  (∀ (k0_h4 : k0_cond4 k0_t1 = 1#1), ∀ a x, ((![v49, v50] : Fin 2 → IVec S16 32) a x).toNat < S512x16.size a)
theorem k0_idx513_inb : ∀ (k0_t1 : Fin k0_t1_loop.trips) (v49 : IVec S16 32) (v50 : IVec S16 32) (k0_hw513 : k0_chk513 k0_t1 v49 v50), ∀ (k0_h4 : k0_cond4 k0_t1 = 1#1), ∀ a x, ((![v49, v50] : Fin 2 → IVec S16 32) a x).toNat < S512x16.size a := fun k0_t1 v49 v50 k0_hw513 k0_h4 => k0_hw513 k0_h4

def k0_chk514 (k0_t1 : Fin k0_t1_loop.trips) (v49 : IVec S16 32) (v52 : IVec S16 32) : Prop :=
  (∀ (k0_h4 : k0_cond4 k0_t1 = 1#1), ∀ a x, ((![v49, v52] : Fin 2 → IVec S16 32) a x).toNat < S512x16.size a)
theorem k0_idx514_inb : ∀ (k0_t1 : Fin k0_t1_loop.trips) (v49 : IVec S16 32) (v52 : IVec S16 32) (k0_hw514 : k0_chk514 k0_t1 v49 v52), ∀ (k0_h4 : k0_cond4 k0_t1 = 1#1), ∀ a x, ((![v49, v52] : Fin 2 → IVec S16 32) a x).toNat < S512x16.size a := fun k0_t1 v49 v52 k0_hw514 k0_h4 => k0_hw514 k0_h4

def k0_chk515 (k0_t1 : Fin k0_t1_loop.trips) (v49 : IVec S16 32) (v54 : IVec S16 32) : Prop :=
  (∀ (k0_h4 : k0_cond4 k0_t1 = 1#1), ∀ a x, ((![v49, v54] : Fin 2 → IVec S16 32) a x).toNat < S512x16.size a)
theorem k0_idx515_inb : ∀ (k0_t1 : Fin k0_t1_loop.trips) (v49 : IVec S16 32) (v54 : IVec S16 32) (k0_hw515 : k0_chk515 k0_t1 v49 v54), ∀ (k0_h4 : k0_cond4 k0_t1 = 1#1), ∀ a x, ((![v49, v54] : Fin 2 → IVec S16 32) a x).toNat < S512x16.size a := fun k0_t1 v49 v54 k0_hw515 k0_h4 => k0_hw515 k0_h4

def k0_chk516 (k0_t1 : Fin k0_t1_loop.trips) (v49 : IVec S16 32) (v56 : IVec S16 32) : Prop :=
  (∀ (k0_h4 : k0_cond4 k0_t1 = 1#1), ∀ a x, ((![v49, v56] : Fin 2 → IVec S16 32) a x).toNat < S512x16.size a)
theorem k0_idx516_inb : ∀ (k0_t1 : Fin k0_t1_loop.trips) (v49 : IVec S16 32) (v56 : IVec S16 32) (k0_hw516 : k0_chk516 k0_t1 v49 v56), ∀ (k0_h4 : k0_cond4 k0_t1 = 1#1), ∀ a x, ((![v49, v56] : Fin 2 → IVec S16 32) a x).toNat < S512x16.size a := fun k0_t1 v49 v56 k0_hw516 k0_h4 => k0_hw516 k0_h4

def k0_chk517 (k0_t1 : Fin k0_t1_loop.trips) (v49 : IVec S16 32) (v58 : IVec S16 32) : Prop :=
  (∀ (k0_h4 : k0_cond4 k0_t1 = 1#1), ∀ a x, ((![v49, v58] : Fin 2 → IVec S16 32) a x).toNat < S512x16.size a)
theorem k0_idx517_inb : ∀ (k0_t1 : Fin k0_t1_loop.trips) (v49 : IVec S16 32) (v58 : IVec S16 32) (k0_hw517 : k0_chk517 k0_t1 v49 v58), ∀ (k0_h4 : k0_cond4 k0_t1 = 1#1), ∀ a x, ((![v49, v58] : Fin 2 → IVec S16 32) a x).toNat < S512x16.size a := fun k0_t1 v49 v58 k0_hw517 k0_h4 => k0_hw517 k0_h4

def k0_chk518 (k0_t1 : Fin k0_t1_loop.trips) (v49 : IVec S16 32) (v60 : IVec S16 32) : Prop :=
  (∀ (k0_h4 : k0_cond4 k0_t1 = 1#1), ∀ a x, ((![v49, v60] : Fin 2 → IVec S16 32) a x).toNat < S512x16.size a)
theorem k0_idx518_inb : ∀ (k0_t1 : Fin k0_t1_loop.trips) (v49 : IVec S16 32) (v60 : IVec S16 32) (k0_hw518 : k0_chk518 k0_t1 v49 v60), ∀ (k0_h4 : k0_cond4 k0_t1 = 1#1), ∀ a x, ((![v49, v60] : Fin 2 → IVec S16 32) a x).toNat < S512x16.size a := fun k0_t1 v49 v60 k0_hw518 k0_h4 => k0_hw518 k0_h4

def k0_chk519 (k0_t1 : Fin k0_t1_loop.trips) (v49 : IVec S16 32) (v62 : IVec S16 32) : Prop :=
  (∀ (k0_h4 : k0_cond4 k0_t1 = 1#1), ∀ a x, ((![v49, v62] : Fin 2 → IVec S16 32) a x).toNat < S512x16.size a)
theorem k0_idx519_inb : ∀ (k0_t1 : Fin k0_t1_loop.trips) (v49 : IVec S16 32) (v62 : IVec S16 32) (k0_hw519 : k0_chk519 k0_t1 v49 v62), ∀ (k0_h4 : k0_cond4 k0_t1 = 1#1), ∀ a x, ((![v49, v62] : Fin 2 → IVec S16 32) a x).toNat < S512x16.size a := fun k0_t1 v49 v62 k0_hw519 k0_h4 => k0_hw519 k0_h4

def k0_chk520 (k0_t1 : Fin k0_t1_loop.trips) (v49 : IVec S16 32) (v64 : IVec S16 32) : Prop :=
  (∀ (k0_h4 : k0_cond4 k0_t1 = 1#1), ∀ a x, ((![v49, v64] : Fin 2 → IVec S16 32) a x).toNat < S512x16.size a)
theorem k0_idx520_inb : ∀ (k0_t1 : Fin k0_t1_loop.trips) (v49 : IVec S16 32) (v64 : IVec S16 32) (k0_hw520 : k0_chk520 k0_t1 v49 v64), ∀ (k0_h4 : k0_cond4 k0_t1 = 1#1), ∀ a x, ((![v49, v64] : Fin 2 → IVec S16 32) a x).toNat < S512x16.size a := fun k0_t1 v49 v64 k0_hw520 k0_h4 => k0_hw520 k0_h4

def k0_chk521 (k0_t1 : Fin k0_t1_loop.trips) (v49 : IVec S16 32) (v66 : IVec S16 32) : Prop :=
  (∀ (k0_h4 : k0_cond4 k0_t1 = 1#1), ∀ a x, ((![v49, v66] : Fin 2 → IVec S16 32) a x).toNat < S512x16.size a)
theorem k0_idx521_inb : ∀ (k0_t1 : Fin k0_t1_loop.trips) (v49 : IVec S16 32) (v66 : IVec S16 32) (k0_hw521 : k0_chk521 k0_t1 v49 v66), ∀ (k0_h4 : k0_cond4 k0_t1 = 1#1), ∀ a x, ((![v49, v66] : Fin 2 → IVec S16 32) a x).toNat < S512x16.size a := fun k0_t1 v49 v66 k0_hw521 k0_h4 => k0_hw521 k0_h4

def k0_chk522 (k0_t1 : Fin k0_t1_loop.trips) (v49 : IVec S16 32) (v68 : IVec S16 32) : Prop :=
  (∀ (k0_h4 : k0_cond4 k0_t1 = 1#1), ∀ a x, ((![v49, v68] : Fin 2 → IVec S16 32) a x).toNat < S512x16.size a)
theorem k0_idx522_inb : ∀ (k0_t1 : Fin k0_t1_loop.trips) (v49 : IVec S16 32) (v68 : IVec S16 32) (k0_hw522 : k0_chk522 k0_t1 v49 v68), ∀ (k0_h4 : k0_cond4 k0_t1 = 1#1), ∀ a x, ((![v49, v68] : Fin 2 → IVec S16 32) a x).toNat < S512x16.size a := fun k0_t1 v49 v68 k0_hw522 k0_h4 => k0_hw522 k0_h4

def k0_chk523 (k0_t1 : Fin k0_t1_loop.trips) (v49 : IVec S16 32) (v70 : IVec S16 32) : Prop :=
  (∀ (k0_h4 : k0_cond4 k0_t1 = 1#1), ∀ a x, ((![v49, v70] : Fin 2 → IVec S16 32) a x).toNat < S512x16.size a)
theorem k0_idx523_inb : ∀ (k0_t1 : Fin k0_t1_loop.trips) (v49 : IVec S16 32) (v70 : IVec S16 32) (k0_hw523 : k0_chk523 k0_t1 v49 v70), ∀ (k0_h4 : k0_cond4 k0_t1 = 1#1), ∀ a x, ((![v49, v70] : Fin 2 → IVec S16 32) a x).toNat < S512x16.size a := fun k0_t1 v49 v70 k0_hw523 k0_h4 => k0_hw523 k0_h4

def k0_chk524 (k0_t1 : Fin k0_t1_loop.trips) (v49 : IVec S16 32) (v72 : IVec S16 32) : Prop :=
  (∀ (k0_h4 : k0_cond4 k0_t1 = 1#1), ∀ a x, ((![v49, v72] : Fin 2 → IVec S16 32) a x).toNat < S512x16.size a)
theorem k0_idx524_inb : ∀ (k0_t1 : Fin k0_t1_loop.trips) (v49 : IVec S16 32) (v72 : IVec S16 32) (k0_hw524 : k0_chk524 k0_t1 v49 v72), ∀ (k0_h4 : k0_cond4 k0_t1 = 1#1), ∀ a x, ((![v49, v72] : Fin 2 → IVec S16 32) a x).toNat < S512x16.size a := fun k0_t1 v49 v72 k0_hw524 k0_h4 => k0_hw524 k0_h4

def k0_chk525 (k0_t1 : Fin k0_t1_loop.trips) (v49 : IVec S16 32) (v74 : IVec S16 32) : Prop :=
  (∀ (k0_h4 : k0_cond4 k0_t1 = 1#1), ∀ a x, ((![v49, v74] : Fin 2 → IVec S16 32) a x).toNat < S512x16.size a)
theorem k0_idx525_inb : ∀ (k0_t1 : Fin k0_t1_loop.trips) (v49 : IVec S16 32) (v74 : IVec S16 32) (k0_hw525 : k0_chk525 k0_t1 v49 v74), ∀ (k0_h4 : k0_cond4 k0_t1 = 1#1), ∀ a x, ((![v49, v74] : Fin 2 → IVec S16 32) a x).toNat < S512x16.size a := fun k0_t1 v49 v74 k0_hw525 k0_h4 => k0_hw525 k0_h4

def k0_chk526 (k0_t1 : Fin k0_t1_loop.trips) (v49 : IVec S16 32) (v76 : IVec S16 32) : Prop :=
  (∀ (k0_h4 : k0_cond4 k0_t1 = 1#1), ∀ a x, ((![v49, v76] : Fin 2 → IVec S16 32) a x).toNat < S512x16.size a)
theorem k0_idx526_inb : ∀ (k0_t1 : Fin k0_t1_loop.trips) (v49 : IVec S16 32) (v76 : IVec S16 32) (k0_hw526 : k0_chk526 k0_t1 v49 v76), ∀ (k0_h4 : k0_cond4 k0_t1 = 1#1), ∀ a x, ((![v49, v76] : Fin 2 → IVec S16 32) a x).toNat < S512x16.size a := fun k0_t1 v49 v76 k0_hw526 k0_h4 => k0_hw526 k0_h4

def k0_chk527 (k0_t1 : Fin k0_t1_loop.trips) (v49 : IVec S16 32) (v78 : IVec S16 32) : Prop :=
  (∀ (k0_h4 : k0_cond4 k0_t1 = 1#1), ∀ a x, ((![v49, v78] : Fin 2 → IVec S16 32) a x).toNat < S512x16.size a)
theorem k0_idx527_inb : ∀ (k0_t1 : Fin k0_t1_loop.trips) (v49 : IVec S16 32) (v78 : IVec S16 32) (k0_hw527 : k0_chk527 k0_t1 v49 v78), ∀ (k0_h4 : k0_cond4 k0_t1 = 1#1), ∀ a x, ((![v49, v78] : Fin 2 → IVec S16 32) a x).toNat < S512x16.size a := fun k0_t1 v49 v78 k0_hw527 k0_h4 => k0_hw527 k0_h4

def k0_chk528 (k0_t1 : Fin k0_t1_loop.trips) (v49 : IVec S16 32) (v80 : IVec S16 32) : Prop :=
  (∀ (k0_h4 : k0_cond4 k0_t1 = 1#1), ∀ a x, ((![v49, v80] : Fin 2 → IVec S16 32) a x).toNat < S512x16.size a)
theorem k0_idx528_inb : ∀ (k0_t1 : Fin k0_t1_loop.trips) (v49 : IVec S16 32) (v80 : IVec S16 32) (k0_hw528 : k0_chk528 k0_t1 v49 v80), ∀ (k0_h4 : k0_cond4 k0_t1 = 1#1), ∀ a x, ((![v49, v80] : Fin 2 → IVec S16 32) a x).toNat < S512x16.size a := fun k0_t1 v49 v80 k0_hw528 k0_h4 => k0_hw528 k0_h4

def k0_chk529 (k0_t1 : Fin k0_t1_loop.trips) (v148 : IVec S16 32) (v149 : IVec S16 32) : Prop :=
  (∀ (k0_h4 : k0_cond4 k0_t1 = 1#1), ∀ a x, ((![v148, v149] : Fin 2 → IVec S16 32) a x).toNat < S512x16.size a)
theorem k0_idx529_inb : ∀ (k0_t1 : Fin k0_t1_loop.trips) (v148 : IVec S16 32) (v149 : IVec S16 32) (k0_hw529 : k0_chk529 k0_t1 v148 v149), ∀ (k0_h4 : k0_cond4 k0_t1 = 1#1), ∀ a x, ((![v148, v149] : Fin 2 → IVec S16 32) a x).toNat < S512x16.size a := fun k0_t1 v148 v149 k0_hw529 k0_h4 => k0_hw529 k0_h4

def k0_chk530 (k0_t1 : Fin k0_t1_loop.trips) (v148 : IVec S16 32) (v151 : IVec S16 32) : Prop :=
  (∀ (k0_h4 : k0_cond4 k0_t1 = 1#1), ∀ a x, ((![v148, v151] : Fin 2 → IVec S16 32) a x).toNat < S512x16.size a)
theorem k0_idx530_inb : ∀ (k0_t1 : Fin k0_t1_loop.trips) (v148 : IVec S16 32) (v151 : IVec S16 32) (k0_hw530 : k0_chk530 k0_t1 v148 v151), ∀ (k0_h4 : k0_cond4 k0_t1 = 1#1), ∀ a x, ((![v148, v151] : Fin 2 → IVec S16 32) a x).toNat < S512x16.size a := fun k0_t1 v148 v151 k0_hw530 k0_h4 => k0_hw530 k0_h4

def k0_chk531 (k0_t1 : Fin k0_t1_loop.trips) (v148 : IVec S16 32) (v153 : IVec S16 32) : Prop :=
  (∀ (k0_h4 : k0_cond4 k0_t1 = 1#1), ∀ a x, ((![v148, v153] : Fin 2 → IVec S16 32) a x).toNat < S512x16.size a)
theorem k0_idx531_inb : ∀ (k0_t1 : Fin k0_t1_loop.trips) (v148 : IVec S16 32) (v153 : IVec S16 32) (k0_hw531 : k0_chk531 k0_t1 v148 v153), ∀ (k0_h4 : k0_cond4 k0_t1 = 1#1), ∀ a x, ((![v148, v153] : Fin 2 → IVec S16 32) a x).toNat < S512x16.size a := fun k0_t1 v148 v153 k0_hw531 k0_h4 => k0_hw531 k0_h4

def k0_chk532 (k0_t1 : Fin k0_t1_loop.trips) (v148 : IVec S16 32) (v155 : IVec S16 32) : Prop :=
  (∀ (k0_h4 : k0_cond4 k0_t1 = 1#1), ∀ a x, ((![v148, v155] : Fin 2 → IVec S16 32) a x).toNat < S512x16.size a)
theorem k0_idx532_inb : ∀ (k0_t1 : Fin k0_t1_loop.trips) (v148 : IVec S16 32) (v155 : IVec S16 32) (k0_hw532 : k0_chk532 k0_t1 v148 v155), ∀ (k0_h4 : k0_cond4 k0_t1 = 1#1), ∀ a x, ((![v148, v155] : Fin 2 → IVec S16 32) a x).toNat < S512x16.size a := fun k0_t1 v148 v155 k0_hw532 k0_h4 => k0_hw532 k0_h4

def k0_chk533 (k0_t1 : Fin k0_t1_loop.trips) (v148 : IVec S16 32) (v157 : IVec S16 32) : Prop :=
  (∀ (k0_h4 : k0_cond4 k0_t1 = 1#1), ∀ a x, ((![v148, v157] : Fin 2 → IVec S16 32) a x).toNat < S512x16.size a)
theorem k0_idx533_inb : ∀ (k0_t1 : Fin k0_t1_loop.trips) (v148 : IVec S16 32) (v157 : IVec S16 32) (k0_hw533 : k0_chk533 k0_t1 v148 v157), ∀ (k0_h4 : k0_cond4 k0_t1 = 1#1), ∀ a x, ((![v148, v157] : Fin 2 → IVec S16 32) a x).toNat < S512x16.size a := fun k0_t1 v148 v157 k0_hw533 k0_h4 => k0_hw533 k0_h4

def k0_chk534 (k0_t1 : Fin k0_t1_loop.trips) (v148 : IVec S16 32) (v159 : IVec S16 32) : Prop :=
  (∀ (k0_h4 : k0_cond4 k0_t1 = 1#1), ∀ a x, ((![v148, v159] : Fin 2 → IVec S16 32) a x).toNat < S512x16.size a)
theorem k0_idx534_inb : ∀ (k0_t1 : Fin k0_t1_loop.trips) (v148 : IVec S16 32) (v159 : IVec S16 32) (k0_hw534 : k0_chk534 k0_t1 v148 v159), ∀ (k0_h4 : k0_cond4 k0_t1 = 1#1), ∀ a x, ((![v148, v159] : Fin 2 → IVec S16 32) a x).toNat < S512x16.size a := fun k0_t1 v148 v159 k0_hw534 k0_h4 => k0_hw534 k0_h4

def k0_chk535 (k0_t1 : Fin k0_t1_loop.trips) (v148 : IVec S16 32) (v161 : IVec S16 32) : Prop :=
  (∀ (k0_h4 : k0_cond4 k0_t1 = 1#1), ∀ a x, ((![v148, v161] : Fin 2 → IVec S16 32) a x).toNat < S512x16.size a)
theorem k0_idx535_inb : ∀ (k0_t1 : Fin k0_t1_loop.trips) (v148 : IVec S16 32) (v161 : IVec S16 32) (k0_hw535 : k0_chk535 k0_t1 v148 v161), ∀ (k0_h4 : k0_cond4 k0_t1 = 1#1), ∀ a x, ((![v148, v161] : Fin 2 → IVec S16 32) a x).toNat < S512x16.size a := fun k0_t1 v148 v161 k0_hw535 k0_h4 => k0_hw535 k0_h4

def k0_chk536 (k0_t1 : Fin k0_t1_loop.trips) (v148 : IVec S16 32) (v163 : IVec S16 32) : Prop :=
  (∀ (k0_h4 : k0_cond4 k0_t1 = 1#1), ∀ a x, ((![v148, v163] : Fin 2 → IVec S16 32) a x).toNat < S512x16.size a)
theorem k0_idx536_inb : ∀ (k0_t1 : Fin k0_t1_loop.trips) (v148 : IVec S16 32) (v163 : IVec S16 32) (k0_hw536 : k0_chk536 k0_t1 v148 v163), ∀ (k0_h4 : k0_cond4 k0_t1 = 1#1), ∀ a x, ((![v148, v163] : Fin 2 → IVec S16 32) a x).toNat < S512x16.size a := fun k0_t1 v148 v163 k0_hw536 k0_h4 => k0_hw536 k0_h4

def k0_chk537 (k0_t1 : Fin k0_t1_loop.trips) (v148 : IVec S16 32) (v165 : IVec S16 32) : Prop :=
  (∀ (k0_h4 : k0_cond4 k0_t1 = 1#1), ∀ a x, ((![v148, v165] : Fin 2 → IVec S16 32) a x).toNat < S512x16.size a)
theorem k0_idx537_inb : ∀ (k0_t1 : Fin k0_t1_loop.trips) (v148 : IVec S16 32) (v165 : IVec S16 32) (k0_hw537 : k0_chk537 k0_t1 v148 v165), ∀ (k0_h4 : k0_cond4 k0_t1 = 1#1), ∀ a x, ((![v148, v165] : Fin 2 → IVec S16 32) a x).toNat < S512x16.size a := fun k0_t1 v148 v165 k0_hw537 k0_h4 => k0_hw537 k0_h4

def k0_chk538 (k0_t1 : Fin k0_t1_loop.trips) (v148 : IVec S16 32) (v167 : IVec S16 32) : Prop :=
  (∀ (k0_h4 : k0_cond4 k0_t1 = 1#1), ∀ a x, ((![v148, v167] : Fin 2 → IVec S16 32) a x).toNat < S512x16.size a)
theorem k0_idx538_inb : ∀ (k0_t1 : Fin k0_t1_loop.trips) (v148 : IVec S16 32) (v167 : IVec S16 32) (k0_hw538 : k0_chk538 k0_t1 v148 v167), ∀ (k0_h4 : k0_cond4 k0_t1 = 1#1), ∀ a x, ((![v148, v167] : Fin 2 → IVec S16 32) a x).toNat < S512x16.size a := fun k0_t1 v148 v167 k0_hw538 k0_h4 => k0_hw538 k0_h4

def k0_chk539 (k0_t1 : Fin k0_t1_loop.trips) (v148 : IVec S16 32) (v169 : IVec S16 32) : Prop :=
  (∀ (k0_h4 : k0_cond4 k0_t1 = 1#1), ∀ a x, ((![v148, v169] : Fin 2 → IVec S16 32) a x).toNat < S512x16.size a)
theorem k0_idx539_inb : ∀ (k0_t1 : Fin k0_t1_loop.trips) (v148 : IVec S16 32) (v169 : IVec S16 32) (k0_hw539 : k0_chk539 k0_t1 v148 v169), ∀ (k0_h4 : k0_cond4 k0_t1 = 1#1), ∀ a x, ((![v148, v169] : Fin 2 → IVec S16 32) a x).toNat < S512x16.size a := fun k0_t1 v148 v169 k0_hw539 k0_h4 => k0_hw539 k0_h4

def k0_chk540 (k0_t1 : Fin k0_t1_loop.trips) (v148 : IVec S16 32) (v171 : IVec S16 32) : Prop :=
  (∀ (k0_h4 : k0_cond4 k0_t1 = 1#1), ∀ a x, ((![v148, v171] : Fin 2 → IVec S16 32) a x).toNat < S512x16.size a)
theorem k0_idx540_inb : ∀ (k0_t1 : Fin k0_t1_loop.trips) (v148 : IVec S16 32) (v171 : IVec S16 32) (k0_hw540 : k0_chk540 k0_t1 v148 v171), ∀ (k0_h4 : k0_cond4 k0_t1 = 1#1), ∀ a x, ((![v148, v171] : Fin 2 → IVec S16 32) a x).toNat < S512x16.size a := fun k0_t1 v148 v171 k0_hw540 k0_h4 => k0_hw540 k0_h4

def k0_chk541 (k0_t1 : Fin k0_t1_loop.trips) (v148 : IVec S16 32) (v173 : IVec S16 32) : Prop :=
  (∀ (k0_h4 : k0_cond4 k0_t1 = 1#1), ∀ a x, ((![v148, v173] : Fin 2 → IVec S16 32) a x).toNat < S512x16.size a)
theorem k0_idx541_inb : ∀ (k0_t1 : Fin k0_t1_loop.trips) (v148 : IVec S16 32) (v173 : IVec S16 32) (k0_hw541 : k0_chk541 k0_t1 v148 v173), ∀ (k0_h4 : k0_cond4 k0_t1 = 1#1), ∀ a x, ((![v148, v173] : Fin 2 → IVec S16 32) a x).toNat < S512x16.size a := fun k0_t1 v148 v173 k0_hw541 k0_h4 => k0_hw541 k0_h4

def k0_chk542 (k0_t1 : Fin k0_t1_loop.trips) (v148 : IVec S16 32) (v175 : IVec S16 32) : Prop :=
  (∀ (k0_h4 : k0_cond4 k0_t1 = 1#1), ∀ a x, ((![v148, v175] : Fin 2 → IVec S16 32) a x).toNat < S512x16.size a)
theorem k0_idx542_inb : ∀ (k0_t1 : Fin k0_t1_loop.trips) (v148 : IVec S16 32) (v175 : IVec S16 32) (k0_hw542 : k0_chk542 k0_t1 v148 v175), ∀ (k0_h4 : k0_cond4 k0_t1 = 1#1), ∀ a x, ((![v148, v175] : Fin 2 → IVec S16 32) a x).toNat < S512x16.size a := fun k0_t1 v148 v175 k0_hw542 k0_h4 => k0_hw542 k0_h4

def k0_chk543 (k0_t1 : Fin k0_t1_loop.trips) (v148 : IVec S16 32) (v177 : IVec S16 32) : Prop :=
  (∀ (k0_h4 : k0_cond4 k0_t1 = 1#1), ∀ a x, ((![v148, v177] : Fin 2 → IVec S16 32) a x).toNat < S512x16.size a)
theorem k0_idx543_inb : ∀ (k0_t1 : Fin k0_t1_loop.trips) (v148 : IVec S16 32) (v177 : IVec S16 32) (k0_hw543 : k0_chk543 k0_t1 v148 v177), ∀ (k0_h4 : k0_cond4 k0_t1 = 1#1), ∀ a x, ((![v148, v177] : Fin 2 → IVec S16 32) a x).toNat < S512x16.size a := fun k0_t1 v148 v177 k0_hw543 k0_h4 => k0_hw543 k0_h4

def k0_chk544 (k0_t1 : Fin k0_t1_loop.trips) (v148 : IVec S16 32) (v179 : IVec S16 32) : Prop :=
  (∀ (k0_h4 : k0_cond4 k0_t1 = 1#1), ∀ a x, ((![v148, v179] : Fin 2 → IVec S16 32) a x).toNat < S512x16.size a)
theorem k0_idx544_inb : ∀ (k0_t1 : Fin k0_t1_loop.trips) (v148 : IVec S16 32) (v179 : IVec S16 32) (k0_hw544 : k0_chk544 k0_t1 v148 v179), ∀ (k0_h4 : k0_cond4 k0_t1 = 1#1), ∀ a x, ((![v148, v179] : Fin 2 → IVec S16 32) a x).toNat < S512x16.size a := fun k0_t1 v148 v179 k0_hw544 k0_h4 => k0_hw544 k0_h4

def k0_chk545 (k0_t1 : Fin k0_t1_loop.trips) (v247 : IVec S16 32) (v248 : IVec S16 32) : Prop :=
  (∀ (k0_h4 : k0_cond4 k0_t1 = 1#1), ∀ a x, ((![v247, v248] : Fin 2 → IVec S16 32) a x).toNat < S512x16.size a)
theorem k0_idx545_inb : ∀ (k0_t1 : Fin k0_t1_loop.trips) (v247 : IVec S16 32) (v248 : IVec S16 32) (k0_hw545 : k0_chk545 k0_t1 v247 v248), ∀ (k0_h4 : k0_cond4 k0_t1 = 1#1), ∀ a x, ((![v247, v248] : Fin 2 → IVec S16 32) a x).toNat < S512x16.size a := fun k0_t1 v247 v248 k0_hw545 k0_h4 => k0_hw545 k0_h4

def k0_chk546 (k0_t1 : Fin k0_t1_loop.trips) (v247 : IVec S16 32) (v250 : IVec S16 32) : Prop :=
  (∀ (k0_h4 : k0_cond4 k0_t1 = 1#1), ∀ a x, ((![v247, v250] : Fin 2 → IVec S16 32) a x).toNat < S512x16.size a)
theorem k0_idx546_inb : ∀ (k0_t1 : Fin k0_t1_loop.trips) (v247 : IVec S16 32) (v250 : IVec S16 32) (k0_hw546 : k0_chk546 k0_t1 v247 v250), ∀ (k0_h4 : k0_cond4 k0_t1 = 1#1), ∀ a x, ((![v247, v250] : Fin 2 → IVec S16 32) a x).toNat < S512x16.size a := fun k0_t1 v247 v250 k0_hw546 k0_h4 => k0_hw546 k0_h4

def k0_chk547 (k0_t1 : Fin k0_t1_loop.trips) (v247 : IVec S16 32) (v252 : IVec S16 32) : Prop :=
  (∀ (k0_h4 : k0_cond4 k0_t1 = 1#1), ∀ a x, ((![v247, v252] : Fin 2 → IVec S16 32) a x).toNat < S512x16.size a)
theorem k0_idx547_inb : ∀ (k0_t1 : Fin k0_t1_loop.trips) (v247 : IVec S16 32) (v252 : IVec S16 32) (k0_hw547 : k0_chk547 k0_t1 v247 v252), ∀ (k0_h4 : k0_cond4 k0_t1 = 1#1), ∀ a x, ((![v247, v252] : Fin 2 → IVec S16 32) a x).toNat < S512x16.size a := fun k0_t1 v247 v252 k0_hw547 k0_h4 => k0_hw547 k0_h4

def k0_chk548 (k0_t1 : Fin k0_t1_loop.trips) (v247 : IVec S16 32) (v254 : IVec S16 32) : Prop :=
  (∀ (k0_h4 : k0_cond4 k0_t1 = 1#1), ∀ a x, ((![v247, v254] : Fin 2 → IVec S16 32) a x).toNat < S512x16.size a)
theorem k0_idx548_inb : ∀ (k0_t1 : Fin k0_t1_loop.trips) (v247 : IVec S16 32) (v254 : IVec S16 32) (k0_hw548 : k0_chk548 k0_t1 v247 v254), ∀ (k0_h4 : k0_cond4 k0_t1 = 1#1), ∀ a x, ((![v247, v254] : Fin 2 → IVec S16 32) a x).toNat < S512x16.size a := fun k0_t1 v247 v254 k0_hw548 k0_h4 => k0_hw548 k0_h4

def k0_chk549 (k0_t1 : Fin k0_t1_loop.trips) (v247 : IVec S16 32) (v256 : IVec S16 32) : Prop :=
  (∀ (k0_h4 : k0_cond4 k0_t1 = 1#1), ∀ a x, ((![v247, v256] : Fin 2 → IVec S16 32) a x).toNat < S512x16.size a)
theorem k0_idx549_inb : ∀ (k0_t1 : Fin k0_t1_loop.trips) (v247 : IVec S16 32) (v256 : IVec S16 32) (k0_hw549 : k0_chk549 k0_t1 v247 v256), ∀ (k0_h4 : k0_cond4 k0_t1 = 1#1), ∀ a x, ((![v247, v256] : Fin 2 → IVec S16 32) a x).toNat < S512x16.size a := fun k0_t1 v247 v256 k0_hw549 k0_h4 => k0_hw549 k0_h4

def k0_chk550 (k0_t1 : Fin k0_t1_loop.trips) (v247 : IVec S16 32) (v258 : IVec S16 32) : Prop :=
  (∀ (k0_h4 : k0_cond4 k0_t1 = 1#1), ∀ a x, ((![v247, v258] : Fin 2 → IVec S16 32) a x).toNat < S512x16.size a)
theorem k0_idx550_inb : ∀ (k0_t1 : Fin k0_t1_loop.trips) (v247 : IVec S16 32) (v258 : IVec S16 32) (k0_hw550 : k0_chk550 k0_t1 v247 v258), ∀ (k0_h4 : k0_cond4 k0_t1 = 1#1), ∀ a x, ((![v247, v258] : Fin 2 → IVec S16 32) a x).toNat < S512x16.size a := fun k0_t1 v247 v258 k0_hw550 k0_h4 => k0_hw550 k0_h4

def k0_chk551 (k0_t1 : Fin k0_t1_loop.trips) (v247 : IVec S16 32) (v260 : IVec S16 32) : Prop :=
  (∀ (k0_h4 : k0_cond4 k0_t1 = 1#1), ∀ a x, ((![v247, v260] : Fin 2 → IVec S16 32) a x).toNat < S512x16.size a)
theorem k0_idx551_inb : ∀ (k0_t1 : Fin k0_t1_loop.trips) (v247 : IVec S16 32) (v260 : IVec S16 32) (k0_hw551 : k0_chk551 k0_t1 v247 v260), ∀ (k0_h4 : k0_cond4 k0_t1 = 1#1), ∀ a x, ((![v247, v260] : Fin 2 → IVec S16 32) a x).toNat < S512x16.size a := fun k0_t1 v247 v260 k0_hw551 k0_h4 => k0_hw551 k0_h4

def k0_chk552 (k0_t1 : Fin k0_t1_loop.trips) (v247 : IVec S16 32) (v262 : IVec S16 32) : Prop :=
  (∀ (k0_h4 : k0_cond4 k0_t1 = 1#1), ∀ a x, ((![v247, v262] : Fin 2 → IVec S16 32) a x).toNat < S512x16.size a)
theorem k0_idx552_inb : ∀ (k0_t1 : Fin k0_t1_loop.trips) (v247 : IVec S16 32) (v262 : IVec S16 32) (k0_hw552 : k0_chk552 k0_t1 v247 v262), ∀ (k0_h4 : k0_cond4 k0_t1 = 1#1), ∀ a x, ((![v247, v262] : Fin 2 → IVec S16 32) a x).toNat < S512x16.size a := fun k0_t1 v247 v262 k0_hw552 k0_h4 => k0_hw552 k0_h4

def k0_chk553 (k0_t1 : Fin k0_t1_loop.trips) (v247 : IVec S16 32) (v264 : IVec S16 32) : Prop :=
  (∀ (k0_h4 : k0_cond4 k0_t1 = 1#1), ∀ a x, ((![v247, v264] : Fin 2 → IVec S16 32) a x).toNat < S512x16.size a)
theorem k0_idx553_inb : ∀ (k0_t1 : Fin k0_t1_loop.trips) (v247 : IVec S16 32) (v264 : IVec S16 32) (k0_hw553 : k0_chk553 k0_t1 v247 v264), ∀ (k0_h4 : k0_cond4 k0_t1 = 1#1), ∀ a x, ((![v247, v264] : Fin 2 → IVec S16 32) a x).toNat < S512x16.size a := fun k0_t1 v247 v264 k0_hw553 k0_h4 => k0_hw553 k0_h4

def k0_chk554 (k0_t1 : Fin k0_t1_loop.trips) (v247 : IVec S16 32) (v266 : IVec S16 32) : Prop :=
  (∀ (k0_h4 : k0_cond4 k0_t1 = 1#1), ∀ a x, ((![v247, v266] : Fin 2 → IVec S16 32) a x).toNat < S512x16.size a)
theorem k0_idx554_inb : ∀ (k0_t1 : Fin k0_t1_loop.trips) (v247 : IVec S16 32) (v266 : IVec S16 32) (k0_hw554 : k0_chk554 k0_t1 v247 v266), ∀ (k0_h4 : k0_cond4 k0_t1 = 1#1), ∀ a x, ((![v247, v266] : Fin 2 → IVec S16 32) a x).toNat < S512x16.size a := fun k0_t1 v247 v266 k0_hw554 k0_h4 => k0_hw554 k0_h4

def k0_chk555 (k0_t1 : Fin k0_t1_loop.trips) (v247 : IVec S16 32) (v268 : IVec S16 32) : Prop :=
  (∀ (k0_h4 : k0_cond4 k0_t1 = 1#1), ∀ a x, ((![v247, v268] : Fin 2 → IVec S16 32) a x).toNat < S512x16.size a)
theorem k0_idx555_inb : ∀ (k0_t1 : Fin k0_t1_loop.trips) (v247 : IVec S16 32) (v268 : IVec S16 32) (k0_hw555 : k0_chk555 k0_t1 v247 v268), ∀ (k0_h4 : k0_cond4 k0_t1 = 1#1), ∀ a x, ((![v247, v268] : Fin 2 → IVec S16 32) a x).toNat < S512x16.size a := fun k0_t1 v247 v268 k0_hw555 k0_h4 => k0_hw555 k0_h4

def k0_chk556 (k0_t1 : Fin k0_t1_loop.trips) (v247 : IVec S16 32) (v270 : IVec S16 32) : Prop :=
  (∀ (k0_h4 : k0_cond4 k0_t1 = 1#1), ∀ a x, ((![v247, v270] : Fin 2 → IVec S16 32) a x).toNat < S512x16.size a)
theorem k0_idx556_inb : ∀ (k0_t1 : Fin k0_t1_loop.trips) (v247 : IVec S16 32) (v270 : IVec S16 32) (k0_hw556 : k0_chk556 k0_t1 v247 v270), ∀ (k0_h4 : k0_cond4 k0_t1 = 1#1), ∀ a x, ((![v247, v270] : Fin 2 → IVec S16 32) a x).toNat < S512x16.size a := fun k0_t1 v247 v270 k0_hw556 k0_h4 => k0_hw556 k0_h4

def k0_chk557 (k0_t1 : Fin k0_t1_loop.trips) (v247 : IVec S16 32) (v272 : IVec S16 32) : Prop :=
  (∀ (k0_h4 : k0_cond4 k0_t1 = 1#1), ∀ a x, ((![v247, v272] : Fin 2 → IVec S16 32) a x).toNat < S512x16.size a)
theorem k0_idx557_inb : ∀ (k0_t1 : Fin k0_t1_loop.trips) (v247 : IVec S16 32) (v272 : IVec S16 32) (k0_hw557 : k0_chk557 k0_t1 v247 v272), ∀ (k0_h4 : k0_cond4 k0_t1 = 1#1), ∀ a x, ((![v247, v272] : Fin 2 → IVec S16 32) a x).toNat < S512x16.size a := fun k0_t1 v247 v272 k0_hw557 k0_h4 => k0_hw557 k0_h4

def k0_chk558 (k0_t1 : Fin k0_t1_loop.trips) (v247 : IVec S16 32) (v274 : IVec S16 32) : Prop :=
  (∀ (k0_h4 : k0_cond4 k0_t1 = 1#1), ∀ a x, ((![v247, v274] : Fin 2 → IVec S16 32) a x).toNat < S512x16.size a)
theorem k0_idx558_inb : ∀ (k0_t1 : Fin k0_t1_loop.trips) (v247 : IVec S16 32) (v274 : IVec S16 32) (k0_hw558 : k0_chk558 k0_t1 v247 v274), ∀ (k0_h4 : k0_cond4 k0_t1 = 1#1), ∀ a x, ((![v247, v274] : Fin 2 → IVec S16 32) a x).toNat < S512x16.size a := fun k0_t1 v247 v274 k0_hw558 k0_h4 => k0_hw558 k0_h4

def k0_chk559 (k0_t1 : Fin k0_t1_loop.trips) (v247 : IVec S16 32) (v276 : IVec S16 32) : Prop :=
  (∀ (k0_h4 : k0_cond4 k0_t1 = 1#1), ∀ a x, ((![v247, v276] : Fin 2 → IVec S16 32) a x).toNat < S512x16.size a)
theorem k0_idx559_inb : ∀ (k0_t1 : Fin k0_t1_loop.trips) (v247 : IVec S16 32) (v276 : IVec S16 32) (k0_hw559 : k0_chk559 k0_t1 v247 v276), ∀ (k0_h4 : k0_cond4 k0_t1 = 1#1), ∀ a x, ((![v247, v276] : Fin 2 → IVec S16 32) a x).toNat < S512x16.size a := fun k0_t1 v247 v276 k0_hw559 k0_h4 => k0_hw559 k0_h4

def k0_chk560 (k0_t1 : Fin k0_t1_loop.trips) (v247 : IVec S16 32) (v278 : IVec S16 32) : Prop :=
  (∀ (k0_h4 : k0_cond4 k0_t1 = 1#1), ∀ a x, ((![v247, v278] : Fin 2 → IVec S16 32) a x).toNat < S512x16.size a)
theorem k0_idx560_inb : ∀ (k0_t1 : Fin k0_t1_loop.trips) (v247 : IVec S16 32) (v278 : IVec S16 32) (k0_hw560 : k0_chk560 k0_t1 v247 v278), ∀ (k0_h4 : k0_cond4 k0_t1 = 1#1), ∀ a x, ((![v247, v278] : Fin 2 → IVec S16 32) a x).toNat < S512x16.size a := fun k0_t1 v247 v278 k0_hw560 k0_h4 => k0_hw560 k0_h4

def k0_chk561 (k0_t1 : Fin k0_t1_loop.trips) (v346 : IVec S16 32) (v347 : IVec S16 32) : Prop :=
  (∀ (k0_h4 : k0_cond4 k0_t1 = 1#1), ∀ a x, ((![v346, v347] : Fin 2 → IVec S16 32) a x).toNat < S512x16.size a)
theorem k0_idx561_inb : ∀ (k0_t1 : Fin k0_t1_loop.trips) (v346 : IVec S16 32) (v347 : IVec S16 32) (k0_hw561 : k0_chk561 k0_t1 v346 v347), ∀ (k0_h4 : k0_cond4 k0_t1 = 1#1), ∀ a x, ((![v346, v347] : Fin 2 → IVec S16 32) a x).toNat < S512x16.size a := fun k0_t1 v346 v347 k0_hw561 k0_h4 => k0_hw561 k0_h4

def k0_chk562 (k0_t1 : Fin k0_t1_loop.trips) (v346 : IVec S16 32) (v349 : IVec S16 32) : Prop :=
  (∀ (k0_h4 : k0_cond4 k0_t1 = 1#1), ∀ a x, ((![v346, v349] : Fin 2 → IVec S16 32) a x).toNat < S512x16.size a)
theorem k0_idx562_inb : ∀ (k0_t1 : Fin k0_t1_loop.trips) (v346 : IVec S16 32) (v349 : IVec S16 32) (k0_hw562 : k0_chk562 k0_t1 v346 v349), ∀ (k0_h4 : k0_cond4 k0_t1 = 1#1), ∀ a x, ((![v346, v349] : Fin 2 → IVec S16 32) a x).toNat < S512x16.size a := fun k0_t1 v346 v349 k0_hw562 k0_h4 => k0_hw562 k0_h4

def k0_chk563 (k0_t1 : Fin k0_t1_loop.trips) (v346 : IVec S16 32) (v351 : IVec S16 32) : Prop :=
  (∀ (k0_h4 : k0_cond4 k0_t1 = 1#1), ∀ a x, ((![v346, v351] : Fin 2 → IVec S16 32) a x).toNat < S512x16.size a)
theorem k0_idx563_inb : ∀ (k0_t1 : Fin k0_t1_loop.trips) (v346 : IVec S16 32) (v351 : IVec S16 32) (k0_hw563 : k0_chk563 k0_t1 v346 v351), ∀ (k0_h4 : k0_cond4 k0_t1 = 1#1), ∀ a x, ((![v346, v351] : Fin 2 → IVec S16 32) a x).toNat < S512x16.size a := fun k0_t1 v346 v351 k0_hw563 k0_h4 => k0_hw563 k0_h4

def k0_chk564 (k0_t1 : Fin k0_t1_loop.trips) (v346 : IVec S16 32) (v353 : IVec S16 32) : Prop :=
  (∀ (k0_h4 : k0_cond4 k0_t1 = 1#1), ∀ a x, ((![v346, v353] : Fin 2 → IVec S16 32) a x).toNat < S512x16.size a)
theorem k0_idx564_inb : ∀ (k0_t1 : Fin k0_t1_loop.trips) (v346 : IVec S16 32) (v353 : IVec S16 32) (k0_hw564 : k0_chk564 k0_t1 v346 v353), ∀ (k0_h4 : k0_cond4 k0_t1 = 1#1), ∀ a x, ((![v346, v353] : Fin 2 → IVec S16 32) a x).toNat < S512x16.size a := fun k0_t1 v346 v353 k0_hw564 k0_h4 => k0_hw564 k0_h4

def k0_chk565 (k0_t1 : Fin k0_t1_loop.trips) (v346 : IVec S16 32) (v355 : IVec S16 32) : Prop :=
  (∀ (k0_h4 : k0_cond4 k0_t1 = 1#1), ∀ a x, ((![v346, v355] : Fin 2 → IVec S16 32) a x).toNat < S512x16.size a)
theorem k0_idx565_inb : ∀ (k0_t1 : Fin k0_t1_loop.trips) (v346 : IVec S16 32) (v355 : IVec S16 32) (k0_hw565 : k0_chk565 k0_t1 v346 v355), ∀ (k0_h4 : k0_cond4 k0_t1 = 1#1), ∀ a x, ((![v346, v355] : Fin 2 → IVec S16 32) a x).toNat < S512x16.size a := fun k0_t1 v346 v355 k0_hw565 k0_h4 => k0_hw565 k0_h4

def k0_chk566 (k0_t1 : Fin k0_t1_loop.trips) (v346 : IVec S16 32) (v357 : IVec S16 32) : Prop :=
  (∀ (k0_h4 : k0_cond4 k0_t1 = 1#1), ∀ a x, ((![v346, v357] : Fin 2 → IVec S16 32) a x).toNat < S512x16.size a)
theorem k0_idx566_inb : ∀ (k0_t1 : Fin k0_t1_loop.trips) (v346 : IVec S16 32) (v357 : IVec S16 32) (k0_hw566 : k0_chk566 k0_t1 v346 v357), ∀ (k0_h4 : k0_cond4 k0_t1 = 1#1), ∀ a x, ((![v346, v357] : Fin 2 → IVec S16 32) a x).toNat < S512x16.size a := fun k0_t1 v346 v357 k0_hw566 k0_h4 => k0_hw566 k0_h4

def k0_chk567 (k0_t1 : Fin k0_t1_loop.trips) (v346 : IVec S16 32) (v359 : IVec S16 32) : Prop :=
  (∀ (k0_h4 : k0_cond4 k0_t1 = 1#1), ∀ a x, ((![v346, v359] : Fin 2 → IVec S16 32) a x).toNat < S512x16.size a)
theorem k0_idx567_inb : ∀ (k0_t1 : Fin k0_t1_loop.trips) (v346 : IVec S16 32) (v359 : IVec S16 32) (k0_hw567 : k0_chk567 k0_t1 v346 v359), ∀ (k0_h4 : k0_cond4 k0_t1 = 1#1), ∀ a x, ((![v346, v359] : Fin 2 → IVec S16 32) a x).toNat < S512x16.size a := fun k0_t1 v346 v359 k0_hw567 k0_h4 => k0_hw567 k0_h4

def k0_chk568 (k0_t1 : Fin k0_t1_loop.trips) (v346 : IVec S16 32) (v361 : IVec S16 32) : Prop :=
  (∀ (k0_h4 : k0_cond4 k0_t1 = 1#1), ∀ a x, ((![v346, v361] : Fin 2 → IVec S16 32) a x).toNat < S512x16.size a)
theorem k0_idx568_inb : ∀ (k0_t1 : Fin k0_t1_loop.trips) (v346 : IVec S16 32) (v361 : IVec S16 32) (k0_hw568 : k0_chk568 k0_t1 v346 v361), ∀ (k0_h4 : k0_cond4 k0_t1 = 1#1), ∀ a x, ((![v346, v361] : Fin 2 → IVec S16 32) a x).toNat < S512x16.size a := fun k0_t1 v346 v361 k0_hw568 k0_h4 => k0_hw568 k0_h4

def k0_chk569 (k0_t1 : Fin k0_t1_loop.trips) (v346 : IVec S16 32) (v363 : IVec S16 32) : Prop :=
  (∀ (k0_h4 : k0_cond4 k0_t1 = 1#1), ∀ a x, ((![v346, v363] : Fin 2 → IVec S16 32) a x).toNat < S512x16.size a)
theorem k0_idx569_inb : ∀ (k0_t1 : Fin k0_t1_loop.trips) (v346 : IVec S16 32) (v363 : IVec S16 32) (k0_hw569 : k0_chk569 k0_t1 v346 v363), ∀ (k0_h4 : k0_cond4 k0_t1 = 1#1), ∀ a x, ((![v346, v363] : Fin 2 → IVec S16 32) a x).toNat < S512x16.size a := fun k0_t1 v346 v363 k0_hw569 k0_h4 => k0_hw569 k0_h4

def k0_chk570 (k0_t1 : Fin k0_t1_loop.trips) (v346 : IVec S16 32) (v365 : IVec S16 32) : Prop :=
  (∀ (k0_h4 : k0_cond4 k0_t1 = 1#1), ∀ a x, ((![v346, v365] : Fin 2 → IVec S16 32) a x).toNat < S512x16.size a)
theorem k0_idx570_inb : ∀ (k0_t1 : Fin k0_t1_loop.trips) (v346 : IVec S16 32) (v365 : IVec S16 32) (k0_hw570 : k0_chk570 k0_t1 v346 v365), ∀ (k0_h4 : k0_cond4 k0_t1 = 1#1), ∀ a x, ((![v346, v365] : Fin 2 → IVec S16 32) a x).toNat < S512x16.size a := fun k0_t1 v346 v365 k0_hw570 k0_h4 => k0_hw570 k0_h4

def k0_chk571 (k0_t1 : Fin k0_t1_loop.trips) (v346 : IVec S16 32) (v367 : IVec S16 32) : Prop :=
  (∀ (k0_h4 : k0_cond4 k0_t1 = 1#1), ∀ a x, ((![v346, v367] : Fin 2 → IVec S16 32) a x).toNat < S512x16.size a)
theorem k0_idx571_inb : ∀ (k0_t1 : Fin k0_t1_loop.trips) (v346 : IVec S16 32) (v367 : IVec S16 32) (k0_hw571 : k0_chk571 k0_t1 v346 v367), ∀ (k0_h4 : k0_cond4 k0_t1 = 1#1), ∀ a x, ((![v346, v367] : Fin 2 → IVec S16 32) a x).toNat < S512x16.size a := fun k0_t1 v346 v367 k0_hw571 k0_h4 => k0_hw571 k0_h4

def k0_chk572 (k0_t1 : Fin k0_t1_loop.trips) (v346 : IVec S16 32) (v369 : IVec S16 32) : Prop :=
  (∀ (k0_h4 : k0_cond4 k0_t1 = 1#1), ∀ a x, ((![v346, v369] : Fin 2 → IVec S16 32) a x).toNat < S512x16.size a)
theorem k0_idx572_inb : ∀ (k0_t1 : Fin k0_t1_loop.trips) (v346 : IVec S16 32) (v369 : IVec S16 32) (k0_hw572 : k0_chk572 k0_t1 v346 v369), ∀ (k0_h4 : k0_cond4 k0_t1 = 1#1), ∀ a x, ((![v346, v369] : Fin 2 → IVec S16 32) a x).toNat < S512x16.size a := fun k0_t1 v346 v369 k0_hw572 k0_h4 => k0_hw572 k0_h4

def k0_chk573 (k0_t1 : Fin k0_t1_loop.trips) (v346 : IVec S16 32) (v371 : IVec S16 32) : Prop :=
  (∀ (k0_h4 : k0_cond4 k0_t1 = 1#1), ∀ a x, ((![v346, v371] : Fin 2 → IVec S16 32) a x).toNat < S512x16.size a)
theorem k0_idx573_inb : ∀ (k0_t1 : Fin k0_t1_loop.trips) (v346 : IVec S16 32) (v371 : IVec S16 32) (k0_hw573 : k0_chk573 k0_t1 v346 v371), ∀ (k0_h4 : k0_cond4 k0_t1 = 1#1), ∀ a x, ((![v346, v371] : Fin 2 → IVec S16 32) a x).toNat < S512x16.size a := fun k0_t1 v346 v371 k0_hw573 k0_h4 => k0_hw573 k0_h4

def k0_chk574 (k0_t1 : Fin k0_t1_loop.trips) (v346 : IVec S16 32) (v373 : IVec S16 32) : Prop :=
  (∀ (k0_h4 : k0_cond4 k0_t1 = 1#1), ∀ a x, ((![v346, v373] : Fin 2 → IVec S16 32) a x).toNat < S512x16.size a)
theorem k0_idx574_inb : ∀ (k0_t1 : Fin k0_t1_loop.trips) (v346 : IVec S16 32) (v373 : IVec S16 32) (k0_hw574 : k0_chk574 k0_t1 v346 v373), ∀ (k0_h4 : k0_cond4 k0_t1 = 1#1), ∀ a x, ((![v346, v373] : Fin 2 → IVec S16 32) a x).toNat < S512x16.size a := fun k0_t1 v346 v373 k0_hw574 k0_h4 => k0_hw574 k0_h4

def k0_chk575 (k0_t1 : Fin k0_t1_loop.trips) (v346 : IVec S16 32) (v375 : IVec S16 32) : Prop :=
  (∀ (k0_h4 : k0_cond4 k0_t1 = 1#1), ∀ a x, ((![v346, v375] : Fin 2 → IVec S16 32) a x).toNat < S512x16.size a)
theorem k0_idx575_inb : ∀ (k0_t1 : Fin k0_t1_loop.trips) (v346 : IVec S16 32) (v375 : IVec S16 32) (k0_hw575 : k0_chk575 k0_t1 v346 v375), ∀ (k0_h4 : k0_cond4 k0_t1 = 1#1), ∀ a x, ((![v346, v375] : Fin 2 → IVec S16 32) a x).toNat < S512x16.size a := fun k0_t1 v346 v375 k0_hw575 k0_h4 => k0_hw575 k0_h4

def k0_chk576 (k0_t1 : Fin k0_t1_loop.trips) (v346 : IVec S16 32) (v377 : IVec S16 32) : Prop :=
  (∀ (k0_h4 : k0_cond4 k0_t1 = 1#1), ∀ a x, ((![v346, v377] : Fin 2 → IVec S16 32) a x).toNat < S512x16.size a)
theorem k0_idx576_inb : ∀ (k0_t1 : Fin k0_t1_loop.trips) (v346 : IVec S16 32) (v377 : IVec S16 32) (k0_hw576 : k0_chk576 k0_t1 v346 v377), ∀ (k0_h4 : k0_cond4 k0_t1 = 1#1), ∀ a x, ((![v346, v377] : Fin 2 → IVec S16 32) a x).toNat < S512x16.size a := fun k0_t1 v346 v377 k0_hw576 k0_h4 => k0_hw576 k0_h4

def k0_chk577 (k0_t1 : Fin k0_t1_loop.trips) (v445 : IVec S16 32) (v446 : IVec S16 32) : Prop :=
  (∀ (k0_h4 : k0_cond4 k0_t1 = 1#1), ∀ a x, ((![v445, v446] : Fin 2 → IVec S16 32) a x).toNat < S512x16.size a)
theorem k0_idx577_inb : ∀ (k0_t1 : Fin k0_t1_loop.trips) (v445 : IVec S16 32) (v446 : IVec S16 32) (k0_hw577 : k0_chk577 k0_t1 v445 v446), ∀ (k0_h4 : k0_cond4 k0_t1 = 1#1), ∀ a x, ((![v445, v446] : Fin 2 → IVec S16 32) a x).toNat < S512x16.size a := fun k0_t1 v445 v446 k0_hw577 k0_h4 => k0_hw577 k0_h4

def k0_chk578 (k0_t1 : Fin k0_t1_loop.trips) (v445 : IVec S16 32) (v448 : IVec S16 32) : Prop :=
  (∀ (k0_h4 : k0_cond4 k0_t1 = 1#1), ∀ a x, ((![v445, v448] : Fin 2 → IVec S16 32) a x).toNat < S512x16.size a)
theorem k0_idx578_inb : ∀ (k0_t1 : Fin k0_t1_loop.trips) (v445 : IVec S16 32) (v448 : IVec S16 32) (k0_hw578 : k0_chk578 k0_t1 v445 v448), ∀ (k0_h4 : k0_cond4 k0_t1 = 1#1), ∀ a x, ((![v445, v448] : Fin 2 → IVec S16 32) a x).toNat < S512x16.size a := fun k0_t1 v445 v448 k0_hw578 k0_h4 => k0_hw578 k0_h4

def k0_chk579 (k0_t1 : Fin k0_t1_loop.trips) (v445 : IVec S16 32) (v450 : IVec S16 32) : Prop :=
  (∀ (k0_h4 : k0_cond4 k0_t1 = 1#1), ∀ a x, ((![v445, v450] : Fin 2 → IVec S16 32) a x).toNat < S512x16.size a)
theorem k0_idx579_inb : ∀ (k0_t1 : Fin k0_t1_loop.trips) (v445 : IVec S16 32) (v450 : IVec S16 32) (k0_hw579 : k0_chk579 k0_t1 v445 v450), ∀ (k0_h4 : k0_cond4 k0_t1 = 1#1), ∀ a x, ((![v445, v450] : Fin 2 → IVec S16 32) a x).toNat < S512x16.size a := fun k0_t1 v445 v450 k0_hw579 k0_h4 => k0_hw579 k0_h4

def k0_chk580 (k0_t1 : Fin k0_t1_loop.trips) (v445 : IVec S16 32) (v452 : IVec S16 32) : Prop :=
  (∀ (k0_h4 : k0_cond4 k0_t1 = 1#1), ∀ a x, ((![v445, v452] : Fin 2 → IVec S16 32) a x).toNat < S512x16.size a)
theorem k0_idx580_inb : ∀ (k0_t1 : Fin k0_t1_loop.trips) (v445 : IVec S16 32) (v452 : IVec S16 32) (k0_hw580 : k0_chk580 k0_t1 v445 v452), ∀ (k0_h4 : k0_cond4 k0_t1 = 1#1), ∀ a x, ((![v445, v452] : Fin 2 → IVec S16 32) a x).toNat < S512x16.size a := fun k0_t1 v445 v452 k0_hw580 k0_h4 => k0_hw580 k0_h4

def k0_chk581 (k0_t1 : Fin k0_t1_loop.trips) (v445 : IVec S16 32) (v454 : IVec S16 32) : Prop :=
  (∀ (k0_h4 : k0_cond4 k0_t1 = 1#1), ∀ a x, ((![v445, v454] : Fin 2 → IVec S16 32) a x).toNat < S512x16.size a)
theorem k0_idx581_inb : ∀ (k0_t1 : Fin k0_t1_loop.trips) (v445 : IVec S16 32) (v454 : IVec S16 32) (k0_hw581 : k0_chk581 k0_t1 v445 v454), ∀ (k0_h4 : k0_cond4 k0_t1 = 1#1), ∀ a x, ((![v445, v454] : Fin 2 → IVec S16 32) a x).toNat < S512x16.size a := fun k0_t1 v445 v454 k0_hw581 k0_h4 => k0_hw581 k0_h4

def k0_chk582 (k0_t1 : Fin k0_t1_loop.trips) (v445 : IVec S16 32) (v456 : IVec S16 32) : Prop :=
  (∀ (k0_h4 : k0_cond4 k0_t1 = 1#1), ∀ a x, ((![v445, v456] : Fin 2 → IVec S16 32) a x).toNat < S512x16.size a)
theorem k0_idx582_inb : ∀ (k0_t1 : Fin k0_t1_loop.trips) (v445 : IVec S16 32) (v456 : IVec S16 32) (k0_hw582 : k0_chk582 k0_t1 v445 v456), ∀ (k0_h4 : k0_cond4 k0_t1 = 1#1), ∀ a x, ((![v445, v456] : Fin 2 → IVec S16 32) a x).toNat < S512x16.size a := fun k0_t1 v445 v456 k0_hw582 k0_h4 => k0_hw582 k0_h4

def k0_chk583 (k0_t1 : Fin k0_t1_loop.trips) (v445 : IVec S16 32) (v458 : IVec S16 32) : Prop :=
  (∀ (k0_h4 : k0_cond4 k0_t1 = 1#1), ∀ a x, ((![v445, v458] : Fin 2 → IVec S16 32) a x).toNat < S512x16.size a)
theorem k0_idx583_inb : ∀ (k0_t1 : Fin k0_t1_loop.trips) (v445 : IVec S16 32) (v458 : IVec S16 32) (k0_hw583 : k0_chk583 k0_t1 v445 v458), ∀ (k0_h4 : k0_cond4 k0_t1 = 1#1), ∀ a x, ((![v445, v458] : Fin 2 → IVec S16 32) a x).toNat < S512x16.size a := fun k0_t1 v445 v458 k0_hw583 k0_h4 => k0_hw583 k0_h4

def k0_chk584 (k0_t1 : Fin k0_t1_loop.trips) (v445 : IVec S16 32) (v460 : IVec S16 32) : Prop :=
  (∀ (k0_h4 : k0_cond4 k0_t1 = 1#1), ∀ a x, ((![v445, v460] : Fin 2 → IVec S16 32) a x).toNat < S512x16.size a)
theorem k0_idx584_inb : ∀ (k0_t1 : Fin k0_t1_loop.trips) (v445 : IVec S16 32) (v460 : IVec S16 32) (k0_hw584 : k0_chk584 k0_t1 v445 v460), ∀ (k0_h4 : k0_cond4 k0_t1 = 1#1), ∀ a x, ((![v445, v460] : Fin 2 → IVec S16 32) a x).toNat < S512x16.size a := fun k0_t1 v445 v460 k0_hw584 k0_h4 => k0_hw584 k0_h4

def k0_chk585 (k0_t1 : Fin k0_t1_loop.trips) (v445 : IVec S16 32) (v462 : IVec S16 32) : Prop :=
  (∀ (k0_h4 : k0_cond4 k0_t1 = 1#1), ∀ a x, ((![v445, v462] : Fin 2 → IVec S16 32) a x).toNat < S512x16.size a)
theorem k0_idx585_inb : ∀ (k0_t1 : Fin k0_t1_loop.trips) (v445 : IVec S16 32) (v462 : IVec S16 32) (k0_hw585 : k0_chk585 k0_t1 v445 v462), ∀ (k0_h4 : k0_cond4 k0_t1 = 1#1), ∀ a x, ((![v445, v462] : Fin 2 → IVec S16 32) a x).toNat < S512x16.size a := fun k0_t1 v445 v462 k0_hw585 k0_h4 => k0_hw585 k0_h4

def k0_chk586 (k0_t1 : Fin k0_t1_loop.trips) (v445 : IVec S16 32) (v464 : IVec S16 32) : Prop :=
  (∀ (k0_h4 : k0_cond4 k0_t1 = 1#1), ∀ a x, ((![v445, v464] : Fin 2 → IVec S16 32) a x).toNat < S512x16.size a)
theorem k0_idx586_inb : ∀ (k0_t1 : Fin k0_t1_loop.trips) (v445 : IVec S16 32) (v464 : IVec S16 32) (k0_hw586 : k0_chk586 k0_t1 v445 v464), ∀ (k0_h4 : k0_cond4 k0_t1 = 1#1), ∀ a x, ((![v445, v464] : Fin 2 → IVec S16 32) a x).toNat < S512x16.size a := fun k0_t1 v445 v464 k0_hw586 k0_h4 => k0_hw586 k0_h4

def k0_chk587 (k0_t1 : Fin k0_t1_loop.trips) (v445 : IVec S16 32) (v466 : IVec S16 32) : Prop :=
  (∀ (k0_h4 : k0_cond4 k0_t1 = 1#1), ∀ a x, ((![v445, v466] : Fin 2 → IVec S16 32) a x).toNat < S512x16.size a)
theorem k0_idx587_inb : ∀ (k0_t1 : Fin k0_t1_loop.trips) (v445 : IVec S16 32) (v466 : IVec S16 32) (k0_hw587 : k0_chk587 k0_t1 v445 v466), ∀ (k0_h4 : k0_cond4 k0_t1 = 1#1), ∀ a x, ((![v445, v466] : Fin 2 → IVec S16 32) a x).toNat < S512x16.size a := fun k0_t1 v445 v466 k0_hw587 k0_h4 => k0_hw587 k0_h4

def k0_chk588 (k0_t1 : Fin k0_t1_loop.trips) (v445 : IVec S16 32) (v468 : IVec S16 32) : Prop :=
  (∀ (k0_h4 : k0_cond4 k0_t1 = 1#1), ∀ a x, ((![v445, v468] : Fin 2 → IVec S16 32) a x).toNat < S512x16.size a)
theorem k0_idx588_inb : ∀ (k0_t1 : Fin k0_t1_loop.trips) (v445 : IVec S16 32) (v468 : IVec S16 32) (k0_hw588 : k0_chk588 k0_t1 v445 v468), ∀ (k0_h4 : k0_cond4 k0_t1 = 1#1), ∀ a x, ((![v445, v468] : Fin 2 → IVec S16 32) a x).toNat < S512x16.size a := fun k0_t1 v445 v468 k0_hw588 k0_h4 => k0_hw588 k0_h4

def k0_chk589 (k0_t1 : Fin k0_t1_loop.trips) (v445 : IVec S16 32) (v470 : IVec S16 32) : Prop :=
  (∀ (k0_h4 : k0_cond4 k0_t1 = 1#1), ∀ a x, ((![v445, v470] : Fin 2 → IVec S16 32) a x).toNat < S512x16.size a)
theorem k0_idx589_inb : ∀ (k0_t1 : Fin k0_t1_loop.trips) (v445 : IVec S16 32) (v470 : IVec S16 32) (k0_hw589 : k0_chk589 k0_t1 v445 v470), ∀ (k0_h4 : k0_cond4 k0_t1 = 1#1), ∀ a x, ((![v445, v470] : Fin 2 → IVec S16 32) a x).toNat < S512x16.size a := fun k0_t1 v445 v470 k0_hw589 k0_h4 => k0_hw589 k0_h4

def k0_chk590 (k0_t1 : Fin k0_t1_loop.trips) (v445 : IVec S16 32) (v472 : IVec S16 32) : Prop :=
  (∀ (k0_h4 : k0_cond4 k0_t1 = 1#1), ∀ a x, ((![v445, v472] : Fin 2 → IVec S16 32) a x).toNat < S512x16.size a)
theorem k0_idx590_inb : ∀ (k0_t1 : Fin k0_t1_loop.trips) (v445 : IVec S16 32) (v472 : IVec S16 32) (k0_hw590 : k0_chk590 k0_t1 v445 v472), ∀ (k0_h4 : k0_cond4 k0_t1 = 1#1), ∀ a x, ((![v445, v472] : Fin 2 → IVec S16 32) a x).toNat < S512x16.size a := fun k0_t1 v445 v472 k0_hw590 k0_h4 => k0_hw590 k0_h4

def k0_chk591 (k0_t1 : Fin k0_t1_loop.trips) (v445 : IVec S16 32) (v474 : IVec S16 32) : Prop :=
  (∀ (k0_h4 : k0_cond4 k0_t1 = 1#1), ∀ a x, ((![v445, v474] : Fin 2 → IVec S16 32) a x).toNat < S512x16.size a)
theorem k0_idx591_inb : ∀ (k0_t1 : Fin k0_t1_loop.trips) (v445 : IVec S16 32) (v474 : IVec S16 32) (k0_hw591 : k0_chk591 k0_t1 v445 v474), ∀ (k0_h4 : k0_cond4 k0_t1 = 1#1), ∀ a x, ((![v445, v474] : Fin 2 → IVec S16 32) a x).toNat < S512x16.size a := fun k0_t1 v445 v474 k0_hw591 k0_h4 => k0_hw591 k0_h4

def k0_chk592 (k0_t1 : Fin k0_t1_loop.trips) (v445 : IVec S16 32) (v476 : IVec S16 32) : Prop :=
  (∀ (k0_h4 : k0_cond4 k0_t1 = 1#1), ∀ a x, ((![v445, v476] : Fin 2 → IVec S16 32) a x).toNat < S512x16.size a)
theorem k0_idx592_inb : ∀ (k0_t1 : Fin k0_t1_loop.trips) (v445 : IVec S16 32) (v476 : IVec S16 32) (k0_hw592 : k0_chk592 k0_t1 v445 v476), ∀ (k0_h4 : k0_cond4 k0_t1 = 1#1), ∀ a x, ((![v445, v476] : Fin 2 → IVec S16 32) a x).toNat < S512x16.size a := fun k0_t1 v445 v476 k0_hw592 k0_h4 => k0_hw592 k0_h4

def k0_chk593 (k0_t1 : Fin k0_t1_loop.trips) (v544 : IVec S16 32) (v545 : IVec S16 32) : Prop :=
  (∀ (k0_h4 : k0_cond4 k0_t1 = 1#1), ∀ a x, ((![v544, v545] : Fin 2 → IVec S16 32) a x).toNat < S512x16.size a)
theorem k0_idx593_inb : ∀ (k0_t1 : Fin k0_t1_loop.trips) (v544 : IVec S16 32) (v545 : IVec S16 32) (k0_hw593 : k0_chk593 k0_t1 v544 v545), ∀ (k0_h4 : k0_cond4 k0_t1 = 1#1), ∀ a x, ((![v544, v545] : Fin 2 → IVec S16 32) a x).toNat < S512x16.size a := fun k0_t1 v544 v545 k0_hw593 k0_h4 => k0_hw593 k0_h4

def k0_chk594 (k0_t1 : Fin k0_t1_loop.trips) (v544 : IVec S16 32) (v547 : IVec S16 32) : Prop :=
  (∀ (k0_h4 : k0_cond4 k0_t1 = 1#1), ∀ a x, ((![v544, v547] : Fin 2 → IVec S16 32) a x).toNat < S512x16.size a)
theorem k0_idx594_inb : ∀ (k0_t1 : Fin k0_t1_loop.trips) (v544 : IVec S16 32) (v547 : IVec S16 32) (k0_hw594 : k0_chk594 k0_t1 v544 v547), ∀ (k0_h4 : k0_cond4 k0_t1 = 1#1), ∀ a x, ((![v544, v547] : Fin 2 → IVec S16 32) a x).toNat < S512x16.size a := fun k0_t1 v544 v547 k0_hw594 k0_h4 => k0_hw594 k0_h4

def k0_chk595 (k0_t1 : Fin k0_t1_loop.trips) (v544 : IVec S16 32) (v549 : IVec S16 32) : Prop :=
  (∀ (k0_h4 : k0_cond4 k0_t1 = 1#1), ∀ a x, ((![v544, v549] : Fin 2 → IVec S16 32) a x).toNat < S512x16.size a)
theorem k0_idx595_inb : ∀ (k0_t1 : Fin k0_t1_loop.trips) (v544 : IVec S16 32) (v549 : IVec S16 32) (k0_hw595 : k0_chk595 k0_t1 v544 v549), ∀ (k0_h4 : k0_cond4 k0_t1 = 1#1), ∀ a x, ((![v544, v549] : Fin 2 → IVec S16 32) a x).toNat < S512x16.size a := fun k0_t1 v544 v549 k0_hw595 k0_h4 => k0_hw595 k0_h4

def k0_chk596 (k0_t1 : Fin k0_t1_loop.trips) (v544 : IVec S16 32) (v551 : IVec S16 32) : Prop :=
  (∀ (k0_h4 : k0_cond4 k0_t1 = 1#1), ∀ a x, ((![v544, v551] : Fin 2 → IVec S16 32) a x).toNat < S512x16.size a)
theorem k0_idx596_inb : ∀ (k0_t1 : Fin k0_t1_loop.trips) (v544 : IVec S16 32) (v551 : IVec S16 32) (k0_hw596 : k0_chk596 k0_t1 v544 v551), ∀ (k0_h4 : k0_cond4 k0_t1 = 1#1), ∀ a x, ((![v544, v551] : Fin 2 → IVec S16 32) a x).toNat < S512x16.size a := fun k0_t1 v544 v551 k0_hw596 k0_h4 => k0_hw596 k0_h4

def k0_chk597 (k0_t1 : Fin k0_t1_loop.trips) (v544 : IVec S16 32) (v553 : IVec S16 32) : Prop :=
  (∀ (k0_h4 : k0_cond4 k0_t1 = 1#1), ∀ a x, ((![v544, v553] : Fin 2 → IVec S16 32) a x).toNat < S512x16.size a)
theorem k0_idx597_inb : ∀ (k0_t1 : Fin k0_t1_loop.trips) (v544 : IVec S16 32) (v553 : IVec S16 32) (k0_hw597 : k0_chk597 k0_t1 v544 v553), ∀ (k0_h4 : k0_cond4 k0_t1 = 1#1), ∀ a x, ((![v544, v553] : Fin 2 → IVec S16 32) a x).toNat < S512x16.size a := fun k0_t1 v544 v553 k0_hw597 k0_h4 => k0_hw597 k0_h4

def k0_chk598 (k0_t1 : Fin k0_t1_loop.trips) (v544 : IVec S16 32) (v555 : IVec S16 32) : Prop :=
  (∀ (k0_h4 : k0_cond4 k0_t1 = 1#1), ∀ a x, ((![v544, v555] : Fin 2 → IVec S16 32) a x).toNat < S512x16.size a)
theorem k0_idx598_inb : ∀ (k0_t1 : Fin k0_t1_loop.trips) (v544 : IVec S16 32) (v555 : IVec S16 32) (k0_hw598 : k0_chk598 k0_t1 v544 v555), ∀ (k0_h4 : k0_cond4 k0_t1 = 1#1), ∀ a x, ((![v544, v555] : Fin 2 → IVec S16 32) a x).toNat < S512x16.size a := fun k0_t1 v544 v555 k0_hw598 k0_h4 => k0_hw598 k0_h4

def k0_chk599 (k0_t1 : Fin k0_t1_loop.trips) (v544 : IVec S16 32) (v557 : IVec S16 32) : Prop :=
  (∀ (k0_h4 : k0_cond4 k0_t1 = 1#1), ∀ a x, ((![v544, v557] : Fin 2 → IVec S16 32) a x).toNat < S512x16.size a)
theorem k0_idx599_inb : ∀ (k0_t1 : Fin k0_t1_loop.trips) (v544 : IVec S16 32) (v557 : IVec S16 32) (k0_hw599 : k0_chk599 k0_t1 v544 v557), ∀ (k0_h4 : k0_cond4 k0_t1 = 1#1), ∀ a x, ((![v544, v557] : Fin 2 → IVec S16 32) a x).toNat < S512x16.size a := fun k0_t1 v544 v557 k0_hw599 k0_h4 => k0_hw599 k0_h4

def k0_chk600 (k0_t1 : Fin k0_t1_loop.trips) (v544 : IVec S16 32) (v559 : IVec S16 32) : Prop :=
  (∀ (k0_h4 : k0_cond4 k0_t1 = 1#1), ∀ a x, ((![v544, v559] : Fin 2 → IVec S16 32) a x).toNat < S512x16.size a)
theorem k0_idx600_inb : ∀ (k0_t1 : Fin k0_t1_loop.trips) (v544 : IVec S16 32) (v559 : IVec S16 32) (k0_hw600 : k0_chk600 k0_t1 v544 v559), ∀ (k0_h4 : k0_cond4 k0_t1 = 1#1), ∀ a x, ((![v544, v559] : Fin 2 → IVec S16 32) a x).toNat < S512x16.size a := fun k0_t1 v544 v559 k0_hw600 k0_h4 => k0_hw600 k0_h4

def k0_chk601 (k0_t1 : Fin k0_t1_loop.trips) (v544 : IVec S16 32) (v561 : IVec S16 32) : Prop :=
  (∀ (k0_h4 : k0_cond4 k0_t1 = 1#1), ∀ a x, ((![v544, v561] : Fin 2 → IVec S16 32) a x).toNat < S512x16.size a)
theorem k0_idx601_inb : ∀ (k0_t1 : Fin k0_t1_loop.trips) (v544 : IVec S16 32) (v561 : IVec S16 32) (k0_hw601 : k0_chk601 k0_t1 v544 v561), ∀ (k0_h4 : k0_cond4 k0_t1 = 1#1), ∀ a x, ((![v544, v561] : Fin 2 → IVec S16 32) a x).toNat < S512x16.size a := fun k0_t1 v544 v561 k0_hw601 k0_h4 => k0_hw601 k0_h4

def k0_chk602 (k0_t1 : Fin k0_t1_loop.trips) (v544 : IVec S16 32) (v563 : IVec S16 32) : Prop :=
  (∀ (k0_h4 : k0_cond4 k0_t1 = 1#1), ∀ a x, ((![v544, v563] : Fin 2 → IVec S16 32) a x).toNat < S512x16.size a)
theorem k0_idx602_inb : ∀ (k0_t1 : Fin k0_t1_loop.trips) (v544 : IVec S16 32) (v563 : IVec S16 32) (k0_hw602 : k0_chk602 k0_t1 v544 v563), ∀ (k0_h4 : k0_cond4 k0_t1 = 1#1), ∀ a x, ((![v544, v563] : Fin 2 → IVec S16 32) a x).toNat < S512x16.size a := fun k0_t1 v544 v563 k0_hw602 k0_h4 => k0_hw602 k0_h4

def k0_chk603 (k0_t1 : Fin k0_t1_loop.trips) (v544 : IVec S16 32) (v565 : IVec S16 32) : Prop :=
  (∀ (k0_h4 : k0_cond4 k0_t1 = 1#1), ∀ a x, ((![v544, v565] : Fin 2 → IVec S16 32) a x).toNat < S512x16.size a)
theorem k0_idx603_inb : ∀ (k0_t1 : Fin k0_t1_loop.trips) (v544 : IVec S16 32) (v565 : IVec S16 32) (k0_hw603 : k0_chk603 k0_t1 v544 v565), ∀ (k0_h4 : k0_cond4 k0_t1 = 1#1), ∀ a x, ((![v544, v565] : Fin 2 → IVec S16 32) a x).toNat < S512x16.size a := fun k0_t1 v544 v565 k0_hw603 k0_h4 => k0_hw603 k0_h4

def k0_chk604 (k0_t1 : Fin k0_t1_loop.trips) (v544 : IVec S16 32) (v567 : IVec S16 32) : Prop :=
  (∀ (k0_h4 : k0_cond4 k0_t1 = 1#1), ∀ a x, ((![v544, v567] : Fin 2 → IVec S16 32) a x).toNat < S512x16.size a)
theorem k0_idx604_inb : ∀ (k0_t1 : Fin k0_t1_loop.trips) (v544 : IVec S16 32) (v567 : IVec S16 32) (k0_hw604 : k0_chk604 k0_t1 v544 v567), ∀ (k0_h4 : k0_cond4 k0_t1 = 1#1), ∀ a x, ((![v544, v567] : Fin 2 → IVec S16 32) a x).toNat < S512x16.size a := fun k0_t1 v544 v567 k0_hw604 k0_h4 => k0_hw604 k0_h4

def k0_chk605 (k0_t1 : Fin k0_t1_loop.trips) (v544 : IVec S16 32) (v569 : IVec S16 32) : Prop :=
  (∀ (k0_h4 : k0_cond4 k0_t1 = 1#1), ∀ a x, ((![v544, v569] : Fin 2 → IVec S16 32) a x).toNat < S512x16.size a)
theorem k0_idx605_inb : ∀ (k0_t1 : Fin k0_t1_loop.trips) (v544 : IVec S16 32) (v569 : IVec S16 32) (k0_hw605 : k0_chk605 k0_t1 v544 v569), ∀ (k0_h4 : k0_cond4 k0_t1 = 1#1), ∀ a x, ((![v544, v569] : Fin 2 → IVec S16 32) a x).toNat < S512x16.size a := fun k0_t1 v544 v569 k0_hw605 k0_h4 => k0_hw605 k0_h4

def k0_chk606 (k0_t1 : Fin k0_t1_loop.trips) (v544 : IVec S16 32) (v571 : IVec S16 32) : Prop :=
  (∀ (k0_h4 : k0_cond4 k0_t1 = 1#1), ∀ a x, ((![v544, v571] : Fin 2 → IVec S16 32) a x).toNat < S512x16.size a)
theorem k0_idx606_inb : ∀ (k0_t1 : Fin k0_t1_loop.trips) (v544 : IVec S16 32) (v571 : IVec S16 32) (k0_hw606 : k0_chk606 k0_t1 v544 v571), ∀ (k0_h4 : k0_cond4 k0_t1 = 1#1), ∀ a x, ((![v544, v571] : Fin 2 → IVec S16 32) a x).toNat < S512x16.size a := fun k0_t1 v544 v571 k0_hw606 k0_h4 => k0_hw606 k0_h4

def k0_chk607 (k0_t1 : Fin k0_t1_loop.trips) (v544 : IVec S16 32) (v573 : IVec S16 32) : Prop :=
  (∀ (k0_h4 : k0_cond4 k0_t1 = 1#1), ∀ a x, ((![v544, v573] : Fin 2 → IVec S16 32) a x).toNat < S512x16.size a)
theorem k0_idx607_inb : ∀ (k0_t1 : Fin k0_t1_loop.trips) (v544 : IVec S16 32) (v573 : IVec S16 32) (k0_hw607 : k0_chk607 k0_t1 v544 v573), ∀ (k0_h4 : k0_cond4 k0_t1 = 1#1), ∀ a x, ((![v544, v573] : Fin 2 → IVec S16 32) a x).toNat < S512x16.size a := fun k0_t1 v544 v573 k0_hw607 k0_h4 => k0_hw607 k0_h4

def k0_chk608 (k0_t1 : Fin k0_t1_loop.trips) (v544 : IVec S16 32) (v575 : IVec S16 32) : Prop :=
  (∀ (k0_h4 : k0_cond4 k0_t1 = 1#1), ∀ a x, ((![v544, v575] : Fin 2 → IVec S16 32) a x).toNat < S512x16.size a)
theorem k0_idx608_inb : ∀ (k0_t1 : Fin k0_t1_loop.trips) (v544 : IVec S16 32) (v575 : IVec S16 32) (k0_hw608 : k0_chk608 k0_t1 v544 v575), ∀ (k0_h4 : k0_cond4 k0_t1 = 1#1), ∀ a x, ((![v544, v575] : Fin 2 → IVec S16 32) a x).toNat < S512x16.size a := fun k0_t1 v544 v575 k0_hw608 k0_h4 => k0_hw608 k0_h4

def k0_chk609 (k0_t1 : Fin k0_t1_loop.trips) (v643 : IVec S16 32) (v644 : IVec S16 32) : Prop :=
  (∀ (k0_h4 : k0_cond4 k0_t1 = 1#1), ∀ a x, ((![v643, v644] : Fin 2 → IVec S16 32) a x).toNat < S512x16.size a)
theorem k0_idx609_inb : ∀ (k0_t1 : Fin k0_t1_loop.trips) (v643 : IVec S16 32) (v644 : IVec S16 32) (k0_hw609 : k0_chk609 k0_t1 v643 v644), ∀ (k0_h4 : k0_cond4 k0_t1 = 1#1), ∀ a x, ((![v643, v644] : Fin 2 → IVec S16 32) a x).toNat < S512x16.size a := fun k0_t1 v643 v644 k0_hw609 k0_h4 => k0_hw609 k0_h4

def k0_chk610 (k0_t1 : Fin k0_t1_loop.trips) (v643 : IVec S16 32) (v646 : IVec S16 32) : Prop :=
  (∀ (k0_h4 : k0_cond4 k0_t1 = 1#1), ∀ a x, ((![v643, v646] : Fin 2 → IVec S16 32) a x).toNat < S512x16.size a)
theorem k0_idx610_inb : ∀ (k0_t1 : Fin k0_t1_loop.trips) (v643 : IVec S16 32) (v646 : IVec S16 32) (k0_hw610 : k0_chk610 k0_t1 v643 v646), ∀ (k0_h4 : k0_cond4 k0_t1 = 1#1), ∀ a x, ((![v643, v646] : Fin 2 → IVec S16 32) a x).toNat < S512x16.size a := fun k0_t1 v643 v646 k0_hw610 k0_h4 => k0_hw610 k0_h4

def k0_chk611 (k0_t1 : Fin k0_t1_loop.trips) (v643 : IVec S16 32) (v648 : IVec S16 32) : Prop :=
  (∀ (k0_h4 : k0_cond4 k0_t1 = 1#1), ∀ a x, ((![v643, v648] : Fin 2 → IVec S16 32) a x).toNat < S512x16.size a)
theorem k0_idx611_inb : ∀ (k0_t1 : Fin k0_t1_loop.trips) (v643 : IVec S16 32) (v648 : IVec S16 32) (k0_hw611 : k0_chk611 k0_t1 v643 v648), ∀ (k0_h4 : k0_cond4 k0_t1 = 1#1), ∀ a x, ((![v643, v648] : Fin 2 → IVec S16 32) a x).toNat < S512x16.size a := fun k0_t1 v643 v648 k0_hw611 k0_h4 => k0_hw611 k0_h4

def k0_chk612 (k0_t1 : Fin k0_t1_loop.trips) (v643 : IVec S16 32) (v650 : IVec S16 32) : Prop :=
  (∀ (k0_h4 : k0_cond4 k0_t1 = 1#1), ∀ a x, ((![v643, v650] : Fin 2 → IVec S16 32) a x).toNat < S512x16.size a)
theorem k0_idx612_inb : ∀ (k0_t1 : Fin k0_t1_loop.trips) (v643 : IVec S16 32) (v650 : IVec S16 32) (k0_hw612 : k0_chk612 k0_t1 v643 v650), ∀ (k0_h4 : k0_cond4 k0_t1 = 1#1), ∀ a x, ((![v643, v650] : Fin 2 → IVec S16 32) a x).toNat < S512x16.size a := fun k0_t1 v643 v650 k0_hw612 k0_h4 => k0_hw612 k0_h4

def k0_chk613 (k0_t1 : Fin k0_t1_loop.trips) (v643 : IVec S16 32) (v652 : IVec S16 32) : Prop :=
  (∀ (k0_h4 : k0_cond4 k0_t1 = 1#1), ∀ a x, ((![v643, v652] : Fin 2 → IVec S16 32) a x).toNat < S512x16.size a)
theorem k0_idx613_inb : ∀ (k0_t1 : Fin k0_t1_loop.trips) (v643 : IVec S16 32) (v652 : IVec S16 32) (k0_hw613 : k0_chk613 k0_t1 v643 v652), ∀ (k0_h4 : k0_cond4 k0_t1 = 1#1), ∀ a x, ((![v643, v652] : Fin 2 → IVec S16 32) a x).toNat < S512x16.size a := fun k0_t1 v643 v652 k0_hw613 k0_h4 => k0_hw613 k0_h4

def k0_chk614 (k0_t1 : Fin k0_t1_loop.trips) (v643 : IVec S16 32) (v654 : IVec S16 32) : Prop :=
  (∀ (k0_h4 : k0_cond4 k0_t1 = 1#1), ∀ a x, ((![v643, v654] : Fin 2 → IVec S16 32) a x).toNat < S512x16.size a)
theorem k0_idx614_inb : ∀ (k0_t1 : Fin k0_t1_loop.trips) (v643 : IVec S16 32) (v654 : IVec S16 32) (k0_hw614 : k0_chk614 k0_t1 v643 v654), ∀ (k0_h4 : k0_cond4 k0_t1 = 1#1), ∀ a x, ((![v643, v654] : Fin 2 → IVec S16 32) a x).toNat < S512x16.size a := fun k0_t1 v643 v654 k0_hw614 k0_h4 => k0_hw614 k0_h4

def k0_chk615 (k0_t1 : Fin k0_t1_loop.trips) (v643 : IVec S16 32) (v656 : IVec S16 32) : Prop :=
  (∀ (k0_h4 : k0_cond4 k0_t1 = 1#1), ∀ a x, ((![v643, v656] : Fin 2 → IVec S16 32) a x).toNat < S512x16.size a)
theorem k0_idx615_inb : ∀ (k0_t1 : Fin k0_t1_loop.trips) (v643 : IVec S16 32) (v656 : IVec S16 32) (k0_hw615 : k0_chk615 k0_t1 v643 v656), ∀ (k0_h4 : k0_cond4 k0_t1 = 1#1), ∀ a x, ((![v643, v656] : Fin 2 → IVec S16 32) a x).toNat < S512x16.size a := fun k0_t1 v643 v656 k0_hw615 k0_h4 => k0_hw615 k0_h4

def k0_chk616 (k0_t1 : Fin k0_t1_loop.trips) (v643 : IVec S16 32) (v658 : IVec S16 32) : Prop :=
  (∀ (k0_h4 : k0_cond4 k0_t1 = 1#1), ∀ a x, ((![v643, v658] : Fin 2 → IVec S16 32) a x).toNat < S512x16.size a)
theorem k0_idx616_inb : ∀ (k0_t1 : Fin k0_t1_loop.trips) (v643 : IVec S16 32) (v658 : IVec S16 32) (k0_hw616 : k0_chk616 k0_t1 v643 v658), ∀ (k0_h4 : k0_cond4 k0_t1 = 1#1), ∀ a x, ((![v643, v658] : Fin 2 → IVec S16 32) a x).toNat < S512x16.size a := fun k0_t1 v643 v658 k0_hw616 k0_h4 => k0_hw616 k0_h4

def k0_chk617 (k0_t1 : Fin k0_t1_loop.trips) (v643 : IVec S16 32) (v660 : IVec S16 32) : Prop :=
  (∀ (k0_h4 : k0_cond4 k0_t1 = 1#1), ∀ a x, ((![v643, v660] : Fin 2 → IVec S16 32) a x).toNat < S512x16.size a)
theorem k0_idx617_inb : ∀ (k0_t1 : Fin k0_t1_loop.trips) (v643 : IVec S16 32) (v660 : IVec S16 32) (k0_hw617 : k0_chk617 k0_t1 v643 v660), ∀ (k0_h4 : k0_cond4 k0_t1 = 1#1), ∀ a x, ((![v643, v660] : Fin 2 → IVec S16 32) a x).toNat < S512x16.size a := fun k0_t1 v643 v660 k0_hw617 k0_h4 => k0_hw617 k0_h4

def k0_chk618 (k0_t1 : Fin k0_t1_loop.trips) (v643 : IVec S16 32) (v662 : IVec S16 32) : Prop :=
  (∀ (k0_h4 : k0_cond4 k0_t1 = 1#1), ∀ a x, ((![v643, v662] : Fin 2 → IVec S16 32) a x).toNat < S512x16.size a)
theorem k0_idx618_inb : ∀ (k0_t1 : Fin k0_t1_loop.trips) (v643 : IVec S16 32) (v662 : IVec S16 32) (k0_hw618 : k0_chk618 k0_t1 v643 v662), ∀ (k0_h4 : k0_cond4 k0_t1 = 1#1), ∀ a x, ((![v643, v662] : Fin 2 → IVec S16 32) a x).toNat < S512x16.size a := fun k0_t1 v643 v662 k0_hw618 k0_h4 => k0_hw618 k0_h4

def k0_chk619 (k0_t1 : Fin k0_t1_loop.trips) (v643 : IVec S16 32) (v664 : IVec S16 32) : Prop :=
  (∀ (k0_h4 : k0_cond4 k0_t1 = 1#1), ∀ a x, ((![v643, v664] : Fin 2 → IVec S16 32) a x).toNat < S512x16.size a)
theorem k0_idx619_inb : ∀ (k0_t1 : Fin k0_t1_loop.trips) (v643 : IVec S16 32) (v664 : IVec S16 32) (k0_hw619 : k0_chk619 k0_t1 v643 v664), ∀ (k0_h4 : k0_cond4 k0_t1 = 1#1), ∀ a x, ((![v643, v664] : Fin 2 → IVec S16 32) a x).toNat < S512x16.size a := fun k0_t1 v643 v664 k0_hw619 k0_h4 => k0_hw619 k0_h4

def k0_chk620 (k0_t1 : Fin k0_t1_loop.trips) (v643 : IVec S16 32) (v666 : IVec S16 32) : Prop :=
  (∀ (k0_h4 : k0_cond4 k0_t1 = 1#1), ∀ a x, ((![v643, v666] : Fin 2 → IVec S16 32) a x).toNat < S512x16.size a)
theorem k0_idx620_inb : ∀ (k0_t1 : Fin k0_t1_loop.trips) (v643 : IVec S16 32) (v666 : IVec S16 32) (k0_hw620 : k0_chk620 k0_t1 v643 v666), ∀ (k0_h4 : k0_cond4 k0_t1 = 1#1), ∀ a x, ((![v643, v666] : Fin 2 → IVec S16 32) a x).toNat < S512x16.size a := fun k0_t1 v643 v666 k0_hw620 k0_h4 => k0_hw620 k0_h4

def k0_chk621 (k0_t1 : Fin k0_t1_loop.trips) (v643 : IVec S16 32) (v668 : IVec S16 32) : Prop :=
  (∀ (k0_h4 : k0_cond4 k0_t1 = 1#1), ∀ a x, ((![v643, v668] : Fin 2 → IVec S16 32) a x).toNat < S512x16.size a)
theorem k0_idx621_inb : ∀ (k0_t1 : Fin k0_t1_loop.trips) (v643 : IVec S16 32) (v668 : IVec S16 32) (k0_hw621 : k0_chk621 k0_t1 v643 v668), ∀ (k0_h4 : k0_cond4 k0_t1 = 1#1), ∀ a x, ((![v643, v668] : Fin 2 → IVec S16 32) a x).toNat < S512x16.size a := fun k0_t1 v643 v668 k0_hw621 k0_h4 => k0_hw621 k0_h4

def k0_chk622 (k0_t1 : Fin k0_t1_loop.trips) (v643 : IVec S16 32) (v670 : IVec S16 32) : Prop :=
  (∀ (k0_h4 : k0_cond4 k0_t1 = 1#1), ∀ a x, ((![v643, v670] : Fin 2 → IVec S16 32) a x).toNat < S512x16.size a)
theorem k0_idx622_inb : ∀ (k0_t1 : Fin k0_t1_loop.trips) (v643 : IVec S16 32) (v670 : IVec S16 32) (k0_hw622 : k0_chk622 k0_t1 v643 v670), ∀ (k0_h4 : k0_cond4 k0_t1 = 1#1), ∀ a x, ((![v643, v670] : Fin 2 → IVec S16 32) a x).toNat < S512x16.size a := fun k0_t1 v643 v670 k0_hw622 k0_h4 => k0_hw622 k0_h4

def k0_chk623 (k0_t1 : Fin k0_t1_loop.trips) (v643 : IVec S16 32) (v672 : IVec S16 32) : Prop :=
  (∀ (k0_h4 : k0_cond4 k0_t1 = 1#1), ∀ a x, ((![v643, v672] : Fin 2 → IVec S16 32) a x).toNat < S512x16.size a)
theorem k0_idx623_inb : ∀ (k0_t1 : Fin k0_t1_loop.trips) (v643 : IVec S16 32) (v672 : IVec S16 32) (k0_hw623 : k0_chk623 k0_t1 v643 v672), ∀ (k0_h4 : k0_cond4 k0_t1 = 1#1), ∀ a x, ((![v643, v672] : Fin 2 → IVec S16 32) a x).toNat < S512x16.size a := fun k0_t1 v643 v672 k0_hw623 k0_h4 => k0_hw623 k0_h4

def k0_chk624 (k0_t1 : Fin k0_t1_loop.trips) (v643 : IVec S16 32) (v674 : IVec S16 32) : Prop :=
  (∀ (k0_h4 : k0_cond4 k0_t1 = 1#1), ∀ a x, ((![v643, v674] : Fin 2 → IVec S16 32) a x).toNat < S512x16.size a)
theorem k0_idx624_inb : ∀ (k0_t1 : Fin k0_t1_loop.trips) (v643 : IVec S16 32) (v674 : IVec S16 32) (k0_hw624 : k0_chk624 k0_t1 v643 v674), ∀ (k0_h4 : k0_cond4 k0_t1 = 1#1), ∀ a x, ((![v643, v674] : Fin 2 → IVec S16 32) a x).toNat < S512x16.size a := fun k0_t1 v643 v674 k0_hw624 k0_h4 => k0_hw624 k0_h4

def k0_chk625 (k0_t1 : Fin k0_t1_loop.trips) (v742 : IVec S16 32) (v743 : IVec S16 32) : Prop :=
  (∀ (k0_h4 : k0_cond4 k0_t1 = 1#1), ∀ a x, ((![v742, v743] : Fin 2 → IVec S16 32) a x).toNat < S512x16.size a)
theorem k0_idx625_inb : ∀ (k0_t1 : Fin k0_t1_loop.trips) (v742 : IVec S16 32) (v743 : IVec S16 32) (k0_hw625 : k0_chk625 k0_t1 v742 v743), ∀ (k0_h4 : k0_cond4 k0_t1 = 1#1), ∀ a x, ((![v742, v743] : Fin 2 → IVec S16 32) a x).toNat < S512x16.size a := fun k0_t1 v742 v743 k0_hw625 k0_h4 => k0_hw625 k0_h4

def k0_chk626 (k0_t1 : Fin k0_t1_loop.trips) (v742 : IVec S16 32) (v745 : IVec S16 32) : Prop :=
  (∀ (k0_h4 : k0_cond4 k0_t1 = 1#1), ∀ a x, ((![v742, v745] : Fin 2 → IVec S16 32) a x).toNat < S512x16.size a)
theorem k0_idx626_inb : ∀ (k0_t1 : Fin k0_t1_loop.trips) (v742 : IVec S16 32) (v745 : IVec S16 32) (k0_hw626 : k0_chk626 k0_t1 v742 v745), ∀ (k0_h4 : k0_cond4 k0_t1 = 1#1), ∀ a x, ((![v742, v745] : Fin 2 → IVec S16 32) a x).toNat < S512x16.size a := fun k0_t1 v742 v745 k0_hw626 k0_h4 => k0_hw626 k0_h4

def k0_chk627 (k0_t1 : Fin k0_t1_loop.trips) (v742 : IVec S16 32) (v747 : IVec S16 32) : Prop :=
  (∀ (k0_h4 : k0_cond4 k0_t1 = 1#1), ∀ a x, ((![v742, v747] : Fin 2 → IVec S16 32) a x).toNat < S512x16.size a)
theorem k0_idx627_inb : ∀ (k0_t1 : Fin k0_t1_loop.trips) (v742 : IVec S16 32) (v747 : IVec S16 32) (k0_hw627 : k0_chk627 k0_t1 v742 v747), ∀ (k0_h4 : k0_cond4 k0_t1 = 1#1), ∀ a x, ((![v742, v747] : Fin 2 → IVec S16 32) a x).toNat < S512x16.size a := fun k0_t1 v742 v747 k0_hw627 k0_h4 => k0_hw627 k0_h4

def k0_chk628 (k0_t1 : Fin k0_t1_loop.trips) (v742 : IVec S16 32) (v749 : IVec S16 32) : Prop :=
  (∀ (k0_h4 : k0_cond4 k0_t1 = 1#1), ∀ a x, ((![v742, v749] : Fin 2 → IVec S16 32) a x).toNat < S512x16.size a)
theorem k0_idx628_inb : ∀ (k0_t1 : Fin k0_t1_loop.trips) (v742 : IVec S16 32) (v749 : IVec S16 32) (k0_hw628 : k0_chk628 k0_t1 v742 v749), ∀ (k0_h4 : k0_cond4 k0_t1 = 1#1), ∀ a x, ((![v742, v749] : Fin 2 → IVec S16 32) a x).toNat < S512x16.size a := fun k0_t1 v742 v749 k0_hw628 k0_h4 => k0_hw628 k0_h4

def k0_chk629 (k0_t1 : Fin k0_t1_loop.trips) (v742 : IVec S16 32) (v751 : IVec S16 32) : Prop :=
  (∀ (k0_h4 : k0_cond4 k0_t1 = 1#1), ∀ a x, ((![v742, v751] : Fin 2 → IVec S16 32) a x).toNat < S512x16.size a)
theorem k0_idx629_inb : ∀ (k0_t1 : Fin k0_t1_loop.trips) (v742 : IVec S16 32) (v751 : IVec S16 32) (k0_hw629 : k0_chk629 k0_t1 v742 v751), ∀ (k0_h4 : k0_cond4 k0_t1 = 1#1), ∀ a x, ((![v742, v751] : Fin 2 → IVec S16 32) a x).toNat < S512x16.size a := fun k0_t1 v742 v751 k0_hw629 k0_h4 => k0_hw629 k0_h4

def k0_chk630 (k0_t1 : Fin k0_t1_loop.trips) (v742 : IVec S16 32) (v753 : IVec S16 32) : Prop :=
  (∀ (k0_h4 : k0_cond4 k0_t1 = 1#1), ∀ a x, ((![v742, v753] : Fin 2 → IVec S16 32) a x).toNat < S512x16.size a)
theorem k0_idx630_inb : ∀ (k0_t1 : Fin k0_t1_loop.trips) (v742 : IVec S16 32) (v753 : IVec S16 32) (k0_hw630 : k0_chk630 k0_t1 v742 v753), ∀ (k0_h4 : k0_cond4 k0_t1 = 1#1), ∀ a x, ((![v742, v753] : Fin 2 → IVec S16 32) a x).toNat < S512x16.size a := fun k0_t1 v742 v753 k0_hw630 k0_h4 => k0_hw630 k0_h4

def k0_chk631 (k0_t1 : Fin k0_t1_loop.trips) (v742 : IVec S16 32) (v755 : IVec S16 32) : Prop :=
  (∀ (k0_h4 : k0_cond4 k0_t1 = 1#1), ∀ a x, ((![v742, v755] : Fin 2 → IVec S16 32) a x).toNat < S512x16.size a)
theorem k0_idx631_inb : ∀ (k0_t1 : Fin k0_t1_loop.trips) (v742 : IVec S16 32) (v755 : IVec S16 32) (k0_hw631 : k0_chk631 k0_t1 v742 v755), ∀ (k0_h4 : k0_cond4 k0_t1 = 1#1), ∀ a x, ((![v742, v755] : Fin 2 → IVec S16 32) a x).toNat < S512x16.size a := fun k0_t1 v742 v755 k0_hw631 k0_h4 => k0_hw631 k0_h4

def k0_chk632 (k0_t1 : Fin k0_t1_loop.trips) (v742 : IVec S16 32) (v757 : IVec S16 32) : Prop :=
  (∀ (k0_h4 : k0_cond4 k0_t1 = 1#1), ∀ a x, ((![v742, v757] : Fin 2 → IVec S16 32) a x).toNat < S512x16.size a)
theorem k0_idx632_inb : ∀ (k0_t1 : Fin k0_t1_loop.trips) (v742 : IVec S16 32) (v757 : IVec S16 32) (k0_hw632 : k0_chk632 k0_t1 v742 v757), ∀ (k0_h4 : k0_cond4 k0_t1 = 1#1), ∀ a x, ((![v742, v757] : Fin 2 → IVec S16 32) a x).toNat < S512x16.size a := fun k0_t1 v742 v757 k0_hw632 k0_h4 => k0_hw632 k0_h4

def k0_chk633 (k0_t1 : Fin k0_t1_loop.trips) (v742 : IVec S16 32) (v759 : IVec S16 32) : Prop :=
  (∀ (k0_h4 : k0_cond4 k0_t1 = 1#1), ∀ a x, ((![v742, v759] : Fin 2 → IVec S16 32) a x).toNat < S512x16.size a)
theorem k0_idx633_inb : ∀ (k0_t1 : Fin k0_t1_loop.trips) (v742 : IVec S16 32) (v759 : IVec S16 32) (k0_hw633 : k0_chk633 k0_t1 v742 v759), ∀ (k0_h4 : k0_cond4 k0_t1 = 1#1), ∀ a x, ((![v742, v759] : Fin 2 → IVec S16 32) a x).toNat < S512x16.size a := fun k0_t1 v742 v759 k0_hw633 k0_h4 => k0_hw633 k0_h4

def k0_chk634 (k0_t1 : Fin k0_t1_loop.trips) (v742 : IVec S16 32) (v761 : IVec S16 32) : Prop :=
  (∀ (k0_h4 : k0_cond4 k0_t1 = 1#1), ∀ a x, ((![v742, v761] : Fin 2 → IVec S16 32) a x).toNat < S512x16.size a)
theorem k0_idx634_inb : ∀ (k0_t1 : Fin k0_t1_loop.trips) (v742 : IVec S16 32) (v761 : IVec S16 32) (k0_hw634 : k0_chk634 k0_t1 v742 v761), ∀ (k0_h4 : k0_cond4 k0_t1 = 1#1), ∀ a x, ((![v742, v761] : Fin 2 → IVec S16 32) a x).toNat < S512x16.size a := fun k0_t1 v742 v761 k0_hw634 k0_h4 => k0_hw634 k0_h4

def k0_chk635 (k0_t1 : Fin k0_t1_loop.trips) (v742 : IVec S16 32) (v763 : IVec S16 32) : Prop :=
  (∀ (k0_h4 : k0_cond4 k0_t1 = 1#1), ∀ a x, ((![v742, v763] : Fin 2 → IVec S16 32) a x).toNat < S512x16.size a)
theorem k0_idx635_inb : ∀ (k0_t1 : Fin k0_t1_loop.trips) (v742 : IVec S16 32) (v763 : IVec S16 32) (k0_hw635 : k0_chk635 k0_t1 v742 v763), ∀ (k0_h4 : k0_cond4 k0_t1 = 1#1), ∀ a x, ((![v742, v763] : Fin 2 → IVec S16 32) a x).toNat < S512x16.size a := fun k0_t1 v742 v763 k0_hw635 k0_h4 => k0_hw635 k0_h4

def k0_chk636 (k0_t1 : Fin k0_t1_loop.trips) (v742 : IVec S16 32) (v765 : IVec S16 32) : Prop :=
  (∀ (k0_h4 : k0_cond4 k0_t1 = 1#1), ∀ a x, ((![v742, v765] : Fin 2 → IVec S16 32) a x).toNat < S512x16.size a)
theorem k0_idx636_inb : ∀ (k0_t1 : Fin k0_t1_loop.trips) (v742 : IVec S16 32) (v765 : IVec S16 32) (k0_hw636 : k0_chk636 k0_t1 v742 v765), ∀ (k0_h4 : k0_cond4 k0_t1 = 1#1), ∀ a x, ((![v742, v765] : Fin 2 → IVec S16 32) a x).toNat < S512x16.size a := fun k0_t1 v742 v765 k0_hw636 k0_h4 => k0_hw636 k0_h4

def k0_chk637 (k0_t1 : Fin k0_t1_loop.trips) (v742 : IVec S16 32) (v767 : IVec S16 32) : Prop :=
  (∀ (k0_h4 : k0_cond4 k0_t1 = 1#1), ∀ a x, ((![v742, v767] : Fin 2 → IVec S16 32) a x).toNat < S512x16.size a)
theorem k0_idx637_inb : ∀ (k0_t1 : Fin k0_t1_loop.trips) (v742 : IVec S16 32) (v767 : IVec S16 32) (k0_hw637 : k0_chk637 k0_t1 v742 v767), ∀ (k0_h4 : k0_cond4 k0_t1 = 1#1), ∀ a x, ((![v742, v767] : Fin 2 → IVec S16 32) a x).toNat < S512x16.size a := fun k0_t1 v742 v767 k0_hw637 k0_h4 => k0_hw637 k0_h4

def k0_chk638 (k0_t1 : Fin k0_t1_loop.trips) (v742 : IVec S16 32) (v769 : IVec S16 32) : Prop :=
  (∀ (k0_h4 : k0_cond4 k0_t1 = 1#1), ∀ a x, ((![v742, v769] : Fin 2 → IVec S16 32) a x).toNat < S512x16.size a)
theorem k0_idx638_inb : ∀ (k0_t1 : Fin k0_t1_loop.trips) (v742 : IVec S16 32) (v769 : IVec S16 32) (k0_hw638 : k0_chk638 k0_t1 v742 v769), ∀ (k0_h4 : k0_cond4 k0_t1 = 1#1), ∀ a x, ((![v742, v769] : Fin 2 → IVec S16 32) a x).toNat < S512x16.size a := fun k0_t1 v742 v769 k0_hw638 k0_h4 => k0_hw638 k0_h4

def k0_chk639 (k0_t1 : Fin k0_t1_loop.trips) (v742 : IVec S16 32) (v771 : IVec S16 32) : Prop :=
  (∀ (k0_h4 : k0_cond4 k0_t1 = 1#1), ∀ a x, ((![v742, v771] : Fin 2 → IVec S16 32) a x).toNat < S512x16.size a)
theorem k0_idx639_inb : ∀ (k0_t1 : Fin k0_t1_loop.trips) (v742 : IVec S16 32) (v771 : IVec S16 32) (k0_hw639 : k0_chk639 k0_t1 v742 v771), ∀ (k0_h4 : k0_cond4 k0_t1 = 1#1), ∀ a x, ((![v742, v771] : Fin 2 → IVec S16 32) a x).toNat < S512x16.size a := fun k0_t1 v742 v771 k0_hw639 k0_h4 => k0_hw639 k0_h4

def k0_chk640 (k0_t1 : Fin k0_t1_loop.trips) (v742 : IVec S16 32) (v773 : IVec S16 32) : Prop :=
  (∀ (k0_h4 : k0_cond4 k0_t1 = 1#1), ∀ a x, ((![v742, v773] : Fin 2 → IVec S16 32) a x).toNat < S512x16.size a)
theorem k0_idx640_inb : ∀ (k0_t1 : Fin k0_t1_loop.trips) (v742 : IVec S16 32) (v773 : IVec S16 32) (k0_hw640 : k0_chk640 k0_t1 v742 v773), ∀ (k0_h4 : k0_cond4 k0_t1 = 1#1), ∀ a x, ((![v742, v773] : Fin 2 → IVec S16 32) a x).toNat < S512x16.size a := fun k0_t1 v742 v773 k0_hw640 k0_h4 => k0_hw640 k0_h4

def k0_chk641 (k0_t1 : Fin k0_t1_loop.trips) (v841 : IVec S16 32) (v842 : IVec S16 32) : Prop :=
  (∀ (k0_h4 : k0_cond4 k0_t1 = 1#1), ∀ a x, ((![v841, v842] : Fin 2 → IVec S16 32) a x).toNat < S512x16.size a)
theorem k0_idx641_inb : ∀ (k0_t1 : Fin k0_t1_loop.trips) (v841 : IVec S16 32) (v842 : IVec S16 32) (k0_hw641 : k0_chk641 k0_t1 v841 v842), ∀ (k0_h4 : k0_cond4 k0_t1 = 1#1), ∀ a x, ((![v841, v842] : Fin 2 → IVec S16 32) a x).toNat < S512x16.size a := fun k0_t1 v841 v842 k0_hw641 k0_h4 => k0_hw641 k0_h4

def k0_chk642 (k0_t1 : Fin k0_t1_loop.trips) (v841 : IVec S16 32) (v844 : IVec S16 32) : Prop :=
  (∀ (k0_h4 : k0_cond4 k0_t1 = 1#1), ∀ a x, ((![v841, v844] : Fin 2 → IVec S16 32) a x).toNat < S512x16.size a)
theorem k0_idx642_inb : ∀ (k0_t1 : Fin k0_t1_loop.trips) (v841 : IVec S16 32) (v844 : IVec S16 32) (k0_hw642 : k0_chk642 k0_t1 v841 v844), ∀ (k0_h4 : k0_cond4 k0_t1 = 1#1), ∀ a x, ((![v841, v844] : Fin 2 → IVec S16 32) a x).toNat < S512x16.size a := fun k0_t1 v841 v844 k0_hw642 k0_h4 => k0_hw642 k0_h4

def k0_chk643 (k0_t1 : Fin k0_t1_loop.trips) (v841 : IVec S16 32) (v846 : IVec S16 32) : Prop :=
  (∀ (k0_h4 : k0_cond4 k0_t1 = 1#1), ∀ a x, ((![v841, v846] : Fin 2 → IVec S16 32) a x).toNat < S512x16.size a)
theorem k0_idx643_inb : ∀ (k0_t1 : Fin k0_t1_loop.trips) (v841 : IVec S16 32) (v846 : IVec S16 32) (k0_hw643 : k0_chk643 k0_t1 v841 v846), ∀ (k0_h4 : k0_cond4 k0_t1 = 1#1), ∀ a x, ((![v841, v846] : Fin 2 → IVec S16 32) a x).toNat < S512x16.size a := fun k0_t1 v841 v846 k0_hw643 k0_h4 => k0_hw643 k0_h4

def k0_chk644 (k0_t1 : Fin k0_t1_loop.trips) (v841 : IVec S16 32) (v848 : IVec S16 32) : Prop :=
  (∀ (k0_h4 : k0_cond4 k0_t1 = 1#1), ∀ a x, ((![v841, v848] : Fin 2 → IVec S16 32) a x).toNat < S512x16.size a)
theorem k0_idx644_inb : ∀ (k0_t1 : Fin k0_t1_loop.trips) (v841 : IVec S16 32) (v848 : IVec S16 32) (k0_hw644 : k0_chk644 k0_t1 v841 v848), ∀ (k0_h4 : k0_cond4 k0_t1 = 1#1), ∀ a x, ((![v841, v848] : Fin 2 → IVec S16 32) a x).toNat < S512x16.size a := fun k0_t1 v841 v848 k0_hw644 k0_h4 => k0_hw644 k0_h4

def k0_chk645 (k0_t1 : Fin k0_t1_loop.trips) (v841 : IVec S16 32) (v850 : IVec S16 32) : Prop :=
  (∀ (k0_h4 : k0_cond4 k0_t1 = 1#1), ∀ a x, ((![v841, v850] : Fin 2 → IVec S16 32) a x).toNat < S512x16.size a)
theorem k0_idx645_inb : ∀ (k0_t1 : Fin k0_t1_loop.trips) (v841 : IVec S16 32) (v850 : IVec S16 32) (k0_hw645 : k0_chk645 k0_t1 v841 v850), ∀ (k0_h4 : k0_cond4 k0_t1 = 1#1), ∀ a x, ((![v841, v850] : Fin 2 → IVec S16 32) a x).toNat < S512x16.size a := fun k0_t1 v841 v850 k0_hw645 k0_h4 => k0_hw645 k0_h4

def k0_chk646 (k0_t1 : Fin k0_t1_loop.trips) (v841 : IVec S16 32) (v852 : IVec S16 32) : Prop :=
  (∀ (k0_h4 : k0_cond4 k0_t1 = 1#1), ∀ a x, ((![v841, v852] : Fin 2 → IVec S16 32) a x).toNat < S512x16.size a)
theorem k0_idx646_inb : ∀ (k0_t1 : Fin k0_t1_loop.trips) (v841 : IVec S16 32) (v852 : IVec S16 32) (k0_hw646 : k0_chk646 k0_t1 v841 v852), ∀ (k0_h4 : k0_cond4 k0_t1 = 1#1), ∀ a x, ((![v841, v852] : Fin 2 → IVec S16 32) a x).toNat < S512x16.size a := fun k0_t1 v841 v852 k0_hw646 k0_h4 => k0_hw646 k0_h4

def k0_chk647 (k0_t1 : Fin k0_t1_loop.trips) (v841 : IVec S16 32) (v854 : IVec S16 32) : Prop :=
  (∀ (k0_h4 : k0_cond4 k0_t1 = 1#1), ∀ a x, ((![v841, v854] : Fin 2 → IVec S16 32) a x).toNat < S512x16.size a)
theorem k0_idx647_inb : ∀ (k0_t1 : Fin k0_t1_loop.trips) (v841 : IVec S16 32) (v854 : IVec S16 32) (k0_hw647 : k0_chk647 k0_t1 v841 v854), ∀ (k0_h4 : k0_cond4 k0_t1 = 1#1), ∀ a x, ((![v841, v854] : Fin 2 → IVec S16 32) a x).toNat < S512x16.size a := fun k0_t1 v841 v854 k0_hw647 k0_h4 => k0_hw647 k0_h4

def k0_chk648 (k0_t1 : Fin k0_t1_loop.trips) (v841 : IVec S16 32) (v856 : IVec S16 32) : Prop :=
  (∀ (k0_h4 : k0_cond4 k0_t1 = 1#1), ∀ a x, ((![v841, v856] : Fin 2 → IVec S16 32) a x).toNat < S512x16.size a)
theorem k0_idx648_inb : ∀ (k0_t1 : Fin k0_t1_loop.trips) (v841 : IVec S16 32) (v856 : IVec S16 32) (k0_hw648 : k0_chk648 k0_t1 v841 v856), ∀ (k0_h4 : k0_cond4 k0_t1 = 1#1), ∀ a x, ((![v841, v856] : Fin 2 → IVec S16 32) a x).toNat < S512x16.size a := fun k0_t1 v841 v856 k0_hw648 k0_h4 => k0_hw648 k0_h4

def k0_chk649 (k0_t1 : Fin k0_t1_loop.trips) (v841 : IVec S16 32) (v858 : IVec S16 32) : Prop :=
  (∀ (k0_h4 : k0_cond4 k0_t1 = 1#1), ∀ a x, ((![v841, v858] : Fin 2 → IVec S16 32) a x).toNat < S512x16.size a)
theorem k0_idx649_inb : ∀ (k0_t1 : Fin k0_t1_loop.trips) (v841 : IVec S16 32) (v858 : IVec S16 32) (k0_hw649 : k0_chk649 k0_t1 v841 v858), ∀ (k0_h4 : k0_cond4 k0_t1 = 1#1), ∀ a x, ((![v841, v858] : Fin 2 → IVec S16 32) a x).toNat < S512x16.size a := fun k0_t1 v841 v858 k0_hw649 k0_h4 => k0_hw649 k0_h4

def k0_chk650 (k0_t1 : Fin k0_t1_loop.trips) (v841 : IVec S16 32) (v860 : IVec S16 32) : Prop :=
  (∀ (k0_h4 : k0_cond4 k0_t1 = 1#1), ∀ a x, ((![v841, v860] : Fin 2 → IVec S16 32) a x).toNat < S512x16.size a)
theorem k0_idx650_inb : ∀ (k0_t1 : Fin k0_t1_loop.trips) (v841 : IVec S16 32) (v860 : IVec S16 32) (k0_hw650 : k0_chk650 k0_t1 v841 v860), ∀ (k0_h4 : k0_cond4 k0_t1 = 1#1), ∀ a x, ((![v841, v860] : Fin 2 → IVec S16 32) a x).toNat < S512x16.size a := fun k0_t1 v841 v860 k0_hw650 k0_h4 => k0_hw650 k0_h4

def k0_chk651 (k0_t1 : Fin k0_t1_loop.trips) (v841 : IVec S16 32) (v862 : IVec S16 32) : Prop :=
  (∀ (k0_h4 : k0_cond4 k0_t1 = 1#1), ∀ a x, ((![v841, v862] : Fin 2 → IVec S16 32) a x).toNat < S512x16.size a)
theorem k0_idx651_inb : ∀ (k0_t1 : Fin k0_t1_loop.trips) (v841 : IVec S16 32) (v862 : IVec S16 32) (k0_hw651 : k0_chk651 k0_t1 v841 v862), ∀ (k0_h4 : k0_cond4 k0_t1 = 1#1), ∀ a x, ((![v841, v862] : Fin 2 → IVec S16 32) a x).toNat < S512x16.size a := fun k0_t1 v841 v862 k0_hw651 k0_h4 => k0_hw651 k0_h4

def k0_chk652 (k0_t1 : Fin k0_t1_loop.trips) (v841 : IVec S16 32) (v864 : IVec S16 32) : Prop :=
  (∀ (k0_h4 : k0_cond4 k0_t1 = 1#1), ∀ a x, ((![v841, v864] : Fin 2 → IVec S16 32) a x).toNat < S512x16.size a)
theorem k0_idx652_inb : ∀ (k0_t1 : Fin k0_t1_loop.trips) (v841 : IVec S16 32) (v864 : IVec S16 32) (k0_hw652 : k0_chk652 k0_t1 v841 v864), ∀ (k0_h4 : k0_cond4 k0_t1 = 1#1), ∀ a x, ((![v841, v864] : Fin 2 → IVec S16 32) a x).toNat < S512x16.size a := fun k0_t1 v841 v864 k0_hw652 k0_h4 => k0_hw652 k0_h4

def k0_chk653 (k0_t1 : Fin k0_t1_loop.trips) (v841 : IVec S16 32) (v866 : IVec S16 32) : Prop :=
  (∀ (k0_h4 : k0_cond4 k0_t1 = 1#1), ∀ a x, ((![v841, v866] : Fin 2 → IVec S16 32) a x).toNat < S512x16.size a)
theorem k0_idx653_inb : ∀ (k0_t1 : Fin k0_t1_loop.trips) (v841 : IVec S16 32) (v866 : IVec S16 32) (k0_hw653 : k0_chk653 k0_t1 v841 v866), ∀ (k0_h4 : k0_cond4 k0_t1 = 1#1), ∀ a x, ((![v841, v866] : Fin 2 → IVec S16 32) a x).toNat < S512x16.size a := fun k0_t1 v841 v866 k0_hw653 k0_h4 => k0_hw653 k0_h4

def k0_chk654 (k0_t1 : Fin k0_t1_loop.trips) (v841 : IVec S16 32) (v868 : IVec S16 32) : Prop :=
  (∀ (k0_h4 : k0_cond4 k0_t1 = 1#1), ∀ a x, ((![v841, v868] : Fin 2 → IVec S16 32) a x).toNat < S512x16.size a)
theorem k0_idx654_inb : ∀ (k0_t1 : Fin k0_t1_loop.trips) (v841 : IVec S16 32) (v868 : IVec S16 32) (k0_hw654 : k0_chk654 k0_t1 v841 v868), ∀ (k0_h4 : k0_cond4 k0_t1 = 1#1), ∀ a x, ((![v841, v868] : Fin 2 → IVec S16 32) a x).toNat < S512x16.size a := fun k0_t1 v841 v868 k0_hw654 k0_h4 => k0_hw654 k0_h4

def k0_chk655 (k0_t1 : Fin k0_t1_loop.trips) (v841 : IVec S16 32) (v870 : IVec S16 32) : Prop :=
  (∀ (k0_h4 : k0_cond4 k0_t1 = 1#1), ∀ a x, ((![v841, v870] : Fin 2 → IVec S16 32) a x).toNat < S512x16.size a)
theorem k0_idx655_inb : ∀ (k0_t1 : Fin k0_t1_loop.trips) (v841 : IVec S16 32) (v870 : IVec S16 32) (k0_hw655 : k0_chk655 k0_t1 v841 v870), ∀ (k0_h4 : k0_cond4 k0_t1 = 1#1), ∀ a x, ((![v841, v870] : Fin 2 → IVec S16 32) a x).toNat < S512x16.size a := fun k0_t1 v841 v870 k0_hw655 k0_h4 => k0_hw655 k0_h4

def k0_chk656 (k0_t1 : Fin k0_t1_loop.trips) (v841 : IVec S16 32) (v872 : IVec S16 32) : Prop :=
  (∀ (k0_h4 : k0_cond4 k0_t1 = 1#1), ∀ a x, ((![v841, v872] : Fin 2 → IVec S16 32) a x).toNat < S512x16.size a)
theorem k0_idx656_inb : ∀ (k0_t1 : Fin k0_t1_loop.trips) (v841 : IVec S16 32) (v872 : IVec S16 32) (k0_hw656 : k0_chk656 k0_t1 v841 v872), ∀ (k0_h4 : k0_cond4 k0_t1 = 1#1), ∀ a x, ((![v841, v872] : Fin 2 → IVec S16 32) a x).toNat < S512x16.size a := fun k0_t1 v841 v872 k0_hw656 k0_h4 => k0_hw656 k0_h4

def k0_chk657 (k0_t1 : Fin k0_t1_loop.trips) (v940 : IVec S16 32) (v941 : IVec S16 32) : Prop :=
  (∀ (k0_h4 : k0_cond4 k0_t1 = 1#1), ∀ a x, ((![v940, v941] : Fin 2 → IVec S16 32) a x).toNat < S512x16.size a)
theorem k0_idx657_inb : ∀ (k0_t1 : Fin k0_t1_loop.trips) (v940 : IVec S16 32) (v941 : IVec S16 32) (k0_hw657 : k0_chk657 k0_t1 v940 v941), ∀ (k0_h4 : k0_cond4 k0_t1 = 1#1), ∀ a x, ((![v940, v941] : Fin 2 → IVec S16 32) a x).toNat < S512x16.size a := fun k0_t1 v940 v941 k0_hw657 k0_h4 => k0_hw657 k0_h4

def k0_chk658 (k0_t1 : Fin k0_t1_loop.trips) (v940 : IVec S16 32) (v943 : IVec S16 32) : Prop :=
  (∀ (k0_h4 : k0_cond4 k0_t1 = 1#1), ∀ a x, ((![v940, v943] : Fin 2 → IVec S16 32) a x).toNat < S512x16.size a)
theorem k0_idx658_inb : ∀ (k0_t1 : Fin k0_t1_loop.trips) (v940 : IVec S16 32) (v943 : IVec S16 32) (k0_hw658 : k0_chk658 k0_t1 v940 v943), ∀ (k0_h4 : k0_cond4 k0_t1 = 1#1), ∀ a x, ((![v940, v943] : Fin 2 → IVec S16 32) a x).toNat < S512x16.size a := fun k0_t1 v940 v943 k0_hw658 k0_h4 => k0_hw658 k0_h4

def k0_chk659 (k0_t1 : Fin k0_t1_loop.trips) (v940 : IVec S16 32) (v945 : IVec S16 32) : Prop :=
  (∀ (k0_h4 : k0_cond4 k0_t1 = 1#1), ∀ a x, ((![v940, v945] : Fin 2 → IVec S16 32) a x).toNat < S512x16.size a)
theorem k0_idx659_inb : ∀ (k0_t1 : Fin k0_t1_loop.trips) (v940 : IVec S16 32) (v945 : IVec S16 32) (k0_hw659 : k0_chk659 k0_t1 v940 v945), ∀ (k0_h4 : k0_cond4 k0_t1 = 1#1), ∀ a x, ((![v940, v945] : Fin 2 → IVec S16 32) a x).toNat < S512x16.size a := fun k0_t1 v940 v945 k0_hw659 k0_h4 => k0_hw659 k0_h4

def k0_chk660 (k0_t1 : Fin k0_t1_loop.trips) (v940 : IVec S16 32) (v947 : IVec S16 32) : Prop :=
  (∀ (k0_h4 : k0_cond4 k0_t1 = 1#1), ∀ a x, ((![v940, v947] : Fin 2 → IVec S16 32) a x).toNat < S512x16.size a)
theorem k0_idx660_inb : ∀ (k0_t1 : Fin k0_t1_loop.trips) (v940 : IVec S16 32) (v947 : IVec S16 32) (k0_hw660 : k0_chk660 k0_t1 v940 v947), ∀ (k0_h4 : k0_cond4 k0_t1 = 1#1), ∀ a x, ((![v940, v947] : Fin 2 → IVec S16 32) a x).toNat < S512x16.size a := fun k0_t1 v940 v947 k0_hw660 k0_h4 => k0_hw660 k0_h4

def k0_chk661 (k0_t1 : Fin k0_t1_loop.trips) (v940 : IVec S16 32) (v949 : IVec S16 32) : Prop :=
  (∀ (k0_h4 : k0_cond4 k0_t1 = 1#1), ∀ a x, ((![v940, v949] : Fin 2 → IVec S16 32) a x).toNat < S512x16.size a)
theorem k0_idx661_inb : ∀ (k0_t1 : Fin k0_t1_loop.trips) (v940 : IVec S16 32) (v949 : IVec S16 32) (k0_hw661 : k0_chk661 k0_t1 v940 v949), ∀ (k0_h4 : k0_cond4 k0_t1 = 1#1), ∀ a x, ((![v940, v949] : Fin 2 → IVec S16 32) a x).toNat < S512x16.size a := fun k0_t1 v940 v949 k0_hw661 k0_h4 => k0_hw661 k0_h4

def k0_chk662 (k0_t1 : Fin k0_t1_loop.trips) (v940 : IVec S16 32) (v951 : IVec S16 32) : Prop :=
  (∀ (k0_h4 : k0_cond4 k0_t1 = 1#1), ∀ a x, ((![v940, v951] : Fin 2 → IVec S16 32) a x).toNat < S512x16.size a)
theorem k0_idx662_inb : ∀ (k0_t1 : Fin k0_t1_loop.trips) (v940 : IVec S16 32) (v951 : IVec S16 32) (k0_hw662 : k0_chk662 k0_t1 v940 v951), ∀ (k0_h4 : k0_cond4 k0_t1 = 1#1), ∀ a x, ((![v940, v951] : Fin 2 → IVec S16 32) a x).toNat < S512x16.size a := fun k0_t1 v940 v951 k0_hw662 k0_h4 => k0_hw662 k0_h4

def k0_chk663 (k0_t1 : Fin k0_t1_loop.trips) (v940 : IVec S16 32) (v953 : IVec S16 32) : Prop :=
  (∀ (k0_h4 : k0_cond4 k0_t1 = 1#1), ∀ a x, ((![v940, v953] : Fin 2 → IVec S16 32) a x).toNat < S512x16.size a)
theorem k0_idx663_inb : ∀ (k0_t1 : Fin k0_t1_loop.trips) (v940 : IVec S16 32) (v953 : IVec S16 32) (k0_hw663 : k0_chk663 k0_t1 v940 v953), ∀ (k0_h4 : k0_cond4 k0_t1 = 1#1), ∀ a x, ((![v940, v953] : Fin 2 → IVec S16 32) a x).toNat < S512x16.size a := fun k0_t1 v940 v953 k0_hw663 k0_h4 => k0_hw663 k0_h4

def k0_chk664 (k0_t1 : Fin k0_t1_loop.trips) (v940 : IVec S16 32) (v955 : IVec S16 32) : Prop :=
  (∀ (k0_h4 : k0_cond4 k0_t1 = 1#1), ∀ a x, ((![v940, v955] : Fin 2 → IVec S16 32) a x).toNat < S512x16.size a)
theorem k0_idx664_inb : ∀ (k0_t1 : Fin k0_t1_loop.trips) (v940 : IVec S16 32) (v955 : IVec S16 32) (k0_hw664 : k0_chk664 k0_t1 v940 v955), ∀ (k0_h4 : k0_cond4 k0_t1 = 1#1), ∀ a x, ((![v940, v955] : Fin 2 → IVec S16 32) a x).toNat < S512x16.size a := fun k0_t1 v940 v955 k0_hw664 k0_h4 => k0_hw664 k0_h4

def k0_chk665 (k0_t1 : Fin k0_t1_loop.trips) (v940 : IVec S16 32) (v957 : IVec S16 32) : Prop :=
  (∀ (k0_h4 : k0_cond4 k0_t1 = 1#1), ∀ a x, ((![v940, v957] : Fin 2 → IVec S16 32) a x).toNat < S512x16.size a)
theorem k0_idx665_inb : ∀ (k0_t1 : Fin k0_t1_loop.trips) (v940 : IVec S16 32) (v957 : IVec S16 32) (k0_hw665 : k0_chk665 k0_t1 v940 v957), ∀ (k0_h4 : k0_cond4 k0_t1 = 1#1), ∀ a x, ((![v940, v957] : Fin 2 → IVec S16 32) a x).toNat < S512x16.size a := fun k0_t1 v940 v957 k0_hw665 k0_h4 => k0_hw665 k0_h4

def k0_chk666 (k0_t1 : Fin k0_t1_loop.trips) (v940 : IVec S16 32) (v959 : IVec S16 32) : Prop :=
  (∀ (k0_h4 : k0_cond4 k0_t1 = 1#1), ∀ a x, ((![v940, v959] : Fin 2 → IVec S16 32) a x).toNat < S512x16.size a)
theorem k0_idx666_inb : ∀ (k0_t1 : Fin k0_t1_loop.trips) (v940 : IVec S16 32) (v959 : IVec S16 32) (k0_hw666 : k0_chk666 k0_t1 v940 v959), ∀ (k0_h4 : k0_cond4 k0_t1 = 1#1), ∀ a x, ((![v940, v959] : Fin 2 → IVec S16 32) a x).toNat < S512x16.size a := fun k0_t1 v940 v959 k0_hw666 k0_h4 => k0_hw666 k0_h4

def k0_chk667 (k0_t1 : Fin k0_t1_loop.trips) (v940 : IVec S16 32) (v961 : IVec S16 32) : Prop :=
  (∀ (k0_h4 : k0_cond4 k0_t1 = 1#1), ∀ a x, ((![v940, v961] : Fin 2 → IVec S16 32) a x).toNat < S512x16.size a)
theorem k0_idx667_inb : ∀ (k0_t1 : Fin k0_t1_loop.trips) (v940 : IVec S16 32) (v961 : IVec S16 32) (k0_hw667 : k0_chk667 k0_t1 v940 v961), ∀ (k0_h4 : k0_cond4 k0_t1 = 1#1), ∀ a x, ((![v940, v961] : Fin 2 → IVec S16 32) a x).toNat < S512x16.size a := fun k0_t1 v940 v961 k0_hw667 k0_h4 => k0_hw667 k0_h4

def k0_chk668 (k0_t1 : Fin k0_t1_loop.trips) (v940 : IVec S16 32) (v963 : IVec S16 32) : Prop :=
  (∀ (k0_h4 : k0_cond4 k0_t1 = 1#1), ∀ a x, ((![v940, v963] : Fin 2 → IVec S16 32) a x).toNat < S512x16.size a)
theorem k0_idx668_inb : ∀ (k0_t1 : Fin k0_t1_loop.trips) (v940 : IVec S16 32) (v963 : IVec S16 32) (k0_hw668 : k0_chk668 k0_t1 v940 v963), ∀ (k0_h4 : k0_cond4 k0_t1 = 1#1), ∀ a x, ((![v940, v963] : Fin 2 → IVec S16 32) a x).toNat < S512x16.size a := fun k0_t1 v940 v963 k0_hw668 k0_h4 => k0_hw668 k0_h4

def k0_chk669 (k0_t1 : Fin k0_t1_loop.trips) (v940 : IVec S16 32) (v965 : IVec S16 32) : Prop :=
  (∀ (k0_h4 : k0_cond4 k0_t1 = 1#1), ∀ a x, ((![v940, v965] : Fin 2 → IVec S16 32) a x).toNat < S512x16.size a)
theorem k0_idx669_inb : ∀ (k0_t1 : Fin k0_t1_loop.trips) (v940 : IVec S16 32) (v965 : IVec S16 32) (k0_hw669 : k0_chk669 k0_t1 v940 v965), ∀ (k0_h4 : k0_cond4 k0_t1 = 1#1), ∀ a x, ((![v940, v965] : Fin 2 → IVec S16 32) a x).toNat < S512x16.size a := fun k0_t1 v940 v965 k0_hw669 k0_h4 => k0_hw669 k0_h4

def k0_chk670 (k0_t1 : Fin k0_t1_loop.trips) (v940 : IVec S16 32) (v967 : IVec S16 32) : Prop :=
  (∀ (k0_h4 : k0_cond4 k0_t1 = 1#1), ∀ a x, ((![v940, v967] : Fin 2 → IVec S16 32) a x).toNat < S512x16.size a)
theorem k0_idx670_inb : ∀ (k0_t1 : Fin k0_t1_loop.trips) (v940 : IVec S16 32) (v967 : IVec S16 32) (k0_hw670 : k0_chk670 k0_t1 v940 v967), ∀ (k0_h4 : k0_cond4 k0_t1 = 1#1), ∀ a x, ((![v940, v967] : Fin 2 → IVec S16 32) a x).toNat < S512x16.size a := fun k0_t1 v940 v967 k0_hw670 k0_h4 => k0_hw670 k0_h4

def k0_chk671 (k0_t1 : Fin k0_t1_loop.trips) (v940 : IVec S16 32) (v969 : IVec S16 32) : Prop :=
  (∀ (k0_h4 : k0_cond4 k0_t1 = 1#1), ∀ a x, ((![v940, v969] : Fin 2 → IVec S16 32) a x).toNat < S512x16.size a)
theorem k0_idx671_inb : ∀ (k0_t1 : Fin k0_t1_loop.trips) (v940 : IVec S16 32) (v969 : IVec S16 32) (k0_hw671 : k0_chk671 k0_t1 v940 v969), ∀ (k0_h4 : k0_cond4 k0_t1 = 1#1), ∀ a x, ((![v940, v969] : Fin 2 → IVec S16 32) a x).toNat < S512x16.size a := fun k0_t1 v940 v969 k0_hw671 k0_h4 => k0_hw671 k0_h4

def k0_chk672 (k0_t1 : Fin k0_t1_loop.trips) (v940 : IVec S16 32) (v971 : IVec S16 32) : Prop :=
  (∀ (k0_h4 : k0_cond4 k0_t1 = 1#1), ∀ a x, ((![v940, v971] : Fin 2 → IVec S16 32) a x).toNat < S512x16.size a)
theorem k0_idx672_inb : ∀ (k0_t1 : Fin k0_t1_loop.trips) (v940 : IVec S16 32) (v971 : IVec S16 32) (k0_hw672 : k0_chk672 k0_t1 v940 v971), ∀ (k0_h4 : k0_cond4 k0_t1 = 1#1), ∀ a x, ((![v940, v971] : Fin 2 → IVec S16 32) a x).toNat < S512x16.size a := fun k0_t1 v940 v971 k0_hw672 k0_h4 => k0_hw672 k0_h4

def k0_chk673 (k0_t1 : Fin k0_t1_loop.trips) (v1039 : IVec S16 32) (v1040 : IVec S16 32) : Prop :=
  (∀ (k0_h4 : k0_cond4 k0_t1 = 1#1), ∀ a x, ((![v1039, v1040] : Fin 2 → IVec S16 32) a x).toNat < S512x16.size a)
theorem k0_idx673_inb : ∀ (k0_t1 : Fin k0_t1_loop.trips) (v1039 : IVec S16 32) (v1040 : IVec S16 32) (k0_hw673 : k0_chk673 k0_t1 v1039 v1040), ∀ (k0_h4 : k0_cond4 k0_t1 = 1#1), ∀ a x, ((![v1039, v1040] : Fin 2 → IVec S16 32) a x).toNat < S512x16.size a := fun k0_t1 v1039 v1040 k0_hw673 k0_h4 => k0_hw673 k0_h4

def k0_chk674 (k0_t1 : Fin k0_t1_loop.trips) (v1039 : IVec S16 32) (v1042 : IVec S16 32) : Prop :=
  (∀ (k0_h4 : k0_cond4 k0_t1 = 1#1), ∀ a x, ((![v1039, v1042] : Fin 2 → IVec S16 32) a x).toNat < S512x16.size a)
theorem k0_idx674_inb : ∀ (k0_t1 : Fin k0_t1_loop.trips) (v1039 : IVec S16 32) (v1042 : IVec S16 32) (k0_hw674 : k0_chk674 k0_t1 v1039 v1042), ∀ (k0_h4 : k0_cond4 k0_t1 = 1#1), ∀ a x, ((![v1039, v1042] : Fin 2 → IVec S16 32) a x).toNat < S512x16.size a := fun k0_t1 v1039 v1042 k0_hw674 k0_h4 => k0_hw674 k0_h4

def k0_chk675 (k0_t1 : Fin k0_t1_loop.trips) (v1039 : IVec S16 32) (v1044 : IVec S16 32) : Prop :=
  (∀ (k0_h4 : k0_cond4 k0_t1 = 1#1), ∀ a x, ((![v1039, v1044] : Fin 2 → IVec S16 32) a x).toNat < S512x16.size a)
theorem k0_idx675_inb : ∀ (k0_t1 : Fin k0_t1_loop.trips) (v1039 : IVec S16 32) (v1044 : IVec S16 32) (k0_hw675 : k0_chk675 k0_t1 v1039 v1044), ∀ (k0_h4 : k0_cond4 k0_t1 = 1#1), ∀ a x, ((![v1039, v1044] : Fin 2 → IVec S16 32) a x).toNat < S512x16.size a := fun k0_t1 v1039 v1044 k0_hw675 k0_h4 => k0_hw675 k0_h4

def k0_chk676 (k0_t1 : Fin k0_t1_loop.trips) (v1039 : IVec S16 32) (v1046 : IVec S16 32) : Prop :=
  (∀ (k0_h4 : k0_cond4 k0_t1 = 1#1), ∀ a x, ((![v1039, v1046] : Fin 2 → IVec S16 32) a x).toNat < S512x16.size a)
theorem k0_idx676_inb : ∀ (k0_t1 : Fin k0_t1_loop.trips) (v1039 : IVec S16 32) (v1046 : IVec S16 32) (k0_hw676 : k0_chk676 k0_t1 v1039 v1046), ∀ (k0_h4 : k0_cond4 k0_t1 = 1#1), ∀ a x, ((![v1039, v1046] : Fin 2 → IVec S16 32) a x).toNat < S512x16.size a := fun k0_t1 v1039 v1046 k0_hw676 k0_h4 => k0_hw676 k0_h4

def k0_chk677 (k0_t1 : Fin k0_t1_loop.trips) (v1039 : IVec S16 32) (v1048 : IVec S16 32) : Prop :=
  (∀ (k0_h4 : k0_cond4 k0_t1 = 1#1), ∀ a x, ((![v1039, v1048] : Fin 2 → IVec S16 32) a x).toNat < S512x16.size a)
theorem k0_idx677_inb : ∀ (k0_t1 : Fin k0_t1_loop.trips) (v1039 : IVec S16 32) (v1048 : IVec S16 32) (k0_hw677 : k0_chk677 k0_t1 v1039 v1048), ∀ (k0_h4 : k0_cond4 k0_t1 = 1#1), ∀ a x, ((![v1039, v1048] : Fin 2 → IVec S16 32) a x).toNat < S512x16.size a := fun k0_t1 v1039 v1048 k0_hw677 k0_h4 => k0_hw677 k0_h4

def k0_chk678 (k0_t1 : Fin k0_t1_loop.trips) (v1039 : IVec S16 32) (v1050 : IVec S16 32) : Prop :=
  (∀ (k0_h4 : k0_cond4 k0_t1 = 1#1), ∀ a x, ((![v1039, v1050] : Fin 2 → IVec S16 32) a x).toNat < S512x16.size a)
theorem k0_idx678_inb : ∀ (k0_t1 : Fin k0_t1_loop.trips) (v1039 : IVec S16 32) (v1050 : IVec S16 32) (k0_hw678 : k0_chk678 k0_t1 v1039 v1050), ∀ (k0_h4 : k0_cond4 k0_t1 = 1#1), ∀ a x, ((![v1039, v1050] : Fin 2 → IVec S16 32) a x).toNat < S512x16.size a := fun k0_t1 v1039 v1050 k0_hw678 k0_h4 => k0_hw678 k0_h4

def k0_chk679 (k0_t1 : Fin k0_t1_loop.trips) (v1039 : IVec S16 32) (v1052 : IVec S16 32) : Prop :=
  (∀ (k0_h4 : k0_cond4 k0_t1 = 1#1), ∀ a x, ((![v1039, v1052] : Fin 2 → IVec S16 32) a x).toNat < S512x16.size a)
theorem k0_idx679_inb : ∀ (k0_t1 : Fin k0_t1_loop.trips) (v1039 : IVec S16 32) (v1052 : IVec S16 32) (k0_hw679 : k0_chk679 k0_t1 v1039 v1052), ∀ (k0_h4 : k0_cond4 k0_t1 = 1#1), ∀ a x, ((![v1039, v1052] : Fin 2 → IVec S16 32) a x).toNat < S512x16.size a := fun k0_t1 v1039 v1052 k0_hw679 k0_h4 => k0_hw679 k0_h4

def k0_chk680 (k0_t1 : Fin k0_t1_loop.trips) (v1039 : IVec S16 32) (v1054 : IVec S16 32) : Prop :=
  (∀ (k0_h4 : k0_cond4 k0_t1 = 1#1), ∀ a x, ((![v1039, v1054] : Fin 2 → IVec S16 32) a x).toNat < S512x16.size a)
theorem k0_idx680_inb : ∀ (k0_t1 : Fin k0_t1_loop.trips) (v1039 : IVec S16 32) (v1054 : IVec S16 32) (k0_hw680 : k0_chk680 k0_t1 v1039 v1054), ∀ (k0_h4 : k0_cond4 k0_t1 = 1#1), ∀ a x, ((![v1039, v1054] : Fin 2 → IVec S16 32) a x).toNat < S512x16.size a := fun k0_t1 v1039 v1054 k0_hw680 k0_h4 => k0_hw680 k0_h4

def k0_chk681 (k0_t1 : Fin k0_t1_loop.trips) (v1039 : IVec S16 32) (v1056 : IVec S16 32) : Prop :=
  (∀ (k0_h4 : k0_cond4 k0_t1 = 1#1), ∀ a x, ((![v1039, v1056] : Fin 2 → IVec S16 32) a x).toNat < S512x16.size a)
theorem k0_idx681_inb : ∀ (k0_t1 : Fin k0_t1_loop.trips) (v1039 : IVec S16 32) (v1056 : IVec S16 32) (k0_hw681 : k0_chk681 k0_t1 v1039 v1056), ∀ (k0_h4 : k0_cond4 k0_t1 = 1#1), ∀ a x, ((![v1039, v1056] : Fin 2 → IVec S16 32) a x).toNat < S512x16.size a := fun k0_t1 v1039 v1056 k0_hw681 k0_h4 => k0_hw681 k0_h4

def k0_chk682 (k0_t1 : Fin k0_t1_loop.trips) (v1039 : IVec S16 32) (v1058 : IVec S16 32) : Prop :=
  (∀ (k0_h4 : k0_cond4 k0_t1 = 1#1), ∀ a x, ((![v1039, v1058] : Fin 2 → IVec S16 32) a x).toNat < S512x16.size a)
theorem k0_idx682_inb : ∀ (k0_t1 : Fin k0_t1_loop.trips) (v1039 : IVec S16 32) (v1058 : IVec S16 32) (k0_hw682 : k0_chk682 k0_t1 v1039 v1058), ∀ (k0_h4 : k0_cond4 k0_t1 = 1#1), ∀ a x, ((![v1039, v1058] : Fin 2 → IVec S16 32) a x).toNat < S512x16.size a := fun k0_t1 v1039 v1058 k0_hw682 k0_h4 => k0_hw682 k0_h4

def k0_chk683 (k0_t1 : Fin k0_t1_loop.trips) (v1039 : IVec S16 32) (v1060 : IVec S16 32) : Prop :=
  (∀ (k0_h4 : k0_cond4 k0_t1 = 1#1), ∀ a x, ((![v1039, v1060] : Fin 2 → IVec S16 32) a x).toNat < S512x16.size a)
theorem k0_idx683_inb : ∀ (k0_t1 : Fin k0_t1_loop.trips) (v1039 : IVec S16 32) (v1060 : IVec S16 32) (k0_hw683 : k0_chk683 k0_t1 v1039 v1060), ∀ (k0_h4 : k0_cond4 k0_t1 = 1#1), ∀ a x, ((![v1039, v1060] : Fin 2 → IVec S16 32) a x).toNat < S512x16.size a := fun k0_t1 v1039 v1060 k0_hw683 k0_h4 => k0_hw683 k0_h4

def k0_chk684 (k0_t1 : Fin k0_t1_loop.trips) (v1039 : IVec S16 32) (v1062 : IVec S16 32) : Prop :=
  (∀ (k0_h4 : k0_cond4 k0_t1 = 1#1), ∀ a x, ((![v1039, v1062] : Fin 2 → IVec S16 32) a x).toNat < S512x16.size a)
theorem k0_idx684_inb : ∀ (k0_t1 : Fin k0_t1_loop.trips) (v1039 : IVec S16 32) (v1062 : IVec S16 32) (k0_hw684 : k0_chk684 k0_t1 v1039 v1062), ∀ (k0_h4 : k0_cond4 k0_t1 = 1#1), ∀ a x, ((![v1039, v1062] : Fin 2 → IVec S16 32) a x).toNat < S512x16.size a := fun k0_t1 v1039 v1062 k0_hw684 k0_h4 => k0_hw684 k0_h4

def k0_chk685 (k0_t1 : Fin k0_t1_loop.trips) (v1039 : IVec S16 32) (v1064 : IVec S16 32) : Prop :=
  (∀ (k0_h4 : k0_cond4 k0_t1 = 1#1), ∀ a x, ((![v1039, v1064] : Fin 2 → IVec S16 32) a x).toNat < S512x16.size a)
theorem k0_idx685_inb : ∀ (k0_t1 : Fin k0_t1_loop.trips) (v1039 : IVec S16 32) (v1064 : IVec S16 32) (k0_hw685 : k0_chk685 k0_t1 v1039 v1064), ∀ (k0_h4 : k0_cond4 k0_t1 = 1#1), ∀ a x, ((![v1039, v1064] : Fin 2 → IVec S16 32) a x).toNat < S512x16.size a := fun k0_t1 v1039 v1064 k0_hw685 k0_h4 => k0_hw685 k0_h4

def k0_chk686 (k0_t1 : Fin k0_t1_loop.trips) (v1039 : IVec S16 32) (v1066 : IVec S16 32) : Prop :=
  (∀ (k0_h4 : k0_cond4 k0_t1 = 1#1), ∀ a x, ((![v1039, v1066] : Fin 2 → IVec S16 32) a x).toNat < S512x16.size a)
theorem k0_idx686_inb : ∀ (k0_t1 : Fin k0_t1_loop.trips) (v1039 : IVec S16 32) (v1066 : IVec S16 32) (k0_hw686 : k0_chk686 k0_t1 v1039 v1066), ∀ (k0_h4 : k0_cond4 k0_t1 = 1#1), ∀ a x, ((![v1039, v1066] : Fin 2 → IVec S16 32) a x).toNat < S512x16.size a := fun k0_t1 v1039 v1066 k0_hw686 k0_h4 => k0_hw686 k0_h4

def k0_chk687 (k0_t1 : Fin k0_t1_loop.trips) (v1039 : IVec S16 32) (v1068 : IVec S16 32) : Prop :=
  (∀ (k0_h4 : k0_cond4 k0_t1 = 1#1), ∀ a x, ((![v1039, v1068] : Fin 2 → IVec S16 32) a x).toNat < S512x16.size a)
theorem k0_idx687_inb : ∀ (k0_t1 : Fin k0_t1_loop.trips) (v1039 : IVec S16 32) (v1068 : IVec S16 32) (k0_hw687 : k0_chk687 k0_t1 v1039 v1068), ∀ (k0_h4 : k0_cond4 k0_t1 = 1#1), ∀ a x, ((![v1039, v1068] : Fin 2 → IVec S16 32) a x).toNat < S512x16.size a := fun k0_t1 v1039 v1068 k0_hw687 k0_h4 => k0_hw687 k0_h4

def k0_chk688 (k0_t1 : Fin k0_t1_loop.trips) (v1039 : IVec S16 32) (v1070 : IVec S16 32) : Prop :=
  (∀ (k0_h4 : k0_cond4 k0_t1 = 1#1), ∀ a x, ((![v1039, v1070] : Fin 2 → IVec S16 32) a x).toNat < S512x16.size a)
theorem k0_idx688_inb : ∀ (k0_t1 : Fin k0_t1_loop.trips) (v1039 : IVec S16 32) (v1070 : IVec S16 32) (k0_hw688 : k0_chk688 k0_t1 v1039 v1070), ∀ (k0_h4 : k0_cond4 k0_t1 = 1#1), ∀ a x, ((![v1039, v1070] : Fin 2 → IVec S16 32) a x).toNat < S512x16.size a := fun k0_t1 v1039 v1070 k0_hw688 k0_h4 => k0_hw688 k0_h4

def k0_chk689 (k0_t1 : Fin k0_t1_loop.trips) (v1138 : IVec S16 32) (v1139 : IVec S16 32) : Prop :=
  (∀ (k0_h4 : k0_cond4 k0_t1 = 1#1), ∀ a x, ((![v1138, v1139] : Fin 2 → IVec S16 32) a x).toNat < S512x16.size a)
theorem k0_idx689_inb : ∀ (k0_t1 : Fin k0_t1_loop.trips) (v1138 : IVec S16 32) (v1139 : IVec S16 32) (k0_hw689 : k0_chk689 k0_t1 v1138 v1139), ∀ (k0_h4 : k0_cond4 k0_t1 = 1#1), ∀ a x, ((![v1138, v1139] : Fin 2 → IVec S16 32) a x).toNat < S512x16.size a := fun k0_t1 v1138 v1139 k0_hw689 k0_h4 => k0_hw689 k0_h4

def k0_chk690 (k0_t1 : Fin k0_t1_loop.trips) (v1138 : IVec S16 32) (v1141 : IVec S16 32) : Prop :=
  (∀ (k0_h4 : k0_cond4 k0_t1 = 1#1), ∀ a x, ((![v1138, v1141] : Fin 2 → IVec S16 32) a x).toNat < S512x16.size a)
theorem k0_idx690_inb : ∀ (k0_t1 : Fin k0_t1_loop.trips) (v1138 : IVec S16 32) (v1141 : IVec S16 32) (k0_hw690 : k0_chk690 k0_t1 v1138 v1141), ∀ (k0_h4 : k0_cond4 k0_t1 = 1#1), ∀ a x, ((![v1138, v1141] : Fin 2 → IVec S16 32) a x).toNat < S512x16.size a := fun k0_t1 v1138 v1141 k0_hw690 k0_h4 => k0_hw690 k0_h4

def k0_chk691 (k0_t1 : Fin k0_t1_loop.trips) (v1138 : IVec S16 32) (v1143 : IVec S16 32) : Prop :=
  (∀ (k0_h4 : k0_cond4 k0_t1 = 1#1), ∀ a x, ((![v1138, v1143] : Fin 2 → IVec S16 32) a x).toNat < S512x16.size a)
theorem k0_idx691_inb : ∀ (k0_t1 : Fin k0_t1_loop.trips) (v1138 : IVec S16 32) (v1143 : IVec S16 32) (k0_hw691 : k0_chk691 k0_t1 v1138 v1143), ∀ (k0_h4 : k0_cond4 k0_t1 = 1#1), ∀ a x, ((![v1138, v1143] : Fin 2 → IVec S16 32) a x).toNat < S512x16.size a := fun k0_t1 v1138 v1143 k0_hw691 k0_h4 => k0_hw691 k0_h4

def k0_chk692 (k0_t1 : Fin k0_t1_loop.trips) (v1138 : IVec S16 32) (v1145 : IVec S16 32) : Prop :=
  (∀ (k0_h4 : k0_cond4 k0_t1 = 1#1), ∀ a x, ((![v1138, v1145] : Fin 2 → IVec S16 32) a x).toNat < S512x16.size a)
theorem k0_idx692_inb : ∀ (k0_t1 : Fin k0_t1_loop.trips) (v1138 : IVec S16 32) (v1145 : IVec S16 32) (k0_hw692 : k0_chk692 k0_t1 v1138 v1145), ∀ (k0_h4 : k0_cond4 k0_t1 = 1#1), ∀ a x, ((![v1138, v1145] : Fin 2 → IVec S16 32) a x).toNat < S512x16.size a := fun k0_t1 v1138 v1145 k0_hw692 k0_h4 => k0_hw692 k0_h4

def k0_chk693 (k0_t1 : Fin k0_t1_loop.trips) (v1138 : IVec S16 32) (v1147 : IVec S16 32) : Prop :=
  (∀ (k0_h4 : k0_cond4 k0_t1 = 1#1), ∀ a x, ((![v1138, v1147] : Fin 2 → IVec S16 32) a x).toNat < S512x16.size a)
theorem k0_idx693_inb : ∀ (k0_t1 : Fin k0_t1_loop.trips) (v1138 : IVec S16 32) (v1147 : IVec S16 32) (k0_hw693 : k0_chk693 k0_t1 v1138 v1147), ∀ (k0_h4 : k0_cond4 k0_t1 = 1#1), ∀ a x, ((![v1138, v1147] : Fin 2 → IVec S16 32) a x).toNat < S512x16.size a := fun k0_t1 v1138 v1147 k0_hw693 k0_h4 => k0_hw693 k0_h4

def k0_chk694 (k0_t1 : Fin k0_t1_loop.trips) (v1138 : IVec S16 32) (v1149 : IVec S16 32) : Prop :=
  (∀ (k0_h4 : k0_cond4 k0_t1 = 1#1), ∀ a x, ((![v1138, v1149] : Fin 2 → IVec S16 32) a x).toNat < S512x16.size a)
theorem k0_idx694_inb : ∀ (k0_t1 : Fin k0_t1_loop.trips) (v1138 : IVec S16 32) (v1149 : IVec S16 32) (k0_hw694 : k0_chk694 k0_t1 v1138 v1149), ∀ (k0_h4 : k0_cond4 k0_t1 = 1#1), ∀ a x, ((![v1138, v1149] : Fin 2 → IVec S16 32) a x).toNat < S512x16.size a := fun k0_t1 v1138 v1149 k0_hw694 k0_h4 => k0_hw694 k0_h4

def k0_chk695 (k0_t1 : Fin k0_t1_loop.trips) (v1138 : IVec S16 32) (v1151 : IVec S16 32) : Prop :=
  (∀ (k0_h4 : k0_cond4 k0_t1 = 1#1), ∀ a x, ((![v1138, v1151] : Fin 2 → IVec S16 32) a x).toNat < S512x16.size a)
theorem k0_idx695_inb : ∀ (k0_t1 : Fin k0_t1_loop.trips) (v1138 : IVec S16 32) (v1151 : IVec S16 32) (k0_hw695 : k0_chk695 k0_t1 v1138 v1151), ∀ (k0_h4 : k0_cond4 k0_t1 = 1#1), ∀ a x, ((![v1138, v1151] : Fin 2 → IVec S16 32) a x).toNat < S512x16.size a := fun k0_t1 v1138 v1151 k0_hw695 k0_h4 => k0_hw695 k0_h4

def k0_chk696 (k0_t1 : Fin k0_t1_loop.trips) (v1138 : IVec S16 32) (v1153 : IVec S16 32) : Prop :=
  (∀ (k0_h4 : k0_cond4 k0_t1 = 1#1), ∀ a x, ((![v1138, v1153] : Fin 2 → IVec S16 32) a x).toNat < S512x16.size a)
theorem k0_idx696_inb : ∀ (k0_t1 : Fin k0_t1_loop.trips) (v1138 : IVec S16 32) (v1153 : IVec S16 32) (k0_hw696 : k0_chk696 k0_t1 v1138 v1153), ∀ (k0_h4 : k0_cond4 k0_t1 = 1#1), ∀ a x, ((![v1138, v1153] : Fin 2 → IVec S16 32) a x).toNat < S512x16.size a := fun k0_t1 v1138 v1153 k0_hw696 k0_h4 => k0_hw696 k0_h4

def k0_chk697 (k0_t1 : Fin k0_t1_loop.trips) (v1138 : IVec S16 32) (v1155 : IVec S16 32) : Prop :=
  (∀ (k0_h4 : k0_cond4 k0_t1 = 1#1), ∀ a x, ((![v1138, v1155] : Fin 2 → IVec S16 32) a x).toNat < S512x16.size a)
theorem k0_idx697_inb : ∀ (k0_t1 : Fin k0_t1_loop.trips) (v1138 : IVec S16 32) (v1155 : IVec S16 32) (k0_hw697 : k0_chk697 k0_t1 v1138 v1155), ∀ (k0_h4 : k0_cond4 k0_t1 = 1#1), ∀ a x, ((![v1138, v1155] : Fin 2 → IVec S16 32) a x).toNat < S512x16.size a := fun k0_t1 v1138 v1155 k0_hw697 k0_h4 => k0_hw697 k0_h4

def k0_chk698 (k0_t1 : Fin k0_t1_loop.trips) (v1138 : IVec S16 32) (v1157 : IVec S16 32) : Prop :=
  (∀ (k0_h4 : k0_cond4 k0_t1 = 1#1), ∀ a x, ((![v1138, v1157] : Fin 2 → IVec S16 32) a x).toNat < S512x16.size a)
theorem k0_idx698_inb : ∀ (k0_t1 : Fin k0_t1_loop.trips) (v1138 : IVec S16 32) (v1157 : IVec S16 32) (k0_hw698 : k0_chk698 k0_t1 v1138 v1157), ∀ (k0_h4 : k0_cond4 k0_t1 = 1#1), ∀ a x, ((![v1138, v1157] : Fin 2 → IVec S16 32) a x).toNat < S512x16.size a := fun k0_t1 v1138 v1157 k0_hw698 k0_h4 => k0_hw698 k0_h4

def k0_chk699 (k0_t1 : Fin k0_t1_loop.trips) (v1138 : IVec S16 32) (v1159 : IVec S16 32) : Prop :=
  (∀ (k0_h4 : k0_cond4 k0_t1 = 1#1), ∀ a x, ((![v1138, v1159] : Fin 2 → IVec S16 32) a x).toNat < S512x16.size a)
theorem k0_idx699_inb : ∀ (k0_t1 : Fin k0_t1_loop.trips) (v1138 : IVec S16 32) (v1159 : IVec S16 32) (k0_hw699 : k0_chk699 k0_t1 v1138 v1159), ∀ (k0_h4 : k0_cond4 k0_t1 = 1#1), ∀ a x, ((![v1138, v1159] : Fin 2 → IVec S16 32) a x).toNat < S512x16.size a := fun k0_t1 v1138 v1159 k0_hw699 k0_h4 => k0_hw699 k0_h4

def k0_chk700 (k0_t1 : Fin k0_t1_loop.trips) (v1138 : IVec S16 32) (v1161 : IVec S16 32) : Prop :=
  (∀ (k0_h4 : k0_cond4 k0_t1 = 1#1), ∀ a x, ((![v1138, v1161] : Fin 2 → IVec S16 32) a x).toNat < S512x16.size a)
theorem k0_idx700_inb : ∀ (k0_t1 : Fin k0_t1_loop.trips) (v1138 : IVec S16 32) (v1161 : IVec S16 32) (k0_hw700 : k0_chk700 k0_t1 v1138 v1161), ∀ (k0_h4 : k0_cond4 k0_t1 = 1#1), ∀ a x, ((![v1138, v1161] : Fin 2 → IVec S16 32) a x).toNat < S512x16.size a := fun k0_t1 v1138 v1161 k0_hw700 k0_h4 => k0_hw700 k0_h4

def k0_chk701 (k0_t1 : Fin k0_t1_loop.trips) (v1138 : IVec S16 32) (v1163 : IVec S16 32) : Prop :=
  (∀ (k0_h4 : k0_cond4 k0_t1 = 1#1), ∀ a x, ((![v1138, v1163] : Fin 2 → IVec S16 32) a x).toNat < S512x16.size a)
theorem k0_idx701_inb : ∀ (k0_t1 : Fin k0_t1_loop.trips) (v1138 : IVec S16 32) (v1163 : IVec S16 32) (k0_hw701 : k0_chk701 k0_t1 v1138 v1163), ∀ (k0_h4 : k0_cond4 k0_t1 = 1#1), ∀ a x, ((![v1138, v1163] : Fin 2 → IVec S16 32) a x).toNat < S512x16.size a := fun k0_t1 v1138 v1163 k0_hw701 k0_h4 => k0_hw701 k0_h4

def k0_chk702 (k0_t1 : Fin k0_t1_loop.trips) (v1138 : IVec S16 32) (v1165 : IVec S16 32) : Prop :=
  (∀ (k0_h4 : k0_cond4 k0_t1 = 1#1), ∀ a x, ((![v1138, v1165] : Fin 2 → IVec S16 32) a x).toNat < S512x16.size a)
theorem k0_idx702_inb : ∀ (k0_t1 : Fin k0_t1_loop.trips) (v1138 : IVec S16 32) (v1165 : IVec S16 32) (k0_hw702 : k0_chk702 k0_t1 v1138 v1165), ∀ (k0_h4 : k0_cond4 k0_t1 = 1#1), ∀ a x, ((![v1138, v1165] : Fin 2 → IVec S16 32) a x).toNat < S512x16.size a := fun k0_t1 v1138 v1165 k0_hw702 k0_h4 => k0_hw702 k0_h4

def k0_chk703 (k0_t1 : Fin k0_t1_loop.trips) (v1138 : IVec S16 32) (v1167 : IVec S16 32) : Prop :=
  (∀ (k0_h4 : k0_cond4 k0_t1 = 1#1), ∀ a x, ((![v1138, v1167] : Fin 2 → IVec S16 32) a x).toNat < S512x16.size a)
theorem k0_idx703_inb : ∀ (k0_t1 : Fin k0_t1_loop.trips) (v1138 : IVec S16 32) (v1167 : IVec S16 32) (k0_hw703 : k0_chk703 k0_t1 v1138 v1167), ∀ (k0_h4 : k0_cond4 k0_t1 = 1#1), ∀ a x, ((![v1138, v1167] : Fin 2 → IVec S16 32) a x).toNat < S512x16.size a := fun k0_t1 v1138 v1167 k0_hw703 k0_h4 => k0_hw703 k0_h4

def k0_chk704 (k0_t1 : Fin k0_t1_loop.trips) (v1138 : IVec S16 32) (v1169 : IVec S16 32) : Prop :=
  (∀ (k0_h4 : k0_cond4 k0_t1 = 1#1), ∀ a x, ((![v1138, v1169] : Fin 2 → IVec S16 32) a x).toNat < S512x16.size a)
theorem k0_idx704_inb : ∀ (k0_t1 : Fin k0_t1_loop.trips) (v1138 : IVec S16 32) (v1169 : IVec S16 32) (k0_hw704 : k0_chk704 k0_t1 v1138 v1169), ∀ (k0_h4 : k0_cond4 k0_t1 = 1#1), ∀ a x, ((![v1138, v1169] : Fin 2 → IVec S16 32) a x).toNat < S512x16.size a := fun k0_t1 v1138 v1169 k0_hw704 k0_h4 => k0_hw704 k0_h4

def k0_chk705 (k0_t1 : Fin k0_t1_loop.trips) (v1237 : IVec S16 32) (v1238 : IVec S16 32) : Prop :=
  (∀ (k0_h4 : k0_cond4 k0_t1 = 1#1), ∀ a x, ((![v1237, v1238] : Fin 2 → IVec S16 32) a x).toNat < S512x16.size a)
theorem k0_idx705_inb : ∀ (k0_t1 : Fin k0_t1_loop.trips) (v1237 : IVec S16 32) (v1238 : IVec S16 32) (k0_hw705 : k0_chk705 k0_t1 v1237 v1238), ∀ (k0_h4 : k0_cond4 k0_t1 = 1#1), ∀ a x, ((![v1237, v1238] : Fin 2 → IVec S16 32) a x).toNat < S512x16.size a := fun k0_t1 v1237 v1238 k0_hw705 k0_h4 => k0_hw705 k0_h4

def k0_chk706 (k0_t1 : Fin k0_t1_loop.trips) (v1237 : IVec S16 32) (v1240 : IVec S16 32) : Prop :=
  (∀ (k0_h4 : k0_cond4 k0_t1 = 1#1), ∀ a x, ((![v1237, v1240] : Fin 2 → IVec S16 32) a x).toNat < S512x16.size a)
theorem k0_idx706_inb : ∀ (k0_t1 : Fin k0_t1_loop.trips) (v1237 : IVec S16 32) (v1240 : IVec S16 32) (k0_hw706 : k0_chk706 k0_t1 v1237 v1240), ∀ (k0_h4 : k0_cond4 k0_t1 = 1#1), ∀ a x, ((![v1237, v1240] : Fin 2 → IVec S16 32) a x).toNat < S512x16.size a := fun k0_t1 v1237 v1240 k0_hw706 k0_h4 => k0_hw706 k0_h4

def k0_chk707 (k0_t1 : Fin k0_t1_loop.trips) (v1237 : IVec S16 32) (v1242 : IVec S16 32) : Prop :=
  (∀ (k0_h4 : k0_cond4 k0_t1 = 1#1), ∀ a x, ((![v1237, v1242] : Fin 2 → IVec S16 32) a x).toNat < S512x16.size a)
theorem k0_idx707_inb : ∀ (k0_t1 : Fin k0_t1_loop.trips) (v1237 : IVec S16 32) (v1242 : IVec S16 32) (k0_hw707 : k0_chk707 k0_t1 v1237 v1242), ∀ (k0_h4 : k0_cond4 k0_t1 = 1#1), ∀ a x, ((![v1237, v1242] : Fin 2 → IVec S16 32) a x).toNat < S512x16.size a := fun k0_t1 v1237 v1242 k0_hw707 k0_h4 => k0_hw707 k0_h4

def k0_chk708 (k0_t1 : Fin k0_t1_loop.trips) (v1237 : IVec S16 32) (v1244 : IVec S16 32) : Prop :=
  (∀ (k0_h4 : k0_cond4 k0_t1 = 1#1), ∀ a x, ((![v1237, v1244] : Fin 2 → IVec S16 32) a x).toNat < S512x16.size a)
theorem k0_idx708_inb : ∀ (k0_t1 : Fin k0_t1_loop.trips) (v1237 : IVec S16 32) (v1244 : IVec S16 32) (k0_hw708 : k0_chk708 k0_t1 v1237 v1244), ∀ (k0_h4 : k0_cond4 k0_t1 = 1#1), ∀ a x, ((![v1237, v1244] : Fin 2 → IVec S16 32) a x).toNat < S512x16.size a := fun k0_t1 v1237 v1244 k0_hw708 k0_h4 => k0_hw708 k0_h4

def k0_chk709 (k0_t1 : Fin k0_t1_loop.trips) (v1237 : IVec S16 32) (v1246 : IVec S16 32) : Prop :=
  (∀ (k0_h4 : k0_cond4 k0_t1 = 1#1), ∀ a x, ((![v1237, v1246] : Fin 2 → IVec S16 32) a x).toNat < S512x16.size a)
theorem k0_idx709_inb : ∀ (k0_t1 : Fin k0_t1_loop.trips) (v1237 : IVec S16 32) (v1246 : IVec S16 32) (k0_hw709 : k0_chk709 k0_t1 v1237 v1246), ∀ (k0_h4 : k0_cond4 k0_t1 = 1#1), ∀ a x, ((![v1237, v1246] : Fin 2 → IVec S16 32) a x).toNat < S512x16.size a := fun k0_t1 v1237 v1246 k0_hw709 k0_h4 => k0_hw709 k0_h4

def k0_chk710 (k0_t1 : Fin k0_t1_loop.trips) (v1237 : IVec S16 32) (v1248 : IVec S16 32) : Prop :=
  (∀ (k0_h4 : k0_cond4 k0_t1 = 1#1), ∀ a x, ((![v1237, v1248] : Fin 2 → IVec S16 32) a x).toNat < S512x16.size a)
theorem k0_idx710_inb : ∀ (k0_t1 : Fin k0_t1_loop.trips) (v1237 : IVec S16 32) (v1248 : IVec S16 32) (k0_hw710 : k0_chk710 k0_t1 v1237 v1248), ∀ (k0_h4 : k0_cond4 k0_t1 = 1#1), ∀ a x, ((![v1237, v1248] : Fin 2 → IVec S16 32) a x).toNat < S512x16.size a := fun k0_t1 v1237 v1248 k0_hw710 k0_h4 => k0_hw710 k0_h4

def k0_chk711 (k0_t1 : Fin k0_t1_loop.trips) (v1237 : IVec S16 32) (v1250 : IVec S16 32) : Prop :=
  (∀ (k0_h4 : k0_cond4 k0_t1 = 1#1), ∀ a x, ((![v1237, v1250] : Fin 2 → IVec S16 32) a x).toNat < S512x16.size a)
theorem k0_idx711_inb : ∀ (k0_t1 : Fin k0_t1_loop.trips) (v1237 : IVec S16 32) (v1250 : IVec S16 32) (k0_hw711 : k0_chk711 k0_t1 v1237 v1250), ∀ (k0_h4 : k0_cond4 k0_t1 = 1#1), ∀ a x, ((![v1237, v1250] : Fin 2 → IVec S16 32) a x).toNat < S512x16.size a := fun k0_t1 v1237 v1250 k0_hw711 k0_h4 => k0_hw711 k0_h4

def k0_chk712 (k0_t1 : Fin k0_t1_loop.trips) (v1237 : IVec S16 32) (v1252 : IVec S16 32) : Prop :=
  (∀ (k0_h4 : k0_cond4 k0_t1 = 1#1), ∀ a x, ((![v1237, v1252] : Fin 2 → IVec S16 32) a x).toNat < S512x16.size a)
theorem k0_idx712_inb : ∀ (k0_t1 : Fin k0_t1_loop.trips) (v1237 : IVec S16 32) (v1252 : IVec S16 32) (k0_hw712 : k0_chk712 k0_t1 v1237 v1252), ∀ (k0_h4 : k0_cond4 k0_t1 = 1#1), ∀ a x, ((![v1237, v1252] : Fin 2 → IVec S16 32) a x).toNat < S512x16.size a := fun k0_t1 v1237 v1252 k0_hw712 k0_h4 => k0_hw712 k0_h4

def k0_chk713 (k0_t1 : Fin k0_t1_loop.trips) (v1237 : IVec S16 32) (v1254 : IVec S16 32) : Prop :=
  (∀ (k0_h4 : k0_cond4 k0_t1 = 1#1), ∀ a x, ((![v1237, v1254] : Fin 2 → IVec S16 32) a x).toNat < S512x16.size a)
theorem k0_idx713_inb : ∀ (k0_t1 : Fin k0_t1_loop.trips) (v1237 : IVec S16 32) (v1254 : IVec S16 32) (k0_hw713 : k0_chk713 k0_t1 v1237 v1254), ∀ (k0_h4 : k0_cond4 k0_t1 = 1#1), ∀ a x, ((![v1237, v1254] : Fin 2 → IVec S16 32) a x).toNat < S512x16.size a := fun k0_t1 v1237 v1254 k0_hw713 k0_h4 => k0_hw713 k0_h4

def k0_chk714 (k0_t1 : Fin k0_t1_loop.trips) (v1237 : IVec S16 32) (v1256 : IVec S16 32) : Prop :=
  (∀ (k0_h4 : k0_cond4 k0_t1 = 1#1), ∀ a x, ((![v1237, v1256] : Fin 2 → IVec S16 32) a x).toNat < S512x16.size a)
theorem k0_idx714_inb : ∀ (k0_t1 : Fin k0_t1_loop.trips) (v1237 : IVec S16 32) (v1256 : IVec S16 32) (k0_hw714 : k0_chk714 k0_t1 v1237 v1256), ∀ (k0_h4 : k0_cond4 k0_t1 = 1#1), ∀ a x, ((![v1237, v1256] : Fin 2 → IVec S16 32) a x).toNat < S512x16.size a := fun k0_t1 v1237 v1256 k0_hw714 k0_h4 => k0_hw714 k0_h4

def k0_chk715 (k0_t1 : Fin k0_t1_loop.trips) (v1237 : IVec S16 32) (v1258 : IVec S16 32) : Prop :=
  (∀ (k0_h4 : k0_cond4 k0_t1 = 1#1), ∀ a x, ((![v1237, v1258] : Fin 2 → IVec S16 32) a x).toNat < S512x16.size a)
theorem k0_idx715_inb : ∀ (k0_t1 : Fin k0_t1_loop.trips) (v1237 : IVec S16 32) (v1258 : IVec S16 32) (k0_hw715 : k0_chk715 k0_t1 v1237 v1258), ∀ (k0_h4 : k0_cond4 k0_t1 = 1#1), ∀ a x, ((![v1237, v1258] : Fin 2 → IVec S16 32) a x).toNat < S512x16.size a := fun k0_t1 v1237 v1258 k0_hw715 k0_h4 => k0_hw715 k0_h4

def k0_chk716 (k0_t1 : Fin k0_t1_loop.trips) (v1237 : IVec S16 32) (v1260 : IVec S16 32) : Prop :=
  (∀ (k0_h4 : k0_cond4 k0_t1 = 1#1), ∀ a x, ((![v1237, v1260] : Fin 2 → IVec S16 32) a x).toNat < S512x16.size a)
theorem k0_idx716_inb : ∀ (k0_t1 : Fin k0_t1_loop.trips) (v1237 : IVec S16 32) (v1260 : IVec S16 32) (k0_hw716 : k0_chk716 k0_t1 v1237 v1260), ∀ (k0_h4 : k0_cond4 k0_t1 = 1#1), ∀ a x, ((![v1237, v1260] : Fin 2 → IVec S16 32) a x).toNat < S512x16.size a := fun k0_t1 v1237 v1260 k0_hw716 k0_h4 => k0_hw716 k0_h4

def k0_chk717 (k0_t1 : Fin k0_t1_loop.trips) (v1237 : IVec S16 32) (v1262 : IVec S16 32) : Prop :=
  (∀ (k0_h4 : k0_cond4 k0_t1 = 1#1), ∀ a x, ((![v1237, v1262] : Fin 2 → IVec S16 32) a x).toNat < S512x16.size a)
theorem k0_idx717_inb : ∀ (k0_t1 : Fin k0_t1_loop.trips) (v1237 : IVec S16 32) (v1262 : IVec S16 32) (k0_hw717 : k0_chk717 k0_t1 v1237 v1262), ∀ (k0_h4 : k0_cond4 k0_t1 = 1#1), ∀ a x, ((![v1237, v1262] : Fin 2 → IVec S16 32) a x).toNat < S512x16.size a := fun k0_t1 v1237 v1262 k0_hw717 k0_h4 => k0_hw717 k0_h4

def k0_chk718 (k0_t1 : Fin k0_t1_loop.trips) (v1237 : IVec S16 32) (v1264 : IVec S16 32) : Prop :=
  (∀ (k0_h4 : k0_cond4 k0_t1 = 1#1), ∀ a x, ((![v1237, v1264] : Fin 2 → IVec S16 32) a x).toNat < S512x16.size a)
theorem k0_idx718_inb : ∀ (k0_t1 : Fin k0_t1_loop.trips) (v1237 : IVec S16 32) (v1264 : IVec S16 32) (k0_hw718 : k0_chk718 k0_t1 v1237 v1264), ∀ (k0_h4 : k0_cond4 k0_t1 = 1#1), ∀ a x, ((![v1237, v1264] : Fin 2 → IVec S16 32) a x).toNat < S512x16.size a := fun k0_t1 v1237 v1264 k0_hw718 k0_h4 => k0_hw718 k0_h4

def k0_chk719 (k0_t1 : Fin k0_t1_loop.trips) (v1237 : IVec S16 32) (v1266 : IVec S16 32) : Prop :=
  (∀ (k0_h4 : k0_cond4 k0_t1 = 1#1), ∀ a x, ((![v1237, v1266] : Fin 2 → IVec S16 32) a x).toNat < S512x16.size a)
theorem k0_idx719_inb : ∀ (k0_t1 : Fin k0_t1_loop.trips) (v1237 : IVec S16 32) (v1266 : IVec S16 32) (k0_hw719 : k0_chk719 k0_t1 v1237 v1266), ∀ (k0_h4 : k0_cond4 k0_t1 = 1#1), ∀ a x, ((![v1237, v1266] : Fin 2 → IVec S16 32) a x).toNat < S512x16.size a := fun k0_t1 v1237 v1266 k0_hw719 k0_h4 => k0_hw719 k0_h4

def k0_chk720 (k0_t1 : Fin k0_t1_loop.trips) (v1237 : IVec S16 32) (v1268 : IVec S16 32) : Prop :=
  (∀ (k0_h4 : k0_cond4 k0_t1 = 1#1), ∀ a x, ((![v1237, v1268] : Fin 2 → IVec S16 32) a x).toNat < S512x16.size a)
theorem k0_idx720_inb : ∀ (k0_t1 : Fin k0_t1_loop.trips) (v1237 : IVec S16 32) (v1268 : IVec S16 32) (k0_hw720 : k0_chk720 k0_t1 v1237 v1268), ∀ (k0_h4 : k0_cond4 k0_t1 = 1#1), ∀ a x, ((![v1237, v1268] : Fin 2 → IVec S16 32) a x).toNat < S512x16.size a := fun k0_t1 v1237 v1268 k0_hw720 k0_h4 => k0_hw720 k0_h4

def k0_chk721 (k0_t1 : Fin k0_t1_loop.trips) (v1336 : IVec S16 32) (v1337 : IVec S16 32) : Prop :=
  (∀ (k0_h4 : k0_cond4 k0_t1 = 1#1), ∀ a x, ((![v1336, v1337] : Fin 2 → IVec S16 32) a x).toNat < S512x16.size a)
theorem k0_idx721_inb : ∀ (k0_t1 : Fin k0_t1_loop.trips) (v1336 : IVec S16 32) (v1337 : IVec S16 32) (k0_hw721 : k0_chk721 k0_t1 v1336 v1337), ∀ (k0_h4 : k0_cond4 k0_t1 = 1#1), ∀ a x, ((![v1336, v1337] : Fin 2 → IVec S16 32) a x).toNat < S512x16.size a := fun k0_t1 v1336 v1337 k0_hw721 k0_h4 => k0_hw721 k0_h4

def k0_chk722 (k0_t1 : Fin k0_t1_loop.trips) (v1336 : IVec S16 32) (v1339 : IVec S16 32) : Prop :=
  (∀ (k0_h4 : k0_cond4 k0_t1 = 1#1), ∀ a x, ((![v1336, v1339] : Fin 2 → IVec S16 32) a x).toNat < S512x16.size a)
theorem k0_idx722_inb : ∀ (k0_t1 : Fin k0_t1_loop.trips) (v1336 : IVec S16 32) (v1339 : IVec S16 32) (k0_hw722 : k0_chk722 k0_t1 v1336 v1339), ∀ (k0_h4 : k0_cond4 k0_t1 = 1#1), ∀ a x, ((![v1336, v1339] : Fin 2 → IVec S16 32) a x).toNat < S512x16.size a := fun k0_t1 v1336 v1339 k0_hw722 k0_h4 => k0_hw722 k0_h4

def k0_chk723 (k0_t1 : Fin k0_t1_loop.trips) (v1336 : IVec S16 32) (v1341 : IVec S16 32) : Prop :=
  (∀ (k0_h4 : k0_cond4 k0_t1 = 1#1), ∀ a x, ((![v1336, v1341] : Fin 2 → IVec S16 32) a x).toNat < S512x16.size a)
theorem k0_idx723_inb : ∀ (k0_t1 : Fin k0_t1_loop.trips) (v1336 : IVec S16 32) (v1341 : IVec S16 32) (k0_hw723 : k0_chk723 k0_t1 v1336 v1341), ∀ (k0_h4 : k0_cond4 k0_t1 = 1#1), ∀ a x, ((![v1336, v1341] : Fin 2 → IVec S16 32) a x).toNat < S512x16.size a := fun k0_t1 v1336 v1341 k0_hw723 k0_h4 => k0_hw723 k0_h4

def k0_chk724 (k0_t1 : Fin k0_t1_loop.trips) (v1336 : IVec S16 32) (v1343 : IVec S16 32) : Prop :=
  (∀ (k0_h4 : k0_cond4 k0_t1 = 1#1), ∀ a x, ((![v1336, v1343] : Fin 2 → IVec S16 32) a x).toNat < S512x16.size a)
theorem k0_idx724_inb : ∀ (k0_t1 : Fin k0_t1_loop.trips) (v1336 : IVec S16 32) (v1343 : IVec S16 32) (k0_hw724 : k0_chk724 k0_t1 v1336 v1343), ∀ (k0_h4 : k0_cond4 k0_t1 = 1#1), ∀ a x, ((![v1336, v1343] : Fin 2 → IVec S16 32) a x).toNat < S512x16.size a := fun k0_t1 v1336 v1343 k0_hw724 k0_h4 => k0_hw724 k0_h4

def k0_chk725 (k0_t1 : Fin k0_t1_loop.trips) (v1336 : IVec S16 32) (v1345 : IVec S16 32) : Prop :=
  (∀ (k0_h4 : k0_cond4 k0_t1 = 1#1), ∀ a x, ((![v1336, v1345] : Fin 2 → IVec S16 32) a x).toNat < S512x16.size a)
theorem k0_idx725_inb : ∀ (k0_t1 : Fin k0_t1_loop.trips) (v1336 : IVec S16 32) (v1345 : IVec S16 32) (k0_hw725 : k0_chk725 k0_t1 v1336 v1345), ∀ (k0_h4 : k0_cond4 k0_t1 = 1#1), ∀ a x, ((![v1336, v1345] : Fin 2 → IVec S16 32) a x).toNat < S512x16.size a := fun k0_t1 v1336 v1345 k0_hw725 k0_h4 => k0_hw725 k0_h4

def k0_chk726 (k0_t1 : Fin k0_t1_loop.trips) (v1336 : IVec S16 32) (v1347 : IVec S16 32) : Prop :=
  (∀ (k0_h4 : k0_cond4 k0_t1 = 1#1), ∀ a x, ((![v1336, v1347] : Fin 2 → IVec S16 32) a x).toNat < S512x16.size a)
theorem k0_idx726_inb : ∀ (k0_t1 : Fin k0_t1_loop.trips) (v1336 : IVec S16 32) (v1347 : IVec S16 32) (k0_hw726 : k0_chk726 k0_t1 v1336 v1347), ∀ (k0_h4 : k0_cond4 k0_t1 = 1#1), ∀ a x, ((![v1336, v1347] : Fin 2 → IVec S16 32) a x).toNat < S512x16.size a := fun k0_t1 v1336 v1347 k0_hw726 k0_h4 => k0_hw726 k0_h4

def k0_chk727 (k0_t1 : Fin k0_t1_loop.trips) (v1336 : IVec S16 32) (v1349 : IVec S16 32) : Prop :=
  (∀ (k0_h4 : k0_cond4 k0_t1 = 1#1), ∀ a x, ((![v1336, v1349] : Fin 2 → IVec S16 32) a x).toNat < S512x16.size a)
theorem k0_idx727_inb : ∀ (k0_t1 : Fin k0_t1_loop.trips) (v1336 : IVec S16 32) (v1349 : IVec S16 32) (k0_hw727 : k0_chk727 k0_t1 v1336 v1349), ∀ (k0_h4 : k0_cond4 k0_t1 = 1#1), ∀ a x, ((![v1336, v1349] : Fin 2 → IVec S16 32) a x).toNat < S512x16.size a := fun k0_t1 v1336 v1349 k0_hw727 k0_h4 => k0_hw727 k0_h4

def k0_chk728 (k0_t1 : Fin k0_t1_loop.trips) (v1336 : IVec S16 32) (v1351 : IVec S16 32) : Prop :=
  (∀ (k0_h4 : k0_cond4 k0_t1 = 1#1), ∀ a x, ((![v1336, v1351] : Fin 2 → IVec S16 32) a x).toNat < S512x16.size a)
theorem k0_idx728_inb : ∀ (k0_t1 : Fin k0_t1_loop.trips) (v1336 : IVec S16 32) (v1351 : IVec S16 32) (k0_hw728 : k0_chk728 k0_t1 v1336 v1351), ∀ (k0_h4 : k0_cond4 k0_t1 = 1#1), ∀ a x, ((![v1336, v1351] : Fin 2 → IVec S16 32) a x).toNat < S512x16.size a := fun k0_t1 v1336 v1351 k0_hw728 k0_h4 => k0_hw728 k0_h4

def k0_chk729 (k0_t1 : Fin k0_t1_loop.trips) (v1336 : IVec S16 32) (v1353 : IVec S16 32) : Prop :=
  (∀ (k0_h4 : k0_cond4 k0_t1 = 1#1), ∀ a x, ((![v1336, v1353] : Fin 2 → IVec S16 32) a x).toNat < S512x16.size a)
theorem k0_idx729_inb : ∀ (k0_t1 : Fin k0_t1_loop.trips) (v1336 : IVec S16 32) (v1353 : IVec S16 32) (k0_hw729 : k0_chk729 k0_t1 v1336 v1353), ∀ (k0_h4 : k0_cond4 k0_t1 = 1#1), ∀ a x, ((![v1336, v1353] : Fin 2 → IVec S16 32) a x).toNat < S512x16.size a := fun k0_t1 v1336 v1353 k0_hw729 k0_h4 => k0_hw729 k0_h4

def k0_chk730 (k0_t1 : Fin k0_t1_loop.trips) (v1336 : IVec S16 32) (v1355 : IVec S16 32) : Prop :=
  (∀ (k0_h4 : k0_cond4 k0_t1 = 1#1), ∀ a x, ((![v1336, v1355] : Fin 2 → IVec S16 32) a x).toNat < S512x16.size a)
theorem k0_idx730_inb : ∀ (k0_t1 : Fin k0_t1_loop.trips) (v1336 : IVec S16 32) (v1355 : IVec S16 32) (k0_hw730 : k0_chk730 k0_t1 v1336 v1355), ∀ (k0_h4 : k0_cond4 k0_t1 = 1#1), ∀ a x, ((![v1336, v1355] : Fin 2 → IVec S16 32) a x).toNat < S512x16.size a := fun k0_t1 v1336 v1355 k0_hw730 k0_h4 => k0_hw730 k0_h4

def k0_chk731 (k0_t1 : Fin k0_t1_loop.trips) (v1336 : IVec S16 32) (v1357 : IVec S16 32) : Prop :=
  (∀ (k0_h4 : k0_cond4 k0_t1 = 1#1), ∀ a x, ((![v1336, v1357] : Fin 2 → IVec S16 32) a x).toNat < S512x16.size a)
theorem k0_idx731_inb : ∀ (k0_t1 : Fin k0_t1_loop.trips) (v1336 : IVec S16 32) (v1357 : IVec S16 32) (k0_hw731 : k0_chk731 k0_t1 v1336 v1357), ∀ (k0_h4 : k0_cond4 k0_t1 = 1#1), ∀ a x, ((![v1336, v1357] : Fin 2 → IVec S16 32) a x).toNat < S512x16.size a := fun k0_t1 v1336 v1357 k0_hw731 k0_h4 => k0_hw731 k0_h4

def k0_chk732 (k0_t1 : Fin k0_t1_loop.trips) (v1336 : IVec S16 32) (v1359 : IVec S16 32) : Prop :=
  (∀ (k0_h4 : k0_cond4 k0_t1 = 1#1), ∀ a x, ((![v1336, v1359] : Fin 2 → IVec S16 32) a x).toNat < S512x16.size a)
theorem k0_idx732_inb : ∀ (k0_t1 : Fin k0_t1_loop.trips) (v1336 : IVec S16 32) (v1359 : IVec S16 32) (k0_hw732 : k0_chk732 k0_t1 v1336 v1359), ∀ (k0_h4 : k0_cond4 k0_t1 = 1#1), ∀ a x, ((![v1336, v1359] : Fin 2 → IVec S16 32) a x).toNat < S512x16.size a := fun k0_t1 v1336 v1359 k0_hw732 k0_h4 => k0_hw732 k0_h4

def k0_chk733 (k0_t1 : Fin k0_t1_loop.trips) (v1336 : IVec S16 32) (v1361 : IVec S16 32) : Prop :=
  (∀ (k0_h4 : k0_cond4 k0_t1 = 1#1), ∀ a x, ((![v1336, v1361] : Fin 2 → IVec S16 32) a x).toNat < S512x16.size a)
theorem k0_idx733_inb : ∀ (k0_t1 : Fin k0_t1_loop.trips) (v1336 : IVec S16 32) (v1361 : IVec S16 32) (k0_hw733 : k0_chk733 k0_t1 v1336 v1361), ∀ (k0_h4 : k0_cond4 k0_t1 = 1#1), ∀ a x, ((![v1336, v1361] : Fin 2 → IVec S16 32) a x).toNat < S512x16.size a := fun k0_t1 v1336 v1361 k0_hw733 k0_h4 => k0_hw733 k0_h4

def k0_chk734 (k0_t1 : Fin k0_t1_loop.trips) (v1336 : IVec S16 32) (v1363 : IVec S16 32) : Prop :=
  (∀ (k0_h4 : k0_cond4 k0_t1 = 1#1), ∀ a x, ((![v1336, v1363] : Fin 2 → IVec S16 32) a x).toNat < S512x16.size a)
theorem k0_idx734_inb : ∀ (k0_t1 : Fin k0_t1_loop.trips) (v1336 : IVec S16 32) (v1363 : IVec S16 32) (k0_hw734 : k0_chk734 k0_t1 v1336 v1363), ∀ (k0_h4 : k0_cond4 k0_t1 = 1#1), ∀ a x, ((![v1336, v1363] : Fin 2 → IVec S16 32) a x).toNat < S512x16.size a := fun k0_t1 v1336 v1363 k0_hw734 k0_h4 => k0_hw734 k0_h4

def k0_chk735 (k0_t1 : Fin k0_t1_loop.trips) (v1336 : IVec S16 32) (v1365 : IVec S16 32) : Prop :=
  (∀ (k0_h4 : k0_cond4 k0_t1 = 1#1), ∀ a x, ((![v1336, v1365] : Fin 2 → IVec S16 32) a x).toNat < S512x16.size a)
theorem k0_idx735_inb : ∀ (k0_t1 : Fin k0_t1_loop.trips) (v1336 : IVec S16 32) (v1365 : IVec S16 32) (k0_hw735 : k0_chk735 k0_t1 v1336 v1365), ∀ (k0_h4 : k0_cond4 k0_t1 = 1#1), ∀ a x, ((![v1336, v1365] : Fin 2 → IVec S16 32) a x).toNat < S512x16.size a := fun k0_t1 v1336 v1365 k0_hw735 k0_h4 => k0_hw735 k0_h4

def k0_chk736 (k0_t1 : Fin k0_t1_loop.trips) (v1336 : IVec S16 32) (v1367 : IVec S16 32) : Prop :=
  (∀ (k0_h4 : k0_cond4 k0_t1 = 1#1), ∀ a x, ((![v1336, v1367] : Fin 2 → IVec S16 32) a x).toNat < S512x16.size a)
theorem k0_idx736_inb : ∀ (k0_t1 : Fin k0_t1_loop.trips) (v1336 : IVec S16 32) (v1367 : IVec S16 32) (k0_hw736 : k0_chk736 k0_t1 v1336 v1367), ∀ (k0_h4 : k0_cond4 k0_t1 = 1#1), ∀ a x, ((![v1336, v1367] : Fin 2 → IVec S16 32) a x).toNat < S512x16.size a := fun k0_t1 v1336 v1367 k0_hw736 k0_h4 => k0_hw736 k0_h4

def k0_chk737 (k0_t1 : Fin k0_t1_loop.trips) (v1435 : IVec S16 32) (v1436 : IVec S16 32) : Prop :=
  (∀ (k0_h4 : k0_cond4 k0_t1 = 1#1), ∀ a x, ((![v1435, v1436] : Fin 2 → IVec S16 32) a x).toNat < S512x16.size a)
theorem k0_idx737_inb : ∀ (k0_t1 : Fin k0_t1_loop.trips) (v1435 : IVec S16 32) (v1436 : IVec S16 32) (k0_hw737 : k0_chk737 k0_t1 v1435 v1436), ∀ (k0_h4 : k0_cond4 k0_t1 = 1#1), ∀ a x, ((![v1435, v1436] : Fin 2 → IVec S16 32) a x).toNat < S512x16.size a := fun k0_t1 v1435 v1436 k0_hw737 k0_h4 => k0_hw737 k0_h4

def k0_chk738 (k0_t1 : Fin k0_t1_loop.trips) (v1435 : IVec S16 32) (v1438 : IVec S16 32) : Prop :=
  (∀ (k0_h4 : k0_cond4 k0_t1 = 1#1), ∀ a x, ((![v1435, v1438] : Fin 2 → IVec S16 32) a x).toNat < S512x16.size a)
theorem k0_idx738_inb : ∀ (k0_t1 : Fin k0_t1_loop.trips) (v1435 : IVec S16 32) (v1438 : IVec S16 32) (k0_hw738 : k0_chk738 k0_t1 v1435 v1438), ∀ (k0_h4 : k0_cond4 k0_t1 = 1#1), ∀ a x, ((![v1435, v1438] : Fin 2 → IVec S16 32) a x).toNat < S512x16.size a := fun k0_t1 v1435 v1438 k0_hw738 k0_h4 => k0_hw738 k0_h4

def k0_chk739 (k0_t1 : Fin k0_t1_loop.trips) (v1435 : IVec S16 32) (v1440 : IVec S16 32) : Prop :=
  (∀ (k0_h4 : k0_cond4 k0_t1 = 1#1), ∀ a x, ((![v1435, v1440] : Fin 2 → IVec S16 32) a x).toNat < S512x16.size a)
theorem k0_idx739_inb : ∀ (k0_t1 : Fin k0_t1_loop.trips) (v1435 : IVec S16 32) (v1440 : IVec S16 32) (k0_hw739 : k0_chk739 k0_t1 v1435 v1440), ∀ (k0_h4 : k0_cond4 k0_t1 = 1#1), ∀ a x, ((![v1435, v1440] : Fin 2 → IVec S16 32) a x).toNat < S512x16.size a := fun k0_t1 v1435 v1440 k0_hw739 k0_h4 => k0_hw739 k0_h4

def k0_chk740 (k0_t1 : Fin k0_t1_loop.trips) (v1435 : IVec S16 32) (v1442 : IVec S16 32) : Prop :=
  (∀ (k0_h4 : k0_cond4 k0_t1 = 1#1), ∀ a x, ((![v1435, v1442] : Fin 2 → IVec S16 32) a x).toNat < S512x16.size a)
theorem k0_idx740_inb : ∀ (k0_t1 : Fin k0_t1_loop.trips) (v1435 : IVec S16 32) (v1442 : IVec S16 32) (k0_hw740 : k0_chk740 k0_t1 v1435 v1442), ∀ (k0_h4 : k0_cond4 k0_t1 = 1#1), ∀ a x, ((![v1435, v1442] : Fin 2 → IVec S16 32) a x).toNat < S512x16.size a := fun k0_t1 v1435 v1442 k0_hw740 k0_h4 => k0_hw740 k0_h4

def k0_chk741 (k0_t1 : Fin k0_t1_loop.trips) (v1435 : IVec S16 32) (v1444 : IVec S16 32) : Prop :=
  (∀ (k0_h4 : k0_cond4 k0_t1 = 1#1), ∀ a x, ((![v1435, v1444] : Fin 2 → IVec S16 32) a x).toNat < S512x16.size a)
theorem k0_idx741_inb : ∀ (k0_t1 : Fin k0_t1_loop.trips) (v1435 : IVec S16 32) (v1444 : IVec S16 32) (k0_hw741 : k0_chk741 k0_t1 v1435 v1444), ∀ (k0_h4 : k0_cond4 k0_t1 = 1#1), ∀ a x, ((![v1435, v1444] : Fin 2 → IVec S16 32) a x).toNat < S512x16.size a := fun k0_t1 v1435 v1444 k0_hw741 k0_h4 => k0_hw741 k0_h4

def k0_chk742 (k0_t1 : Fin k0_t1_loop.trips) (v1435 : IVec S16 32) (v1446 : IVec S16 32) : Prop :=
  (∀ (k0_h4 : k0_cond4 k0_t1 = 1#1), ∀ a x, ((![v1435, v1446] : Fin 2 → IVec S16 32) a x).toNat < S512x16.size a)
theorem k0_idx742_inb : ∀ (k0_t1 : Fin k0_t1_loop.trips) (v1435 : IVec S16 32) (v1446 : IVec S16 32) (k0_hw742 : k0_chk742 k0_t1 v1435 v1446), ∀ (k0_h4 : k0_cond4 k0_t1 = 1#1), ∀ a x, ((![v1435, v1446] : Fin 2 → IVec S16 32) a x).toNat < S512x16.size a := fun k0_t1 v1435 v1446 k0_hw742 k0_h4 => k0_hw742 k0_h4

def k0_chk743 (k0_t1 : Fin k0_t1_loop.trips) (v1435 : IVec S16 32) (v1448 : IVec S16 32) : Prop :=
  (∀ (k0_h4 : k0_cond4 k0_t1 = 1#1), ∀ a x, ((![v1435, v1448] : Fin 2 → IVec S16 32) a x).toNat < S512x16.size a)
theorem k0_idx743_inb : ∀ (k0_t1 : Fin k0_t1_loop.trips) (v1435 : IVec S16 32) (v1448 : IVec S16 32) (k0_hw743 : k0_chk743 k0_t1 v1435 v1448), ∀ (k0_h4 : k0_cond4 k0_t1 = 1#1), ∀ a x, ((![v1435, v1448] : Fin 2 → IVec S16 32) a x).toNat < S512x16.size a := fun k0_t1 v1435 v1448 k0_hw743 k0_h4 => k0_hw743 k0_h4

def k0_chk744 (k0_t1 : Fin k0_t1_loop.trips) (v1435 : IVec S16 32) (v1450 : IVec S16 32) : Prop :=
  (∀ (k0_h4 : k0_cond4 k0_t1 = 1#1), ∀ a x, ((![v1435, v1450] : Fin 2 → IVec S16 32) a x).toNat < S512x16.size a)
theorem k0_idx744_inb : ∀ (k0_t1 : Fin k0_t1_loop.trips) (v1435 : IVec S16 32) (v1450 : IVec S16 32) (k0_hw744 : k0_chk744 k0_t1 v1435 v1450), ∀ (k0_h4 : k0_cond4 k0_t1 = 1#1), ∀ a x, ((![v1435, v1450] : Fin 2 → IVec S16 32) a x).toNat < S512x16.size a := fun k0_t1 v1435 v1450 k0_hw744 k0_h4 => k0_hw744 k0_h4

def k0_chk745 (k0_t1 : Fin k0_t1_loop.trips) (v1435 : IVec S16 32) (v1452 : IVec S16 32) : Prop :=
  (∀ (k0_h4 : k0_cond4 k0_t1 = 1#1), ∀ a x, ((![v1435, v1452] : Fin 2 → IVec S16 32) a x).toNat < S512x16.size a)
theorem k0_idx745_inb : ∀ (k0_t1 : Fin k0_t1_loop.trips) (v1435 : IVec S16 32) (v1452 : IVec S16 32) (k0_hw745 : k0_chk745 k0_t1 v1435 v1452), ∀ (k0_h4 : k0_cond4 k0_t1 = 1#1), ∀ a x, ((![v1435, v1452] : Fin 2 → IVec S16 32) a x).toNat < S512x16.size a := fun k0_t1 v1435 v1452 k0_hw745 k0_h4 => k0_hw745 k0_h4

def k0_chk746 (k0_t1 : Fin k0_t1_loop.trips) (v1435 : IVec S16 32) (v1454 : IVec S16 32) : Prop :=
  (∀ (k0_h4 : k0_cond4 k0_t1 = 1#1), ∀ a x, ((![v1435, v1454] : Fin 2 → IVec S16 32) a x).toNat < S512x16.size a)
theorem k0_idx746_inb : ∀ (k0_t1 : Fin k0_t1_loop.trips) (v1435 : IVec S16 32) (v1454 : IVec S16 32) (k0_hw746 : k0_chk746 k0_t1 v1435 v1454), ∀ (k0_h4 : k0_cond4 k0_t1 = 1#1), ∀ a x, ((![v1435, v1454] : Fin 2 → IVec S16 32) a x).toNat < S512x16.size a := fun k0_t1 v1435 v1454 k0_hw746 k0_h4 => k0_hw746 k0_h4

def k0_chk747 (k0_t1 : Fin k0_t1_loop.trips) (v1435 : IVec S16 32) (v1456 : IVec S16 32) : Prop :=
  (∀ (k0_h4 : k0_cond4 k0_t1 = 1#1), ∀ a x, ((![v1435, v1456] : Fin 2 → IVec S16 32) a x).toNat < S512x16.size a)
theorem k0_idx747_inb : ∀ (k0_t1 : Fin k0_t1_loop.trips) (v1435 : IVec S16 32) (v1456 : IVec S16 32) (k0_hw747 : k0_chk747 k0_t1 v1435 v1456), ∀ (k0_h4 : k0_cond4 k0_t1 = 1#1), ∀ a x, ((![v1435, v1456] : Fin 2 → IVec S16 32) a x).toNat < S512x16.size a := fun k0_t1 v1435 v1456 k0_hw747 k0_h4 => k0_hw747 k0_h4

def k0_chk748 (k0_t1 : Fin k0_t1_loop.trips) (v1435 : IVec S16 32) (v1458 : IVec S16 32) : Prop :=
  (∀ (k0_h4 : k0_cond4 k0_t1 = 1#1), ∀ a x, ((![v1435, v1458] : Fin 2 → IVec S16 32) a x).toNat < S512x16.size a)
theorem k0_idx748_inb : ∀ (k0_t1 : Fin k0_t1_loop.trips) (v1435 : IVec S16 32) (v1458 : IVec S16 32) (k0_hw748 : k0_chk748 k0_t1 v1435 v1458), ∀ (k0_h4 : k0_cond4 k0_t1 = 1#1), ∀ a x, ((![v1435, v1458] : Fin 2 → IVec S16 32) a x).toNat < S512x16.size a := fun k0_t1 v1435 v1458 k0_hw748 k0_h4 => k0_hw748 k0_h4

def k0_chk749 (k0_t1 : Fin k0_t1_loop.trips) (v1435 : IVec S16 32) (v1460 : IVec S16 32) : Prop :=
  (∀ (k0_h4 : k0_cond4 k0_t1 = 1#1), ∀ a x, ((![v1435, v1460] : Fin 2 → IVec S16 32) a x).toNat < S512x16.size a)
theorem k0_idx749_inb : ∀ (k0_t1 : Fin k0_t1_loop.trips) (v1435 : IVec S16 32) (v1460 : IVec S16 32) (k0_hw749 : k0_chk749 k0_t1 v1435 v1460), ∀ (k0_h4 : k0_cond4 k0_t1 = 1#1), ∀ a x, ((![v1435, v1460] : Fin 2 → IVec S16 32) a x).toNat < S512x16.size a := fun k0_t1 v1435 v1460 k0_hw749 k0_h4 => k0_hw749 k0_h4

def k0_chk750 (k0_t1 : Fin k0_t1_loop.trips) (v1435 : IVec S16 32) (v1462 : IVec S16 32) : Prop :=
  (∀ (k0_h4 : k0_cond4 k0_t1 = 1#1), ∀ a x, ((![v1435, v1462] : Fin 2 → IVec S16 32) a x).toNat < S512x16.size a)
theorem k0_idx750_inb : ∀ (k0_t1 : Fin k0_t1_loop.trips) (v1435 : IVec S16 32) (v1462 : IVec S16 32) (k0_hw750 : k0_chk750 k0_t1 v1435 v1462), ∀ (k0_h4 : k0_cond4 k0_t1 = 1#1), ∀ a x, ((![v1435, v1462] : Fin 2 → IVec S16 32) a x).toNat < S512x16.size a := fun k0_t1 v1435 v1462 k0_hw750 k0_h4 => k0_hw750 k0_h4

def k0_chk751 (k0_t1 : Fin k0_t1_loop.trips) (v1435 : IVec S16 32) (v1464 : IVec S16 32) : Prop :=
  (∀ (k0_h4 : k0_cond4 k0_t1 = 1#1), ∀ a x, ((![v1435, v1464] : Fin 2 → IVec S16 32) a x).toNat < S512x16.size a)
theorem k0_idx751_inb : ∀ (k0_t1 : Fin k0_t1_loop.trips) (v1435 : IVec S16 32) (v1464 : IVec S16 32) (k0_hw751 : k0_chk751 k0_t1 v1435 v1464), ∀ (k0_h4 : k0_cond4 k0_t1 = 1#1), ∀ a x, ((![v1435, v1464] : Fin 2 → IVec S16 32) a x).toNat < S512x16.size a := fun k0_t1 v1435 v1464 k0_hw751 k0_h4 => k0_hw751 k0_h4

def k0_chk752 (k0_t1 : Fin k0_t1_loop.trips) (v1435 : IVec S16 32) (v1466 : IVec S16 32) : Prop :=
  (∀ (k0_h4 : k0_cond4 k0_t1 = 1#1), ∀ a x, ((![v1435, v1466] : Fin 2 → IVec S16 32) a x).toNat < S512x16.size a)
theorem k0_idx752_inb : ∀ (k0_t1 : Fin k0_t1_loop.trips) (v1435 : IVec S16 32) (v1466 : IVec S16 32) (k0_hw752 : k0_chk752 k0_t1 v1435 v1466), ∀ (k0_h4 : k0_cond4 k0_t1 = 1#1), ∀ a x, ((![v1435, v1466] : Fin 2 → IVec S16 32) a x).toNat < S512x16.size a := fun k0_t1 v1435 v1466 k0_hw752 k0_h4 => k0_hw752 k0_h4

def k0_chk753 (k0_t1 : Fin k0_t1_loop.trips) (v1534 : IVec S16 32) (v1535 : IVec S16 32) : Prop :=
  (∀ (k0_h4 : k0_cond4 k0_t1 = 1#1), ∀ a x, ((![v1534, v1535] : Fin 2 → IVec S16 32) a x).toNat < S512x16.size a)
theorem k0_idx753_inb : ∀ (k0_t1 : Fin k0_t1_loop.trips) (v1534 : IVec S16 32) (v1535 : IVec S16 32) (k0_hw753 : k0_chk753 k0_t1 v1534 v1535), ∀ (k0_h4 : k0_cond4 k0_t1 = 1#1), ∀ a x, ((![v1534, v1535] : Fin 2 → IVec S16 32) a x).toNat < S512x16.size a := fun k0_t1 v1534 v1535 k0_hw753 k0_h4 => k0_hw753 k0_h4

def k0_chk754 (k0_t1 : Fin k0_t1_loop.trips) (v1534 : IVec S16 32) (v1537 : IVec S16 32) : Prop :=
  (∀ (k0_h4 : k0_cond4 k0_t1 = 1#1), ∀ a x, ((![v1534, v1537] : Fin 2 → IVec S16 32) a x).toNat < S512x16.size a)
theorem k0_idx754_inb : ∀ (k0_t1 : Fin k0_t1_loop.trips) (v1534 : IVec S16 32) (v1537 : IVec S16 32) (k0_hw754 : k0_chk754 k0_t1 v1534 v1537), ∀ (k0_h4 : k0_cond4 k0_t1 = 1#1), ∀ a x, ((![v1534, v1537] : Fin 2 → IVec S16 32) a x).toNat < S512x16.size a := fun k0_t1 v1534 v1537 k0_hw754 k0_h4 => k0_hw754 k0_h4

def k0_chk755 (k0_t1 : Fin k0_t1_loop.trips) (v1534 : IVec S16 32) (v1539 : IVec S16 32) : Prop :=
  (∀ (k0_h4 : k0_cond4 k0_t1 = 1#1), ∀ a x, ((![v1534, v1539] : Fin 2 → IVec S16 32) a x).toNat < S512x16.size a)
theorem k0_idx755_inb : ∀ (k0_t1 : Fin k0_t1_loop.trips) (v1534 : IVec S16 32) (v1539 : IVec S16 32) (k0_hw755 : k0_chk755 k0_t1 v1534 v1539), ∀ (k0_h4 : k0_cond4 k0_t1 = 1#1), ∀ a x, ((![v1534, v1539] : Fin 2 → IVec S16 32) a x).toNat < S512x16.size a := fun k0_t1 v1534 v1539 k0_hw755 k0_h4 => k0_hw755 k0_h4

def k0_chk756 (k0_t1 : Fin k0_t1_loop.trips) (v1534 : IVec S16 32) (v1541 : IVec S16 32) : Prop :=
  (∀ (k0_h4 : k0_cond4 k0_t1 = 1#1), ∀ a x, ((![v1534, v1541] : Fin 2 → IVec S16 32) a x).toNat < S512x16.size a)
theorem k0_idx756_inb : ∀ (k0_t1 : Fin k0_t1_loop.trips) (v1534 : IVec S16 32) (v1541 : IVec S16 32) (k0_hw756 : k0_chk756 k0_t1 v1534 v1541), ∀ (k0_h4 : k0_cond4 k0_t1 = 1#1), ∀ a x, ((![v1534, v1541] : Fin 2 → IVec S16 32) a x).toNat < S512x16.size a := fun k0_t1 v1534 v1541 k0_hw756 k0_h4 => k0_hw756 k0_h4

def k0_chk757 (k0_t1 : Fin k0_t1_loop.trips) (v1534 : IVec S16 32) (v1543 : IVec S16 32) : Prop :=
  (∀ (k0_h4 : k0_cond4 k0_t1 = 1#1), ∀ a x, ((![v1534, v1543] : Fin 2 → IVec S16 32) a x).toNat < S512x16.size a)
theorem k0_idx757_inb : ∀ (k0_t1 : Fin k0_t1_loop.trips) (v1534 : IVec S16 32) (v1543 : IVec S16 32) (k0_hw757 : k0_chk757 k0_t1 v1534 v1543), ∀ (k0_h4 : k0_cond4 k0_t1 = 1#1), ∀ a x, ((![v1534, v1543] : Fin 2 → IVec S16 32) a x).toNat < S512x16.size a := fun k0_t1 v1534 v1543 k0_hw757 k0_h4 => k0_hw757 k0_h4

def k0_chk758 (k0_t1 : Fin k0_t1_loop.trips) (v1534 : IVec S16 32) (v1545 : IVec S16 32) : Prop :=
  (∀ (k0_h4 : k0_cond4 k0_t1 = 1#1), ∀ a x, ((![v1534, v1545] : Fin 2 → IVec S16 32) a x).toNat < S512x16.size a)
theorem k0_idx758_inb : ∀ (k0_t1 : Fin k0_t1_loop.trips) (v1534 : IVec S16 32) (v1545 : IVec S16 32) (k0_hw758 : k0_chk758 k0_t1 v1534 v1545), ∀ (k0_h4 : k0_cond4 k0_t1 = 1#1), ∀ a x, ((![v1534, v1545] : Fin 2 → IVec S16 32) a x).toNat < S512x16.size a := fun k0_t1 v1534 v1545 k0_hw758 k0_h4 => k0_hw758 k0_h4

def k0_chk759 (k0_t1 : Fin k0_t1_loop.trips) (v1534 : IVec S16 32) (v1547 : IVec S16 32) : Prop :=
  (∀ (k0_h4 : k0_cond4 k0_t1 = 1#1), ∀ a x, ((![v1534, v1547] : Fin 2 → IVec S16 32) a x).toNat < S512x16.size a)
theorem k0_idx759_inb : ∀ (k0_t1 : Fin k0_t1_loop.trips) (v1534 : IVec S16 32) (v1547 : IVec S16 32) (k0_hw759 : k0_chk759 k0_t1 v1534 v1547), ∀ (k0_h4 : k0_cond4 k0_t1 = 1#1), ∀ a x, ((![v1534, v1547] : Fin 2 → IVec S16 32) a x).toNat < S512x16.size a := fun k0_t1 v1534 v1547 k0_hw759 k0_h4 => k0_hw759 k0_h4

def k0_chk760 (k0_t1 : Fin k0_t1_loop.trips) (v1534 : IVec S16 32) (v1549 : IVec S16 32) : Prop :=
  (∀ (k0_h4 : k0_cond4 k0_t1 = 1#1), ∀ a x, ((![v1534, v1549] : Fin 2 → IVec S16 32) a x).toNat < S512x16.size a)
theorem k0_idx760_inb : ∀ (k0_t1 : Fin k0_t1_loop.trips) (v1534 : IVec S16 32) (v1549 : IVec S16 32) (k0_hw760 : k0_chk760 k0_t1 v1534 v1549), ∀ (k0_h4 : k0_cond4 k0_t1 = 1#1), ∀ a x, ((![v1534, v1549] : Fin 2 → IVec S16 32) a x).toNat < S512x16.size a := fun k0_t1 v1534 v1549 k0_hw760 k0_h4 => k0_hw760 k0_h4

def k0_chk761 (k0_t1 : Fin k0_t1_loop.trips) (v1534 : IVec S16 32) (v1551 : IVec S16 32) : Prop :=
  (∀ (k0_h4 : k0_cond4 k0_t1 = 1#1), ∀ a x, ((![v1534, v1551] : Fin 2 → IVec S16 32) a x).toNat < S512x16.size a)
theorem k0_idx761_inb : ∀ (k0_t1 : Fin k0_t1_loop.trips) (v1534 : IVec S16 32) (v1551 : IVec S16 32) (k0_hw761 : k0_chk761 k0_t1 v1534 v1551), ∀ (k0_h4 : k0_cond4 k0_t1 = 1#1), ∀ a x, ((![v1534, v1551] : Fin 2 → IVec S16 32) a x).toNat < S512x16.size a := fun k0_t1 v1534 v1551 k0_hw761 k0_h4 => k0_hw761 k0_h4

def k0_chk762 (k0_t1 : Fin k0_t1_loop.trips) (v1534 : IVec S16 32) (v1553 : IVec S16 32) : Prop :=
  (∀ (k0_h4 : k0_cond4 k0_t1 = 1#1), ∀ a x, ((![v1534, v1553] : Fin 2 → IVec S16 32) a x).toNat < S512x16.size a)
theorem k0_idx762_inb : ∀ (k0_t1 : Fin k0_t1_loop.trips) (v1534 : IVec S16 32) (v1553 : IVec S16 32) (k0_hw762 : k0_chk762 k0_t1 v1534 v1553), ∀ (k0_h4 : k0_cond4 k0_t1 = 1#1), ∀ a x, ((![v1534, v1553] : Fin 2 → IVec S16 32) a x).toNat < S512x16.size a := fun k0_t1 v1534 v1553 k0_hw762 k0_h4 => k0_hw762 k0_h4

def k0_chk763 (k0_t1 : Fin k0_t1_loop.trips) (v1534 : IVec S16 32) (v1555 : IVec S16 32) : Prop :=
  (∀ (k0_h4 : k0_cond4 k0_t1 = 1#1), ∀ a x, ((![v1534, v1555] : Fin 2 → IVec S16 32) a x).toNat < S512x16.size a)
theorem k0_idx763_inb : ∀ (k0_t1 : Fin k0_t1_loop.trips) (v1534 : IVec S16 32) (v1555 : IVec S16 32) (k0_hw763 : k0_chk763 k0_t1 v1534 v1555), ∀ (k0_h4 : k0_cond4 k0_t1 = 1#1), ∀ a x, ((![v1534, v1555] : Fin 2 → IVec S16 32) a x).toNat < S512x16.size a := fun k0_t1 v1534 v1555 k0_hw763 k0_h4 => k0_hw763 k0_h4

def k0_chk764 (k0_t1 : Fin k0_t1_loop.trips) (v1534 : IVec S16 32) (v1557 : IVec S16 32) : Prop :=
  (∀ (k0_h4 : k0_cond4 k0_t1 = 1#1), ∀ a x, ((![v1534, v1557] : Fin 2 → IVec S16 32) a x).toNat < S512x16.size a)
theorem k0_idx764_inb : ∀ (k0_t1 : Fin k0_t1_loop.trips) (v1534 : IVec S16 32) (v1557 : IVec S16 32) (k0_hw764 : k0_chk764 k0_t1 v1534 v1557), ∀ (k0_h4 : k0_cond4 k0_t1 = 1#1), ∀ a x, ((![v1534, v1557] : Fin 2 → IVec S16 32) a x).toNat < S512x16.size a := fun k0_t1 v1534 v1557 k0_hw764 k0_h4 => k0_hw764 k0_h4

def k0_chk765 (k0_t1 : Fin k0_t1_loop.trips) (v1534 : IVec S16 32) (v1559 : IVec S16 32) : Prop :=
  (∀ (k0_h4 : k0_cond4 k0_t1 = 1#1), ∀ a x, ((![v1534, v1559] : Fin 2 → IVec S16 32) a x).toNat < S512x16.size a)
theorem k0_idx765_inb : ∀ (k0_t1 : Fin k0_t1_loop.trips) (v1534 : IVec S16 32) (v1559 : IVec S16 32) (k0_hw765 : k0_chk765 k0_t1 v1534 v1559), ∀ (k0_h4 : k0_cond4 k0_t1 = 1#1), ∀ a x, ((![v1534, v1559] : Fin 2 → IVec S16 32) a x).toNat < S512x16.size a := fun k0_t1 v1534 v1559 k0_hw765 k0_h4 => k0_hw765 k0_h4

def k0_chk766 (k0_t1 : Fin k0_t1_loop.trips) (v1534 : IVec S16 32) (v1561 : IVec S16 32) : Prop :=
  (∀ (k0_h4 : k0_cond4 k0_t1 = 1#1), ∀ a x, ((![v1534, v1561] : Fin 2 → IVec S16 32) a x).toNat < S512x16.size a)
theorem k0_idx766_inb : ∀ (k0_t1 : Fin k0_t1_loop.trips) (v1534 : IVec S16 32) (v1561 : IVec S16 32) (k0_hw766 : k0_chk766 k0_t1 v1534 v1561), ∀ (k0_h4 : k0_cond4 k0_t1 = 1#1), ∀ a x, ((![v1534, v1561] : Fin 2 → IVec S16 32) a x).toNat < S512x16.size a := fun k0_t1 v1534 v1561 k0_hw766 k0_h4 => k0_hw766 k0_h4

def k0_chk767 (k0_t1 : Fin k0_t1_loop.trips) (v1534 : IVec S16 32) (v1563 : IVec S16 32) : Prop :=
  (∀ (k0_h4 : k0_cond4 k0_t1 = 1#1), ∀ a x, ((![v1534, v1563] : Fin 2 → IVec S16 32) a x).toNat < S512x16.size a)
theorem k0_idx767_inb : ∀ (k0_t1 : Fin k0_t1_loop.trips) (v1534 : IVec S16 32) (v1563 : IVec S16 32) (k0_hw767 : k0_chk767 k0_t1 v1534 v1563), ∀ (k0_h4 : k0_cond4 k0_t1 = 1#1), ∀ a x, ((![v1534, v1563] : Fin 2 → IVec S16 32) a x).toNat < S512x16.size a := fun k0_t1 v1534 v1563 k0_hw767 k0_h4 => k0_hw767 k0_h4

def k0_chk768 (k0_t1 : Fin k0_t1_loop.trips) (v1534 : IVec S16 32) (v1565 : IVec S16 32) : Prop :=
  (∀ (k0_h4 : k0_cond4 k0_t1 = 1#1), ∀ a x, ((![v1534, v1565] : Fin 2 → IVec S16 32) a x).toNat < S512x16.size a)
theorem k0_idx768_inb : ∀ (k0_t1 : Fin k0_t1_loop.trips) (v1534 : IVec S16 32) (v1565 : IVec S16 32) (k0_hw768 : k0_chk768 k0_t1 v1534 v1565), ∀ (k0_h4 : k0_cond4 k0_t1 = 1#1), ∀ a x, ((![v1534, v1565] : Fin 2 → IVec S16 32) a x).toNat < S512x16.size a := fun k0_t1 v1534 v1565 k0_hw768 k0_h4 => k0_hw768 k0_h4

def k0_chk769 (k0_t1 : Fin k0_t1_loop.trips) (v1633 : IVec S16 32) (v1634 : IVec S16 32) : Prop :=
  (∀ (k0_h4 : k0_cond4 k0_t1 = 1#1), ∀ a x, ((![v1633, v1634] : Fin 2 → IVec S16 32) a x).toNat < S512x16.size a)
theorem k0_idx769_inb : ∀ (k0_t1 : Fin k0_t1_loop.trips) (v1633 : IVec S16 32) (v1634 : IVec S16 32) (k0_hw769 : k0_chk769 k0_t1 v1633 v1634), ∀ (k0_h4 : k0_cond4 k0_t1 = 1#1), ∀ a x, ((![v1633, v1634] : Fin 2 → IVec S16 32) a x).toNat < S512x16.size a := fun k0_t1 v1633 v1634 k0_hw769 k0_h4 => k0_hw769 k0_h4

def k0_chk770 (k0_t1 : Fin k0_t1_loop.trips) (v1633 : IVec S16 32) (v1636 : IVec S16 32) : Prop :=
  (∀ (k0_h4 : k0_cond4 k0_t1 = 1#1), ∀ a x, ((![v1633, v1636] : Fin 2 → IVec S16 32) a x).toNat < S512x16.size a)
theorem k0_idx770_inb : ∀ (k0_t1 : Fin k0_t1_loop.trips) (v1633 : IVec S16 32) (v1636 : IVec S16 32) (k0_hw770 : k0_chk770 k0_t1 v1633 v1636), ∀ (k0_h4 : k0_cond4 k0_t1 = 1#1), ∀ a x, ((![v1633, v1636] : Fin 2 → IVec S16 32) a x).toNat < S512x16.size a := fun k0_t1 v1633 v1636 k0_hw770 k0_h4 => k0_hw770 k0_h4

def k0_chk771 (k0_t1 : Fin k0_t1_loop.trips) (v1633 : IVec S16 32) (v1638 : IVec S16 32) : Prop :=
  (∀ (k0_h4 : k0_cond4 k0_t1 = 1#1), ∀ a x, ((![v1633, v1638] : Fin 2 → IVec S16 32) a x).toNat < S512x16.size a)
theorem k0_idx771_inb : ∀ (k0_t1 : Fin k0_t1_loop.trips) (v1633 : IVec S16 32) (v1638 : IVec S16 32) (k0_hw771 : k0_chk771 k0_t1 v1633 v1638), ∀ (k0_h4 : k0_cond4 k0_t1 = 1#1), ∀ a x, ((![v1633, v1638] : Fin 2 → IVec S16 32) a x).toNat < S512x16.size a := fun k0_t1 v1633 v1638 k0_hw771 k0_h4 => k0_hw771 k0_h4

def k0_chk772 (k0_t1 : Fin k0_t1_loop.trips) (v1633 : IVec S16 32) (v1640 : IVec S16 32) : Prop :=
  (∀ (k0_h4 : k0_cond4 k0_t1 = 1#1), ∀ a x, ((![v1633, v1640] : Fin 2 → IVec S16 32) a x).toNat < S512x16.size a)
theorem k0_idx772_inb : ∀ (k0_t1 : Fin k0_t1_loop.trips) (v1633 : IVec S16 32) (v1640 : IVec S16 32) (k0_hw772 : k0_chk772 k0_t1 v1633 v1640), ∀ (k0_h4 : k0_cond4 k0_t1 = 1#1), ∀ a x, ((![v1633, v1640] : Fin 2 → IVec S16 32) a x).toNat < S512x16.size a := fun k0_t1 v1633 v1640 k0_hw772 k0_h4 => k0_hw772 k0_h4

def k0_chk773 (k0_t1 : Fin k0_t1_loop.trips) (v1633 : IVec S16 32) (v1642 : IVec S16 32) : Prop :=
  (∀ (k0_h4 : k0_cond4 k0_t1 = 1#1), ∀ a x, ((![v1633, v1642] : Fin 2 → IVec S16 32) a x).toNat < S512x16.size a)
theorem k0_idx773_inb : ∀ (k0_t1 : Fin k0_t1_loop.trips) (v1633 : IVec S16 32) (v1642 : IVec S16 32) (k0_hw773 : k0_chk773 k0_t1 v1633 v1642), ∀ (k0_h4 : k0_cond4 k0_t1 = 1#1), ∀ a x, ((![v1633, v1642] : Fin 2 → IVec S16 32) a x).toNat < S512x16.size a := fun k0_t1 v1633 v1642 k0_hw773 k0_h4 => k0_hw773 k0_h4

def k0_chk774 (k0_t1 : Fin k0_t1_loop.trips) (v1633 : IVec S16 32) (v1644 : IVec S16 32) : Prop :=
  (∀ (k0_h4 : k0_cond4 k0_t1 = 1#1), ∀ a x, ((![v1633, v1644] : Fin 2 → IVec S16 32) a x).toNat < S512x16.size a)
theorem k0_idx774_inb : ∀ (k0_t1 : Fin k0_t1_loop.trips) (v1633 : IVec S16 32) (v1644 : IVec S16 32) (k0_hw774 : k0_chk774 k0_t1 v1633 v1644), ∀ (k0_h4 : k0_cond4 k0_t1 = 1#1), ∀ a x, ((![v1633, v1644] : Fin 2 → IVec S16 32) a x).toNat < S512x16.size a := fun k0_t1 v1633 v1644 k0_hw774 k0_h4 => k0_hw774 k0_h4

def k0_chk775 (k0_t1 : Fin k0_t1_loop.trips) (v1633 : IVec S16 32) (v1646 : IVec S16 32) : Prop :=
  (∀ (k0_h4 : k0_cond4 k0_t1 = 1#1), ∀ a x, ((![v1633, v1646] : Fin 2 → IVec S16 32) a x).toNat < S512x16.size a)
theorem k0_idx775_inb : ∀ (k0_t1 : Fin k0_t1_loop.trips) (v1633 : IVec S16 32) (v1646 : IVec S16 32) (k0_hw775 : k0_chk775 k0_t1 v1633 v1646), ∀ (k0_h4 : k0_cond4 k0_t1 = 1#1), ∀ a x, ((![v1633, v1646] : Fin 2 → IVec S16 32) a x).toNat < S512x16.size a := fun k0_t1 v1633 v1646 k0_hw775 k0_h4 => k0_hw775 k0_h4

def k0_chk776 (k0_t1 : Fin k0_t1_loop.trips) (v1633 : IVec S16 32) (v1648 : IVec S16 32) : Prop :=
  (∀ (k0_h4 : k0_cond4 k0_t1 = 1#1), ∀ a x, ((![v1633, v1648] : Fin 2 → IVec S16 32) a x).toNat < S512x16.size a)
theorem k0_idx776_inb : ∀ (k0_t1 : Fin k0_t1_loop.trips) (v1633 : IVec S16 32) (v1648 : IVec S16 32) (k0_hw776 : k0_chk776 k0_t1 v1633 v1648), ∀ (k0_h4 : k0_cond4 k0_t1 = 1#1), ∀ a x, ((![v1633, v1648] : Fin 2 → IVec S16 32) a x).toNat < S512x16.size a := fun k0_t1 v1633 v1648 k0_hw776 k0_h4 => k0_hw776 k0_h4

def k0_chk777 (k0_t1 : Fin k0_t1_loop.trips) (v1633 : IVec S16 32) (v1650 : IVec S16 32) : Prop :=
  (∀ (k0_h4 : k0_cond4 k0_t1 = 1#1), ∀ a x, ((![v1633, v1650] : Fin 2 → IVec S16 32) a x).toNat < S512x16.size a)
theorem k0_idx777_inb : ∀ (k0_t1 : Fin k0_t1_loop.trips) (v1633 : IVec S16 32) (v1650 : IVec S16 32) (k0_hw777 : k0_chk777 k0_t1 v1633 v1650), ∀ (k0_h4 : k0_cond4 k0_t1 = 1#1), ∀ a x, ((![v1633, v1650] : Fin 2 → IVec S16 32) a x).toNat < S512x16.size a := fun k0_t1 v1633 v1650 k0_hw777 k0_h4 => k0_hw777 k0_h4

def k0_chk778 (k0_t1 : Fin k0_t1_loop.trips) (v1633 : IVec S16 32) (v1652 : IVec S16 32) : Prop :=
  (∀ (k0_h4 : k0_cond4 k0_t1 = 1#1), ∀ a x, ((![v1633, v1652] : Fin 2 → IVec S16 32) a x).toNat < S512x16.size a)
theorem k0_idx778_inb : ∀ (k0_t1 : Fin k0_t1_loop.trips) (v1633 : IVec S16 32) (v1652 : IVec S16 32) (k0_hw778 : k0_chk778 k0_t1 v1633 v1652), ∀ (k0_h4 : k0_cond4 k0_t1 = 1#1), ∀ a x, ((![v1633, v1652] : Fin 2 → IVec S16 32) a x).toNat < S512x16.size a := fun k0_t1 v1633 v1652 k0_hw778 k0_h4 => k0_hw778 k0_h4

def k0_chk779 (k0_t1 : Fin k0_t1_loop.trips) (v1633 : IVec S16 32) (v1654 : IVec S16 32) : Prop :=
  (∀ (k0_h4 : k0_cond4 k0_t1 = 1#1), ∀ a x, ((![v1633, v1654] : Fin 2 → IVec S16 32) a x).toNat < S512x16.size a)
theorem k0_idx779_inb : ∀ (k0_t1 : Fin k0_t1_loop.trips) (v1633 : IVec S16 32) (v1654 : IVec S16 32) (k0_hw779 : k0_chk779 k0_t1 v1633 v1654), ∀ (k0_h4 : k0_cond4 k0_t1 = 1#1), ∀ a x, ((![v1633, v1654] : Fin 2 → IVec S16 32) a x).toNat < S512x16.size a := fun k0_t1 v1633 v1654 k0_hw779 k0_h4 => k0_hw779 k0_h4

def k0_chk780 (k0_t1 : Fin k0_t1_loop.trips) (v1633 : IVec S16 32) (v1656 : IVec S16 32) : Prop :=
  (∀ (k0_h4 : k0_cond4 k0_t1 = 1#1), ∀ a x, ((![v1633, v1656] : Fin 2 → IVec S16 32) a x).toNat < S512x16.size a)
theorem k0_idx780_inb : ∀ (k0_t1 : Fin k0_t1_loop.trips) (v1633 : IVec S16 32) (v1656 : IVec S16 32) (k0_hw780 : k0_chk780 k0_t1 v1633 v1656), ∀ (k0_h4 : k0_cond4 k0_t1 = 1#1), ∀ a x, ((![v1633, v1656] : Fin 2 → IVec S16 32) a x).toNat < S512x16.size a := fun k0_t1 v1633 v1656 k0_hw780 k0_h4 => k0_hw780 k0_h4

def k0_chk781 (k0_t1 : Fin k0_t1_loop.trips) (v1633 : IVec S16 32) (v1658 : IVec S16 32) : Prop :=
  (∀ (k0_h4 : k0_cond4 k0_t1 = 1#1), ∀ a x, ((![v1633, v1658] : Fin 2 → IVec S16 32) a x).toNat < S512x16.size a)
theorem k0_idx781_inb : ∀ (k0_t1 : Fin k0_t1_loop.trips) (v1633 : IVec S16 32) (v1658 : IVec S16 32) (k0_hw781 : k0_chk781 k0_t1 v1633 v1658), ∀ (k0_h4 : k0_cond4 k0_t1 = 1#1), ∀ a x, ((![v1633, v1658] : Fin 2 → IVec S16 32) a x).toNat < S512x16.size a := fun k0_t1 v1633 v1658 k0_hw781 k0_h4 => k0_hw781 k0_h4

def k0_chk782 (k0_t1 : Fin k0_t1_loop.trips) (v1633 : IVec S16 32) (v1660 : IVec S16 32) : Prop :=
  (∀ (k0_h4 : k0_cond4 k0_t1 = 1#1), ∀ a x, ((![v1633, v1660] : Fin 2 → IVec S16 32) a x).toNat < S512x16.size a)
theorem k0_idx782_inb : ∀ (k0_t1 : Fin k0_t1_loop.trips) (v1633 : IVec S16 32) (v1660 : IVec S16 32) (k0_hw782 : k0_chk782 k0_t1 v1633 v1660), ∀ (k0_h4 : k0_cond4 k0_t1 = 1#1), ∀ a x, ((![v1633, v1660] : Fin 2 → IVec S16 32) a x).toNat < S512x16.size a := fun k0_t1 v1633 v1660 k0_hw782 k0_h4 => k0_hw782 k0_h4

def k0_chk783 (k0_t1 : Fin k0_t1_loop.trips) (v1633 : IVec S16 32) (v1662 : IVec S16 32) : Prop :=
  (∀ (k0_h4 : k0_cond4 k0_t1 = 1#1), ∀ a x, ((![v1633, v1662] : Fin 2 → IVec S16 32) a x).toNat < S512x16.size a)
theorem k0_idx783_inb : ∀ (k0_t1 : Fin k0_t1_loop.trips) (v1633 : IVec S16 32) (v1662 : IVec S16 32) (k0_hw783 : k0_chk783 k0_t1 v1633 v1662), ∀ (k0_h4 : k0_cond4 k0_t1 = 1#1), ∀ a x, ((![v1633, v1662] : Fin 2 → IVec S16 32) a x).toNat < S512x16.size a := fun k0_t1 v1633 v1662 k0_hw783 k0_h4 => k0_hw783 k0_h4

def k0_chk784 (k0_t1 : Fin k0_t1_loop.trips) (v1633 : IVec S16 32) (v1664 : IVec S16 32) : Prop :=
  (∀ (k0_h4 : k0_cond4 k0_t1 = 1#1), ∀ a x, ((![v1633, v1664] : Fin 2 → IVec S16 32) a x).toNat < S512x16.size a)
theorem k0_idx784_inb : ∀ (k0_t1 : Fin k0_t1_loop.trips) (v1633 : IVec S16 32) (v1664 : IVec S16 32) (k0_hw784 : k0_chk784 k0_t1 v1633 v1664), ∀ (k0_h4 : k0_cond4 k0_t1 = 1#1), ∀ a x, ((![v1633, v1664] : Fin 2 → IVec S16 32) a x).toNat < S512x16.size a := fun k0_t1 v1633 v1664 k0_hw784 k0_h4 => k0_hw784 k0_h4

def k0_chk785 (k0_t1 : Fin k0_t1_loop.trips) (v1732 : IVec S16 32) (v1733 : IVec S16 32) : Prop :=
  (∀ (k0_h4 : k0_cond4 k0_t1 = 1#1), ∀ a x, ((![v1732, v1733] : Fin 2 → IVec S16 32) a x).toNat < S512x16.size a)
theorem k0_idx785_inb : ∀ (k0_t1 : Fin k0_t1_loop.trips) (v1732 : IVec S16 32) (v1733 : IVec S16 32) (k0_hw785 : k0_chk785 k0_t1 v1732 v1733), ∀ (k0_h4 : k0_cond4 k0_t1 = 1#1), ∀ a x, ((![v1732, v1733] : Fin 2 → IVec S16 32) a x).toNat < S512x16.size a := fun k0_t1 v1732 v1733 k0_hw785 k0_h4 => k0_hw785 k0_h4

def k0_chk786 (k0_t1 : Fin k0_t1_loop.trips) (v1732 : IVec S16 32) (v1735 : IVec S16 32) : Prop :=
  (∀ (k0_h4 : k0_cond4 k0_t1 = 1#1), ∀ a x, ((![v1732, v1735] : Fin 2 → IVec S16 32) a x).toNat < S512x16.size a)
theorem k0_idx786_inb : ∀ (k0_t1 : Fin k0_t1_loop.trips) (v1732 : IVec S16 32) (v1735 : IVec S16 32) (k0_hw786 : k0_chk786 k0_t1 v1732 v1735), ∀ (k0_h4 : k0_cond4 k0_t1 = 1#1), ∀ a x, ((![v1732, v1735] : Fin 2 → IVec S16 32) a x).toNat < S512x16.size a := fun k0_t1 v1732 v1735 k0_hw786 k0_h4 => k0_hw786 k0_h4

def k0_chk787 (k0_t1 : Fin k0_t1_loop.trips) (v1732 : IVec S16 32) (v1737 : IVec S16 32) : Prop :=
  (∀ (k0_h4 : k0_cond4 k0_t1 = 1#1), ∀ a x, ((![v1732, v1737] : Fin 2 → IVec S16 32) a x).toNat < S512x16.size a)
theorem k0_idx787_inb : ∀ (k0_t1 : Fin k0_t1_loop.trips) (v1732 : IVec S16 32) (v1737 : IVec S16 32) (k0_hw787 : k0_chk787 k0_t1 v1732 v1737), ∀ (k0_h4 : k0_cond4 k0_t1 = 1#1), ∀ a x, ((![v1732, v1737] : Fin 2 → IVec S16 32) a x).toNat < S512x16.size a := fun k0_t1 v1732 v1737 k0_hw787 k0_h4 => k0_hw787 k0_h4

def k0_chk788 (k0_t1 : Fin k0_t1_loop.trips) (v1732 : IVec S16 32) (v1739 : IVec S16 32) : Prop :=
  (∀ (k0_h4 : k0_cond4 k0_t1 = 1#1), ∀ a x, ((![v1732, v1739] : Fin 2 → IVec S16 32) a x).toNat < S512x16.size a)
theorem k0_idx788_inb : ∀ (k0_t1 : Fin k0_t1_loop.trips) (v1732 : IVec S16 32) (v1739 : IVec S16 32) (k0_hw788 : k0_chk788 k0_t1 v1732 v1739), ∀ (k0_h4 : k0_cond4 k0_t1 = 1#1), ∀ a x, ((![v1732, v1739] : Fin 2 → IVec S16 32) a x).toNat < S512x16.size a := fun k0_t1 v1732 v1739 k0_hw788 k0_h4 => k0_hw788 k0_h4

def k0_chk789 (k0_t1 : Fin k0_t1_loop.trips) (v1732 : IVec S16 32) (v1741 : IVec S16 32) : Prop :=
  (∀ (k0_h4 : k0_cond4 k0_t1 = 1#1), ∀ a x, ((![v1732, v1741] : Fin 2 → IVec S16 32) a x).toNat < S512x16.size a)
theorem k0_idx789_inb : ∀ (k0_t1 : Fin k0_t1_loop.trips) (v1732 : IVec S16 32) (v1741 : IVec S16 32) (k0_hw789 : k0_chk789 k0_t1 v1732 v1741), ∀ (k0_h4 : k0_cond4 k0_t1 = 1#1), ∀ a x, ((![v1732, v1741] : Fin 2 → IVec S16 32) a x).toNat < S512x16.size a := fun k0_t1 v1732 v1741 k0_hw789 k0_h4 => k0_hw789 k0_h4

def k0_chk790 (k0_t1 : Fin k0_t1_loop.trips) (v1732 : IVec S16 32) (v1743 : IVec S16 32) : Prop :=
  (∀ (k0_h4 : k0_cond4 k0_t1 = 1#1), ∀ a x, ((![v1732, v1743] : Fin 2 → IVec S16 32) a x).toNat < S512x16.size a)
theorem k0_idx790_inb : ∀ (k0_t1 : Fin k0_t1_loop.trips) (v1732 : IVec S16 32) (v1743 : IVec S16 32) (k0_hw790 : k0_chk790 k0_t1 v1732 v1743), ∀ (k0_h4 : k0_cond4 k0_t1 = 1#1), ∀ a x, ((![v1732, v1743] : Fin 2 → IVec S16 32) a x).toNat < S512x16.size a := fun k0_t1 v1732 v1743 k0_hw790 k0_h4 => k0_hw790 k0_h4

def k0_chk791 (k0_t1 : Fin k0_t1_loop.trips) (v1732 : IVec S16 32) (v1745 : IVec S16 32) : Prop :=
  (∀ (k0_h4 : k0_cond4 k0_t1 = 1#1), ∀ a x, ((![v1732, v1745] : Fin 2 → IVec S16 32) a x).toNat < S512x16.size a)
theorem k0_idx791_inb : ∀ (k0_t1 : Fin k0_t1_loop.trips) (v1732 : IVec S16 32) (v1745 : IVec S16 32) (k0_hw791 : k0_chk791 k0_t1 v1732 v1745), ∀ (k0_h4 : k0_cond4 k0_t1 = 1#1), ∀ a x, ((![v1732, v1745] : Fin 2 → IVec S16 32) a x).toNat < S512x16.size a := fun k0_t1 v1732 v1745 k0_hw791 k0_h4 => k0_hw791 k0_h4

def k0_chk792 (k0_t1 : Fin k0_t1_loop.trips) (v1732 : IVec S16 32) (v1747 : IVec S16 32) : Prop :=
  (∀ (k0_h4 : k0_cond4 k0_t1 = 1#1), ∀ a x, ((![v1732, v1747] : Fin 2 → IVec S16 32) a x).toNat < S512x16.size a)
theorem k0_idx792_inb : ∀ (k0_t1 : Fin k0_t1_loop.trips) (v1732 : IVec S16 32) (v1747 : IVec S16 32) (k0_hw792 : k0_chk792 k0_t1 v1732 v1747), ∀ (k0_h4 : k0_cond4 k0_t1 = 1#1), ∀ a x, ((![v1732, v1747] : Fin 2 → IVec S16 32) a x).toNat < S512x16.size a := fun k0_t1 v1732 v1747 k0_hw792 k0_h4 => k0_hw792 k0_h4

def k0_chk793 (k0_t1 : Fin k0_t1_loop.trips) (v1732 : IVec S16 32) (v1749 : IVec S16 32) : Prop :=
  (∀ (k0_h4 : k0_cond4 k0_t1 = 1#1), ∀ a x, ((![v1732, v1749] : Fin 2 → IVec S16 32) a x).toNat < S512x16.size a)
theorem k0_idx793_inb : ∀ (k0_t1 : Fin k0_t1_loop.trips) (v1732 : IVec S16 32) (v1749 : IVec S16 32) (k0_hw793 : k0_chk793 k0_t1 v1732 v1749), ∀ (k0_h4 : k0_cond4 k0_t1 = 1#1), ∀ a x, ((![v1732, v1749] : Fin 2 → IVec S16 32) a x).toNat < S512x16.size a := fun k0_t1 v1732 v1749 k0_hw793 k0_h4 => k0_hw793 k0_h4

def k0_chk794 (k0_t1 : Fin k0_t1_loop.trips) (v1732 : IVec S16 32) (v1751 : IVec S16 32) : Prop :=
  (∀ (k0_h4 : k0_cond4 k0_t1 = 1#1), ∀ a x, ((![v1732, v1751] : Fin 2 → IVec S16 32) a x).toNat < S512x16.size a)
theorem k0_idx794_inb : ∀ (k0_t1 : Fin k0_t1_loop.trips) (v1732 : IVec S16 32) (v1751 : IVec S16 32) (k0_hw794 : k0_chk794 k0_t1 v1732 v1751), ∀ (k0_h4 : k0_cond4 k0_t1 = 1#1), ∀ a x, ((![v1732, v1751] : Fin 2 → IVec S16 32) a x).toNat < S512x16.size a := fun k0_t1 v1732 v1751 k0_hw794 k0_h4 => k0_hw794 k0_h4

def k0_chk795 (k0_t1 : Fin k0_t1_loop.trips) (v1732 : IVec S16 32) (v1753 : IVec S16 32) : Prop :=
  (∀ (k0_h4 : k0_cond4 k0_t1 = 1#1), ∀ a x, ((![v1732, v1753] : Fin 2 → IVec S16 32) a x).toNat < S512x16.size a)
theorem k0_idx795_inb : ∀ (k0_t1 : Fin k0_t1_loop.trips) (v1732 : IVec S16 32) (v1753 : IVec S16 32) (k0_hw795 : k0_chk795 k0_t1 v1732 v1753), ∀ (k0_h4 : k0_cond4 k0_t1 = 1#1), ∀ a x, ((![v1732, v1753] : Fin 2 → IVec S16 32) a x).toNat < S512x16.size a := fun k0_t1 v1732 v1753 k0_hw795 k0_h4 => k0_hw795 k0_h4

def k0_chk796 (k0_t1 : Fin k0_t1_loop.trips) (v1732 : IVec S16 32) (v1755 : IVec S16 32) : Prop :=
  (∀ (k0_h4 : k0_cond4 k0_t1 = 1#1), ∀ a x, ((![v1732, v1755] : Fin 2 → IVec S16 32) a x).toNat < S512x16.size a)
theorem k0_idx796_inb : ∀ (k0_t1 : Fin k0_t1_loop.trips) (v1732 : IVec S16 32) (v1755 : IVec S16 32) (k0_hw796 : k0_chk796 k0_t1 v1732 v1755), ∀ (k0_h4 : k0_cond4 k0_t1 = 1#1), ∀ a x, ((![v1732, v1755] : Fin 2 → IVec S16 32) a x).toNat < S512x16.size a := fun k0_t1 v1732 v1755 k0_hw796 k0_h4 => k0_hw796 k0_h4

def k0_chk797 (k0_t1 : Fin k0_t1_loop.trips) (v1732 : IVec S16 32) (v1757 : IVec S16 32) : Prop :=
  (∀ (k0_h4 : k0_cond4 k0_t1 = 1#1), ∀ a x, ((![v1732, v1757] : Fin 2 → IVec S16 32) a x).toNat < S512x16.size a)
theorem k0_idx797_inb : ∀ (k0_t1 : Fin k0_t1_loop.trips) (v1732 : IVec S16 32) (v1757 : IVec S16 32) (k0_hw797 : k0_chk797 k0_t1 v1732 v1757), ∀ (k0_h4 : k0_cond4 k0_t1 = 1#1), ∀ a x, ((![v1732, v1757] : Fin 2 → IVec S16 32) a x).toNat < S512x16.size a := fun k0_t1 v1732 v1757 k0_hw797 k0_h4 => k0_hw797 k0_h4

def k0_chk798 (k0_t1 : Fin k0_t1_loop.trips) (v1732 : IVec S16 32) (v1759 : IVec S16 32) : Prop :=
  (∀ (k0_h4 : k0_cond4 k0_t1 = 1#1), ∀ a x, ((![v1732, v1759] : Fin 2 → IVec S16 32) a x).toNat < S512x16.size a)
theorem k0_idx798_inb : ∀ (k0_t1 : Fin k0_t1_loop.trips) (v1732 : IVec S16 32) (v1759 : IVec S16 32) (k0_hw798 : k0_chk798 k0_t1 v1732 v1759), ∀ (k0_h4 : k0_cond4 k0_t1 = 1#1), ∀ a x, ((![v1732, v1759] : Fin 2 → IVec S16 32) a x).toNat < S512x16.size a := fun k0_t1 v1732 v1759 k0_hw798 k0_h4 => k0_hw798 k0_h4

def k0_chk799 (k0_t1 : Fin k0_t1_loop.trips) (v1732 : IVec S16 32) (v1761 : IVec S16 32) : Prop :=
  (∀ (k0_h4 : k0_cond4 k0_t1 = 1#1), ∀ a x, ((![v1732, v1761] : Fin 2 → IVec S16 32) a x).toNat < S512x16.size a)
theorem k0_idx799_inb : ∀ (k0_t1 : Fin k0_t1_loop.trips) (v1732 : IVec S16 32) (v1761 : IVec S16 32) (k0_hw799 : k0_chk799 k0_t1 v1732 v1761), ∀ (k0_h4 : k0_cond4 k0_t1 = 1#1), ∀ a x, ((![v1732, v1761] : Fin 2 → IVec S16 32) a x).toNat < S512x16.size a := fun k0_t1 v1732 v1761 k0_hw799 k0_h4 => k0_hw799 k0_h4

def k0_chk800 (k0_t1 : Fin k0_t1_loop.trips) (v1732 : IVec S16 32) (v1763 : IVec S16 32) : Prop :=
  (∀ (k0_h4 : k0_cond4 k0_t1 = 1#1), ∀ a x, ((![v1732, v1763] : Fin 2 → IVec S16 32) a x).toNat < S512x16.size a)
theorem k0_idx800_inb : ∀ (k0_t1 : Fin k0_t1_loop.trips) (v1732 : IVec S16 32) (v1763 : IVec S16 32) (k0_hw800 : k0_chk800 k0_t1 v1732 v1763), ∀ (k0_h4 : k0_cond4 k0_t1 = 1#1), ∀ a x, ((![v1732, v1763] : Fin 2 → IVec S16 32) a x).toNat < S512x16.size a := fun k0_t1 v1732 v1763 k0_hw800 k0_h4 => k0_hw800 k0_h4

def k0_chk801 (k0_t1 : Fin k0_t1_loop.trips) (v1831 : IVec S16 32) (v1832 : IVec S16 32) : Prop :=
  (∀ (k0_h4 : k0_cond4 k0_t1 = 1#1), ∀ a x, ((![v1831, v1832] : Fin 2 → IVec S16 32) a x).toNat < S512x16.size a)
theorem k0_idx801_inb : ∀ (k0_t1 : Fin k0_t1_loop.trips) (v1831 : IVec S16 32) (v1832 : IVec S16 32) (k0_hw801 : k0_chk801 k0_t1 v1831 v1832), ∀ (k0_h4 : k0_cond4 k0_t1 = 1#1), ∀ a x, ((![v1831, v1832] : Fin 2 → IVec S16 32) a x).toNat < S512x16.size a := fun k0_t1 v1831 v1832 k0_hw801 k0_h4 => k0_hw801 k0_h4

def k0_chk802 (k0_t1 : Fin k0_t1_loop.trips) (v1831 : IVec S16 32) (v1834 : IVec S16 32) : Prop :=
  (∀ (k0_h4 : k0_cond4 k0_t1 = 1#1), ∀ a x, ((![v1831, v1834] : Fin 2 → IVec S16 32) a x).toNat < S512x16.size a)
theorem k0_idx802_inb : ∀ (k0_t1 : Fin k0_t1_loop.trips) (v1831 : IVec S16 32) (v1834 : IVec S16 32) (k0_hw802 : k0_chk802 k0_t1 v1831 v1834), ∀ (k0_h4 : k0_cond4 k0_t1 = 1#1), ∀ a x, ((![v1831, v1834] : Fin 2 → IVec S16 32) a x).toNat < S512x16.size a := fun k0_t1 v1831 v1834 k0_hw802 k0_h4 => k0_hw802 k0_h4

def k0_chk803 (k0_t1 : Fin k0_t1_loop.trips) (v1831 : IVec S16 32) (v1836 : IVec S16 32) : Prop :=
  (∀ (k0_h4 : k0_cond4 k0_t1 = 1#1), ∀ a x, ((![v1831, v1836] : Fin 2 → IVec S16 32) a x).toNat < S512x16.size a)
theorem k0_idx803_inb : ∀ (k0_t1 : Fin k0_t1_loop.trips) (v1831 : IVec S16 32) (v1836 : IVec S16 32) (k0_hw803 : k0_chk803 k0_t1 v1831 v1836), ∀ (k0_h4 : k0_cond4 k0_t1 = 1#1), ∀ a x, ((![v1831, v1836] : Fin 2 → IVec S16 32) a x).toNat < S512x16.size a := fun k0_t1 v1831 v1836 k0_hw803 k0_h4 => k0_hw803 k0_h4

def k0_chk804 (k0_t1 : Fin k0_t1_loop.trips) (v1831 : IVec S16 32) (v1838 : IVec S16 32) : Prop :=
  (∀ (k0_h4 : k0_cond4 k0_t1 = 1#1), ∀ a x, ((![v1831, v1838] : Fin 2 → IVec S16 32) a x).toNat < S512x16.size a)
theorem k0_idx804_inb : ∀ (k0_t1 : Fin k0_t1_loop.trips) (v1831 : IVec S16 32) (v1838 : IVec S16 32) (k0_hw804 : k0_chk804 k0_t1 v1831 v1838), ∀ (k0_h4 : k0_cond4 k0_t1 = 1#1), ∀ a x, ((![v1831, v1838] : Fin 2 → IVec S16 32) a x).toNat < S512x16.size a := fun k0_t1 v1831 v1838 k0_hw804 k0_h4 => k0_hw804 k0_h4

def k0_chk805 (k0_t1 : Fin k0_t1_loop.trips) (v1831 : IVec S16 32) (v1840 : IVec S16 32) : Prop :=
  (∀ (k0_h4 : k0_cond4 k0_t1 = 1#1), ∀ a x, ((![v1831, v1840] : Fin 2 → IVec S16 32) a x).toNat < S512x16.size a)
theorem k0_idx805_inb : ∀ (k0_t1 : Fin k0_t1_loop.trips) (v1831 : IVec S16 32) (v1840 : IVec S16 32) (k0_hw805 : k0_chk805 k0_t1 v1831 v1840), ∀ (k0_h4 : k0_cond4 k0_t1 = 1#1), ∀ a x, ((![v1831, v1840] : Fin 2 → IVec S16 32) a x).toNat < S512x16.size a := fun k0_t1 v1831 v1840 k0_hw805 k0_h4 => k0_hw805 k0_h4

def k0_chk806 (k0_t1 : Fin k0_t1_loop.trips) (v1831 : IVec S16 32) (v1842 : IVec S16 32) : Prop :=
  (∀ (k0_h4 : k0_cond4 k0_t1 = 1#1), ∀ a x, ((![v1831, v1842] : Fin 2 → IVec S16 32) a x).toNat < S512x16.size a)
theorem k0_idx806_inb : ∀ (k0_t1 : Fin k0_t1_loop.trips) (v1831 : IVec S16 32) (v1842 : IVec S16 32) (k0_hw806 : k0_chk806 k0_t1 v1831 v1842), ∀ (k0_h4 : k0_cond4 k0_t1 = 1#1), ∀ a x, ((![v1831, v1842] : Fin 2 → IVec S16 32) a x).toNat < S512x16.size a := fun k0_t1 v1831 v1842 k0_hw806 k0_h4 => k0_hw806 k0_h4

def k0_chk807 (k0_t1 : Fin k0_t1_loop.trips) (v1831 : IVec S16 32) (v1844 : IVec S16 32) : Prop :=
  (∀ (k0_h4 : k0_cond4 k0_t1 = 1#1), ∀ a x, ((![v1831, v1844] : Fin 2 → IVec S16 32) a x).toNat < S512x16.size a)
theorem k0_idx807_inb : ∀ (k0_t1 : Fin k0_t1_loop.trips) (v1831 : IVec S16 32) (v1844 : IVec S16 32) (k0_hw807 : k0_chk807 k0_t1 v1831 v1844), ∀ (k0_h4 : k0_cond4 k0_t1 = 1#1), ∀ a x, ((![v1831, v1844] : Fin 2 → IVec S16 32) a x).toNat < S512x16.size a := fun k0_t1 v1831 v1844 k0_hw807 k0_h4 => k0_hw807 k0_h4

def k0_chk808 (k0_t1 : Fin k0_t1_loop.trips) (v1831 : IVec S16 32) (v1846 : IVec S16 32) : Prop :=
  (∀ (k0_h4 : k0_cond4 k0_t1 = 1#1), ∀ a x, ((![v1831, v1846] : Fin 2 → IVec S16 32) a x).toNat < S512x16.size a)
theorem k0_idx808_inb : ∀ (k0_t1 : Fin k0_t1_loop.trips) (v1831 : IVec S16 32) (v1846 : IVec S16 32) (k0_hw808 : k0_chk808 k0_t1 v1831 v1846), ∀ (k0_h4 : k0_cond4 k0_t1 = 1#1), ∀ a x, ((![v1831, v1846] : Fin 2 → IVec S16 32) a x).toNat < S512x16.size a := fun k0_t1 v1831 v1846 k0_hw808 k0_h4 => k0_hw808 k0_h4

def k0_chk809 (k0_t1 : Fin k0_t1_loop.trips) (v1831 : IVec S16 32) (v1848 : IVec S16 32) : Prop :=
  (∀ (k0_h4 : k0_cond4 k0_t1 = 1#1), ∀ a x, ((![v1831, v1848] : Fin 2 → IVec S16 32) a x).toNat < S512x16.size a)
theorem k0_idx809_inb : ∀ (k0_t1 : Fin k0_t1_loop.trips) (v1831 : IVec S16 32) (v1848 : IVec S16 32) (k0_hw809 : k0_chk809 k0_t1 v1831 v1848), ∀ (k0_h4 : k0_cond4 k0_t1 = 1#1), ∀ a x, ((![v1831, v1848] : Fin 2 → IVec S16 32) a x).toNat < S512x16.size a := fun k0_t1 v1831 v1848 k0_hw809 k0_h4 => k0_hw809 k0_h4

def k0_chk810 (k0_t1 : Fin k0_t1_loop.trips) (v1831 : IVec S16 32) (v1850 : IVec S16 32) : Prop :=
  (∀ (k0_h4 : k0_cond4 k0_t1 = 1#1), ∀ a x, ((![v1831, v1850] : Fin 2 → IVec S16 32) a x).toNat < S512x16.size a)
theorem k0_idx810_inb : ∀ (k0_t1 : Fin k0_t1_loop.trips) (v1831 : IVec S16 32) (v1850 : IVec S16 32) (k0_hw810 : k0_chk810 k0_t1 v1831 v1850), ∀ (k0_h4 : k0_cond4 k0_t1 = 1#1), ∀ a x, ((![v1831, v1850] : Fin 2 → IVec S16 32) a x).toNat < S512x16.size a := fun k0_t1 v1831 v1850 k0_hw810 k0_h4 => k0_hw810 k0_h4

def k0_chk811 (k0_t1 : Fin k0_t1_loop.trips) (v1831 : IVec S16 32) (v1852 : IVec S16 32) : Prop :=
  (∀ (k0_h4 : k0_cond4 k0_t1 = 1#1), ∀ a x, ((![v1831, v1852] : Fin 2 → IVec S16 32) a x).toNat < S512x16.size a)
theorem k0_idx811_inb : ∀ (k0_t1 : Fin k0_t1_loop.trips) (v1831 : IVec S16 32) (v1852 : IVec S16 32) (k0_hw811 : k0_chk811 k0_t1 v1831 v1852), ∀ (k0_h4 : k0_cond4 k0_t1 = 1#1), ∀ a x, ((![v1831, v1852] : Fin 2 → IVec S16 32) a x).toNat < S512x16.size a := fun k0_t1 v1831 v1852 k0_hw811 k0_h4 => k0_hw811 k0_h4

def k0_chk812 (k0_t1 : Fin k0_t1_loop.trips) (v1831 : IVec S16 32) (v1854 : IVec S16 32) : Prop :=
  (∀ (k0_h4 : k0_cond4 k0_t1 = 1#1), ∀ a x, ((![v1831, v1854] : Fin 2 → IVec S16 32) a x).toNat < S512x16.size a)
theorem k0_idx812_inb : ∀ (k0_t1 : Fin k0_t1_loop.trips) (v1831 : IVec S16 32) (v1854 : IVec S16 32) (k0_hw812 : k0_chk812 k0_t1 v1831 v1854), ∀ (k0_h4 : k0_cond4 k0_t1 = 1#1), ∀ a x, ((![v1831, v1854] : Fin 2 → IVec S16 32) a x).toNat < S512x16.size a := fun k0_t1 v1831 v1854 k0_hw812 k0_h4 => k0_hw812 k0_h4

def k0_chk813 (k0_t1 : Fin k0_t1_loop.trips) (v1831 : IVec S16 32) (v1856 : IVec S16 32) : Prop :=
  (∀ (k0_h4 : k0_cond4 k0_t1 = 1#1), ∀ a x, ((![v1831, v1856] : Fin 2 → IVec S16 32) a x).toNat < S512x16.size a)
theorem k0_idx813_inb : ∀ (k0_t1 : Fin k0_t1_loop.trips) (v1831 : IVec S16 32) (v1856 : IVec S16 32) (k0_hw813 : k0_chk813 k0_t1 v1831 v1856), ∀ (k0_h4 : k0_cond4 k0_t1 = 1#1), ∀ a x, ((![v1831, v1856] : Fin 2 → IVec S16 32) a x).toNat < S512x16.size a := fun k0_t1 v1831 v1856 k0_hw813 k0_h4 => k0_hw813 k0_h4

def k0_chk814 (k0_t1 : Fin k0_t1_loop.trips) (v1831 : IVec S16 32) (v1858 : IVec S16 32) : Prop :=
  (∀ (k0_h4 : k0_cond4 k0_t1 = 1#1), ∀ a x, ((![v1831, v1858] : Fin 2 → IVec S16 32) a x).toNat < S512x16.size a)
theorem k0_idx814_inb : ∀ (k0_t1 : Fin k0_t1_loop.trips) (v1831 : IVec S16 32) (v1858 : IVec S16 32) (k0_hw814 : k0_chk814 k0_t1 v1831 v1858), ∀ (k0_h4 : k0_cond4 k0_t1 = 1#1), ∀ a x, ((![v1831, v1858] : Fin 2 → IVec S16 32) a x).toNat < S512x16.size a := fun k0_t1 v1831 v1858 k0_hw814 k0_h4 => k0_hw814 k0_h4

def k0_chk815 (k0_t1 : Fin k0_t1_loop.trips) (v1831 : IVec S16 32) (v1860 : IVec S16 32) : Prop :=
  (∀ (k0_h4 : k0_cond4 k0_t1 = 1#1), ∀ a x, ((![v1831, v1860] : Fin 2 → IVec S16 32) a x).toNat < S512x16.size a)
theorem k0_idx815_inb : ∀ (k0_t1 : Fin k0_t1_loop.trips) (v1831 : IVec S16 32) (v1860 : IVec S16 32) (k0_hw815 : k0_chk815 k0_t1 v1831 v1860), ∀ (k0_h4 : k0_cond4 k0_t1 = 1#1), ∀ a x, ((![v1831, v1860] : Fin 2 → IVec S16 32) a x).toNat < S512x16.size a := fun k0_t1 v1831 v1860 k0_hw815 k0_h4 => k0_hw815 k0_h4

def k0_chk816 (k0_t1 : Fin k0_t1_loop.trips) (v1831 : IVec S16 32) (v1862 : IVec S16 32) : Prop :=
  (∀ (k0_h4 : k0_cond4 k0_t1 = 1#1), ∀ a x, ((![v1831, v1862] : Fin 2 → IVec S16 32) a x).toNat < S512x16.size a)
theorem k0_idx816_inb : ∀ (k0_t1 : Fin k0_t1_loop.trips) (v1831 : IVec S16 32) (v1862 : IVec S16 32) (k0_hw816 : k0_chk816 k0_t1 v1831 v1862), ∀ (k0_h4 : k0_cond4 k0_t1 = 1#1), ∀ a x, ((![v1831, v1862] : Fin 2 → IVec S16 32) a x).toNat < S512x16.size a := fun k0_t1 v1831 v1862 k0_hw816 k0_h4 => k0_hw816 k0_h4

def k0_chk817 (k0_t1 : Fin k0_t1_loop.trips) (v1930 : IVec S16 32) (v1931 : IVec S16 32) : Prop :=
  (∀ (k0_h4 : k0_cond4 k0_t1 = 1#1), ∀ a x, ((![v1930, v1931] : Fin 2 → IVec S16 32) a x).toNat < S512x16.size a)
theorem k0_idx817_inb : ∀ (k0_t1 : Fin k0_t1_loop.trips) (v1930 : IVec S16 32) (v1931 : IVec S16 32) (k0_hw817 : k0_chk817 k0_t1 v1930 v1931), ∀ (k0_h4 : k0_cond4 k0_t1 = 1#1), ∀ a x, ((![v1930, v1931] : Fin 2 → IVec S16 32) a x).toNat < S512x16.size a := fun k0_t1 v1930 v1931 k0_hw817 k0_h4 => k0_hw817 k0_h4

def k0_chk818 (k0_t1 : Fin k0_t1_loop.trips) (v1930 : IVec S16 32) (v1933 : IVec S16 32) : Prop :=
  (∀ (k0_h4 : k0_cond4 k0_t1 = 1#1), ∀ a x, ((![v1930, v1933] : Fin 2 → IVec S16 32) a x).toNat < S512x16.size a)
theorem k0_idx818_inb : ∀ (k0_t1 : Fin k0_t1_loop.trips) (v1930 : IVec S16 32) (v1933 : IVec S16 32) (k0_hw818 : k0_chk818 k0_t1 v1930 v1933), ∀ (k0_h4 : k0_cond4 k0_t1 = 1#1), ∀ a x, ((![v1930, v1933] : Fin 2 → IVec S16 32) a x).toNat < S512x16.size a := fun k0_t1 v1930 v1933 k0_hw818 k0_h4 => k0_hw818 k0_h4

def k0_chk819 (k0_t1 : Fin k0_t1_loop.trips) (v1930 : IVec S16 32) (v1935 : IVec S16 32) : Prop :=
  (∀ (k0_h4 : k0_cond4 k0_t1 = 1#1), ∀ a x, ((![v1930, v1935] : Fin 2 → IVec S16 32) a x).toNat < S512x16.size a)
theorem k0_idx819_inb : ∀ (k0_t1 : Fin k0_t1_loop.trips) (v1930 : IVec S16 32) (v1935 : IVec S16 32) (k0_hw819 : k0_chk819 k0_t1 v1930 v1935), ∀ (k0_h4 : k0_cond4 k0_t1 = 1#1), ∀ a x, ((![v1930, v1935] : Fin 2 → IVec S16 32) a x).toNat < S512x16.size a := fun k0_t1 v1930 v1935 k0_hw819 k0_h4 => k0_hw819 k0_h4

def k0_chk820 (k0_t1 : Fin k0_t1_loop.trips) (v1930 : IVec S16 32) (v1937 : IVec S16 32) : Prop :=
  (∀ (k0_h4 : k0_cond4 k0_t1 = 1#1), ∀ a x, ((![v1930, v1937] : Fin 2 → IVec S16 32) a x).toNat < S512x16.size a)
theorem k0_idx820_inb : ∀ (k0_t1 : Fin k0_t1_loop.trips) (v1930 : IVec S16 32) (v1937 : IVec S16 32) (k0_hw820 : k0_chk820 k0_t1 v1930 v1937), ∀ (k0_h4 : k0_cond4 k0_t1 = 1#1), ∀ a x, ((![v1930, v1937] : Fin 2 → IVec S16 32) a x).toNat < S512x16.size a := fun k0_t1 v1930 v1937 k0_hw820 k0_h4 => k0_hw820 k0_h4

def k0_chk821 (k0_t1 : Fin k0_t1_loop.trips) (v1930 : IVec S16 32) (v1939 : IVec S16 32) : Prop :=
  (∀ (k0_h4 : k0_cond4 k0_t1 = 1#1), ∀ a x, ((![v1930, v1939] : Fin 2 → IVec S16 32) a x).toNat < S512x16.size a)
theorem k0_idx821_inb : ∀ (k0_t1 : Fin k0_t1_loop.trips) (v1930 : IVec S16 32) (v1939 : IVec S16 32) (k0_hw821 : k0_chk821 k0_t1 v1930 v1939), ∀ (k0_h4 : k0_cond4 k0_t1 = 1#1), ∀ a x, ((![v1930, v1939] : Fin 2 → IVec S16 32) a x).toNat < S512x16.size a := fun k0_t1 v1930 v1939 k0_hw821 k0_h4 => k0_hw821 k0_h4

def k0_chk822 (k0_t1 : Fin k0_t1_loop.trips) (v1930 : IVec S16 32) (v1941 : IVec S16 32) : Prop :=
  (∀ (k0_h4 : k0_cond4 k0_t1 = 1#1), ∀ a x, ((![v1930, v1941] : Fin 2 → IVec S16 32) a x).toNat < S512x16.size a)
theorem k0_idx822_inb : ∀ (k0_t1 : Fin k0_t1_loop.trips) (v1930 : IVec S16 32) (v1941 : IVec S16 32) (k0_hw822 : k0_chk822 k0_t1 v1930 v1941), ∀ (k0_h4 : k0_cond4 k0_t1 = 1#1), ∀ a x, ((![v1930, v1941] : Fin 2 → IVec S16 32) a x).toNat < S512x16.size a := fun k0_t1 v1930 v1941 k0_hw822 k0_h4 => k0_hw822 k0_h4

def k0_chk823 (k0_t1 : Fin k0_t1_loop.trips) (v1930 : IVec S16 32) (v1943 : IVec S16 32) : Prop :=
  (∀ (k0_h4 : k0_cond4 k0_t1 = 1#1), ∀ a x, ((![v1930, v1943] : Fin 2 → IVec S16 32) a x).toNat < S512x16.size a)
theorem k0_idx823_inb : ∀ (k0_t1 : Fin k0_t1_loop.trips) (v1930 : IVec S16 32) (v1943 : IVec S16 32) (k0_hw823 : k0_chk823 k0_t1 v1930 v1943), ∀ (k0_h4 : k0_cond4 k0_t1 = 1#1), ∀ a x, ((![v1930, v1943] : Fin 2 → IVec S16 32) a x).toNat < S512x16.size a := fun k0_t1 v1930 v1943 k0_hw823 k0_h4 => k0_hw823 k0_h4

def k0_chk824 (k0_t1 : Fin k0_t1_loop.trips) (v1930 : IVec S16 32) (v1945 : IVec S16 32) : Prop :=
  (∀ (k0_h4 : k0_cond4 k0_t1 = 1#1), ∀ a x, ((![v1930, v1945] : Fin 2 → IVec S16 32) a x).toNat < S512x16.size a)
theorem k0_idx824_inb : ∀ (k0_t1 : Fin k0_t1_loop.trips) (v1930 : IVec S16 32) (v1945 : IVec S16 32) (k0_hw824 : k0_chk824 k0_t1 v1930 v1945), ∀ (k0_h4 : k0_cond4 k0_t1 = 1#1), ∀ a x, ((![v1930, v1945] : Fin 2 → IVec S16 32) a x).toNat < S512x16.size a := fun k0_t1 v1930 v1945 k0_hw824 k0_h4 => k0_hw824 k0_h4

def k0_chk825 (k0_t1 : Fin k0_t1_loop.trips) (v1930 : IVec S16 32) (v1947 : IVec S16 32) : Prop :=
  (∀ (k0_h4 : k0_cond4 k0_t1 = 1#1), ∀ a x, ((![v1930, v1947] : Fin 2 → IVec S16 32) a x).toNat < S512x16.size a)
theorem k0_idx825_inb : ∀ (k0_t1 : Fin k0_t1_loop.trips) (v1930 : IVec S16 32) (v1947 : IVec S16 32) (k0_hw825 : k0_chk825 k0_t1 v1930 v1947), ∀ (k0_h4 : k0_cond4 k0_t1 = 1#1), ∀ a x, ((![v1930, v1947] : Fin 2 → IVec S16 32) a x).toNat < S512x16.size a := fun k0_t1 v1930 v1947 k0_hw825 k0_h4 => k0_hw825 k0_h4

def k0_chk826 (k0_t1 : Fin k0_t1_loop.trips) (v1930 : IVec S16 32) (v1949 : IVec S16 32) : Prop :=
  (∀ (k0_h4 : k0_cond4 k0_t1 = 1#1), ∀ a x, ((![v1930, v1949] : Fin 2 → IVec S16 32) a x).toNat < S512x16.size a)
theorem k0_idx826_inb : ∀ (k0_t1 : Fin k0_t1_loop.trips) (v1930 : IVec S16 32) (v1949 : IVec S16 32) (k0_hw826 : k0_chk826 k0_t1 v1930 v1949), ∀ (k0_h4 : k0_cond4 k0_t1 = 1#1), ∀ a x, ((![v1930, v1949] : Fin 2 → IVec S16 32) a x).toNat < S512x16.size a := fun k0_t1 v1930 v1949 k0_hw826 k0_h4 => k0_hw826 k0_h4

def k0_chk827 (k0_t1 : Fin k0_t1_loop.trips) (v1930 : IVec S16 32) (v1951 : IVec S16 32) : Prop :=
  (∀ (k0_h4 : k0_cond4 k0_t1 = 1#1), ∀ a x, ((![v1930, v1951] : Fin 2 → IVec S16 32) a x).toNat < S512x16.size a)
theorem k0_idx827_inb : ∀ (k0_t1 : Fin k0_t1_loop.trips) (v1930 : IVec S16 32) (v1951 : IVec S16 32) (k0_hw827 : k0_chk827 k0_t1 v1930 v1951), ∀ (k0_h4 : k0_cond4 k0_t1 = 1#1), ∀ a x, ((![v1930, v1951] : Fin 2 → IVec S16 32) a x).toNat < S512x16.size a := fun k0_t1 v1930 v1951 k0_hw827 k0_h4 => k0_hw827 k0_h4

def k0_chk828 (k0_t1 : Fin k0_t1_loop.trips) (v1930 : IVec S16 32) (v1953 : IVec S16 32) : Prop :=
  (∀ (k0_h4 : k0_cond4 k0_t1 = 1#1), ∀ a x, ((![v1930, v1953] : Fin 2 → IVec S16 32) a x).toNat < S512x16.size a)
theorem k0_idx828_inb : ∀ (k0_t1 : Fin k0_t1_loop.trips) (v1930 : IVec S16 32) (v1953 : IVec S16 32) (k0_hw828 : k0_chk828 k0_t1 v1930 v1953), ∀ (k0_h4 : k0_cond4 k0_t1 = 1#1), ∀ a x, ((![v1930, v1953] : Fin 2 → IVec S16 32) a x).toNat < S512x16.size a := fun k0_t1 v1930 v1953 k0_hw828 k0_h4 => k0_hw828 k0_h4

def k0_chk829 (k0_t1 : Fin k0_t1_loop.trips) (v1930 : IVec S16 32) (v1955 : IVec S16 32) : Prop :=
  (∀ (k0_h4 : k0_cond4 k0_t1 = 1#1), ∀ a x, ((![v1930, v1955] : Fin 2 → IVec S16 32) a x).toNat < S512x16.size a)
theorem k0_idx829_inb : ∀ (k0_t1 : Fin k0_t1_loop.trips) (v1930 : IVec S16 32) (v1955 : IVec S16 32) (k0_hw829 : k0_chk829 k0_t1 v1930 v1955), ∀ (k0_h4 : k0_cond4 k0_t1 = 1#1), ∀ a x, ((![v1930, v1955] : Fin 2 → IVec S16 32) a x).toNat < S512x16.size a := fun k0_t1 v1930 v1955 k0_hw829 k0_h4 => k0_hw829 k0_h4

def k0_chk830 (k0_t1 : Fin k0_t1_loop.trips) (v1930 : IVec S16 32) (v1957 : IVec S16 32) : Prop :=
  (∀ (k0_h4 : k0_cond4 k0_t1 = 1#1), ∀ a x, ((![v1930, v1957] : Fin 2 → IVec S16 32) a x).toNat < S512x16.size a)
theorem k0_idx830_inb : ∀ (k0_t1 : Fin k0_t1_loop.trips) (v1930 : IVec S16 32) (v1957 : IVec S16 32) (k0_hw830 : k0_chk830 k0_t1 v1930 v1957), ∀ (k0_h4 : k0_cond4 k0_t1 = 1#1), ∀ a x, ((![v1930, v1957] : Fin 2 → IVec S16 32) a x).toNat < S512x16.size a := fun k0_t1 v1930 v1957 k0_hw830 k0_h4 => k0_hw830 k0_h4

def k0_chk831 (k0_t1 : Fin k0_t1_loop.trips) (v1930 : IVec S16 32) (v1959 : IVec S16 32) : Prop :=
  (∀ (k0_h4 : k0_cond4 k0_t1 = 1#1), ∀ a x, ((![v1930, v1959] : Fin 2 → IVec S16 32) a x).toNat < S512x16.size a)
theorem k0_idx831_inb : ∀ (k0_t1 : Fin k0_t1_loop.trips) (v1930 : IVec S16 32) (v1959 : IVec S16 32) (k0_hw831 : k0_chk831 k0_t1 v1930 v1959), ∀ (k0_h4 : k0_cond4 k0_t1 = 1#1), ∀ a x, ((![v1930, v1959] : Fin 2 → IVec S16 32) a x).toNat < S512x16.size a := fun k0_t1 v1930 v1959 k0_hw831 k0_h4 => k0_hw831 k0_h4

def k0_chk832 (k0_t1 : Fin k0_t1_loop.trips) (v1930 : IVec S16 32) (v1961 : IVec S16 32) : Prop :=
  (∀ (k0_h4 : k0_cond4 k0_t1 = 1#1), ∀ a x, ((![v1930, v1961] : Fin 2 → IVec S16 32) a x).toNat < S512x16.size a)
theorem k0_idx832_inb : ∀ (k0_t1 : Fin k0_t1_loop.trips) (v1930 : IVec S16 32) (v1961 : IVec S16 32) (k0_hw832 : k0_chk832 k0_t1 v1930 v1961), ∀ (k0_h4 : k0_cond4 k0_t1 = 1#1), ∀ a x, ((![v1930, v1961] : Fin 2 → IVec S16 32) a x).toNat < S512x16.size a := fun k0_t1 v1930 v1961 k0_hw832 k0_h4 => k0_hw832 k0_h4

def k0_chk833 (k0_t1 : Fin k0_t1_loop.trips) (v2029 : IVec S16 32) (v2030 : IVec S16 32) : Prop :=
  (∀ (k0_h4 : k0_cond4 k0_t1 = 1#1), ∀ a x, ((![v2029, v2030] : Fin 2 → IVec S16 32) a x).toNat < S512x16.size a)
theorem k0_idx833_inb : ∀ (k0_t1 : Fin k0_t1_loop.trips) (v2029 : IVec S16 32) (v2030 : IVec S16 32) (k0_hw833 : k0_chk833 k0_t1 v2029 v2030), ∀ (k0_h4 : k0_cond4 k0_t1 = 1#1), ∀ a x, ((![v2029, v2030] : Fin 2 → IVec S16 32) a x).toNat < S512x16.size a := fun k0_t1 v2029 v2030 k0_hw833 k0_h4 => k0_hw833 k0_h4

def k0_chk834 (k0_t1 : Fin k0_t1_loop.trips) (v2029 : IVec S16 32) (v2032 : IVec S16 32) : Prop :=
  (∀ (k0_h4 : k0_cond4 k0_t1 = 1#1), ∀ a x, ((![v2029, v2032] : Fin 2 → IVec S16 32) a x).toNat < S512x16.size a)
theorem k0_idx834_inb : ∀ (k0_t1 : Fin k0_t1_loop.trips) (v2029 : IVec S16 32) (v2032 : IVec S16 32) (k0_hw834 : k0_chk834 k0_t1 v2029 v2032), ∀ (k0_h4 : k0_cond4 k0_t1 = 1#1), ∀ a x, ((![v2029, v2032] : Fin 2 → IVec S16 32) a x).toNat < S512x16.size a := fun k0_t1 v2029 v2032 k0_hw834 k0_h4 => k0_hw834 k0_h4

def k0_chk835 (k0_t1 : Fin k0_t1_loop.trips) (v2029 : IVec S16 32) (v2034 : IVec S16 32) : Prop :=
  (∀ (k0_h4 : k0_cond4 k0_t1 = 1#1), ∀ a x, ((![v2029, v2034] : Fin 2 → IVec S16 32) a x).toNat < S512x16.size a)
theorem k0_idx835_inb : ∀ (k0_t1 : Fin k0_t1_loop.trips) (v2029 : IVec S16 32) (v2034 : IVec S16 32) (k0_hw835 : k0_chk835 k0_t1 v2029 v2034), ∀ (k0_h4 : k0_cond4 k0_t1 = 1#1), ∀ a x, ((![v2029, v2034] : Fin 2 → IVec S16 32) a x).toNat < S512x16.size a := fun k0_t1 v2029 v2034 k0_hw835 k0_h4 => k0_hw835 k0_h4

def k0_chk836 (k0_t1 : Fin k0_t1_loop.trips) (v2029 : IVec S16 32) (v2036 : IVec S16 32) : Prop :=
  (∀ (k0_h4 : k0_cond4 k0_t1 = 1#1), ∀ a x, ((![v2029, v2036] : Fin 2 → IVec S16 32) a x).toNat < S512x16.size a)
theorem k0_idx836_inb : ∀ (k0_t1 : Fin k0_t1_loop.trips) (v2029 : IVec S16 32) (v2036 : IVec S16 32) (k0_hw836 : k0_chk836 k0_t1 v2029 v2036), ∀ (k0_h4 : k0_cond4 k0_t1 = 1#1), ∀ a x, ((![v2029, v2036] : Fin 2 → IVec S16 32) a x).toNat < S512x16.size a := fun k0_t1 v2029 v2036 k0_hw836 k0_h4 => k0_hw836 k0_h4

def k0_chk837 (k0_t1 : Fin k0_t1_loop.trips) (v2029 : IVec S16 32) (v2038 : IVec S16 32) : Prop :=
  (∀ (k0_h4 : k0_cond4 k0_t1 = 1#1), ∀ a x, ((![v2029, v2038] : Fin 2 → IVec S16 32) a x).toNat < S512x16.size a)
theorem k0_idx837_inb : ∀ (k0_t1 : Fin k0_t1_loop.trips) (v2029 : IVec S16 32) (v2038 : IVec S16 32) (k0_hw837 : k0_chk837 k0_t1 v2029 v2038), ∀ (k0_h4 : k0_cond4 k0_t1 = 1#1), ∀ a x, ((![v2029, v2038] : Fin 2 → IVec S16 32) a x).toNat < S512x16.size a := fun k0_t1 v2029 v2038 k0_hw837 k0_h4 => k0_hw837 k0_h4

def k0_chk838 (k0_t1 : Fin k0_t1_loop.trips) (v2029 : IVec S16 32) (v2040 : IVec S16 32) : Prop :=
  (∀ (k0_h4 : k0_cond4 k0_t1 = 1#1), ∀ a x, ((![v2029, v2040] : Fin 2 → IVec S16 32) a x).toNat < S512x16.size a)
theorem k0_idx838_inb : ∀ (k0_t1 : Fin k0_t1_loop.trips) (v2029 : IVec S16 32) (v2040 : IVec S16 32) (k0_hw838 : k0_chk838 k0_t1 v2029 v2040), ∀ (k0_h4 : k0_cond4 k0_t1 = 1#1), ∀ a x, ((![v2029, v2040] : Fin 2 → IVec S16 32) a x).toNat < S512x16.size a := fun k0_t1 v2029 v2040 k0_hw838 k0_h4 => k0_hw838 k0_h4

def k0_chk839 (k0_t1 : Fin k0_t1_loop.trips) (v2029 : IVec S16 32) (v2042 : IVec S16 32) : Prop :=
  (∀ (k0_h4 : k0_cond4 k0_t1 = 1#1), ∀ a x, ((![v2029, v2042] : Fin 2 → IVec S16 32) a x).toNat < S512x16.size a)
theorem k0_idx839_inb : ∀ (k0_t1 : Fin k0_t1_loop.trips) (v2029 : IVec S16 32) (v2042 : IVec S16 32) (k0_hw839 : k0_chk839 k0_t1 v2029 v2042), ∀ (k0_h4 : k0_cond4 k0_t1 = 1#1), ∀ a x, ((![v2029, v2042] : Fin 2 → IVec S16 32) a x).toNat < S512x16.size a := fun k0_t1 v2029 v2042 k0_hw839 k0_h4 => k0_hw839 k0_h4

def k0_chk840 (k0_t1 : Fin k0_t1_loop.trips) (v2029 : IVec S16 32) (v2044 : IVec S16 32) : Prop :=
  (∀ (k0_h4 : k0_cond4 k0_t1 = 1#1), ∀ a x, ((![v2029, v2044] : Fin 2 → IVec S16 32) a x).toNat < S512x16.size a)
theorem k0_idx840_inb : ∀ (k0_t1 : Fin k0_t1_loop.trips) (v2029 : IVec S16 32) (v2044 : IVec S16 32) (k0_hw840 : k0_chk840 k0_t1 v2029 v2044), ∀ (k0_h4 : k0_cond4 k0_t1 = 1#1), ∀ a x, ((![v2029, v2044] : Fin 2 → IVec S16 32) a x).toNat < S512x16.size a := fun k0_t1 v2029 v2044 k0_hw840 k0_h4 => k0_hw840 k0_h4

def k0_chk841 (k0_t1 : Fin k0_t1_loop.trips) (v2029 : IVec S16 32) (v2046 : IVec S16 32) : Prop :=
  (∀ (k0_h4 : k0_cond4 k0_t1 = 1#1), ∀ a x, ((![v2029, v2046] : Fin 2 → IVec S16 32) a x).toNat < S512x16.size a)
theorem k0_idx841_inb : ∀ (k0_t1 : Fin k0_t1_loop.trips) (v2029 : IVec S16 32) (v2046 : IVec S16 32) (k0_hw841 : k0_chk841 k0_t1 v2029 v2046), ∀ (k0_h4 : k0_cond4 k0_t1 = 1#1), ∀ a x, ((![v2029, v2046] : Fin 2 → IVec S16 32) a x).toNat < S512x16.size a := fun k0_t1 v2029 v2046 k0_hw841 k0_h4 => k0_hw841 k0_h4

def k0_chk842 (k0_t1 : Fin k0_t1_loop.trips) (v2029 : IVec S16 32) (v2048 : IVec S16 32) : Prop :=
  (∀ (k0_h4 : k0_cond4 k0_t1 = 1#1), ∀ a x, ((![v2029, v2048] : Fin 2 → IVec S16 32) a x).toNat < S512x16.size a)
theorem k0_idx842_inb : ∀ (k0_t1 : Fin k0_t1_loop.trips) (v2029 : IVec S16 32) (v2048 : IVec S16 32) (k0_hw842 : k0_chk842 k0_t1 v2029 v2048), ∀ (k0_h4 : k0_cond4 k0_t1 = 1#1), ∀ a x, ((![v2029, v2048] : Fin 2 → IVec S16 32) a x).toNat < S512x16.size a := fun k0_t1 v2029 v2048 k0_hw842 k0_h4 => k0_hw842 k0_h4

def k0_chk843 (k0_t1 : Fin k0_t1_loop.trips) (v2029 : IVec S16 32) (v2050 : IVec S16 32) : Prop :=
  (∀ (k0_h4 : k0_cond4 k0_t1 = 1#1), ∀ a x, ((![v2029, v2050] : Fin 2 → IVec S16 32) a x).toNat < S512x16.size a)
theorem k0_idx843_inb : ∀ (k0_t1 : Fin k0_t1_loop.trips) (v2029 : IVec S16 32) (v2050 : IVec S16 32) (k0_hw843 : k0_chk843 k0_t1 v2029 v2050), ∀ (k0_h4 : k0_cond4 k0_t1 = 1#1), ∀ a x, ((![v2029, v2050] : Fin 2 → IVec S16 32) a x).toNat < S512x16.size a := fun k0_t1 v2029 v2050 k0_hw843 k0_h4 => k0_hw843 k0_h4

def k0_chk844 (k0_t1 : Fin k0_t1_loop.trips) (v2029 : IVec S16 32) (v2052 : IVec S16 32) : Prop :=
  (∀ (k0_h4 : k0_cond4 k0_t1 = 1#1), ∀ a x, ((![v2029, v2052] : Fin 2 → IVec S16 32) a x).toNat < S512x16.size a)
theorem k0_idx844_inb : ∀ (k0_t1 : Fin k0_t1_loop.trips) (v2029 : IVec S16 32) (v2052 : IVec S16 32) (k0_hw844 : k0_chk844 k0_t1 v2029 v2052), ∀ (k0_h4 : k0_cond4 k0_t1 = 1#1), ∀ a x, ((![v2029, v2052] : Fin 2 → IVec S16 32) a x).toNat < S512x16.size a := fun k0_t1 v2029 v2052 k0_hw844 k0_h4 => k0_hw844 k0_h4

def k0_chk845 (k0_t1 : Fin k0_t1_loop.trips) (v2029 : IVec S16 32) (v2054 : IVec S16 32) : Prop :=
  (∀ (k0_h4 : k0_cond4 k0_t1 = 1#1), ∀ a x, ((![v2029, v2054] : Fin 2 → IVec S16 32) a x).toNat < S512x16.size a)
theorem k0_idx845_inb : ∀ (k0_t1 : Fin k0_t1_loop.trips) (v2029 : IVec S16 32) (v2054 : IVec S16 32) (k0_hw845 : k0_chk845 k0_t1 v2029 v2054), ∀ (k0_h4 : k0_cond4 k0_t1 = 1#1), ∀ a x, ((![v2029, v2054] : Fin 2 → IVec S16 32) a x).toNat < S512x16.size a := fun k0_t1 v2029 v2054 k0_hw845 k0_h4 => k0_hw845 k0_h4

def k0_chk846 (k0_t1 : Fin k0_t1_loop.trips) (v2029 : IVec S16 32) (v2056 : IVec S16 32) : Prop :=
  (∀ (k0_h4 : k0_cond4 k0_t1 = 1#1), ∀ a x, ((![v2029, v2056] : Fin 2 → IVec S16 32) a x).toNat < S512x16.size a)
theorem k0_idx846_inb : ∀ (k0_t1 : Fin k0_t1_loop.trips) (v2029 : IVec S16 32) (v2056 : IVec S16 32) (k0_hw846 : k0_chk846 k0_t1 v2029 v2056), ∀ (k0_h4 : k0_cond4 k0_t1 = 1#1), ∀ a x, ((![v2029, v2056] : Fin 2 → IVec S16 32) a x).toNat < S512x16.size a := fun k0_t1 v2029 v2056 k0_hw846 k0_h4 => k0_hw846 k0_h4

def k0_chk847 (k0_t1 : Fin k0_t1_loop.trips) (v2029 : IVec S16 32) (v2058 : IVec S16 32) : Prop :=
  (∀ (k0_h4 : k0_cond4 k0_t1 = 1#1), ∀ a x, ((![v2029, v2058] : Fin 2 → IVec S16 32) a x).toNat < S512x16.size a)
theorem k0_idx847_inb : ∀ (k0_t1 : Fin k0_t1_loop.trips) (v2029 : IVec S16 32) (v2058 : IVec S16 32) (k0_hw847 : k0_chk847 k0_t1 v2029 v2058), ∀ (k0_h4 : k0_cond4 k0_t1 = 1#1), ∀ a x, ((![v2029, v2058] : Fin 2 → IVec S16 32) a x).toNat < S512x16.size a := fun k0_t1 v2029 v2058 k0_hw847 k0_h4 => k0_hw847 k0_h4

def k0_chk848 (k0_t1 : Fin k0_t1_loop.trips) (v2029 : IVec S16 32) (v2060 : IVec S16 32) : Prop :=
  (∀ (k0_h4 : k0_cond4 k0_t1 = 1#1), ∀ a x, ((![v2029, v2060] : Fin 2 → IVec S16 32) a x).toNat < S512x16.size a)
theorem k0_idx848_inb : ∀ (k0_t1 : Fin k0_t1_loop.trips) (v2029 : IVec S16 32) (v2060 : IVec S16 32) (k0_hw848 : k0_chk848 k0_t1 v2029 v2060), ∀ (k0_h4 : k0_cond4 k0_t1 = 1#1), ∀ a x, ((![v2029, v2060] : Fin 2 → IVec S16 32) a x).toNat < S512x16.size a := fun k0_t1 v2029 v2060 k0_hw848 k0_h4 => k0_hw848 k0_h4

def k0_chk849 (k0_t1 : Fin k0_t1_loop.trips) (v2128 : IVec S16 32) (v2129 : IVec S16 32) : Prop :=
  (∀ (k0_h4 : k0_cond4 k0_t1 = 1#1), ∀ a x, ((![v2128, v2129] : Fin 2 → IVec S16 32) a x).toNat < S512x16.size a)
theorem k0_idx849_inb : ∀ (k0_t1 : Fin k0_t1_loop.trips) (v2128 : IVec S16 32) (v2129 : IVec S16 32) (k0_hw849 : k0_chk849 k0_t1 v2128 v2129), ∀ (k0_h4 : k0_cond4 k0_t1 = 1#1), ∀ a x, ((![v2128, v2129] : Fin 2 → IVec S16 32) a x).toNat < S512x16.size a := fun k0_t1 v2128 v2129 k0_hw849 k0_h4 => k0_hw849 k0_h4

def k0_chk850 (k0_t1 : Fin k0_t1_loop.trips) (v2128 : IVec S16 32) (v2131 : IVec S16 32) : Prop :=
  (∀ (k0_h4 : k0_cond4 k0_t1 = 1#1), ∀ a x, ((![v2128, v2131] : Fin 2 → IVec S16 32) a x).toNat < S512x16.size a)
theorem k0_idx850_inb : ∀ (k0_t1 : Fin k0_t1_loop.trips) (v2128 : IVec S16 32) (v2131 : IVec S16 32) (k0_hw850 : k0_chk850 k0_t1 v2128 v2131), ∀ (k0_h4 : k0_cond4 k0_t1 = 1#1), ∀ a x, ((![v2128, v2131] : Fin 2 → IVec S16 32) a x).toNat < S512x16.size a := fun k0_t1 v2128 v2131 k0_hw850 k0_h4 => k0_hw850 k0_h4

def k0_chk851 (k0_t1 : Fin k0_t1_loop.trips) (v2128 : IVec S16 32) (v2133 : IVec S16 32) : Prop :=
  (∀ (k0_h4 : k0_cond4 k0_t1 = 1#1), ∀ a x, ((![v2128, v2133] : Fin 2 → IVec S16 32) a x).toNat < S512x16.size a)
theorem k0_idx851_inb : ∀ (k0_t1 : Fin k0_t1_loop.trips) (v2128 : IVec S16 32) (v2133 : IVec S16 32) (k0_hw851 : k0_chk851 k0_t1 v2128 v2133), ∀ (k0_h4 : k0_cond4 k0_t1 = 1#1), ∀ a x, ((![v2128, v2133] : Fin 2 → IVec S16 32) a x).toNat < S512x16.size a := fun k0_t1 v2128 v2133 k0_hw851 k0_h4 => k0_hw851 k0_h4

def k0_chk852 (k0_t1 : Fin k0_t1_loop.trips) (v2128 : IVec S16 32) (v2135 : IVec S16 32) : Prop :=
  (∀ (k0_h4 : k0_cond4 k0_t1 = 1#1), ∀ a x, ((![v2128, v2135] : Fin 2 → IVec S16 32) a x).toNat < S512x16.size a)
theorem k0_idx852_inb : ∀ (k0_t1 : Fin k0_t1_loop.trips) (v2128 : IVec S16 32) (v2135 : IVec S16 32) (k0_hw852 : k0_chk852 k0_t1 v2128 v2135), ∀ (k0_h4 : k0_cond4 k0_t1 = 1#1), ∀ a x, ((![v2128, v2135] : Fin 2 → IVec S16 32) a x).toNat < S512x16.size a := fun k0_t1 v2128 v2135 k0_hw852 k0_h4 => k0_hw852 k0_h4

def k0_chk853 (k0_t1 : Fin k0_t1_loop.trips) (v2128 : IVec S16 32) (v2137 : IVec S16 32) : Prop :=
  (∀ (k0_h4 : k0_cond4 k0_t1 = 1#1), ∀ a x, ((![v2128, v2137] : Fin 2 → IVec S16 32) a x).toNat < S512x16.size a)
theorem k0_idx853_inb : ∀ (k0_t1 : Fin k0_t1_loop.trips) (v2128 : IVec S16 32) (v2137 : IVec S16 32) (k0_hw853 : k0_chk853 k0_t1 v2128 v2137), ∀ (k0_h4 : k0_cond4 k0_t1 = 1#1), ∀ a x, ((![v2128, v2137] : Fin 2 → IVec S16 32) a x).toNat < S512x16.size a := fun k0_t1 v2128 v2137 k0_hw853 k0_h4 => k0_hw853 k0_h4

def k0_chk854 (k0_t1 : Fin k0_t1_loop.trips) (v2128 : IVec S16 32) (v2139 : IVec S16 32) : Prop :=
  (∀ (k0_h4 : k0_cond4 k0_t1 = 1#1), ∀ a x, ((![v2128, v2139] : Fin 2 → IVec S16 32) a x).toNat < S512x16.size a)
theorem k0_idx854_inb : ∀ (k0_t1 : Fin k0_t1_loop.trips) (v2128 : IVec S16 32) (v2139 : IVec S16 32) (k0_hw854 : k0_chk854 k0_t1 v2128 v2139), ∀ (k0_h4 : k0_cond4 k0_t1 = 1#1), ∀ a x, ((![v2128, v2139] : Fin 2 → IVec S16 32) a x).toNat < S512x16.size a := fun k0_t1 v2128 v2139 k0_hw854 k0_h4 => k0_hw854 k0_h4

def k0_chk855 (k0_t1 : Fin k0_t1_loop.trips) (v2128 : IVec S16 32) (v2141 : IVec S16 32) : Prop :=
  (∀ (k0_h4 : k0_cond4 k0_t1 = 1#1), ∀ a x, ((![v2128, v2141] : Fin 2 → IVec S16 32) a x).toNat < S512x16.size a)
theorem k0_idx855_inb : ∀ (k0_t1 : Fin k0_t1_loop.trips) (v2128 : IVec S16 32) (v2141 : IVec S16 32) (k0_hw855 : k0_chk855 k0_t1 v2128 v2141), ∀ (k0_h4 : k0_cond4 k0_t1 = 1#1), ∀ a x, ((![v2128, v2141] : Fin 2 → IVec S16 32) a x).toNat < S512x16.size a := fun k0_t1 v2128 v2141 k0_hw855 k0_h4 => k0_hw855 k0_h4

def k0_chk856 (k0_t1 : Fin k0_t1_loop.trips) (v2128 : IVec S16 32) (v2143 : IVec S16 32) : Prop :=
  (∀ (k0_h4 : k0_cond4 k0_t1 = 1#1), ∀ a x, ((![v2128, v2143] : Fin 2 → IVec S16 32) a x).toNat < S512x16.size a)
theorem k0_idx856_inb : ∀ (k0_t1 : Fin k0_t1_loop.trips) (v2128 : IVec S16 32) (v2143 : IVec S16 32) (k0_hw856 : k0_chk856 k0_t1 v2128 v2143), ∀ (k0_h4 : k0_cond4 k0_t1 = 1#1), ∀ a x, ((![v2128, v2143] : Fin 2 → IVec S16 32) a x).toNat < S512x16.size a := fun k0_t1 v2128 v2143 k0_hw856 k0_h4 => k0_hw856 k0_h4

def k0_chk857 (k0_t1 : Fin k0_t1_loop.trips) (v2128 : IVec S16 32) (v2145 : IVec S16 32) : Prop :=
  (∀ (k0_h4 : k0_cond4 k0_t1 = 1#1), ∀ a x, ((![v2128, v2145] : Fin 2 → IVec S16 32) a x).toNat < S512x16.size a)
theorem k0_idx857_inb : ∀ (k0_t1 : Fin k0_t1_loop.trips) (v2128 : IVec S16 32) (v2145 : IVec S16 32) (k0_hw857 : k0_chk857 k0_t1 v2128 v2145), ∀ (k0_h4 : k0_cond4 k0_t1 = 1#1), ∀ a x, ((![v2128, v2145] : Fin 2 → IVec S16 32) a x).toNat < S512x16.size a := fun k0_t1 v2128 v2145 k0_hw857 k0_h4 => k0_hw857 k0_h4

def k0_chk858 (k0_t1 : Fin k0_t1_loop.trips) (v2128 : IVec S16 32) (v2147 : IVec S16 32) : Prop :=
  (∀ (k0_h4 : k0_cond4 k0_t1 = 1#1), ∀ a x, ((![v2128, v2147] : Fin 2 → IVec S16 32) a x).toNat < S512x16.size a)
theorem k0_idx858_inb : ∀ (k0_t1 : Fin k0_t1_loop.trips) (v2128 : IVec S16 32) (v2147 : IVec S16 32) (k0_hw858 : k0_chk858 k0_t1 v2128 v2147), ∀ (k0_h4 : k0_cond4 k0_t1 = 1#1), ∀ a x, ((![v2128, v2147] : Fin 2 → IVec S16 32) a x).toNat < S512x16.size a := fun k0_t1 v2128 v2147 k0_hw858 k0_h4 => k0_hw858 k0_h4

def k0_chk859 (k0_t1 : Fin k0_t1_loop.trips) (v2128 : IVec S16 32) (v2149 : IVec S16 32) : Prop :=
  (∀ (k0_h4 : k0_cond4 k0_t1 = 1#1), ∀ a x, ((![v2128, v2149] : Fin 2 → IVec S16 32) a x).toNat < S512x16.size a)
theorem k0_idx859_inb : ∀ (k0_t1 : Fin k0_t1_loop.trips) (v2128 : IVec S16 32) (v2149 : IVec S16 32) (k0_hw859 : k0_chk859 k0_t1 v2128 v2149), ∀ (k0_h4 : k0_cond4 k0_t1 = 1#1), ∀ a x, ((![v2128, v2149] : Fin 2 → IVec S16 32) a x).toNat < S512x16.size a := fun k0_t1 v2128 v2149 k0_hw859 k0_h4 => k0_hw859 k0_h4

def k0_chk860 (k0_t1 : Fin k0_t1_loop.trips) (v2128 : IVec S16 32) (v2151 : IVec S16 32) : Prop :=
  (∀ (k0_h4 : k0_cond4 k0_t1 = 1#1), ∀ a x, ((![v2128, v2151] : Fin 2 → IVec S16 32) a x).toNat < S512x16.size a)
theorem k0_idx860_inb : ∀ (k0_t1 : Fin k0_t1_loop.trips) (v2128 : IVec S16 32) (v2151 : IVec S16 32) (k0_hw860 : k0_chk860 k0_t1 v2128 v2151), ∀ (k0_h4 : k0_cond4 k0_t1 = 1#1), ∀ a x, ((![v2128, v2151] : Fin 2 → IVec S16 32) a x).toNat < S512x16.size a := fun k0_t1 v2128 v2151 k0_hw860 k0_h4 => k0_hw860 k0_h4

def k0_chk861 (k0_t1 : Fin k0_t1_loop.trips) (v2128 : IVec S16 32) (v2153 : IVec S16 32) : Prop :=
  (∀ (k0_h4 : k0_cond4 k0_t1 = 1#1), ∀ a x, ((![v2128, v2153] : Fin 2 → IVec S16 32) a x).toNat < S512x16.size a)
theorem k0_idx861_inb : ∀ (k0_t1 : Fin k0_t1_loop.trips) (v2128 : IVec S16 32) (v2153 : IVec S16 32) (k0_hw861 : k0_chk861 k0_t1 v2128 v2153), ∀ (k0_h4 : k0_cond4 k0_t1 = 1#1), ∀ a x, ((![v2128, v2153] : Fin 2 → IVec S16 32) a x).toNat < S512x16.size a := fun k0_t1 v2128 v2153 k0_hw861 k0_h4 => k0_hw861 k0_h4

def k0_chk862 (k0_t1 : Fin k0_t1_loop.trips) (v2128 : IVec S16 32) (v2155 : IVec S16 32) : Prop :=
  (∀ (k0_h4 : k0_cond4 k0_t1 = 1#1), ∀ a x, ((![v2128, v2155] : Fin 2 → IVec S16 32) a x).toNat < S512x16.size a)
theorem k0_idx862_inb : ∀ (k0_t1 : Fin k0_t1_loop.trips) (v2128 : IVec S16 32) (v2155 : IVec S16 32) (k0_hw862 : k0_chk862 k0_t1 v2128 v2155), ∀ (k0_h4 : k0_cond4 k0_t1 = 1#1), ∀ a x, ((![v2128, v2155] : Fin 2 → IVec S16 32) a x).toNat < S512x16.size a := fun k0_t1 v2128 v2155 k0_hw862 k0_h4 => k0_hw862 k0_h4

def k0_chk863 (k0_t1 : Fin k0_t1_loop.trips) (v2128 : IVec S16 32) (v2157 : IVec S16 32) : Prop :=
  (∀ (k0_h4 : k0_cond4 k0_t1 = 1#1), ∀ a x, ((![v2128, v2157] : Fin 2 → IVec S16 32) a x).toNat < S512x16.size a)
theorem k0_idx863_inb : ∀ (k0_t1 : Fin k0_t1_loop.trips) (v2128 : IVec S16 32) (v2157 : IVec S16 32) (k0_hw863 : k0_chk863 k0_t1 v2128 v2157), ∀ (k0_h4 : k0_cond4 k0_t1 = 1#1), ∀ a x, ((![v2128, v2157] : Fin 2 → IVec S16 32) a x).toNat < S512x16.size a := fun k0_t1 v2128 v2157 k0_hw863 k0_h4 => k0_hw863 k0_h4

def k0_chk864 (k0_t1 : Fin k0_t1_loop.trips) (v2128 : IVec S16 32) (v2159 : IVec S16 32) : Prop :=
  (∀ (k0_h4 : k0_cond4 k0_t1 = 1#1), ∀ a x, ((![v2128, v2159] : Fin 2 → IVec S16 32) a x).toNat < S512x16.size a)
theorem k0_idx864_inb : ∀ (k0_t1 : Fin k0_t1_loop.trips) (v2128 : IVec S16 32) (v2159 : IVec S16 32) (k0_hw864 : k0_chk864 k0_t1 v2128 v2159), ∀ (k0_h4 : k0_cond4 k0_t1 = 1#1), ∀ a x, ((![v2128, v2159] : Fin 2 → IVec S16 32) a x).toNat < S512x16.size a := fun k0_t1 v2128 v2159 k0_hw864 k0_h4 => k0_hw864 k0_h4

def k0_chk865 (k0_t1 : Fin k0_t1_loop.trips) (v2227 : IVec S16 32) (v2228 : IVec S16 32) : Prop :=
  (∀ (k0_h4 : k0_cond4 k0_t1 = 1#1), ∀ a x, ((![v2227, v2228] : Fin 2 → IVec S16 32) a x).toNat < S512x16.size a)
theorem k0_idx865_inb : ∀ (k0_t1 : Fin k0_t1_loop.trips) (v2227 : IVec S16 32) (v2228 : IVec S16 32) (k0_hw865 : k0_chk865 k0_t1 v2227 v2228), ∀ (k0_h4 : k0_cond4 k0_t1 = 1#1), ∀ a x, ((![v2227, v2228] : Fin 2 → IVec S16 32) a x).toNat < S512x16.size a := fun k0_t1 v2227 v2228 k0_hw865 k0_h4 => k0_hw865 k0_h4

def k0_chk866 (k0_t1 : Fin k0_t1_loop.trips) (v2227 : IVec S16 32) (v2230 : IVec S16 32) : Prop :=
  (∀ (k0_h4 : k0_cond4 k0_t1 = 1#1), ∀ a x, ((![v2227, v2230] : Fin 2 → IVec S16 32) a x).toNat < S512x16.size a)
theorem k0_idx866_inb : ∀ (k0_t1 : Fin k0_t1_loop.trips) (v2227 : IVec S16 32) (v2230 : IVec S16 32) (k0_hw866 : k0_chk866 k0_t1 v2227 v2230), ∀ (k0_h4 : k0_cond4 k0_t1 = 1#1), ∀ a x, ((![v2227, v2230] : Fin 2 → IVec S16 32) a x).toNat < S512x16.size a := fun k0_t1 v2227 v2230 k0_hw866 k0_h4 => k0_hw866 k0_h4

def k0_chk867 (k0_t1 : Fin k0_t1_loop.trips) (v2227 : IVec S16 32) (v2232 : IVec S16 32) : Prop :=
  (∀ (k0_h4 : k0_cond4 k0_t1 = 1#1), ∀ a x, ((![v2227, v2232] : Fin 2 → IVec S16 32) a x).toNat < S512x16.size a)
theorem k0_idx867_inb : ∀ (k0_t1 : Fin k0_t1_loop.trips) (v2227 : IVec S16 32) (v2232 : IVec S16 32) (k0_hw867 : k0_chk867 k0_t1 v2227 v2232), ∀ (k0_h4 : k0_cond4 k0_t1 = 1#1), ∀ a x, ((![v2227, v2232] : Fin 2 → IVec S16 32) a x).toNat < S512x16.size a := fun k0_t1 v2227 v2232 k0_hw867 k0_h4 => k0_hw867 k0_h4

def k0_chk868 (k0_t1 : Fin k0_t1_loop.trips) (v2227 : IVec S16 32) (v2234 : IVec S16 32) : Prop :=
  (∀ (k0_h4 : k0_cond4 k0_t1 = 1#1), ∀ a x, ((![v2227, v2234] : Fin 2 → IVec S16 32) a x).toNat < S512x16.size a)
theorem k0_idx868_inb : ∀ (k0_t1 : Fin k0_t1_loop.trips) (v2227 : IVec S16 32) (v2234 : IVec S16 32) (k0_hw868 : k0_chk868 k0_t1 v2227 v2234), ∀ (k0_h4 : k0_cond4 k0_t1 = 1#1), ∀ a x, ((![v2227, v2234] : Fin 2 → IVec S16 32) a x).toNat < S512x16.size a := fun k0_t1 v2227 v2234 k0_hw868 k0_h4 => k0_hw868 k0_h4

def k0_chk869 (k0_t1 : Fin k0_t1_loop.trips) (v2227 : IVec S16 32) (v2236 : IVec S16 32) : Prop :=
  (∀ (k0_h4 : k0_cond4 k0_t1 = 1#1), ∀ a x, ((![v2227, v2236] : Fin 2 → IVec S16 32) a x).toNat < S512x16.size a)
theorem k0_idx869_inb : ∀ (k0_t1 : Fin k0_t1_loop.trips) (v2227 : IVec S16 32) (v2236 : IVec S16 32) (k0_hw869 : k0_chk869 k0_t1 v2227 v2236), ∀ (k0_h4 : k0_cond4 k0_t1 = 1#1), ∀ a x, ((![v2227, v2236] : Fin 2 → IVec S16 32) a x).toNat < S512x16.size a := fun k0_t1 v2227 v2236 k0_hw869 k0_h4 => k0_hw869 k0_h4

def k0_chk870 (k0_t1 : Fin k0_t1_loop.trips) (v2227 : IVec S16 32) (v2238 : IVec S16 32) : Prop :=
  (∀ (k0_h4 : k0_cond4 k0_t1 = 1#1), ∀ a x, ((![v2227, v2238] : Fin 2 → IVec S16 32) a x).toNat < S512x16.size a)
theorem k0_idx870_inb : ∀ (k0_t1 : Fin k0_t1_loop.trips) (v2227 : IVec S16 32) (v2238 : IVec S16 32) (k0_hw870 : k0_chk870 k0_t1 v2227 v2238), ∀ (k0_h4 : k0_cond4 k0_t1 = 1#1), ∀ a x, ((![v2227, v2238] : Fin 2 → IVec S16 32) a x).toNat < S512x16.size a := fun k0_t1 v2227 v2238 k0_hw870 k0_h4 => k0_hw870 k0_h4

def k0_chk871 (k0_t1 : Fin k0_t1_loop.trips) (v2227 : IVec S16 32) (v2240 : IVec S16 32) : Prop :=
  (∀ (k0_h4 : k0_cond4 k0_t1 = 1#1), ∀ a x, ((![v2227, v2240] : Fin 2 → IVec S16 32) a x).toNat < S512x16.size a)
theorem k0_idx871_inb : ∀ (k0_t1 : Fin k0_t1_loop.trips) (v2227 : IVec S16 32) (v2240 : IVec S16 32) (k0_hw871 : k0_chk871 k0_t1 v2227 v2240), ∀ (k0_h4 : k0_cond4 k0_t1 = 1#1), ∀ a x, ((![v2227, v2240] : Fin 2 → IVec S16 32) a x).toNat < S512x16.size a := fun k0_t1 v2227 v2240 k0_hw871 k0_h4 => k0_hw871 k0_h4

def k0_chk872 (k0_t1 : Fin k0_t1_loop.trips) (v2227 : IVec S16 32) (v2242 : IVec S16 32) : Prop :=
  (∀ (k0_h4 : k0_cond4 k0_t1 = 1#1), ∀ a x, ((![v2227, v2242] : Fin 2 → IVec S16 32) a x).toNat < S512x16.size a)
theorem k0_idx872_inb : ∀ (k0_t1 : Fin k0_t1_loop.trips) (v2227 : IVec S16 32) (v2242 : IVec S16 32) (k0_hw872 : k0_chk872 k0_t1 v2227 v2242), ∀ (k0_h4 : k0_cond4 k0_t1 = 1#1), ∀ a x, ((![v2227, v2242] : Fin 2 → IVec S16 32) a x).toNat < S512x16.size a := fun k0_t1 v2227 v2242 k0_hw872 k0_h4 => k0_hw872 k0_h4

def k0_chk873 (k0_t1 : Fin k0_t1_loop.trips) (v2227 : IVec S16 32) (v2244 : IVec S16 32) : Prop :=
  (∀ (k0_h4 : k0_cond4 k0_t1 = 1#1), ∀ a x, ((![v2227, v2244] : Fin 2 → IVec S16 32) a x).toNat < S512x16.size a)
theorem k0_idx873_inb : ∀ (k0_t1 : Fin k0_t1_loop.trips) (v2227 : IVec S16 32) (v2244 : IVec S16 32) (k0_hw873 : k0_chk873 k0_t1 v2227 v2244), ∀ (k0_h4 : k0_cond4 k0_t1 = 1#1), ∀ a x, ((![v2227, v2244] : Fin 2 → IVec S16 32) a x).toNat < S512x16.size a := fun k0_t1 v2227 v2244 k0_hw873 k0_h4 => k0_hw873 k0_h4

def k0_chk874 (k0_t1 : Fin k0_t1_loop.trips) (v2227 : IVec S16 32) (v2246 : IVec S16 32) : Prop :=
  (∀ (k0_h4 : k0_cond4 k0_t1 = 1#1), ∀ a x, ((![v2227, v2246] : Fin 2 → IVec S16 32) a x).toNat < S512x16.size a)
theorem k0_idx874_inb : ∀ (k0_t1 : Fin k0_t1_loop.trips) (v2227 : IVec S16 32) (v2246 : IVec S16 32) (k0_hw874 : k0_chk874 k0_t1 v2227 v2246), ∀ (k0_h4 : k0_cond4 k0_t1 = 1#1), ∀ a x, ((![v2227, v2246] : Fin 2 → IVec S16 32) a x).toNat < S512x16.size a := fun k0_t1 v2227 v2246 k0_hw874 k0_h4 => k0_hw874 k0_h4

def k0_chk875 (k0_t1 : Fin k0_t1_loop.trips) (v2227 : IVec S16 32) (v2248 : IVec S16 32) : Prop :=
  (∀ (k0_h4 : k0_cond4 k0_t1 = 1#1), ∀ a x, ((![v2227, v2248] : Fin 2 → IVec S16 32) a x).toNat < S512x16.size a)
theorem k0_idx875_inb : ∀ (k0_t1 : Fin k0_t1_loop.trips) (v2227 : IVec S16 32) (v2248 : IVec S16 32) (k0_hw875 : k0_chk875 k0_t1 v2227 v2248), ∀ (k0_h4 : k0_cond4 k0_t1 = 1#1), ∀ a x, ((![v2227, v2248] : Fin 2 → IVec S16 32) a x).toNat < S512x16.size a := fun k0_t1 v2227 v2248 k0_hw875 k0_h4 => k0_hw875 k0_h4

def k0_chk876 (k0_t1 : Fin k0_t1_loop.trips) (v2227 : IVec S16 32) (v2250 : IVec S16 32) : Prop :=
  (∀ (k0_h4 : k0_cond4 k0_t1 = 1#1), ∀ a x, ((![v2227, v2250] : Fin 2 → IVec S16 32) a x).toNat < S512x16.size a)
theorem k0_idx876_inb : ∀ (k0_t1 : Fin k0_t1_loop.trips) (v2227 : IVec S16 32) (v2250 : IVec S16 32) (k0_hw876 : k0_chk876 k0_t1 v2227 v2250), ∀ (k0_h4 : k0_cond4 k0_t1 = 1#1), ∀ a x, ((![v2227, v2250] : Fin 2 → IVec S16 32) a x).toNat < S512x16.size a := fun k0_t1 v2227 v2250 k0_hw876 k0_h4 => k0_hw876 k0_h4

def k0_chk877 (k0_t1 : Fin k0_t1_loop.trips) (v2227 : IVec S16 32) (v2252 : IVec S16 32) : Prop :=
  (∀ (k0_h4 : k0_cond4 k0_t1 = 1#1), ∀ a x, ((![v2227, v2252] : Fin 2 → IVec S16 32) a x).toNat < S512x16.size a)
theorem k0_idx877_inb : ∀ (k0_t1 : Fin k0_t1_loop.trips) (v2227 : IVec S16 32) (v2252 : IVec S16 32) (k0_hw877 : k0_chk877 k0_t1 v2227 v2252), ∀ (k0_h4 : k0_cond4 k0_t1 = 1#1), ∀ a x, ((![v2227, v2252] : Fin 2 → IVec S16 32) a x).toNat < S512x16.size a := fun k0_t1 v2227 v2252 k0_hw877 k0_h4 => k0_hw877 k0_h4

def k0_chk878 (k0_t1 : Fin k0_t1_loop.trips) (v2227 : IVec S16 32) (v2254 : IVec S16 32) : Prop :=
  (∀ (k0_h4 : k0_cond4 k0_t1 = 1#1), ∀ a x, ((![v2227, v2254] : Fin 2 → IVec S16 32) a x).toNat < S512x16.size a)
theorem k0_idx878_inb : ∀ (k0_t1 : Fin k0_t1_loop.trips) (v2227 : IVec S16 32) (v2254 : IVec S16 32) (k0_hw878 : k0_chk878 k0_t1 v2227 v2254), ∀ (k0_h4 : k0_cond4 k0_t1 = 1#1), ∀ a x, ((![v2227, v2254] : Fin 2 → IVec S16 32) a x).toNat < S512x16.size a := fun k0_t1 v2227 v2254 k0_hw878 k0_h4 => k0_hw878 k0_h4

def k0_chk879 (k0_t1 : Fin k0_t1_loop.trips) (v2227 : IVec S16 32) (v2256 : IVec S16 32) : Prop :=
  (∀ (k0_h4 : k0_cond4 k0_t1 = 1#1), ∀ a x, ((![v2227, v2256] : Fin 2 → IVec S16 32) a x).toNat < S512x16.size a)
theorem k0_idx879_inb : ∀ (k0_t1 : Fin k0_t1_loop.trips) (v2227 : IVec S16 32) (v2256 : IVec S16 32) (k0_hw879 : k0_chk879 k0_t1 v2227 v2256), ∀ (k0_h4 : k0_cond4 k0_t1 = 1#1), ∀ a x, ((![v2227, v2256] : Fin 2 → IVec S16 32) a x).toNat < S512x16.size a := fun k0_t1 v2227 v2256 k0_hw879 k0_h4 => k0_hw879 k0_h4

def k0_chk880 (k0_t1 : Fin k0_t1_loop.trips) (v2227 : IVec S16 32) (v2258 : IVec S16 32) : Prop :=
  (∀ (k0_h4 : k0_cond4 k0_t1 = 1#1), ∀ a x, ((![v2227, v2258] : Fin 2 → IVec S16 32) a x).toNat < S512x16.size a)
theorem k0_idx880_inb : ∀ (k0_t1 : Fin k0_t1_loop.trips) (v2227 : IVec S16 32) (v2258 : IVec S16 32) (k0_hw880 : k0_chk880 k0_t1 v2227 v2258), ∀ (k0_h4 : k0_cond4 k0_t1 = 1#1), ∀ a x, ((![v2227, v2258] : Fin 2 → IVec S16 32) a x).toNat < S512x16.size a := fun k0_t1 v2227 v2258 k0_hw880 k0_h4 => k0_hw880 k0_h4

def k0_chk881 (k0_t1 : Fin k0_t1_loop.trips) (v2326 : IVec S16 32) (v2327 : IVec S16 32) : Prop :=
  (∀ (k0_h4 : k0_cond4 k0_t1 = 1#1), ∀ a x, ((![v2326, v2327] : Fin 2 → IVec S16 32) a x).toNat < S512x16.size a)
theorem k0_idx881_inb : ∀ (k0_t1 : Fin k0_t1_loop.trips) (v2326 : IVec S16 32) (v2327 : IVec S16 32) (k0_hw881 : k0_chk881 k0_t1 v2326 v2327), ∀ (k0_h4 : k0_cond4 k0_t1 = 1#1), ∀ a x, ((![v2326, v2327] : Fin 2 → IVec S16 32) a x).toNat < S512x16.size a := fun k0_t1 v2326 v2327 k0_hw881 k0_h4 => k0_hw881 k0_h4

def k0_chk882 (k0_t1 : Fin k0_t1_loop.trips) (v2326 : IVec S16 32) (v2329 : IVec S16 32) : Prop :=
  (∀ (k0_h4 : k0_cond4 k0_t1 = 1#1), ∀ a x, ((![v2326, v2329] : Fin 2 → IVec S16 32) a x).toNat < S512x16.size a)
theorem k0_idx882_inb : ∀ (k0_t1 : Fin k0_t1_loop.trips) (v2326 : IVec S16 32) (v2329 : IVec S16 32) (k0_hw882 : k0_chk882 k0_t1 v2326 v2329), ∀ (k0_h4 : k0_cond4 k0_t1 = 1#1), ∀ a x, ((![v2326, v2329] : Fin 2 → IVec S16 32) a x).toNat < S512x16.size a := fun k0_t1 v2326 v2329 k0_hw882 k0_h4 => k0_hw882 k0_h4

def k0_chk883 (k0_t1 : Fin k0_t1_loop.trips) (v2326 : IVec S16 32) (v2331 : IVec S16 32) : Prop :=
  (∀ (k0_h4 : k0_cond4 k0_t1 = 1#1), ∀ a x, ((![v2326, v2331] : Fin 2 → IVec S16 32) a x).toNat < S512x16.size a)
theorem k0_idx883_inb : ∀ (k0_t1 : Fin k0_t1_loop.trips) (v2326 : IVec S16 32) (v2331 : IVec S16 32) (k0_hw883 : k0_chk883 k0_t1 v2326 v2331), ∀ (k0_h4 : k0_cond4 k0_t1 = 1#1), ∀ a x, ((![v2326, v2331] : Fin 2 → IVec S16 32) a x).toNat < S512x16.size a := fun k0_t1 v2326 v2331 k0_hw883 k0_h4 => k0_hw883 k0_h4

def k0_chk884 (k0_t1 : Fin k0_t1_loop.trips) (v2326 : IVec S16 32) (v2333 : IVec S16 32) : Prop :=
  (∀ (k0_h4 : k0_cond4 k0_t1 = 1#1), ∀ a x, ((![v2326, v2333] : Fin 2 → IVec S16 32) a x).toNat < S512x16.size a)
theorem k0_idx884_inb : ∀ (k0_t1 : Fin k0_t1_loop.trips) (v2326 : IVec S16 32) (v2333 : IVec S16 32) (k0_hw884 : k0_chk884 k0_t1 v2326 v2333), ∀ (k0_h4 : k0_cond4 k0_t1 = 1#1), ∀ a x, ((![v2326, v2333] : Fin 2 → IVec S16 32) a x).toNat < S512x16.size a := fun k0_t1 v2326 v2333 k0_hw884 k0_h4 => k0_hw884 k0_h4

def k0_chk885 (k0_t1 : Fin k0_t1_loop.trips) (v2326 : IVec S16 32) (v2335 : IVec S16 32) : Prop :=
  (∀ (k0_h4 : k0_cond4 k0_t1 = 1#1), ∀ a x, ((![v2326, v2335] : Fin 2 → IVec S16 32) a x).toNat < S512x16.size a)
theorem k0_idx885_inb : ∀ (k0_t1 : Fin k0_t1_loop.trips) (v2326 : IVec S16 32) (v2335 : IVec S16 32) (k0_hw885 : k0_chk885 k0_t1 v2326 v2335), ∀ (k0_h4 : k0_cond4 k0_t1 = 1#1), ∀ a x, ((![v2326, v2335] : Fin 2 → IVec S16 32) a x).toNat < S512x16.size a := fun k0_t1 v2326 v2335 k0_hw885 k0_h4 => k0_hw885 k0_h4

def k0_chk886 (k0_t1 : Fin k0_t1_loop.trips) (v2326 : IVec S16 32) (v2337 : IVec S16 32) : Prop :=
  (∀ (k0_h4 : k0_cond4 k0_t1 = 1#1), ∀ a x, ((![v2326, v2337] : Fin 2 → IVec S16 32) a x).toNat < S512x16.size a)
theorem k0_idx886_inb : ∀ (k0_t1 : Fin k0_t1_loop.trips) (v2326 : IVec S16 32) (v2337 : IVec S16 32) (k0_hw886 : k0_chk886 k0_t1 v2326 v2337), ∀ (k0_h4 : k0_cond4 k0_t1 = 1#1), ∀ a x, ((![v2326, v2337] : Fin 2 → IVec S16 32) a x).toNat < S512x16.size a := fun k0_t1 v2326 v2337 k0_hw886 k0_h4 => k0_hw886 k0_h4

def k0_chk887 (k0_t1 : Fin k0_t1_loop.trips) (v2326 : IVec S16 32) (v2339 : IVec S16 32) : Prop :=
  (∀ (k0_h4 : k0_cond4 k0_t1 = 1#1), ∀ a x, ((![v2326, v2339] : Fin 2 → IVec S16 32) a x).toNat < S512x16.size a)
theorem k0_idx887_inb : ∀ (k0_t1 : Fin k0_t1_loop.trips) (v2326 : IVec S16 32) (v2339 : IVec S16 32) (k0_hw887 : k0_chk887 k0_t1 v2326 v2339), ∀ (k0_h4 : k0_cond4 k0_t1 = 1#1), ∀ a x, ((![v2326, v2339] : Fin 2 → IVec S16 32) a x).toNat < S512x16.size a := fun k0_t1 v2326 v2339 k0_hw887 k0_h4 => k0_hw887 k0_h4

def k0_chk888 (k0_t1 : Fin k0_t1_loop.trips) (v2326 : IVec S16 32) (v2341 : IVec S16 32) : Prop :=
  (∀ (k0_h4 : k0_cond4 k0_t1 = 1#1), ∀ a x, ((![v2326, v2341] : Fin 2 → IVec S16 32) a x).toNat < S512x16.size a)
theorem k0_idx888_inb : ∀ (k0_t1 : Fin k0_t1_loop.trips) (v2326 : IVec S16 32) (v2341 : IVec S16 32) (k0_hw888 : k0_chk888 k0_t1 v2326 v2341), ∀ (k0_h4 : k0_cond4 k0_t1 = 1#1), ∀ a x, ((![v2326, v2341] : Fin 2 → IVec S16 32) a x).toNat < S512x16.size a := fun k0_t1 v2326 v2341 k0_hw888 k0_h4 => k0_hw888 k0_h4

def k0_chk889 (k0_t1 : Fin k0_t1_loop.trips) (v2326 : IVec S16 32) (v2343 : IVec S16 32) : Prop :=
  (∀ (k0_h4 : k0_cond4 k0_t1 = 1#1), ∀ a x, ((![v2326, v2343] : Fin 2 → IVec S16 32) a x).toNat < S512x16.size a)
theorem k0_idx889_inb : ∀ (k0_t1 : Fin k0_t1_loop.trips) (v2326 : IVec S16 32) (v2343 : IVec S16 32) (k0_hw889 : k0_chk889 k0_t1 v2326 v2343), ∀ (k0_h4 : k0_cond4 k0_t1 = 1#1), ∀ a x, ((![v2326, v2343] : Fin 2 → IVec S16 32) a x).toNat < S512x16.size a := fun k0_t1 v2326 v2343 k0_hw889 k0_h4 => k0_hw889 k0_h4

def k0_chk890 (k0_t1 : Fin k0_t1_loop.trips) (v2326 : IVec S16 32) (v2345 : IVec S16 32) : Prop :=
  (∀ (k0_h4 : k0_cond4 k0_t1 = 1#1), ∀ a x, ((![v2326, v2345] : Fin 2 → IVec S16 32) a x).toNat < S512x16.size a)
theorem k0_idx890_inb : ∀ (k0_t1 : Fin k0_t1_loop.trips) (v2326 : IVec S16 32) (v2345 : IVec S16 32) (k0_hw890 : k0_chk890 k0_t1 v2326 v2345), ∀ (k0_h4 : k0_cond4 k0_t1 = 1#1), ∀ a x, ((![v2326, v2345] : Fin 2 → IVec S16 32) a x).toNat < S512x16.size a := fun k0_t1 v2326 v2345 k0_hw890 k0_h4 => k0_hw890 k0_h4

def k0_chk891 (k0_t1 : Fin k0_t1_loop.trips) (v2326 : IVec S16 32) (v2347 : IVec S16 32) : Prop :=
  (∀ (k0_h4 : k0_cond4 k0_t1 = 1#1), ∀ a x, ((![v2326, v2347] : Fin 2 → IVec S16 32) a x).toNat < S512x16.size a)
theorem k0_idx891_inb : ∀ (k0_t1 : Fin k0_t1_loop.trips) (v2326 : IVec S16 32) (v2347 : IVec S16 32) (k0_hw891 : k0_chk891 k0_t1 v2326 v2347), ∀ (k0_h4 : k0_cond4 k0_t1 = 1#1), ∀ a x, ((![v2326, v2347] : Fin 2 → IVec S16 32) a x).toNat < S512x16.size a := fun k0_t1 v2326 v2347 k0_hw891 k0_h4 => k0_hw891 k0_h4

def k0_chk892 (k0_t1 : Fin k0_t1_loop.trips) (v2326 : IVec S16 32) (v2349 : IVec S16 32) : Prop :=
  (∀ (k0_h4 : k0_cond4 k0_t1 = 1#1), ∀ a x, ((![v2326, v2349] : Fin 2 → IVec S16 32) a x).toNat < S512x16.size a)
theorem k0_idx892_inb : ∀ (k0_t1 : Fin k0_t1_loop.trips) (v2326 : IVec S16 32) (v2349 : IVec S16 32) (k0_hw892 : k0_chk892 k0_t1 v2326 v2349), ∀ (k0_h4 : k0_cond4 k0_t1 = 1#1), ∀ a x, ((![v2326, v2349] : Fin 2 → IVec S16 32) a x).toNat < S512x16.size a := fun k0_t1 v2326 v2349 k0_hw892 k0_h4 => k0_hw892 k0_h4

def k0_chk893 (k0_t1 : Fin k0_t1_loop.trips) (v2326 : IVec S16 32) (v2351 : IVec S16 32) : Prop :=
  (∀ (k0_h4 : k0_cond4 k0_t1 = 1#1), ∀ a x, ((![v2326, v2351] : Fin 2 → IVec S16 32) a x).toNat < S512x16.size a)
theorem k0_idx893_inb : ∀ (k0_t1 : Fin k0_t1_loop.trips) (v2326 : IVec S16 32) (v2351 : IVec S16 32) (k0_hw893 : k0_chk893 k0_t1 v2326 v2351), ∀ (k0_h4 : k0_cond4 k0_t1 = 1#1), ∀ a x, ((![v2326, v2351] : Fin 2 → IVec S16 32) a x).toNat < S512x16.size a := fun k0_t1 v2326 v2351 k0_hw893 k0_h4 => k0_hw893 k0_h4

def k0_chk894 (k0_t1 : Fin k0_t1_loop.trips) (v2326 : IVec S16 32) (v2353 : IVec S16 32) : Prop :=
  (∀ (k0_h4 : k0_cond4 k0_t1 = 1#1), ∀ a x, ((![v2326, v2353] : Fin 2 → IVec S16 32) a x).toNat < S512x16.size a)
theorem k0_idx894_inb : ∀ (k0_t1 : Fin k0_t1_loop.trips) (v2326 : IVec S16 32) (v2353 : IVec S16 32) (k0_hw894 : k0_chk894 k0_t1 v2326 v2353), ∀ (k0_h4 : k0_cond4 k0_t1 = 1#1), ∀ a x, ((![v2326, v2353] : Fin 2 → IVec S16 32) a x).toNat < S512x16.size a := fun k0_t1 v2326 v2353 k0_hw894 k0_h4 => k0_hw894 k0_h4

def k0_chk895 (k0_t1 : Fin k0_t1_loop.trips) (v2326 : IVec S16 32) (v2355 : IVec S16 32) : Prop :=
  (∀ (k0_h4 : k0_cond4 k0_t1 = 1#1), ∀ a x, ((![v2326, v2355] : Fin 2 → IVec S16 32) a x).toNat < S512x16.size a)
theorem k0_idx895_inb : ∀ (k0_t1 : Fin k0_t1_loop.trips) (v2326 : IVec S16 32) (v2355 : IVec S16 32) (k0_hw895 : k0_chk895 k0_t1 v2326 v2355), ∀ (k0_h4 : k0_cond4 k0_t1 = 1#1), ∀ a x, ((![v2326, v2355] : Fin 2 → IVec S16 32) a x).toNat < S512x16.size a := fun k0_t1 v2326 v2355 k0_hw895 k0_h4 => k0_hw895 k0_h4

def k0_chk896 (k0_t1 : Fin k0_t1_loop.trips) (v2326 : IVec S16 32) (v2357 : IVec S16 32) : Prop :=
  (∀ (k0_h4 : k0_cond4 k0_t1 = 1#1), ∀ a x, ((![v2326, v2357] : Fin 2 → IVec S16 32) a x).toNat < S512x16.size a)
theorem k0_idx896_inb : ∀ (k0_t1 : Fin k0_t1_loop.trips) (v2326 : IVec S16 32) (v2357 : IVec S16 32) (k0_hw896 : k0_chk896 k0_t1 v2326 v2357), ∀ (k0_h4 : k0_cond4 k0_t1 = 1#1), ∀ a x, ((![v2326, v2357] : Fin 2 → IVec S16 32) a x).toNat < S512x16.size a := fun k0_t1 v2326 v2357 k0_hw896 k0_h4 => k0_hw896 k0_h4

def k0_chk897 (k0_t1 : Fin k0_t1_loop.trips) (v2425 : IVec S16 32) (v2426 : IVec S16 32) : Prop :=
  (∀ (k0_h4 : k0_cond4 k0_t1 = 1#1), ∀ a x, ((![v2425, v2426] : Fin 2 → IVec S16 32) a x).toNat < S512x16.size a)
theorem k0_idx897_inb : ∀ (k0_t1 : Fin k0_t1_loop.trips) (v2425 : IVec S16 32) (v2426 : IVec S16 32) (k0_hw897 : k0_chk897 k0_t1 v2425 v2426), ∀ (k0_h4 : k0_cond4 k0_t1 = 1#1), ∀ a x, ((![v2425, v2426] : Fin 2 → IVec S16 32) a x).toNat < S512x16.size a := fun k0_t1 v2425 v2426 k0_hw897 k0_h4 => k0_hw897 k0_h4

def k0_chk898 (k0_t1 : Fin k0_t1_loop.trips) (v2425 : IVec S16 32) (v2428 : IVec S16 32) : Prop :=
  (∀ (k0_h4 : k0_cond4 k0_t1 = 1#1), ∀ a x, ((![v2425, v2428] : Fin 2 → IVec S16 32) a x).toNat < S512x16.size a)
theorem k0_idx898_inb : ∀ (k0_t1 : Fin k0_t1_loop.trips) (v2425 : IVec S16 32) (v2428 : IVec S16 32) (k0_hw898 : k0_chk898 k0_t1 v2425 v2428), ∀ (k0_h4 : k0_cond4 k0_t1 = 1#1), ∀ a x, ((![v2425, v2428] : Fin 2 → IVec S16 32) a x).toNat < S512x16.size a := fun k0_t1 v2425 v2428 k0_hw898 k0_h4 => k0_hw898 k0_h4

def k0_chk899 (k0_t1 : Fin k0_t1_loop.trips) (v2425 : IVec S16 32) (v2430 : IVec S16 32) : Prop :=
  (∀ (k0_h4 : k0_cond4 k0_t1 = 1#1), ∀ a x, ((![v2425, v2430] : Fin 2 → IVec S16 32) a x).toNat < S512x16.size a)
theorem k0_idx899_inb : ∀ (k0_t1 : Fin k0_t1_loop.trips) (v2425 : IVec S16 32) (v2430 : IVec S16 32) (k0_hw899 : k0_chk899 k0_t1 v2425 v2430), ∀ (k0_h4 : k0_cond4 k0_t1 = 1#1), ∀ a x, ((![v2425, v2430] : Fin 2 → IVec S16 32) a x).toNat < S512x16.size a := fun k0_t1 v2425 v2430 k0_hw899 k0_h4 => k0_hw899 k0_h4

def k0_chk900 (k0_t1 : Fin k0_t1_loop.trips) (v2425 : IVec S16 32) (v2432 : IVec S16 32) : Prop :=
  (∀ (k0_h4 : k0_cond4 k0_t1 = 1#1), ∀ a x, ((![v2425, v2432] : Fin 2 → IVec S16 32) a x).toNat < S512x16.size a)
theorem k0_idx900_inb : ∀ (k0_t1 : Fin k0_t1_loop.trips) (v2425 : IVec S16 32) (v2432 : IVec S16 32) (k0_hw900 : k0_chk900 k0_t1 v2425 v2432), ∀ (k0_h4 : k0_cond4 k0_t1 = 1#1), ∀ a x, ((![v2425, v2432] : Fin 2 → IVec S16 32) a x).toNat < S512x16.size a := fun k0_t1 v2425 v2432 k0_hw900 k0_h4 => k0_hw900 k0_h4

def k0_chk901 (k0_t1 : Fin k0_t1_loop.trips) (v2425 : IVec S16 32) (v2434 : IVec S16 32) : Prop :=
  (∀ (k0_h4 : k0_cond4 k0_t1 = 1#1), ∀ a x, ((![v2425, v2434] : Fin 2 → IVec S16 32) a x).toNat < S512x16.size a)
theorem k0_idx901_inb : ∀ (k0_t1 : Fin k0_t1_loop.trips) (v2425 : IVec S16 32) (v2434 : IVec S16 32) (k0_hw901 : k0_chk901 k0_t1 v2425 v2434), ∀ (k0_h4 : k0_cond4 k0_t1 = 1#1), ∀ a x, ((![v2425, v2434] : Fin 2 → IVec S16 32) a x).toNat < S512x16.size a := fun k0_t1 v2425 v2434 k0_hw901 k0_h4 => k0_hw901 k0_h4

def k0_chk902 (k0_t1 : Fin k0_t1_loop.trips) (v2425 : IVec S16 32) (v2436 : IVec S16 32) : Prop :=
  (∀ (k0_h4 : k0_cond4 k0_t1 = 1#1), ∀ a x, ((![v2425, v2436] : Fin 2 → IVec S16 32) a x).toNat < S512x16.size a)
theorem k0_idx902_inb : ∀ (k0_t1 : Fin k0_t1_loop.trips) (v2425 : IVec S16 32) (v2436 : IVec S16 32) (k0_hw902 : k0_chk902 k0_t1 v2425 v2436), ∀ (k0_h4 : k0_cond4 k0_t1 = 1#1), ∀ a x, ((![v2425, v2436] : Fin 2 → IVec S16 32) a x).toNat < S512x16.size a := fun k0_t1 v2425 v2436 k0_hw902 k0_h4 => k0_hw902 k0_h4

def k0_chk903 (k0_t1 : Fin k0_t1_loop.trips) (v2425 : IVec S16 32) (v2438 : IVec S16 32) : Prop :=
  (∀ (k0_h4 : k0_cond4 k0_t1 = 1#1), ∀ a x, ((![v2425, v2438] : Fin 2 → IVec S16 32) a x).toNat < S512x16.size a)
theorem k0_idx903_inb : ∀ (k0_t1 : Fin k0_t1_loop.trips) (v2425 : IVec S16 32) (v2438 : IVec S16 32) (k0_hw903 : k0_chk903 k0_t1 v2425 v2438), ∀ (k0_h4 : k0_cond4 k0_t1 = 1#1), ∀ a x, ((![v2425, v2438] : Fin 2 → IVec S16 32) a x).toNat < S512x16.size a := fun k0_t1 v2425 v2438 k0_hw903 k0_h4 => k0_hw903 k0_h4

def k0_chk904 (k0_t1 : Fin k0_t1_loop.trips) (v2425 : IVec S16 32) (v2440 : IVec S16 32) : Prop :=
  (∀ (k0_h4 : k0_cond4 k0_t1 = 1#1), ∀ a x, ((![v2425, v2440] : Fin 2 → IVec S16 32) a x).toNat < S512x16.size a)
theorem k0_idx904_inb : ∀ (k0_t1 : Fin k0_t1_loop.trips) (v2425 : IVec S16 32) (v2440 : IVec S16 32) (k0_hw904 : k0_chk904 k0_t1 v2425 v2440), ∀ (k0_h4 : k0_cond4 k0_t1 = 1#1), ∀ a x, ((![v2425, v2440] : Fin 2 → IVec S16 32) a x).toNat < S512x16.size a := fun k0_t1 v2425 v2440 k0_hw904 k0_h4 => k0_hw904 k0_h4

def k0_chk905 (k0_t1 : Fin k0_t1_loop.trips) (v2425 : IVec S16 32) (v2442 : IVec S16 32) : Prop :=
  (∀ (k0_h4 : k0_cond4 k0_t1 = 1#1), ∀ a x, ((![v2425, v2442] : Fin 2 → IVec S16 32) a x).toNat < S512x16.size a)
theorem k0_idx905_inb : ∀ (k0_t1 : Fin k0_t1_loop.trips) (v2425 : IVec S16 32) (v2442 : IVec S16 32) (k0_hw905 : k0_chk905 k0_t1 v2425 v2442), ∀ (k0_h4 : k0_cond4 k0_t1 = 1#1), ∀ a x, ((![v2425, v2442] : Fin 2 → IVec S16 32) a x).toNat < S512x16.size a := fun k0_t1 v2425 v2442 k0_hw905 k0_h4 => k0_hw905 k0_h4

def k0_chk906 (k0_t1 : Fin k0_t1_loop.trips) (v2425 : IVec S16 32) (v2444 : IVec S16 32) : Prop :=
  (∀ (k0_h4 : k0_cond4 k0_t1 = 1#1), ∀ a x, ((![v2425, v2444] : Fin 2 → IVec S16 32) a x).toNat < S512x16.size a)
theorem k0_idx906_inb : ∀ (k0_t1 : Fin k0_t1_loop.trips) (v2425 : IVec S16 32) (v2444 : IVec S16 32) (k0_hw906 : k0_chk906 k0_t1 v2425 v2444), ∀ (k0_h4 : k0_cond4 k0_t1 = 1#1), ∀ a x, ((![v2425, v2444] : Fin 2 → IVec S16 32) a x).toNat < S512x16.size a := fun k0_t1 v2425 v2444 k0_hw906 k0_h4 => k0_hw906 k0_h4

def k0_chk907 (k0_t1 : Fin k0_t1_loop.trips) (v2425 : IVec S16 32) (v2446 : IVec S16 32) : Prop :=
  (∀ (k0_h4 : k0_cond4 k0_t1 = 1#1), ∀ a x, ((![v2425, v2446] : Fin 2 → IVec S16 32) a x).toNat < S512x16.size a)
theorem k0_idx907_inb : ∀ (k0_t1 : Fin k0_t1_loop.trips) (v2425 : IVec S16 32) (v2446 : IVec S16 32) (k0_hw907 : k0_chk907 k0_t1 v2425 v2446), ∀ (k0_h4 : k0_cond4 k0_t1 = 1#1), ∀ a x, ((![v2425, v2446] : Fin 2 → IVec S16 32) a x).toNat < S512x16.size a := fun k0_t1 v2425 v2446 k0_hw907 k0_h4 => k0_hw907 k0_h4

def k0_chk908 (k0_t1 : Fin k0_t1_loop.trips) (v2425 : IVec S16 32) (v2448 : IVec S16 32) : Prop :=
  (∀ (k0_h4 : k0_cond4 k0_t1 = 1#1), ∀ a x, ((![v2425, v2448] : Fin 2 → IVec S16 32) a x).toNat < S512x16.size a)
theorem k0_idx908_inb : ∀ (k0_t1 : Fin k0_t1_loop.trips) (v2425 : IVec S16 32) (v2448 : IVec S16 32) (k0_hw908 : k0_chk908 k0_t1 v2425 v2448), ∀ (k0_h4 : k0_cond4 k0_t1 = 1#1), ∀ a x, ((![v2425, v2448] : Fin 2 → IVec S16 32) a x).toNat < S512x16.size a := fun k0_t1 v2425 v2448 k0_hw908 k0_h4 => k0_hw908 k0_h4

def k0_chk909 (k0_t1 : Fin k0_t1_loop.trips) (v2425 : IVec S16 32) (v2450 : IVec S16 32) : Prop :=
  (∀ (k0_h4 : k0_cond4 k0_t1 = 1#1), ∀ a x, ((![v2425, v2450] : Fin 2 → IVec S16 32) a x).toNat < S512x16.size a)
theorem k0_idx909_inb : ∀ (k0_t1 : Fin k0_t1_loop.trips) (v2425 : IVec S16 32) (v2450 : IVec S16 32) (k0_hw909 : k0_chk909 k0_t1 v2425 v2450), ∀ (k0_h4 : k0_cond4 k0_t1 = 1#1), ∀ a x, ((![v2425, v2450] : Fin 2 → IVec S16 32) a x).toNat < S512x16.size a := fun k0_t1 v2425 v2450 k0_hw909 k0_h4 => k0_hw909 k0_h4

def k0_chk910 (k0_t1 : Fin k0_t1_loop.trips) (v2425 : IVec S16 32) (v2452 : IVec S16 32) : Prop :=
  (∀ (k0_h4 : k0_cond4 k0_t1 = 1#1), ∀ a x, ((![v2425, v2452] : Fin 2 → IVec S16 32) a x).toNat < S512x16.size a)
theorem k0_idx910_inb : ∀ (k0_t1 : Fin k0_t1_loop.trips) (v2425 : IVec S16 32) (v2452 : IVec S16 32) (k0_hw910 : k0_chk910 k0_t1 v2425 v2452), ∀ (k0_h4 : k0_cond4 k0_t1 = 1#1), ∀ a x, ((![v2425, v2452] : Fin 2 → IVec S16 32) a x).toNat < S512x16.size a := fun k0_t1 v2425 v2452 k0_hw910 k0_h4 => k0_hw910 k0_h4

def k0_chk911 (k0_t1 : Fin k0_t1_loop.trips) (v2425 : IVec S16 32) (v2454 : IVec S16 32) : Prop :=
  (∀ (k0_h4 : k0_cond4 k0_t1 = 1#1), ∀ a x, ((![v2425, v2454] : Fin 2 → IVec S16 32) a x).toNat < S512x16.size a)
theorem k0_idx911_inb : ∀ (k0_t1 : Fin k0_t1_loop.trips) (v2425 : IVec S16 32) (v2454 : IVec S16 32) (k0_hw911 : k0_chk911 k0_t1 v2425 v2454), ∀ (k0_h4 : k0_cond4 k0_t1 = 1#1), ∀ a x, ((![v2425, v2454] : Fin 2 → IVec S16 32) a x).toNat < S512x16.size a := fun k0_t1 v2425 v2454 k0_hw911 k0_h4 => k0_hw911 k0_h4

def k0_chk912 (k0_t1 : Fin k0_t1_loop.trips) (v2425 : IVec S16 32) (v2456 : IVec S16 32) : Prop :=
  (∀ (k0_h4 : k0_cond4 k0_t1 = 1#1), ∀ a x, ((![v2425, v2456] : Fin 2 → IVec S16 32) a x).toNat < S512x16.size a)
theorem k0_idx912_inb : ∀ (k0_t1 : Fin k0_t1_loop.trips) (v2425 : IVec S16 32) (v2456 : IVec S16 32) (k0_hw912 : k0_chk912 k0_t1 v2425 v2456), ∀ (k0_h4 : k0_cond4 k0_t1 = 1#1), ∀ a x, ((![v2425, v2456] : Fin 2 → IVec S16 32) a x).toNat < S512x16.size a := fun k0_t1 v2425 v2456 k0_hw912 k0_h4 => k0_hw912 k0_h4

def k0_chk913 (k0_t1 : Fin k0_t1_loop.trips) (v2524 : IVec S16 32) (v2525 : IVec S16 32) : Prop :=
  (∀ (k0_h4 : k0_cond4 k0_t1 = 1#1), ∀ a x, ((![v2524, v2525] : Fin 2 → IVec S16 32) a x).toNat < S512x16.size a)
theorem k0_idx913_inb : ∀ (k0_t1 : Fin k0_t1_loop.trips) (v2524 : IVec S16 32) (v2525 : IVec S16 32) (k0_hw913 : k0_chk913 k0_t1 v2524 v2525), ∀ (k0_h4 : k0_cond4 k0_t1 = 1#1), ∀ a x, ((![v2524, v2525] : Fin 2 → IVec S16 32) a x).toNat < S512x16.size a := fun k0_t1 v2524 v2525 k0_hw913 k0_h4 => k0_hw913 k0_h4

def k0_chk914 (k0_t1 : Fin k0_t1_loop.trips) (v2524 : IVec S16 32) (v2527 : IVec S16 32) : Prop :=
  (∀ (k0_h4 : k0_cond4 k0_t1 = 1#1), ∀ a x, ((![v2524, v2527] : Fin 2 → IVec S16 32) a x).toNat < S512x16.size a)
theorem k0_idx914_inb : ∀ (k0_t1 : Fin k0_t1_loop.trips) (v2524 : IVec S16 32) (v2527 : IVec S16 32) (k0_hw914 : k0_chk914 k0_t1 v2524 v2527), ∀ (k0_h4 : k0_cond4 k0_t1 = 1#1), ∀ a x, ((![v2524, v2527] : Fin 2 → IVec S16 32) a x).toNat < S512x16.size a := fun k0_t1 v2524 v2527 k0_hw914 k0_h4 => k0_hw914 k0_h4

def k0_chk915 (k0_t1 : Fin k0_t1_loop.trips) (v2524 : IVec S16 32) (v2529 : IVec S16 32) : Prop :=
  (∀ (k0_h4 : k0_cond4 k0_t1 = 1#1), ∀ a x, ((![v2524, v2529] : Fin 2 → IVec S16 32) a x).toNat < S512x16.size a)
theorem k0_idx915_inb : ∀ (k0_t1 : Fin k0_t1_loop.trips) (v2524 : IVec S16 32) (v2529 : IVec S16 32) (k0_hw915 : k0_chk915 k0_t1 v2524 v2529), ∀ (k0_h4 : k0_cond4 k0_t1 = 1#1), ∀ a x, ((![v2524, v2529] : Fin 2 → IVec S16 32) a x).toNat < S512x16.size a := fun k0_t1 v2524 v2529 k0_hw915 k0_h4 => k0_hw915 k0_h4

def k0_chk916 (k0_t1 : Fin k0_t1_loop.trips) (v2524 : IVec S16 32) (v2531 : IVec S16 32) : Prop :=
  (∀ (k0_h4 : k0_cond4 k0_t1 = 1#1), ∀ a x, ((![v2524, v2531] : Fin 2 → IVec S16 32) a x).toNat < S512x16.size a)
theorem k0_idx916_inb : ∀ (k0_t1 : Fin k0_t1_loop.trips) (v2524 : IVec S16 32) (v2531 : IVec S16 32) (k0_hw916 : k0_chk916 k0_t1 v2524 v2531), ∀ (k0_h4 : k0_cond4 k0_t1 = 1#1), ∀ a x, ((![v2524, v2531] : Fin 2 → IVec S16 32) a x).toNat < S512x16.size a := fun k0_t1 v2524 v2531 k0_hw916 k0_h4 => k0_hw916 k0_h4

def k0_chk917 (k0_t1 : Fin k0_t1_loop.trips) (v2524 : IVec S16 32) (v2533 : IVec S16 32) : Prop :=
  (∀ (k0_h4 : k0_cond4 k0_t1 = 1#1), ∀ a x, ((![v2524, v2533] : Fin 2 → IVec S16 32) a x).toNat < S512x16.size a)
theorem k0_idx917_inb : ∀ (k0_t1 : Fin k0_t1_loop.trips) (v2524 : IVec S16 32) (v2533 : IVec S16 32) (k0_hw917 : k0_chk917 k0_t1 v2524 v2533), ∀ (k0_h4 : k0_cond4 k0_t1 = 1#1), ∀ a x, ((![v2524, v2533] : Fin 2 → IVec S16 32) a x).toNat < S512x16.size a := fun k0_t1 v2524 v2533 k0_hw917 k0_h4 => k0_hw917 k0_h4

def k0_chk918 (k0_t1 : Fin k0_t1_loop.trips) (v2524 : IVec S16 32) (v2535 : IVec S16 32) : Prop :=
  (∀ (k0_h4 : k0_cond4 k0_t1 = 1#1), ∀ a x, ((![v2524, v2535] : Fin 2 → IVec S16 32) a x).toNat < S512x16.size a)
theorem k0_idx918_inb : ∀ (k0_t1 : Fin k0_t1_loop.trips) (v2524 : IVec S16 32) (v2535 : IVec S16 32) (k0_hw918 : k0_chk918 k0_t1 v2524 v2535), ∀ (k0_h4 : k0_cond4 k0_t1 = 1#1), ∀ a x, ((![v2524, v2535] : Fin 2 → IVec S16 32) a x).toNat < S512x16.size a := fun k0_t1 v2524 v2535 k0_hw918 k0_h4 => k0_hw918 k0_h4

def k0_chk919 (k0_t1 : Fin k0_t1_loop.trips) (v2524 : IVec S16 32) (v2537 : IVec S16 32) : Prop :=
  (∀ (k0_h4 : k0_cond4 k0_t1 = 1#1), ∀ a x, ((![v2524, v2537] : Fin 2 → IVec S16 32) a x).toNat < S512x16.size a)
theorem k0_idx919_inb : ∀ (k0_t1 : Fin k0_t1_loop.trips) (v2524 : IVec S16 32) (v2537 : IVec S16 32) (k0_hw919 : k0_chk919 k0_t1 v2524 v2537), ∀ (k0_h4 : k0_cond4 k0_t1 = 1#1), ∀ a x, ((![v2524, v2537] : Fin 2 → IVec S16 32) a x).toNat < S512x16.size a := fun k0_t1 v2524 v2537 k0_hw919 k0_h4 => k0_hw919 k0_h4

def k0_chk920 (k0_t1 : Fin k0_t1_loop.trips) (v2524 : IVec S16 32) (v2539 : IVec S16 32) : Prop :=
  (∀ (k0_h4 : k0_cond4 k0_t1 = 1#1), ∀ a x, ((![v2524, v2539] : Fin 2 → IVec S16 32) a x).toNat < S512x16.size a)
theorem k0_idx920_inb : ∀ (k0_t1 : Fin k0_t1_loop.trips) (v2524 : IVec S16 32) (v2539 : IVec S16 32) (k0_hw920 : k0_chk920 k0_t1 v2524 v2539), ∀ (k0_h4 : k0_cond4 k0_t1 = 1#1), ∀ a x, ((![v2524, v2539] : Fin 2 → IVec S16 32) a x).toNat < S512x16.size a := fun k0_t1 v2524 v2539 k0_hw920 k0_h4 => k0_hw920 k0_h4

def k0_chk921 (k0_t1 : Fin k0_t1_loop.trips) (v2524 : IVec S16 32) (v2541 : IVec S16 32) : Prop :=
  (∀ (k0_h4 : k0_cond4 k0_t1 = 1#1), ∀ a x, ((![v2524, v2541] : Fin 2 → IVec S16 32) a x).toNat < S512x16.size a)
theorem k0_idx921_inb : ∀ (k0_t1 : Fin k0_t1_loop.trips) (v2524 : IVec S16 32) (v2541 : IVec S16 32) (k0_hw921 : k0_chk921 k0_t1 v2524 v2541), ∀ (k0_h4 : k0_cond4 k0_t1 = 1#1), ∀ a x, ((![v2524, v2541] : Fin 2 → IVec S16 32) a x).toNat < S512x16.size a := fun k0_t1 v2524 v2541 k0_hw921 k0_h4 => k0_hw921 k0_h4

def k0_chk922 (k0_t1 : Fin k0_t1_loop.trips) (v2524 : IVec S16 32) (v2543 : IVec S16 32) : Prop :=
  (∀ (k0_h4 : k0_cond4 k0_t1 = 1#1), ∀ a x, ((![v2524, v2543] : Fin 2 → IVec S16 32) a x).toNat < S512x16.size a)
theorem k0_idx922_inb : ∀ (k0_t1 : Fin k0_t1_loop.trips) (v2524 : IVec S16 32) (v2543 : IVec S16 32) (k0_hw922 : k0_chk922 k0_t1 v2524 v2543), ∀ (k0_h4 : k0_cond4 k0_t1 = 1#1), ∀ a x, ((![v2524, v2543] : Fin 2 → IVec S16 32) a x).toNat < S512x16.size a := fun k0_t1 v2524 v2543 k0_hw922 k0_h4 => k0_hw922 k0_h4

def k0_chk923 (k0_t1 : Fin k0_t1_loop.trips) (v2524 : IVec S16 32) (v2545 : IVec S16 32) : Prop :=
  (∀ (k0_h4 : k0_cond4 k0_t1 = 1#1), ∀ a x, ((![v2524, v2545] : Fin 2 → IVec S16 32) a x).toNat < S512x16.size a)
theorem k0_idx923_inb : ∀ (k0_t1 : Fin k0_t1_loop.trips) (v2524 : IVec S16 32) (v2545 : IVec S16 32) (k0_hw923 : k0_chk923 k0_t1 v2524 v2545), ∀ (k0_h4 : k0_cond4 k0_t1 = 1#1), ∀ a x, ((![v2524, v2545] : Fin 2 → IVec S16 32) a x).toNat < S512x16.size a := fun k0_t1 v2524 v2545 k0_hw923 k0_h4 => k0_hw923 k0_h4

def k0_chk924 (k0_t1 : Fin k0_t1_loop.trips) (v2524 : IVec S16 32) (v2547 : IVec S16 32) : Prop :=
  (∀ (k0_h4 : k0_cond4 k0_t1 = 1#1), ∀ a x, ((![v2524, v2547] : Fin 2 → IVec S16 32) a x).toNat < S512x16.size a)
theorem k0_idx924_inb : ∀ (k0_t1 : Fin k0_t1_loop.trips) (v2524 : IVec S16 32) (v2547 : IVec S16 32) (k0_hw924 : k0_chk924 k0_t1 v2524 v2547), ∀ (k0_h4 : k0_cond4 k0_t1 = 1#1), ∀ a x, ((![v2524, v2547] : Fin 2 → IVec S16 32) a x).toNat < S512x16.size a := fun k0_t1 v2524 v2547 k0_hw924 k0_h4 => k0_hw924 k0_h4

def k0_chk925 (k0_t1 : Fin k0_t1_loop.trips) (v2524 : IVec S16 32) (v2549 : IVec S16 32) : Prop :=
  (∀ (k0_h4 : k0_cond4 k0_t1 = 1#1), ∀ a x, ((![v2524, v2549] : Fin 2 → IVec S16 32) a x).toNat < S512x16.size a)
theorem k0_idx925_inb : ∀ (k0_t1 : Fin k0_t1_loop.trips) (v2524 : IVec S16 32) (v2549 : IVec S16 32) (k0_hw925 : k0_chk925 k0_t1 v2524 v2549), ∀ (k0_h4 : k0_cond4 k0_t1 = 1#1), ∀ a x, ((![v2524, v2549] : Fin 2 → IVec S16 32) a x).toNat < S512x16.size a := fun k0_t1 v2524 v2549 k0_hw925 k0_h4 => k0_hw925 k0_h4

def k0_chk926 (k0_t1 : Fin k0_t1_loop.trips) (v2524 : IVec S16 32) (v2551 : IVec S16 32) : Prop :=
  (∀ (k0_h4 : k0_cond4 k0_t1 = 1#1), ∀ a x, ((![v2524, v2551] : Fin 2 → IVec S16 32) a x).toNat < S512x16.size a)
theorem k0_idx926_inb : ∀ (k0_t1 : Fin k0_t1_loop.trips) (v2524 : IVec S16 32) (v2551 : IVec S16 32) (k0_hw926 : k0_chk926 k0_t1 v2524 v2551), ∀ (k0_h4 : k0_cond4 k0_t1 = 1#1), ∀ a x, ((![v2524, v2551] : Fin 2 → IVec S16 32) a x).toNat < S512x16.size a := fun k0_t1 v2524 v2551 k0_hw926 k0_h4 => k0_hw926 k0_h4

def k0_chk927 (k0_t1 : Fin k0_t1_loop.trips) (v2524 : IVec S16 32) (v2553 : IVec S16 32) : Prop :=
  (∀ (k0_h4 : k0_cond4 k0_t1 = 1#1), ∀ a x, ((![v2524, v2553] : Fin 2 → IVec S16 32) a x).toNat < S512x16.size a)
theorem k0_idx927_inb : ∀ (k0_t1 : Fin k0_t1_loop.trips) (v2524 : IVec S16 32) (v2553 : IVec S16 32) (k0_hw927 : k0_chk927 k0_t1 v2524 v2553), ∀ (k0_h4 : k0_cond4 k0_t1 = 1#1), ∀ a x, ((![v2524, v2553] : Fin 2 → IVec S16 32) a x).toNat < S512x16.size a := fun k0_t1 v2524 v2553 k0_hw927 k0_h4 => k0_hw927 k0_h4

def k0_chk928 (k0_t1 : Fin k0_t1_loop.trips) (v2524 : IVec S16 32) (v2555 : IVec S16 32) : Prop :=
  (∀ (k0_h4 : k0_cond4 k0_t1 = 1#1), ∀ a x, ((![v2524, v2555] : Fin 2 → IVec S16 32) a x).toNat < S512x16.size a)
theorem k0_idx928_inb : ∀ (k0_t1 : Fin k0_t1_loop.trips) (v2524 : IVec S16 32) (v2555 : IVec S16 32) (k0_hw928 : k0_chk928 k0_t1 v2524 v2555), ∀ (k0_h4 : k0_cond4 k0_t1 = 1#1), ∀ a x, ((![v2524, v2555] : Fin 2 → IVec S16 32) a x).toNat < S512x16.size a := fun k0_t1 v2524 v2555 k0_hw928 k0_h4 => k0_hw928 k0_h4

def k0_chk929 (k0_t1 : Fin k0_t1_loop.trips) (v2623 : IVec S16 32) (v2624 : IVec S16 32) : Prop :=
  (∀ (k0_h4 : k0_cond4 k0_t1 = 1#1), ∀ a x, ((![v2623, v2624] : Fin 2 → IVec S16 32) a x).toNat < S512x16.size a)
theorem k0_idx929_inb : ∀ (k0_t1 : Fin k0_t1_loop.trips) (v2623 : IVec S16 32) (v2624 : IVec S16 32) (k0_hw929 : k0_chk929 k0_t1 v2623 v2624), ∀ (k0_h4 : k0_cond4 k0_t1 = 1#1), ∀ a x, ((![v2623, v2624] : Fin 2 → IVec S16 32) a x).toNat < S512x16.size a := fun k0_t1 v2623 v2624 k0_hw929 k0_h4 => k0_hw929 k0_h4

def k0_chk930 (k0_t1 : Fin k0_t1_loop.trips) (v2623 : IVec S16 32) (v2626 : IVec S16 32) : Prop :=
  (∀ (k0_h4 : k0_cond4 k0_t1 = 1#1), ∀ a x, ((![v2623, v2626] : Fin 2 → IVec S16 32) a x).toNat < S512x16.size a)
theorem k0_idx930_inb : ∀ (k0_t1 : Fin k0_t1_loop.trips) (v2623 : IVec S16 32) (v2626 : IVec S16 32) (k0_hw930 : k0_chk930 k0_t1 v2623 v2626), ∀ (k0_h4 : k0_cond4 k0_t1 = 1#1), ∀ a x, ((![v2623, v2626] : Fin 2 → IVec S16 32) a x).toNat < S512x16.size a := fun k0_t1 v2623 v2626 k0_hw930 k0_h4 => k0_hw930 k0_h4

def k0_chk931 (k0_t1 : Fin k0_t1_loop.trips) (v2623 : IVec S16 32) (v2628 : IVec S16 32) : Prop :=
  (∀ (k0_h4 : k0_cond4 k0_t1 = 1#1), ∀ a x, ((![v2623, v2628] : Fin 2 → IVec S16 32) a x).toNat < S512x16.size a)
theorem k0_idx931_inb : ∀ (k0_t1 : Fin k0_t1_loop.trips) (v2623 : IVec S16 32) (v2628 : IVec S16 32) (k0_hw931 : k0_chk931 k0_t1 v2623 v2628), ∀ (k0_h4 : k0_cond4 k0_t1 = 1#1), ∀ a x, ((![v2623, v2628] : Fin 2 → IVec S16 32) a x).toNat < S512x16.size a := fun k0_t1 v2623 v2628 k0_hw931 k0_h4 => k0_hw931 k0_h4

def k0_chk932 (k0_t1 : Fin k0_t1_loop.trips) (v2623 : IVec S16 32) (v2630 : IVec S16 32) : Prop :=
  (∀ (k0_h4 : k0_cond4 k0_t1 = 1#1), ∀ a x, ((![v2623, v2630] : Fin 2 → IVec S16 32) a x).toNat < S512x16.size a)
theorem k0_idx932_inb : ∀ (k0_t1 : Fin k0_t1_loop.trips) (v2623 : IVec S16 32) (v2630 : IVec S16 32) (k0_hw932 : k0_chk932 k0_t1 v2623 v2630), ∀ (k0_h4 : k0_cond4 k0_t1 = 1#1), ∀ a x, ((![v2623, v2630] : Fin 2 → IVec S16 32) a x).toNat < S512x16.size a := fun k0_t1 v2623 v2630 k0_hw932 k0_h4 => k0_hw932 k0_h4

def k0_chk933 (k0_t1 : Fin k0_t1_loop.trips) (v2623 : IVec S16 32) (v2632 : IVec S16 32) : Prop :=
  (∀ (k0_h4 : k0_cond4 k0_t1 = 1#1), ∀ a x, ((![v2623, v2632] : Fin 2 → IVec S16 32) a x).toNat < S512x16.size a)
theorem k0_idx933_inb : ∀ (k0_t1 : Fin k0_t1_loop.trips) (v2623 : IVec S16 32) (v2632 : IVec S16 32) (k0_hw933 : k0_chk933 k0_t1 v2623 v2632), ∀ (k0_h4 : k0_cond4 k0_t1 = 1#1), ∀ a x, ((![v2623, v2632] : Fin 2 → IVec S16 32) a x).toNat < S512x16.size a := fun k0_t1 v2623 v2632 k0_hw933 k0_h4 => k0_hw933 k0_h4

def k0_chk934 (k0_t1 : Fin k0_t1_loop.trips) (v2623 : IVec S16 32) (v2634 : IVec S16 32) : Prop :=
  (∀ (k0_h4 : k0_cond4 k0_t1 = 1#1), ∀ a x, ((![v2623, v2634] : Fin 2 → IVec S16 32) a x).toNat < S512x16.size a)
theorem k0_idx934_inb : ∀ (k0_t1 : Fin k0_t1_loop.trips) (v2623 : IVec S16 32) (v2634 : IVec S16 32) (k0_hw934 : k0_chk934 k0_t1 v2623 v2634), ∀ (k0_h4 : k0_cond4 k0_t1 = 1#1), ∀ a x, ((![v2623, v2634] : Fin 2 → IVec S16 32) a x).toNat < S512x16.size a := fun k0_t1 v2623 v2634 k0_hw934 k0_h4 => k0_hw934 k0_h4

def k0_chk935 (k0_t1 : Fin k0_t1_loop.trips) (v2623 : IVec S16 32) (v2636 : IVec S16 32) : Prop :=
  (∀ (k0_h4 : k0_cond4 k0_t1 = 1#1), ∀ a x, ((![v2623, v2636] : Fin 2 → IVec S16 32) a x).toNat < S512x16.size a)
theorem k0_idx935_inb : ∀ (k0_t1 : Fin k0_t1_loop.trips) (v2623 : IVec S16 32) (v2636 : IVec S16 32) (k0_hw935 : k0_chk935 k0_t1 v2623 v2636), ∀ (k0_h4 : k0_cond4 k0_t1 = 1#1), ∀ a x, ((![v2623, v2636] : Fin 2 → IVec S16 32) a x).toNat < S512x16.size a := fun k0_t1 v2623 v2636 k0_hw935 k0_h4 => k0_hw935 k0_h4

def k0_chk936 (k0_t1 : Fin k0_t1_loop.trips) (v2623 : IVec S16 32) (v2638 : IVec S16 32) : Prop :=
  (∀ (k0_h4 : k0_cond4 k0_t1 = 1#1), ∀ a x, ((![v2623, v2638] : Fin 2 → IVec S16 32) a x).toNat < S512x16.size a)
theorem k0_idx936_inb : ∀ (k0_t1 : Fin k0_t1_loop.trips) (v2623 : IVec S16 32) (v2638 : IVec S16 32) (k0_hw936 : k0_chk936 k0_t1 v2623 v2638), ∀ (k0_h4 : k0_cond4 k0_t1 = 1#1), ∀ a x, ((![v2623, v2638] : Fin 2 → IVec S16 32) a x).toNat < S512x16.size a := fun k0_t1 v2623 v2638 k0_hw936 k0_h4 => k0_hw936 k0_h4

def k0_chk937 (k0_t1 : Fin k0_t1_loop.trips) (v2623 : IVec S16 32) (v2640 : IVec S16 32) : Prop :=
  (∀ (k0_h4 : k0_cond4 k0_t1 = 1#1), ∀ a x, ((![v2623, v2640] : Fin 2 → IVec S16 32) a x).toNat < S512x16.size a)
theorem k0_idx937_inb : ∀ (k0_t1 : Fin k0_t1_loop.trips) (v2623 : IVec S16 32) (v2640 : IVec S16 32) (k0_hw937 : k0_chk937 k0_t1 v2623 v2640), ∀ (k0_h4 : k0_cond4 k0_t1 = 1#1), ∀ a x, ((![v2623, v2640] : Fin 2 → IVec S16 32) a x).toNat < S512x16.size a := fun k0_t1 v2623 v2640 k0_hw937 k0_h4 => k0_hw937 k0_h4

def k0_chk938 (k0_t1 : Fin k0_t1_loop.trips) (v2623 : IVec S16 32) (v2642 : IVec S16 32) : Prop :=
  (∀ (k0_h4 : k0_cond4 k0_t1 = 1#1), ∀ a x, ((![v2623, v2642] : Fin 2 → IVec S16 32) a x).toNat < S512x16.size a)
theorem k0_idx938_inb : ∀ (k0_t1 : Fin k0_t1_loop.trips) (v2623 : IVec S16 32) (v2642 : IVec S16 32) (k0_hw938 : k0_chk938 k0_t1 v2623 v2642), ∀ (k0_h4 : k0_cond4 k0_t1 = 1#1), ∀ a x, ((![v2623, v2642] : Fin 2 → IVec S16 32) a x).toNat < S512x16.size a := fun k0_t1 v2623 v2642 k0_hw938 k0_h4 => k0_hw938 k0_h4

def k0_chk939 (k0_t1 : Fin k0_t1_loop.trips) (v2623 : IVec S16 32) (v2644 : IVec S16 32) : Prop :=
  (∀ (k0_h4 : k0_cond4 k0_t1 = 1#1), ∀ a x, ((![v2623, v2644] : Fin 2 → IVec S16 32) a x).toNat < S512x16.size a)
theorem k0_idx939_inb : ∀ (k0_t1 : Fin k0_t1_loop.trips) (v2623 : IVec S16 32) (v2644 : IVec S16 32) (k0_hw939 : k0_chk939 k0_t1 v2623 v2644), ∀ (k0_h4 : k0_cond4 k0_t1 = 1#1), ∀ a x, ((![v2623, v2644] : Fin 2 → IVec S16 32) a x).toNat < S512x16.size a := fun k0_t1 v2623 v2644 k0_hw939 k0_h4 => k0_hw939 k0_h4

def k0_chk940 (k0_t1 : Fin k0_t1_loop.trips) (v2623 : IVec S16 32) (v2646 : IVec S16 32) : Prop :=
  (∀ (k0_h4 : k0_cond4 k0_t1 = 1#1), ∀ a x, ((![v2623, v2646] : Fin 2 → IVec S16 32) a x).toNat < S512x16.size a)
theorem k0_idx940_inb : ∀ (k0_t1 : Fin k0_t1_loop.trips) (v2623 : IVec S16 32) (v2646 : IVec S16 32) (k0_hw940 : k0_chk940 k0_t1 v2623 v2646), ∀ (k0_h4 : k0_cond4 k0_t1 = 1#1), ∀ a x, ((![v2623, v2646] : Fin 2 → IVec S16 32) a x).toNat < S512x16.size a := fun k0_t1 v2623 v2646 k0_hw940 k0_h4 => k0_hw940 k0_h4

def k0_chk941 (k0_t1 : Fin k0_t1_loop.trips) (v2623 : IVec S16 32) (v2648 : IVec S16 32) : Prop :=
  (∀ (k0_h4 : k0_cond4 k0_t1 = 1#1), ∀ a x, ((![v2623, v2648] : Fin 2 → IVec S16 32) a x).toNat < S512x16.size a)
theorem k0_idx941_inb : ∀ (k0_t1 : Fin k0_t1_loop.trips) (v2623 : IVec S16 32) (v2648 : IVec S16 32) (k0_hw941 : k0_chk941 k0_t1 v2623 v2648), ∀ (k0_h4 : k0_cond4 k0_t1 = 1#1), ∀ a x, ((![v2623, v2648] : Fin 2 → IVec S16 32) a x).toNat < S512x16.size a := fun k0_t1 v2623 v2648 k0_hw941 k0_h4 => k0_hw941 k0_h4

def k0_chk942 (k0_t1 : Fin k0_t1_loop.trips) (v2623 : IVec S16 32) (v2650 : IVec S16 32) : Prop :=
  (∀ (k0_h4 : k0_cond4 k0_t1 = 1#1), ∀ a x, ((![v2623, v2650] : Fin 2 → IVec S16 32) a x).toNat < S512x16.size a)
theorem k0_idx942_inb : ∀ (k0_t1 : Fin k0_t1_loop.trips) (v2623 : IVec S16 32) (v2650 : IVec S16 32) (k0_hw942 : k0_chk942 k0_t1 v2623 v2650), ∀ (k0_h4 : k0_cond4 k0_t1 = 1#1), ∀ a x, ((![v2623, v2650] : Fin 2 → IVec S16 32) a x).toNat < S512x16.size a := fun k0_t1 v2623 v2650 k0_hw942 k0_h4 => k0_hw942 k0_h4

def k0_chk943 (k0_t1 : Fin k0_t1_loop.trips) (v2623 : IVec S16 32) (v2652 : IVec S16 32) : Prop :=
  (∀ (k0_h4 : k0_cond4 k0_t1 = 1#1), ∀ a x, ((![v2623, v2652] : Fin 2 → IVec S16 32) a x).toNat < S512x16.size a)
theorem k0_idx943_inb : ∀ (k0_t1 : Fin k0_t1_loop.trips) (v2623 : IVec S16 32) (v2652 : IVec S16 32) (k0_hw943 : k0_chk943 k0_t1 v2623 v2652), ∀ (k0_h4 : k0_cond4 k0_t1 = 1#1), ∀ a x, ((![v2623, v2652] : Fin 2 → IVec S16 32) a x).toNat < S512x16.size a := fun k0_t1 v2623 v2652 k0_hw943 k0_h4 => k0_hw943 k0_h4

def k0_chk944 (k0_t1 : Fin k0_t1_loop.trips) (v2623 : IVec S16 32) (v2654 : IVec S16 32) : Prop :=
  (∀ (k0_h4 : k0_cond4 k0_t1 = 1#1), ∀ a x, ((![v2623, v2654] : Fin 2 → IVec S16 32) a x).toNat < S512x16.size a)
theorem k0_idx944_inb : ∀ (k0_t1 : Fin k0_t1_loop.trips) (v2623 : IVec S16 32) (v2654 : IVec S16 32) (k0_hw944 : k0_chk944 k0_t1 v2623 v2654), ∀ (k0_h4 : k0_cond4 k0_t1 = 1#1), ∀ a x, ((![v2623, v2654] : Fin 2 → IVec S16 32) a x).toNat < S512x16.size a := fun k0_t1 v2623 v2654 k0_hw944 k0_h4 => k0_hw944 k0_h4

def k0_chk945 (k0_t1 : Fin k0_t1_loop.trips) (v2722 : IVec S16 32) (v2723 : IVec S16 32) : Prop :=
  (∀ (k0_h4 : k0_cond4 k0_t1 = 1#1), ∀ a x, ((![v2722, v2723] : Fin 2 → IVec S16 32) a x).toNat < S512x16.size a)
theorem k0_idx945_inb : ∀ (k0_t1 : Fin k0_t1_loop.trips) (v2722 : IVec S16 32) (v2723 : IVec S16 32) (k0_hw945 : k0_chk945 k0_t1 v2722 v2723), ∀ (k0_h4 : k0_cond4 k0_t1 = 1#1), ∀ a x, ((![v2722, v2723] : Fin 2 → IVec S16 32) a x).toNat < S512x16.size a := fun k0_t1 v2722 v2723 k0_hw945 k0_h4 => k0_hw945 k0_h4

def k0_chk946 (k0_t1 : Fin k0_t1_loop.trips) (v2722 : IVec S16 32) (v2725 : IVec S16 32) : Prop :=
  (∀ (k0_h4 : k0_cond4 k0_t1 = 1#1), ∀ a x, ((![v2722, v2725] : Fin 2 → IVec S16 32) a x).toNat < S512x16.size a)
theorem k0_idx946_inb : ∀ (k0_t1 : Fin k0_t1_loop.trips) (v2722 : IVec S16 32) (v2725 : IVec S16 32) (k0_hw946 : k0_chk946 k0_t1 v2722 v2725), ∀ (k0_h4 : k0_cond4 k0_t1 = 1#1), ∀ a x, ((![v2722, v2725] : Fin 2 → IVec S16 32) a x).toNat < S512x16.size a := fun k0_t1 v2722 v2725 k0_hw946 k0_h4 => k0_hw946 k0_h4

def k0_chk947 (k0_t1 : Fin k0_t1_loop.trips) (v2722 : IVec S16 32) (v2727 : IVec S16 32) : Prop :=
  (∀ (k0_h4 : k0_cond4 k0_t1 = 1#1), ∀ a x, ((![v2722, v2727] : Fin 2 → IVec S16 32) a x).toNat < S512x16.size a)
theorem k0_idx947_inb : ∀ (k0_t1 : Fin k0_t1_loop.trips) (v2722 : IVec S16 32) (v2727 : IVec S16 32) (k0_hw947 : k0_chk947 k0_t1 v2722 v2727), ∀ (k0_h4 : k0_cond4 k0_t1 = 1#1), ∀ a x, ((![v2722, v2727] : Fin 2 → IVec S16 32) a x).toNat < S512x16.size a := fun k0_t1 v2722 v2727 k0_hw947 k0_h4 => k0_hw947 k0_h4

def k0_chk948 (k0_t1 : Fin k0_t1_loop.trips) (v2722 : IVec S16 32) (v2729 : IVec S16 32) : Prop :=
  (∀ (k0_h4 : k0_cond4 k0_t1 = 1#1), ∀ a x, ((![v2722, v2729] : Fin 2 → IVec S16 32) a x).toNat < S512x16.size a)
theorem k0_idx948_inb : ∀ (k0_t1 : Fin k0_t1_loop.trips) (v2722 : IVec S16 32) (v2729 : IVec S16 32) (k0_hw948 : k0_chk948 k0_t1 v2722 v2729), ∀ (k0_h4 : k0_cond4 k0_t1 = 1#1), ∀ a x, ((![v2722, v2729] : Fin 2 → IVec S16 32) a x).toNat < S512x16.size a := fun k0_t1 v2722 v2729 k0_hw948 k0_h4 => k0_hw948 k0_h4

def k0_chk949 (k0_t1 : Fin k0_t1_loop.trips) (v2722 : IVec S16 32) (v2731 : IVec S16 32) : Prop :=
  (∀ (k0_h4 : k0_cond4 k0_t1 = 1#1), ∀ a x, ((![v2722, v2731] : Fin 2 → IVec S16 32) a x).toNat < S512x16.size a)
theorem k0_idx949_inb : ∀ (k0_t1 : Fin k0_t1_loop.trips) (v2722 : IVec S16 32) (v2731 : IVec S16 32) (k0_hw949 : k0_chk949 k0_t1 v2722 v2731), ∀ (k0_h4 : k0_cond4 k0_t1 = 1#1), ∀ a x, ((![v2722, v2731] : Fin 2 → IVec S16 32) a x).toNat < S512x16.size a := fun k0_t1 v2722 v2731 k0_hw949 k0_h4 => k0_hw949 k0_h4

def k0_chk950 (k0_t1 : Fin k0_t1_loop.trips) (v2722 : IVec S16 32) (v2733 : IVec S16 32) : Prop :=
  (∀ (k0_h4 : k0_cond4 k0_t1 = 1#1), ∀ a x, ((![v2722, v2733] : Fin 2 → IVec S16 32) a x).toNat < S512x16.size a)
theorem k0_idx950_inb : ∀ (k0_t1 : Fin k0_t1_loop.trips) (v2722 : IVec S16 32) (v2733 : IVec S16 32) (k0_hw950 : k0_chk950 k0_t1 v2722 v2733), ∀ (k0_h4 : k0_cond4 k0_t1 = 1#1), ∀ a x, ((![v2722, v2733] : Fin 2 → IVec S16 32) a x).toNat < S512x16.size a := fun k0_t1 v2722 v2733 k0_hw950 k0_h4 => k0_hw950 k0_h4

def k0_chk951 (k0_t1 : Fin k0_t1_loop.trips) (v2722 : IVec S16 32) (v2735 : IVec S16 32) : Prop :=
  (∀ (k0_h4 : k0_cond4 k0_t1 = 1#1), ∀ a x, ((![v2722, v2735] : Fin 2 → IVec S16 32) a x).toNat < S512x16.size a)
theorem k0_idx951_inb : ∀ (k0_t1 : Fin k0_t1_loop.trips) (v2722 : IVec S16 32) (v2735 : IVec S16 32) (k0_hw951 : k0_chk951 k0_t1 v2722 v2735), ∀ (k0_h4 : k0_cond4 k0_t1 = 1#1), ∀ a x, ((![v2722, v2735] : Fin 2 → IVec S16 32) a x).toNat < S512x16.size a := fun k0_t1 v2722 v2735 k0_hw951 k0_h4 => k0_hw951 k0_h4

def k0_chk952 (k0_t1 : Fin k0_t1_loop.trips) (v2722 : IVec S16 32) (v2737 : IVec S16 32) : Prop :=
  (∀ (k0_h4 : k0_cond4 k0_t1 = 1#1), ∀ a x, ((![v2722, v2737] : Fin 2 → IVec S16 32) a x).toNat < S512x16.size a)
theorem k0_idx952_inb : ∀ (k0_t1 : Fin k0_t1_loop.trips) (v2722 : IVec S16 32) (v2737 : IVec S16 32) (k0_hw952 : k0_chk952 k0_t1 v2722 v2737), ∀ (k0_h4 : k0_cond4 k0_t1 = 1#1), ∀ a x, ((![v2722, v2737] : Fin 2 → IVec S16 32) a x).toNat < S512x16.size a := fun k0_t1 v2722 v2737 k0_hw952 k0_h4 => k0_hw952 k0_h4

def k0_chk953 (k0_t1 : Fin k0_t1_loop.trips) (v2722 : IVec S16 32) (v2739 : IVec S16 32) : Prop :=
  (∀ (k0_h4 : k0_cond4 k0_t1 = 1#1), ∀ a x, ((![v2722, v2739] : Fin 2 → IVec S16 32) a x).toNat < S512x16.size a)
theorem k0_idx953_inb : ∀ (k0_t1 : Fin k0_t1_loop.trips) (v2722 : IVec S16 32) (v2739 : IVec S16 32) (k0_hw953 : k0_chk953 k0_t1 v2722 v2739), ∀ (k0_h4 : k0_cond4 k0_t1 = 1#1), ∀ a x, ((![v2722, v2739] : Fin 2 → IVec S16 32) a x).toNat < S512x16.size a := fun k0_t1 v2722 v2739 k0_hw953 k0_h4 => k0_hw953 k0_h4

def k0_chk954 (k0_t1 : Fin k0_t1_loop.trips) (v2722 : IVec S16 32) (v2741 : IVec S16 32) : Prop :=
  (∀ (k0_h4 : k0_cond4 k0_t1 = 1#1), ∀ a x, ((![v2722, v2741] : Fin 2 → IVec S16 32) a x).toNat < S512x16.size a)
theorem k0_idx954_inb : ∀ (k0_t1 : Fin k0_t1_loop.trips) (v2722 : IVec S16 32) (v2741 : IVec S16 32) (k0_hw954 : k0_chk954 k0_t1 v2722 v2741), ∀ (k0_h4 : k0_cond4 k0_t1 = 1#1), ∀ a x, ((![v2722, v2741] : Fin 2 → IVec S16 32) a x).toNat < S512x16.size a := fun k0_t1 v2722 v2741 k0_hw954 k0_h4 => k0_hw954 k0_h4

def k0_chk955 (k0_t1 : Fin k0_t1_loop.trips) (v2722 : IVec S16 32) (v2743 : IVec S16 32) : Prop :=
  (∀ (k0_h4 : k0_cond4 k0_t1 = 1#1), ∀ a x, ((![v2722, v2743] : Fin 2 → IVec S16 32) a x).toNat < S512x16.size a)
theorem k0_idx955_inb : ∀ (k0_t1 : Fin k0_t1_loop.trips) (v2722 : IVec S16 32) (v2743 : IVec S16 32) (k0_hw955 : k0_chk955 k0_t1 v2722 v2743), ∀ (k0_h4 : k0_cond4 k0_t1 = 1#1), ∀ a x, ((![v2722, v2743] : Fin 2 → IVec S16 32) a x).toNat < S512x16.size a := fun k0_t1 v2722 v2743 k0_hw955 k0_h4 => k0_hw955 k0_h4

def k0_chk956 (k0_t1 : Fin k0_t1_loop.trips) (v2722 : IVec S16 32) (v2745 : IVec S16 32) : Prop :=
  (∀ (k0_h4 : k0_cond4 k0_t1 = 1#1), ∀ a x, ((![v2722, v2745] : Fin 2 → IVec S16 32) a x).toNat < S512x16.size a)
theorem k0_idx956_inb : ∀ (k0_t1 : Fin k0_t1_loop.trips) (v2722 : IVec S16 32) (v2745 : IVec S16 32) (k0_hw956 : k0_chk956 k0_t1 v2722 v2745), ∀ (k0_h4 : k0_cond4 k0_t1 = 1#1), ∀ a x, ((![v2722, v2745] : Fin 2 → IVec S16 32) a x).toNat < S512x16.size a := fun k0_t1 v2722 v2745 k0_hw956 k0_h4 => k0_hw956 k0_h4

def k0_chk957 (k0_t1 : Fin k0_t1_loop.trips) (v2722 : IVec S16 32) (v2747 : IVec S16 32) : Prop :=
  (∀ (k0_h4 : k0_cond4 k0_t1 = 1#1), ∀ a x, ((![v2722, v2747] : Fin 2 → IVec S16 32) a x).toNat < S512x16.size a)
theorem k0_idx957_inb : ∀ (k0_t1 : Fin k0_t1_loop.trips) (v2722 : IVec S16 32) (v2747 : IVec S16 32) (k0_hw957 : k0_chk957 k0_t1 v2722 v2747), ∀ (k0_h4 : k0_cond4 k0_t1 = 1#1), ∀ a x, ((![v2722, v2747] : Fin 2 → IVec S16 32) a x).toNat < S512x16.size a := fun k0_t1 v2722 v2747 k0_hw957 k0_h4 => k0_hw957 k0_h4

def k0_chk958 (k0_t1 : Fin k0_t1_loop.trips) (v2722 : IVec S16 32) (v2749 : IVec S16 32) : Prop :=
  (∀ (k0_h4 : k0_cond4 k0_t1 = 1#1), ∀ a x, ((![v2722, v2749] : Fin 2 → IVec S16 32) a x).toNat < S512x16.size a)
theorem k0_idx958_inb : ∀ (k0_t1 : Fin k0_t1_loop.trips) (v2722 : IVec S16 32) (v2749 : IVec S16 32) (k0_hw958 : k0_chk958 k0_t1 v2722 v2749), ∀ (k0_h4 : k0_cond4 k0_t1 = 1#1), ∀ a x, ((![v2722, v2749] : Fin 2 → IVec S16 32) a x).toNat < S512x16.size a := fun k0_t1 v2722 v2749 k0_hw958 k0_h4 => k0_hw958 k0_h4

def k0_chk959 (k0_t1 : Fin k0_t1_loop.trips) (v2722 : IVec S16 32) (v2751 : IVec S16 32) : Prop :=
  (∀ (k0_h4 : k0_cond4 k0_t1 = 1#1), ∀ a x, ((![v2722, v2751] : Fin 2 → IVec S16 32) a x).toNat < S512x16.size a)
theorem k0_idx959_inb : ∀ (k0_t1 : Fin k0_t1_loop.trips) (v2722 : IVec S16 32) (v2751 : IVec S16 32) (k0_hw959 : k0_chk959 k0_t1 v2722 v2751), ∀ (k0_h4 : k0_cond4 k0_t1 = 1#1), ∀ a x, ((![v2722, v2751] : Fin 2 → IVec S16 32) a x).toNat < S512x16.size a := fun k0_t1 v2722 v2751 k0_hw959 k0_h4 => k0_hw959 k0_h4

def k0_chk960 (k0_t1 : Fin k0_t1_loop.trips) (v2722 : IVec S16 32) (v2753 : IVec S16 32) : Prop :=
  (∀ (k0_h4 : k0_cond4 k0_t1 = 1#1), ∀ a x, ((![v2722, v2753] : Fin 2 → IVec S16 32) a x).toNat < S512x16.size a)
theorem k0_idx960_inb : ∀ (k0_t1 : Fin k0_t1_loop.trips) (v2722 : IVec S16 32) (v2753 : IVec S16 32) (k0_hw960 : k0_chk960 k0_t1 v2722 v2753), ∀ (k0_h4 : k0_cond4 k0_t1 = 1#1), ∀ a x, ((![v2722, v2753] : Fin 2 → IVec S16 32) a x).toNat < S512x16.size a := fun k0_t1 v2722 v2753 k0_hw960 k0_h4 => k0_hw960 k0_h4

def k0_chk961 (k0_t1 : Fin k0_t1_loop.trips) (v2821 : IVec S16 32) (v2822 : IVec S16 32) : Prop :=
  (∀ (k0_h4 : k0_cond4 k0_t1 = 1#1), ∀ a x, ((![v2821, v2822] : Fin 2 → IVec S16 32) a x).toNat < S512x16.size a)
theorem k0_idx961_inb : ∀ (k0_t1 : Fin k0_t1_loop.trips) (v2821 : IVec S16 32) (v2822 : IVec S16 32) (k0_hw961 : k0_chk961 k0_t1 v2821 v2822), ∀ (k0_h4 : k0_cond4 k0_t1 = 1#1), ∀ a x, ((![v2821, v2822] : Fin 2 → IVec S16 32) a x).toNat < S512x16.size a := fun k0_t1 v2821 v2822 k0_hw961 k0_h4 => k0_hw961 k0_h4

def k0_chk962 (k0_t1 : Fin k0_t1_loop.trips) (v2821 : IVec S16 32) (v2824 : IVec S16 32) : Prop :=
  (∀ (k0_h4 : k0_cond4 k0_t1 = 1#1), ∀ a x, ((![v2821, v2824] : Fin 2 → IVec S16 32) a x).toNat < S512x16.size a)
theorem k0_idx962_inb : ∀ (k0_t1 : Fin k0_t1_loop.trips) (v2821 : IVec S16 32) (v2824 : IVec S16 32) (k0_hw962 : k0_chk962 k0_t1 v2821 v2824), ∀ (k0_h4 : k0_cond4 k0_t1 = 1#1), ∀ a x, ((![v2821, v2824] : Fin 2 → IVec S16 32) a x).toNat < S512x16.size a := fun k0_t1 v2821 v2824 k0_hw962 k0_h4 => k0_hw962 k0_h4

def k0_chk963 (k0_t1 : Fin k0_t1_loop.trips) (v2821 : IVec S16 32) (v2826 : IVec S16 32) : Prop :=
  (∀ (k0_h4 : k0_cond4 k0_t1 = 1#1), ∀ a x, ((![v2821, v2826] : Fin 2 → IVec S16 32) a x).toNat < S512x16.size a)
theorem k0_idx963_inb : ∀ (k0_t1 : Fin k0_t1_loop.trips) (v2821 : IVec S16 32) (v2826 : IVec S16 32) (k0_hw963 : k0_chk963 k0_t1 v2821 v2826), ∀ (k0_h4 : k0_cond4 k0_t1 = 1#1), ∀ a x, ((![v2821, v2826] : Fin 2 → IVec S16 32) a x).toNat < S512x16.size a := fun k0_t1 v2821 v2826 k0_hw963 k0_h4 => k0_hw963 k0_h4

def k0_chk964 (k0_t1 : Fin k0_t1_loop.trips) (v2821 : IVec S16 32) (v2828 : IVec S16 32) : Prop :=
  (∀ (k0_h4 : k0_cond4 k0_t1 = 1#1), ∀ a x, ((![v2821, v2828] : Fin 2 → IVec S16 32) a x).toNat < S512x16.size a)
theorem k0_idx964_inb : ∀ (k0_t1 : Fin k0_t1_loop.trips) (v2821 : IVec S16 32) (v2828 : IVec S16 32) (k0_hw964 : k0_chk964 k0_t1 v2821 v2828), ∀ (k0_h4 : k0_cond4 k0_t1 = 1#1), ∀ a x, ((![v2821, v2828] : Fin 2 → IVec S16 32) a x).toNat < S512x16.size a := fun k0_t1 v2821 v2828 k0_hw964 k0_h4 => k0_hw964 k0_h4

def k0_chk965 (k0_t1 : Fin k0_t1_loop.trips) (v2821 : IVec S16 32) (v2830 : IVec S16 32) : Prop :=
  (∀ (k0_h4 : k0_cond4 k0_t1 = 1#1), ∀ a x, ((![v2821, v2830] : Fin 2 → IVec S16 32) a x).toNat < S512x16.size a)
theorem k0_idx965_inb : ∀ (k0_t1 : Fin k0_t1_loop.trips) (v2821 : IVec S16 32) (v2830 : IVec S16 32) (k0_hw965 : k0_chk965 k0_t1 v2821 v2830), ∀ (k0_h4 : k0_cond4 k0_t1 = 1#1), ∀ a x, ((![v2821, v2830] : Fin 2 → IVec S16 32) a x).toNat < S512x16.size a := fun k0_t1 v2821 v2830 k0_hw965 k0_h4 => k0_hw965 k0_h4

def k0_chk966 (k0_t1 : Fin k0_t1_loop.trips) (v2821 : IVec S16 32) (v2832 : IVec S16 32) : Prop :=
  (∀ (k0_h4 : k0_cond4 k0_t1 = 1#1), ∀ a x, ((![v2821, v2832] : Fin 2 → IVec S16 32) a x).toNat < S512x16.size a)
theorem k0_idx966_inb : ∀ (k0_t1 : Fin k0_t1_loop.trips) (v2821 : IVec S16 32) (v2832 : IVec S16 32) (k0_hw966 : k0_chk966 k0_t1 v2821 v2832), ∀ (k0_h4 : k0_cond4 k0_t1 = 1#1), ∀ a x, ((![v2821, v2832] : Fin 2 → IVec S16 32) a x).toNat < S512x16.size a := fun k0_t1 v2821 v2832 k0_hw966 k0_h4 => k0_hw966 k0_h4

def k0_chk967 (k0_t1 : Fin k0_t1_loop.trips) (v2821 : IVec S16 32) (v2834 : IVec S16 32) : Prop :=
  (∀ (k0_h4 : k0_cond4 k0_t1 = 1#1), ∀ a x, ((![v2821, v2834] : Fin 2 → IVec S16 32) a x).toNat < S512x16.size a)
theorem k0_idx967_inb : ∀ (k0_t1 : Fin k0_t1_loop.trips) (v2821 : IVec S16 32) (v2834 : IVec S16 32) (k0_hw967 : k0_chk967 k0_t1 v2821 v2834), ∀ (k0_h4 : k0_cond4 k0_t1 = 1#1), ∀ a x, ((![v2821, v2834] : Fin 2 → IVec S16 32) a x).toNat < S512x16.size a := fun k0_t1 v2821 v2834 k0_hw967 k0_h4 => k0_hw967 k0_h4

def k0_chk968 (k0_t1 : Fin k0_t1_loop.trips) (v2821 : IVec S16 32) (v2836 : IVec S16 32) : Prop :=
  (∀ (k0_h4 : k0_cond4 k0_t1 = 1#1), ∀ a x, ((![v2821, v2836] : Fin 2 → IVec S16 32) a x).toNat < S512x16.size a)
theorem k0_idx968_inb : ∀ (k0_t1 : Fin k0_t1_loop.trips) (v2821 : IVec S16 32) (v2836 : IVec S16 32) (k0_hw968 : k0_chk968 k0_t1 v2821 v2836), ∀ (k0_h4 : k0_cond4 k0_t1 = 1#1), ∀ a x, ((![v2821, v2836] : Fin 2 → IVec S16 32) a x).toNat < S512x16.size a := fun k0_t1 v2821 v2836 k0_hw968 k0_h4 => k0_hw968 k0_h4

def k0_chk969 (k0_t1 : Fin k0_t1_loop.trips) (v2821 : IVec S16 32) (v2838 : IVec S16 32) : Prop :=
  (∀ (k0_h4 : k0_cond4 k0_t1 = 1#1), ∀ a x, ((![v2821, v2838] : Fin 2 → IVec S16 32) a x).toNat < S512x16.size a)
theorem k0_idx969_inb : ∀ (k0_t1 : Fin k0_t1_loop.trips) (v2821 : IVec S16 32) (v2838 : IVec S16 32) (k0_hw969 : k0_chk969 k0_t1 v2821 v2838), ∀ (k0_h4 : k0_cond4 k0_t1 = 1#1), ∀ a x, ((![v2821, v2838] : Fin 2 → IVec S16 32) a x).toNat < S512x16.size a := fun k0_t1 v2821 v2838 k0_hw969 k0_h4 => k0_hw969 k0_h4

def k0_chk970 (k0_t1 : Fin k0_t1_loop.trips) (v2821 : IVec S16 32) (v2840 : IVec S16 32) : Prop :=
  (∀ (k0_h4 : k0_cond4 k0_t1 = 1#1), ∀ a x, ((![v2821, v2840] : Fin 2 → IVec S16 32) a x).toNat < S512x16.size a)
theorem k0_idx970_inb : ∀ (k0_t1 : Fin k0_t1_loop.trips) (v2821 : IVec S16 32) (v2840 : IVec S16 32) (k0_hw970 : k0_chk970 k0_t1 v2821 v2840), ∀ (k0_h4 : k0_cond4 k0_t1 = 1#1), ∀ a x, ((![v2821, v2840] : Fin 2 → IVec S16 32) a x).toNat < S512x16.size a := fun k0_t1 v2821 v2840 k0_hw970 k0_h4 => k0_hw970 k0_h4

def k0_chk971 (k0_t1 : Fin k0_t1_loop.trips) (v2821 : IVec S16 32) (v2842 : IVec S16 32) : Prop :=
  (∀ (k0_h4 : k0_cond4 k0_t1 = 1#1), ∀ a x, ((![v2821, v2842] : Fin 2 → IVec S16 32) a x).toNat < S512x16.size a)
theorem k0_idx971_inb : ∀ (k0_t1 : Fin k0_t1_loop.trips) (v2821 : IVec S16 32) (v2842 : IVec S16 32) (k0_hw971 : k0_chk971 k0_t1 v2821 v2842), ∀ (k0_h4 : k0_cond4 k0_t1 = 1#1), ∀ a x, ((![v2821, v2842] : Fin 2 → IVec S16 32) a x).toNat < S512x16.size a := fun k0_t1 v2821 v2842 k0_hw971 k0_h4 => k0_hw971 k0_h4

def k0_chk972 (k0_t1 : Fin k0_t1_loop.trips) (v2821 : IVec S16 32) (v2844 : IVec S16 32) : Prop :=
  (∀ (k0_h4 : k0_cond4 k0_t1 = 1#1), ∀ a x, ((![v2821, v2844] : Fin 2 → IVec S16 32) a x).toNat < S512x16.size a)
theorem k0_idx972_inb : ∀ (k0_t1 : Fin k0_t1_loop.trips) (v2821 : IVec S16 32) (v2844 : IVec S16 32) (k0_hw972 : k0_chk972 k0_t1 v2821 v2844), ∀ (k0_h4 : k0_cond4 k0_t1 = 1#1), ∀ a x, ((![v2821, v2844] : Fin 2 → IVec S16 32) a x).toNat < S512x16.size a := fun k0_t1 v2821 v2844 k0_hw972 k0_h4 => k0_hw972 k0_h4

def k0_chk973 (k0_t1 : Fin k0_t1_loop.trips) (v2821 : IVec S16 32) (v2846 : IVec S16 32) : Prop :=
  (∀ (k0_h4 : k0_cond4 k0_t1 = 1#1), ∀ a x, ((![v2821, v2846] : Fin 2 → IVec S16 32) a x).toNat < S512x16.size a)
theorem k0_idx973_inb : ∀ (k0_t1 : Fin k0_t1_loop.trips) (v2821 : IVec S16 32) (v2846 : IVec S16 32) (k0_hw973 : k0_chk973 k0_t1 v2821 v2846), ∀ (k0_h4 : k0_cond4 k0_t1 = 1#1), ∀ a x, ((![v2821, v2846] : Fin 2 → IVec S16 32) a x).toNat < S512x16.size a := fun k0_t1 v2821 v2846 k0_hw973 k0_h4 => k0_hw973 k0_h4

def k0_chk974 (k0_t1 : Fin k0_t1_loop.trips) (v2821 : IVec S16 32) (v2848 : IVec S16 32) : Prop :=
  (∀ (k0_h4 : k0_cond4 k0_t1 = 1#1), ∀ a x, ((![v2821, v2848] : Fin 2 → IVec S16 32) a x).toNat < S512x16.size a)
theorem k0_idx974_inb : ∀ (k0_t1 : Fin k0_t1_loop.trips) (v2821 : IVec S16 32) (v2848 : IVec S16 32) (k0_hw974 : k0_chk974 k0_t1 v2821 v2848), ∀ (k0_h4 : k0_cond4 k0_t1 = 1#1), ∀ a x, ((![v2821, v2848] : Fin 2 → IVec S16 32) a x).toNat < S512x16.size a := fun k0_t1 v2821 v2848 k0_hw974 k0_h4 => k0_hw974 k0_h4

def k0_chk975 (k0_t1 : Fin k0_t1_loop.trips) (v2821 : IVec S16 32) (v2850 : IVec S16 32) : Prop :=
  (∀ (k0_h4 : k0_cond4 k0_t1 = 1#1), ∀ a x, ((![v2821, v2850] : Fin 2 → IVec S16 32) a x).toNat < S512x16.size a)
theorem k0_idx975_inb : ∀ (k0_t1 : Fin k0_t1_loop.trips) (v2821 : IVec S16 32) (v2850 : IVec S16 32) (k0_hw975 : k0_chk975 k0_t1 v2821 v2850), ∀ (k0_h4 : k0_cond4 k0_t1 = 1#1), ∀ a x, ((![v2821, v2850] : Fin 2 → IVec S16 32) a x).toNat < S512x16.size a := fun k0_t1 v2821 v2850 k0_hw975 k0_h4 => k0_hw975 k0_h4

def k0_chk976 (k0_t1 : Fin k0_t1_loop.trips) (v2821 : IVec S16 32) (v2852 : IVec S16 32) : Prop :=
  (∀ (k0_h4 : k0_cond4 k0_t1 = 1#1), ∀ a x, ((![v2821, v2852] : Fin 2 → IVec S16 32) a x).toNat < S512x16.size a)
theorem k0_idx976_inb : ∀ (k0_t1 : Fin k0_t1_loop.trips) (v2821 : IVec S16 32) (v2852 : IVec S16 32) (k0_hw976 : k0_chk976 k0_t1 v2821 v2852), ∀ (k0_h4 : k0_cond4 k0_t1 = 1#1), ∀ a x, ((![v2821, v2852] : Fin 2 → IVec S16 32) a x).toNat < S512x16.size a := fun k0_t1 v2821 v2852 k0_hw976 k0_h4 => k0_hw976 k0_h4

def k0_chk977 (k0_t1 : Fin k0_t1_loop.trips) (v2920 : IVec S16 32) (v2921 : IVec S16 32) : Prop :=
  (∀ (k0_h4 : k0_cond4 k0_t1 = 1#1), ∀ a x, ((![v2920, v2921] : Fin 2 → IVec S16 32) a x).toNat < S512x16.size a)
theorem k0_idx977_inb : ∀ (k0_t1 : Fin k0_t1_loop.trips) (v2920 : IVec S16 32) (v2921 : IVec S16 32) (k0_hw977 : k0_chk977 k0_t1 v2920 v2921), ∀ (k0_h4 : k0_cond4 k0_t1 = 1#1), ∀ a x, ((![v2920, v2921] : Fin 2 → IVec S16 32) a x).toNat < S512x16.size a := fun k0_t1 v2920 v2921 k0_hw977 k0_h4 => k0_hw977 k0_h4

def k0_chk978 (k0_t1 : Fin k0_t1_loop.trips) (v2920 : IVec S16 32) (v2923 : IVec S16 32) : Prop :=
  (∀ (k0_h4 : k0_cond4 k0_t1 = 1#1), ∀ a x, ((![v2920, v2923] : Fin 2 → IVec S16 32) a x).toNat < S512x16.size a)
theorem k0_idx978_inb : ∀ (k0_t1 : Fin k0_t1_loop.trips) (v2920 : IVec S16 32) (v2923 : IVec S16 32) (k0_hw978 : k0_chk978 k0_t1 v2920 v2923), ∀ (k0_h4 : k0_cond4 k0_t1 = 1#1), ∀ a x, ((![v2920, v2923] : Fin 2 → IVec S16 32) a x).toNat < S512x16.size a := fun k0_t1 v2920 v2923 k0_hw978 k0_h4 => k0_hw978 k0_h4

def k0_chk979 (k0_t1 : Fin k0_t1_loop.trips) (v2920 : IVec S16 32) (v2925 : IVec S16 32) : Prop :=
  (∀ (k0_h4 : k0_cond4 k0_t1 = 1#1), ∀ a x, ((![v2920, v2925] : Fin 2 → IVec S16 32) a x).toNat < S512x16.size a)
theorem k0_idx979_inb : ∀ (k0_t1 : Fin k0_t1_loop.trips) (v2920 : IVec S16 32) (v2925 : IVec S16 32) (k0_hw979 : k0_chk979 k0_t1 v2920 v2925), ∀ (k0_h4 : k0_cond4 k0_t1 = 1#1), ∀ a x, ((![v2920, v2925] : Fin 2 → IVec S16 32) a x).toNat < S512x16.size a := fun k0_t1 v2920 v2925 k0_hw979 k0_h4 => k0_hw979 k0_h4

def k0_chk980 (k0_t1 : Fin k0_t1_loop.trips) (v2920 : IVec S16 32) (v2927 : IVec S16 32) : Prop :=
  (∀ (k0_h4 : k0_cond4 k0_t1 = 1#1), ∀ a x, ((![v2920, v2927] : Fin 2 → IVec S16 32) a x).toNat < S512x16.size a)
theorem k0_idx980_inb : ∀ (k0_t1 : Fin k0_t1_loop.trips) (v2920 : IVec S16 32) (v2927 : IVec S16 32) (k0_hw980 : k0_chk980 k0_t1 v2920 v2927), ∀ (k0_h4 : k0_cond4 k0_t1 = 1#1), ∀ a x, ((![v2920, v2927] : Fin 2 → IVec S16 32) a x).toNat < S512x16.size a := fun k0_t1 v2920 v2927 k0_hw980 k0_h4 => k0_hw980 k0_h4

def k0_chk981 (k0_t1 : Fin k0_t1_loop.trips) (v2920 : IVec S16 32) (v2929 : IVec S16 32) : Prop :=
  (∀ (k0_h4 : k0_cond4 k0_t1 = 1#1), ∀ a x, ((![v2920, v2929] : Fin 2 → IVec S16 32) a x).toNat < S512x16.size a)
theorem k0_idx981_inb : ∀ (k0_t1 : Fin k0_t1_loop.trips) (v2920 : IVec S16 32) (v2929 : IVec S16 32) (k0_hw981 : k0_chk981 k0_t1 v2920 v2929), ∀ (k0_h4 : k0_cond4 k0_t1 = 1#1), ∀ a x, ((![v2920, v2929] : Fin 2 → IVec S16 32) a x).toNat < S512x16.size a := fun k0_t1 v2920 v2929 k0_hw981 k0_h4 => k0_hw981 k0_h4

def k0_chk982 (k0_t1 : Fin k0_t1_loop.trips) (v2920 : IVec S16 32) (v2931 : IVec S16 32) : Prop :=
  (∀ (k0_h4 : k0_cond4 k0_t1 = 1#1), ∀ a x, ((![v2920, v2931] : Fin 2 → IVec S16 32) a x).toNat < S512x16.size a)
theorem k0_idx982_inb : ∀ (k0_t1 : Fin k0_t1_loop.trips) (v2920 : IVec S16 32) (v2931 : IVec S16 32) (k0_hw982 : k0_chk982 k0_t1 v2920 v2931), ∀ (k0_h4 : k0_cond4 k0_t1 = 1#1), ∀ a x, ((![v2920, v2931] : Fin 2 → IVec S16 32) a x).toNat < S512x16.size a := fun k0_t1 v2920 v2931 k0_hw982 k0_h4 => k0_hw982 k0_h4

def k0_chk983 (k0_t1 : Fin k0_t1_loop.trips) (v2920 : IVec S16 32) (v2933 : IVec S16 32) : Prop :=
  (∀ (k0_h4 : k0_cond4 k0_t1 = 1#1), ∀ a x, ((![v2920, v2933] : Fin 2 → IVec S16 32) a x).toNat < S512x16.size a)
theorem k0_idx983_inb : ∀ (k0_t1 : Fin k0_t1_loop.trips) (v2920 : IVec S16 32) (v2933 : IVec S16 32) (k0_hw983 : k0_chk983 k0_t1 v2920 v2933), ∀ (k0_h4 : k0_cond4 k0_t1 = 1#1), ∀ a x, ((![v2920, v2933] : Fin 2 → IVec S16 32) a x).toNat < S512x16.size a := fun k0_t1 v2920 v2933 k0_hw983 k0_h4 => k0_hw983 k0_h4

def k0_chk984 (k0_t1 : Fin k0_t1_loop.trips) (v2920 : IVec S16 32) (v2935 : IVec S16 32) : Prop :=
  (∀ (k0_h4 : k0_cond4 k0_t1 = 1#1), ∀ a x, ((![v2920, v2935] : Fin 2 → IVec S16 32) a x).toNat < S512x16.size a)
theorem k0_idx984_inb : ∀ (k0_t1 : Fin k0_t1_loop.trips) (v2920 : IVec S16 32) (v2935 : IVec S16 32) (k0_hw984 : k0_chk984 k0_t1 v2920 v2935), ∀ (k0_h4 : k0_cond4 k0_t1 = 1#1), ∀ a x, ((![v2920, v2935] : Fin 2 → IVec S16 32) a x).toNat < S512x16.size a := fun k0_t1 v2920 v2935 k0_hw984 k0_h4 => k0_hw984 k0_h4

def k0_chk985 (k0_t1 : Fin k0_t1_loop.trips) (v2920 : IVec S16 32) (v2937 : IVec S16 32) : Prop :=
  (∀ (k0_h4 : k0_cond4 k0_t1 = 1#1), ∀ a x, ((![v2920, v2937] : Fin 2 → IVec S16 32) a x).toNat < S512x16.size a)
theorem k0_idx985_inb : ∀ (k0_t1 : Fin k0_t1_loop.trips) (v2920 : IVec S16 32) (v2937 : IVec S16 32) (k0_hw985 : k0_chk985 k0_t1 v2920 v2937), ∀ (k0_h4 : k0_cond4 k0_t1 = 1#1), ∀ a x, ((![v2920, v2937] : Fin 2 → IVec S16 32) a x).toNat < S512x16.size a := fun k0_t1 v2920 v2937 k0_hw985 k0_h4 => k0_hw985 k0_h4

def k0_chk986 (k0_t1 : Fin k0_t1_loop.trips) (v2920 : IVec S16 32) (v2939 : IVec S16 32) : Prop :=
  (∀ (k0_h4 : k0_cond4 k0_t1 = 1#1), ∀ a x, ((![v2920, v2939] : Fin 2 → IVec S16 32) a x).toNat < S512x16.size a)
theorem k0_idx986_inb : ∀ (k0_t1 : Fin k0_t1_loop.trips) (v2920 : IVec S16 32) (v2939 : IVec S16 32) (k0_hw986 : k0_chk986 k0_t1 v2920 v2939), ∀ (k0_h4 : k0_cond4 k0_t1 = 1#1), ∀ a x, ((![v2920, v2939] : Fin 2 → IVec S16 32) a x).toNat < S512x16.size a := fun k0_t1 v2920 v2939 k0_hw986 k0_h4 => k0_hw986 k0_h4

def k0_chk987 (k0_t1 : Fin k0_t1_loop.trips) (v2920 : IVec S16 32) (v2941 : IVec S16 32) : Prop :=
  (∀ (k0_h4 : k0_cond4 k0_t1 = 1#1), ∀ a x, ((![v2920, v2941] : Fin 2 → IVec S16 32) a x).toNat < S512x16.size a)
theorem k0_idx987_inb : ∀ (k0_t1 : Fin k0_t1_loop.trips) (v2920 : IVec S16 32) (v2941 : IVec S16 32) (k0_hw987 : k0_chk987 k0_t1 v2920 v2941), ∀ (k0_h4 : k0_cond4 k0_t1 = 1#1), ∀ a x, ((![v2920, v2941] : Fin 2 → IVec S16 32) a x).toNat < S512x16.size a := fun k0_t1 v2920 v2941 k0_hw987 k0_h4 => k0_hw987 k0_h4

def k0_chk988 (k0_t1 : Fin k0_t1_loop.trips) (v2920 : IVec S16 32) (v2943 : IVec S16 32) : Prop :=
  (∀ (k0_h4 : k0_cond4 k0_t1 = 1#1), ∀ a x, ((![v2920, v2943] : Fin 2 → IVec S16 32) a x).toNat < S512x16.size a)
theorem k0_idx988_inb : ∀ (k0_t1 : Fin k0_t1_loop.trips) (v2920 : IVec S16 32) (v2943 : IVec S16 32) (k0_hw988 : k0_chk988 k0_t1 v2920 v2943), ∀ (k0_h4 : k0_cond4 k0_t1 = 1#1), ∀ a x, ((![v2920, v2943] : Fin 2 → IVec S16 32) a x).toNat < S512x16.size a := fun k0_t1 v2920 v2943 k0_hw988 k0_h4 => k0_hw988 k0_h4

def k0_chk989 (k0_t1 : Fin k0_t1_loop.trips) (v2920 : IVec S16 32) (v2945 : IVec S16 32) : Prop :=
  (∀ (k0_h4 : k0_cond4 k0_t1 = 1#1), ∀ a x, ((![v2920, v2945] : Fin 2 → IVec S16 32) a x).toNat < S512x16.size a)
theorem k0_idx989_inb : ∀ (k0_t1 : Fin k0_t1_loop.trips) (v2920 : IVec S16 32) (v2945 : IVec S16 32) (k0_hw989 : k0_chk989 k0_t1 v2920 v2945), ∀ (k0_h4 : k0_cond4 k0_t1 = 1#1), ∀ a x, ((![v2920, v2945] : Fin 2 → IVec S16 32) a x).toNat < S512x16.size a := fun k0_t1 v2920 v2945 k0_hw989 k0_h4 => k0_hw989 k0_h4

def k0_chk990 (k0_t1 : Fin k0_t1_loop.trips) (v2920 : IVec S16 32) (v2947 : IVec S16 32) : Prop :=
  (∀ (k0_h4 : k0_cond4 k0_t1 = 1#1), ∀ a x, ((![v2920, v2947] : Fin 2 → IVec S16 32) a x).toNat < S512x16.size a)
theorem k0_idx990_inb : ∀ (k0_t1 : Fin k0_t1_loop.trips) (v2920 : IVec S16 32) (v2947 : IVec S16 32) (k0_hw990 : k0_chk990 k0_t1 v2920 v2947), ∀ (k0_h4 : k0_cond4 k0_t1 = 1#1), ∀ a x, ((![v2920, v2947] : Fin 2 → IVec S16 32) a x).toNat < S512x16.size a := fun k0_t1 v2920 v2947 k0_hw990 k0_h4 => k0_hw990 k0_h4

def k0_chk991 (k0_t1 : Fin k0_t1_loop.trips) (v2920 : IVec S16 32) (v2949 : IVec S16 32) : Prop :=
  (∀ (k0_h4 : k0_cond4 k0_t1 = 1#1), ∀ a x, ((![v2920, v2949] : Fin 2 → IVec S16 32) a x).toNat < S512x16.size a)
theorem k0_idx991_inb : ∀ (k0_t1 : Fin k0_t1_loop.trips) (v2920 : IVec S16 32) (v2949 : IVec S16 32) (k0_hw991 : k0_chk991 k0_t1 v2920 v2949), ∀ (k0_h4 : k0_cond4 k0_t1 = 1#1), ∀ a x, ((![v2920, v2949] : Fin 2 → IVec S16 32) a x).toNat < S512x16.size a := fun k0_t1 v2920 v2949 k0_hw991 k0_h4 => k0_hw991 k0_h4

def k0_chk992 (k0_t1 : Fin k0_t1_loop.trips) (v2920 : IVec S16 32) (v2951 : IVec S16 32) : Prop :=
  (∀ (k0_h4 : k0_cond4 k0_t1 = 1#1), ∀ a x, ((![v2920, v2951] : Fin 2 → IVec S16 32) a x).toNat < S512x16.size a)
theorem k0_idx992_inb : ∀ (k0_t1 : Fin k0_t1_loop.trips) (v2920 : IVec S16 32) (v2951 : IVec S16 32) (k0_hw992 : k0_chk992 k0_t1 v2920 v2951), ∀ (k0_h4 : k0_cond4 k0_t1 = 1#1), ∀ a x, ((![v2920, v2951] : Fin 2 → IVec S16 32) a x).toNat < S512x16.size a := fun k0_t1 v2920 v2951 k0_hw992 k0_h4 => k0_hw992 k0_h4

def k0_chk993 (k0_t1 : Fin k0_t1_loop.trips) (v3019 : IVec S16 32) (v3020 : IVec S16 32) : Prop :=
  (∀ (k0_h4 : k0_cond4 k0_t1 = 1#1), ∀ a x, ((![v3019, v3020] : Fin 2 → IVec S16 32) a x).toNat < S512x16.size a)
theorem k0_idx993_inb : ∀ (k0_t1 : Fin k0_t1_loop.trips) (v3019 : IVec S16 32) (v3020 : IVec S16 32) (k0_hw993 : k0_chk993 k0_t1 v3019 v3020), ∀ (k0_h4 : k0_cond4 k0_t1 = 1#1), ∀ a x, ((![v3019, v3020] : Fin 2 → IVec S16 32) a x).toNat < S512x16.size a := fun k0_t1 v3019 v3020 k0_hw993 k0_h4 => k0_hw993 k0_h4

def k0_chk994 (k0_t1 : Fin k0_t1_loop.trips) (v3019 : IVec S16 32) (v3022 : IVec S16 32) : Prop :=
  (∀ (k0_h4 : k0_cond4 k0_t1 = 1#1), ∀ a x, ((![v3019, v3022] : Fin 2 → IVec S16 32) a x).toNat < S512x16.size a)
theorem k0_idx994_inb : ∀ (k0_t1 : Fin k0_t1_loop.trips) (v3019 : IVec S16 32) (v3022 : IVec S16 32) (k0_hw994 : k0_chk994 k0_t1 v3019 v3022), ∀ (k0_h4 : k0_cond4 k0_t1 = 1#1), ∀ a x, ((![v3019, v3022] : Fin 2 → IVec S16 32) a x).toNat < S512x16.size a := fun k0_t1 v3019 v3022 k0_hw994 k0_h4 => k0_hw994 k0_h4

def k0_chk995 (k0_t1 : Fin k0_t1_loop.trips) (v3019 : IVec S16 32) (v3024 : IVec S16 32) : Prop :=
  (∀ (k0_h4 : k0_cond4 k0_t1 = 1#1), ∀ a x, ((![v3019, v3024] : Fin 2 → IVec S16 32) a x).toNat < S512x16.size a)
theorem k0_idx995_inb : ∀ (k0_t1 : Fin k0_t1_loop.trips) (v3019 : IVec S16 32) (v3024 : IVec S16 32) (k0_hw995 : k0_chk995 k0_t1 v3019 v3024), ∀ (k0_h4 : k0_cond4 k0_t1 = 1#1), ∀ a x, ((![v3019, v3024] : Fin 2 → IVec S16 32) a x).toNat < S512x16.size a := fun k0_t1 v3019 v3024 k0_hw995 k0_h4 => k0_hw995 k0_h4

def k0_chk996 (k0_t1 : Fin k0_t1_loop.trips) (v3019 : IVec S16 32) (v3026 : IVec S16 32) : Prop :=
  (∀ (k0_h4 : k0_cond4 k0_t1 = 1#1), ∀ a x, ((![v3019, v3026] : Fin 2 → IVec S16 32) a x).toNat < S512x16.size a)
theorem k0_idx996_inb : ∀ (k0_t1 : Fin k0_t1_loop.trips) (v3019 : IVec S16 32) (v3026 : IVec S16 32) (k0_hw996 : k0_chk996 k0_t1 v3019 v3026), ∀ (k0_h4 : k0_cond4 k0_t1 = 1#1), ∀ a x, ((![v3019, v3026] : Fin 2 → IVec S16 32) a x).toNat < S512x16.size a := fun k0_t1 v3019 v3026 k0_hw996 k0_h4 => k0_hw996 k0_h4

def k0_chk997 (k0_t1 : Fin k0_t1_loop.trips) (v3019 : IVec S16 32) (v3028 : IVec S16 32) : Prop :=
  (∀ (k0_h4 : k0_cond4 k0_t1 = 1#1), ∀ a x, ((![v3019, v3028] : Fin 2 → IVec S16 32) a x).toNat < S512x16.size a)
theorem k0_idx997_inb : ∀ (k0_t1 : Fin k0_t1_loop.trips) (v3019 : IVec S16 32) (v3028 : IVec S16 32) (k0_hw997 : k0_chk997 k0_t1 v3019 v3028), ∀ (k0_h4 : k0_cond4 k0_t1 = 1#1), ∀ a x, ((![v3019, v3028] : Fin 2 → IVec S16 32) a x).toNat < S512x16.size a := fun k0_t1 v3019 v3028 k0_hw997 k0_h4 => k0_hw997 k0_h4

def k0_chk998 (k0_t1 : Fin k0_t1_loop.trips) (v3019 : IVec S16 32) (v3030 : IVec S16 32) : Prop :=
  (∀ (k0_h4 : k0_cond4 k0_t1 = 1#1), ∀ a x, ((![v3019, v3030] : Fin 2 → IVec S16 32) a x).toNat < S512x16.size a)
theorem k0_idx998_inb : ∀ (k0_t1 : Fin k0_t1_loop.trips) (v3019 : IVec S16 32) (v3030 : IVec S16 32) (k0_hw998 : k0_chk998 k0_t1 v3019 v3030), ∀ (k0_h4 : k0_cond4 k0_t1 = 1#1), ∀ a x, ((![v3019, v3030] : Fin 2 → IVec S16 32) a x).toNat < S512x16.size a := fun k0_t1 v3019 v3030 k0_hw998 k0_h4 => k0_hw998 k0_h4

def k0_chk999 (k0_t1 : Fin k0_t1_loop.trips) (v3019 : IVec S16 32) (v3032 : IVec S16 32) : Prop :=
  (∀ (k0_h4 : k0_cond4 k0_t1 = 1#1), ∀ a x, ((![v3019, v3032] : Fin 2 → IVec S16 32) a x).toNat < S512x16.size a)
theorem k0_idx999_inb : ∀ (k0_t1 : Fin k0_t1_loop.trips) (v3019 : IVec S16 32) (v3032 : IVec S16 32) (k0_hw999 : k0_chk999 k0_t1 v3019 v3032), ∀ (k0_h4 : k0_cond4 k0_t1 = 1#1), ∀ a x, ((![v3019, v3032] : Fin 2 → IVec S16 32) a x).toNat < S512x16.size a := fun k0_t1 v3019 v3032 k0_hw999 k0_h4 => k0_hw999 k0_h4

def k0_chk1000 (k0_t1 : Fin k0_t1_loop.trips) (v3019 : IVec S16 32) (v3034 : IVec S16 32) : Prop :=
  (∀ (k0_h4 : k0_cond4 k0_t1 = 1#1), ∀ a x, ((![v3019, v3034] : Fin 2 → IVec S16 32) a x).toNat < S512x16.size a)
theorem k0_idx1000_inb : ∀ (k0_t1 : Fin k0_t1_loop.trips) (v3019 : IVec S16 32) (v3034 : IVec S16 32) (k0_hw1000 : k0_chk1000 k0_t1 v3019 v3034), ∀ (k0_h4 : k0_cond4 k0_t1 = 1#1), ∀ a x, ((![v3019, v3034] : Fin 2 → IVec S16 32) a x).toNat < S512x16.size a := fun k0_t1 v3019 v3034 k0_hw1000 k0_h4 => k0_hw1000 k0_h4

def k0_chk1001 (k0_t1 : Fin k0_t1_loop.trips) (v3019 : IVec S16 32) (v3036 : IVec S16 32) : Prop :=
  (∀ (k0_h4 : k0_cond4 k0_t1 = 1#1), ∀ a x, ((![v3019, v3036] : Fin 2 → IVec S16 32) a x).toNat < S512x16.size a)
theorem k0_idx1001_inb : ∀ (k0_t1 : Fin k0_t1_loop.trips) (v3019 : IVec S16 32) (v3036 : IVec S16 32) (k0_hw1001 : k0_chk1001 k0_t1 v3019 v3036), ∀ (k0_h4 : k0_cond4 k0_t1 = 1#1), ∀ a x, ((![v3019, v3036] : Fin 2 → IVec S16 32) a x).toNat < S512x16.size a := fun k0_t1 v3019 v3036 k0_hw1001 k0_h4 => k0_hw1001 k0_h4

def k0_chk1002 (k0_t1 : Fin k0_t1_loop.trips) (v3019 : IVec S16 32) (v3038 : IVec S16 32) : Prop :=
  (∀ (k0_h4 : k0_cond4 k0_t1 = 1#1), ∀ a x, ((![v3019, v3038] : Fin 2 → IVec S16 32) a x).toNat < S512x16.size a)
theorem k0_idx1002_inb : ∀ (k0_t1 : Fin k0_t1_loop.trips) (v3019 : IVec S16 32) (v3038 : IVec S16 32) (k0_hw1002 : k0_chk1002 k0_t1 v3019 v3038), ∀ (k0_h4 : k0_cond4 k0_t1 = 1#1), ∀ a x, ((![v3019, v3038] : Fin 2 → IVec S16 32) a x).toNat < S512x16.size a := fun k0_t1 v3019 v3038 k0_hw1002 k0_h4 => k0_hw1002 k0_h4

def k0_chk1003 (k0_t1 : Fin k0_t1_loop.trips) (v3019 : IVec S16 32) (v3040 : IVec S16 32) : Prop :=
  (∀ (k0_h4 : k0_cond4 k0_t1 = 1#1), ∀ a x, ((![v3019, v3040] : Fin 2 → IVec S16 32) a x).toNat < S512x16.size a)
theorem k0_idx1003_inb : ∀ (k0_t1 : Fin k0_t1_loop.trips) (v3019 : IVec S16 32) (v3040 : IVec S16 32) (k0_hw1003 : k0_chk1003 k0_t1 v3019 v3040), ∀ (k0_h4 : k0_cond4 k0_t1 = 1#1), ∀ a x, ((![v3019, v3040] : Fin 2 → IVec S16 32) a x).toNat < S512x16.size a := fun k0_t1 v3019 v3040 k0_hw1003 k0_h4 => k0_hw1003 k0_h4

def k0_chk1004 (k0_t1 : Fin k0_t1_loop.trips) (v3019 : IVec S16 32) (v3042 : IVec S16 32) : Prop :=
  (∀ (k0_h4 : k0_cond4 k0_t1 = 1#1), ∀ a x, ((![v3019, v3042] : Fin 2 → IVec S16 32) a x).toNat < S512x16.size a)
theorem k0_idx1004_inb : ∀ (k0_t1 : Fin k0_t1_loop.trips) (v3019 : IVec S16 32) (v3042 : IVec S16 32) (k0_hw1004 : k0_chk1004 k0_t1 v3019 v3042), ∀ (k0_h4 : k0_cond4 k0_t1 = 1#1), ∀ a x, ((![v3019, v3042] : Fin 2 → IVec S16 32) a x).toNat < S512x16.size a := fun k0_t1 v3019 v3042 k0_hw1004 k0_h4 => k0_hw1004 k0_h4

def k0_chk1005 (k0_t1 : Fin k0_t1_loop.trips) (v3019 : IVec S16 32) (v3044 : IVec S16 32) : Prop :=
  (∀ (k0_h4 : k0_cond4 k0_t1 = 1#1), ∀ a x, ((![v3019, v3044] : Fin 2 → IVec S16 32) a x).toNat < S512x16.size a)
theorem k0_idx1005_inb : ∀ (k0_t1 : Fin k0_t1_loop.trips) (v3019 : IVec S16 32) (v3044 : IVec S16 32) (k0_hw1005 : k0_chk1005 k0_t1 v3019 v3044), ∀ (k0_h4 : k0_cond4 k0_t1 = 1#1), ∀ a x, ((![v3019, v3044] : Fin 2 → IVec S16 32) a x).toNat < S512x16.size a := fun k0_t1 v3019 v3044 k0_hw1005 k0_h4 => k0_hw1005 k0_h4

def k0_chk1006 (k0_t1 : Fin k0_t1_loop.trips) (v3019 : IVec S16 32) (v3046 : IVec S16 32) : Prop :=
  (∀ (k0_h4 : k0_cond4 k0_t1 = 1#1), ∀ a x, ((![v3019, v3046] : Fin 2 → IVec S16 32) a x).toNat < S512x16.size a)
theorem k0_idx1006_inb : ∀ (k0_t1 : Fin k0_t1_loop.trips) (v3019 : IVec S16 32) (v3046 : IVec S16 32) (k0_hw1006 : k0_chk1006 k0_t1 v3019 v3046), ∀ (k0_h4 : k0_cond4 k0_t1 = 1#1), ∀ a x, ((![v3019, v3046] : Fin 2 → IVec S16 32) a x).toNat < S512x16.size a := fun k0_t1 v3019 v3046 k0_hw1006 k0_h4 => k0_hw1006 k0_h4

def k0_chk1007 (k0_t1 : Fin k0_t1_loop.trips) (v3019 : IVec S16 32) (v3048 : IVec S16 32) : Prop :=
  (∀ (k0_h4 : k0_cond4 k0_t1 = 1#1), ∀ a x, ((![v3019, v3048] : Fin 2 → IVec S16 32) a x).toNat < S512x16.size a)
theorem k0_idx1007_inb : ∀ (k0_t1 : Fin k0_t1_loop.trips) (v3019 : IVec S16 32) (v3048 : IVec S16 32) (k0_hw1007 : k0_chk1007 k0_t1 v3019 v3048), ∀ (k0_h4 : k0_cond4 k0_t1 = 1#1), ∀ a x, ((![v3019, v3048] : Fin 2 → IVec S16 32) a x).toNat < S512x16.size a := fun k0_t1 v3019 v3048 k0_hw1007 k0_h4 => k0_hw1007 k0_h4

def k0_chk1008 (k0_t1 : Fin k0_t1_loop.trips) (v3019 : IVec S16 32) (v3050 : IVec S16 32) : Prop :=
  (∀ (k0_h4 : k0_cond4 k0_t1 = 1#1), ∀ a x, ((![v3019, v3050] : Fin 2 → IVec S16 32) a x).toNat < S512x16.size a)
theorem k0_idx1008_inb : ∀ (k0_t1 : Fin k0_t1_loop.trips) (v3019 : IVec S16 32) (v3050 : IVec S16 32) (k0_hw1008 : k0_chk1008 k0_t1 v3019 v3050), ∀ (k0_h4 : k0_cond4 k0_t1 = 1#1), ∀ a x, ((![v3019, v3050] : Fin 2 → IVec S16 32) a x).toNat < S512x16.size a := fun k0_t1 v3019 v3050 k0_hw1008 k0_h4 => k0_hw1008 k0_h4

def k0_chk1009 (k0_t1 : Fin k0_t1_loop.trips) (v3118 : IVec S16 32) (v3119 : IVec S16 32) : Prop :=
  (∀ (k0_h4 : k0_cond4 k0_t1 = 1#1), ∀ a x, ((![v3118, v3119] : Fin 2 → IVec S16 32) a x).toNat < S512x16.size a)
theorem k0_idx1009_inb : ∀ (k0_t1 : Fin k0_t1_loop.trips) (v3118 : IVec S16 32) (v3119 : IVec S16 32) (k0_hw1009 : k0_chk1009 k0_t1 v3118 v3119), ∀ (k0_h4 : k0_cond4 k0_t1 = 1#1), ∀ a x, ((![v3118, v3119] : Fin 2 → IVec S16 32) a x).toNat < S512x16.size a := fun k0_t1 v3118 v3119 k0_hw1009 k0_h4 => k0_hw1009 k0_h4

def k0_chk1010 (k0_t1 : Fin k0_t1_loop.trips) (v3118 : IVec S16 32) (v3121 : IVec S16 32) : Prop :=
  (∀ (k0_h4 : k0_cond4 k0_t1 = 1#1), ∀ a x, ((![v3118, v3121] : Fin 2 → IVec S16 32) a x).toNat < S512x16.size a)
theorem k0_idx1010_inb : ∀ (k0_t1 : Fin k0_t1_loop.trips) (v3118 : IVec S16 32) (v3121 : IVec S16 32) (k0_hw1010 : k0_chk1010 k0_t1 v3118 v3121), ∀ (k0_h4 : k0_cond4 k0_t1 = 1#1), ∀ a x, ((![v3118, v3121] : Fin 2 → IVec S16 32) a x).toNat < S512x16.size a := fun k0_t1 v3118 v3121 k0_hw1010 k0_h4 => k0_hw1010 k0_h4

def k0_chk1011 (k0_t1 : Fin k0_t1_loop.trips) (v3118 : IVec S16 32) (v3123 : IVec S16 32) : Prop :=
  (∀ (k0_h4 : k0_cond4 k0_t1 = 1#1), ∀ a x, ((![v3118, v3123] : Fin 2 → IVec S16 32) a x).toNat < S512x16.size a)
theorem k0_idx1011_inb : ∀ (k0_t1 : Fin k0_t1_loop.trips) (v3118 : IVec S16 32) (v3123 : IVec S16 32) (k0_hw1011 : k0_chk1011 k0_t1 v3118 v3123), ∀ (k0_h4 : k0_cond4 k0_t1 = 1#1), ∀ a x, ((![v3118, v3123] : Fin 2 → IVec S16 32) a x).toNat < S512x16.size a := fun k0_t1 v3118 v3123 k0_hw1011 k0_h4 => k0_hw1011 k0_h4

def k0_chk1012 (k0_t1 : Fin k0_t1_loop.trips) (v3118 : IVec S16 32) (v3125 : IVec S16 32) : Prop :=
  (∀ (k0_h4 : k0_cond4 k0_t1 = 1#1), ∀ a x, ((![v3118, v3125] : Fin 2 → IVec S16 32) a x).toNat < S512x16.size a)
theorem k0_idx1012_inb : ∀ (k0_t1 : Fin k0_t1_loop.trips) (v3118 : IVec S16 32) (v3125 : IVec S16 32) (k0_hw1012 : k0_chk1012 k0_t1 v3118 v3125), ∀ (k0_h4 : k0_cond4 k0_t1 = 1#1), ∀ a x, ((![v3118, v3125] : Fin 2 → IVec S16 32) a x).toNat < S512x16.size a := fun k0_t1 v3118 v3125 k0_hw1012 k0_h4 => k0_hw1012 k0_h4

def k0_chk1013 (k0_t1 : Fin k0_t1_loop.trips) (v3118 : IVec S16 32) (v3127 : IVec S16 32) : Prop :=
  (∀ (k0_h4 : k0_cond4 k0_t1 = 1#1), ∀ a x, ((![v3118, v3127] : Fin 2 → IVec S16 32) a x).toNat < S512x16.size a)
theorem k0_idx1013_inb : ∀ (k0_t1 : Fin k0_t1_loop.trips) (v3118 : IVec S16 32) (v3127 : IVec S16 32) (k0_hw1013 : k0_chk1013 k0_t1 v3118 v3127), ∀ (k0_h4 : k0_cond4 k0_t1 = 1#1), ∀ a x, ((![v3118, v3127] : Fin 2 → IVec S16 32) a x).toNat < S512x16.size a := fun k0_t1 v3118 v3127 k0_hw1013 k0_h4 => k0_hw1013 k0_h4

def k0_chk1014 (k0_t1 : Fin k0_t1_loop.trips) (v3118 : IVec S16 32) (v3129 : IVec S16 32) : Prop :=
  (∀ (k0_h4 : k0_cond4 k0_t1 = 1#1), ∀ a x, ((![v3118, v3129] : Fin 2 → IVec S16 32) a x).toNat < S512x16.size a)
theorem k0_idx1014_inb : ∀ (k0_t1 : Fin k0_t1_loop.trips) (v3118 : IVec S16 32) (v3129 : IVec S16 32) (k0_hw1014 : k0_chk1014 k0_t1 v3118 v3129), ∀ (k0_h4 : k0_cond4 k0_t1 = 1#1), ∀ a x, ((![v3118, v3129] : Fin 2 → IVec S16 32) a x).toNat < S512x16.size a := fun k0_t1 v3118 v3129 k0_hw1014 k0_h4 => k0_hw1014 k0_h4

def k0_chk1015 (k0_t1 : Fin k0_t1_loop.trips) (v3118 : IVec S16 32) (v3131 : IVec S16 32) : Prop :=
  (∀ (k0_h4 : k0_cond4 k0_t1 = 1#1), ∀ a x, ((![v3118, v3131] : Fin 2 → IVec S16 32) a x).toNat < S512x16.size a)
theorem k0_idx1015_inb : ∀ (k0_t1 : Fin k0_t1_loop.trips) (v3118 : IVec S16 32) (v3131 : IVec S16 32) (k0_hw1015 : k0_chk1015 k0_t1 v3118 v3131), ∀ (k0_h4 : k0_cond4 k0_t1 = 1#1), ∀ a x, ((![v3118, v3131] : Fin 2 → IVec S16 32) a x).toNat < S512x16.size a := fun k0_t1 v3118 v3131 k0_hw1015 k0_h4 => k0_hw1015 k0_h4

def k0_chk1016 (k0_t1 : Fin k0_t1_loop.trips) (v3118 : IVec S16 32) (v3133 : IVec S16 32) : Prop :=
  (∀ (k0_h4 : k0_cond4 k0_t1 = 1#1), ∀ a x, ((![v3118, v3133] : Fin 2 → IVec S16 32) a x).toNat < S512x16.size a)
theorem k0_idx1016_inb : ∀ (k0_t1 : Fin k0_t1_loop.trips) (v3118 : IVec S16 32) (v3133 : IVec S16 32) (k0_hw1016 : k0_chk1016 k0_t1 v3118 v3133), ∀ (k0_h4 : k0_cond4 k0_t1 = 1#1), ∀ a x, ((![v3118, v3133] : Fin 2 → IVec S16 32) a x).toNat < S512x16.size a := fun k0_t1 v3118 v3133 k0_hw1016 k0_h4 => k0_hw1016 k0_h4

def k0_chk1017 (k0_t1 : Fin k0_t1_loop.trips) (v3118 : IVec S16 32) (v3135 : IVec S16 32) : Prop :=
  (∀ (k0_h4 : k0_cond4 k0_t1 = 1#1), ∀ a x, ((![v3118, v3135] : Fin 2 → IVec S16 32) a x).toNat < S512x16.size a)
theorem k0_idx1017_inb : ∀ (k0_t1 : Fin k0_t1_loop.trips) (v3118 : IVec S16 32) (v3135 : IVec S16 32) (k0_hw1017 : k0_chk1017 k0_t1 v3118 v3135), ∀ (k0_h4 : k0_cond4 k0_t1 = 1#1), ∀ a x, ((![v3118, v3135] : Fin 2 → IVec S16 32) a x).toNat < S512x16.size a := fun k0_t1 v3118 v3135 k0_hw1017 k0_h4 => k0_hw1017 k0_h4

def k0_chk1018 (k0_t1 : Fin k0_t1_loop.trips) (v3118 : IVec S16 32) (v3137 : IVec S16 32) : Prop :=
  (∀ (k0_h4 : k0_cond4 k0_t1 = 1#1), ∀ a x, ((![v3118, v3137] : Fin 2 → IVec S16 32) a x).toNat < S512x16.size a)
theorem k0_idx1018_inb : ∀ (k0_t1 : Fin k0_t1_loop.trips) (v3118 : IVec S16 32) (v3137 : IVec S16 32) (k0_hw1018 : k0_chk1018 k0_t1 v3118 v3137), ∀ (k0_h4 : k0_cond4 k0_t1 = 1#1), ∀ a x, ((![v3118, v3137] : Fin 2 → IVec S16 32) a x).toNat < S512x16.size a := fun k0_t1 v3118 v3137 k0_hw1018 k0_h4 => k0_hw1018 k0_h4

def k0_chk1019 (k0_t1 : Fin k0_t1_loop.trips) (v3118 : IVec S16 32) (v3139 : IVec S16 32) : Prop :=
  (∀ (k0_h4 : k0_cond4 k0_t1 = 1#1), ∀ a x, ((![v3118, v3139] : Fin 2 → IVec S16 32) a x).toNat < S512x16.size a)
theorem k0_idx1019_inb : ∀ (k0_t1 : Fin k0_t1_loop.trips) (v3118 : IVec S16 32) (v3139 : IVec S16 32) (k0_hw1019 : k0_chk1019 k0_t1 v3118 v3139), ∀ (k0_h4 : k0_cond4 k0_t1 = 1#1), ∀ a x, ((![v3118, v3139] : Fin 2 → IVec S16 32) a x).toNat < S512x16.size a := fun k0_t1 v3118 v3139 k0_hw1019 k0_h4 => k0_hw1019 k0_h4

def k0_chk1020 (k0_t1 : Fin k0_t1_loop.trips) (v3118 : IVec S16 32) (v3141 : IVec S16 32) : Prop :=
  (∀ (k0_h4 : k0_cond4 k0_t1 = 1#1), ∀ a x, ((![v3118, v3141] : Fin 2 → IVec S16 32) a x).toNat < S512x16.size a)
theorem k0_idx1020_inb : ∀ (k0_t1 : Fin k0_t1_loop.trips) (v3118 : IVec S16 32) (v3141 : IVec S16 32) (k0_hw1020 : k0_chk1020 k0_t1 v3118 v3141), ∀ (k0_h4 : k0_cond4 k0_t1 = 1#1), ∀ a x, ((![v3118, v3141] : Fin 2 → IVec S16 32) a x).toNat < S512x16.size a := fun k0_t1 v3118 v3141 k0_hw1020 k0_h4 => k0_hw1020 k0_h4

def k0_chk1021 (k0_t1 : Fin k0_t1_loop.trips) (v3118 : IVec S16 32) (v3143 : IVec S16 32) : Prop :=
  (∀ (k0_h4 : k0_cond4 k0_t1 = 1#1), ∀ a x, ((![v3118, v3143] : Fin 2 → IVec S16 32) a x).toNat < S512x16.size a)
theorem k0_idx1021_inb : ∀ (k0_t1 : Fin k0_t1_loop.trips) (v3118 : IVec S16 32) (v3143 : IVec S16 32) (k0_hw1021 : k0_chk1021 k0_t1 v3118 v3143), ∀ (k0_h4 : k0_cond4 k0_t1 = 1#1), ∀ a x, ((![v3118, v3143] : Fin 2 → IVec S16 32) a x).toNat < S512x16.size a := fun k0_t1 v3118 v3143 k0_hw1021 k0_h4 => k0_hw1021 k0_h4

def k0_chk1022 (k0_t1 : Fin k0_t1_loop.trips) (v3118 : IVec S16 32) (v3145 : IVec S16 32) : Prop :=
  (∀ (k0_h4 : k0_cond4 k0_t1 = 1#1), ∀ a x, ((![v3118, v3145] : Fin 2 → IVec S16 32) a x).toNat < S512x16.size a)
theorem k0_idx1022_inb : ∀ (k0_t1 : Fin k0_t1_loop.trips) (v3118 : IVec S16 32) (v3145 : IVec S16 32) (k0_hw1022 : k0_chk1022 k0_t1 v3118 v3145), ∀ (k0_h4 : k0_cond4 k0_t1 = 1#1), ∀ a x, ((![v3118, v3145] : Fin 2 → IVec S16 32) a x).toNat < S512x16.size a := fun k0_t1 v3118 v3145 k0_hw1022 k0_h4 => k0_hw1022 k0_h4

def k0_chk1023 (k0_t1 : Fin k0_t1_loop.trips) (v3118 : IVec S16 32) (v3147 : IVec S16 32) : Prop :=
  (∀ (k0_h4 : k0_cond4 k0_t1 = 1#1), ∀ a x, ((![v3118, v3147] : Fin 2 → IVec S16 32) a x).toNat < S512x16.size a)
theorem k0_idx1023_inb : ∀ (k0_t1 : Fin k0_t1_loop.trips) (v3118 : IVec S16 32) (v3147 : IVec S16 32) (k0_hw1023 : k0_chk1023 k0_t1 v3118 v3147), ∀ (k0_h4 : k0_cond4 k0_t1 = 1#1), ∀ a x, ((![v3118, v3147] : Fin 2 → IVec S16 32) a x).toNat < S512x16.size a := fun k0_t1 v3118 v3147 k0_hw1023 k0_h4 => k0_hw1023 k0_h4

def k0_chk1024 (k0_t1 : Fin k0_t1_loop.trips) (v3118 : IVec S16 32) (v3149 : IVec S16 32) : Prop :=
  (∀ (k0_h4 : k0_cond4 k0_t1 = 1#1), ∀ a x, ((![v3118, v3149] : Fin 2 → IVec S16 32) a x).toNat < S512x16.size a)
theorem k0_idx1024_inb : ∀ (k0_t1 : Fin k0_t1_loop.trips) (v3118 : IVec S16 32) (v3149 : IVec S16 32) (k0_hw1024 : k0_chk1024 k0_t1 v3118 v3149), ∀ (k0_h4 : k0_cond4 k0_t1 = 1#1), ∀ a x, ((![v3118, v3149] : Fin 2 → IVec S16 32) a x).toNat < S512x16.size a := fun k0_t1 v3118 v3149 k0_hw1024 k0_h4 => k0_hw1024 k0_h4
def k0_off6 (i : grid0.Coords) (k0_t1 : Fin k0_t1_loop.trips) : Fin 5 → Nat :=
  let c0_i32_11 : BitVec 32 := 0#32
  let c1_i32_12 : BitVec 32 := 1#32
  let arg18 : BitVec 32 := Scf.iv c0_i32_11 c1_i32_12 k0_t1
  let c3_i32_43 : BitVec 32 := 3#32
  let v31 : BitVec 32 := Scalar.muli arg18 c3_i32_43
  let c1_i32_44 : BitVec 32 := 1#32
  let v32 : BitVec 32 := Scalar.addi v31 c1_i32_44
  let c0_i32_2598 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_2599 : BitVec 32 := 0#32
  let c0_i32_2600 : BitVec 32 := 0#32
  ![v32.toNat, 0, v3.toNat, 0, 0]
def k0_cond6 (k0_t1 : Fin k0_t1_loop.trips) : BitVec 1 :=
  let c0_i32_11 : BitVec 32 := 0#32
  let c1_i32_12 : BitVec 32 := 1#32
  let arg18 : BitVec 32 := Scf.iv c0_i32_11 c1_i32_12 k0_t1
  let c3_i32_43 : BitVec 32 := 3#32
  let v31 : BitVec 32 := Scalar.muli arg18 c3_i32_43
  let c1_i32_44 : BitVec 32 := 1#32
  let v32 : BitVec 32 := Scalar.addi v31 c1_i32_44
  let c3_i32_2604 : BitVec 32 := 3#32
  let v3219 : BitVec 32 := Scalar.addi v32 c3_i32_2604
  let c50_i32_2605 : BitVec 32 := 50#32
  let v3220 : BitVec 1 := Scalar.cmpi .slt v3219 c50_i32_2605
  let v3221 : BitVec 32 := Scalar.extui v3220
  let c0_i32_2606 : BitVec 32 := 0#32
  let v3222 : BitVec 1 := Scalar.cmpi .ne v3221 c0_i32_2606
  v3222

def k0_off7 (k0_t1 : Fin k0_t1_loop.trips) : Fin 2 → Nat :=
  let c0_i32_11 : BitVec 32 := 0#32
  let c1_i32_12 : BitVec 32 := 1#32
  let arg18 : BitVec 32 := Scf.iv c0_i32_11 c1_i32_12 k0_t1
  let c3_i32_43 : BitVec 32 := 3#32
  let v31 : BitVec 32 := Scalar.muli arg18 c3_i32_43
  let c1_i32_44 : BitVec 32 := 1#32
  let v32 : BitVec 32 := Scalar.addi v31 c1_i32_44
  let c3_i32_2607 : BitVec 32 := 3#32
  let v3223 : BitVec 32 := Scalar.addi v32 c3_i32_2607
  let c0_i32_2608 : BitVec 32 := 0#32
  ![v3223.toNat, 0]
def k0_cond7 (k0_t1 : Fin k0_t1_loop.trips) : BitVec 1 :=
  let c0_i32_11 : BitVec 32 := 0#32
  let c1_i32_12 : BitVec 32 := 1#32
  let arg18 : BitVec 32 := Scf.iv c0_i32_11 c1_i32_12 k0_t1
  let c3_i32_47 : BitVec 32 := 3#32
  let v36 : BitVec 32 := Scalar.muli arg18 c3_i32_47
  let c2_i32_48 : BitVec 32 := 2#32
  let v37 : BitVec 32 := Scalar.addi v36 c2_i32_48
  let c50_i32_49 : BitVec 32 := 50#32
  let v38 : BitVec 1 := Scalar.cmpi .slt v37 c50_i32_49
  let v39 : BitVec 32 := Scalar.extui v38
  let c0_i32_50 : BitVec 32 := 0#32
  let v40 : BitVec 1 := Scalar.cmpi .ne v39 c0_i32_50
  v40

def k0_off8 (k0_t1 : Fin k0_t1_loop.trips) : Fin 2 → Nat :=
  let c0_i32_11 : BitVec 32 := 0#32
  let c1_i32_12 : BitVec 32 := 1#32
  let arg18 : BitVec 32 := Scf.iv c0_i32_11 c1_i32_12 k0_t1
  let c3_i32_47 : BitVec 32 := 3#32
  let v36 : BitVec 32 := Scalar.muli arg18 c3_i32_47
  let c2_i32_48 : BitVec 32 := 2#32
  let v37 : BitVec 32 := Scalar.addi v36 c2_i32_48
  let c0_i32_51 : BitVec 32 := 0#32
  ![v37.toNat, 0]

def k0_chk1025 (k0_t1 : Fin k0_t1_loop.trips) (v49 : IVec S16 32) (v50 : IVec S16 32) : Prop :=
  (∀ (k0_h7 : k0_cond7 k0_t1 = 1#1), ∀ a x, ((![v49, v50] : Fin 2 → IVec S16 32) a x).toNat < S512x16.size a)
theorem k0_idx1025_inb : ∀ (k0_t1 : Fin k0_t1_loop.trips) (v49 : IVec S16 32) (v50 : IVec S16 32) (k0_hw1025 : k0_chk1025 k0_t1 v49 v50), ∀ (k0_h7 : k0_cond7 k0_t1 = 1#1), ∀ a x, ((![v49, v50] : Fin 2 → IVec S16 32) a x).toNat < S512x16.size a := fun k0_t1 v49 v50 k0_hw1025 k0_h7 => k0_hw1025 k0_h7

def k0_chk1026 (k0_t1 : Fin k0_t1_loop.trips) (v49 : IVec S16 32) (v52 : IVec S16 32) : Prop :=
  (∀ (k0_h7 : k0_cond7 k0_t1 = 1#1), ∀ a x, ((![v49, v52] : Fin 2 → IVec S16 32) a x).toNat < S512x16.size a)
theorem k0_idx1026_inb : ∀ (k0_t1 : Fin k0_t1_loop.trips) (v49 : IVec S16 32) (v52 : IVec S16 32) (k0_hw1026 : k0_chk1026 k0_t1 v49 v52), ∀ (k0_h7 : k0_cond7 k0_t1 = 1#1), ∀ a x, ((![v49, v52] : Fin 2 → IVec S16 32) a x).toNat < S512x16.size a := fun k0_t1 v49 v52 k0_hw1026 k0_h7 => k0_hw1026 k0_h7

def k0_chk1027 (k0_t1 : Fin k0_t1_loop.trips) (v49 : IVec S16 32) (v54 : IVec S16 32) : Prop :=
  (∀ (k0_h7 : k0_cond7 k0_t1 = 1#1), ∀ a x, ((![v49, v54] : Fin 2 → IVec S16 32) a x).toNat < S512x16.size a)
theorem k0_idx1027_inb : ∀ (k0_t1 : Fin k0_t1_loop.trips) (v49 : IVec S16 32) (v54 : IVec S16 32) (k0_hw1027 : k0_chk1027 k0_t1 v49 v54), ∀ (k0_h7 : k0_cond7 k0_t1 = 1#1), ∀ a x, ((![v49, v54] : Fin 2 → IVec S16 32) a x).toNat < S512x16.size a := fun k0_t1 v49 v54 k0_hw1027 k0_h7 => k0_hw1027 k0_h7

def k0_chk1028 (k0_t1 : Fin k0_t1_loop.trips) (v49 : IVec S16 32) (v56 : IVec S16 32) : Prop :=
  (∀ (k0_h7 : k0_cond7 k0_t1 = 1#1), ∀ a x, ((![v49, v56] : Fin 2 → IVec S16 32) a x).toNat < S512x16.size a)
theorem k0_idx1028_inb : ∀ (k0_t1 : Fin k0_t1_loop.trips) (v49 : IVec S16 32) (v56 : IVec S16 32) (k0_hw1028 : k0_chk1028 k0_t1 v49 v56), ∀ (k0_h7 : k0_cond7 k0_t1 = 1#1), ∀ a x, ((![v49, v56] : Fin 2 → IVec S16 32) a x).toNat < S512x16.size a := fun k0_t1 v49 v56 k0_hw1028 k0_h7 => k0_hw1028 k0_h7

def k0_chk1029 (k0_t1 : Fin k0_t1_loop.trips) (v49 : IVec S16 32) (v58 : IVec S16 32) : Prop :=
  (∀ (k0_h7 : k0_cond7 k0_t1 = 1#1), ∀ a x, ((![v49, v58] : Fin 2 → IVec S16 32) a x).toNat < S512x16.size a)
theorem k0_idx1029_inb : ∀ (k0_t1 : Fin k0_t1_loop.trips) (v49 : IVec S16 32) (v58 : IVec S16 32) (k0_hw1029 : k0_chk1029 k0_t1 v49 v58), ∀ (k0_h7 : k0_cond7 k0_t1 = 1#1), ∀ a x, ((![v49, v58] : Fin 2 → IVec S16 32) a x).toNat < S512x16.size a := fun k0_t1 v49 v58 k0_hw1029 k0_h7 => k0_hw1029 k0_h7

def k0_chk1030 (k0_t1 : Fin k0_t1_loop.trips) (v49 : IVec S16 32) (v60 : IVec S16 32) : Prop :=
  (∀ (k0_h7 : k0_cond7 k0_t1 = 1#1), ∀ a x, ((![v49, v60] : Fin 2 → IVec S16 32) a x).toNat < S512x16.size a)
theorem k0_idx1030_inb : ∀ (k0_t1 : Fin k0_t1_loop.trips) (v49 : IVec S16 32) (v60 : IVec S16 32) (k0_hw1030 : k0_chk1030 k0_t1 v49 v60), ∀ (k0_h7 : k0_cond7 k0_t1 = 1#1), ∀ a x, ((![v49, v60] : Fin 2 → IVec S16 32) a x).toNat < S512x16.size a := fun k0_t1 v49 v60 k0_hw1030 k0_h7 => k0_hw1030 k0_h7

def k0_chk1031 (k0_t1 : Fin k0_t1_loop.trips) (v49 : IVec S16 32) (v62 : IVec S16 32) : Prop :=
  (∀ (k0_h7 : k0_cond7 k0_t1 = 1#1), ∀ a x, ((![v49, v62] : Fin 2 → IVec S16 32) a x).toNat < S512x16.size a)
theorem k0_idx1031_inb : ∀ (k0_t1 : Fin k0_t1_loop.trips) (v49 : IVec S16 32) (v62 : IVec S16 32) (k0_hw1031 : k0_chk1031 k0_t1 v49 v62), ∀ (k0_h7 : k0_cond7 k0_t1 = 1#1), ∀ a x, ((![v49, v62] : Fin 2 → IVec S16 32) a x).toNat < S512x16.size a := fun k0_t1 v49 v62 k0_hw1031 k0_h7 => k0_hw1031 k0_h7

def k0_chk1032 (k0_t1 : Fin k0_t1_loop.trips) (v49 : IVec S16 32) (v64 : IVec S16 32) : Prop :=
  (∀ (k0_h7 : k0_cond7 k0_t1 = 1#1), ∀ a x, ((![v49, v64] : Fin 2 → IVec S16 32) a x).toNat < S512x16.size a)
theorem k0_idx1032_inb : ∀ (k0_t1 : Fin k0_t1_loop.trips) (v49 : IVec S16 32) (v64 : IVec S16 32) (k0_hw1032 : k0_chk1032 k0_t1 v49 v64), ∀ (k0_h7 : k0_cond7 k0_t1 = 1#1), ∀ a x, ((![v49, v64] : Fin 2 → IVec S16 32) a x).toNat < S512x16.size a := fun k0_t1 v49 v64 k0_hw1032 k0_h7 => k0_hw1032 k0_h7

def k0_chk1033 (k0_t1 : Fin k0_t1_loop.trips) (v49 : IVec S16 32) (v66 : IVec S16 32) : Prop :=
  (∀ (k0_h7 : k0_cond7 k0_t1 = 1#1), ∀ a x, ((![v49, v66] : Fin 2 → IVec S16 32) a x).toNat < S512x16.size a)
theorem k0_idx1033_inb : ∀ (k0_t1 : Fin k0_t1_loop.trips) (v49 : IVec S16 32) (v66 : IVec S16 32) (k0_hw1033 : k0_chk1033 k0_t1 v49 v66), ∀ (k0_h7 : k0_cond7 k0_t1 = 1#1), ∀ a x, ((![v49, v66] : Fin 2 → IVec S16 32) a x).toNat < S512x16.size a := fun k0_t1 v49 v66 k0_hw1033 k0_h7 => k0_hw1033 k0_h7

def k0_chk1034 (k0_t1 : Fin k0_t1_loop.trips) (v49 : IVec S16 32) (v68 : IVec S16 32) : Prop :=
  (∀ (k0_h7 : k0_cond7 k0_t1 = 1#1), ∀ a x, ((![v49, v68] : Fin 2 → IVec S16 32) a x).toNat < S512x16.size a)
theorem k0_idx1034_inb : ∀ (k0_t1 : Fin k0_t1_loop.trips) (v49 : IVec S16 32) (v68 : IVec S16 32) (k0_hw1034 : k0_chk1034 k0_t1 v49 v68), ∀ (k0_h7 : k0_cond7 k0_t1 = 1#1), ∀ a x, ((![v49, v68] : Fin 2 → IVec S16 32) a x).toNat < S512x16.size a := fun k0_t1 v49 v68 k0_hw1034 k0_h7 => k0_hw1034 k0_h7

def k0_chk1035 (k0_t1 : Fin k0_t1_loop.trips) (v49 : IVec S16 32) (v70 : IVec S16 32) : Prop :=
  (∀ (k0_h7 : k0_cond7 k0_t1 = 1#1), ∀ a x, ((![v49, v70] : Fin 2 → IVec S16 32) a x).toNat < S512x16.size a)
theorem k0_idx1035_inb : ∀ (k0_t1 : Fin k0_t1_loop.trips) (v49 : IVec S16 32) (v70 : IVec S16 32) (k0_hw1035 : k0_chk1035 k0_t1 v49 v70), ∀ (k0_h7 : k0_cond7 k0_t1 = 1#1), ∀ a x, ((![v49, v70] : Fin 2 → IVec S16 32) a x).toNat < S512x16.size a := fun k0_t1 v49 v70 k0_hw1035 k0_h7 => k0_hw1035 k0_h7

def k0_chk1036 (k0_t1 : Fin k0_t1_loop.trips) (v49 : IVec S16 32) (v72 : IVec S16 32) : Prop :=
  (∀ (k0_h7 : k0_cond7 k0_t1 = 1#1), ∀ a x, ((![v49, v72] : Fin 2 → IVec S16 32) a x).toNat < S512x16.size a)
theorem k0_idx1036_inb : ∀ (k0_t1 : Fin k0_t1_loop.trips) (v49 : IVec S16 32) (v72 : IVec S16 32) (k0_hw1036 : k0_chk1036 k0_t1 v49 v72), ∀ (k0_h7 : k0_cond7 k0_t1 = 1#1), ∀ a x, ((![v49, v72] : Fin 2 → IVec S16 32) a x).toNat < S512x16.size a := fun k0_t1 v49 v72 k0_hw1036 k0_h7 => k0_hw1036 k0_h7

def k0_chk1037 (k0_t1 : Fin k0_t1_loop.trips) (v49 : IVec S16 32) (v74 : IVec S16 32) : Prop :=
  (∀ (k0_h7 : k0_cond7 k0_t1 = 1#1), ∀ a x, ((![v49, v74] : Fin 2 → IVec S16 32) a x).toNat < S512x16.size a)
theorem k0_idx1037_inb : ∀ (k0_t1 : Fin k0_t1_loop.trips) (v49 : IVec S16 32) (v74 : IVec S16 32) (k0_hw1037 : k0_chk1037 k0_t1 v49 v74), ∀ (k0_h7 : k0_cond7 k0_t1 = 1#1), ∀ a x, ((![v49, v74] : Fin 2 → IVec S16 32) a x).toNat < S512x16.size a := fun k0_t1 v49 v74 k0_hw1037 k0_h7 => k0_hw1037 k0_h7

def k0_chk1038 (k0_t1 : Fin k0_t1_loop.trips) (v49 : IVec S16 32) (v76 : IVec S16 32) : Prop :=
  (∀ (k0_h7 : k0_cond7 k0_t1 = 1#1), ∀ a x, ((![v49, v76] : Fin 2 → IVec S16 32) a x).toNat < S512x16.size a)
theorem k0_idx1038_inb : ∀ (k0_t1 : Fin k0_t1_loop.trips) (v49 : IVec S16 32) (v76 : IVec S16 32) (k0_hw1038 : k0_chk1038 k0_t1 v49 v76), ∀ (k0_h7 : k0_cond7 k0_t1 = 1#1), ∀ a x, ((![v49, v76] : Fin 2 → IVec S16 32) a x).toNat < S512x16.size a := fun k0_t1 v49 v76 k0_hw1038 k0_h7 => k0_hw1038 k0_h7

def k0_chk1039 (k0_t1 : Fin k0_t1_loop.trips) (v49 : IVec S16 32) (v78 : IVec S16 32) : Prop :=
  (∀ (k0_h7 : k0_cond7 k0_t1 = 1#1), ∀ a x, ((![v49, v78] : Fin 2 → IVec S16 32) a x).toNat < S512x16.size a)
theorem k0_idx1039_inb : ∀ (k0_t1 : Fin k0_t1_loop.trips) (v49 : IVec S16 32) (v78 : IVec S16 32) (k0_hw1039 : k0_chk1039 k0_t1 v49 v78), ∀ (k0_h7 : k0_cond7 k0_t1 = 1#1), ∀ a x, ((![v49, v78] : Fin 2 → IVec S16 32) a x).toNat < S512x16.size a := fun k0_t1 v49 v78 k0_hw1039 k0_h7 => k0_hw1039 k0_h7

def k0_chk1040 (k0_t1 : Fin k0_t1_loop.trips) (v49 : IVec S16 32) (v80 : IVec S16 32) : Prop :=
  (∀ (k0_h7 : k0_cond7 k0_t1 = 1#1), ∀ a x, ((![v49, v80] : Fin 2 → IVec S16 32) a x).toNat < S512x16.size a)
theorem k0_idx1040_inb : ∀ (k0_t1 : Fin k0_t1_loop.trips) (v49 : IVec S16 32) (v80 : IVec S16 32) (k0_hw1040 : k0_chk1040 k0_t1 v49 v80), ∀ (k0_h7 : k0_cond7 k0_t1 = 1#1), ∀ a x, ((![v49, v80] : Fin 2 → IVec S16 32) a x).toNat < S512x16.size a := fun k0_t1 v49 v80 k0_hw1040 k0_h7 => k0_hw1040 k0_h7

def k0_chk1041 (k0_t1 : Fin k0_t1_loop.trips) (v148 : IVec S16 32) (v149 : IVec S16 32) : Prop :=
  (∀ (k0_h7 : k0_cond7 k0_t1 = 1#1), ∀ a x, ((![v148, v149] : Fin 2 → IVec S16 32) a x).toNat < S512x16.size a)
theorem k0_idx1041_inb : ∀ (k0_t1 : Fin k0_t1_loop.trips) (v148 : IVec S16 32) (v149 : IVec S16 32) (k0_hw1041 : k0_chk1041 k0_t1 v148 v149), ∀ (k0_h7 : k0_cond7 k0_t1 = 1#1), ∀ a x, ((![v148, v149] : Fin 2 → IVec S16 32) a x).toNat < S512x16.size a := fun k0_t1 v148 v149 k0_hw1041 k0_h7 => k0_hw1041 k0_h7

def k0_chk1042 (k0_t1 : Fin k0_t1_loop.trips) (v148 : IVec S16 32) (v151 : IVec S16 32) : Prop :=
  (∀ (k0_h7 : k0_cond7 k0_t1 = 1#1), ∀ a x, ((![v148, v151] : Fin 2 → IVec S16 32) a x).toNat < S512x16.size a)
theorem k0_idx1042_inb : ∀ (k0_t1 : Fin k0_t1_loop.trips) (v148 : IVec S16 32) (v151 : IVec S16 32) (k0_hw1042 : k0_chk1042 k0_t1 v148 v151), ∀ (k0_h7 : k0_cond7 k0_t1 = 1#1), ∀ a x, ((![v148, v151] : Fin 2 → IVec S16 32) a x).toNat < S512x16.size a := fun k0_t1 v148 v151 k0_hw1042 k0_h7 => k0_hw1042 k0_h7

def k0_chk1043 (k0_t1 : Fin k0_t1_loop.trips) (v148 : IVec S16 32) (v153 : IVec S16 32) : Prop :=
  (∀ (k0_h7 : k0_cond7 k0_t1 = 1#1), ∀ a x, ((![v148, v153] : Fin 2 → IVec S16 32) a x).toNat < S512x16.size a)
theorem k0_idx1043_inb : ∀ (k0_t1 : Fin k0_t1_loop.trips) (v148 : IVec S16 32) (v153 : IVec S16 32) (k0_hw1043 : k0_chk1043 k0_t1 v148 v153), ∀ (k0_h7 : k0_cond7 k0_t1 = 1#1), ∀ a x, ((![v148, v153] : Fin 2 → IVec S16 32) a x).toNat < S512x16.size a := fun k0_t1 v148 v153 k0_hw1043 k0_h7 => k0_hw1043 k0_h7

def k0_chk1044 (k0_t1 : Fin k0_t1_loop.trips) (v148 : IVec S16 32) (v155 : IVec S16 32) : Prop :=
  (∀ (k0_h7 : k0_cond7 k0_t1 = 1#1), ∀ a x, ((![v148, v155] : Fin 2 → IVec S16 32) a x).toNat < S512x16.size a)
theorem k0_idx1044_inb : ∀ (k0_t1 : Fin k0_t1_loop.trips) (v148 : IVec S16 32) (v155 : IVec S16 32) (k0_hw1044 : k0_chk1044 k0_t1 v148 v155), ∀ (k0_h7 : k0_cond7 k0_t1 = 1#1), ∀ a x, ((![v148, v155] : Fin 2 → IVec S16 32) a x).toNat < S512x16.size a := fun k0_t1 v148 v155 k0_hw1044 k0_h7 => k0_hw1044 k0_h7

def k0_chk1045 (k0_t1 : Fin k0_t1_loop.trips) (v148 : IVec S16 32) (v157 : IVec S16 32) : Prop :=
  (∀ (k0_h7 : k0_cond7 k0_t1 = 1#1), ∀ a x, ((![v148, v157] : Fin 2 → IVec S16 32) a x).toNat < S512x16.size a)
theorem k0_idx1045_inb : ∀ (k0_t1 : Fin k0_t1_loop.trips) (v148 : IVec S16 32) (v157 : IVec S16 32) (k0_hw1045 : k0_chk1045 k0_t1 v148 v157), ∀ (k0_h7 : k0_cond7 k0_t1 = 1#1), ∀ a x, ((![v148, v157] : Fin 2 → IVec S16 32) a x).toNat < S512x16.size a := fun k0_t1 v148 v157 k0_hw1045 k0_h7 => k0_hw1045 k0_h7

def k0_chk1046 (k0_t1 : Fin k0_t1_loop.trips) (v148 : IVec S16 32) (v159 : IVec S16 32) : Prop :=
  (∀ (k0_h7 : k0_cond7 k0_t1 = 1#1), ∀ a x, ((![v148, v159] : Fin 2 → IVec S16 32) a x).toNat < S512x16.size a)
theorem k0_idx1046_inb : ∀ (k0_t1 : Fin k0_t1_loop.trips) (v148 : IVec S16 32) (v159 : IVec S16 32) (k0_hw1046 : k0_chk1046 k0_t1 v148 v159), ∀ (k0_h7 : k0_cond7 k0_t1 = 1#1), ∀ a x, ((![v148, v159] : Fin 2 → IVec S16 32) a x).toNat < S512x16.size a := fun k0_t1 v148 v159 k0_hw1046 k0_h7 => k0_hw1046 k0_h7

def k0_chk1047 (k0_t1 : Fin k0_t1_loop.trips) (v148 : IVec S16 32) (v161 : IVec S16 32) : Prop :=
  (∀ (k0_h7 : k0_cond7 k0_t1 = 1#1), ∀ a x, ((![v148, v161] : Fin 2 → IVec S16 32) a x).toNat < S512x16.size a)
theorem k0_idx1047_inb : ∀ (k0_t1 : Fin k0_t1_loop.trips) (v148 : IVec S16 32) (v161 : IVec S16 32) (k0_hw1047 : k0_chk1047 k0_t1 v148 v161), ∀ (k0_h7 : k0_cond7 k0_t1 = 1#1), ∀ a x, ((![v148, v161] : Fin 2 → IVec S16 32) a x).toNat < S512x16.size a := fun k0_t1 v148 v161 k0_hw1047 k0_h7 => k0_hw1047 k0_h7

def k0_chk1048 (k0_t1 : Fin k0_t1_loop.trips) (v148 : IVec S16 32) (v163 : IVec S16 32) : Prop :=
  (∀ (k0_h7 : k0_cond7 k0_t1 = 1#1), ∀ a x, ((![v148, v163] : Fin 2 → IVec S16 32) a x).toNat < S512x16.size a)
theorem k0_idx1048_inb : ∀ (k0_t1 : Fin k0_t1_loop.trips) (v148 : IVec S16 32) (v163 : IVec S16 32) (k0_hw1048 : k0_chk1048 k0_t1 v148 v163), ∀ (k0_h7 : k0_cond7 k0_t1 = 1#1), ∀ a x, ((![v148, v163] : Fin 2 → IVec S16 32) a x).toNat < S512x16.size a := fun k0_t1 v148 v163 k0_hw1048 k0_h7 => k0_hw1048 k0_h7

def k0_chk1049 (k0_t1 : Fin k0_t1_loop.trips) (v148 : IVec S16 32) (v165 : IVec S16 32) : Prop :=
  (∀ (k0_h7 : k0_cond7 k0_t1 = 1#1), ∀ a x, ((![v148, v165] : Fin 2 → IVec S16 32) a x).toNat < S512x16.size a)
theorem k0_idx1049_inb : ∀ (k0_t1 : Fin k0_t1_loop.trips) (v148 : IVec S16 32) (v165 : IVec S16 32) (k0_hw1049 : k0_chk1049 k0_t1 v148 v165), ∀ (k0_h7 : k0_cond7 k0_t1 = 1#1), ∀ a x, ((![v148, v165] : Fin 2 → IVec S16 32) a x).toNat < S512x16.size a := fun k0_t1 v148 v165 k0_hw1049 k0_h7 => k0_hw1049 k0_h7

def k0_chk1050 (k0_t1 : Fin k0_t1_loop.trips) (v148 : IVec S16 32) (v167 : IVec S16 32) : Prop :=
  (∀ (k0_h7 : k0_cond7 k0_t1 = 1#1), ∀ a x, ((![v148, v167] : Fin 2 → IVec S16 32) a x).toNat < S512x16.size a)
theorem k0_idx1050_inb : ∀ (k0_t1 : Fin k0_t1_loop.trips) (v148 : IVec S16 32) (v167 : IVec S16 32) (k0_hw1050 : k0_chk1050 k0_t1 v148 v167), ∀ (k0_h7 : k0_cond7 k0_t1 = 1#1), ∀ a x, ((![v148, v167] : Fin 2 → IVec S16 32) a x).toNat < S512x16.size a := fun k0_t1 v148 v167 k0_hw1050 k0_h7 => k0_hw1050 k0_h7

def k0_chk1051 (k0_t1 : Fin k0_t1_loop.trips) (v148 : IVec S16 32) (v169 : IVec S16 32) : Prop :=
  (∀ (k0_h7 : k0_cond7 k0_t1 = 1#1), ∀ a x, ((![v148, v169] : Fin 2 → IVec S16 32) a x).toNat < S512x16.size a)
theorem k0_idx1051_inb : ∀ (k0_t1 : Fin k0_t1_loop.trips) (v148 : IVec S16 32) (v169 : IVec S16 32) (k0_hw1051 : k0_chk1051 k0_t1 v148 v169), ∀ (k0_h7 : k0_cond7 k0_t1 = 1#1), ∀ a x, ((![v148, v169] : Fin 2 → IVec S16 32) a x).toNat < S512x16.size a := fun k0_t1 v148 v169 k0_hw1051 k0_h7 => k0_hw1051 k0_h7

def k0_chk1052 (k0_t1 : Fin k0_t1_loop.trips) (v148 : IVec S16 32) (v171 : IVec S16 32) : Prop :=
  (∀ (k0_h7 : k0_cond7 k0_t1 = 1#1), ∀ a x, ((![v148, v171] : Fin 2 → IVec S16 32) a x).toNat < S512x16.size a)
theorem k0_idx1052_inb : ∀ (k0_t1 : Fin k0_t1_loop.trips) (v148 : IVec S16 32) (v171 : IVec S16 32) (k0_hw1052 : k0_chk1052 k0_t1 v148 v171), ∀ (k0_h7 : k0_cond7 k0_t1 = 1#1), ∀ a x, ((![v148, v171] : Fin 2 → IVec S16 32) a x).toNat < S512x16.size a := fun k0_t1 v148 v171 k0_hw1052 k0_h7 => k0_hw1052 k0_h7

def k0_chk1053 (k0_t1 : Fin k0_t1_loop.trips) (v148 : IVec S16 32) (v173 : IVec S16 32) : Prop :=
  (∀ (k0_h7 : k0_cond7 k0_t1 = 1#1), ∀ a x, ((![v148, v173] : Fin 2 → IVec S16 32) a x).toNat < S512x16.size a)
theorem k0_idx1053_inb : ∀ (k0_t1 : Fin k0_t1_loop.trips) (v148 : IVec S16 32) (v173 : IVec S16 32) (k0_hw1053 : k0_chk1053 k0_t1 v148 v173), ∀ (k0_h7 : k0_cond7 k0_t1 = 1#1), ∀ a x, ((![v148, v173] : Fin 2 → IVec S16 32) a x).toNat < S512x16.size a := fun k0_t1 v148 v173 k0_hw1053 k0_h7 => k0_hw1053 k0_h7

def k0_chk1054 (k0_t1 : Fin k0_t1_loop.trips) (v148 : IVec S16 32) (v175 : IVec S16 32) : Prop :=
  (∀ (k0_h7 : k0_cond7 k0_t1 = 1#1), ∀ a x, ((![v148, v175] : Fin 2 → IVec S16 32) a x).toNat < S512x16.size a)
theorem k0_idx1054_inb : ∀ (k0_t1 : Fin k0_t1_loop.trips) (v148 : IVec S16 32) (v175 : IVec S16 32) (k0_hw1054 : k0_chk1054 k0_t1 v148 v175), ∀ (k0_h7 : k0_cond7 k0_t1 = 1#1), ∀ a x, ((![v148, v175] : Fin 2 → IVec S16 32) a x).toNat < S512x16.size a := fun k0_t1 v148 v175 k0_hw1054 k0_h7 => k0_hw1054 k0_h7

def k0_chk1055 (k0_t1 : Fin k0_t1_loop.trips) (v148 : IVec S16 32) (v177 : IVec S16 32) : Prop :=
  (∀ (k0_h7 : k0_cond7 k0_t1 = 1#1), ∀ a x, ((![v148, v177] : Fin 2 → IVec S16 32) a x).toNat < S512x16.size a)
theorem k0_idx1055_inb : ∀ (k0_t1 : Fin k0_t1_loop.trips) (v148 : IVec S16 32) (v177 : IVec S16 32) (k0_hw1055 : k0_chk1055 k0_t1 v148 v177), ∀ (k0_h7 : k0_cond7 k0_t1 = 1#1), ∀ a x, ((![v148, v177] : Fin 2 → IVec S16 32) a x).toNat < S512x16.size a := fun k0_t1 v148 v177 k0_hw1055 k0_h7 => k0_hw1055 k0_h7

def k0_chk1056 (k0_t1 : Fin k0_t1_loop.trips) (v148 : IVec S16 32) (v179 : IVec S16 32) : Prop :=
  (∀ (k0_h7 : k0_cond7 k0_t1 = 1#1), ∀ a x, ((![v148, v179] : Fin 2 → IVec S16 32) a x).toNat < S512x16.size a)
theorem k0_idx1056_inb : ∀ (k0_t1 : Fin k0_t1_loop.trips) (v148 : IVec S16 32) (v179 : IVec S16 32) (k0_hw1056 : k0_chk1056 k0_t1 v148 v179), ∀ (k0_h7 : k0_cond7 k0_t1 = 1#1), ∀ a x, ((![v148, v179] : Fin 2 → IVec S16 32) a x).toNat < S512x16.size a := fun k0_t1 v148 v179 k0_hw1056 k0_h7 => k0_hw1056 k0_h7

def k0_chk1057 (k0_t1 : Fin k0_t1_loop.trips) (v247 : IVec S16 32) (v248 : IVec S16 32) : Prop :=
  (∀ (k0_h7 : k0_cond7 k0_t1 = 1#1), ∀ a x, ((![v247, v248] : Fin 2 → IVec S16 32) a x).toNat < S512x16.size a)
theorem k0_idx1057_inb : ∀ (k0_t1 : Fin k0_t1_loop.trips) (v247 : IVec S16 32) (v248 : IVec S16 32) (k0_hw1057 : k0_chk1057 k0_t1 v247 v248), ∀ (k0_h7 : k0_cond7 k0_t1 = 1#1), ∀ a x, ((![v247, v248] : Fin 2 → IVec S16 32) a x).toNat < S512x16.size a := fun k0_t1 v247 v248 k0_hw1057 k0_h7 => k0_hw1057 k0_h7

def k0_chk1058 (k0_t1 : Fin k0_t1_loop.trips) (v247 : IVec S16 32) (v250 : IVec S16 32) : Prop :=
  (∀ (k0_h7 : k0_cond7 k0_t1 = 1#1), ∀ a x, ((![v247, v250] : Fin 2 → IVec S16 32) a x).toNat < S512x16.size a)
theorem k0_idx1058_inb : ∀ (k0_t1 : Fin k0_t1_loop.trips) (v247 : IVec S16 32) (v250 : IVec S16 32) (k0_hw1058 : k0_chk1058 k0_t1 v247 v250), ∀ (k0_h7 : k0_cond7 k0_t1 = 1#1), ∀ a x, ((![v247, v250] : Fin 2 → IVec S16 32) a x).toNat < S512x16.size a := fun k0_t1 v247 v250 k0_hw1058 k0_h7 => k0_hw1058 k0_h7

def k0_chk1059 (k0_t1 : Fin k0_t1_loop.trips) (v247 : IVec S16 32) (v252 : IVec S16 32) : Prop :=
  (∀ (k0_h7 : k0_cond7 k0_t1 = 1#1), ∀ a x, ((![v247, v252] : Fin 2 → IVec S16 32) a x).toNat < S512x16.size a)
theorem k0_idx1059_inb : ∀ (k0_t1 : Fin k0_t1_loop.trips) (v247 : IVec S16 32) (v252 : IVec S16 32) (k0_hw1059 : k0_chk1059 k0_t1 v247 v252), ∀ (k0_h7 : k0_cond7 k0_t1 = 1#1), ∀ a x, ((![v247, v252] : Fin 2 → IVec S16 32) a x).toNat < S512x16.size a := fun k0_t1 v247 v252 k0_hw1059 k0_h7 => k0_hw1059 k0_h7

def k0_chk1060 (k0_t1 : Fin k0_t1_loop.trips) (v247 : IVec S16 32) (v254 : IVec S16 32) : Prop :=
  (∀ (k0_h7 : k0_cond7 k0_t1 = 1#1), ∀ a x, ((![v247, v254] : Fin 2 → IVec S16 32) a x).toNat < S512x16.size a)
theorem k0_idx1060_inb : ∀ (k0_t1 : Fin k0_t1_loop.trips) (v247 : IVec S16 32) (v254 : IVec S16 32) (k0_hw1060 : k0_chk1060 k0_t1 v247 v254), ∀ (k0_h7 : k0_cond7 k0_t1 = 1#1), ∀ a x, ((![v247, v254] : Fin 2 → IVec S16 32) a x).toNat < S512x16.size a := fun k0_t1 v247 v254 k0_hw1060 k0_h7 => k0_hw1060 k0_h7

def k0_chk1061 (k0_t1 : Fin k0_t1_loop.trips) (v247 : IVec S16 32) (v256 : IVec S16 32) : Prop :=
  (∀ (k0_h7 : k0_cond7 k0_t1 = 1#1), ∀ a x, ((![v247, v256] : Fin 2 → IVec S16 32) a x).toNat < S512x16.size a)
theorem k0_idx1061_inb : ∀ (k0_t1 : Fin k0_t1_loop.trips) (v247 : IVec S16 32) (v256 : IVec S16 32) (k0_hw1061 : k0_chk1061 k0_t1 v247 v256), ∀ (k0_h7 : k0_cond7 k0_t1 = 1#1), ∀ a x, ((![v247, v256] : Fin 2 → IVec S16 32) a x).toNat < S512x16.size a := fun k0_t1 v247 v256 k0_hw1061 k0_h7 => k0_hw1061 k0_h7

def k0_chk1062 (k0_t1 : Fin k0_t1_loop.trips) (v247 : IVec S16 32) (v258 : IVec S16 32) : Prop :=
  (∀ (k0_h7 : k0_cond7 k0_t1 = 1#1), ∀ a x, ((![v247, v258] : Fin 2 → IVec S16 32) a x).toNat < S512x16.size a)
theorem k0_idx1062_inb : ∀ (k0_t1 : Fin k0_t1_loop.trips) (v247 : IVec S16 32) (v258 : IVec S16 32) (k0_hw1062 : k0_chk1062 k0_t1 v247 v258), ∀ (k0_h7 : k0_cond7 k0_t1 = 1#1), ∀ a x, ((![v247, v258] : Fin 2 → IVec S16 32) a x).toNat < S512x16.size a := fun k0_t1 v247 v258 k0_hw1062 k0_h7 => k0_hw1062 k0_h7

def k0_chk1063 (k0_t1 : Fin k0_t1_loop.trips) (v247 : IVec S16 32) (v260 : IVec S16 32) : Prop :=
  (∀ (k0_h7 : k0_cond7 k0_t1 = 1#1), ∀ a x, ((![v247, v260] : Fin 2 → IVec S16 32) a x).toNat < S512x16.size a)
theorem k0_idx1063_inb : ∀ (k0_t1 : Fin k0_t1_loop.trips) (v247 : IVec S16 32) (v260 : IVec S16 32) (k0_hw1063 : k0_chk1063 k0_t1 v247 v260), ∀ (k0_h7 : k0_cond7 k0_t1 = 1#1), ∀ a x, ((![v247, v260] : Fin 2 → IVec S16 32) a x).toNat < S512x16.size a := fun k0_t1 v247 v260 k0_hw1063 k0_h7 => k0_hw1063 k0_h7

def k0_chk1064 (k0_t1 : Fin k0_t1_loop.trips) (v247 : IVec S16 32) (v262 : IVec S16 32) : Prop :=
  (∀ (k0_h7 : k0_cond7 k0_t1 = 1#1), ∀ a x, ((![v247, v262] : Fin 2 → IVec S16 32) a x).toNat < S512x16.size a)
theorem k0_idx1064_inb : ∀ (k0_t1 : Fin k0_t1_loop.trips) (v247 : IVec S16 32) (v262 : IVec S16 32) (k0_hw1064 : k0_chk1064 k0_t1 v247 v262), ∀ (k0_h7 : k0_cond7 k0_t1 = 1#1), ∀ a x, ((![v247, v262] : Fin 2 → IVec S16 32) a x).toNat < S512x16.size a := fun k0_t1 v247 v262 k0_hw1064 k0_h7 => k0_hw1064 k0_h7

def k0_chk1065 (k0_t1 : Fin k0_t1_loop.trips) (v247 : IVec S16 32) (v264 : IVec S16 32) : Prop :=
  (∀ (k0_h7 : k0_cond7 k0_t1 = 1#1), ∀ a x, ((![v247, v264] : Fin 2 → IVec S16 32) a x).toNat < S512x16.size a)
theorem k0_idx1065_inb : ∀ (k0_t1 : Fin k0_t1_loop.trips) (v247 : IVec S16 32) (v264 : IVec S16 32) (k0_hw1065 : k0_chk1065 k0_t1 v247 v264), ∀ (k0_h7 : k0_cond7 k0_t1 = 1#1), ∀ a x, ((![v247, v264] : Fin 2 → IVec S16 32) a x).toNat < S512x16.size a := fun k0_t1 v247 v264 k0_hw1065 k0_h7 => k0_hw1065 k0_h7

def k0_chk1066 (k0_t1 : Fin k0_t1_loop.trips) (v247 : IVec S16 32) (v266 : IVec S16 32) : Prop :=
  (∀ (k0_h7 : k0_cond7 k0_t1 = 1#1), ∀ a x, ((![v247, v266] : Fin 2 → IVec S16 32) a x).toNat < S512x16.size a)
theorem k0_idx1066_inb : ∀ (k0_t1 : Fin k0_t1_loop.trips) (v247 : IVec S16 32) (v266 : IVec S16 32) (k0_hw1066 : k0_chk1066 k0_t1 v247 v266), ∀ (k0_h7 : k0_cond7 k0_t1 = 1#1), ∀ a x, ((![v247, v266] : Fin 2 → IVec S16 32) a x).toNat < S512x16.size a := fun k0_t1 v247 v266 k0_hw1066 k0_h7 => k0_hw1066 k0_h7

def k0_chk1067 (k0_t1 : Fin k0_t1_loop.trips) (v247 : IVec S16 32) (v268 : IVec S16 32) : Prop :=
  (∀ (k0_h7 : k0_cond7 k0_t1 = 1#1), ∀ a x, ((![v247, v268] : Fin 2 → IVec S16 32) a x).toNat < S512x16.size a)
theorem k0_idx1067_inb : ∀ (k0_t1 : Fin k0_t1_loop.trips) (v247 : IVec S16 32) (v268 : IVec S16 32) (k0_hw1067 : k0_chk1067 k0_t1 v247 v268), ∀ (k0_h7 : k0_cond7 k0_t1 = 1#1), ∀ a x, ((![v247, v268] : Fin 2 → IVec S16 32) a x).toNat < S512x16.size a := fun k0_t1 v247 v268 k0_hw1067 k0_h7 => k0_hw1067 k0_h7

def k0_chk1068 (k0_t1 : Fin k0_t1_loop.trips) (v247 : IVec S16 32) (v270 : IVec S16 32) : Prop :=
  (∀ (k0_h7 : k0_cond7 k0_t1 = 1#1), ∀ a x, ((![v247, v270] : Fin 2 → IVec S16 32) a x).toNat < S512x16.size a)
theorem k0_idx1068_inb : ∀ (k0_t1 : Fin k0_t1_loop.trips) (v247 : IVec S16 32) (v270 : IVec S16 32) (k0_hw1068 : k0_chk1068 k0_t1 v247 v270), ∀ (k0_h7 : k0_cond7 k0_t1 = 1#1), ∀ a x, ((![v247, v270] : Fin 2 → IVec S16 32) a x).toNat < S512x16.size a := fun k0_t1 v247 v270 k0_hw1068 k0_h7 => k0_hw1068 k0_h7

def k0_chk1069 (k0_t1 : Fin k0_t1_loop.trips) (v247 : IVec S16 32) (v272 : IVec S16 32) : Prop :=
  (∀ (k0_h7 : k0_cond7 k0_t1 = 1#1), ∀ a x, ((![v247, v272] : Fin 2 → IVec S16 32) a x).toNat < S512x16.size a)
theorem k0_idx1069_inb : ∀ (k0_t1 : Fin k0_t1_loop.trips) (v247 : IVec S16 32) (v272 : IVec S16 32) (k0_hw1069 : k0_chk1069 k0_t1 v247 v272), ∀ (k0_h7 : k0_cond7 k0_t1 = 1#1), ∀ a x, ((![v247, v272] : Fin 2 → IVec S16 32) a x).toNat < S512x16.size a := fun k0_t1 v247 v272 k0_hw1069 k0_h7 => k0_hw1069 k0_h7

def k0_chk1070 (k0_t1 : Fin k0_t1_loop.trips) (v247 : IVec S16 32) (v274 : IVec S16 32) : Prop :=
  (∀ (k0_h7 : k0_cond7 k0_t1 = 1#1), ∀ a x, ((![v247, v274] : Fin 2 → IVec S16 32) a x).toNat < S512x16.size a)
theorem k0_idx1070_inb : ∀ (k0_t1 : Fin k0_t1_loop.trips) (v247 : IVec S16 32) (v274 : IVec S16 32) (k0_hw1070 : k0_chk1070 k0_t1 v247 v274), ∀ (k0_h7 : k0_cond7 k0_t1 = 1#1), ∀ a x, ((![v247, v274] : Fin 2 → IVec S16 32) a x).toNat < S512x16.size a := fun k0_t1 v247 v274 k0_hw1070 k0_h7 => k0_hw1070 k0_h7

def k0_chk1071 (k0_t1 : Fin k0_t1_loop.trips) (v247 : IVec S16 32) (v276 : IVec S16 32) : Prop :=
  (∀ (k0_h7 : k0_cond7 k0_t1 = 1#1), ∀ a x, ((![v247, v276] : Fin 2 → IVec S16 32) a x).toNat < S512x16.size a)
theorem k0_idx1071_inb : ∀ (k0_t1 : Fin k0_t1_loop.trips) (v247 : IVec S16 32) (v276 : IVec S16 32) (k0_hw1071 : k0_chk1071 k0_t1 v247 v276), ∀ (k0_h7 : k0_cond7 k0_t1 = 1#1), ∀ a x, ((![v247, v276] : Fin 2 → IVec S16 32) a x).toNat < S512x16.size a := fun k0_t1 v247 v276 k0_hw1071 k0_h7 => k0_hw1071 k0_h7

def k0_chk1072 (k0_t1 : Fin k0_t1_loop.trips) (v247 : IVec S16 32) (v278 : IVec S16 32) : Prop :=
  (∀ (k0_h7 : k0_cond7 k0_t1 = 1#1), ∀ a x, ((![v247, v278] : Fin 2 → IVec S16 32) a x).toNat < S512x16.size a)
theorem k0_idx1072_inb : ∀ (k0_t1 : Fin k0_t1_loop.trips) (v247 : IVec S16 32) (v278 : IVec S16 32) (k0_hw1072 : k0_chk1072 k0_t1 v247 v278), ∀ (k0_h7 : k0_cond7 k0_t1 = 1#1), ∀ a x, ((![v247, v278] : Fin 2 → IVec S16 32) a x).toNat < S512x16.size a := fun k0_t1 v247 v278 k0_hw1072 k0_h7 => k0_hw1072 k0_h7

def k0_chk1073 (k0_t1 : Fin k0_t1_loop.trips) (v346 : IVec S16 32) (v347 : IVec S16 32) : Prop :=
  (∀ (k0_h7 : k0_cond7 k0_t1 = 1#1), ∀ a x, ((![v346, v347] : Fin 2 → IVec S16 32) a x).toNat < S512x16.size a)
theorem k0_idx1073_inb : ∀ (k0_t1 : Fin k0_t1_loop.trips) (v346 : IVec S16 32) (v347 : IVec S16 32) (k0_hw1073 : k0_chk1073 k0_t1 v346 v347), ∀ (k0_h7 : k0_cond7 k0_t1 = 1#1), ∀ a x, ((![v346, v347] : Fin 2 → IVec S16 32) a x).toNat < S512x16.size a := fun k0_t1 v346 v347 k0_hw1073 k0_h7 => k0_hw1073 k0_h7

def k0_chk1074 (k0_t1 : Fin k0_t1_loop.trips) (v346 : IVec S16 32) (v349 : IVec S16 32) : Prop :=
  (∀ (k0_h7 : k0_cond7 k0_t1 = 1#1), ∀ a x, ((![v346, v349] : Fin 2 → IVec S16 32) a x).toNat < S512x16.size a)
theorem k0_idx1074_inb : ∀ (k0_t1 : Fin k0_t1_loop.trips) (v346 : IVec S16 32) (v349 : IVec S16 32) (k0_hw1074 : k0_chk1074 k0_t1 v346 v349), ∀ (k0_h7 : k0_cond7 k0_t1 = 1#1), ∀ a x, ((![v346, v349] : Fin 2 → IVec S16 32) a x).toNat < S512x16.size a := fun k0_t1 v346 v349 k0_hw1074 k0_h7 => k0_hw1074 k0_h7

def k0_chk1075 (k0_t1 : Fin k0_t1_loop.trips) (v346 : IVec S16 32) (v351 : IVec S16 32) : Prop :=
  (∀ (k0_h7 : k0_cond7 k0_t1 = 1#1), ∀ a x, ((![v346, v351] : Fin 2 → IVec S16 32) a x).toNat < S512x16.size a)
theorem k0_idx1075_inb : ∀ (k0_t1 : Fin k0_t1_loop.trips) (v346 : IVec S16 32) (v351 : IVec S16 32) (k0_hw1075 : k0_chk1075 k0_t1 v346 v351), ∀ (k0_h7 : k0_cond7 k0_t1 = 1#1), ∀ a x, ((![v346, v351] : Fin 2 → IVec S16 32) a x).toNat < S512x16.size a := fun k0_t1 v346 v351 k0_hw1075 k0_h7 => k0_hw1075 k0_h7

def k0_chk1076 (k0_t1 : Fin k0_t1_loop.trips) (v346 : IVec S16 32) (v353 : IVec S16 32) : Prop :=
  (∀ (k0_h7 : k0_cond7 k0_t1 = 1#1), ∀ a x, ((![v346, v353] : Fin 2 → IVec S16 32) a x).toNat < S512x16.size a)
theorem k0_idx1076_inb : ∀ (k0_t1 : Fin k0_t1_loop.trips) (v346 : IVec S16 32) (v353 : IVec S16 32) (k0_hw1076 : k0_chk1076 k0_t1 v346 v353), ∀ (k0_h7 : k0_cond7 k0_t1 = 1#1), ∀ a x, ((![v346, v353] : Fin 2 → IVec S16 32) a x).toNat < S512x16.size a := fun k0_t1 v346 v353 k0_hw1076 k0_h7 => k0_hw1076 k0_h7

def k0_chk1077 (k0_t1 : Fin k0_t1_loop.trips) (v346 : IVec S16 32) (v355 : IVec S16 32) : Prop :=
  (∀ (k0_h7 : k0_cond7 k0_t1 = 1#1), ∀ a x, ((![v346, v355] : Fin 2 → IVec S16 32) a x).toNat < S512x16.size a)
theorem k0_idx1077_inb : ∀ (k0_t1 : Fin k0_t1_loop.trips) (v346 : IVec S16 32) (v355 : IVec S16 32) (k0_hw1077 : k0_chk1077 k0_t1 v346 v355), ∀ (k0_h7 : k0_cond7 k0_t1 = 1#1), ∀ a x, ((![v346, v355] : Fin 2 → IVec S16 32) a x).toNat < S512x16.size a := fun k0_t1 v346 v355 k0_hw1077 k0_h7 => k0_hw1077 k0_h7

def k0_chk1078 (k0_t1 : Fin k0_t1_loop.trips) (v346 : IVec S16 32) (v357 : IVec S16 32) : Prop :=
  (∀ (k0_h7 : k0_cond7 k0_t1 = 1#1), ∀ a x, ((![v346, v357] : Fin 2 → IVec S16 32) a x).toNat < S512x16.size a)
theorem k0_idx1078_inb : ∀ (k0_t1 : Fin k0_t1_loop.trips) (v346 : IVec S16 32) (v357 : IVec S16 32) (k0_hw1078 : k0_chk1078 k0_t1 v346 v357), ∀ (k0_h7 : k0_cond7 k0_t1 = 1#1), ∀ a x, ((![v346, v357] : Fin 2 → IVec S16 32) a x).toNat < S512x16.size a := fun k0_t1 v346 v357 k0_hw1078 k0_h7 => k0_hw1078 k0_h7

def k0_chk1079 (k0_t1 : Fin k0_t1_loop.trips) (v346 : IVec S16 32) (v359 : IVec S16 32) : Prop :=
  (∀ (k0_h7 : k0_cond7 k0_t1 = 1#1), ∀ a x, ((![v346, v359] : Fin 2 → IVec S16 32) a x).toNat < S512x16.size a)
theorem k0_idx1079_inb : ∀ (k0_t1 : Fin k0_t1_loop.trips) (v346 : IVec S16 32) (v359 : IVec S16 32) (k0_hw1079 : k0_chk1079 k0_t1 v346 v359), ∀ (k0_h7 : k0_cond7 k0_t1 = 1#1), ∀ a x, ((![v346, v359] : Fin 2 → IVec S16 32) a x).toNat < S512x16.size a := fun k0_t1 v346 v359 k0_hw1079 k0_h7 => k0_hw1079 k0_h7

def k0_chk1080 (k0_t1 : Fin k0_t1_loop.trips) (v346 : IVec S16 32) (v361 : IVec S16 32) : Prop :=
  (∀ (k0_h7 : k0_cond7 k0_t1 = 1#1), ∀ a x, ((![v346, v361] : Fin 2 → IVec S16 32) a x).toNat < S512x16.size a)
theorem k0_idx1080_inb : ∀ (k0_t1 : Fin k0_t1_loop.trips) (v346 : IVec S16 32) (v361 : IVec S16 32) (k0_hw1080 : k0_chk1080 k0_t1 v346 v361), ∀ (k0_h7 : k0_cond7 k0_t1 = 1#1), ∀ a x, ((![v346, v361] : Fin 2 → IVec S16 32) a x).toNat < S512x16.size a := fun k0_t1 v346 v361 k0_hw1080 k0_h7 => k0_hw1080 k0_h7

def k0_chk1081 (k0_t1 : Fin k0_t1_loop.trips) (v346 : IVec S16 32) (v363 : IVec S16 32) : Prop :=
  (∀ (k0_h7 : k0_cond7 k0_t1 = 1#1), ∀ a x, ((![v346, v363] : Fin 2 → IVec S16 32) a x).toNat < S512x16.size a)
theorem k0_idx1081_inb : ∀ (k0_t1 : Fin k0_t1_loop.trips) (v346 : IVec S16 32) (v363 : IVec S16 32) (k0_hw1081 : k0_chk1081 k0_t1 v346 v363), ∀ (k0_h7 : k0_cond7 k0_t1 = 1#1), ∀ a x, ((![v346, v363] : Fin 2 → IVec S16 32) a x).toNat < S512x16.size a := fun k0_t1 v346 v363 k0_hw1081 k0_h7 => k0_hw1081 k0_h7

def k0_chk1082 (k0_t1 : Fin k0_t1_loop.trips) (v346 : IVec S16 32) (v365 : IVec S16 32) : Prop :=
  (∀ (k0_h7 : k0_cond7 k0_t1 = 1#1), ∀ a x, ((![v346, v365] : Fin 2 → IVec S16 32) a x).toNat < S512x16.size a)
theorem k0_idx1082_inb : ∀ (k0_t1 : Fin k0_t1_loop.trips) (v346 : IVec S16 32) (v365 : IVec S16 32) (k0_hw1082 : k0_chk1082 k0_t1 v346 v365), ∀ (k0_h7 : k0_cond7 k0_t1 = 1#1), ∀ a x, ((![v346, v365] : Fin 2 → IVec S16 32) a x).toNat < S512x16.size a := fun k0_t1 v346 v365 k0_hw1082 k0_h7 => k0_hw1082 k0_h7

def k0_chk1083 (k0_t1 : Fin k0_t1_loop.trips) (v346 : IVec S16 32) (v367 : IVec S16 32) : Prop :=
  (∀ (k0_h7 : k0_cond7 k0_t1 = 1#1), ∀ a x, ((![v346, v367] : Fin 2 → IVec S16 32) a x).toNat < S512x16.size a)
theorem k0_idx1083_inb : ∀ (k0_t1 : Fin k0_t1_loop.trips) (v346 : IVec S16 32) (v367 : IVec S16 32) (k0_hw1083 : k0_chk1083 k0_t1 v346 v367), ∀ (k0_h7 : k0_cond7 k0_t1 = 1#1), ∀ a x, ((![v346, v367] : Fin 2 → IVec S16 32) a x).toNat < S512x16.size a := fun k0_t1 v346 v367 k0_hw1083 k0_h7 => k0_hw1083 k0_h7

def k0_chk1084 (k0_t1 : Fin k0_t1_loop.trips) (v346 : IVec S16 32) (v369 : IVec S16 32) : Prop :=
  (∀ (k0_h7 : k0_cond7 k0_t1 = 1#1), ∀ a x, ((![v346, v369] : Fin 2 → IVec S16 32) a x).toNat < S512x16.size a)
theorem k0_idx1084_inb : ∀ (k0_t1 : Fin k0_t1_loop.trips) (v346 : IVec S16 32) (v369 : IVec S16 32) (k0_hw1084 : k0_chk1084 k0_t1 v346 v369), ∀ (k0_h7 : k0_cond7 k0_t1 = 1#1), ∀ a x, ((![v346, v369] : Fin 2 → IVec S16 32) a x).toNat < S512x16.size a := fun k0_t1 v346 v369 k0_hw1084 k0_h7 => k0_hw1084 k0_h7

def k0_chk1085 (k0_t1 : Fin k0_t1_loop.trips) (v346 : IVec S16 32) (v371 : IVec S16 32) : Prop :=
  (∀ (k0_h7 : k0_cond7 k0_t1 = 1#1), ∀ a x, ((![v346, v371] : Fin 2 → IVec S16 32) a x).toNat < S512x16.size a)
theorem k0_idx1085_inb : ∀ (k0_t1 : Fin k0_t1_loop.trips) (v346 : IVec S16 32) (v371 : IVec S16 32) (k0_hw1085 : k0_chk1085 k0_t1 v346 v371), ∀ (k0_h7 : k0_cond7 k0_t1 = 1#1), ∀ a x, ((![v346, v371] : Fin 2 → IVec S16 32) a x).toNat < S512x16.size a := fun k0_t1 v346 v371 k0_hw1085 k0_h7 => k0_hw1085 k0_h7

def k0_chk1086 (k0_t1 : Fin k0_t1_loop.trips) (v346 : IVec S16 32) (v373 : IVec S16 32) : Prop :=
  (∀ (k0_h7 : k0_cond7 k0_t1 = 1#1), ∀ a x, ((![v346, v373] : Fin 2 → IVec S16 32) a x).toNat < S512x16.size a)
theorem k0_idx1086_inb : ∀ (k0_t1 : Fin k0_t1_loop.trips) (v346 : IVec S16 32) (v373 : IVec S16 32) (k0_hw1086 : k0_chk1086 k0_t1 v346 v373), ∀ (k0_h7 : k0_cond7 k0_t1 = 1#1), ∀ a x, ((![v346, v373] : Fin 2 → IVec S16 32) a x).toNat < S512x16.size a := fun k0_t1 v346 v373 k0_hw1086 k0_h7 => k0_hw1086 k0_h7

def k0_chk1087 (k0_t1 : Fin k0_t1_loop.trips) (v346 : IVec S16 32) (v375 : IVec S16 32) : Prop :=
  (∀ (k0_h7 : k0_cond7 k0_t1 = 1#1), ∀ a x, ((![v346, v375] : Fin 2 → IVec S16 32) a x).toNat < S512x16.size a)
theorem k0_idx1087_inb : ∀ (k0_t1 : Fin k0_t1_loop.trips) (v346 : IVec S16 32) (v375 : IVec S16 32) (k0_hw1087 : k0_chk1087 k0_t1 v346 v375), ∀ (k0_h7 : k0_cond7 k0_t1 = 1#1), ∀ a x, ((![v346, v375] : Fin 2 → IVec S16 32) a x).toNat < S512x16.size a := fun k0_t1 v346 v375 k0_hw1087 k0_h7 => k0_hw1087 k0_h7

def k0_chk1088 (k0_t1 : Fin k0_t1_loop.trips) (v346 : IVec S16 32) (v377 : IVec S16 32) : Prop :=
  (∀ (k0_h7 : k0_cond7 k0_t1 = 1#1), ∀ a x, ((![v346, v377] : Fin 2 → IVec S16 32) a x).toNat < S512x16.size a)
theorem k0_idx1088_inb : ∀ (k0_t1 : Fin k0_t1_loop.trips) (v346 : IVec S16 32) (v377 : IVec S16 32) (k0_hw1088 : k0_chk1088 k0_t1 v346 v377), ∀ (k0_h7 : k0_cond7 k0_t1 = 1#1), ∀ a x, ((![v346, v377] : Fin 2 → IVec S16 32) a x).toNat < S512x16.size a := fun k0_t1 v346 v377 k0_hw1088 k0_h7 => k0_hw1088 k0_h7

def k0_chk1089 (k0_t1 : Fin k0_t1_loop.trips) (v445 : IVec S16 32) (v446 : IVec S16 32) : Prop :=
  (∀ (k0_h7 : k0_cond7 k0_t1 = 1#1), ∀ a x, ((![v445, v446] : Fin 2 → IVec S16 32) a x).toNat < S512x16.size a)
theorem k0_idx1089_inb : ∀ (k0_t1 : Fin k0_t1_loop.trips) (v445 : IVec S16 32) (v446 : IVec S16 32) (k0_hw1089 : k0_chk1089 k0_t1 v445 v446), ∀ (k0_h7 : k0_cond7 k0_t1 = 1#1), ∀ a x, ((![v445, v446] : Fin 2 → IVec S16 32) a x).toNat < S512x16.size a := fun k0_t1 v445 v446 k0_hw1089 k0_h7 => k0_hw1089 k0_h7

def k0_chk1090 (k0_t1 : Fin k0_t1_loop.trips) (v445 : IVec S16 32) (v448 : IVec S16 32) : Prop :=
  (∀ (k0_h7 : k0_cond7 k0_t1 = 1#1), ∀ a x, ((![v445, v448] : Fin 2 → IVec S16 32) a x).toNat < S512x16.size a)
theorem k0_idx1090_inb : ∀ (k0_t1 : Fin k0_t1_loop.trips) (v445 : IVec S16 32) (v448 : IVec S16 32) (k0_hw1090 : k0_chk1090 k0_t1 v445 v448), ∀ (k0_h7 : k0_cond7 k0_t1 = 1#1), ∀ a x, ((![v445, v448] : Fin 2 → IVec S16 32) a x).toNat < S512x16.size a := fun k0_t1 v445 v448 k0_hw1090 k0_h7 => k0_hw1090 k0_h7

def k0_chk1091 (k0_t1 : Fin k0_t1_loop.trips) (v445 : IVec S16 32) (v450 : IVec S16 32) : Prop :=
  (∀ (k0_h7 : k0_cond7 k0_t1 = 1#1), ∀ a x, ((![v445, v450] : Fin 2 → IVec S16 32) a x).toNat < S512x16.size a)
theorem k0_idx1091_inb : ∀ (k0_t1 : Fin k0_t1_loop.trips) (v445 : IVec S16 32) (v450 : IVec S16 32) (k0_hw1091 : k0_chk1091 k0_t1 v445 v450), ∀ (k0_h7 : k0_cond7 k0_t1 = 1#1), ∀ a x, ((![v445, v450] : Fin 2 → IVec S16 32) a x).toNat < S512x16.size a := fun k0_t1 v445 v450 k0_hw1091 k0_h7 => k0_hw1091 k0_h7

def k0_chk1092 (k0_t1 : Fin k0_t1_loop.trips) (v445 : IVec S16 32) (v452 : IVec S16 32) : Prop :=
  (∀ (k0_h7 : k0_cond7 k0_t1 = 1#1), ∀ a x, ((![v445, v452] : Fin 2 → IVec S16 32) a x).toNat < S512x16.size a)
theorem k0_idx1092_inb : ∀ (k0_t1 : Fin k0_t1_loop.trips) (v445 : IVec S16 32) (v452 : IVec S16 32) (k0_hw1092 : k0_chk1092 k0_t1 v445 v452), ∀ (k0_h7 : k0_cond7 k0_t1 = 1#1), ∀ a x, ((![v445, v452] : Fin 2 → IVec S16 32) a x).toNat < S512x16.size a := fun k0_t1 v445 v452 k0_hw1092 k0_h7 => k0_hw1092 k0_h7

def k0_chk1093 (k0_t1 : Fin k0_t1_loop.trips) (v445 : IVec S16 32) (v454 : IVec S16 32) : Prop :=
  (∀ (k0_h7 : k0_cond7 k0_t1 = 1#1), ∀ a x, ((![v445, v454] : Fin 2 → IVec S16 32) a x).toNat < S512x16.size a)
theorem k0_idx1093_inb : ∀ (k0_t1 : Fin k0_t1_loop.trips) (v445 : IVec S16 32) (v454 : IVec S16 32) (k0_hw1093 : k0_chk1093 k0_t1 v445 v454), ∀ (k0_h7 : k0_cond7 k0_t1 = 1#1), ∀ a x, ((![v445, v454] : Fin 2 → IVec S16 32) a x).toNat < S512x16.size a := fun k0_t1 v445 v454 k0_hw1093 k0_h7 => k0_hw1093 k0_h7

def k0_chk1094 (k0_t1 : Fin k0_t1_loop.trips) (v445 : IVec S16 32) (v456 : IVec S16 32) : Prop :=
  (∀ (k0_h7 : k0_cond7 k0_t1 = 1#1), ∀ a x, ((![v445, v456] : Fin 2 → IVec S16 32) a x).toNat < S512x16.size a)
theorem k0_idx1094_inb : ∀ (k0_t1 : Fin k0_t1_loop.trips) (v445 : IVec S16 32) (v456 : IVec S16 32) (k0_hw1094 : k0_chk1094 k0_t1 v445 v456), ∀ (k0_h7 : k0_cond7 k0_t1 = 1#1), ∀ a x, ((![v445, v456] : Fin 2 → IVec S16 32) a x).toNat < S512x16.size a := fun k0_t1 v445 v456 k0_hw1094 k0_h7 => k0_hw1094 k0_h7

def k0_chk1095 (k0_t1 : Fin k0_t1_loop.trips) (v445 : IVec S16 32) (v458 : IVec S16 32) : Prop :=
  (∀ (k0_h7 : k0_cond7 k0_t1 = 1#1), ∀ a x, ((![v445, v458] : Fin 2 → IVec S16 32) a x).toNat < S512x16.size a)
theorem k0_idx1095_inb : ∀ (k0_t1 : Fin k0_t1_loop.trips) (v445 : IVec S16 32) (v458 : IVec S16 32) (k0_hw1095 : k0_chk1095 k0_t1 v445 v458), ∀ (k0_h7 : k0_cond7 k0_t1 = 1#1), ∀ a x, ((![v445, v458] : Fin 2 → IVec S16 32) a x).toNat < S512x16.size a := fun k0_t1 v445 v458 k0_hw1095 k0_h7 => k0_hw1095 k0_h7

def k0_chk1096 (k0_t1 : Fin k0_t1_loop.trips) (v445 : IVec S16 32) (v460 : IVec S16 32) : Prop :=
  (∀ (k0_h7 : k0_cond7 k0_t1 = 1#1), ∀ a x, ((![v445, v460] : Fin 2 → IVec S16 32) a x).toNat < S512x16.size a)
theorem k0_idx1096_inb : ∀ (k0_t1 : Fin k0_t1_loop.trips) (v445 : IVec S16 32) (v460 : IVec S16 32) (k0_hw1096 : k0_chk1096 k0_t1 v445 v460), ∀ (k0_h7 : k0_cond7 k0_t1 = 1#1), ∀ a x, ((![v445, v460] : Fin 2 → IVec S16 32) a x).toNat < S512x16.size a := fun k0_t1 v445 v460 k0_hw1096 k0_h7 => k0_hw1096 k0_h7

def k0_chk1097 (k0_t1 : Fin k0_t1_loop.trips) (v445 : IVec S16 32) (v462 : IVec S16 32) : Prop :=
  (∀ (k0_h7 : k0_cond7 k0_t1 = 1#1), ∀ a x, ((![v445, v462] : Fin 2 → IVec S16 32) a x).toNat < S512x16.size a)
theorem k0_idx1097_inb : ∀ (k0_t1 : Fin k0_t1_loop.trips) (v445 : IVec S16 32) (v462 : IVec S16 32) (k0_hw1097 : k0_chk1097 k0_t1 v445 v462), ∀ (k0_h7 : k0_cond7 k0_t1 = 1#1), ∀ a x, ((![v445, v462] : Fin 2 → IVec S16 32) a x).toNat < S512x16.size a := fun k0_t1 v445 v462 k0_hw1097 k0_h7 => k0_hw1097 k0_h7

def k0_chk1098 (k0_t1 : Fin k0_t1_loop.trips) (v445 : IVec S16 32) (v464 : IVec S16 32) : Prop :=
  (∀ (k0_h7 : k0_cond7 k0_t1 = 1#1), ∀ a x, ((![v445, v464] : Fin 2 → IVec S16 32) a x).toNat < S512x16.size a)
theorem k0_idx1098_inb : ∀ (k0_t1 : Fin k0_t1_loop.trips) (v445 : IVec S16 32) (v464 : IVec S16 32) (k0_hw1098 : k0_chk1098 k0_t1 v445 v464), ∀ (k0_h7 : k0_cond7 k0_t1 = 1#1), ∀ a x, ((![v445, v464] : Fin 2 → IVec S16 32) a x).toNat < S512x16.size a := fun k0_t1 v445 v464 k0_hw1098 k0_h7 => k0_hw1098 k0_h7

def k0_chk1099 (k0_t1 : Fin k0_t1_loop.trips) (v445 : IVec S16 32) (v466 : IVec S16 32) : Prop :=
  (∀ (k0_h7 : k0_cond7 k0_t1 = 1#1), ∀ a x, ((![v445, v466] : Fin 2 → IVec S16 32) a x).toNat < S512x16.size a)
theorem k0_idx1099_inb : ∀ (k0_t1 : Fin k0_t1_loop.trips) (v445 : IVec S16 32) (v466 : IVec S16 32) (k0_hw1099 : k0_chk1099 k0_t1 v445 v466), ∀ (k0_h7 : k0_cond7 k0_t1 = 1#1), ∀ a x, ((![v445, v466] : Fin 2 → IVec S16 32) a x).toNat < S512x16.size a := fun k0_t1 v445 v466 k0_hw1099 k0_h7 => k0_hw1099 k0_h7

def k0_chk1100 (k0_t1 : Fin k0_t1_loop.trips) (v445 : IVec S16 32) (v468 : IVec S16 32) : Prop :=
  (∀ (k0_h7 : k0_cond7 k0_t1 = 1#1), ∀ a x, ((![v445, v468] : Fin 2 → IVec S16 32) a x).toNat < S512x16.size a)
theorem k0_idx1100_inb : ∀ (k0_t1 : Fin k0_t1_loop.trips) (v445 : IVec S16 32) (v468 : IVec S16 32) (k0_hw1100 : k0_chk1100 k0_t1 v445 v468), ∀ (k0_h7 : k0_cond7 k0_t1 = 1#1), ∀ a x, ((![v445, v468] : Fin 2 → IVec S16 32) a x).toNat < S512x16.size a := fun k0_t1 v445 v468 k0_hw1100 k0_h7 => k0_hw1100 k0_h7

def k0_chk1101 (k0_t1 : Fin k0_t1_loop.trips) (v445 : IVec S16 32) (v470 : IVec S16 32) : Prop :=
  (∀ (k0_h7 : k0_cond7 k0_t1 = 1#1), ∀ a x, ((![v445, v470] : Fin 2 → IVec S16 32) a x).toNat < S512x16.size a)
theorem k0_idx1101_inb : ∀ (k0_t1 : Fin k0_t1_loop.trips) (v445 : IVec S16 32) (v470 : IVec S16 32) (k0_hw1101 : k0_chk1101 k0_t1 v445 v470), ∀ (k0_h7 : k0_cond7 k0_t1 = 1#1), ∀ a x, ((![v445, v470] : Fin 2 → IVec S16 32) a x).toNat < S512x16.size a := fun k0_t1 v445 v470 k0_hw1101 k0_h7 => k0_hw1101 k0_h7

def k0_chk1102 (k0_t1 : Fin k0_t1_loop.trips) (v445 : IVec S16 32) (v472 : IVec S16 32) : Prop :=
  (∀ (k0_h7 : k0_cond7 k0_t1 = 1#1), ∀ a x, ((![v445, v472] : Fin 2 → IVec S16 32) a x).toNat < S512x16.size a)
theorem k0_idx1102_inb : ∀ (k0_t1 : Fin k0_t1_loop.trips) (v445 : IVec S16 32) (v472 : IVec S16 32) (k0_hw1102 : k0_chk1102 k0_t1 v445 v472), ∀ (k0_h7 : k0_cond7 k0_t1 = 1#1), ∀ a x, ((![v445, v472] : Fin 2 → IVec S16 32) a x).toNat < S512x16.size a := fun k0_t1 v445 v472 k0_hw1102 k0_h7 => k0_hw1102 k0_h7

def k0_chk1103 (k0_t1 : Fin k0_t1_loop.trips) (v445 : IVec S16 32) (v474 : IVec S16 32) : Prop :=
  (∀ (k0_h7 : k0_cond7 k0_t1 = 1#1), ∀ a x, ((![v445, v474] : Fin 2 → IVec S16 32) a x).toNat < S512x16.size a)
theorem k0_idx1103_inb : ∀ (k0_t1 : Fin k0_t1_loop.trips) (v445 : IVec S16 32) (v474 : IVec S16 32) (k0_hw1103 : k0_chk1103 k0_t1 v445 v474), ∀ (k0_h7 : k0_cond7 k0_t1 = 1#1), ∀ a x, ((![v445, v474] : Fin 2 → IVec S16 32) a x).toNat < S512x16.size a := fun k0_t1 v445 v474 k0_hw1103 k0_h7 => k0_hw1103 k0_h7

def k0_chk1104 (k0_t1 : Fin k0_t1_loop.trips) (v445 : IVec S16 32) (v476 : IVec S16 32) : Prop :=
  (∀ (k0_h7 : k0_cond7 k0_t1 = 1#1), ∀ a x, ((![v445, v476] : Fin 2 → IVec S16 32) a x).toNat < S512x16.size a)
theorem k0_idx1104_inb : ∀ (k0_t1 : Fin k0_t1_loop.trips) (v445 : IVec S16 32) (v476 : IVec S16 32) (k0_hw1104 : k0_chk1104 k0_t1 v445 v476), ∀ (k0_h7 : k0_cond7 k0_t1 = 1#1), ∀ a x, ((![v445, v476] : Fin 2 → IVec S16 32) a x).toNat < S512x16.size a := fun k0_t1 v445 v476 k0_hw1104 k0_h7 => k0_hw1104 k0_h7

def k0_chk1105 (k0_t1 : Fin k0_t1_loop.trips) (v544 : IVec S16 32) (v545 : IVec S16 32) : Prop :=
  (∀ (k0_h7 : k0_cond7 k0_t1 = 1#1), ∀ a x, ((![v544, v545] : Fin 2 → IVec S16 32) a x).toNat < S512x16.size a)
theorem k0_idx1105_inb : ∀ (k0_t1 : Fin k0_t1_loop.trips) (v544 : IVec S16 32) (v545 : IVec S16 32) (k0_hw1105 : k0_chk1105 k0_t1 v544 v545), ∀ (k0_h7 : k0_cond7 k0_t1 = 1#1), ∀ a x, ((![v544, v545] : Fin 2 → IVec S16 32) a x).toNat < S512x16.size a := fun k0_t1 v544 v545 k0_hw1105 k0_h7 => k0_hw1105 k0_h7

def k0_chk1106 (k0_t1 : Fin k0_t1_loop.trips) (v544 : IVec S16 32) (v547 : IVec S16 32) : Prop :=
  (∀ (k0_h7 : k0_cond7 k0_t1 = 1#1), ∀ a x, ((![v544, v547] : Fin 2 → IVec S16 32) a x).toNat < S512x16.size a)
theorem k0_idx1106_inb : ∀ (k0_t1 : Fin k0_t1_loop.trips) (v544 : IVec S16 32) (v547 : IVec S16 32) (k0_hw1106 : k0_chk1106 k0_t1 v544 v547), ∀ (k0_h7 : k0_cond7 k0_t1 = 1#1), ∀ a x, ((![v544, v547] : Fin 2 → IVec S16 32) a x).toNat < S512x16.size a := fun k0_t1 v544 v547 k0_hw1106 k0_h7 => k0_hw1106 k0_h7

def k0_chk1107 (k0_t1 : Fin k0_t1_loop.trips) (v544 : IVec S16 32) (v549 : IVec S16 32) : Prop :=
  (∀ (k0_h7 : k0_cond7 k0_t1 = 1#1), ∀ a x, ((![v544, v549] : Fin 2 → IVec S16 32) a x).toNat < S512x16.size a)
theorem k0_idx1107_inb : ∀ (k0_t1 : Fin k0_t1_loop.trips) (v544 : IVec S16 32) (v549 : IVec S16 32) (k0_hw1107 : k0_chk1107 k0_t1 v544 v549), ∀ (k0_h7 : k0_cond7 k0_t1 = 1#1), ∀ a x, ((![v544, v549] : Fin 2 → IVec S16 32) a x).toNat < S512x16.size a := fun k0_t1 v544 v549 k0_hw1107 k0_h7 => k0_hw1107 k0_h7

def k0_chk1108 (k0_t1 : Fin k0_t1_loop.trips) (v544 : IVec S16 32) (v551 : IVec S16 32) : Prop :=
  (∀ (k0_h7 : k0_cond7 k0_t1 = 1#1), ∀ a x, ((![v544, v551] : Fin 2 → IVec S16 32) a x).toNat < S512x16.size a)
theorem k0_idx1108_inb : ∀ (k0_t1 : Fin k0_t1_loop.trips) (v544 : IVec S16 32) (v551 : IVec S16 32) (k0_hw1108 : k0_chk1108 k0_t1 v544 v551), ∀ (k0_h7 : k0_cond7 k0_t1 = 1#1), ∀ a x, ((![v544, v551] : Fin 2 → IVec S16 32) a x).toNat < S512x16.size a := fun k0_t1 v544 v551 k0_hw1108 k0_h7 => k0_hw1108 k0_h7

def k0_chk1109 (k0_t1 : Fin k0_t1_loop.trips) (v544 : IVec S16 32) (v553 : IVec S16 32) : Prop :=
  (∀ (k0_h7 : k0_cond7 k0_t1 = 1#1), ∀ a x, ((![v544, v553] : Fin 2 → IVec S16 32) a x).toNat < S512x16.size a)
theorem k0_idx1109_inb : ∀ (k0_t1 : Fin k0_t1_loop.trips) (v544 : IVec S16 32) (v553 : IVec S16 32) (k0_hw1109 : k0_chk1109 k0_t1 v544 v553), ∀ (k0_h7 : k0_cond7 k0_t1 = 1#1), ∀ a x, ((![v544, v553] : Fin 2 → IVec S16 32) a x).toNat < S512x16.size a := fun k0_t1 v544 v553 k0_hw1109 k0_h7 => k0_hw1109 k0_h7

def k0_chk1110 (k0_t1 : Fin k0_t1_loop.trips) (v544 : IVec S16 32) (v555 : IVec S16 32) : Prop :=
  (∀ (k0_h7 : k0_cond7 k0_t1 = 1#1), ∀ a x, ((![v544, v555] : Fin 2 → IVec S16 32) a x).toNat < S512x16.size a)
theorem k0_idx1110_inb : ∀ (k0_t1 : Fin k0_t1_loop.trips) (v544 : IVec S16 32) (v555 : IVec S16 32) (k0_hw1110 : k0_chk1110 k0_t1 v544 v555), ∀ (k0_h7 : k0_cond7 k0_t1 = 1#1), ∀ a x, ((![v544, v555] : Fin 2 → IVec S16 32) a x).toNat < S512x16.size a := fun k0_t1 v544 v555 k0_hw1110 k0_h7 => k0_hw1110 k0_h7

def k0_chk1111 (k0_t1 : Fin k0_t1_loop.trips) (v544 : IVec S16 32) (v557 : IVec S16 32) : Prop :=
  (∀ (k0_h7 : k0_cond7 k0_t1 = 1#1), ∀ a x, ((![v544, v557] : Fin 2 → IVec S16 32) a x).toNat < S512x16.size a)
theorem k0_idx1111_inb : ∀ (k0_t1 : Fin k0_t1_loop.trips) (v544 : IVec S16 32) (v557 : IVec S16 32) (k0_hw1111 : k0_chk1111 k0_t1 v544 v557), ∀ (k0_h7 : k0_cond7 k0_t1 = 1#1), ∀ a x, ((![v544, v557] : Fin 2 → IVec S16 32) a x).toNat < S512x16.size a := fun k0_t1 v544 v557 k0_hw1111 k0_h7 => k0_hw1111 k0_h7

def k0_chk1112 (k0_t1 : Fin k0_t1_loop.trips) (v544 : IVec S16 32) (v559 : IVec S16 32) : Prop :=
  (∀ (k0_h7 : k0_cond7 k0_t1 = 1#1), ∀ a x, ((![v544, v559] : Fin 2 → IVec S16 32) a x).toNat < S512x16.size a)
theorem k0_idx1112_inb : ∀ (k0_t1 : Fin k0_t1_loop.trips) (v544 : IVec S16 32) (v559 : IVec S16 32) (k0_hw1112 : k0_chk1112 k0_t1 v544 v559), ∀ (k0_h7 : k0_cond7 k0_t1 = 1#1), ∀ a x, ((![v544, v559] : Fin 2 → IVec S16 32) a x).toNat < S512x16.size a := fun k0_t1 v544 v559 k0_hw1112 k0_h7 => k0_hw1112 k0_h7

def k0_chk1113 (k0_t1 : Fin k0_t1_loop.trips) (v544 : IVec S16 32) (v561 : IVec S16 32) : Prop :=
  (∀ (k0_h7 : k0_cond7 k0_t1 = 1#1), ∀ a x, ((![v544, v561] : Fin 2 → IVec S16 32) a x).toNat < S512x16.size a)
theorem k0_idx1113_inb : ∀ (k0_t1 : Fin k0_t1_loop.trips) (v544 : IVec S16 32) (v561 : IVec S16 32) (k0_hw1113 : k0_chk1113 k0_t1 v544 v561), ∀ (k0_h7 : k0_cond7 k0_t1 = 1#1), ∀ a x, ((![v544, v561] : Fin 2 → IVec S16 32) a x).toNat < S512x16.size a := fun k0_t1 v544 v561 k0_hw1113 k0_h7 => k0_hw1113 k0_h7

def k0_chk1114 (k0_t1 : Fin k0_t1_loop.trips) (v544 : IVec S16 32) (v563 : IVec S16 32) : Prop :=
  (∀ (k0_h7 : k0_cond7 k0_t1 = 1#1), ∀ a x, ((![v544, v563] : Fin 2 → IVec S16 32) a x).toNat < S512x16.size a)
theorem k0_idx1114_inb : ∀ (k0_t1 : Fin k0_t1_loop.trips) (v544 : IVec S16 32) (v563 : IVec S16 32) (k0_hw1114 : k0_chk1114 k0_t1 v544 v563), ∀ (k0_h7 : k0_cond7 k0_t1 = 1#1), ∀ a x, ((![v544, v563] : Fin 2 → IVec S16 32) a x).toNat < S512x16.size a := fun k0_t1 v544 v563 k0_hw1114 k0_h7 => k0_hw1114 k0_h7

def k0_chk1115 (k0_t1 : Fin k0_t1_loop.trips) (v544 : IVec S16 32) (v565 : IVec S16 32) : Prop :=
  (∀ (k0_h7 : k0_cond7 k0_t1 = 1#1), ∀ a x, ((![v544, v565] : Fin 2 → IVec S16 32) a x).toNat < S512x16.size a)
theorem k0_idx1115_inb : ∀ (k0_t1 : Fin k0_t1_loop.trips) (v544 : IVec S16 32) (v565 : IVec S16 32) (k0_hw1115 : k0_chk1115 k0_t1 v544 v565), ∀ (k0_h7 : k0_cond7 k0_t1 = 1#1), ∀ a x, ((![v544, v565] : Fin 2 → IVec S16 32) a x).toNat < S512x16.size a := fun k0_t1 v544 v565 k0_hw1115 k0_h7 => k0_hw1115 k0_h7

def k0_chk1116 (k0_t1 : Fin k0_t1_loop.trips) (v544 : IVec S16 32) (v567 : IVec S16 32) : Prop :=
  (∀ (k0_h7 : k0_cond7 k0_t1 = 1#1), ∀ a x, ((![v544, v567] : Fin 2 → IVec S16 32) a x).toNat < S512x16.size a)
theorem k0_idx1116_inb : ∀ (k0_t1 : Fin k0_t1_loop.trips) (v544 : IVec S16 32) (v567 : IVec S16 32) (k0_hw1116 : k0_chk1116 k0_t1 v544 v567), ∀ (k0_h7 : k0_cond7 k0_t1 = 1#1), ∀ a x, ((![v544, v567] : Fin 2 → IVec S16 32) a x).toNat < S512x16.size a := fun k0_t1 v544 v567 k0_hw1116 k0_h7 => k0_hw1116 k0_h7

def k0_chk1117 (k0_t1 : Fin k0_t1_loop.trips) (v544 : IVec S16 32) (v569 : IVec S16 32) : Prop :=
  (∀ (k0_h7 : k0_cond7 k0_t1 = 1#1), ∀ a x, ((![v544, v569] : Fin 2 → IVec S16 32) a x).toNat < S512x16.size a)
theorem k0_idx1117_inb : ∀ (k0_t1 : Fin k0_t1_loop.trips) (v544 : IVec S16 32) (v569 : IVec S16 32) (k0_hw1117 : k0_chk1117 k0_t1 v544 v569), ∀ (k0_h7 : k0_cond7 k0_t1 = 1#1), ∀ a x, ((![v544, v569] : Fin 2 → IVec S16 32) a x).toNat < S512x16.size a := fun k0_t1 v544 v569 k0_hw1117 k0_h7 => k0_hw1117 k0_h7

def k0_chk1118 (k0_t1 : Fin k0_t1_loop.trips) (v544 : IVec S16 32) (v571 : IVec S16 32) : Prop :=
  (∀ (k0_h7 : k0_cond7 k0_t1 = 1#1), ∀ a x, ((![v544, v571] : Fin 2 → IVec S16 32) a x).toNat < S512x16.size a)
theorem k0_idx1118_inb : ∀ (k0_t1 : Fin k0_t1_loop.trips) (v544 : IVec S16 32) (v571 : IVec S16 32) (k0_hw1118 : k0_chk1118 k0_t1 v544 v571), ∀ (k0_h7 : k0_cond7 k0_t1 = 1#1), ∀ a x, ((![v544, v571] : Fin 2 → IVec S16 32) a x).toNat < S512x16.size a := fun k0_t1 v544 v571 k0_hw1118 k0_h7 => k0_hw1118 k0_h7

def k0_chk1119 (k0_t1 : Fin k0_t1_loop.trips) (v544 : IVec S16 32) (v573 : IVec S16 32) : Prop :=
  (∀ (k0_h7 : k0_cond7 k0_t1 = 1#1), ∀ a x, ((![v544, v573] : Fin 2 → IVec S16 32) a x).toNat < S512x16.size a)
theorem k0_idx1119_inb : ∀ (k0_t1 : Fin k0_t1_loop.trips) (v544 : IVec S16 32) (v573 : IVec S16 32) (k0_hw1119 : k0_chk1119 k0_t1 v544 v573), ∀ (k0_h7 : k0_cond7 k0_t1 = 1#1), ∀ a x, ((![v544, v573] : Fin 2 → IVec S16 32) a x).toNat < S512x16.size a := fun k0_t1 v544 v573 k0_hw1119 k0_h7 => k0_hw1119 k0_h7

def k0_chk1120 (k0_t1 : Fin k0_t1_loop.trips) (v544 : IVec S16 32) (v575 : IVec S16 32) : Prop :=
  (∀ (k0_h7 : k0_cond7 k0_t1 = 1#1), ∀ a x, ((![v544, v575] : Fin 2 → IVec S16 32) a x).toNat < S512x16.size a)
theorem k0_idx1120_inb : ∀ (k0_t1 : Fin k0_t1_loop.trips) (v544 : IVec S16 32) (v575 : IVec S16 32) (k0_hw1120 : k0_chk1120 k0_t1 v544 v575), ∀ (k0_h7 : k0_cond7 k0_t1 = 1#1), ∀ a x, ((![v544, v575] : Fin 2 → IVec S16 32) a x).toNat < S512x16.size a := fun k0_t1 v544 v575 k0_hw1120 k0_h7 => k0_hw1120 k0_h7

def k0_chk1121 (k0_t1 : Fin k0_t1_loop.trips) (v643 : IVec S16 32) (v644 : IVec S16 32) : Prop :=
  (∀ (k0_h7 : k0_cond7 k0_t1 = 1#1), ∀ a x, ((![v643, v644] : Fin 2 → IVec S16 32) a x).toNat < S512x16.size a)
theorem k0_idx1121_inb : ∀ (k0_t1 : Fin k0_t1_loop.trips) (v643 : IVec S16 32) (v644 : IVec S16 32) (k0_hw1121 : k0_chk1121 k0_t1 v643 v644), ∀ (k0_h7 : k0_cond7 k0_t1 = 1#1), ∀ a x, ((![v643, v644] : Fin 2 → IVec S16 32) a x).toNat < S512x16.size a := fun k0_t1 v643 v644 k0_hw1121 k0_h7 => k0_hw1121 k0_h7

def k0_chk1122 (k0_t1 : Fin k0_t1_loop.trips) (v643 : IVec S16 32) (v646 : IVec S16 32) : Prop :=
  (∀ (k0_h7 : k0_cond7 k0_t1 = 1#1), ∀ a x, ((![v643, v646] : Fin 2 → IVec S16 32) a x).toNat < S512x16.size a)
theorem k0_idx1122_inb : ∀ (k0_t1 : Fin k0_t1_loop.trips) (v643 : IVec S16 32) (v646 : IVec S16 32) (k0_hw1122 : k0_chk1122 k0_t1 v643 v646), ∀ (k0_h7 : k0_cond7 k0_t1 = 1#1), ∀ a x, ((![v643, v646] : Fin 2 → IVec S16 32) a x).toNat < S512x16.size a := fun k0_t1 v643 v646 k0_hw1122 k0_h7 => k0_hw1122 k0_h7

def k0_chk1123 (k0_t1 : Fin k0_t1_loop.trips) (v643 : IVec S16 32) (v648 : IVec S16 32) : Prop :=
  (∀ (k0_h7 : k0_cond7 k0_t1 = 1#1), ∀ a x, ((![v643, v648] : Fin 2 → IVec S16 32) a x).toNat < S512x16.size a)
theorem k0_idx1123_inb : ∀ (k0_t1 : Fin k0_t1_loop.trips) (v643 : IVec S16 32) (v648 : IVec S16 32) (k0_hw1123 : k0_chk1123 k0_t1 v643 v648), ∀ (k0_h7 : k0_cond7 k0_t1 = 1#1), ∀ a x, ((![v643, v648] : Fin 2 → IVec S16 32) a x).toNat < S512x16.size a := fun k0_t1 v643 v648 k0_hw1123 k0_h7 => k0_hw1123 k0_h7

def k0_chk1124 (k0_t1 : Fin k0_t1_loop.trips) (v643 : IVec S16 32) (v650 : IVec S16 32) : Prop :=
  (∀ (k0_h7 : k0_cond7 k0_t1 = 1#1), ∀ a x, ((![v643, v650] : Fin 2 → IVec S16 32) a x).toNat < S512x16.size a)
theorem k0_idx1124_inb : ∀ (k0_t1 : Fin k0_t1_loop.trips) (v643 : IVec S16 32) (v650 : IVec S16 32) (k0_hw1124 : k0_chk1124 k0_t1 v643 v650), ∀ (k0_h7 : k0_cond7 k0_t1 = 1#1), ∀ a x, ((![v643, v650] : Fin 2 → IVec S16 32) a x).toNat < S512x16.size a := fun k0_t1 v643 v650 k0_hw1124 k0_h7 => k0_hw1124 k0_h7

def k0_chk1125 (k0_t1 : Fin k0_t1_loop.trips) (v643 : IVec S16 32) (v652 : IVec S16 32) : Prop :=
  (∀ (k0_h7 : k0_cond7 k0_t1 = 1#1), ∀ a x, ((![v643, v652] : Fin 2 → IVec S16 32) a x).toNat < S512x16.size a)
theorem k0_idx1125_inb : ∀ (k0_t1 : Fin k0_t1_loop.trips) (v643 : IVec S16 32) (v652 : IVec S16 32) (k0_hw1125 : k0_chk1125 k0_t1 v643 v652), ∀ (k0_h7 : k0_cond7 k0_t1 = 1#1), ∀ a x, ((![v643, v652] : Fin 2 → IVec S16 32) a x).toNat < S512x16.size a := fun k0_t1 v643 v652 k0_hw1125 k0_h7 => k0_hw1125 k0_h7

def k0_chk1126 (k0_t1 : Fin k0_t1_loop.trips) (v643 : IVec S16 32) (v654 : IVec S16 32) : Prop :=
  (∀ (k0_h7 : k0_cond7 k0_t1 = 1#1), ∀ a x, ((![v643, v654] : Fin 2 → IVec S16 32) a x).toNat < S512x16.size a)
theorem k0_idx1126_inb : ∀ (k0_t1 : Fin k0_t1_loop.trips) (v643 : IVec S16 32) (v654 : IVec S16 32) (k0_hw1126 : k0_chk1126 k0_t1 v643 v654), ∀ (k0_h7 : k0_cond7 k0_t1 = 1#1), ∀ a x, ((![v643, v654] : Fin 2 → IVec S16 32) a x).toNat < S512x16.size a := fun k0_t1 v643 v654 k0_hw1126 k0_h7 => k0_hw1126 k0_h7

def k0_chk1127 (k0_t1 : Fin k0_t1_loop.trips) (v643 : IVec S16 32) (v656 : IVec S16 32) : Prop :=
  (∀ (k0_h7 : k0_cond7 k0_t1 = 1#1), ∀ a x, ((![v643, v656] : Fin 2 → IVec S16 32) a x).toNat < S512x16.size a)
theorem k0_idx1127_inb : ∀ (k0_t1 : Fin k0_t1_loop.trips) (v643 : IVec S16 32) (v656 : IVec S16 32) (k0_hw1127 : k0_chk1127 k0_t1 v643 v656), ∀ (k0_h7 : k0_cond7 k0_t1 = 1#1), ∀ a x, ((![v643, v656] : Fin 2 → IVec S16 32) a x).toNat < S512x16.size a := fun k0_t1 v643 v656 k0_hw1127 k0_h7 => k0_hw1127 k0_h7

def k0_chk1128 (k0_t1 : Fin k0_t1_loop.trips) (v643 : IVec S16 32) (v658 : IVec S16 32) : Prop :=
  (∀ (k0_h7 : k0_cond7 k0_t1 = 1#1), ∀ a x, ((![v643, v658] : Fin 2 → IVec S16 32) a x).toNat < S512x16.size a)
theorem k0_idx1128_inb : ∀ (k0_t1 : Fin k0_t1_loop.trips) (v643 : IVec S16 32) (v658 : IVec S16 32) (k0_hw1128 : k0_chk1128 k0_t1 v643 v658), ∀ (k0_h7 : k0_cond7 k0_t1 = 1#1), ∀ a x, ((![v643, v658] : Fin 2 → IVec S16 32) a x).toNat < S512x16.size a := fun k0_t1 v643 v658 k0_hw1128 k0_h7 => k0_hw1128 k0_h7

def k0_chk1129 (k0_t1 : Fin k0_t1_loop.trips) (v643 : IVec S16 32) (v660 : IVec S16 32) : Prop :=
  (∀ (k0_h7 : k0_cond7 k0_t1 = 1#1), ∀ a x, ((![v643, v660] : Fin 2 → IVec S16 32) a x).toNat < S512x16.size a)
theorem k0_idx1129_inb : ∀ (k0_t1 : Fin k0_t1_loop.trips) (v643 : IVec S16 32) (v660 : IVec S16 32) (k0_hw1129 : k0_chk1129 k0_t1 v643 v660), ∀ (k0_h7 : k0_cond7 k0_t1 = 1#1), ∀ a x, ((![v643, v660] : Fin 2 → IVec S16 32) a x).toNat < S512x16.size a := fun k0_t1 v643 v660 k0_hw1129 k0_h7 => k0_hw1129 k0_h7

def k0_chk1130 (k0_t1 : Fin k0_t1_loop.trips) (v643 : IVec S16 32) (v662 : IVec S16 32) : Prop :=
  (∀ (k0_h7 : k0_cond7 k0_t1 = 1#1), ∀ a x, ((![v643, v662] : Fin 2 → IVec S16 32) a x).toNat < S512x16.size a)
theorem k0_idx1130_inb : ∀ (k0_t1 : Fin k0_t1_loop.trips) (v643 : IVec S16 32) (v662 : IVec S16 32) (k0_hw1130 : k0_chk1130 k0_t1 v643 v662), ∀ (k0_h7 : k0_cond7 k0_t1 = 1#1), ∀ a x, ((![v643, v662] : Fin 2 → IVec S16 32) a x).toNat < S512x16.size a := fun k0_t1 v643 v662 k0_hw1130 k0_h7 => k0_hw1130 k0_h7

def k0_chk1131 (k0_t1 : Fin k0_t1_loop.trips) (v643 : IVec S16 32) (v664 : IVec S16 32) : Prop :=
  (∀ (k0_h7 : k0_cond7 k0_t1 = 1#1), ∀ a x, ((![v643, v664] : Fin 2 → IVec S16 32) a x).toNat < S512x16.size a)
theorem k0_idx1131_inb : ∀ (k0_t1 : Fin k0_t1_loop.trips) (v643 : IVec S16 32) (v664 : IVec S16 32) (k0_hw1131 : k0_chk1131 k0_t1 v643 v664), ∀ (k0_h7 : k0_cond7 k0_t1 = 1#1), ∀ a x, ((![v643, v664] : Fin 2 → IVec S16 32) a x).toNat < S512x16.size a := fun k0_t1 v643 v664 k0_hw1131 k0_h7 => k0_hw1131 k0_h7

def k0_chk1132 (k0_t1 : Fin k0_t1_loop.trips) (v643 : IVec S16 32) (v666 : IVec S16 32) : Prop :=
  (∀ (k0_h7 : k0_cond7 k0_t1 = 1#1), ∀ a x, ((![v643, v666] : Fin 2 → IVec S16 32) a x).toNat < S512x16.size a)
theorem k0_idx1132_inb : ∀ (k0_t1 : Fin k0_t1_loop.trips) (v643 : IVec S16 32) (v666 : IVec S16 32) (k0_hw1132 : k0_chk1132 k0_t1 v643 v666), ∀ (k0_h7 : k0_cond7 k0_t1 = 1#1), ∀ a x, ((![v643, v666] : Fin 2 → IVec S16 32) a x).toNat < S512x16.size a := fun k0_t1 v643 v666 k0_hw1132 k0_h7 => k0_hw1132 k0_h7

def k0_chk1133 (k0_t1 : Fin k0_t1_loop.trips) (v643 : IVec S16 32) (v668 : IVec S16 32) : Prop :=
  (∀ (k0_h7 : k0_cond7 k0_t1 = 1#1), ∀ a x, ((![v643, v668] : Fin 2 → IVec S16 32) a x).toNat < S512x16.size a)
theorem k0_idx1133_inb : ∀ (k0_t1 : Fin k0_t1_loop.trips) (v643 : IVec S16 32) (v668 : IVec S16 32) (k0_hw1133 : k0_chk1133 k0_t1 v643 v668), ∀ (k0_h7 : k0_cond7 k0_t1 = 1#1), ∀ a x, ((![v643, v668] : Fin 2 → IVec S16 32) a x).toNat < S512x16.size a := fun k0_t1 v643 v668 k0_hw1133 k0_h7 => k0_hw1133 k0_h7

def k0_chk1134 (k0_t1 : Fin k0_t1_loop.trips) (v643 : IVec S16 32) (v670 : IVec S16 32) : Prop :=
  (∀ (k0_h7 : k0_cond7 k0_t1 = 1#1), ∀ a x, ((![v643, v670] : Fin 2 → IVec S16 32) a x).toNat < S512x16.size a)
theorem k0_idx1134_inb : ∀ (k0_t1 : Fin k0_t1_loop.trips) (v643 : IVec S16 32) (v670 : IVec S16 32) (k0_hw1134 : k0_chk1134 k0_t1 v643 v670), ∀ (k0_h7 : k0_cond7 k0_t1 = 1#1), ∀ a x, ((![v643, v670] : Fin 2 → IVec S16 32) a x).toNat < S512x16.size a := fun k0_t1 v643 v670 k0_hw1134 k0_h7 => k0_hw1134 k0_h7

def k0_chk1135 (k0_t1 : Fin k0_t1_loop.trips) (v643 : IVec S16 32) (v672 : IVec S16 32) : Prop :=
  (∀ (k0_h7 : k0_cond7 k0_t1 = 1#1), ∀ a x, ((![v643, v672] : Fin 2 → IVec S16 32) a x).toNat < S512x16.size a)
theorem k0_idx1135_inb : ∀ (k0_t1 : Fin k0_t1_loop.trips) (v643 : IVec S16 32) (v672 : IVec S16 32) (k0_hw1135 : k0_chk1135 k0_t1 v643 v672), ∀ (k0_h7 : k0_cond7 k0_t1 = 1#1), ∀ a x, ((![v643, v672] : Fin 2 → IVec S16 32) a x).toNat < S512x16.size a := fun k0_t1 v643 v672 k0_hw1135 k0_h7 => k0_hw1135 k0_h7

def k0_chk1136 (k0_t1 : Fin k0_t1_loop.trips) (v643 : IVec S16 32) (v674 : IVec S16 32) : Prop :=
  (∀ (k0_h7 : k0_cond7 k0_t1 = 1#1), ∀ a x, ((![v643, v674] : Fin 2 → IVec S16 32) a x).toNat < S512x16.size a)
theorem k0_idx1136_inb : ∀ (k0_t1 : Fin k0_t1_loop.trips) (v643 : IVec S16 32) (v674 : IVec S16 32) (k0_hw1136 : k0_chk1136 k0_t1 v643 v674), ∀ (k0_h7 : k0_cond7 k0_t1 = 1#1), ∀ a x, ((![v643, v674] : Fin 2 → IVec S16 32) a x).toNat < S512x16.size a := fun k0_t1 v643 v674 k0_hw1136 k0_h7 => k0_hw1136 k0_h7

def k0_chk1137 (k0_t1 : Fin k0_t1_loop.trips) (v742 : IVec S16 32) (v743 : IVec S16 32) : Prop :=
  (∀ (k0_h7 : k0_cond7 k0_t1 = 1#1), ∀ a x, ((![v742, v743] : Fin 2 → IVec S16 32) a x).toNat < S512x16.size a)
theorem k0_idx1137_inb : ∀ (k0_t1 : Fin k0_t1_loop.trips) (v742 : IVec S16 32) (v743 : IVec S16 32) (k0_hw1137 : k0_chk1137 k0_t1 v742 v743), ∀ (k0_h7 : k0_cond7 k0_t1 = 1#1), ∀ a x, ((![v742, v743] : Fin 2 → IVec S16 32) a x).toNat < S512x16.size a := fun k0_t1 v742 v743 k0_hw1137 k0_h7 => k0_hw1137 k0_h7

def k0_chk1138 (k0_t1 : Fin k0_t1_loop.trips) (v742 : IVec S16 32) (v745 : IVec S16 32) : Prop :=
  (∀ (k0_h7 : k0_cond7 k0_t1 = 1#1), ∀ a x, ((![v742, v745] : Fin 2 → IVec S16 32) a x).toNat < S512x16.size a)
theorem k0_idx1138_inb : ∀ (k0_t1 : Fin k0_t1_loop.trips) (v742 : IVec S16 32) (v745 : IVec S16 32) (k0_hw1138 : k0_chk1138 k0_t1 v742 v745), ∀ (k0_h7 : k0_cond7 k0_t1 = 1#1), ∀ a x, ((![v742, v745] : Fin 2 → IVec S16 32) a x).toNat < S512x16.size a := fun k0_t1 v742 v745 k0_hw1138 k0_h7 => k0_hw1138 k0_h7

def k0_chk1139 (k0_t1 : Fin k0_t1_loop.trips) (v742 : IVec S16 32) (v747 : IVec S16 32) : Prop :=
  (∀ (k0_h7 : k0_cond7 k0_t1 = 1#1), ∀ a x, ((![v742, v747] : Fin 2 → IVec S16 32) a x).toNat < S512x16.size a)
theorem k0_idx1139_inb : ∀ (k0_t1 : Fin k0_t1_loop.trips) (v742 : IVec S16 32) (v747 : IVec S16 32) (k0_hw1139 : k0_chk1139 k0_t1 v742 v747), ∀ (k0_h7 : k0_cond7 k0_t1 = 1#1), ∀ a x, ((![v742, v747] : Fin 2 → IVec S16 32) a x).toNat < S512x16.size a := fun k0_t1 v742 v747 k0_hw1139 k0_h7 => k0_hw1139 k0_h7

def k0_chk1140 (k0_t1 : Fin k0_t1_loop.trips) (v742 : IVec S16 32) (v749 : IVec S16 32) : Prop :=
  (∀ (k0_h7 : k0_cond7 k0_t1 = 1#1), ∀ a x, ((![v742, v749] : Fin 2 → IVec S16 32) a x).toNat < S512x16.size a)
theorem k0_idx1140_inb : ∀ (k0_t1 : Fin k0_t1_loop.trips) (v742 : IVec S16 32) (v749 : IVec S16 32) (k0_hw1140 : k0_chk1140 k0_t1 v742 v749), ∀ (k0_h7 : k0_cond7 k0_t1 = 1#1), ∀ a x, ((![v742, v749] : Fin 2 → IVec S16 32) a x).toNat < S512x16.size a := fun k0_t1 v742 v749 k0_hw1140 k0_h7 => k0_hw1140 k0_h7

def k0_chk1141 (k0_t1 : Fin k0_t1_loop.trips) (v742 : IVec S16 32) (v751 : IVec S16 32) : Prop :=
  (∀ (k0_h7 : k0_cond7 k0_t1 = 1#1), ∀ a x, ((![v742, v751] : Fin 2 → IVec S16 32) a x).toNat < S512x16.size a)
theorem k0_idx1141_inb : ∀ (k0_t1 : Fin k0_t1_loop.trips) (v742 : IVec S16 32) (v751 : IVec S16 32) (k0_hw1141 : k0_chk1141 k0_t1 v742 v751), ∀ (k0_h7 : k0_cond7 k0_t1 = 1#1), ∀ a x, ((![v742, v751] : Fin 2 → IVec S16 32) a x).toNat < S512x16.size a := fun k0_t1 v742 v751 k0_hw1141 k0_h7 => k0_hw1141 k0_h7

def k0_chk1142 (k0_t1 : Fin k0_t1_loop.trips) (v742 : IVec S16 32) (v753 : IVec S16 32) : Prop :=
  (∀ (k0_h7 : k0_cond7 k0_t1 = 1#1), ∀ a x, ((![v742, v753] : Fin 2 → IVec S16 32) a x).toNat < S512x16.size a)
theorem k0_idx1142_inb : ∀ (k0_t1 : Fin k0_t1_loop.trips) (v742 : IVec S16 32) (v753 : IVec S16 32) (k0_hw1142 : k0_chk1142 k0_t1 v742 v753), ∀ (k0_h7 : k0_cond7 k0_t1 = 1#1), ∀ a x, ((![v742, v753] : Fin 2 → IVec S16 32) a x).toNat < S512x16.size a := fun k0_t1 v742 v753 k0_hw1142 k0_h7 => k0_hw1142 k0_h7

def k0_chk1143 (k0_t1 : Fin k0_t1_loop.trips) (v742 : IVec S16 32) (v755 : IVec S16 32) : Prop :=
  (∀ (k0_h7 : k0_cond7 k0_t1 = 1#1), ∀ a x, ((![v742, v755] : Fin 2 → IVec S16 32) a x).toNat < S512x16.size a)
theorem k0_idx1143_inb : ∀ (k0_t1 : Fin k0_t1_loop.trips) (v742 : IVec S16 32) (v755 : IVec S16 32) (k0_hw1143 : k0_chk1143 k0_t1 v742 v755), ∀ (k0_h7 : k0_cond7 k0_t1 = 1#1), ∀ a x, ((![v742, v755] : Fin 2 → IVec S16 32) a x).toNat < S512x16.size a := fun k0_t1 v742 v755 k0_hw1143 k0_h7 => k0_hw1143 k0_h7

def k0_chk1144 (k0_t1 : Fin k0_t1_loop.trips) (v742 : IVec S16 32) (v757 : IVec S16 32) : Prop :=
  (∀ (k0_h7 : k0_cond7 k0_t1 = 1#1), ∀ a x, ((![v742, v757] : Fin 2 → IVec S16 32) a x).toNat < S512x16.size a)
theorem k0_idx1144_inb : ∀ (k0_t1 : Fin k0_t1_loop.trips) (v742 : IVec S16 32) (v757 : IVec S16 32) (k0_hw1144 : k0_chk1144 k0_t1 v742 v757), ∀ (k0_h7 : k0_cond7 k0_t1 = 1#1), ∀ a x, ((![v742, v757] : Fin 2 → IVec S16 32) a x).toNat < S512x16.size a := fun k0_t1 v742 v757 k0_hw1144 k0_h7 => k0_hw1144 k0_h7

def k0_chk1145 (k0_t1 : Fin k0_t1_loop.trips) (v742 : IVec S16 32) (v759 : IVec S16 32) : Prop :=
  (∀ (k0_h7 : k0_cond7 k0_t1 = 1#1), ∀ a x, ((![v742, v759] : Fin 2 → IVec S16 32) a x).toNat < S512x16.size a)
theorem k0_idx1145_inb : ∀ (k0_t1 : Fin k0_t1_loop.trips) (v742 : IVec S16 32) (v759 : IVec S16 32) (k0_hw1145 : k0_chk1145 k0_t1 v742 v759), ∀ (k0_h7 : k0_cond7 k0_t1 = 1#1), ∀ a x, ((![v742, v759] : Fin 2 → IVec S16 32) a x).toNat < S512x16.size a := fun k0_t1 v742 v759 k0_hw1145 k0_h7 => k0_hw1145 k0_h7

def k0_chk1146 (k0_t1 : Fin k0_t1_loop.trips) (v742 : IVec S16 32) (v761 : IVec S16 32) : Prop :=
  (∀ (k0_h7 : k0_cond7 k0_t1 = 1#1), ∀ a x, ((![v742, v761] : Fin 2 → IVec S16 32) a x).toNat < S512x16.size a)
theorem k0_idx1146_inb : ∀ (k0_t1 : Fin k0_t1_loop.trips) (v742 : IVec S16 32) (v761 : IVec S16 32) (k0_hw1146 : k0_chk1146 k0_t1 v742 v761), ∀ (k0_h7 : k0_cond7 k0_t1 = 1#1), ∀ a x, ((![v742, v761] : Fin 2 → IVec S16 32) a x).toNat < S512x16.size a := fun k0_t1 v742 v761 k0_hw1146 k0_h7 => k0_hw1146 k0_h7

def k0_chk1147 (k0_t1 : Fin k0_t1_loop.trips) (v742 : IVec S16 32) (v763 : IVec S16 32) : Prop :=
  (∀ (k0_h7 : k0_cond7 k0_t1 = 1#1), ∀ a x, ((![v742, v763] : Fin 2 → IVec S16 32) a x).toNat < S512x16.size a)
theorem k0_idx1147_inb : ∀ (k0_t1 : Fin k0_t1_loop.trips) (v742 : IVec S16 32) (v763 : IVec S16 32) (k0_hw1147 : k0_chk1147 k0_t1 v742 v763), ∀ (k0_h7 : k0_cond7 k0_t1 = 1#1), ∀ a x, ((![v742, v763] : Fin 2 → IVec S16 32) a x).toNat < S512x16.size a := fun k0_t1 v742 v763 k0_hw1147 k0_h7 => k0_hw1147 k0_h7

def k0_chk1148 (k0_t1 : Fin k0_t1_loop.trips) (v742 : IVec S16 32) (v765 : IVec S16 32) : Prop :=
  (∀ (k0_h7 : k0_cond7 k0_t1 = 1#1), ∀ a x, ((![v742, v765] : Fin 2 → IVec S16 32) a x).toNat < S512x16.size a)
theorem k0_idx1148_inb : ∀ (k0_t1 : Fin k0_t1_loop.trips) (v742 : IVec S16 32) (v765 : IVec S16 32) (k0_hw1148 : k0_chk1148 k0_t1 v742 v765), ∀ (k0_h7 : k0_cond7 k0_t1 = 1#1), ∀ a x, ((![v742, v765] : Fin 2 → IVec S16 32) a x).toNat < S512x16.size a := fun k0_t1 v742 v765 k0_hw1148 k0_h7 => k0_hw1148 k0_h7

def k0_chk1149 (k0_t1 : Fin k0_t1_loop.trips) (v742 : IVec S16 32) (v767 : IVec S16 32) : Prop :=
  (∀ (k0_h7 : k0_cond7 k0_t1 = 1#1), ∀ a x, ((![v742, v767] : Fin 2 → IVec S16 32) a x).toNat < S512x16.size a)
theorem k0_idx1149_inb : ∀ (k0_t1 : Fin k0_t1_loop.trips) (v742 : IVec S16 32) (v767 : IVec S16 32) (k0_hw1149 : k0_chk1149 k0_t1 v742 v767), ∀ (k0_h7 : k0_cond7 k0_t1 = 1#1), ∀ a x, ((![v742, v767] : Fin 2 → IVec S16 32) a x).toNat < S512x16.size a := fun k0_t1 v742 v767 k0_hw1149 k0_h7 => k0_hw1149 k0_h7

def k0_chk1150 (k0_t1 : Fin k0_t1_loop.trips) (v742 : IVec S16 32) (v769 : IVec S16 32) : Prop :=
  (∀ (k0_h7 : k0_cond7 k0_t1 = 1#1), ∀ a x, ((![v742, v769] : Fin 2 → IVec S16 32) a x).toNat < S512x16.size a)
theorem k0_idx1150_inb : ∀ (k0_t1 : Fin k0_t1_loop.trips) (v742 : IVec S16 32) (v769 : IVec S16 32) (k0_hw1150 : k0_chk1150 k0_t1 v742 v769), ∀ (k0_h7 : k0_cond7 k0_t1 = 1#1), ∀ a x, ((![v742, v769] : Fin 2 → IVec S16 32) a x).toNat < S512x16.size a := fun k0_t1 v742 v769 k0_hw1150 k0_h7 => k0_hw1150 k0_h7

def k0_chk1151 (k0_t1 : Fin k0_t1_loop.trips) (v742 : IVec S16 32) (v771 : IVec S16 32) : Prop :=
  (∀ (k0_h7 : k0_cond7 k0_t1 = 1#1), ∀ a x, ((![v742, v771] : Fin 2 → IVec S16 32) a x).toNat < S512x16.size a)
theorem k0_idx1151_inb : ∀ (k0_t1 : Fin k0_t1_loop.trips) (v742 : IVec S16 32) (v771 : IVec S16 32) (k0_hw1151 : k0_chk1151 k0_t1 v742 v771), ∀ (k0_h7 : k0_cond7 k0_t1 = 1#1), ∀ a x, ((![v742, v771] : Fin 2 → IVec S16 32) a x).toNat < S512x16.size a := fun k0_t1 v742 v771 k0_hw1151 k0_h7 => k0_hw1151 k0_h7

def k0_chk1152 (k0_t1 : Fin k0_t1_loop.trips) (v742 : IVec S16 32) (v773 : IVec S16 32) : Prop :=
  (∀ (k0_h7 : k0_cond7 k0_t1 = 1#1), ∀ a x, ((![v742, v773] : Fin 2 → IVec S16 32) a x).toNat < S512x16.size a)
theorem k0_idx1152_inb : ∀ (k0_t1 : Fin k0_t1_loop.trips) (v742 : IVec S16 32) (v773 : IVec S16 32) (k0_hw1152 : k0_chk1152 k0_t1 v742 v773), ∀ (k0_h7 : k0_cond7 k0_t1 = 1#1), ∀ a x, ((![v742, v773] : Fin 2 → IVec S16 32) a x).toNat < S512x16.size a := fun k0_t1 v742 v773 k0_hw1152 k0_h7 => k0_hw1152 k0_h7

def k0_chk1153 (k0_t1 : Fin k0_t1_loop.trips) (v841 : IVec S16 32) (v842 : IVec S16 32) : Prop :=
  (∀ (k0_h7 : k0_cond7 k0_t1 = 1#1), ∀ a x, ((![v841, v842] : Fin 2 → IVec S16 32) a x).toNat < S512x16.size a)
theorem k0_idx1153_inb : ∀ (k0_t1 : Fin k0_t1_loop.trips) (v841 : IVec S16 32) (v842 : IVec S16 32) (k0_hw1153 : k0_chk1153 k0_t1 v841 v842), ∀ (k0_h7 : k0_cond7 k0_t1 = 1#1), ∀ a x, ((![v841, v842] : Fin 2 → IVec S16 32) a x).toNat < S512x16.size a := fun k0_t1 v841 v842 k0_hw1153 k0_h7 => k0_hw1153 k0_h7

def k0_chk1154 (k0_t1 : Fin k0_t1_loop.trips) (v841 : IVec S16 32) (v844 : IVec S16 32) : Prop :=
  (∀ (k0_h7 : k0_cond7 k0_t1 = 1#1), ∀ a x, ((![v841, v844] : Fin 2 → IVec S16 32) a x).toNat < S512x16.size a)
theorem k0_idx1154_inb : ∀ (k0_t1 : Fin k0_t1_loop.trips) (v841 : IVec S16 32) (v844 : IVec S16 32) (k0_hw1154 : k0_chk1154 k0_t1 v841 v844), ∀ (k0_h7 : k0_cond7 k0_t1 = 1#1), ∀ a x, ((![v841, v844] : Fin 2 → IVec S16 32) a x).toNat < S512x16.size a := fun k0_t1 v841 v844 k0_hw1154 k0_h7 => k0_hw1154 k0_h7

def k0_chk1155 (k0_t1 : Fin k0_t1_loop.trips) (v841 : IVec S16 32) (v846 : IVec S16 32) : Prop :=
  (∀ (k0_h7 : k0_cond7 k0_t1 = 1#1), ∀ a x, ((![v841, v846] : Fin 2 → IVec S16 32) a x).toNat < S512x16.size a)
theorem k0_idx1155_inb : ∀ (k0_t1 : Fin k0_t1_loop.trips) (v841 : IVec S16 32) (v846 : IVec S16 32) (k0_hw1155 : k0_chk1155 k0_t1 v841 v846), ∀ (k0_h7 : k0_cond7 k0_t1 = 1#1), ∀ a x, ((![v841, v846] : Fin 2 → IVec S16 32) a x).toNat < S512x16.size a := fun k0_t1 v841 v846 k0_hw1155 k0_h7 => k0_hw1155 k0_h7

def k0_chk1156 (k0_t1 : Fin k0_t1_loop.trips) (v841 : IVec S16 32) (v848 : IVec S16 32) : Prop :=
  (∀ (k0_h7 : k0_cond7 k0_t1 = 1#1), ∀ a x, ((![v841, v848] : Fin 2 → IVec S16 32) a x).toNat < S512x16.size a)
theorem k0_idx1156_inb : ∀ (k0_t1 : Fin k0_t1_loop.trips) (v841 : IVec S16 32) (v848 : IVec S16 32) (k0_hw1156 : k0_chk1156 k0_t1 v841 v848), ∀ (k0_h7 : k0_cond7 k0_t1 = 1#1), ∀ a x, ((![v841, v848] : Fin 2 → IVec S16 32) a x).toNat < S512x16.size a := fun k0_t1 v841 v848 k0_hw1156 k0_h7 => k0_hw1156 k0_h7

def k0_chk1157 (k0_t1 : Fin k0_t1_loop.trips) (v841 : IVec S16 32) (v850 : IVec S16 32) : Prop :=
  (∀ (k0_h7 : k0_cond7 k0_t1 = 1#1), ∀ a x, ((![v841, v850] : Fin 2 → IVec S16 32) a x).toNat < S512x16.size a)
theorem k0_idx1157_inb : ∀ (k0_t1 : Fin k0_t1_loop.trips) (v841 : IVec S16 32) (v850 : IVec S16 32) (k0_hw1157 : k0_chk1157 k0_t1 v841 v850), ∀ (k0_h7 : k0_cond7 k0_t1 = 1#1), ∀ a x, ((![v841, v850] : Fin 2 → IVec S16 32) a x).toNat < S512x16.size a := fun k0_t1 v841 v850 k0_hw1157 k0_h7 => k0_hw1157 k0_h7

def k0_chk1158 (k0_t1 : Fin k0_t1_loop.trips) (v841 : IVec S16 32) (v852 : IVec S16 32) : Prop :=
  (∀ (k0_h7 : k0_cond7 k0_t1 = 1#1), ∀ a x, ((![v841, v852] : Fin 2 → IVec S16 32) a x).toNat < S512x16.size a)
theorem k0_idx1158_inb : ∀ (k0_t1 : Fin k0_t1_loop.trips) (v841 : IVec S16 32) (v852 : IVec S16 32) (k0_hw1158 : k0_chk1158 k0_t1 v841 v852), ∀ (k0_h7 : k0_cond7 k0_t1 = 1#1), ∀ a x, ((![v841, v852] : Fin 2 → IVec S16 32) a x).toNat < S512x16.size a := fun k0_t1 v841 v852 k0_hw1158 k0_h7 => k0_hw1158 k0_h7

def k0_chk1159 (k0_t1 : Fin k0_t1_loop.trips) (v841 : IVec S16 32) (v854 : IVec S16 32) : Prop :=
  (∀ (k0_h7 : k0_cond7 k0_t1 = 1#1), ∀ a x, ((![v841, v854] : Fin 2 → IVec S16 32) a x).toNat < S512x16.size a)
theorem k0_idx1159_inb : ∀ (k0_t1 : Fin k0_t1_loop.trips) (v841 : IVec S16 32) (v854 : IVec S16 32) (k0_hw1159 : k0_chk1159 k0_t1 v841 v854), ∀ (k0_h7 : k0_cond7 k0_t1 = 1#1), ∀ a x, ((![v841, v854] : Fin 2 → IVec S16 32) a x).toNat < S512x16.size a := fun k0_t1 v841 v854 k0_hw1159 k0_h7 => k0_hw1159 k0_h7

def k0_chk1160 (k0_t1 : Fin k0_t1_loop.trips) (v841 : IVec S16 32) (v856 : IVec S16 32) : Prop :=
  (∀ (k0_h7 : k0_cond7 k0_t1 = 1#1), ∀ a x, ((![v841, v856] : Fin 2 → IVec S16 32) a x).toNat < S512x16.size a)
theorem k0_idx1160_inb : ∀ (k0_t1 : Fin k0_t1_loop.trips) (v841 : IVec S16 32) (v856 : IVec S16 32) (k0_hw1160 : k0_chk1160 k0_t1 v841 v856), ∀ (k0_h7 : k0_cond7 k0_t1 = 1#1), ∀ a x, ((![v841, v856] : Fin 2 → IVec S16 32) a x).toNat < S512x16.size a := fun k0_t1 v841 v856 k0_hw1160 k0_h7 => k0_hw1160 k0_h7

def k0_chk1161 (k0_t1 : Fin k0_t1_loop.trips) (v841 : IVec S16 32) (v858 : IVec S16 32) : Prop :=
  (∀ (k0_h7 : k0_cond7 k0_t1 = 1#1), ∀ a x, ((![v841, v858] : Fin 2 → IVec S16 32) a x).toNat < S512x16.size a)
theorem k0_idx1161_inb : ∀ (k0_t1 : Fin k0_t1_loop.trips) (v841 : IVec S16 32) (v858 : IVec S16 32) (k0_hw1161 : k0_chk1161 k0_t1 v841 v858), ∀ (k0_h7 : k0_cond7 k0_t1 = 1#1), ∀ a x, ((![v841, v858] : Fin 2 → IVec S16 32) a x).toNat < S512x16.size a := fun k0_t1 v841 v858 k0_hw1161 k0_h7 => k0_hw1161 k0_h7

def k0_chk1162 (k0_t1 : Fin k0_t1_loop.trips) (v841 : IVec S16 32) (v860 : IVec S16 32) : Prop :=
  (∀ (k0_h7 : k0_cond7 k0_t1 = 1#1), ∀ a x, ((![v841, v860] : Fin 2 → IVec S16 32) a x).toNat < S512x16.size a)
theorem k0_idx1162_inb : ∀ (k0_t1 : Fin k0_t1_loop.trips) (v841 : IVec S16 32) (v860 : IVec S16 32) (k0_hw1162 : k0_chk1162 k0_t1 v841 v860), ∀ (k0_h7 : k0_cond7 k0_t1 = 1#1), ∀ a x, ((![v841, v860] : Fin 2 → IVec S16 32) a x).toNat < S512x16.size a := fun k0_t1 v841 v860 k0_hw1162 k0_h7 => k0_hw1162 k0_h7

def k0_chk1163 (k0_t1 : Fin k0_t1_loop.trips) (v841 : IVec S16 32) (v862 : IVec S16 32) : Prop :=
  (∀ (k0_h7 : k0_cond7 k0_t1 = 1#1), ∀ a x, ((![v841, v862] : Fin 2 → IVec S16 32) a x).toNat < S512x16.size a)
theorem k0_idx1163_inb : ∀ (k0_t1 : Fin k0_t1_loop.trips) (v841 : IVec S16 32) (v862 : IVec S16 32) (k0_hw1163 : k0_chk1163 k0_t1 v841 v862), ∀ (k0_h7 : k0_cond7 k0_t1 = 1#1), ∀ a x, ((![v841, v862] : Fin 2 → IVec S16 32) a x).toNat < S512x16.size a := fun k0_t1 v841 v862 k0_hw1163 k0_h7 => k0_hw1163 k0_h7

def k0_chk1164 (k0_t1 : Fin k0_t1_loop.trips) (v841 : IVec S16 32) (v864 : IVec S16 32) : Prop :=
  (∀ (k0_h7 : k0_cond7 k0_t1 = 1#1), ∀ a x, ((![v841, v864] : Fin 2 → IVec S16 32) a x).toNat < S512x16.size a)
theorem k0_idx1164_inb : ∀ (k0_t1 : Fin k0_t1_loop.trips) (v841 : IVec S16 32) (v864 : IVec S16 32) (k0_hw1164 : k0_chk1164 k0_t1 v841 v864), ∀ (k0_h7 : k0_cond7 k0_t1 = 1#1), ∀ a x, ((![v841, v864] : Fin 2 → IVec S16 32) a x).toNat < S512x16.size a := fun k0_t1 v841 v864 k0_hw1164 k0_h7 => k0_hw1164 k0_h7

def k0_chk1165 (k0_t1 : Fin k0_t1_loop.trips) (v841 : IVec S16 32) (v866 : IVec S16 32) : Prop :=
  (∀ (k0_h7 : k0_cond7 k0_t1 = 1#1), ∀ a x, ((![v841, v866] : Fin 2 → IVec S16 32) a x).toNat < S512x16.size a)
theorem k0_idx1165_inb : ∀ (k0_t1 : Fin k0_t1_loop.trips) (v841 : IVec S16 32) (v866 : IVec S16 32) (k0_hw1165 : k0_chk1165 k0_t1 v841 v866), ∀ (k0_h7 : k0_cond7 k0_t1 = 1#1), ∀ a x, ((![v841, v866] : Fin 2 → IVec S16 32) a x).toNat < S512x16.size a := fun k0_t1 v841 v866 k0_hw1165 k0_h7 => k0_hw1165 k0_h7

def k0_chk1166 (k0_t1 : Fin k0_t1_loop.trips) (v841 : IVec S16 32) (v868 : IVec S16 32) : Prop :=
  (∀ (k0_h7 : k0_cond7 k0_t1 = 1#1), ∀ a x, ((![v841, v868] : Fin 2 → IVec S16 32) a x).toNat < S512x16.size a)
theorem k0_idx1166_inb : ∀ (k0_t1 : Fin k0_t1_loop.trips) (v841 : IVec S16 32) (v868 : IVec S16 32) (k0_hw1166 : k0_chk1166 k0_t1 v841 v868), ∀ (k0_h7 : k0_cond7 k0_t1 = 1#1), ∀ a x, ((![v841, v868] : Fin 2 → IVec S16 32) a x).toNat < S512x16.size a := fun k0_t1 v841 v868 k0_hw1166 k0_h7 => k0_hw1166 k0_h7

def k0_chk1167 (k0_t1 : Fin k0_t1_loop.trips) (v841 : IVec S16 32) (v870 : IVec S16 32) : Prop :=
  (∀ (k0_h7 : k0_cond7 k0_t1 = 1#1), ∀ a x, ((![v841, v870] : Fin 2 → IVec S16 32) a x).toNat < S512x16.size a)
theorem k0_idx1167_inb : ∀ (k0_t1 : Fin k0_t1_loop.trips) (v841 : IVec S16 32) (v870 : IVec S16 32) (k0_hw1167 : k0_chk1167 k0_t1 v841 v870), ∀ (k0_h7 : k0_cond7 k0_t1 = 1#1), ∀ a x, ((![v841, v870] : Fin 2 → IVec S16 32) a x).toNat < S512x16.size a := fun k0_t1 v841 v870 k0_hw1167 k0_h7 => k0_hw1167 k0_h7

def k0_chk1168 (k0_t1 : Fin k0_t1_loop.trips) (v841 : IVec S16 32) (v872 : IVec S16 32) : Prop :=
  (∀ (k0_h7 : k0_cond7 k0_t1 = 1#1), ∀ a x, ((![v841, v872] : Fin 2 → IVec S16 32) a x).toNat < S512x16.size a)
theorem k0_idx1168_inb : ∀ (k0_t1 : Fin k0_t1_loop.trips) (v841 : IVec S16 32) (v872 : IVec S16 32) (k0_hw1168 : k0_chk1168 k0_t1 v841 v872), ∀ (k0_h7 : k0_cond7 k0_t1 = 1#1), ∀ a x, ((![v841, v872] : Fin 2 → IVec S16 32) a x).toNat < S512x16.size a := fun k0_t1 v841 v872 k0_hw1168 k0_h7 => k0_hw1168 k0_h7

def k0_chk1169 (k0_t1 : Fin k0_t1_loop.trips) (v940 : IVec S16 32) (v941 : IVec S16 32) : Prop :=
  (∀ (k0_h7 : k0_cond7 k0_t1 = 1#1), ∀ a x, ((![v940, v941] : Fin 2 → IVec S16 32) a x).toNat < S512x16.size a)
theorem k0_idx1169_inb : ∀ (k0_t1 : Fin k0_t1_loop.trips) (v940 : IVec S16 32) (v941 : IVec S16 32) (k0_hw1169 : k0_chk1169 k0_t1 v940 v941), ∀ (k0_h7 : k0_cond7 k0_t1 = 1#1), ∀ a x, ((![v940, v941] : Fin 2 → IVec S16 32) a x).toNat < S512x16.size a := fun k0_t1 v940 v941 k0_hw1169 k0_h7 => k0_hw1169 k0_h7

def k0_chk1170 (k0_t1 : Fin k0_t1_loop.trips) (v940 : IVec S16 32) (v943 : IVec S16 32) : Prop :=
  (∀ (k0_h7 : k0_cond7 k0_t1 = 1#1), ∀ a x, ((![v940, v943] : Fin 2 → IVec S16 32) a x).toNat < S512x16.size a)
theorem k0_idx1170_inb : ∀ (k0_t1 : Fin k0_t1_loop.trips) (v940 : IVec S16 32) (v943 : IVec S16 32) (k0_hw1170 : k0_chk1170 k0_t1 v940 v943), ∀ (k0_h7 : k0_cond7 k0_t1 = 1#1), ∀ a x, ((![v940, v943] : Fin 2 → IVec S16 32) a x).toNat < S512x16.size a := fun k0_t1 v940 v943 k0_hw1170 k0_h7 => k0_hw1170 k0_h7

def k0_chk1171 (k0_t1 : Fin k0_t1_loop.trips) (v940 : IVec S16 32) (v945 : IVec S16 32) : Prop :=
  (∀ (k0_h7 : k0_cond7 k0_t1 = 1#1), ∀ a x, ((![v940, v945] : Fin 2 → IVec S16 32) a x).toNat < S512x16.size a)
theorem k0_idx1171_inb : ∀ (k0_t1 : Fin k0_t1_loop.trips) (v940 : IVec S16 32) (v945 : IVec S16 32) (k0_hw1171 : k0_chk1171 k0_t1 v940 v945), ∀ (k0_h7 : k0_cond7 k0_t1 = 1#1), ∀ a x, ((![v940, v945] : Fin 2 → IVec S16 32) a x).toNat < S512x16.size a := fun k0_t1 v940 v945 k0_hw1171 k0_h7 => k0_hw1171 k0_h7

def k0_chk1172 (k0_t1 : Fin k0_t1_loop.trips) (v940 : IVec S16 32) (v947 : IVec S16 32) : Prop :=
  (∀ (k0_h7 : k0_cond7 k0_t1 = 1#1), ∀ a x, ((![v940, v947] : Fin 2 → IVec S16 32) a x).toNat < S512x16.size a)
theorem k0_idx1172_inb : ∀ (k0_t1 : Fin k0_t1_loop.trips) (v940 : IVec S16 32) (v947 : IVec S16 32) (k0_hw1172 : k0_chk1172 k0_t1 v940 v947), ∀ (k0_h7 : k0_cond7 k0_t1 = 1#1), ∀ a x, ((![v940, v947] : Fin 2 → IVec S16 32) a x).toNat < S512x16.size a := fun k0_t1 v940 v947 k0_hw1172 k0_h7 => k0_hw1172 k0_h7

def k0_chk1173 (k0_t1 : Fin k0_t1_loop.trips) (v940 : IVec S16 32) (v949 : IVec S16 32) : Prop :=
  (∀ (k0_h7 : k0_cond7 k0_t1 = 1#1), ∀ a x, ((![v940, v949] : Fin 2 → IVec S16 32) a x).toNat < S512x16.size a)
theorem k0_idx1173_inb : ∀ (k0_t1 : Fin k0_t1_loop.trips) (v940 : IVec S16 32) (v949 : IVec S16 32) (k0_hw1173 : k0_chk1173 k0_t1 v940 v949), ∀ (k0_h7 : k0_cond7 k0_t1 = 1#1), ∀ a x, ((![v940, v949] : Fin 2 → IVec S16 32) a x).toNat < S512x16.size a := fun k0_t1 v940 v949 k0_hw1173 k0_h7 => k0_hw1173 k0_h7

def k0_chk1174 (k0_t1 : Fin k0_t1_loop.trips) (v940 : IVec S16 32) (v951 : IVec S16 32) : Prop :=
  (∀ (k0_h7 : k0_cond7 k0_t1 = 1#1), ∀ a x, ((![v940, v951] : Fin 2 → IVec S16 32) a x).toNat < S512x16.size a)
theorem k0_idx1174_inb : ∀ (k0_t1 : Fin k0_t1_loop.trips) (v940 : IVec S16 32) (v951 : IVec S16 32) (k0_hw1174 : k0_chk1174 k0_t1 v940 v951), ∀ (k0_h7 : k0_cond7 k0_t1 = 1#1), ∀ a x, ((![v940, v951] : Fin 2 → IVec S16 32) a x).toNat < S512x16.size a := fun k0_t1 v940 v951 k0_hw1174 k0_h7 => k0_hw1174 k0_h7

def k0_chk1175 (k0_t1 : Fin k0_t1_loop.trips) (v940 : IVec S16 32) (v953 : IVec S16 32) : Prop :=
  (∀ (k0_h7 : k0_cond7 k0_t1 = 1#1), ∀ a x, ((![v940, v953] : Fin 2 → IVec S16 32) a x).toNat < S512x16.size a)
theorem k0_idx1175_inb : ∀ (k0_t1 : Fin k0_t1_loop.trips) (v940 : IVec S16 32) (v953 : IVec S16 32) (k0_hw1175 : k0_chk1175 k0_t1 v940 v953), ∀ (k0_h7 : k0_cond7 k0_t1 = 1#1), ∀ a x, ((![v940, v953] : Fin 2 → IVec S16 32) a x).toNat < S512x16.size a := fun k0_t1 v940 v953 k0_hw1175 k0_h7 => k0_hw1175 k0_h7

def k0_chk1176 (k0_t1 : Fin k0_t1_loop.trips) (v940 : IVec S16 32) (v955 : IVec S16 32) : Prop :=
  (∀ (k0_h7 : k0_cond7 k0_t1 = 1#1), ∀ a x, ((![v940, v955] : Fin 2 → IVec S16 32) a x).toNat < S512x16.size a)
theorem k0_idx1176_inb : ∀ (k0_t1 : Fin k0_t1_loop.trips) (v940 : IVec S16 32) (v955 : IVec S16 32) (k0_hw1176 : k0_chk1176 k0_t1 v940 v955), ∀ (k0_h7 : k0_cond7 k0_t1 = 1#1), ∀ a x, ((![v940, v955] : Fin 2 → IVec S16 32) a x).toNat < S512x16.size a := fun k0_t1 v940 v955 k0_hw1176 k0_h7 => k0_hw1176 k0_h7

def k0_chk1177 (k0_t1 : Fin k0_t1_loop.trips) (v940 : IVec S16 32) (v957 : IVec S16 32) : Prop :=
  (∀ (k0_h7 : k0_cond7 k0_t1 = 1#1), ∀ a x, ((![v940, v957] : Fin 2 → IVec S16 32) a x).toNat < S512x16.size a)
theorem k0_idx1177_inb : ∀ (k0_t1 : Fin k0_t1_loop.trips) (v940 : IVec S16 32) (v957 : IVec S16 32) (k0_hw1177 : k0_chk1177 k0_t1 v940 v957), ∀ (k0_h7 : k0_cond7 k0_t1 = 1#1), ∀ a x, ((![v940, v957] : Fin 2 → IVec S16 32) a x).toNat < S512x16.size a := fun k0_t1 v940 v957 k0_hw1177 k0_h7 => k0_hw1177 k0_h7

def k0_chk1178 (k0_t1 : Fin k0_t1_loop.trips) (v940 : IVec S16 32) (v959 : IVec S16 32) : Prop :=
  (∀ (k0_h7 : k0_cond7 k0_t1 = 1#1), ∀ a x, ((![v940, v959] : Fin 2 → IVec S16 32) a x).toNat < S512x16.size a)
theorem k0_idx1178_inb : ∀ (k0_t1 : Fin k0_t1_loop.trips) (v940 : IVec S16 32) (v959 : IVec S16 32) (k0_hw1178 : k0_chk1178 k0_t1 v940 v959), ∀ (k0_h7 : k0_cond7 k0_t1 = 1#1), ∀ a x, ((![v940, v959] : Fin 2 → IVec S16 32) a x).toNat < S512x16.size a := fun k0_t1 v940 v959 k0_hw1178 k0_h7 => k0_hw1178 k0_h7

def k0_chk1179 (k0_t1 : Fin k0_t1_loop.trips) (v940 : IVec S16 32) (v961 : IVec S16 32) : Prop :=
  (∀ (k0_h7 : k0_cond7 k0_t1 = 1#1), ∀ a x, ((![v940, v961] : Fin 2 → IVec S16 32) a x).toNat < S512x16.size a)
theorem k0_idx1179_inb : ∀ (k0_t1 : Fin k0_t1_loop.trips) (v940 : IVec S16 32) (v961 : IVec S16 32) (k0_hw1179 : k0_chk1179 k0_t1 v940 v961), ∀ (k0_h7 : k0_cond7 k0_t1 = 1#1), ∀ a x, ((![v940, v961] : Fin 2 → IVec S16 32) a x).toNat < S512x16.size a := fun k0_t1 v940 v961 k0_hw1179 k0_h7 => k0_hw1179 k0_h7

def k0_chk1180 (k0_t1 : Fin k0_t1_loop.trips) (v940 : IVec S16 32) (v963 : IVec S16 32) : Prop :=
  (∀ (k0_h7 : k0_cond7 k0_t1 = 1#1), ∀ a x, ((![v940, v963] : Fin 2 → IVec S16 32) a x).toNat < S512x16.size a)
theorem k0_idx1180_inb : ∀ (k0_t1 : Fin k0_t1_loop.trips) (v940 : IVec S16 32) (v963 : IVec S16 32) (k0_hw1180 : k0_chk1180 k0_t1 v940 v963), ∀ (k0_h7 : k0_cond7 k0_t1 = 1#1), ∀ a x, ((![v940, v963] : Fin 2 → IVec S16 32) a x).toNat < S512x16.size a := fun k0_t1 v940 v963 k0_hw1180 k0_h7 => k0_hw1180 k0_h7

def k0_chk1181 (k0_t1 : Fin k0_t1_loop.trips) (v940 : IVec S16 32) (v965 : IVec S16 32) : Prop :=
  (∀ (k0_h7 : k0_cond7 k0_t1 = 1#1), ∀ a x, ((![v940, v965] : Fin 2 → IVec S16 32) a x).toNat < S512x16.size a)
theorem k0_idx1181_inb : ∀ (k0_t1 : Fin k0_t1_loop.trips) (v940 : IVec S16 32) (v965 : IVec S16 32) (k0_hw1181 : k0_chk1181 k0_t1 v940 v965), ∀ (k0_h7 : k0_cond7 k0_t1 = 1#1), ∀ a x, ((![v940, v965] : Fin 2 → IVec S16 32) a x).toNat < S512x16.size a := fun k0_t1 v940 v965 k0_hw1181 k0_h7 => k0_hw1181 k0_h7

def k0_chk1182 (k0_t1 : Fin k0_t1_loop.trips) (v940 : IVec S16 32) (v967 : IVec S16 32) : Prop :=
  (∀ (k0_h7 : k0_cond7 k0_t1 = 1#1), ∀ a x, ((![v940, v967] : Fin 2 → IVec S16 32) a x).toNat < S512x16.size a)
theorem k0_idx1182_inb : ∀ (k0_t1 : Fin k0_t1_loop.trips) (v940 : IVec S16 32) (v967 : IVec S16 32) (k0_hw1182 : k0_chk1182 k0_t1 v940 v967), ∀ (k0_h7 : k0_cond7 k0_t1 = 1#1), ∀ a x, ((![v940, v967] : Fin 2 → IVec S16 32) a x).toNat < S512x16.size a := fun k0_t1 v940 v967 k0_hw1182 k0_h7 => k0_hw1182 k0_h7

def k0_chk1183 (k0_t1 : Fin k0_t1_loop.trips) (v940 : IVec S16 32) (v969 : IVec S16 32) : Prop :=
  (∀ (k0_h7 : k0_cond7 k0_t1 = 1#1), ∀ a x, ((![v940, v969] : Fin 2 → IVec S16 32) a x).toNat < S512x16.size a)
theorem k0_idx1183_inb : ∀ (k0_t1 : Fin k0_t1_loop.trips) (v940 : IVec S16 32) (v969 : IVec S16 32) (k0_hw1183 : k0_chk1183 k0_t1 v940 v969), ∀ (k0_h7 : k0_cond7 k0_t1 = 1#1), ∀ a x, ((![v940, v969] : Fin 2 → IVec S16 32) a x).toNat < S512x16.size a := fun k0_t1 v940 v969 k0_hw1183 k0_h7 => k0_hw1183 k0_h7

def k0_chk1184 (k0_t1 : Fin k0_t1_loop.trips) (v940 : IVec S16 32) (v971 : IVec S16 32) : Prop :=
  (∀ (k0_h7 : k0_cond7 k0_t1 = 1#1), ∀ a x, ((![v940, v971] : Fin 2 → IVec S16 32) a x).toNat < S512x16.size a)
theorem k0_idx1184_inb : ∀ (k0_t1 : Fin k0_t1_loop.trips) (v940 : IVec S16 32) (v971 : IVec S16 32) (k0_hw1184 : k0_chk1184 k0_t1 v940 v971), ∀ (k0_h7 : k0_cond7 k0_t1 = 1#1), ∀ a x, ((![v940, v971] : Fin 2 → IVec S16 32) a x).toNat < S512x16.size a := fun k0_t1 v940 v971 k0_hw1184 k0_h7 => k0_hw1184 k0_h7

def k0_chk1185 (k0_t1 : Fin k0_t1_loop.trips) (v1039 : IVec S16 32) (v1040 : IVec S16 32) : Prop :=
  (∀ (k0_h7 : k0_cond7 k0_t1 = 1#1), ∀ a x, ((![v1039, v1040] : Fin 2 → IVec S16 32) a x).toNat < S512x16.size a)
theorem k0_idx1185_inb : ∀ (k0_t1 : Fin k0_t1_loop.trips) (v1039 : IVec S16 32) (v1040 : IVec S16 32) (k0_hw1185 : k0_chk1185 k0_t1 v1039 v1040), ∀ (k0_h7 : k0_cond7 k0_t1 = 1#1), ∀ a x, ((![v1039, v1040] : Fin 2 → IVec S16 32) a x).toNat < S512x16.size a := fun k0_t1 v1039 v1040 k0_hw1185 k0_h7 => k0_hw1185 k0_h7

def k0_chk1186 (k0_t1 : Fin k0_t1_loop.trips) (v1039 : IVec S16 32) (v1042 : IVec S16 32) : Prop :=
  (∀ (k0_h7 : k0_cond7 k0_t1 = 1#1), ∀ a x, ((![v1039, v1042] : Fin 2 → IVec S16 32) a x).toNat < S512x16.size a)
theorem k0_idx1186_inb : ∀ (k0_t1 : Fin k0_t1_loop.trips) (v1039 : IVec S16 32) (v1042 : IVec S16 32) (k0_hw1186 : k0_chk1186 k0_t1 v1039 v1042), ∀ (k0_h7 : k0_cond7 k0_t1 = 1#1), ∀ a x, ((![v1039, v1042] : Fin 2 → IVec S16 32) a x).toNat < S512x16.size a := fun k0_t1 v1039 v1042 k0_hw1186 k0_h7 => k0_hw1186 k0_h7

def k0_chk1187 (k0_t1 : Fin k0_t1_loop.trips) (v1039 : IVec S16 32) (v1044 : IVec S16 32) : Prop :=
  (∀ (k0_h7 : k0_cond7 k0_t1 = 1#1), ∀ a x, ((![v1039, v1044] : Fin 2 → IVec S16 32) a x).toNat < S512x16.size a)
theorem k0_idx1187_inb : ∀ (k0_t1 : Fin k0_t1_loop.trips) (v1039 : IVec S16 32) (v1044 : IVec S16 32) (k0_hw1187 : k0_chk1187 k0_t1 v1039 v1044), ∀ (k0_h7 : k0_cond7 k0_t1 = 1#1), ∀ a x, ((![v1039, v1044] : Fin 2 → IVec S16 32) a x).toNat < S512x16.size a := fun k0_t1 v1039 v1044 k0_hw1187 k0_h7 => k0_hw1187 k0_h7

def k0_chk1188 (k0_t1 : Fin k0_t1_loop.trips) (v1039 : IVec S16 32) (v1046 : IVec S16 32) : Prop :=
  (∀ (k0_h7 : k0_cond7 k0_t1 = 1#1), ∀ a x, ((![v1039, v1046] : Fin 2 → IVec S16 32) a x).toNat < S512x16.size a)
theorem k0_idx1188_inb : ∀ (k0_t1 : Fin k0_t1_loop.trips) (v1039 : IVec S16 32) (v1046 : IVec S16 32) (k0_hw1188 : k0_chk1188 k0_t1 v1039 v1046), ∀ (k0_h7 : k0_cond7 k0_t1 = 1#1), ∀ a x, ((![v1039, v1046] : Fin 2 → IVec S16 32) a x).toNat < S512x16.size a := fun k0_t1 v1039 v1046 k0_hw1188 k0_h7 => k0_hw1188 k0_h7

def k0_chk1189 (k0_t1 : Fin k0_t1_loop.trips) (v1039 : IVec S16 32) (v1048 : IVec S16 32) : Prop :=
  (∀ (k0_h7 : k0_cond7 k0_t1 = 1#1), ∀ a x, ((![v1039, v1048] : Fin 2 → IVec S16 32) a x).toNat < S512x16.size a)
theorem k0_idx1189_inb : ∀ (k0_t1 : Fin k0_t1_loop.trips) (v1039 : IVec S16 32) (v1048 : IVec S16 32) (k0_hw1189 : k0_chk1189 k0_t1 v1039 v1048), ∀ (k0_h7 : k0_cond7 k0_t1 = 1#1), ∀ a x, ((![v1039, v1048] : Fin 2 → IVec S16 32) a x).toNat < S512x16.size a := fun k0_t1 v1039 v1048 k0_hw1189 k0_h7 => k0_hw1189 k0_h7

def k0_chk1190 (k0_t1 : Fin k0_t1_loop.trips) (v1039 : IVec S16 32) (v1050 : IVec S16 32) : Prop :=
  (∀ (k0_h7 : k0_cond7 k0_t1 = 1#1), ∀ a x, ((![v1039, v1050] : Fin 2 → IVec S16 32) a x).toNat < S512x16.size a)
theorem k0_idx1190_inb : ∀ (k0_t1 : Fin k0_t1_loop.trips) (v1039 : IVec S16 32) (v1050 : IVec S16 32) (k0_hw1190 : k0_chk1190 k0_t1 v1039 v1050), ∀ (k0_h7 : k0_cond7 k0_t1 = 1#1), ∀ a x, ((![v1039, v1050] : Fin 2 → IVec S16 32) a x).toNat < S512x16.size a := fun k0_t1 v1039 v1050 k0_hw1190 k0_h7 => k0_hw1190 k0_h7

def k0_chk1191 (k0_t1 : Fin k0_t1_loop.trips) (v1039 : IVec S16 32) (v1052 : IVec S16 32) : Prop :=
  (∀ (k0_h7 : k0_cond7 k0_t1 = 1#1), ∀ a x, ((![v1039, v1052] : Fin 2 → IVec S16 32) a x).toNat < S512x16.size a)
theorem k0_idx1191_inb : ∀ (k0_t1 : Fin k0_t1_loop.trips) (v1039 : IVec S16 32) (v1052 : IVec S16 32) (k0_hw1191 : k0_chk1191 k0_t1 v1039 v1052), ∀ (k0_h7 : k0_cond7 k0_t1 = 1#1), ∀ a x, ((![v1039, v1052] : Fin 2 → IVec S16 32) a x).toNat < S512x16.size a := fun k0_t1 v1039 v1052 k0_hw1191 k0_h7 => k0_hw1191 k0_h7

def k0_chk1192 (k0_t1 : Fin k0_t1_loop.trips) (v1039 : IVec S16 32) (v1054 : IVec S16 32) : Prop :=
  (∀ (k0_h7 : k0_cond7 k0_t1 = 1#1), ∀ a x, ((![v1039, v1054] : Fin 2 → IVec S16 32) a x).toNat < S512x16.size a)
theorem k0_idx1192_inb : ∀ (k0_t1 : Fin k0_t1_loop.trips) (v1039 : IVec S16 32) (v1054 : IVec S16 32) (k0_hw1192 : k0_chk1192 k0_t1 v1039 v1054), ∀ (k0_h7 : k0_cond7 k0_t1 = 1#1), ∀ a x, ((![v1039, v1054] : Fin 2 → IVec S16 32) a x).toNat < S512x16.size a := fun k0_t1 v1039 v1054 k0_hw1192 k0_h7 => k0_hw1192 k0_h7

def k0_chk1193 (k0_t1 : Fin k0_t1_loop.trips) (v1039 : IVec S16 32) (v1056 : IVec S16 32) : Prop :=
  (∀ (k0_h7 : k0_cond7 k0_t1 = 1#1), ∀ a x, ((![v1039, v1056] : Fin 2 → IVec S16 32) a x).toNat < S512x16.size a)
theorem k0_idx1193_inb : ∀ (k0_t1 : Fin k0_t1_loop.trips) (v1039 : IVec S16 32) (v1056 : IVec S16 32) (k0_hw1193 : k0_chk1193 k0_t1 v1039 v1056), ∀ (k0_h7 : k0_cond7 k0_t1 = 1#1), ∀ a x, ((![v1039, v1056] : Fin 2 → IVec S16 32) a x).toNat < S512x16.size a := fun k0_t1 v1039 v1056 k0_hw1193 k0_h7 => k0_hw1193 k0_h7

def k0_chk1194 (k0_t1 : Fin k0_t1_loop.trips) (v1039 : IVec S16 32) (v1058 : IVec S16 32) : Prop :=
  (∀ (k0_h7 : k0_cond7 k0_t1 = 1#1), ∀ a x, ((![v1039, v1058] : Fin 2 → IVec S16 32) a x).toNat < S512x16.size a)
theorem k0_idx1194_inb : ∀ (k0_t1 : Fin k0_t1_loop.trips) (v1039 : IVec S16 32) (v1058 : IVec S16 32) (k0_hw1194 : k0_chk1194 k0_t1 v1039 v1058), ∀ (k0_h7 : k0_cond7 k0_t1 = 1#1), ∀ a x, ((![v1039, v1058] : Fin 2 → IVec S16 32) a x).toNat < S512x16.size a := fun k0_t1 v1039 v1058 k0_hw1194 k0_h7 => k0_hw1194 k0_h7

def k0_chk1195 (k0_t1 : Fin k0_t1_loop.trips) (v1039 : IVec S16 32) (v1060 : IVec S16 32) : Prop :=
  (∀ (k0_h7 : k0_cond7 k0_t1 = 1#1), ∀ a x, ((![v1039, v1060] : Fin 2 → IVec S16 32) a x).toNat < S512x16.size a)
theorem k0_idx1195_inb : ∀ (k0_t1 : Fin k0_t1_loop.trips) (v1039 : IVec S16 32) (v1060 : IVec S16 32) (k0_hw1195 : k0_chk1195 k0_t1 v1039 v1060), ∀ (k0_h7 : k0_cond7 k0_t1 = 1#1), ∀ a x, ((![v1039, v1060] : Fin 2 → IVec S16 32) a x).toNat < S512x16.size a := fun k0_t1 v1039 v1060 k0_hw1195 k0_h7 => k0_hw1195 k0_h7

def k0_chk1196 (k0_t1 : Fin k0_t1_loop.trips) (v1039 : IVec S16 32) (v1062 : IVec S16 32) : Prop :=
  (∀ (k0_h7 : k0_cond7 k0_t1 = 1#1), ∀ a x, ((![v1039, v1062] : Fin 2 → IVec S16 32) a x).toNat < S512x16.size a)
theorem k0_idx1196_inb : ∀ (k0_t1 : Fin k0_t1_loop.trips) (v1039 : IVec S16 32) (v1062 : IVec S16 32) (k0_hw1196 : k0_chk1196 k0_t1 v1039 v1062), ∀ (k0_h7 : k0_cond7 k0_t1 = 1#1), ∀ a x, ((![v1039, v1062] : Fin 2 → IVec S16 32) a x).toNat < S512x16.size a := fun k0_t1 v1039 v1062 k0_hw1196 k0_h7 => k0_hw1196 k0_h7

def k0_chk1197 (k0_t1 : Fin k0_t1_loop.trips) (v1039 : IVec S16 32) (v1064 : IVec S16 32) : Prop :=
  (∀ (k0_h7 : k0_cond7 k0_t1 = 1#1), ∀ a x, ((![v1039, v1064] : Fin 2 → IVec S16 32) a x).toNat < S512x16.size a)
theorem k0_idx1197_inb : ∀ (k0_t1 : Fin k0_t1_loop.trips) (v1039 : IVec S16 32) (v1064 : IVec S16 32) (k0_hw1197 : k0_chk1197 k0_t1 v1039 v1064), ∀ (k0_h7 : k0_cond7 k0_t1 = 1#1), ∀ a x, ((![v1039, v1064] : Fin 2 → IVec S16 32) a x).toNat < S512x16.size a := fun k0_t1 v1039 v1064 k0_hw1197 k0_h7 => k0_hw1197 k0_h7

def k0_chk1198 (k0_t1 : Fin k0_t1_loop.trips) (v1039 : IVec S16 32) (v1066 : IVec S16 32) : Prop :=
  (∀ (k0_h7 : k0_cond7 k0_t1 = 1#1), ∀ a x, ((![v1039, v1066] : Fin 2 → IVec S16 32) a x).toNat < S512x16.size a)
theorem k0_idx1198_inb : ∀ (k0_t1 : Fin k0_t1_loop.trips) (v1039 : IVec S16 32) (v1066 : IVec S16 32) (k0_hw1198 : k0_chk1198 k0_t1 v1039 v1066), ∀ (k0_h7 : k0_cond7 k0_t1 = 1#1), ∀ a x, ((![v1039, v1066] : Fin 2 → IVec S16 32) a x).toNat < S512x16.size a := fun k0_t1 v1039 v1066 k0_hw1198 k0_h7 => k0_hw1198 k0_h7

def k0_chk1199 (k0_t1 : Fin k0_t1_loop.trips) (v1039 : IVec S16 32) (v1068 : IVec S16 32) : Prop :=
  (∀ (k0_h7 : k0_cond7 k0_t1 = 1#1), ∀ a x, ((![v1039, v1068] : Fin 2 → IVec S16 32) a x).toNat < S512x16.size a)
theorem k0_idx1199_inb : ∀ (k0_t1 : Fin k0_t1_loop.trips) (v1039 : IVec S16 32) (v1068 : IVec S16 32) (k0_hw1199 : k0_chk1199 k0_t1 v1039 v1068), ∀ (k0_h7 : k0_cond7 k0_t1 = 1#1), ∀ a x, ((![v1039, v1068] : Fin 2 → IVec S16 32) a x).toNat < S512x16.size a := fun k0_t1 v1039 v1068 k0_hw1199 k0_h7 => k0_hw1199 k0_h7

def k0_chk1200 (k0_t1 : Fin k0_t1_loop.trips) (v1039 : IVec S16 32) (v1070 : IVec S16 32) : Prop :=
  (∀ (k0_h7 : k0_cond7 k0_t1 = 1#1), ∀ a x, ((![v1039, v1070] : Fin 2 → IVec S16 32) a x).toNat < S512x16.size a)
theorem k0_idx1200_inb : ∀ (k0_t1 : Fin k0_t1_loop.trips) (v1039 : IVec S16 32) (v1070 : IVec S16 32) (k0_hw1200 : k0_chk1200 k0_t1 v1039 v1070), ∀ (k0_h7 : k0_cond7 k0_t1 = 1#1), ∀ a x, ((![v1039, v1070] : Fin 2 → IVec S16 32) a x).toNat < S512x16.size a := fun k0_t1 v1039 v1070 k0_hw1200 k0_h7 => k0_hw1200 k0_h7

def k0_chk1201 (k0_t1 : Fin k0_t1_loop.trips) (v1138 : IVec S16 32) (v1139 : IVec S16 32) : Prop :=
  (∀ (k0_h7 : k0_cond7 k0_t1 = 1#1), ∀ a x, ((![v1138, v1139] : Fin 2 → IVec S16 32) a x).toNat < S512x16.size a)
theorem k0_idx1201_inb : ∀ (k0_t1 : Fin k0_t1_loop.trips) (v1138 : IVec S16 32) (v1139 : IVec S16 32) (k0_hw1201 : k0_chk1201 k0_t1 v1138 v1139), ∀ (k0_h7 : k0_cond7 k0_t1 = 1#1), ∀ a x, ((![v1138, v1139] : Fin 2 → IVec S16 32) a x).toNat < S512x16.size a := fun k0_t1 v1138 v1139 k0_hw1201 k0_h7 => k0_hw1201 k0_h7

def k0_chk1202 (k0_t1 : Fin k0_t1_loop.trips) (v1138 : IVec S16 32) (v1141 : IVec S16 32) : Prop :=
  (∀ (k0_h7 : k0_cond7 k0_t1 = 1#1), ∀ a x, ((![v1138, v1141] : Fin 2 → IVec S16 32) a x).toNat < S512x16.size a)
theorem k0_idx1202_inb : ∀ (k0_t1 : Fin k0_t1_loop.trips) (v1138 : IVec S16 32) (v1141 : IVec S16 32) (k0_hw1202 : k0_chk1202 k0_t1 v1138 v1141), ∀ (k0_h7 : k0_cond7 k0_t1 = 1#1), ∀ a x, ((![v1138, v1141] : Fin 2 → IVec S16 32) a x).toNat < S512x16.size a := fun k0_t1 v1138 v1141 k0_hw1202 k0_h7 => k0_hw1202 k0_h7

def k0_chk1203 (k0_t1 : Fin k0_t1_loop.trips) (v1138 : IVec S16 32) (v1143 : IVec S16 32) : Prop :=
  (∀ (k0_h7 : k0_cond7 k0_t1 = 1#1), ∀ a x, ((![v1138, v1143] : Fin 2 → IVec S16 32) a x).toNat < S512x16.size a)
theorem k0_idx1203_inb : ∀ (k0_t1 : Fin k0_t1_loop.trips) (v1138 : IVec S16 32) (v1143 : IVec S16 32) (k0_hw1203 : k0_chk1203 k0_t1 v1138 v1143), ∀ (k0_h7 : k0_cond7 k0_t1 = 1#1), ∀ a x, ((![v1138, v1143] : Fin 2 → IVec S16 32) a x).toNat < S512x16.size a := fun k0_t1 v1138 v1143 k0_hw1203 k0_h7 => k0_hw1203 k0_h7

def k0_chk1204 (k0_t1 : Fin k0_t1_loop.trips) (v1138 : IVec S16 32) (v1145 : IVec S16 32) : Prop :=
  (∀ (k0_h7 : k0_cond7 k0_t1 = 1#1), ∀ a x, ((![v1138, v1145] : Fin 2 → IVec S16 32) a x).toNat < S512x16.size a)
theorem k0_idx1204_inb : ∀ (k0_t1 : Fin k0_t1_loop.trips) (v1138 : IVec S16 32) (v1145 : IVec S16 32) (k0_hw1204 : k0_chk1204 k0_t1 v1138 v1145), ∀ (k0_h7 : k0_cond7 k0_t1 = 1#1), ∀ a x, ((![v1138, v1145] : Fin 2 → IVec S16 32) a x).toNat < S512x16.size a := fun k0_t1 v1138 v1145 k0_hw1204 k0_h7 => k0_hw1204 k0_h7

def k0_chk1205 (k0_t1 : Fin k0_t1_loop.trips) (v1138 : IVec S16 32) (v1147 : IVec S16 32) : Prop :=
  (∀ (k0_h7 : k0_cond7 k0_t1 = 1#1), ∀ a x, ((![v1138, v1147] : Fin 2 → IVec S16 32) a x).toNat < S512x16.size a)
theorem k0_idx1205_inb : ∀ (k0_t1 : Fin k0_t1_loop.trips) (v1138 : IVec S16 32) (v1147 : IVec S16 32) (k0_hw1205 : k0_chk1205 k0_t1 v1138 v1147), ∀ (k0_h7 : k0_cond7 k0_t1 = 1#1), ∀ a x, ((![v1138, v1147] : Fin 2 → IVec S16 32) a x).toNat < S512x16.size a := fun k0_t1 v1138 v1147 k0_hw1205 k0_h7 => k0_hw1205 k0_h7

def k0_chk1206 (k0_t1 : Fin k0_t1_loop.trips) (v1138 : IVec S16 32) (v1149 : IVec S16 32) : Prop :=
  (∀ (k0_h7 : k0_cond7 k0_t1 = 1#1), ∀ a x, ((![v1138, v1149] : Fin 2 → IVec S16 32) a x).toNat < S512x16.size a)
theorem k0_idx1206_inb : ∀ (k0_t1 : Fin k0_t1_loop.trips) (v1138 : IVec S16 32) (v1149 : IVec S16 32) (k0_hw1206 : k0_chk1206 k0_t1 v1138 v1149), ∀ (k0_h7 : k0_cond7 k0_t1 = 1#1), ∀ a x, ((![v1138, v1149] : Fin 2 → IVec S16 32) a x).toNat < S512x16.size a := fun k0_t1 v1138 v1149 k0_hw1206 k0_h7 => k0_hw1206 k0_h7

def k0_chk1207 (k0_t1 : Fin k0_t1_loop.trips) (v1138 : IVec S16 32) (v1151 : IVec S16 32) : Prop :=
  (∀ (k0_h7 : k0_cond7 k0_t1 = 1#1), ∀ a x, ((![v1138, v1151] : Fin 2 → IVec S16 32) a x).toNat < S512x16.size a)
theorem k0_idx1207_inb : ∀ (k0_t1 : Fin k0_t1_loop.trips) (v1138 : IVec S16 32) (v1151 : IVec S16 32) (k0_hw1207 : k0_chk1207 k0_t1 v1138 v1151), ∀ (k0_h7 : k0_cond7 k0_t1 = 1#1), ∀ a x, ((![v1138, v1151] : Fin 2 → IVec S16 32) a x).toNat < S512x16.size a := fun k0_t1 v1138 v1151 k0_hw1207 k0_h7 => k0_hw1207 k0_h7

def k0_chk1208 (k0_t1 : Fin k0_t1_loop.trips) (v1138 : IVec S16 32) (v1153 : IVec S16 32) : Prop :=
  (∀ (k0_h7 : k0_cond7 k0_t1 = 1#1), ∀ a x, ((![v1138, v1153] : Fin 2 → IVec S16 32) a x).toNat < S512x16.size a)
theorem k0_idx1208_inb : ∀ (k0_t1 : Fin k0_t1_loop.trips) (v1138 : IVec S16 32) (v1153 : IVec S16 32) (k0_hw1208 : k0_chk1208 k0_t1 v1138 v1153), ∀ (k0_h7 : k0_cond7 k0_t1 = 1#1), ∀ a x, ((![v1138, v1153] : Fin 2 → IVec S16 32) a x).toNat < S512x16.size a := fun k0_t1 v1138 v1153 k0_hw1208 k0_h7 => k0_hw1208 k0_h7

def k0_chk1209 (k0_t1 : Fin k0_t1_loop.trips) (v1138 : IVec S16 32) (v1155 : IVec S16 32) : Prop :=
  (∀ (k0_h7 : k0_cond7 k0_t1 = 1#1), ∀ a x, ((![v1138, v1155] : Fin 2 → IVec S16 32) a x).toNat < S512x16.size a)
theorem k0_idx1209_inb : ∀ (k0_t1 : Fin k0_t1_loop.trips) (v1138 : IVec S16 32) (v1155 : IVec S16 32) (k0_hw1209 : k0_chk1209 k0_t1 v1138 v1155), ∀ (k0_h7 : k0_cond7 k0_t1 = 1#1), ∀ a x, ((![v1138, v1155] : Fin 2 → IVec S16 32) a x).toNat < S512x16.size a := fun k0_t1 v1138 v1155 k0_hw1209 k0_h7 => k0_hw1209 k0_h7

def k0_chk1210 (k0_t1 : Fin k0_t1_loop.trips) (v1138 : IVec S16 32) (v1157 : IVec S16 32) : Prop :=
  (∀ (k0_h7 : k0_cond7 k0_t1 = 1#1), ∀ a x, ((![v1138, v1157] : Fin 2 → IVec S16 32) a x).toNat < S512x16.size a)
theorem k0_idx1210_inb : ∀ (k0_t1 : Fin k0_t1_loop.trips) (v1138 : IVec S16 32) (v1157 : IVec S16 32) (k0_hw1210 : k0_chk1210 k0_t1 v1138 v1157), ∀ (k0_h7 : k0_cond7 k0_t1 = 1#1), ∀ a x, ((![v1138, v1157] : Fin 2 → IVec S16 32) a x).toNat < S512x16.size a := fun k0_t1 v1138 v1157 k0_hw1210 k0_h7 => k0_hw1210 k0_h7

def k0_chk1211 (k0_t1 : Fin k0_t1_loop.trips) (v1138 : IVec S16 32) (v1159 : IVec S16 32) : Prop :=
  (∀ (k0_h7 : k0_cond7 k0_t1 = 1#1), ∀ a x, ((![v1138, v1159] : Fin 2 → IVec S16 32) a x).toNat < S512x16.size a)
theorem k0_idx1211_inb : ∀ (k0_t1 : Fin k0_t1_loop.trips) (v1138 : IVec S16 32) (v1159 : IVec S16 32) (k0_hw1211 : k0_chk1211 k0_t1 v1138 v1159), ∀ (k0_h7 : k0_cond7 k0_t1 = 1#1), ∀ a x, ((![v1138, v1159] : Fin 2 → IVec S16 32) a x).toNat < S512x16.size a := fun k0_t1 v1138 v1159 k0_hw1211 k0_h7 => k0_hw1211 k0_h7

def k0_chk1212 (k0_t1 : Fin k0_t1_loop.trips) (v1138 : IVec S16 32) (v1161 : IVec S16 32) : Prop :=
  (∀ (k0_h7 : k0_cond7 k0_t1 = 1#1), ∀ a x, ((![v1138, v1161] : Fin 2 → IVec S16 32) a x).toNat < S512x16.size a)
theorem k0_idx1212_inb : ∀ (k0_t1 : Fin k0_t1_loop.trips) (v1138 : IVec S16 32) (v1161 : IVec S16 32) (k0_hw1212 : k0_chk1212 k0_t1 v1138 v1161), ∀ (k0_h7 : k0_cond7 k0_t1 = 1#1), ∀ a x, ((![v1138, v1161] : Fin 2 → IVec S16 32) a x).toNat < S512x16.size a := fun k0_t1 v1138 v1161 k0_hw1212 k0_h7 => k0_hw1212 k0_h7

def k0_chk1213 (k0_t1 : Fin k0_t1_loop.trips) (v1138 : IVec S16 32) (v1163 : IVec S16 32) : Prop :=
  (∀ (k0_h7 : k0_cond7 k0_t1 = 1#1), ∀ a x, ((![v1138, v1163] : Fin 2 → IVec S16 32) a x).toNat < S512x16.size a)
theorem k0_idx1213_inb : ∀ (k0_t1 : Fin k0_t1_loop.trips) (v1138 : IVec S16 32) (v1163 : IVec S16 32) (k0_hw1213 : k0_chk1213 k0_t1 v1138 v1163), ∀ (k0_h7 : k0_cond7 k0_t1 = 1#1), ∀ a x, ((![v1138, v1163] : Fin 2 → IVec S16 32) a x).toNat < S512x16.size a := fun k0_t1 v1138 v1163 k0_hw1213 k0_h7 => k0_hw1213 k0_h7

def k0_chk1214 (k0_t1 : Fin k0_t1_loop.trips) (v1138 : IVec S16 32) (v1165 : IVec S16 32) : Prop :=
  (∀ (k0_h7 : k0_cond7 k0_t1 = 1#1), ∀ a x, ((![v1138, v1165] : Fin 2 → IVec S16 32) a x).toNat < S512x16.size a)
theorem k0_idx1214_inb : ∀ (k0_t1 : Fin k0_t1_loop.trips) (v1138 : IVec S16 32) (v1165 : IVec S16 32) (k0_hw1214 : k0_chk1214 k0_t1 v1138 v1165), ∀ (k0_h7 : k0_cond7 k0_t1 = 1#1), ∀ a x, ((![v1138, v1165] : Fin 2 → IVec S16 32) a x).toNat < S512x16.size a := fun k0_t1 v1138 v1165 k0_hw1214 k0_h7 => k0_hw1214 k0_h7

def k0_chk1215 (k0_t1 : Fin k0_t1_loop.trips) (v1138 : IVec S16 32) (v1167 : IVec S16 32) : Prop :=
  (∀ (k0_h7 : k0_cond7 k0_t1 = 1#1), ∀ a x, ((![v1138, v1167] : Fin 2 → IVec S16 32) a x).toNat < S512x16.size a)
theorem k0_idx1215_inb : ∀ (k0_t1 : Fin k0_t1_loop.trips) (v1138 : IVec S16 32) (v1167 : IVec S16 32) (k0_hw1215 : k0_chk1215 k0_t1 v1138 v1167), ∀ (k0_h7 : k0_cond7 k0_t1 = 1#1), ∀ a x, ((![v1138, v1167] : Fin 2 → IVec S16 32) a x).toNat < S512x16.size a := fun k0_t1 v1138 v1167 k0_hw1215 k0_h7 => k0_hw1215 k0_h7

def k0_chk1216 (k0_t1 : Fin k0_t1_loop.trips) (v1138 : IVec S16 32) (v1169 : IVec S16 32) : Prop :=
  (∀ (k0_h7 : k0_cond7 k0_t1 = 1#1), ∀ a x, ((![v1138, v1169] : Fin 2 → IVec S16 32) a x).toNat < S512x16.size a)
theorem k0_idx1216_inb : ∀ (k0_t1 : Fin k0_t1_loop.trips) (v1138 : IVec S16 32) (v1169 : IVec S16 32) (k0_hw1216 : k0_chk1216 k0_t1 v1138 v1169), ∀ (k0_h7 : k0_cond7 k0_t1 = 1#1), ∀ a x, ((![v1138, v1169] : Fin 2 → IVec S16 32) a x).toNat < S512x16.size a := fun k0_t1 v1138 v1169 k0_hw1216 k0_h7 => k0_hw1216 k0_h7

def k0_chk1217 (k0_t1 : Fin k0_t1_loop.trips) (v1237 : IVec S16 32) (v1238 : IVec S16 32) : Prop :=
  (∀ (k0_h7 : k0_cond7 k0_t1 = 1#1), ∀ a x, ((![v1237, v1238] : Fin 2 → IVec S16 32) a x).toNat < S512x16.size a)
theorem k0_idx1217_inb : ∀ (k0_t1 : Fin k0_t1_loop.trips) (v1237 : IVec S16 32) (v1238 : IVec S16 32) (k0_hw1217 : k0_chk1217 k0_t1 v1237 v1238), ∀ (k0_h7 : k0_cond7 k0_t1 = 1#1), ∀ a x, ((![v1237, v1238] : Fin 2 → IVec S16 32) a x).toNat < S512x16.size a := fun k0_t1 v1237 v1238 k0_hw1217 k0_h7 => k0_hw1217 k0_h7

def k0_chk1218 (k0_t1 : Fin k0_t1_loop.trips) (v1237 : IVec S16 32) (v1240 : IVec S16 32) : Prop :=
  (∀ (k0_h7 : k0_cond7 k0_t1 = 1#1), ∀ a x, ((![v1237, v1240] : Fin 2 → IVec S16 32) a x).toNat < S512x16.size a)
theorem k0_idx1218_inb : ∀ (k0_t1 : Fin k0_t1_loop.trips) (v1237 : IVec S16 32) (v1240 : IVec S16 32) (k0_hw1218 : k0_chk1218 k0_t1 v1237 v1240), ∀ (k0_h7 : k0_cond7 k0_t1 = 1#1), ∀ a x, ((![v1237, v1240] : Fin 2 → IVec S16 32) a x).toNat < S512x16.size a := fun k0_t1 v1237 v1240 k0_hw1218 k0_h7 => k0_hw1218 k0_h7

def k0_chk1219 (k0_t1 : Fin k0_t1_loop.trips) (v1237 : IVec S16 32) (v1242 : IVec S16 32) : Prop :=
  (∀ (k0_h7 : k0_cond7 k0_t1 = 1#1), ∀ a x, ((![v1237, v1242] : Fin 2 → IVec S16 32) a x).toNat < S512x16.size a)
theorem k0_idx1219_inb : ∀ (k0_t1 : Fin k0_t1_loop.trips) (v1237 : IVec S16 32) (v1242 : IVec S16 32) (k0_hw1219 : k0_chk1219 k0_t1 v1237 v1242), ∀ (k0_h7 : k0_cond7 k0_t1 = 1#1), ∀ a x, ((![v1237, v1242] : Fin 2 → IVec S16 32) a x).toNat < S512x16.size a := fun k0_t1 v1237 v1242 k0_hw1219 k0_h7 => k0_hw1219 k0_h7

def k0_chk1220 (k0_t1 : Fin k0_t1_loop.trips) (v1237 : IVec S16 32) (v1244 : IVec S16 32) : Prop :=
  (∀ (k0_h7 : k0_cond7 k0_t1 = 1#1), ∀ a x, ((![v1237, v1244] : Fin 2 → IVec S16 32) a x).toNat < S512x16.size a)
theorem k0_idx1220_inb : ∀ (k0_t1 : Fin k0_t1_loop.trips) (v1237 : IVec S16 32) (v1244 : IVec S16 32) (k0_hw1220 : k0_chk1220 k0_t1 v1237 v1244), ∀ (k0_h7 : k0_cond7 k0_t1 = 1#1), ∀ a x, ((![v1237, v1244] : Fin 2 → IVec S16 32) a x).toNat < S512x16.size a := fun k0_t1 v1237 v1244 k0_hw1220 k0_h7 => k0_hw1220 k0_h7

def k0_chk1221 (k0_t1 : Fin k0_t1_loop.trips) (v1237 : IVec S16 32) (v1246 : IVec S16 32) : Prop :=
  (∀ (k0_h7 : k0_cond7 k0_t1 = 1#1), ∀ a x, ((![v1237, v1246] : Fin 2 → IVec S16 32) a x).toNat < S512x16.size a)
theorem k0_idx1221_inb : ∀ (k0_t1 : Fin k0_t1_loop.trips) (v1237 : IVec S16 32) (v1246 : IVec S16 32) (k0_hw1221 : k0_chk1221 k0_t1 v1237 v1246), ∀ (k0_h7 : k0_cond7 k0_t1 = 1#1), ∀ a x, ((![v1237, v1246] : Fin 2 → IVec S16 32) a x).toNat < S512x16.size a := fun k0_t1 v1237 v1246 k0_hw1221 k0_h7 => k0_hw1221 k0_h7

def k0_chk1222 (k0_t1 : Fin k0_t1_loop.trips) (v1237 : IVec S16 32) (v1248 : IVec S16 32) : Prop :=
  (∀ (k0_h7 : k0_cond7 k0_t1 = 1#1), ∀ a x, ((![v1237, v1248] : Fin 2 → IVec S16 32) a x).toNat < S512x16.size a)
theorem k0_idx1222_inb : ∀ (k0_t1 : Fin k0_t1_loop.trips) (v1237 : IVec S16 32) (v1248 : IVec S16 32) (k0_hw1222 : k0_chk1222 k0_t1 v1237 v1248), ∀ (k0_h7 : k0_cond7 k0_t1 = 1#1), ∀ a x, ((![v1237, v1248] : Fin 2 → IVec S16 32) a x).toNat < S512x16.size a := fun k0_t1 v1237 v1248 k0_hw1222 k0_h7 => k0_hw1222 k0_h7

def k0_chk1223 (k0_t1 : Fin k0_t1_loop.trips) (v1237 : IVec S16 32) (v1250 : IVec S16 32) : Prop :=
  (∀ (k0_h7 : k0_cond7 k0_t1 = 1#1), ∀ a x, ((![v1237, v1250] : Fin 2 → IVec S16 32) a x).toNat < S512x16.size a)
theorem k0_idx1223_inb : ∀ (k0_t1 : Fin k0_t1_loop.trips) (v1237 : IVec S16 32) (v1250 : IVec S16 32) (k0_hw1223 : k0_chk1223 k0_t1 v1237 v1250), ∀ (k0_h7 : k0_cond7 k0_t1 = 1#1), ∀ a x, ((![v1237, v1250] : Fin 2 → IVec S16 32) a x).toNat < S512x16.size a := fun k0_t1 v1237 v1250 k0_hw1223 k0_h7 => k0_hw1223 k0_h7

def k0_chk1224 (k0_t1 : Fin k0_t1_loop.trips) (v1237 : IVec S16 32) (v1252 : IVec S16 32) : Prop :=
  (∀ (k0_h7 : k0_cond7 k0_t1 = 1#1), ∀ a x, ((![v1237, v1252] : Fin 2 → IVec S16 32) a x).toNat < S512x16.size a)
theorem k0_idx1224_inb : ∀ (k0_t1 : Fin k0_t1_loop.trips) (v1237 : IVec S16 32) (v1252 : IVec S16 32) (k0_hw1224 : k0_chk1224 k0_t1 v1237 v1252), ∀ (k0_h7 : k0_cond7 k0_t1 = 1#1), ∀ a x, ((![v1237, v1252] : Fin 2 → IVec S16 32) a x).toNat < S512x16.size a := fun k0_t1 v1237 v1252 k0_hw1224 k0_h7 => k0_hw1224 k0_h7

def k0_chk1225 (k0_t1 : Fin k0_t1_loop.trips) (v1237 : IVec S16 32) (v1254 : IVec S16 32) : Prop :=
  (∀ (k0_h7 : k0_cond7 k0_t1 = 1#1), ∀ a x, ((![v1237, v1254] : Fin 2 → IVec S16 32) a x).toNat < S512x16.size a)
theorem k0_idx1225_inb : ∀ (k0_t1 : Fin k0_t1_loop.trips) (v1237 : IVec S16 32) (v1254 : IVec S16 32) (k0_hw1225 : k0_chk1225 k0_t1 v1237 v1254), ∀ (k0_h7 : k0_cond7 k0_t1 = 1#1), ∀ a x, ((![v1237, v1254] : Fin 2 → IVec S16 32) a x).toNat < S512x16.size a := fun k0_t1 v1237 v1254 k0_hw1225 k0_h7 => k0_hw1225 k0_h7

def k0_chk1226 (k0_t1 : Fin k0_t1_loop.trips) (v1237 : IVec S16 32) (v1256 : IVec S16 32) : Prop :=
  (∀ (k0_h7 : k0_cond7 k0_t1 = 1#1), ∀ a x, ((![v1237, v1256] : Fin 2 → IVec S16 32) a x).toNat < S512x16.size a)
theorem k0_idx1226_inb : ∀ (k0_t1 : Fin k0_t1_loop.trips) (v1237 : IVec S16 32) (v1256 : IVec S16 32) (k0_hw1226 : k0_chk1226 k0_t1 v1237 v1256), ∀ (k0_h7 : k0_cond7 k0_t1 = 1#1), ∀ a x, ((![v1237, v1256] : Fin 2 → IVec S16 32) a x).toNat < S512x16.size a := fun k0_t1 v1237 v1256 k0_hw1226 k0_h7 => k0_hw1226 k0_h7

def k0_chk1227 (k0_t1 : Fin k0_t1_loop.trips) (v1237 : IVec S16 32) (v1258 : IVec S16 32) : Prop :=
  (∀ (k0_h7 : k0_cond7 k0_t1 = 1#1), ∀ a x, ((![v1237, v1258] : Fin 2 → IVec S16 32) a x).toNat < S512x16.size a)
theorem k0_idx1227_inb : ∀ (k0_t1 : Fin k0_t1_loop.trips) (v1237 : IVec S16 32) (v1258 : IVec S16 32) (k0_hw1227 : k0_chk1227 k0_t1 v1237 v1258), ∀ (k0_h7 : k0_cond7 k0_t1 = 1#1), ∀ a x, ((![v1237, v1258] : Fin 2 → IVec S16 32) a x).toNat < S512x16.size a := fun k0_t1 v1237 v1258 k0_hw1227 k0_h7 => k0_hw1227 k0_h7

def k0_chk1228 (k0_t1 : Fin k0_t1_loop.trips) (v1237 : IVec S16 32) (v1260 : IVec S16 32) : Prop :=
  (∀ (k0_h7 : k0_cond7 k0_t1 = 1#1), ∀ a x, ((![v1237, v1260] : Fin 2 → IVec S16 32) a x).toNat < S512x16.size a)
theorem k0_idx1228_inb : ∀ (k0_t1 : Fin k0_t1_loop.trips) (v1237 : IVec S16 32) (v1260 : IVec S16 32) (k0_hw1228 : k0_chk1228 k0_t1 v1237 v1260), ∀ (k0_h7 : k0_cond7 k0_t1 = 1#1), ∀ a x, ((![v1237, v1260] : Fin 2 → IVec S16 32) a x).toNat < S512x16.size a := fun k0_t1 v1237 v1260 k0_hw1228 k0_h7 => k0_hw1228 k0_h7

def k0_chk1229 (k0_t1 : Fin k0_t1_loop.trips) (v1237 : IVec S16 32) (v1262 : IVec S16 32) : Prop :=
  (∀ (k0_h7 : k0_cond7 k0_t1 = 1#1), ∀ a x, ((![v1237, v1262] : Fin 2 → IVec S16 32) a x).toNat < S512x16.size a)
theorem k0_idx1229_inb : ∀ (k0_t1 : Fin k0_t1_loop.trips) (v1237 : IVec S16 32) (v1262 : IVec S16 32) (k0_hw1229 : k0_chk1229 k0_t1 v1237 v1262), ∀ (k0_h7 : k0_cond7 k0_t1 = 1#1), ∀ a x, ((![v1237, v1262] : Fin 2 → IVec S16 32) a x).toNat < S512x16.size a := fun k0_t1 v1237 v1262 k0_hw1229 k0_h7 => k0_hw1229 k0_h7

def k0_chk1230 (k0_t1 : Fin k0_t1_loop.trips) (v1237 : IVec S16 32) (v1264 : IVec S16 32) : Prop :=
  (∀ (k0_h7 : k0_cond7 k0_t1 = 1#1), ∀ a x, ((![v1237, v1264] : Fin 2 → IVec S16 32) a x).toNat < S512x16.size a)
theorem k0_idx1230_inb : ∀ (k0_t1 : Fin k0_t1_loop.trips) (v1237 : IVec S16 32) (v1264 : IVec S16 32) (k0_hw1230 : k0_chk1230 k0_t1 v1237 v1264), ∀ (k0_h7 : k0_cond7 k0_t1 = 1#1), ∀ a x, ((![v1237, v1264] : Fin 2 → IVec S16 32) a x).toNat < S512x16.size a := fun k0_t1 v1237 v1264 k0_hw1230 k0_h7 => k0_hw1230 k0_h7

def k0_chk1231 (k0_t1 : Fin k0_t1_loop.trips) (v1237 : IVec S16 32) (v1266 : IVec S16 32) : Prop :=
  (∀ (k0_h7 : k0_cond7 k0_t1 = 1#1), ∀ a x, ((![v1237, v1266] : Fin 2 → IVec S16 32) a x).toNat < S512x16.size a)
theorem k0_idx1231_inb : ∀ (k0_t1 : Fin k0_t1_loop.trips) (v1237 : IVec S16 32) (v1266 : IVec S16 32) (k0_hw1231 : k0_chk1231 k0_t1 v1237 v1266), ∀ (k0_h7 : k0_cond7 k0_t1 = 1#1), ∀ a x, ((![v1237, v1266] : Fin 2 → IVec S16 32) a x).toNat < S512x16.size a := fun k0_t1 v1237 v1266 k0_hw1231 k0_h7 => k0_hw1231 k0_h7

def k0_chk1232 (k0_t1 : Fin k0_t1_loop.trips) (v1237 : IVec S16 32) (v1268 : IVec S16 32) : Prop :=
  (∀ (k0_h7 : k0_cond7 k0_t1 = 1#1), ∀ a x, ((![v1237, v1268] : Fin 2 → IVec S16 32) a x).toNat < S512x16.size a)
theorem k0_idx1232_inb : ∀ (k0_t1 : Fin k0_t1_loop.trips) (v1237 : IVec S16 32) (v1268 : IVec S16 32) (k0_hw1232 : k0_chk1232 k0_t1 v1237 v1268), ∀ (k0_h7 : k0_cond7 k0_t1 = 1#1), ∀ a x, ((![v1237, v1268] : Fin 2 → IVec S16 32) a x).toNat < S512x16.size a := fun k0_t1 v1237 v1268 k0_hw1232 k0_h7 => k0_hw1232 k0_h7

def k0_chk1233 (k0_t1 : Fin k0_t1_loop.trips) (v1336 : IVec S16 32) (v1337 : IVec S16 32) : Prop :=
  (∀ (k0_h7 : k0_cond7 k0_t1 = 1#1), ∀ a x, ((![v1336, v1337] : Fin 2 → IVec S16 32) a x).toNat < S512x16.size a)
theorem k0_idx1233_inb : ∀ (k0_t1 : Fin k0_t1_loop.trips) (v1336 : IVec S16 32) (v1337 : IVec S16 32) (k0_hw1233 : k0_chk1233 k0_t1 v1336 v1337), ∀ (k0_h7 : k0_cond7 k0_t1 = 1#1), ∀ a x, ((![v1336, v1337] : Fin 2 → IVec S16 32) a x).toNat < S512x16.size a := fun k0_t1 v1336 v1337 k0_hw1233 k0_h7 => k0_hw1233 k0_h7

def k0_chk1234 (k0_t1 : Fin k0_t1_loop.trips) (v1336 : IVec S16 32) (v1339 : IVec S16 32) : Prop :=
  (∀ (k0_h7 : k0_cond7 k0_t1 = 1#1), ∀ a x, ((![v1336, v1339] : Fin 2 → IVec S16 32) a x).toNat < S512x16.size a)
theorem k0_idx1234_inb : ∀ (k0_t1 : Fin k0_t1_loop.trips) (v1336 : IVec S16 32) (v1339 : IVec S16 32) (k0_hw1234 : k0_chk1234 k0_t1 v1336 v1339), ∀ (k0_h7 : k0_cond7 k0_t1 = 1#1), ∀ a x, ((![v1336, v1339] : Fin 2 → IVec S16 32) a x).toNat < S512x16.size a := fun k0_t1 v1336 v1339 k0_hw1234 k0_h7 => k0_hw1234 k0_h7

def k0_chk1235 (k0_t1 : Fin k0_t1_loop.trips) (v1336 : IVec S16 32) (v1341 : IVec S16 32) : Prop :=
  (∀ (k0_h7 : k0_cond7 k0_t1 = 1#1), ∀ a x, ((![v1336, v1341] : Fin 2 → IVec S16 32) a x).toNat < S512x16.size a)
theorem k0_idx1235_inb : ∀ (k0_t1 : Fin k0_t1_loop.trips) (v1336 : IVec S16 32) (v1341 : IVec S16 32) (k0_hw1235 : k0_chk1235 k0_t1 v1336 v1341), ∀ (k0_h7 : k0_cond7 k0_t1 = 1#1), ∀ a x, ((![v1336, v1341] : Fin 2 → IVec S16 32) a x).toNat < S512x16.size a := fun k0_t1 v1336 v1341 k0_hw1235 k0_h7 => k0_hw1235 k0_h7

def k0_chk1236 (k0_t1 : Fin k0_t1_loop.trips) (v1336 : IVec S16 32) (v1343 : IVec S16 32) : Prop :=
  (∀ (k0_h7 : k0_cond7 k0_t1 = 1#1), ∀ a x, ((![v1336, v1343] : Fin 2 → IVec S16 32) a x).toNat < S512x16.size a)
theorem k0_idx1236_inb : ∀ (k0_t1 : Fin k0_t1_loop.trips) (v1336 : IVec S16 32) (v1343 : IVec S16 32) (k0_hw1236 : k0_chk1236 k0_t1 v1336 v1343), ∀ (k0_h7 : k0_cond7 k0_t1 = 1#1), ∀ a x, ((![v1336, v1343] : Fin 2 → IVec S16 32) a x).toNat < S512x16.size a := fun k0_t1 v1336 v1343 k0_hw1236 k0_h7 => k0_hw1236 k0_h7

def k0_chk1237 (k0_t1 : Fin k0_t1_loop.trips) (v1336 : IVec S16 32) (v1345 : IVec S16 32) : Prop :=
  (∀ (k0_h7 : k0_cond7 k0_t1 = 1#1), ∀ a x, ((![v1336, v1345] : Fin 2 → IVec S16 32) a x).toNat < S512x16.size a)
theorem k0_idx1237_inb : ∀ (k0_t1 : Fin k0_t1_loop.trips) (v1336 : IVec S16 32) (v1345 : IVec S16 32) (k0_hw1237 : k0_chk1237 k0_t1 v1336 v1345), ∀ (k0_h7 : k0_cond7 k0_t1 = 1#1), ∀ a x, ((![v1336, v1345] : Fin 2 → IVec S16 32) a x).toNat < S512x16.size a := fun k0_t1 v1336 v1345 k0_hw1237 k0_h7 => k0_hw1237 k0_h7

def k0_chk1238 (k0_t1 : Fin k0_t1_loop.trips) (v1336 : IVec S16 32) (v1347 : IVec S16 32) : Prop :=
  (∀ (k0_h7 : k0_cond7 k0_t1 = 1#1), ∀ a x, ((![v1336, v1347] : Fin 2 → IVec S16 32) a x).toNat < S512x16.size a)
theorem k0_idx1238_inb : ∀ (k0_t1 : Fin k0_t1_loop.trips) (v1336 : IVec S16 32) (v1347 : IVec S16 32) (k0_hw1238 : k0_chk1238 k0_t1 v1336 v1347), ∀ (k0_h7 : k0_cond7 k0_t1 = 1#1), ∀ a x, ((![v1336, v1347] : Fin 2 → IVec S16 32) a x).toNat < S512x16.size a := fun k0_t1 v1336 v1347 k0_hw1238 k0_h7 => k0_hw1238 k0_h7

def k0_chk1239 (k0_t1 : Fin k0_t1_loop.trips) (v1336 : IVec S16 32) (v1349 : IVec S16 32) : Prop :=
  (∀ (k0_h7 : k0_cond7 k0_t1 = 1#1), ∀ a x, ((![v1336, v1349] : Fin 2 → IVec S16 32) a x).toNat < S512x16.size a)
theorem k0_idx1239_inb : ∀ (k0_t1 : Fin k0_t1_loop.trips) (v1336 : IVec S16 32) (v1349 : IVec S16 32) (k0_hw1239 : k0_chk1239 k0_t1 v1336 v1349), ∀ (k0_h7 : k0_cond7 k0_t1 = 1#1), ∀ a x, ((![v1336, v1349] : Fin 2 → IVec S16 32) a x).toNat < S512x16.size a := fun k0_t1 v1336 v1349 k0_hw1239 k0_h7 => k0_hw1239 k0_h7

def k0_chk1240 (k0_t1 : Fin k0_t1_loop.trips) (v1336 : IVec S16 32) (v1351 : IVec S16 32) : Prop :=
  (∀ (k0_h7 : k0_cond7 k0_t1 = 1#1), ∀ a x, ((![v1336, v1351] : Fin 2 → IVec S16 32) a x).toNat < S512x16.size a)
theorem k0_idx1240_inb : ∀ (k0_t1 : Fin k0_t1_loop.trips) (v1336 : IVec S16 32) (v1351 : IVec S16 32) (k0_hw1240 : k0_chk1240 k0_t1 v1336 v1351), ∀ (k0_h7 : k0_cond7 k0_t1 = 1#1), ∀ a x, ((![v1336, v1351] : Fin 2 → IVec S16 32) a x).toNat < S512x16.size a := fun k0_t1 v1336 v1351 k0_hw1240 k0_h7 => k0_hw1240 k0_h7

def k0_chk1241 (k0_t1 : Fin k0_t1_loop.trips) (v1336 : IVec S16 32) (v1353 : IVec S16 32) : Prop :=
  (∀ (k0_h7 : k0_cond7 k0_t1 = 1#1), ∀ a x, ((![v1336, v1353] : Fin 2 → IVec S16 32) a x).toNat < S512x16.size a)
theorem k0_idx1241_inb : ∀ (k0_t1 : Fin k0_t1_loop.trips) (v1336 : IVec S16 32) (v1353 : IVec S16 32) (k0_hw1241 : k0_chk1241 k0_t1 v1336 v1353), ∀ (k0_h7 : k0_cond7 k0_t1 = 1#1), ∀ a x, ((![v1336, v1353] : Fin 2 → IVec S16 32) a x).toNat < S512x16.size a := fun k0_t1 v1336 v1353 k0_hw1241 k0_h7 => k0_hw1241 k0_h7

def k0_chk1242 (k0_t1 : Fin k0_t1_loop.trips) (v1336 : IVec S16 32) (v1355 : IVec S16 32) : Prop :=
  (∀ (k0_h7 : k0_cond7 k0_t1 = 1#1), ∀ a x, ((![v1336, v1355] : Fin 2 → IVec S16 32) a x).toNat < S512x16.size a)
theorem k0_idx1242_inb : ∀ (k0_t1 : Fin k0_t1_loop.trips) (v1336 : IVec S16 32) (v1355 : IVec S16 32) (k0_hw1242 : k0_chk1242 k0_t1 v1336 v1355), ∀ (k0_h7 : k0_cond7 k0_t1 = 1#1), ∀ a x, ((![v1336, v1355] : Fin 2 → IVec S16 32) a x).toNat < S512x16.size a := fun k0_t1 v1336 v1355 k0_hw1242 k0_h7 => k0_hw1242 k0_h7

def k0_chk1243 (k0_t1 : Fin k0_t1_loop.trips) (v1336 : IVec S16 32) (v1357 : IVec S16 32) : Prop :=
  (∀ (k0_h7 : k0_cond7 k0_t1 = 1#1), ∀ a x, ((![v1336, v1357] : Fin 2 → IVec S16 32) a x).toNat < S512x16.size a)
theorem k0_idx1243_inb : ∀ (k0_t1 : Fin k0_t1_loop.trips) (v1336 : IVec S16 32) (v1357 : IVec S16 32) (k0_hw1243 : k0_chk1243 k0_t1 v1336 v1357), ∀ (k0_h7 : k0_cond7 k0_t1 = 1#1), ∀ a x, ((![v1336, v1357] : Fin 2 → IVec S16 32) a x).toNat < S512x16.size a := fun k0_t1 v1336 v1357 k0_hw1243 k0_h7 => k0_hw1243 k0_h7

def k0_chk1244 (k0_t1 : Fin k0_t1_loop.trips) (v1336 : IVec S16 32) (v1359 : IVec S16 32) : Prop :=
  (∀ (k0_h7 : k0_cond7 k0_t1 = 1#1), ∀ a x, ((![v1336, v1359] : Fin 2 → IVec S16 32) a x).toNat < S512x16.size a)
theorem k0_idx1244_inb : ∀ (k0_t1 : Fin k0_t1_loop.trips) (v1336 : IVec S16 32) (v1359 : IVec S16 32) (k0_hw1244 : k0_chk1244 k0_t1 v1336 v1359), ∀ (k0_h7 : k0_cond7 k0_t1 = 1#1), ∀ a x, ((![v1336, v1359] : Fin 2 → IVec S16 32) a x).toNat < S512x16.size a := fun k0_t1 v1336 v1359 k0_hw1244 k0_h7 => k0_hw1244 k0_h7

def k0_chk1245 (k0_t1 : Fin k0_t1_loop.trips) (v1336 : IVec S16 32) (v1361 : IVec S16 32) : Prop :=
  (∀ (k0_h7 : k0_cond7 k0_t1 = 1#1), ∀ a x, ((![v1336, v1361] : Fin 2 → IVec S16 32) a x).toNat < S512x16.size a)
theorem k0_idx1245_inb : ∀ (k0_t1 : Fin k0_t1_loop.trips) (v1336 : IVec S16 32) (v1361 : IVec S16 32) (k0_hw1245 : k0_chk1245 k0_t1 v1336 v1361), ∀ (k0_h7 : k0_cond7 k0_t1 = 1#1), ∀ a x, ((![v1336, v1361] : Fin 2 → IVec S16 32) a x).toNat < S512x16.size a := fun k0_t1 v1336 v1361 k0_hw1245 k0_h7 => k0_hw1245 k0_h7

def k0_chk1246 (k0_t1 : Fin k0_t1_loop.trips) (v1336 : IVec S16 32) (v1363 : IVec S16 32) : Prop :=
  (∀ (k0_h7 : k0_cond7 k0_t1 = 1#1), ∀ a x, ((![v1336, v1363] : Fin 2 → IVec S16 32) a x).toNat < S512x16.size a)
theorem k0_idx1246_inb : ∀ (k0_t1 : Fin k0_t1_loop.trips) (v1336 : IVec S16 32) (v1363 : IVec S16 32) (k0_hw1246 : k0_chk1246 k0_t1 v1336 v1363), ∀ (k0_h7 : k0_cond7 k0_t1 = 1#1), ∀ a x, ((![v1336, v1363] : Fin 2 → IVec S16 32) a x).toNat < S512x16.size a := fun k0_t1 v1336 v1363 k0_hw1246 k0_h7 => k0_hw1246 k0_h7

def k0_chk1247 (k0_t1 : Fin k0_t1_loop.trips) (v1336 : IVec S16 32) (v1365 : IVec S16 32) : Prop :=
  (∀ (k0_h7 : k0_cond7 k0_t1 = 1#1), ∀ a x, ((![v1336, v1365] : Fin 2 → IVec S16 32) a x).toNat < S512x16.size a)
theorem k0_idx1247_inb : ∀ (k0_t1 : Fin k0_t1_loop.trips) (v1336 : IVec S16 32) (v1365 : IVec S16 32) (k0_hw1247 : k0_chk1247 k0_t1 v1336 v1365), ∀ (k0_h7 : k0_cond7 k0_t1 = 1#1), ∀ a x, ((![v1336, v1365] : Fin 2 → IVec S16 32) a x).toNat < S512x16.size a := fun k0_t1 v1336 v1365 k0_hw1247 k0_h7 => k0_hw1247 k0_h7

def k0_chk1248 (k0_t1 : Fin k0_t1_loop.trips) (v1336 : IVec S16 32) (v1367 : IVec S16 32) : Prop :=
  (∀ (k0_h7 : k0_cond7 k0_t1 = 1#1), ∀ a x, ((![v1336, v1367] : Fin 2 → IVec S16 32) a x).toNat < S512x16.size a)
theorem k0_idx1248_inb : ∀ (k0_t1 : Fin k0_t1_loop.trips) (v1336 : IVec S16 32) (v1367 : IVec S16 32) (k0_hw1248 : k0_chk1248 k0_t1 v1336 v1367), ∀ (k0_h7 : k0_cond7 k0_t1 = 1#1), ∀ a x, ((![v1336, v1367] : Fin 2 → IVec S16 32) a x).toNat < S512x16.size a := fun k0_t1 v1336 v1367 k0_hw1248 k0_h7 => k0_hw1248 k0_h7

def k0_chk1249 (k0_t1 : Fin k0_t1_loop.trips) (v1435 : IVec S16 32) (v1436 : IVec S16 32) : Prop :=
  (∀ (k0_h7 : k0_cond7 k0_t1 = 1#1), ∀ a x, ((![v1435, v1436] : Fin 2 → IVec S16 32) a x).toNat < S512x16.size a)
theorem k0_idx1249_inb : ∀ (k0_t1 : Fin k0_t1_loop.trips) (v1435 : IVec S16 32) (v1436 : IVec S16 32) (k0_hw1249 : k0_chk1249 k0_t1 v1435 v1436), ∀ (k0_h7 : k0_cond7 k0_t1 = 1#1), ∀ a x, ((![v1435, v1436] : Fin 2 → IVec S16 32) a x).toNat < S512x16.size a := fun k0_t1 v1435 v1436 k0_hw1249 k0_h7 => k0_hw1249 k0_h7

def k0_chk1250 (k0_t1 : Fin k0_t1_loop.trips) (v1435 : IVec S16 32) (v1438 : IVec S16 32) : Prop :=
  (∀ (k0_h7 : k0_cond7 k0_t1 = 1#1), ∀ a x, ((![v1435, v1438] : Fin 2 → IVec S16 32) a x).toNat < S512x16.size a)
theorem k0_idx1250_inb : ∀ (k0_t1 : Fin k0_t1_loop.trips) (v1435 : IVec S16 32) (v1438 : IVec S16 32) (k0_hw1250 : k0_chk1250 k0_t1 v1435 v1438), ∀ (k0_h7 : k0_cond7 k0_t1 = 1#1), ∀ a x, ((![v1435, v1438] : Fin 2 → IVec S16 32) a x).toNat < S512x16.size a := fun k0_t1 v1435 v1438 k0_hw1250 k0_h7 => k0_hw1250 k0_h7

def k0_chk1251 (k0_t1 : Fin k0_t1_loop.trips) (v1435 : IVec S16 32) (v1440 : IVec S16 32) : Prop :=
  (∀ (k0_h7 : k0_cond7 k0_t1 = 1#1), ∀ a x, ((![v1435, v1440] : Fin 2 → IVec S16 32) a x).toNat < S512x16.size a)
theorem k0_idx1251_inb : ∀ (k0_t1 : Fin k0_t1_loop.trips) (v1435 : IVec S16 32) (v1440 : IVec S16 32) (k0_hw1251 : k0_chk1251 k0_t1 v1435 v1440), ∀ (k0_h7 : k0_cond7 k0_t1 = 1#1), ∀ a x, ((![v1435, v1440] : Fin 2 → IVec S16 32) a x).toNat < S512x16.size a := fun k0_t1 v1435 v1440 k0_hw1251 k0_h7 => k0_hw1251 k0_h7

def k0_chk1252 (k0_t1 : Fin k0_t1_loop.trips) (v1435 : IVec S16 32) (v1442 : IVec S16 32) : Prop :=
  (∀ (k0_h7 : k0_cond7 k0_t1 = 1#1), ∀ a x, ((![v1435, v1442] : Fin 2 → IVec S16 32) a x).toNat < S512x16.size a)
theorem k0_idx1252_inb : ∀ (k0_t1 : Fin k0_t1_loop.trips) (v1435 : IVec S16 32) (v1442 : IVec S16 32) (k0_hw1252 : k0_chk1252 k0_t1 v1435 v1442), ∀ (k0_h7 : k0_cond7 k0_t1 = 1#1), ∀ a x, ((![v1435, v1442] : Fin 2 → IVec S16 32) a x).toNat < S512x16.size a := fun k0_t1 v1435 v1442 k0_hw1252 k0_h7 => k0_hw1252 k0_h7

def k0_chk1253 (k0_t1 : Fin k0_t1_loop.trips) (v1435 : IVec S16 32) (v1444 : IVec S16 32) : Prop :=
  (∀ (k0_h7 : k0_cond7 k0_t1 = 1#1), ∀ a x, ((![v1435, v1444] : Fin 2 → IVec S16 32) a x).toNat < S512x16.size a)
theorem k0_idx1253_inb : ∀ (k0_t1 : Fin k0_t1_loop.trips) (v1435 : IVec S16 32) (v1444 : IVec S16 32) (k0_hw1253 : k0_chk1253 k0_t1 v1435 v1444), ∀ (k0_h7 : k0_cond7 k0_t1 = 1#1), ∀ a x, ((![v1435, v1444] : Fin 2 → IVec S16 32) a x).toNat < S512x16.size a := fun k0_t1 v1435 v1444 k0_hw1253 k0_h7 => k0_hw1253 k0_h7

def k0_chk1254 (k0_t1 : Fin k0_t1_loop.trips) (v1435 : IVec S16 32) (v1446 : IVec S16 32) : Prop :=
  (∀ (k0_h7 : k0_cond7 k0_t1 = 1#1), ∀ a x, ((![v1435, v1446] : Fin 2 → IVec S16 32) a x).toNat < S512x16.size a)
theorem k0_idx1254_inb : ∀ (k0_t1 : Fin k0_t1_loop.trips) (v1435 : IVec S16 32) (v1446 : IVec S16 32) (k0_hw1254 : k0_chk1254 k0_t1 v1435 v1446), ∀ (k0_h7 : k0_cond7 k0_t1 = 1#1), ∀ a x, ((![v1435, v1446] : Fin 2 → IVec S16 32) a x).toNat < S512x16.size a := fun k0_t1 v1435 v1446 k0_hw1254 k0_h7 => k0_hw1254 k0_h7

def k0_chk1255 (k0_t1 : Fin k0_t1_loop.trips) (v1435 : IVec S16 32) (v1448 : IVec S16 32) : Prop :=
  (∀ (k0_h7 : k0_cond7 k0_t1 = 1#1), ∀ a x, ((![v1435, v1448] : Fin 2 → IVec S16 32) a x).toNat < S512x16.size a)
theorem k0_idx1255_inb : ∀ (k0_t1 : Fin k0_t1_loop.trips) (v1435 : IVec S16 32) (v1448 : IVec S16 32) (k0_hw1255 : k0_chk1255 k0_t1 v1435 v1448), ∀ (k0_h7 : k0_cond7 k0_t1 = 1#1), ∀ a x, ((![v1435, v1448] : Fin 2 → IVec S16 32) a x).toNat < S512x16.size a := fun k0_t1 v1435 v1448 k0_hw1255 k0_h7 => k0_hw1255 k0_h7

def k0_chk1256 (k0_t1 : Fin k0_t1_loop.trips) (v1435 : IVec S16 32) (v1450 : IVec S16 32) : Prop :=
  (∀ (k0_h7 : k0_cond7 k0_t1 = 1#1), ∀ a x, ((![v1435, v1450] : Fin 2 → IVec S16 32) a x).toNat < S512x16.size a)
theorem k0_idx1256_inb : ∀ (k0_t1 : Fin k0_t1_loop.trips) (v1435 : IVec S16 32) (v1450 : IVec S16 32) (k0_hw1256 : k0_chk1256 k0_t1 v1435 v1450), ∀ (k0_h7 : k0_cond7 k0_t1 = 1#1), ∀ a x, ((![v1435, v1450] : Fin 2 → IVec S16 32) a x).toNat < S512x16.size a := fun k0_t1 v1435 v1450 k0_hw1256 k0_h7 => k0_hw1256 k0_h7

def k0_chk1257 (k0_t1 : Fin k0_t1_loop.trips) (v1435 : IVec S16 32) (v1452 : IVec S16 32) : Prop :=
  (∀ (k0_h7 : k0_cond7 k0_t1 = 1#1), ∀ a x, ((![v1435, v1452] : Fin 2 → IVec S16 32) a x).toNat < S512x16.size a)
theorem k0_idx1257_inb : ∀ (k0_t1 : Fin k0_t1_loop.trips) (v1435 : IVec S16 32) (v1452 : IVec S16 32) (k0_hw1257 : k0_chk1257 k0_t1 v1435 v1452), ∀ (k0_h7 : k0_cond7 k0_t1 = 1#1), ∀ a x, ((![v1435, v1452] : Fin 2 → IVec S16 32) a x).toNat < S512x16.size a := fun k0_t1 v1435 v1452 k0_hw1257 k0_h7 => k0_hw1257 k0_h7

def k0_chk1258 (k0_t1 : Fin k0_t1_loop.trips) (v1435 : IVec S16 32) (v1454 : IVec S16 32) : Prop :=
  (∀ (k0_h7 : k0_cond7 k0_t1 = 1#1), ∀ a x, ((![v1435, v1454] : Fin 2 → IVec S16 32) a x).toNat < S512x16.size a)
theorem k0_idx1258_inb : ∀ (k0_t1 : Fin k0_t1_loop.trips) (v1435 : IVec S16 32) (v1454 : IVec S16 32) (k0_hw1258 : k0_chk1258 k0_t1 v1435 v1454), ∀ (k0_h7 : k0_cond7 k0_t1 = 1#1), ∀ a x, ((![v1435, v1454] : Fin 2 → IVec S16 32) a x).toNat < S512x16.size a := fun k0_t1 v1435 v1454 k0_hw1258 k0_h7 => k0_hw1258 k0_h7

def k0_chk1259 (k0_t1 : Fin k0_t1_loop.trips) (v1435 : IVec S16 32) (v1456 : IVec S16 32) : Prop :=
  (∀ (k0_h7 : k0_cond7 k0_t1 = 1#1), ∀ a x, ((![v1435, v1456] : Fin 2 → IVec S16 32) a x).toNat < S512x16.size a)
theorem k0_idx1259_inb : ∀ (k0_t1 : Fin k0_t1_loop.trips) (v1435 : IVec S16 32) (v1456 : IVec S16 32) (k0_hw1259 : k0_chk1259 k0_t1 v1435 v1456), ∀ (k0_h7 : k0_cond7 k0_t1 = 1#1), ∀ a x, ((![v1435, v1456] : Fin 2 → IVec S16 32) a x).toNat < S512x16.size a := fun k0_t1 v1435 v1456 k0_hw1259 k0_h7 => k0_hw1259 k0_h7

def k0_chk1260 (k0_t1 : Fin k0_t1_loop.trips) (v1435 : IVec S16 32) (v1458 : IVec S16 32) : Prop :=
  (∀ (k0_h7 : k0_cond7 k0_t1 = 1#1), ∀ a x, ((![v1435, v1458] : Fin 2 → IVec S16 32) a x).toNat < S512x16.size a)
theorem k0_idx1260_inb : ∀ (k0_t1 : Fin k0_t1_loop.trips) (v1435 : IVec S16 32) (v1458 : IVec S16 32) (k0_hw1260 : k0_chk1260 k0_t1 v1435 v1458), ∀ (k0_h7 : k0_cond7 k0_t1 = 1#1), ∀ a x, ((![v1435, v1458] : Fin 2 → IVec S16 32) a x).toNat < S512x16.size a := fun k0_t1 v1435 v1458 k0_hw1260 k0_h7 => k0_hw1260 k0_h7

def k0_chk1261 (k0_t1 : Fin k0_t1_loop.trips) (v1435 : IVec S16 32) (v1460 : IVec S16 32) : Prop :=
  (∀ (k0_h7 : k0_cond7 k0_t1 = 1#1), ∀ a x, ((![v1435, v1460] : Fin 2 → IVec S16 32) a x).toNat < S512x16.size a)
theorem k0_idx1261_inb : ∀ (k0_t1 : Fin k0_t1_loop.trips) (v1435 : IVec S16 32) (v1460 : IVec S16 32) (k0_hw1261 : k0_chk1261 k0_t1 v1435 v1460), ∀ (k0_h7 : k0_cond7 k0_t1 = 1#1), ∀ a x, ((![v1435, v1460] : Fin 2 → IVec S16 32) a x).toNat < S512x16.size a := fun k0_t1 v1435 v1460 k0_hw1261 k0_h7 => k0_hw1261 k0_h7

def k0_chk1262 (k0_t1 : Fin k0_t1_loop.trips) (v1435 : IVec S16 32) (v1462 : IVec S16 32) : Prop :=
  (∀ (k0_h7 : k0_cond7 k0_t1 = 1#1), ∀ a x, ((![v1435, v1462] : Fin 2 → IVec S16 32) a x).toNat < S512x16.size a)
theorem k0_idx1262_inb : ∀ (k0_t1 : Fin k0_t1_loop.trips) (v1435 : IVec S16 32) (v1462 : IVec S16 32) (k0_hw1262 : k0_chk1262 k0_t1 v1435 v1462), ∀ (k0_h7 : k0_cond7 k0_t1 = 1#1), ∀ a x, ((![v1435, v1462] : Fin 2 → IVec S16 32) a x).toNat < S512x16.size a := fun k0_t1 v1435 v1462 k0_hw1262 k0_h7 => k0_hw1262 k0_h7

def k0_chk1263 (k0_t1 : Fin k0_t1_loop.trips) (v1435 : IVec S16 32) (v1464 : IVec S16 32) : Prop :=
  (∀ (k0_h7 : k0_cond7 k0_t1 = 1#1), ∀ a x, ((![v1435, v1464] : Fin 2 → IVec S16 32) a x).toNat < S512x16.size a)
theorem k0_idx1263_inb : ∀ (k0_t1 : Fin k0_t1_loop.trips) (v1435 : IVec S16 32) (v1464 : IVec S16 32) (k0_hw1263 : k0_chk1263 k0_t1 v1435 v1464), ∀ (k0_h7 : k0_cond7 k0_t1 = 1#1), ∀ a x, ((![v1435, v1464] : Fin 2 → IVec S16 32) a x).toNat < S512x16.size a := fun k0_t1 v1435 v1464 k0_hw1263 k0_h7 => k0_hw1263 k0_h7

def k0_chk1264 (k0_t1 : Fin k0_t1_loop.trips) (v1435 : IVec S16 32) (v1466 : IVec S16 32) : Prop :=
  (∀ (k0_h7 : k0_cond7 k0_t1 = 1#1), ∀ a x, ((![v1435, v1466] : Fin 2 → IVec S16 32) a x).toNat < S512x16.size a)
theorem k0_idx1264_inb : ∀ (k0_t1 : Fin k0_t1_loop.trips) (v1435 : IVec S16 32) (v1466 : IVec S16 32) (k0_hw1264 : k0_chk1264 k0_t1 v1435 v1466), ∀ (k0_h7 : k0_cond7 k0_t1 = 1#1), ∀ a x, ((![v1435, v1466] : Fin 2 → IVec S16 32) a x).toNat < S512x16.size a := fun k0_t1 v1435 v1466 k0_hw1264 k0_h7 => k0_hw1264 k0_h7

def k0_chk1265 (k0_t1 : Fin k0_t1_loop.trips) (v1534 : IVec S16 32) (v1535 : IVec S16 32) : Prop :=
  (∀ (k0_h7 : k0_cond7 k0_t1 = 1#1), ∀ a x, ((![v1534, v1535] : Fin 2 → IVec S16 32) a x).toNat < S512x16.size a)
theorem k0_idx1265_inb : ∀ (k0_t1 : Fin k0_t1_loop.trips) (v1534 : IVec S16 32) (v1535 : IVec S16 32) (k0_hw1265 : k0_chk1265 k0_t1 v1534 v1535), ∀ (k0_h7 : k0_cond7 k0_t1 = 1#1), ∀ a x, ((![v1534, v1535] : Fin 2 → IVec S16 32) a x).toNat < S512x16.size a := fun k0_t1 v1534 v1535 k0_hw1265 k0_h7 => k0_hw1265 k0_h7

def k0_chk1266 (k0_t1 : Fin k0_t1_loop.trips) (v1534 : IVec S16 32) (v1537 : IVec S16 32) : Prop :=
  (∀ (k0_h7 : k0_cond7 k0_t1 = 1#1), ∀ a x, ((![v1534, v1537] : Fin 2 → IVec S16 32) a x).toNat < S512x16.size a)
theorem k0_idx1266_inb : ∀ (k0_t1 : Fin k0_t1_loop.trips) (v1534 : IVec S16 32) (v1537 : IVec S16 32) (k0_hw1266 : k0_chk1266 k0_t1 v1534 v1537), ∀ (k0_h7 : k0_cond7 k0_t1 = 1#1), ∀ a x, ((![v1534, v1537] : Fin 2 → IVec S16 32) a x).toNat < S512x16.size a := fun k0_t1 v1534 v1537 k0_hw1266 k0_h7 => k0_hw1266 k0_h7

def k0_chk1267 (k0_t1 : Fin k0_t1_loop.trips) (v1534 : IVec S16 32) (v1539 : IVec S16 32) : Prop :=
  (∀ (k0_h7 : k0_cond7 k0_t1 = 1#1), ∀ a x, ((![v1534, v1539] : Fin 2 → IVec S16 32) a x).toNat < S512x16.size a)
theorem k0_idx1267_inb : ∀ (k0_t1 : Fin k0_t1_loop.trips) (v1534 : IVec S16 32) (v1539 : IVec S16 32) (k0_hw1267 : k0_chk1267 k0_t1 v1534 v1539), ∀ (k0_h7 : k0_cond7 k0_t1 = 1#1), ∀ a x, ((![v1534, v1539] : Fin 2 → IVec S16 32) a x).toNat < S512x16.size a := fun k0_t1 v1534 v1539 k0_hw1267 k0_h7 => k0_hw1267 k0_h7

def k0_chk1268 (k0_t1 : Fin k0_t1_loop.trips) (v1534 : IVec S16 32) (v1541 : IVec S16 32) : Prop :=
  (∀ (k0_h7 : k0_cond7 k0_t1 = 1#1), ∀ a x, ((![v1534, v1541] : Fin 2 → IVec S16 32) a x).toNat < S512x16.size a)
theorem k0_idx1268_inb : ∀ (k0_t1 : Fin k0_t1_loop.trips) (v1534 : IVec S16 32) (v1541 : IVec S16 32) (k0_hw1268 : k0_chk1268 k0_t1 v1534 v1541), ∀ (k0_h7 : k0_cond7 k0_t1 = 1#1), ∀ a x, ((![v1534, v1541] : Fin 2 → IVec S16 32) a x).toNat < S512x16.size a := fun k0_t1 v1534 v1541 k0_hw1268 k0_h7 => k0_hw1268 k0_h7

def k0_chk1269 (k0_t1 : Fin k0_t1_loop.trips) (v1534 : IVec S16 32) (v1543 : IVec S16 32) : Prop :=
  (∀ (k0_h7 : k0_cond7 k0_t1 = 1#1), ∀ a x, ((![v1534, v1543] : Fin 2 → IVec S16 32) a x).toNat < S512x16.size a)
theorem k0_idx1269_inb : ∀ (k0_t1 : Fin k0_t1_loop.trips) (v1534 : IVec S16 32) (v1543 : IVec S16 32) (k0_hw1269 : k0_chk1269 k0_t1 v1534 v1543), ∀ (k0_h7 : k0_cond7 k0_t1 = 1#1), ∀ a x, ((![v1534, v1543] : Fin 2 → IVec S16 32) a x).toNat < S512x16.size a := fun k0_t1 v1534 v1543 k0_hw1269 k0_h7 => k0_hw1269 k0_h7

def k0_chk1270 (k0_t1 : Fin k0_t1_loop.trips) (v1534 : IVec S16 32) (v1545 : IVec S16 32) : Prop :=
  (∀ (k0_h7 : k0_cond7 k0_t1 = 1#1), ∀ a x, ((![v1534, v1545] : Fin 2 → IVec S16 32) a x).toNat < S512x16.size a)
theorem k0_idx1270_inb : ∀ (k0_t1 : Fin k0_t1_loop.trips) (v1534 : IVec S16 32) (v1545 : IVec S16 32) (k0_hw1270 : k0_chk1270 k0_t1 v1534 v1545), ∀ (k0_h7 : k0_cond7 k0_t1 = 1#1), ∀ a x, ((![v1534, v1545] : Fin 2 → IVec S16 32) a x).toNat < S512x16.size a := fun k0_t1 v1534 v1545 k0_hw1270 k0_h7 => k0_hw1270 k0_h7

def k0_chk1271 (k0_t1 : Fin k0_t1_loop.trips) (v1534 : IVec S16 32) (v1547 : IVec S16 32) : Prop :=
  (∀ (k0_h7 : k0_cond7 k0_t1 = 1#1), ∀ a x, ((![v1534, v1547] : Fin 2 → IVec S16 32) a x).toNat < S512x16.size a)
theorem k0_idx1271_inb : ∀ (k0_t1 : Fin k0_t1_loop.trips) (v1534 : IVec S16 32) (v1547 : IVec S16 32) (k0_hw1271 : k0_chk1271 k0_t1 v1534 v1547), ∀ (k0_h7 : k0_cond7 k0_t1 = 1#1), ∀ a x, ((![v1534, v1547] : Fin 2 → IVec S16 32) a x).toNat < S512x16.size a := fun k0_t1 v1534 v1547 k0_hw1271 k0_h7 => k0_hw1271 k0_h7

def k0_chk1272 (k0_t1 : Fin k0_t1_loop.trips) (v1534 : IVec S16 32) (v1549 : IVec S16 32) : Prop :=
  (∀ (k0_h7 : k0_cond7 k0_t1 = 1#1), ∀ a x, ((![v1534, v1549] : Fin 2 → IVec S16 32) a x).toNat < S512x16.size a)
theorem k0_idx1272_inb : ∀ (k0_t1 : Fin k0_t1_loop.trips) (v1534 : IVec S16 32) (v1549 : IVec S16 32) (k0_hw1272 : k0_chk1272 k0_t1 v1534 v1549), ∀ (k0_h7 : k0_cond7 k0_t1 = 1#1), ∀ a x, ((![v1534, v1549] : Fin 2 → IVec S16 32) a x).toNat < S512x16.size a := fun k0_t1 v1534 v1549 k0_hw1272 k0_h7 => k0_hw1272 k0_h7

def k0_chk1273 (k0_t1 : Fin k0_t1_loop.trips) (v1534 : IVec S16 32) (v1551 : IVec S16 32) : Prop :=
  (∀ (k0_h7 : k0_cond7 k0_t1 = 1#1), ∀ a x, ((![v1534, v1551] : Fin 2 → IVec S16 32) a x).toNat < S512x16.size a)
theorem k0_idx1273_inb : ∀ (k0_t1 : Fin k0_t1_loop.trips) (v1534 : IVec S16 32) (v1551 : IVec S16 32) (k0_hw1273 : k0_chk1273 k0_t1 v1534 v1551), ∀ (k0_h7 : k0_cond7 k0_t1 = 1#1), ∀ a x, ((![v1534, v1551] : Fin 2 → IVec S16 32) a x).toNat < S512x16.size a := fun k0_t1 v1534 v1551 k0_hw1273 k0_h7 => k0_hw1273 k0_h7

def k0_chk1274 (k0_t1 : Fin k0_t1_loop.trips) (v1534 : IVec S16 32) (v1553 : IVec S16 32) : Prop :=
  (∀ (k0_h7 : k0_cond7 k0_t1 = 1#1), ∀ a x, ((![v1534, v1553] : Fin 2 → IVec S16 32) a x).toNat < S512x16.size a)
theorem k0_idx1274_inb : ∀ (k0_t1 : Fin k0_t1_loop.trips) (v1534 : IVec S16 32) (v1553 : IVec S16 32) (k0_hw1274 : k0_chk1274 k0_t1 v1534 v1553), ∀ (k0_h7 : k0_cond7 k0_t1 = 1#1), ∀ a x, ((![v1534, v1553] : Fin 2 → IVec S16 32) a x).toNat < S512x16.size a := fun k0_t1 v1534 v1553 k0_hw1274 k0_h7 => k0_hw1274 k0_h7

def k0_chk1275 (k0_t1 : Fin k0_t1_loop.trips) (v1534 : IVec S16 32) (v1555 : IVec S16 32) : Prop :=
  (∀ (k0_h7 : k0_cond7 k0_t1 = 1#1), ∀ a x, ((![v1534, v1555] : Fin 2 → IVec S16 32) a x).toNat < S512x16.size a)
theorem k0_idx1275_inb : ∀ (k0_t1 : Fin k0_t1_loop.trips) (v1534 : IVec S16 32) (v1555 : IVec S16 32) (k0_hw1275 : k0_chk1275 k0_t1 v1534 v1555), ∀ (k0_h7 : k0_cond7 k0_t1 = 1#1), ∀ a x, ((![v1534, v1555] : Fin 2 → IVec S16 32) a x).toNat < S512x16.size a := fun k0_t1 v1534 v1555 k0_hw1275 k0_h7 => k0_hw1275 k0_h7

def k0_chk1276 (k0_t1 : Fin k0_t1_loop.trips) (v1534 : IVec S16 32) (v1557 : IVec S16 32) : Prop :=
  (∀ (k0_h7 : k0_cond7 k0_t1 = 1#1), ∀ a x, ((![v1534, v1557] : Fin 2 → IVec S16 32) a x).toNat < S512x16.size a)
theorem k0_idx1276_inb : ∀ (k0_t1 : Fin k0_t1_loop.trips) (v1534 : IVec S16 32) (v1557 : IVec S16 32) (k0_hw1276 : k0_chk1276 k0_t1 v1534 v1557), ∀ (k0_h7 : k0_cond7 k0_t1 = 1#1), ∀ a x, ((![v1534, v1557] : Fin 2 → IVec S16 32) a x).toNat < S512x16.size a := fun k0_t1 v1534 v1557 k0_hw1276 k0_h7 => k0_hw1276 k0_h7

def k0_chk1277 (k0_t1 : Fin k0_t1_loop.trips) (v1534 : IVec S16 32) (v1559 : IVec S16 32) : Prop :=
  (∀ (k0_h7 : k0_cond7 k0_t1 = 1#1), ∀ a x, ((![v1534, v1559] : Fin 2 → IVec S16 32) a x).toNat < S512x16.size a)
theorem k0_idx1277_inb : ∀ (k0_t1 : Fin k0_t1_loop.trips) (v1534 : IVec S16 32) (v1559 : IVec S16 32) (k0_hw1277 : k0_chk1277 k0_t1 v1534 v1559), ∀ (k0_h7 : k0_cond7 k0_t1 = 1#1), ∀ a x, ((![v1534, v1559] : Fin 2 → IVec S16 32) a x).toNat < S512x16.size a := fun k0_t1 v1534 v1559 k0_hw1277 k0_h7 => k0_hw1277 k0_h7

def k0_chk1278 (k0_t1 : Fin k0_t1_loop.trips) (v1534 : IVec S16 32) (v1561 : IVec S16 32) : Prop :=
  (∀ (k0_h7 : k0_cond7 k0_t1 = 1#1), ∀ a x, ((![v1534, v1561] : Fin 2 → IVec S16 32) a x).toNat < S512x16.size a)
theorem k0_idx1278_inb : ∀ (k0_t1 : Fin k0_t1_loop.trips) (v1534 : IVec S16 32) (v1561 : IVec S16 32) (k0_hw1278 : k0_chk1278 k0_t1 v1534 v1561), ∀ (k0_h7 : k0_cond7 k0_t1 = 1#1), ∀ a x, ((![v1534, v1561] : Fin 2 → IVec S16 32) a x).toNat < S512x16.size a := fun k0_t1 v1534 v1561 k0_hw1278 k0_h7 => k0_hw1278 k0_h7

def k0_chk1279 (k0_t1 : Fin k0_t1_loop.trips) (v1534 : IVec S16 32) (v1563 : IVec S16 32) : Prop :=
  (∀ (k0_h7 : k0_cond7 k0_t1 = 1#1), ∀ a x, ((![v1534, v1563] : Fin 2 → IVec S16 32) a x).toNat < S512x16.size a)
theorem k0_idx1279_inb : ∀ (k0_t1 : Fin k0_t1_loop.trips) (v1534 : IVec S16 32) (v1563 : IVec S16 32) (k0_hw1279 : k0_chk1279 k0_t1 v1534 v1563), ∀ (k0_h7 : k0_cond7 k0_t1 = 1#1), ∀ a x, ((![v1534, v1563] : Fin 2 → IVec S16 32) a x).toNat < S512x16.size a := fun k0_t1 v1534 v1563 k0_hw1279 k0_h7 => k0_hw1279 k0_h7

def k0_chk1280 (k0_t1 : Fin k0_t1_loop.trips) (v1534 : IVec S16 32) (v1565 : IVec S16 32) : Prop :=
  (∀ (k0_h7 : k0_cond7 k0_t1 = 1#1), ∀ a x, ((![v1534, v1565] : Fin 2 → IVec S16 32) a x).toNat < S512x16.size a)
theorem k0_idx1280_inb : ∀ (k0_t1 : Fin k0_t1_loop.trips) (v1534 : IVec S16 32) (v1565 : IVec S16 32) (k0_hw1280 : k0_chk1280 k0_t1 v1534 v1565), ∀ (k0_h7 : k0_cond7 k0_t1 = 1#1), ∀ a x, ((![v1534, v1565] : Fin 2 → IVec S16 32) a x).toNat < S512x16.size a := fun k0_t1 v1534 v1565 k0_hw1280 k0_h7 => k0_hw1280 k0_h7

def k0_chk1281 (k0_t1 : Fin k0_t1_loop.trips) (v1633 : IVec S16 32) (v1634 : IVec S16 32) : Prop :=
  (∀ (k0_h7 : k0_cond7 k0_t1 = 1#1), ∀ a x, ((![v1633, v1634] : Fin 2 → IVec S16 32) a x).toNat < S512x16.size a)
theorem k0_idx1281_inb : ∀ (k0_t1 : Fin k0_t1_loop.trips) (v1633 : IVec S16 32) (v1634 : IVec S16 32) (k0_hw1281 : k0_chk1281 k0_t1 v1633 v1634), ∀ (k0_h7 : k0_cond7 k0_t1 = 1#1), ∀ a x, ((![v1633, v1634] : Fin 2 → IVec S16 32) a x).toNat < S512x16.size a := fun k0_t1 v1633 v1634 k0_hw1281 k0_h7 => k0_hw1281 k0_h7

def k0_chk1282 (k0_t1 : Fin k0_t1_loop.trips) (v1633 : IVec S16 32) (v1636 : IVec S16 32) : Prop :=
  (∀ (k0_h7 : k0_cond7 k0_t1 = 1#1), ∀ a x, ((![v1633, v1636] : Fin 2 → IVec S16 32) a x).toNat < S512x16.size a)
theorem k0_idx1282_inb : ∀ (k0_t1 : Fin k0_t1_loop.trips) (v1633 : IVec S16 32) (v1636 : IVec S16 32) (k0_hw1282 : k0_chk1282 k0_t1 v1633 v1636), ∀ (k0_h7 : k0_cond7 k0_t1 = 1#1), ∀ a x, ((![v1633, v1636] : Fin 2 → IVec S16 32) a x).toNat < S512x16.size a := fun k0_t1 v1633 v1636 k0_hw1282 k0_h7 => k0_hw1282 k0_h7

def k0_chk1283 (k0_t1 : Fin k0_t1_loop.trips) (v1633 : IVec S16 32) (v1638 : IVec S16 32) : Prop :=
  (∀ (k0_h7 : k0_cond7 k0_t1 = 1#1), ∀ a x, ((![v1633, v1638] : Fin 2 → IVec S16 32) a x).toNat < S512x16.size a)
theorem k0_idx1283_inb : ∀ (k0_t1 : Fin k0_t1_loop.trips) (v1633 : IVec S16 32) (v1638 : IVec S16 32) (k0_hw1283 : k0_chk1283 k0_t1 v1633 v1638), ∀ (k0_h7 : k0_cond7 k0_t1 = 1#1), ∀ a x, ((![v1633, v1638] : Fin 2 → IVec S16 32) a x).toNat < S512x16.size a := fun k0_t1 v1633 v1638 k0_hw1283 k0_h7 => k0_hw1283 k0_h7

def k0_chk1284 (k0_t1 : Fin k0_t1_loop.trips) (v1633 : IVec S16 32) (v1640 : IVec S16 32) : Prop :=
  (∀ (k0_h7 : k0_cond7 k0_t1 = 1#1), ∀ a x, ((![v1633, v1640] : Fin 2 → IVec S16 32) a x).toNat < S512x16.size a)
theorem k0_idx1284_inb : ∀ (k0_t1 : Fin k0_t1_loop.trips) (v1633 : IVec S16 32) (v1640 : IVec S16 32) (k0_hw1284 : k0_chk1284 k0_t1 v1633 v1640), ∀ (k0_h7 : k0_cond7 k0_t1 = 1#1), ∀ a x, ((![v1633, v1640] : Fin 2 → IVec S16 32) a x).toNat < S512x16.size a := fun k0_t1 v1633 v1640 k0_hw1284 k0_h7 => k0_hw1284 k0_h7

def k0_chk1285 (k0_t1 : Fin k0_t1_loop.trips) (v1633 : IVec S16 32) (v1642 : IVec S16 32) : Prop :=
  (∀ (k0_h7 : k0_cond7 k0_t1 = 1#1), ∀ a x, ((![v1633, v1642] : Fin 2 → IVec S16 32) a x).toNat < S512x16.size a)
theorem k0_idx1285_inb : ∀ (k0_t1 : Fin k0_t1_loop.trips) (v1633 : IVec S16 32) (v1642 : IVec S16 32) (k0_hw1285 : k0_chk1285 k0_t1 v1633 v1642), ∀ (k0_h7 : k0_cond7 k0_t1 = 1#1), ∀ a x, ((![v1633, v1642] : Fin 2 → IVec S16 32) a x).toNat < S512x16.size a := fun k0_t1 v1633 v1642 k0_hw1285 k0_h7 => k0_hw1285 k0_h7

def k0_chk1286 (k0_t1 : Fin k0_t1_loop.trips) (v1633 : IVec S16 32) (v1644 : IVec S16 32) : Prop :=
  (∀ (k0_h7 : k0_cond7 k0_t1 = 1#1), ∀ a x, ((![v1633, v1644] : Fin 2 → IVec S16 32) a x).toNat < S512x16.size a)
theorem k0_idx1286_inb : ∀ (k0_t1 : Fin k0_t1_loop.trips) (v1633 : IVec S16 32) (v1644 : IVec S16 32) (k0_hw1286 : k0_chk1286 k0_t1 v1633 v1644), ∀ (k0_h7 : k0_cond7 k0_t1 = 1#1), ∀ a x, ((![v1633, v1644] : Fin 2 → IVec S16 32) a x).toNat < S512x16.size a := fun k0_t1 v1633 v1644 k0_hw1286 k0_h7 => k0_hw1286 k0_h7

def k0_chk1287 (k0_t1 : Fin k0_t1_loop.trips) (v1633 : IVec S16 32) (v1646 : IVec S16 32) : Prop :=
  (∀ (k0_h7 : k0_cond7 k0_t1 = 1#1), ∀ a x, ((![v1633, v1646] : Fin 2 → IVec S16 32) a x).toNat < S512x16.size a)
theorem k0_idx1287_inb : ∀ (k0_t1 : Fin k0_t1_loop.trips) (v1633 : IVec S16 32) (v1646 : IVec S16 32) (k0_hw1287 : k0_chk1287 k0_t1 v1633 v1646), ∀ (k0_h7 : k0_cond7 k0_t1 = 1#1), ∀ a x, ((![v1633, v1646] : Fin 2 → IVec S16 32) a x).toNat < S512x16.size a := fun k0_t1 v1633 v1646 k0_hw1287 k0_h7 => k0_hw1287 k0_h7

def k0_chk1288 (k0_t1 : Fin k0_t1_loop.trips) (v1633 : IVec S16 32) (v1648 : IVec S16 32) : Prop :=
  (∀ (k0_h7 : k0_cond7 k0_t1 = 1#1), ∀ a x, ((![v1633, v1648] : Fin 2 → IVec S16 32) a x).toNat < S512x16.size a)
theorem k0_idx1288_inb : ∀ (k0_t1 : Fin k0_t1_loop.trips) (v1633 : IVec S16 32) (v1648 : IVec S16 32) (k0_hw1288 : k0_chk1288 k0_t1 v1633 v1648), ∀ (k0_h7 : k0_cond7 k0_t1 = 1#1), ∀ a x, ((![v1633, v1648] : Fin 2 → IVec S16 32) a x).toNat < S512x16.size a := fun k0_t1 v1633 v1648 k0_hw1288 k0_h7 => k0_hw1288 k0_h7

def k0_chk1289 (k0_t1 : Fin k0_t1_loop.trips) (v1633 : IVec S16 32) (v1650 : IVec S16 32) : Prop :=
  (∀ (k0_h7 : k0_cond7 k0_t1 = 1#1), ∀ a x, ((![v1633, v1650] : Fin 2 → IVec S16 32) a x).toNat < S512x16.size a)
theorem k0_idx1289_inb : ∀ (k0_t1 : Fin k0_t1_loop.trips) (v1633 : IVec S16 32) (v1650 : IVec S16 32) (k0_hw1289 : k0_chk1289 k0_t1 v1633 v1650), ∀ (k0_h7 : k0_cond7 k0_t1 = 1#1), ∀ a x, ((![v1633, v1650] : Fin 2 → IVec S16 32) a x).toNat < S512x16.size a := fun k0_t1 v1633 v1650 k0_hw1289 k0_h7 => k0_hw1289 k0_h7

def k0_chk1290 (k0_t1 : Fin k0_t1_loop.trips) (v1633 : IVec S16 32) (v1652 : IVec S16 32) : Prop :=
  (∀ (k0_h7 : k0_cond7 k0_t1 = 1#1), ∀ a x, ((![v1633, v1652] : Fin 2 → IVec S16 32) a x).toNat < S512x16.size a)
theorem k0_idx1290_inb : ∀ (k0_t1 : Fin k0_t1_loop.trips) (v1633 : IVec S16 32) (v1652 : IVec S16 32) (k0_hw1290 : k0_chk1290 k0_t1 v1633 v1652), ∀ (k0_h7 : k0_cond7 k0_t1 = 1#1), ∀ a x, ((![v1633, v1652] : Fin 2 → IVec S16 32) a x).toNat < S512x16.size a := fun k0_t1 v1633 v1652 k0_hw1290 k0_h7 => k0_hw1290 k0_h7

def k0_chk1291 (k0_t1 : Fin k0_t1_loop.trips) (v1633 : IVec S16 32) (v1654 : IVec S16 32) : Prop :=
  (∀ (k0_h7 : k0_cond7 k0_t1 = 1#1), ∀ a x, ((![v1633, v1654] : Fin 2 → IVec S16 32) a x).toNat < S512x16.size a)
theorem k0_idx1291_inb : ∀ (k0_t1 : Fin k0_t1_loop.trips) (v1633 : IVec S16 32) (v1654 : IVec S16 32) (k0_hw1291 : k0_chk1291 k0_t1 v1633 v1654), ∀ (k0_h7 : k0_cond7 k0_t1 = 1#1), ∀ a x, ((![v1633, v1654] : Fin 2 → IVec S16 32) a x).toNat < S512x16.size a := fun k0_t1 v1633 v1654 k0_hw1291 k0_h7 => k0_hw1291 k0_h7

def k0_chk1292 (k0_t1 : Fin k0_t1_loop.trips) (v1633 : IVec S16 32) (v1656 : IVec S16 32) : Prop :=
  (∀ (k0_h7 : k0_cond7 k0_t1 = 1#1), ∀ a x, ((![v1633, v1656] : Fin 2 → IVec S16 32) a x).toNat < S512x16.size a)
theorem k0_idx1292_inb : ∀ (k0_t1 : Fin k0_t1_loop.trips) (v1633 : IVec S16 32) (v1656 : IVec S16 32) (k0_hw1292 : k0_chk1292 k0_t1 v1633 v1656), ∀ (k0_h7 : k0_cond7 k0_t1 = 1#1), ∀ a x, ((![v1633, v1656] : Fin 2 → IVec S16 32) a x).toNat < S512x16.size a := fun k0_t1 v1633 v1656 k0_hw1292 k0_h7 => k0_hw1292 k0_h7

def k0_chk1293 (k0_t1 : Fin k0_t1_loop.trips) (v1633 : IVec S16 32) (v1658 : IVec S16 32) : Prop :=
  (∀ (k0_h7 : k0_cond7 k0_t1 = 1#1), ∀ a x, ((![v1633, v1658] : Fin 2 → IVec S16 32) a x).toNat < S512x16.size a)
theorem k0_idx1293_inb : ∀ (k0_t1 : Fin k0_t1_loop.trips) (v1633 : IVec S16 32) (v1658 : IVec S16 32) (k0_hw1293 : k0_chk1293 k0_t1 v1633 v1658), ∀ (k0_h7 : k0_cond7 k0_t1 = 1#1), ∀ a x, ((![v1633, v1658] : Fin 2 → IVec S16 32) a x).toNat < S512x16.size a := fun k0_t1 v1633 v1658 k0_hw1293 k0_h7 => k0_hw1293 k0_h7

def k0_chk1294 (k0_t1 : Fin k0_t1_loop.trips) (v1633 : IVec S16 32) (v1660 : IVec S16 32) : Prop :=
  (∀ (k0_h7 : k0_cond7 k0_t1 = 1#1), ∀ a x, ((![v1633, v1660] : Fin 2 → IVec S16 32) a x).toNat < S512x16.size a)
theorem k0_idx1294_inb : ∀ (k0_t1 : Fin k0_t1_loop.trips) (v1633 : IVec S16 32) (v1660 : IVec S16 32) (k0_hw1294 : k0_chk1294 k0_t1 v1633 v1660), ∀ (k0_h7 : k0_cond7 k0_t1 = 1#1), ∀ a x, ((![v1633, v1660] : Fin 2 → IVec S16 32) a x).toNat < S512x16.size a := fun k0_t1 v1633 v1660 k0_hw1294 k0_h7 => k0_hw1294 k0_h7

def k0_chk1295 (k0_t1 : Fin k0_t1_loop.trips) (v1633 : IVec S16 32) (v1662 : IVec S16 32) : Prop :=
  (∀ (k0_h7 : k0_cond7 k0_t1 = 1#1), ∀ a x, ((![v1633, v1662] : Fin 2 → IVec S16 32) a x).toNat < S512x16.size a)
theorem k0_idx1295_inb : ∀ (k0_t1 : Fin k0_t1_loop.trips) (v1633 : IVec S16 32) (v1662 : IVec S16 32) (k0_hw1295 : k0_chk1295 k0_t1 v1633 v1662), ∀ (k0_h7 : k0_cond7 k0_t1 = 1#1), ∀ a x, ((![v1633, v1662] : Fin 2 → IVec S16 32) a x).toNat < S512x16.size a := fun k0_t1 v1633 v1662 k0_hw1295 k0_h7 => k0_hw1295 k0_h7

def k0_chk1296 (k0_t1 : Fin k0_t1_loop.trips) (v1633 : IVec S16 32) (v1664 : IVec S16 32) : Prop :=
  (∀ (k0_h7 : k0_cond7 k0_t1 = 1#1), ∀ a x, ((![v1633, v1664] : Fin 2 → IVec S16 32) a x).toNat < S512x16.size a)
theorem k0_idx1296_inb : ∀ (k0_t1 : Fin k0_t1_loop.trips) (v1633 : IVec S16 32) (v1664 : IVec S16 32) (k0_hw1296 : k0_chk1296 k0_t1 v1633 v1664), ∀ (k0_h7 : k0_cond7 k0_t1 = 1#1), ∀ a x, ((![v1633, v1664] : Fin 2 → IVec S16 32) a x).toNat < S512x16.size a := fun k0_t1 v1633 v1664 k0_hw1296 k0_h7 => k0_hw1296 k0_h7

def k0_chk1297 (k0_t1 : Fin k0_t1_loop.trips) (v1732 : IVec S16 32) (v1733 : IVec S16 32) : Prop :=
  (∀ (k0_h7 : k0_cond7 k0_t1 = 1#1), ∀ a x, ((![v1732, v1733] : Fin 2 → IVec S16 32) a x).toNat < S512x16.size a)
theorem k0_idx1297_inb : ∀ (k0_t1 : Fin k0_t1_loop.trips) (v1732 : IVec S16 32) (v1733 : IVec S16 32) (k0_hw1297 : k0_chk1297 k0_t1 v1732 v1733), ∀ (k0_h7 : k0_cond7 k0_t1 = 1#1), ∀ a x, ((![v1732, v1733] : Fin 2 → IVec S16 32) a x).toNat < S512x16.size a := fun k0_t1 v1732 v1733 k0_hw1297 k0_h7 => k0_hw1297 k0_h7

def k0_chk1298 (k0_t1 : Fin k0_t1_loop.trips) (v1732 : IVec S16 32) (v1735 : IVec S16 32) : Prop :=
  (∀ (k0_h7 : k0_cond7 k0_t1 = 1#1), ∀ a x, ((![v1732, v1735] : Fin 2 → IVec S16 32) a x).toNat < S512x16.size a)
theorem k0_idx1298_inb : ∀ (k0_t1 : Fin k0_t1_loop.trips) (v1732 : IVec S16 32) (v1735 : IVec S16 32) (k0_hw1298 : k0_chk1298 k0_t1 v1732 v1735), ∀ (k0_h7 : k0_cond7 k0_t1 = 1#1), ∀ a x, ((![v1732, v1735] : Fin 2 → IVec S16 32) a x).toNat < S512x16.size a := fun k0_t1 v1732 v1735 k0_hw1298 k0_h7 => k0_hw1298 k0_h7

def k0_chk1299 (k0_t1 : Fin k0_t1_loop.trips) (v1732 : IVec S16 32) (v1737 : IVec S16 32) : Prop :=
  (∀ (k0_h7 : k0_cond7 k0_t1 = 1#1), ∀ a x, ((![v1732, v1737] : Fin 2 → IVec S16 32) a x).toNat < S512x16.size a)
theorem k0_idx1299_inb : ∀ (k0_t1 : Fin k0_t1_loop.trips) (v1732 : IVec S16 32) (v1737 : IVec S16 32) (k0_hw1299 : k0_chk1299 k0_t1 v1732 v1737), ∀ (k0_h7 : k0_cond7 k0_t1 = 1#1), ∀ a x, ((![v1732, v1737] : Fin 2 → IVec S16 32) a x).toNat < S512x16.size a := fun k0_t1 v1732 v1737 k0_hw1299 k0_h7 => k0_hw1299 k0_h7

def k0_chk1300 (k0_t1 : Fin k0_t1_loop.trips) (v1732 : IVec S16 32) (v1739 : IVec S16 32) : Prop :=
  (∀ (k0_h7 : k0_cond7 k0_t1 = 1#1), ∀ a x, ((![v1732, v1739] : Fin 2 → IVec S16 32) a x).toNat < S512x16.size a)
theorem k0_idx1300_inb : ∀ (k0_t1 : Fin k0_t1_loop.trips) (v1732 : IVec S16 32) (v1739 : IVec S16 32) (k0_hw1300 : k0_chk1300 k0_t1 v1732 v1739), ∀ (k0_h7 : k0_cond7 k0_t1 = 1#1), ∀ a x, ((![v1732, v1739] : Fin 2 → IVec S16 32) a x).toNat < S512x16.size a := fun k0_t1 v1732 v1739 k0_hw1300 k0_h7 => k0_hw1300 k0_h7

def k0_chk1301 (k0_t1 : Fin k0_t1_loop.trips) (v1732 : IVec S16 32) (v1741 : IVec S16 32) : Prop :=
  (∀ (k0_h7 : k0_cond7 k0_t1 = 1#1), ∀ a x, ((![v1732, v1741] : Fin 2 → IVec S16 32) a x).toNat < S512x16.size a)
theorem k0_idx1301_inb : ∀ (k0_t1 : Fin k0_t1_loop.trips) (v1732 : IVec S16 32) (v1741 : IVec S16 32) (k0_hw1301 : k0_chk1301 k0_t1 v1732 v1741), ∀ (k0_h7 : k0_cond7 k0_t1 = 1#1), ∀ a x, ((![v1732, v1741] : Fin 2 → IVec S16 32) a x).toNat < S512x16.size a := fun k0_t1 v1732 v1741 k0_hw1301 k0_h7 => k0_hw1301 k0_h7

def k0_chk1302 (k0_t1 : Fin k0_t1_loop.trips) (v1732 : IVec S16 32) (v1743 : IVec S16 32) : Prop :=
  (∀ (k0_h7 : k0_cond7 k0_t1 = 1#1), ∀ a x, ((![v1732, v1743] : Fin 2 → IVec S16 32) a x).toNat < S512x16.size a)
theorem k0_idx1302_inb : ∀ (k0_t1 : Fin k0_t1_loop.trips) (v1732 : IVec S16 32) (v1743 : IVec S16 32) (k0_hw1302 : k0_chk1302 k0_t1 v1732 v1743), ∀ (k0_h7 : k0_cond7 k0_t1 = 1#1), ∀ a x, ((![v1732, v1743] : Fin 2 → IVec S16 32) a x).toNat < S512x16.size a := fun k0_t1 v1732 v1743 k0_hw1302 k0_h7 => k0_hw1302 k0_h7

def k0_chk1303 (k0_t1 : Fin k0_t1_loop.trips) (v1732 : IVec S16 32) (v1745 : IVec S16 32) : Prop :=
  (∀ (k0_h7 : k0_cond7 k0_t1 = 1#1), ∀ a x, ((![v1732, v1745] : Fin 2 → IVec S16 32) a x).toNat < S512x16.size a)
theorem k0_idx1303_inb : ∀ (k0_t1 : Fin k0_t1_loop.trips) (v1732 : IVec S16 32) (v1745 : IVec S16 32) (k0_hw1303 : k0_chk1303 k0_t1 v1732 v1745), ∀ (k0_h7 : k0_cond7 k0_t1 = 1#1), ∀ a x, ((![v1732, v1745] : Fin 2 → IVec S16 32) a x).toNat < S512x16.size a := fun k0_t1 v1732 v1745 k0_hw1303 k0_h7 => k0_hw1303 k0_h7

def k0_chk1304 (k0_t1 : Fin k0_t1_loop.trips) (v1732 : IVec S16 32) (v1747 : IVec S16 32) : Prop :=
  (∀ (k0_h7 : k0_cond7 k0_t1 = 1#1), ∀ a x, ((![v1732, v1747] : Fin 2 → IVec S16 32) a x).toNat < S512x16.size a)
theorem k0_idx1304_inb : ∀ (k0_t1 : Fin k0_t1_loop.trips) (v1732 : IVec S16 32) (v1747 : IVec S16 32) (k0_hw1304 : k0_chk1304 k0_t1 v1732 v1747), ∀ (k0_h7 : k0_cond7 k0_t1 = 1#1), ∀ a x, ((![v1732, v1747] : Fin 2 → IVec S16 32) a x).toNat < S512x16.size a := fun k0_t1 v1732 v1747 k0_hw1304 k0_h7 => k0_hw1304 k0_h7

def k0_chk1305 (k0_t1 : Fin k0_t1_loop.trips) (v1732 : IVec S16 32) (v1749 : IVec S16 32) : Prop :=
  (∀ (k0_h7 : k0_cond7 k0_t1 = 1#1), ∀ a x, ((![v1732, v1749] : Fin 2 → IVec S16 32) a x).toNat < S512x16.size a)
theorem k0_idx1305_inb : ∀ (k0_t1 : Fin k0_t1_loop.trips) (v1732 : IVec S16 32) (v1749 : IVec S16 32) (k0_hw1305 : k0_chk1305 k0_t1 v1732 v1749), ∀ (k0_h7 : k0_cond7 k0_t1 = 1#1), ∀ a x, ((![v1732, v1749] : Fin 2 → IVec S16 32) a x).toNat < S512x16.size a := fun k0_t1 v1732 v1749 k0_hw1305 k0_h7 => k0_hw1305 k0_h7

def k0_chk1306 (k0_t1 : Fin k0_t1_loop.trips) (v1732 : IVec S16 32) (v1751 : IVec S16 32) : Prop :=
  (∀ (k0_h7 : k0_cond7 k0_t1 = 1#1), ∀ a x, ((![v1732, v1751] : Fin 2 → IVec S16 32) a x).toNat < S512x16.size a)
theorem k0_idx1306_inb : ∀ (k0_t1 : Fin k0_t1_loop.trips) (v1732 : IVec S16 32) (v1751 : IVec S16 32) (k0_hw1306 : k0_chk1306 k0_t1 v1732 v1751), ∀ (k0_h7 : k0_cond7 k0_t1 = 1#1), ∀ a x, ((![v1732, v1751] : Fin 2 → IVec S16 32) a x).toNat < S512x16.size a := fun k0_t1 v1732 v1751 k0_hw1306 k0_h7 => k0_hw1306 k0_h7

def k0_chk1307 (k0_t1 : Fin k0_t1_loop.trips) (v1732 : IVec S16 32) (v1753 : IVec S16 32) : Prop :=
  (∀ (k0_h7 : k0_cond7 k0_t1 = 1#1), ∀ a x, ((![v1732, v1753] : Fin 2 → IVec S16 32) a x).toNat < S512x16.size a)
theorem k0_idx1307_inb : ∀ (k0_t1 : Fin k0_t1_loop.trips) (v1732 : IVec S16 32) (v1753 : IVec S16 32) (k0_hw1307 : k0_chk1307 k0_t1 v1732 v1753), ∀ (k0_h7 : k0_cond7 k0_t1 = 1#1), ∀ a x, ((![v1732, v1753] : Fin 2 → IVec S16 32) a x).toNat < S512x16.size a := fun k0_t1 v1732 v1753 k0_hw1307 k0_h7 => k0_hw1307 k0_h7

def k0_chk1308 (k0_t1 : Fin k0_t1_loop.trips) (v1732 : IVec S16 32) (v1755 : IVec S16 32) : Prop :=
  (∀ (k0_h7 : k0_cond7 k0_t1 = 1#1), ∀ a x, ((![v1732, v1755] : Fin 2 → IVec S16 32) a x).toNat < S512x16.size a)
theorem k0_idx1308_inb : ∀ (k0_t1 : Fin k0_t1_loop.trips) (v1732 : IVec S16 32) (v1755 : IVec S16 32) (k0_hw1308 : k0_chk1308 k0_t1 v1732 v1755), ∀ (k0_h7 : k0_cond7 k0_t1 = 1#1), ∀ a x, ((![v1732, v1755] : Fin 2 → IVec S16 32) a x).toNat < S512x16.size a := fun k0_t1 v1732 v1755 k0_hw1308 k0_h7 => k0_hw1308 k0_h7

def k0_chk1309 (k0_t1 : Fin k0_t1_loop.trips) (v1732 : IVec S16 32) (v1757 : IVec S16 32) : Prop :=
  (∀ (k0_h7 : k0_cond7 k0_t1 = 1#1), ∀ a x, ((![v1732, v1757] : Fin 2 → IVec S16 32) a x).toNat < S512x16.size a)
theorem k0_idx1309_inb : ∀ (k0_t1 : Fin k0_t1_loop.trips) (v1732 : IVec S16 32) (v1757 : IVec S16 32) (k0_hw1309 : k0_chk1309 k0_t1 v1732 v1757), ∀ (k0_h7 : k0_cond7 k0_t1 = 1#1), ∀ a x, ((![v1732, v1757] : Fin 2 → IVec S16 32) a x).toNat < S512x16.size a := fun k0_t1 v1732 v1757 k0_hw1309 k0_h7 => k0_hw1309 k0_h7

def k0_chk1310 (k0_t1 : Fin k0_t1_loop.trips) (v1732 : IVec S16 32) (v1759 : IVec S16 32) : Prop :=
  (∀ (k0_h7 : k0_cond7 k0_t1 = 1#1), ∀ a x, ((![v1732, v1759] : Fin 2 → IVec S16 32) a x).toNat < S512x16.size a)
theorem k0_idx1310_inb : ∀ (k0_t1 : Fin k0_t1_loop.trips) (v1732 : IVec S16 32) (v1759 : IVec S16 32) (k0_hw1310 : k0_chk1310 k0_t1 v1732 v1759), ∀ (k0_h7 : k0_cond7 k0_t1 = 1#1), ∀ a x, ((![v1732, v1759] : Fin 2 → IVec S16 32) a x).toNat < S512x16.size a := fun k0_t1 v1732 v1759 k0_hw1310 k0_h7 => k0_hw1310 k0_h7

def k0_chk1311 (k0_t1 : Fin k0_t1_loop.trips) (v1732 : IVec S16 32) (v1761 : IVec S16 32) : Prop :=
  (∀ (k0_h7 : k0_cond7 k0_t1 = 1#1), ∀ a x, ((![v1732, v1761] : Fin 2 → IVec S16 32) a x).toNat < S512x16.size a)
theorem k0_idx1311_inb : ∀ (k0_t1 : Fin k0_t1_loop.trips) (v1732 : IVec S16 32) (v1761 : IVec S16 32) (k0_hw1311 : k0_chk1311 k0_t1 v1732 v1761), ∀ (k0_h7 : k0_cond7 k0_t1 = 1#1), ∀ a x, ((![v1732, v1761] : Fin 2 → IVec S16 32) a x).toNat < S512x16.size a := fun k0_t1 v1732 v1761 k0_hw1311 k0_h7 => k0_hw1311 k0_h7

def k0_chk1312 (k0_t1 : Fin k0_t1_loop.trips) (v1732 : IVec S16 32) (v1763 : IVec S16 32) : Prop :=
  (∀ (k0_h7 : k0_cond7 k0_t1 = 1#1), ∀ a x, ((![v1732, v1763] : Fin 2 → IVec S16 32) a x).toNat < S512x16.size a)
theorem k0_idx1312_inb : ∀ (k0_t1 : Fin k0_t1_loop.trips) (v1732 : IVec S16 32) (v1763 : IVec S16 32) (k0_hw1312 : k0_chk1312 k0_t1 v1732 v1763), ∀ (k0_h7 : k0_cond7 k0_t1 = 1#1), ∀ a x, ((![v1732, v1763] : Fin 2 → IVec S16 32) a x).toNat < S512x16.size a := fun k0_t1 v1732 v1763 k0_hw1312 k0_h7 => k0_hw1312 k0_h7

def k0_chk1313 (k0_t1 : Fin k0_t1_loop.trips) (v1831 : IVec S16 32) (v1832 : IVec S16 32) : Prop :=
  (∀ (k0_h7 : k0_cond7 k0_t1 = 1#1), ∀ a x, ((![v1831, v1832] : Fin 2 → IVec S16 32) a x).toNat < S512x16.size a)
theorem k0_idx1313_inb : ∀ (k0_t1 : Fin k0_t1_loop.trips) (v1831 : IVec S16 32) (v1832 : IVec S16 32) (k0_hw1313 : k0_chk1313 k0_t1 v1831 v1832), ∀ (k0_h7 : k0_cond7 k0_t1 = 1#1), ∀ a x, ((![v1831, v1832] : Fin 2 → IVec S16 32) a x).toNat < S512x16.size a := fun k0_t1 v1831 v1832 k0_hw1313 k0_h7 => k0_hw1313 k0_h7

def k0_chk1314 (k0_t1 : Fin k0_t1_loop.trips) (v1831 : IVec S16 32) (v1834 : IVec S16 32) : Prop :=
  (∀ (k0_h7 : k0_cond7 k0_t1 = 1#1), ∀ a x, ((![v1831, v1834] : Fin 2 → IVec S16 32) a x).toNat < S512x16.size a)
theorem k0_idx1314_inb : ∀ (k0_t1 : Fin k0_t1_loop.trips) (v1831 : IVec S16 32) (v1834 : IVec S16 32) (k0_hw1314 : k0_chk1314 k0_t1 v1831 v1834), ∀ (k0_h7 : k0_cond7 k0_t1 = 1#1), ∀ a x, ((![v1831, v1834] : Fin 2 → IVec S16 32) a x).toNat < S512x16.size a := fun k0_t1 v1831 v1834 k0_hw1314 k0_h7 => k0_hw1314 k0_h7

def k0_chk1315 (k0_t1 : Fin k0_t1_loop.trips) (v1831 : IVec S16 32) (v1836 : IVec S16 32) : Prop :=
  (∀ (k0_h7 : k0_cond7 k0_t1 = 1#1), ∀ a x, ((![v1831, v1836] : Fin 2 → IVec S16 32) a x).toNat < S512x16.size a)
theorem k0_idx1315_inb : ∀ (k0_t1 : Fin k0_t1_loop.trips) (v1831 : IVec S16 32) (v1836 : IVec S16 32) (k0_hw1315 : k0_chk1315 k0_t1 v1831 v1836), ∀ (k0_h7 : k0_cond7 k0_t1 = 1#1), ∀ a x, ((![v1831, v1836] : Fin 2 → IVec S16 32) a x).toNat < S512x16.size a := fun k0_t1 v1831 v1836 k0_hw1315 k0_h7 => k0_hw1315 k0_h7

def k0_chk1316 (k0_t1 : Fin k0_t1_loop.trips) (v1831 : IVec S16 32) (v1838 : IVec S16 32) : Prop :=
  (∀ (k0_h7 : k0_cond7 k0_t1 = 1#1), ∀ a x, ((![v1831, v1838] : Fin 2 → IVec S16 32) a x).toNat < S512x16.size a)
theorem k0_idx1316_inb : ∀ (k0_t1 : Fin k0_t1_loop.trips) (v1831 : IVec S16 32) (v1838 : IVec S16 32) (k0_hw1316 : k0_chk1316 k0_t1 v1831 v1838), ∀ (k0_h7 : k0_cond7 k0_t1 = 1#1), ∀ a x, ((![v1831, v1838] : Fin 2 → IVec S16 32) a x).toNat < S512x16.size a := fun k0_t1 v1831 v1838 k0_hw1316 k0_h7 => k0_hw1316 k0_h7

def k0_chk1317 (k0_t1 : Fin k0_t1_loop.trips) (v1831 : IVec S16 32) (v1840 : IVec S16 32) : Prop :=
  (∀ (k0_h7 : k0_cond7 k0_t1 = 1#1), ∀ a x, ((![v1831, v1840] : Fin 2 → IVec S16 32) a x).toNat < S512x16.size a)
theorem k0_idx1317_inb : ∀ (k0_t1 : Fin k0_t1_loop.trips) (v1831 : IVec S16 32) (v1840 : IVec S16 32) (k0_hw1317 : k0_chk1317 k0_t1 v1831 v1840), ∀ (k0_h7 : k0_cond7 k0_t1 = 1#1), ∀ a x, ((![v1831, v1840] : Fin 2 → IVec S16 32) a x).toNat < S512x16.size a := fun k0_t1 v1831 v1840 k0_hw1317 k0_h7 => k0_hw1317 k0_h7

def k0_chk1318 (k0_t1 : Fin k0_t1_loop.trips) (v1831 : IVec S16 32) (v1842 : IVec S16 32) : Prop :=
  (∀ (k0_h7 : k0_cond7 k0_t1 = 1#1), ∀ a x, ((![v1831, v1842] : Fin 2 → IVec S16 32) a x).toNat < S512x16.size a)
theorem k0_idx1318_inb : ∀ (k0_t1 : Fin k0_t1_loop.trips) (v1831 : IVec S16 32) (v1842 : IVec S16 32) (k0_hw1318 : k0_chk1318 k0_t1 v1831 v1842), ∀ (k0_h7 : k0_cond7 k0_t1 = 1#1), ∀ a x, ((![v1831, v1842] : Fin 2 → IVec S16 32) a x).toNat < S512x16.size a := fun k0_t1 v1831 v1842 k0_hw1318 k0_h7 => k0_hw1318 k0_h7

def k0_chk1319 (k0_t1 : Fin k0_t1_loop.trips) (v1831 : IVec S16 32) (v1844 : IVec S16 32) : Prop :=
  (∀ (k0_h7 : k0_cond7 k0_t1 = 1#1), ∀ a x, ((![v1831, v1844] : Fin 2 → IVec S16 32) a x).toNat < S512x16.size a)
theorem k0_idx1319_inb : ∀ (k0_t1 : Fin k0_t1_loop.trips) (v1831 : IVec S16 32) (v1844 : IVec S16 32) (k0_hw1319 : k0_chk1319 k0_t1 v1831 v1844), ∀ (k0_h7 : k0_cond7 k0_t1 = 1#1), ∀ a x, ((![v1831, v1844] : Fin 2 → IVec S16 32) a x).toNat < S512x16.size a := fun k0_t1 v1831 v1844 k0_hw1319 k0_h7 => k0_hw1319 k0_h7

def k0_chk1320 (k0_t1 : Fin k0_t1_loop.trips) (v1831 : IVec S16 32) (v1846 : IVec S16 32) : Prop :=
  (∀ (k0_h7 : k0_cond7 k0_t1 = 1#1), ∀ a x, ((![v1831, v1846] : Fin 2 → IVec S16 32) a x).toNat < S512x16.size a)
theorem k0_idx1320_inb : ∀ (k0_t1 : Fin k0_t1_loop.trips) (v1831 : IVec S16 32) (v1846 : IVec S16 32) (k0_hw1320 : k0_chk1320 k0_t1 v1831 v1846), ∀ (k0_h7 : k0_cond7 k0_t1 = 1#1), ∀ a x, ((![v1831, v1846] : Fin 2 → IVec S16 32) a x).toNat < S512x16.size a := fun k0_t1 v1831 v1846 k0_hw1320 k0_h7 => k0_hw1320 k0_h7

def k0_chk1321 (k0_t1 : Fin k0_t1_loop.trips) (v1831 : IVec S16 32) (v1848 : IVec S16 32) : Prop :=
  (∀ (k0_h7 : k0_cond7 k0_t1 = 1#1), ∀ a x, ((![v1831, v1848] : Fin 2 → IVec S16 32) a x).toNat < S512x16.size a)
theorem k0_idx1321_inb : ∀ (k0_t1 : Fin k0_t1_loop.trips) (v1831 : IVec S16 32) (v1848 : IVec S16 32) (k0_hw1321 : k0_chk1321 k0_t1 v1831 v1848), ∀ (k0_h7 : k0_cond7 k0_t1 = 1#1), ∀ a x, ((![v1831, v1848] : Fin 2 → IVec S16 32) a x).toNat < S512x16.size a := fun k0_t1 v1831 v1848 k0_hw1321 k0_h7 => k0_hw1321 k0_h7

def k0_chk1322 (k0_t1 : Fin k0_t1_loop.trips) (v1831 : IVec S16 32) (v1850 : IVec S16 32) : Prop :=
  (∀ (k0_h7 : k0_cond7 k0_t1 = 1#1), ∀ a x, ((![v1831, v1850] : Fin 2 → IVec S16 32) a x).toNat < S512x16.size a)
theorem k0_idx1322_inb : ∀ (k0_t1 : Fin k0_t1_loop.trips) (v1831 : IVec S16 32) (v1850 : IVec S16 32) (k0_hw1322 : k0_chk1322 k0_t1 v1831 v1850), ∀ (k0_h7 : k0_cond7 k0_t1 = 1#1), ∀ a x, ((![v1831, v1850] : Fin 2 → IVec S16 32) a x).toNat < S512x16.size a := fun k0_t1 v1831 v1850 k0_hw1322 k0_h7 => k0_hw1322 k0_h7

def k0_chk1323 (k0_t1 : Fin k0_t1_loop.trips) (v1831 : IVec S16 32) (v1852 : IVec S16 32) : Prop :=
  (∀ (k0_h7 : k0_cond7 k0_t1 = 1#1), ∀ a x, ((![v1831, v1852] : Fin 2 → IVec S16 32) a x).toNat < S512x16.size a)
theorem k0_idx1323_inb : ∀ (k0_t1 : Fin k0_t1_loop.trips) (v1831 : IVec S16 32) (v1852 : IVec S16 32) (k0_hw1323 : k0_chk1323 k0_t1 v1831 v1852), ∀ (k0_h7 : k0_cond7 k0_t1 = 1#1), ∀ a x, ((![v1831, v1852] : Fin 2 → IVec S16 32) a x).toNat < S512x16.size a := fun k0_t1 v1831 v1852 k0_hw1323 k0_h7 => k0_hw1323 k0_h7

def k0_chk1324 (k0_t1 : Fin k0_t1_loop.trips) (v1831 : IVec S16 32) (v1854 : IVec S16 32) : Prop :=
  (∀ (k0_h7 : k0_cond7 k0_t1 = 1#1), ∀ a x, ((![v1831, v1854] : Fin 2 → IVec S16 32) a x).toNat < S512x16.size a)
theorem k0_idx1324_inb : ∀ (k0_t1 : Fin k0_t1_loop.trips) (v1831 : IVec S16 32) (v1854 : IVec S16 32) (k0_hw1324 : k0_chk1324 k0_t1 v1831 v1854), ∀ (k0_h7 : k0_cond7 k0_t1 = 1#1), ∀ a x, ((![v1831, v1854] : Fin 2 → IVec S16 32) a x).toNat < S512x16.size a := fun k0_t1 v1831 v1854 k0_hw1324 k0_h7 => k0_hw1324 k0_h7

def k0_chk1325 (k0_t1 : Fin k0_t1_loop.trips) (v1831 : IVec S16 32) (v1856 : IVec S16 32) : Prop :=
  (∀ (k0_h7 : k0_cond7 k0_t1 = 1#1), ∀ a x, ((![v1831, v1856] : Fin 2 → IVec S16 32) a x).toNat < S512x16.size a)
theorem k0_idx1325_inb : ∀ (k0_t1 : Fin k0_t1_loop.trips) (v1831 : IVec S16 32) (v1856 : IVec S16 32) (k0_hw1325 : k0_chk1325 k0_t1 v1831 v1856), ∀ (k0_h7 : k0_cond7 k0_t1 = 1#1), ∀ a x, ((![v1831, v1856] : Fin 2 → IVec S16 32) a x).toNat < S512x16.size a := fun k0_t1 v1831 v1856 k0_hw1325 k0_h7 => k0_hw1325 k0_h7

def k0_chk1326 (k0_t1 : Fin k0_t1_loop.trips) (v1831 : IVec S16 32) (v1858 : IVec S16 32) : Prop :=
  (∀ (k0_h7 : k0_cond7 k0_t1 = 1#1), ∀ a x, ((![v1831, v1858] : Fin 2 → IVec S16 32) a x).toNat < S512x16.size a)
theorem k0_idx1326_inb : ∀ (k0_t1 : Fin k0_t1_loop.trips) (v1831 : IVec S16 32) (v1858 : IVec S16 32) (k0_hw1326 : k0_chk1326 k0_t1 v1831 v1858), ∀ (k0_h7 : k0_cond7 k0_t1 = 1#1), ∀ a x, ((![v1831, v1858] : Fin 2 → IVec S16 32) a x).toNat < S512x16.size a := fun k0_t1 v1831 v1858 k0_hw1326 k0_h7 => k0_hw1326 k0_h7

def k0_chk1327 (k0_t1 : Fin k0_t1_loop.trips) (v1831 : IVec S16 32) (v1860 : IVec S16 32) : Prop :=
  (∀ (k0_h7 : k0_cond7 k0_t1 = 1#1), ∀ a x, ((![v1831, v1860] : Fin 2 → IVec S16 32) a x).toNat < S512x16.size a)
theorem k0_idx1327_inb : ∀ (k0_t1 : Fin k0_t1_loop.trips) (v1831 : IVec S16 32) (v1860 : IVec S16 32) (k0_hw1327 : k0_chk1327 k0_t1 v1831 v1860), ∀ (k0_h7 : k0_cond7 k0_t1 = 1#1), ∀ a x, ((![v1831, v1860] : Fin 2 → IVec S16 32) a x).toNat < S512x16.size a := fun k0_t1 v1831 v1860 k0_hw1327 k0_h7 => k0_hw1327 k0_h7

def k0_chk1328 (k0_t1 : Fin k0_t1_loop.trips) (v1831 : IVec S16 32) (v1862 : IVec S16 32) : Prop :=
  (∀ (k0_h7 : k0_cond7 k0_t1 = 1#1), ∀ a x, ((![v1831, v1862] : Fin 2 → IVec S16 32) a x).toNat < S512x16.size a)
theorem k0_idx1328_inb : ∀ (k0_t1 : Fin k0_t1_loop.trips) (v1831 : IVec S16 32) (v1862 : IVec S16 32) (k0_hw1328 : k0_chk1328 k0_t1 v1831 v1862), ∀ (k0_h7 : k0_cond7 k0_t1 = 1#1), ∀ a x, ((![v1831, v1862] : Fin 2 → IVec S16 32) a x).toNat < S512x16.size a := fun k0_t1 v1831 v1862 k0_hw1328 k0_h7 => k0_hw1328 k0_h7

def k0_chk1329 (k0_t1 : Fin k0_t1_loop.trips) (v1930 : IVec S16 32) (v1931 : IVec S16 32) : Prop :=
  (∀ (k0_h7 : k0_cond7 k0_t1 = 1#1), ∀ a x, ((![v1930, v1931] : Fin 2 → IVec S16 32) a x).toNat < S512x16.size a)
theorem k0_idx1329_inb : ∀ (k0_t1 : Fin k0_t1_loop.trips) (v1930 : IVec S16 32) (v1931 : IVec S16 32) (k0_hw1329 : k0_chk1329 k0_t1 v1930 v1931), ∀ (k0_h7 : k0_cond7 k0_t1 = 1#1), ∀ a x, ((![v1930, v1931] : Fin 2 → IVec S16 32) a x).toNat < S512x16.size a := fun k0_t1 v1930 v1931 k0_hw1329 k0_h7 => k0_hw1329 k0_h7

def k0_chk1330 (k0_t1 : Fin k0_t1_loop.trips) (v1930 : IVec S16 32) (v1933 : IVec S16 32) : Prop :=
  (∀ (k0_h7 : k0_cond7 k0_t1 = 1#1), ∀ a x, ((![v1930, v1933] : Fin 2 → IVec S16 32) a x).toNat < S512x16.size a)
theorem k0_idx1330_inb : ∀ (k0_t1 : Fin k0_t1_loop.trips) (v1930 : IVec S16 32) (v1933 : IVec S16 32) (k0_hw1330 : k0_chk1330 k0_t1 v1930 v1933), ∀ (k0_h7 : k0_cond7 k0_t1 = 1#1), ∀ a x, ((![v1930, v1933] : Fin 2 → IVec S16 32) a x).toNat < S512x16.size a := fun k0_t1 v1930 v1933 k0_hw1330 k0_h7 => k0_hw1330 k0_h7

def k0_chk1331 (k0_t1 : Fin k0_t1_loop.trips) (v1930 : IVec S16 32) (v1935 : IVec S16 32) : Prop :=
  (∀ (k0_h7 : k0_cond7 k0_t1 = 1#1), ∀ a x, ((![v1930, v1935] : Fin 2 → IVec S16 32) a x).toNat < S512x16.size a)
theorem k0_idx1331_inb : ∀ (k0_t1 : Fin k0_t1_loop.trips) (v1930 : IVec S16 32) (v1935 : IVec S16 32) (k0_hw1331 : k0_chk1331 k0_t1 v1930 v1935), ∀ (k0_h7 : k0_cond7 k0_t1 = 1#1), ∀ a x, ((![v1930, v1935] : Fin 2 → IVec S16 32) a x).toNat < S512x16.size a := fun k0_t1 v1930 v1935 k0_hw1331 k0_h7 => k0_hw1331 k0_h7

def k0_chk1332 (k0_t1 : Fin k0_t1_loop.trips) (v1930 : IVec S16 32) (v1937 : IVec S16 32) : Prop :=
  (∀ (k0_h7 : k0_cond7 k0_t1 = 1#1), ∀ a x, ((![v1930, v1937] : Fin 2 → IVec S16 32) a x).toNat < S512x16.size a)
theorem k0_idx1332_inb : ∀ (k0_t1 : Fin k0_t1_loop.trips) (v1930 : IVec S16 32) (v1937 : IVec S16 32) (k0_hw1332 : k0_chk1332 k0_t1 v1930 v1937), ∀ (k0_h7 : k0_cond7 k0_t1 = 1#1), ∀ a x, ((![v1930, v1937] : Fin 2 → IVec S16 32) a x).toNat < S512x16.size a := fun k0_t1 v1930 v1937 k0_hw1332 k0_h7 => k0_hw1332 k0_h7

def k0_chk1333 (k0_t1 : Fin k0_t1_loop.trips) (v1930 : IVec S16 32) (v1939 : IVec S16 32) : Prop :=
  (∀ (k0_h7 : k0_cond7 k0_t1 = 1#1), ∀ a x, ((![v1930, v1939] : Fin 2 → IVec S16 32) a x).toNat < S512x16.size a)
theorem k0_idx1333_inb : ∀ (k0_t1 : Fin k0_t1_loop.trips) (v1930 : IVec S16 32) (v1939 : IVec S16 32) (k0_hw1333 : k0_chk1333 k0_t1 v1930 v1939), ∀ (k0_h7 : k0_cond7 k0_t1 = 1#1), ∀ a x, ((![v1930, v1939] : Fin 2 → IVec S16 32) a x).toNat < S512x16.size a := fun k0_t1 v1930 v1939 k0_hw1333 k0_h7 => k0_hw1333 k0_h7

def k0_chk1334 (k0_t1 : Fin k0_t1_loop.trips) (v1930 : IVec S16 32) (v1941 : IVec S16 32) : Prop :=
  (∀ (k0_h7 : k0_cond7 k0_t1 = 1#1), ∀ a x, ((![v1930, v1941] : Fin 2 → IVec S16 32) a x).toNat < S512x16.size a)
theorem k0_idx1334_inb : ∀ (k0_t1 : Fin k0_t1_loop.trips) (v1930 : IVec S16 32) (v1941 : IVec S16 32) (k0_hw1334 : k0_chk1334 k0_t1 v1930 v1941), ∀ (k0_h7 : k0_cond7 k0_t1 = 1#1), ∀ a x, ((![v1930, v1941] : Fin 2 → IVec S16 32) a x).toNat < S512x16.size a := fun k0_t1 v1930 v1941 k0_hw1334 k0_h7 => k0_hw1334 k0_h7

def k0_chk1335 (k0_t1 : Fin k0_t1_loop.trips) (v1930 : IVec S16 32) (v1943 : IVec S16 32) : Prop :=
  (∀ (k0_h7 : k0_cond7 k0_t1 = 1#1), ∀ a x, ((![v1930, v1943] : Fin 2 → IVec S16 32) a x).toNat < S512x16.size a)
theorem k0_idx1335_inb : ∀ (k0_t1 : Fin k0_t1_loop.trips) (v1930 : IVec S16 32) (v1943 : IVec S16 32) (k0_hw1335 : k0_chk1335 k0_t1 v1930 v1943), ∀ (k0_h7 : k0_cond7 k0_t1 = 1#1), ∀ a x, ((![v1930, v1943] : Fin 2 → IVec S16 32) a x).toNat < S512x16.size a := fun k0_t1 v1930 v1943 k0_hw1335 k0_h7 => k0_hw1335 k0_h7

def k0_chk1336 (k0_t1 : Fin k0_t1_loop.trips) (v1930 : IVec S16 32) (v1945 : IVec S16 32) : Prop :=
  (∀ (k0_h7 : k0_cond7 k0_t1 = 1#1), ∀ a x, ((![v1930, v1945] : Fin 2 → IVec S16 32) a x).toNat < S512x16.size a)
theorem k0_idx1336_inb : ∀ (k0_t1 : Fin k0_t1_loop.trips) (v1930 : IVec S16 32) (v1945 : IVec S16 32) (k0_hw1336 : k0_chk1336 k0_t1 v1930 v1945), ∀ (k0_h7 : k0_cond7 k0_t1 = 1#1), ∀ a x, ((![v1930, v1945] : Fin 2 → IVec S16 32) a x).toNat < S512x16.size a := fun k0_t1 v1930 v1945 k0_hw1336 k0_h7 => k0_hw1336 k0_h7

def k0_chk1337 (k0_t1 : Fin k0_t1_loop.trips) (v1930 : IVec S16 32) (v1947 : IVec S16 32) : Prop :=
  (∀ (k0_h7 : k0_cond7 k0_t1 = 1#1), ∀ a x, ((![v1930, v1947] : Fin 2 → IVec S16 32) a x).toNat < S512x16.size a)
theorem k0_idx1337_inb : ∀ (k0_t1 : Fin k0_t1_loop.trips) (v1930 : IVec S16 32) (v1947 : IVec S16 32) (k0_hw1337 : k0_chk1337 k0_t1 v1930 v1947), ∀ (k0_h7 : k0_cond7 k0_t1 = 1#1), ∀ a x, ((![v1930, v1947] : Fin 2 → IVec S16 32) a x).toNat < S512x16.size a := fun k0_t1 v1930 v1947 k0_hw1337 k0_h7 => k0_hw1337 k0_h7

def k0_chk1338 (k0_t1 : Fin k0_t1_loop.trips) (v1930 : IVec S16 32) (v1949 : IVec S16 32) : Prop :=
  (∀ (k0_h7 : k0_cond7 k0_t1 = 1#1), ∀ a x, ((![v1930, v1949] : Fin 2 → IVec S16 32) a x).toNat < S512x16.size a)
theorem k0_idx1338_inb : ∀ (k0_t1 : Fin k0_t1_loop.trips) (v1930 : IVec S16 32) (v1949 : IVec S16 32) (k0_hw1338 : k0_chk1338 k0_t1 v1930 v1949), ∀ (k0_h7 : k0_cond7 k0_t1 = 1#1), ∀ a x, ((![v1930, v1949] : Fin 2 → IVec S16 32) a x).toNat < S512x16.size a := fun k0_t1 v1930 v1949 k0_hw1338 k0_h7 => k0_hw1338 k0_h7

def k0_chk1339 (k0_t1 : Fin k0_t1_loop.trips) (v1930 : IVec S16 32) (v1951 : IVec S16 32) : Prop :=
  (∀ (k0_h7 : k0_cond7 k0_t1 = 1#1), ∀ a x, ((![v1930, v1951] : Fin 2 → IVec S16 32) a x).toNat < S512x16.size a)
theorem k0_idx1339_inb : ∀ (k0_t1 : Fin k0_t1_loop.trips) (v1930 : IVec S16 32) (v1951 : IVec S16 32) (k0_hw1339 : k0_chk1339 k0_t1 v1930 v1951), ∀ (k0_h7 : k0_cond7 k0_t1 = 1#1), ∀ a x, ((![v1930, v1951] : Fin 2 → IVec S16 32) a x).toNat < S512x16.size a := fun k0_t1 v1930 v1951 k0_hw1339 k0_h7 => k0_hw1339 k0_h7

def k0_chk1340 (k0_t1 : Fin k0_t1_loop.trips) (v1930 : IVec S16 32) (v1953 : IVec S16 32) : Prop :=
  (∀ (k0_h7 : k0_cond7 k0_t1 = 1#1), ∀ a x, ((![v1930, v1953] : Fin 2 → IVec S16 32) a x).toNat < S512x16.size a)
theorem k0_idx1340_inb : ∀ (k0_t1 : Fin k0_t1_loop.trips) (v1930 : IVec S16 32) (v1953 : IVec S16 32) (k0_hw1340 : k0_chk1340 k0_t1 v1930 v1953), ∀ (k0_h7 : k0_cond7 k0_t1 = 1#1), ∀ a x, ((![v1930, v1953] : Fin 2 → IVec S16 32) a x).toNat < S512x16.size a := fun k0_t1 v1930 v1953 k0_hw1340 k0_h7 => k0_hw1340 k0_h7

def k0_chk1341 (k0_t1 : Fin k0_t1_loop.trips) (v1930 : IVec S16 32) (v1955 : IVec S16 32) : Prop :=
  (∀ (k0_h7 : k0_cond7 k0_t1 = 1#1), ∀ a x, ((![v1930, v1955] : Fin 2 → IVec S16 32) a x).toNat < S512x16.size a)
theorem k0_idx1341_inb : ∀ (k0_t1 : Fin k0_t1_loop.trips) (v1930 : IVec S16 32) (v1955 : IVec S16 32) (k0_hw1341 : k0_chk1341 k0_t1 v1930 v1955), ∀ (k0_h7 : k0_cond7 k0_t1 = 1#1), ∀ a x, ((![v1930, v1955] : Fin 2 → IVec S16 32) a x).toNat < S512x16.size a := fun k0_t1 v1930 v1955 k0_hw1341 k0_h7 => k0_hw1341 k0_h7

def k0_chk1342 (k0_t1 : Fin k0_t1_loop.trips) (v1930 : IVec S16 32) (v1957 : IVec S16 32) : Prop :=
  (∀ (k0_h7 : k0_cond7 k0_t1 = 1#1), ∀ a x, ((![v1930, v1957] : Fin 2 → IVec S16 32) a x).toNat < S512x16.size a)
theorem k0_idx1342_inb : ∀ (k0_t1 : Fin k0_t1_loop.trips) (v1930 : IVec S16 32) (v1957 : IVec S16 32) (k0_hw1342 : k0_chk1342 k0_t1 v1930 v1957), ∀ (k0_h7 : k0_cond7 k0_t1 = 1#1), ∀ a x, ((![v1930, v1957] : Fin 2 → IVec S16 32) a x).toNat < S512x16.size a := fun k0_t1 v1930 v1957 k0_hw1342 k0_h7 => k0_hw1342 k0_h7

def k0_chk1343 (k0_t1 : Fin k0_t1_loop.trips) (v1930 : IVec S16 32) (v1959 : IVec S16 32) : Prop :=
  (∀ (k0_h7 : k0_cond7 k0_t1 = 1#1), ∀ a x, ((![v1930, v1959] : Fin 2 → IVec S16 32) a x).toNat < S512x16.size a)
theorem k0_idx1343_inb : ∀ (k0_t1 : Fin k0_t1_loop.trips) (v1930 : IVec S16 32) (v1959 : IVec S16 32) (k0_hw1343 : k0_chk1343 k0_t1 v1930 v1959), ∀ (k0_h7 : k0_cond7 k0_t1 = 1#1), ∀ a x, ((![v1930, v1959] : Fin 2 → IVec S16 32) a x).toNat < S512x16.size a := fun k0_t1 v1930 v1959 k0_hw1343 k0_h7 => k0_hw1343 k0_h7

def k0_chk1344 (k0_t1 : Fin k0_t1_loop.trips) (v1930 : IVec S16 32) (v1961 : IVec S16 32) : Prop :=
  (∀ (k0_h7 : k0_cond7 k0_t1 = 1#1), ∀ a x, ((![v1930, v1961] : Fin 2 → IVec S16 32) a x).toNat < S512x16.size a)
theorem k0_idx1344_inb : ∀ (k0_t1 : Fin k0_t1_loop.trips) (v1930 : IVec S16 32) (v1961 : IVec S16 32) (k0_hw1344 : k0_chk1344 k0_t1 v1930 v1961), ∀ (k0_h7 : k0_cond7 k0_t1 = 1#1), ∀ a x, ((![v1930, v1961] : Fin 2 → IVec S16 32) a x).toNat < S512x16.size a := fun k0_t1 v1930 v1961 k0_hw1344 k0_h7 => k0_hw1344 k0_h7

def k0_chk1345 (k0_t1 : Fin k0_t1_loop.trips) (v2029 : IVec S16 32) (v2030 : IVec S16 32) : Prop :=
  (∀ (k0_h7 : k0_cond7 k0_t1 = 1#1), ∀ a x, ((![v2029, v2030] : Fin 2 → IVec S16 32) a x).toNat < S512x16.size a)
theorem k0_idx1345_inb : ∀ (k0_t1 : Fin k0_t1_loop.trips) (v2029 : IVec S16 32) (v2030 : IVec S16 32) (k0_hw1345 : k0_chk1345 k0_t1 v2029 v2030), ∀ (k0_h7 : k0_cond7 k0_t1 = 1#1), ∀ a x, ((![v2029, v2030] : Fin 2 → IVec S16 32) a x).toNat < S512x16.size a := fun k0_t1 v2029 v2030 k0_hw1345 k0_h7 => k0_hw1345 k0_h7

def k0_chk1346 (k0_t1 : Fin k0_t1_loop.trips) (v2029 : IVec S16 32) (v2032 : IVec S16 32) : Prop :=
  (∀ (k0_h7 : k0_cond7 k0_t1 = 1#1), ∀ a x, ((![v2029, v2032] : Fin 2 → IVec S16 32) a x).toNat < S512x16.size a)
theorem k0_idx1346_inb : ∀ (k0_t1 : Fin k0_t1_loop.trips) (v2029 : IVec S16 32) (v2032 : IVec S16 32) (k0_hw1346 : k0_chk1346 k0_t1 v2029 v2032), ∀ (k0_h7 : k0_cond7 k0_t1 = 1#1), ∀ a x, ((![v2029, v2032] : Fin 2 → IVec S16 32) a x).toNat < S512x16.size a := fun k0_t1 v2029 v2032 k0_hw1346 k0_h7 => k0_hw1346 k0_h7

def k0_chk1347 (k0_t1 : Fin k0_t1_loop.trips) (v2029 : IVec S16 32) (v2034 : IVec S16 32) : Prop :=
  (∀ (k0_h7 : k0_cond7 k0_t1 = 1#1), ∀ a x, ((![v2029, v2034] : Fin 2 → IVec S16 32) a x).toNat < S512x16.size a)
theorem k0_idx1347_inb : ∀ (k0_t1 : Fin k0_t1_loop.trips) (v2029 : IVec S16 32) (v2034 : IVec S16 32) (k0_hw1347 : k0_chk1347 k0_t1 v2029 v2034), ∀ (k0_h7 : k0_cond7 k0_t1 = 1#1), ∀ a x, ((![v2029, v2034] : Fin 2 → IVec S16 32) a x).toNat < S512x16.size a := fun k0_t1 v2029 v2034 k0_hw1347 k0_h7 => k0_hw1347 k0_h7

def k0_chk1348 (k0_t1 : Fin k0_t1_loop.trips) (v2029 : IVec S16 32) (v2036 : IVec S16 32) : Prop :=
  (∀ (k0_h7 : k0_cond7 k0_t1 = 1#1), ∀ a x, ((![v2029, v2036] : Fin 2 → IVec S16 32) a x).toNat < S512x16.size a)
theorem k0_idx1348_inb : ∀ (k0_t1 : Fin k0_t1_loop.trips) (v2029 : IVec S16 32) (v2036 : IVec S16 32) (k0_hw1348 : k0_chk1348 k0_t1 v2029 v2036), ∀ (k0_h7 : k0_cond7 k0_t1 = 1#1), ∀ a x, ((![v2029, v2036] : Fin 2 → IVec S16 32) a x).toNat < S512x16.size a := fun k0_t1 v2029 v2036 k0_hw1348 k0_h7 => k0_hw1348 k0_h7

def k0_chk1349 (k0_t1 : Fin k0_t1_loop.trips) (v2029 : IVec S16 32) (v2038 : IVec S16 32) : Prop :=
  (∀ (k0_h7 : k0_cond7 k0_t1 = 1#1), ∀ a x, ((![v2029, v2038] : Fin 2 → IVec S16 32) a x).toNat < S512x16.size a)
theorem k0_idx1349_inb : ∀ (k0_t1 : Fin k0_t1_loop.trips) (v2029 : IVec S16 32) (v2038 : IVec S16 32) (k0_hw1349 : k0_chk1349 k0_t1 v2029 v2038), ∀ (k0_h7 : k0_cond7 k0_t1 = 1#1), ∀ a x, ((![v2029, v2038] : Fin 2 → IVec S16 32) a x).toNat < S512x16.size a := fun k0_t1 v2029 v2038 k0_hw1349 k0_h7 => k0_hw1349 k0_h7

def k0_chk1350 (k0_t1 : Fin k0_t1_loop.trips) (v2029 : IVec S16 32) (v2040 : IVec S16 32) : Prop :=
  (∀ (k0_h7 : k0_cond7 k0_t1 = 1#1), ∀ a x, ((![v2029, v2040] : Fin 2 → IVec S16 32) a x).toNat < S512x16.size a)
theorem k0_idx1350_inb : ∀ (k0_t1 : Fin k0_t1_loop.trips) (v2029 : IVec S16 32) (v2040 : IVec S16 32) (k0_hw1350 : k0_chk1350 k0_t1 v2029 v2040), ∀ (k0_h7 : k0_cond7 k0_t1 = 1#1), ∀ a x, ((![v2029, v2040] : Fin 2 → IVec S16 32) a x).toNat < S512x16.size a := fun k0_t1 v2029 v2040 k0_hw1350 k0_h7 => k0_hw1350 k0_h7

def k0_chk1351 (k0_t1 : Fin k0_t1_loop.trips) (v2029 : IVec S16 32) (v2042 : IVec S16 32) : Prop :=
  (∀ (k0_h7 : k0_cond7 k0_t1 = 1#1), ∀ a x, ((![v2029, v2042] : Fin 2 → IVec S16 32) a x).toNat < S512x16.size a)
theorem k0_idx1351_inb : ∀ (k0_t1 : Fin k0_t1_loop.trips) (v2029 : IVec S16 32) (v2042 : IVec S16 32) (k0_hw1351 : k0_chk1351 k0_t1 v2029 v2042), ∀ (k0_h7 : k0_cond7 k0_t1 = 1#1), ∀ a x, ((![v2029, v2042] : Fin 2 → IVec S16 32) a x).toNat < S512x16.size a := fun k0_t1 v2029 v2042 k0_hw1351 k0_h7 => k0_hw1351 k0_h7

def k0_chk1352 (k0_t1 : Fin k0_t1_loop.trips) (v2029 : IVec S16 32) (v2044 : IVec S16 32) : Prop :=
  (∀ (k0_h7 : k0_cond7 k0_t1 = 1#1), ∀ a x, ((![v2029, v2044] : Fin 2 → IVec S16 32) a x).toNat < S512x16.size a)
theorem k0_idx1352_inb : ∀ (k0_t1 : Fin k0_t1_loop.trips) (v2029 : IVec S16 32) (v2044 : IVec S16 32) (k0_hw1352 : k0_chk1352 k0_t1 v2029 v2044), ∀ (k0_h7 : k0_cond7 k0_t1 = 1#1), ∀ a x, ((![v2029, v2044] : Fin 2 → IVec S16 32) a x).toNat < S512x16.size a := fun k0_t1 v2029 v2044 k0_hw1352 k0_h7 => k0_hw1352 k0_h7

def k0_chk1353 (k0_t1 : Fin k0_t1_loop.trips) (v2029 : IVec S16 32) (v2046 : IVec S16 32) : Prop :=
  (∀ (k0_h7 : k0_cond7 k0_t1 = 1#1), ∀ a x, ((![v2029, v2046] : Fin 2 → IVec S16 32) a x).toNat < S512x16.size a)
theorem k0_idx1353_inb : ∀ (k0_t1 : Fin k0_t1_loop.trips) (v2029 : IVec S16 32) (v2046 : IVec S16 32) (k0_hw1353 : k0_chk1353 k0_t1 v2029 v2046), ∀ (k0_h7 : k0_cond7 k0_t1 = 1#1), ∀ a x, ((![v2029, v2046] : Fin 2 → IVec S16 32) a x).toNat < S512x16.size a := fun k0_t1 v2029 v2046 k0_hw1353 k0_h7 => k0_hw1353 k0_h7

def k0_chk1354 (k0_t1 : Fin k0_t1_loop.trips) (v2029 : IVec S16 32) (v2048 : IVec S16 32) : Prop :=
  (∀ (k0_h7 : k0_cond7 k0_t1 = 1#1), ∀ a x, ((![v2029, v2048] : Fin 2 → IVec S16 32) a x).toNat < S512x16.size a)
theorem k0_idx1354_inb : ∀ (k0_t1 : Fin k0_t1_loop.trips) (v2029 : IVec S16 32) (v2048 : IVec S16 32) (k0_hw1354 : k0_chk1354 k0_t1 v2029 v2048), ∀ (k0_h7 : k0_cond7 k0_t1 = 1#1), ∀ a x, ((![v2029, v2048] : Fin 2 → IVec S16 32) a x).toNat < S512x16.size a := fun k0_t1 v2029 v2048 k0_hw1354 k0_h7 => k0_hw1354 k0_h7

def k0_chk1355 (k0_t1 : Fin k0_t1_loop.trips) (v2029 : IVec S16 32) (v2050 : IVec S16 32) : Prop :=
  (∀ (k0_h7 : k0_cond7 k0_t1 = 1#1), ∀ a x, ((![v2029, v2050] : Fin 2 → IVec S16 32) a x).toNat < S512x16.size a)
theorem k0_idx1355_inb : ∀ (k0_t1 : Fin k0_t1_loop.trips) (v2029 : IVec S16 32) (v2050 : IVec S16 32) (k0_hw1355 : k0_chk1355 k0_t1 v2029 v2050), ∀ (k0_h7 : k0_cond7 k0_t1 = 1#1), ∀ a x, ((![v2029, v2050] : Fin 2 → IVec S16 32) a x).toNat < S512x16.size a := fun k0_t1 v2029 v2050 k0_hw1355 k0_h7 => k0_hw1355 k0_h7

def k0_chk1356 (k0_t1 : Fin k0_t1_loop.trips) (v2029 : IVec S16 32) (v2052 : IVec S16 32) : Prop :=
  (∀ (k0_h7 : k0_cond7 k0_t1 = 1#1), ∀ a x, ((![v2029, v2052] : Fin 2 → IVec S16 32) a x).toNat < S512x16.size a)
theorem k0_idx1356_inb : ∀ (k0_t1 : Fin k0_t1_loop.trips) (v2029 : IVec S16 32) (v2052 : IVec S16 32) (k0_hw1356 : k0_chk1356 k0_t1 v2029 v2052), ∀ (k0_h7 : k0_cond7 k0_t1 = 1#1), ∀ a x, ((![v2029, v2052] : Fin 2 → IVec S16 32) a x).toNat < S512x16.size a := fun k0_t1 v2029 v2052 k0_hw1356 k0_h7 => k0_hw1356 k0_h7

def k0_chk1357 (k0_t1 : Fin k0_t1_loop.trips) (v2029 : IVec S16 32) (v2054 : IVec S16 32) : Prop :=
  (∀ (k0_h7 : k0_cond7 k0_t1 = 1#1), ∀ a x, ((![v2029, v2054] : Fin 2 → IVec S16 32) a x).toNat < S512x16.size a)
theorem k0_idx1357_inb : ∀ (k0_t1 : Fin k0_t1_loop.trips) (v2029 : IVec S16 32) (v2054 : IVec S16 32) (k0_hw1357 : k0_chk1357 k0_t1 v2029 v2054), ∀ (k0_h7 : k0_cond7 k0_t1 = 1#1), ∀ a x, ((![v2029, v2054] : Fin 2 → IVec S16 32) a x).toNat < S512x16.size a := fun k0_t1 v2029 v2054 k0_hw1357 k0_h7 => k0_hw1357 k0_h7

def k0_chk1358 (k0_t1 : Fin k0_t1_loop.trips) (v2029 : IVec S16 32) (v2056 : IVec S16 32) : Prop :=
  (∀ (k0_h7 : k0_cond7 k0_t1 = 1#1), ∀ a x, ((![v2029, v2056] : Fin 2 → IVec S16 32) a x).toNat < S512x16.size a)
theorem k0_idx1358_inb : ∀ (k0_t1 : Fin k0_t1_loop.trips) (v2029 : IVec S16 32) (v2056 : IVec S16 32) (k0_hw1358 : k0_chk1358 k0_t1 v2029 v2056), ∀ (k0_h7 : k0_cond7 k0_t1 = 1#1), ∀ a x, ((![v2029, v2056] : Fin 2 → IVec S16 32) a x).toNat < S512x16.size a := fun k0_t1 v2029 v2056 k0_hw1358 k0_h7 => k0_hw1358 k0_h7

def k0_chk1359 (k0_t1 : Fin k0_t1_loop.trips) (v2029 : IVec S16 32) (v2058 : IVec S16 32) : Prop :=
  (∀ (k0_h7 : k0_cond7 k0_t1 = 1#1), ∀ a x, ((![v2029, v2058] : Fin 2 → IVec S16 32) a x).toNat < S512x16.size a)
theorem k0_idx1359_inb : ∀ (k0_t1 : Fin k0_t1_loop.trips) (v2029 : IVec S16 32) (v2058 : IVec S16 32) (k0_hw1359 : k0_chk1359 k0_t1 v2029 v2058), ∀ (k0_h7 : k0_cond7 k0_t1 = 1#1), ∀ a x, ((![v2029, v2058] : Fin 2 → IVec S16 32) a x).toNat < S512x16.size a := fun k0_t1 v2029 v2058 k0_hw1359 k0_h7 => k0_hw1359 k0_h7

def k0_chk1360 (k0_t1 : Fin k0_t1_loop.trips) (v2029 : IVec S16 32) (v2060 : IVec S16 32) : Prop :=
  (∀ (k0_h7 : k0_cond7 k0_t1 = 1#1), ∀ a x, ((![v2029, v2060] : Fin 2 → IVec S16 32) a x).toNat < S512x16.size a)
theorem k0_idx1360_inb : ∀ (k0_t1 : Fin k0_t1_loop.trips) (v2029 : IVec S16 32) (v2060 : IVec S16 32) (k0_hw1360 : k0_chk1360 k0_t1 v2029 v2060), ∀ (k0_h7 : k0_cond7 k0_t1 = 1#1), ∀ a x, ((![v2029, v2060] : Fin 2 → IVec S16 32) a x).toNat < S512x16.size a := fun k0_t1 v2029 v2060 k0_hw1360 k0_h7 => k0_hw1360 k0_h7

def k0_chk1361 (k0_t1 : Fin k0_t1_loop.trips) (v2128 : IVec S16 32) (v2129 : IVec S16 32) : Prop :=
  (∀ (k0_h7 : k0_cond7 k0_t1 = 1#1), ∀ a x, ((![v2128, v2129] : Fin 2 → IVec S16 32) a x).toNat < S512x16.size a)
theorem k0_idx1361_inb : ∀ (k0_t1 : Fin k0_t1_loop.trips) (v2128 : IVec S16 32) (v2129 : IVec S16 32) (k0_hw1361 : k0_chk1361 k0_t1 v2128 v2129), ∀ (k0_h7 : k0_cond7 k0_t1 = 1#1), ∀ a x, ((![v2128, v2129] : Fin 2 → IVec S16 32) a x).toNat < S512x16.size a := fun k0_t1 v2128 v2129 k0_hw1361 k0_h7 => k0_hw1361 k0_h7

def k0_chk1362 (k0_t1 : Fin k0_t1_loop.trips) (v2128 : IVec S16 32) (v2131 : IVec S16 32) : Prop :=
  (∀ (k0_h7 : k0_cond7 k0_t1 = 1#1), ∀ a x, ((![v2128, v2131] : Fin 2 → IVec S16 32) a x).toNat < S512x16.size a)
theorem k0_idx1362_inb : ∀ (k0_t1 : Fin k0_t1_loop.trips) (v2128 : IVec S16 32) (v2131 : IVec S16 32) (k0_hw1362 : k0_chk1362 k0_t1 v2128 v2131), ∀ (k0_h7 : k0_cond7 k0_t1 = 1#1), ∀ a x, ((![v2128, v2131] : Fin 2 → IVec S16 32) a x).toNat < S512x16.size a := fun k0_t1 v2128 v2131 k0_hw1362 k0_h7 => k0_hw1362 k0_h7

def k0_chk1363 (k0_t1 : Fin k0_t1_loop.trips) (v2128 : IVec S16 32) (v2133 : IVec S16 32) : Prop :=
  (∀ (k0_h7 : k0_cond7 k0_t1 = 1#1), ∀ a x, ((![v2128, v2133] : Fin 2 → IVec S16 32) a x).toNat < S512x16.size a)
theorem k0_idx1363_inb : ∀ (k0_t1 : Fin k0_t1_loop.trips) (v2128 : IVec S16 32) (v2133 : IVec S16 32) (k0_hw1363 : k0_chk1363 k0_t1 v2128 v2133), ∀ (k0_h7 : k0_cond7 k0_t1 = 1#1), ∀ a x, ((![v2128, v2133] : Fin 2 → IVec S16 32) a x).toNat < S512x16.size a := fun k0_t1 v2128 v2133 k0_hw1363 k0_h7 => k0_hw1363 k0_h7

def k0_chk1364 (k0_t1 : Fin k0_t1_loop.trips) (v2128 : IVec S16 32) (v2135 : IVec S16 32) : Prop :=
  (∀ (k0_h7 : k0_cond7 k0_t1 = 1#1), ∀ a x, ((![v2128, v2135] : Fin 2 → IVec S16 32) a x).toNat < S512x16.size a)
theorem k0_idx1364_inb : ∀ (k0_t1 : Fin k0_t1_loop.trips) (v2128 : IVec S16 32) (v2135 : IVec S16 32) (k0_hw1364 : k0_chk1364 k0_t1 v2128 v2135), ∀ (k0_h7 : k0_cond7 k0_t1 = 1#1), ∀ a x, ((![v2128, v2135] : Fin 2 → IVec S16 32) a x).toNat < S512x16.size a := fun k0_t1 v2128 v2135 k0_hw1364 k0_h7 => k0_hw1364 k0_h7

def k0_chk1365 (k0_t1 : Fin k0_t1_loop.trips) (v2128 : IVec S16 32) (v2137 : IVec S16 32) : Prop :=
  (∀ (k0_h7 : k0_cond7 k0_t1 = 1#1), ∀ a x, ((![v2128, v2137] : Fin 2 → IVec S16 32) a x).toNat < S512x16.size a)
theorem k0_idx1365_inb : ∀ (k0_t1 : Fin k0_t1_loop.trips) (v2128 : IVec S16 32) (v2137 : IVec S16 32) (k0_hw1365 : k0_chk1365 k0_t1 v2128 v2137), ∀ (k0_h7 : k0_cond7 k0_t1 = 1#1), ∀ a x, ((![v2128, v2137] : Fin 2 → IVec S16 32) a x).toNat < S512x16.size a := fun k0_t1 v2128 v2137 k0_hw1365 k0_h7 => k0_hw1365 k0_h7

def k0_chk1366 (k0_t1 : Fin k0_t1_loop.trips) (v2128 : IVec S16 32) (v2139 : IVec S16 32) : Prop :=
  (∀ (k0_h7 : k0_cond7 k0_t1 = 1#1), ∀ a x, ((![v2128, v2139] : Fin 2 → IVec S16 32) a x).toNat < S512x16.size a)
theorem k0_idx1366_inb : ∀ (k0_t1 : Fin k0_t1_loop.trips) (v2128 : IVec S16 32) (v2139 : IVec S16 32) (k0_hw1366 : k0_chk1366 k0_t1 v2128 v2139), ∀ (k0_h7 : k0_cond7 k0_t1 = 1#1), ∀ a x, ((![v2128, v2139] : Fin 2 → IVec S16 32) a x).toNat < S512x16.size a := fun k0_t1 v2128 v2139 k0_hw1366 k0_h7 => k0_hw1366 k0_h7

def k0_chk1367 (k0_t1 : Fin k0_t1_loop.trips) (v2128 : IVec S16 32) (v2141 : IVec S16 32) : Prop :=
  (∀ (k0_h7 : k0_cond7 k0_t1 = 1#1), ∀ a x, ((![v2128, v2141] : Fin 2 → IVec S16 32) a x).toNat < S512x16.size a)
theorem k0_idx1367_inb : ∀ (k0_t1 : Fin k0_t1_loop.trips) (v2128 : IVec S16 32) (v2141 : IVec S16 32) (k0_hw1367 : k0_chk1367 k0_t1 v2128 v2141), ∀ (k0_h7 : k0_cond7 k0_t1 = 1#1), ∀ a x, ((![v2128, v2141] : Fin 2 → IVec S16 32) a x).toNat < S512x16.size a := fun k0_t1 v2128 v2141 k0_hw1367 k0_h7 => k0_hw1367 k0_h7

def k0_chk1368 (k0_t1 : Fin k0_t1_loop.trips) (v2128 : IVec S16 32) (v2143 : IVec S16 32) : Prop :=
  (∀ (k0_h7 : k0_cond7 k0_t1 = 1#1), ∀ a x, ((![v2128, v2143] : Fin 2 → IVec S16 32) a x).toNat < S512x16.size a)
theorem k0_idx1368_inb : ∀ (k0_t1 : Fin k0_t1_loop.trips) (v2128 : IVec S16 32) (v2143 : IVec S16 32) (k0_hw1368 : k0_chk1368 k0_t1 v2128 v2143), ∀ (k0_h7 : k0_cond7 k0_t1 = 1#1), ∀ a x, ((![v2128, v2143] : Fin 2 → IVec S16 32) a x).toNat < S512x16.size a := fun k0_t1 v2128 v2143 k0_hw1368 k0_h7 => k0_hw1368 k0_h7

def k0_chk1369 (k0_t1 : Fin k0_t1_loop.trips) (v2128 : IVec S16 32) (v2145 : IVec S16 32) : Prop :=
  (∀ (k0_h7 : k0_cond7 k0_t1 = 1#1), ∀ a x, ((![v2128, v2145] : Fin 2 → IVec S16 32) a x).toNat < S512x16.size a)
theorem k0_idx1369_inb : ∀ (k0_t1 : Fin k0_t1_loop.trips) (v2128 : IVec S16 32) (v2145 : IVec S16 32) (k0_hw1369 : k0_chk1369 k0_t1 v2128 v2145), ∀ (k0_h7 : k0_cond7 k0_t1 = 1#1), ∀ a x, ((![v2128, v2145] : Fin 2 → IVec S16 32) a x).toNat < S512x16.size a := fun k0_t1 v2128 v2145 k0_hw1369 k0_h7 => k0_hw1369 k0_h7

def k0_chk1370 (k0_t1 : Fin k0_t1_loop.trips) (v2128 : IVec S16 32) (v2147 : IVec S16 32) : Prop :=
  (∀ (k0_h7 : k0_cond7 k0_t1 = 1#1), ∀ a x, ((![v2128, v2147] : Fin 2 → IVec S16 32) a x).toNat < S512x16.size a)
theorem k0_idx1370_inb : ∀ (k0_t1 : Fin k0_t1_loop.trips) (v2128 : IVec S16 32) (v2147 : IVec S16 32) (k0_hw1370 : k0_chk1370 k0_t1 v2128 v2147), ∀ (k0_h7 : k0_cond7 k0_t1 = 1#1), ∀ a x, ((![v2128, v2147] : Fin 2 → IVec S16 32) a x).toNat < S512x16.size a := fun k0_t1 v2128 v2147 k0_hw1370 k0_h7 => k0_hw1370 k0_h7

def k0_chk1371 (k0_t1 : Fin k0_t1_loop.trips) (v2128 : IVec S16 32) (v2149 : IVec S16 32) : Prop :=
  (∀ (k0_h7 : k0_cond7 k0_t1 = 1#1), ∀ a x, ((![v2128, v2149] : Fin 2 → IVec S16 32) a x).toNat < S512x16.size a)
theorem k0_idx1371_inb : ∀ (k0_t1 : Fin k0_t1_loop.trips) (v2128 : IVec S16 32) (v2149 : IVec S16 32) (k0_hw1371 : k0_chk1371 k0_t1 v2128 v2149), ∀ (k0_h7 : k0_cond7 k0_t1 = 1#1), ∀ a x, ((![v2128, v2149] : Fin 2 → IVec S16 32) a x).toNat < S512x16.size a := fun k0_t1 v2128 v2149 k0_hw1371 k0_h7 => k0_hw1371 k0_h7

def k0_chk1372 (k0_t1 : Fin k0_t1_loop.trips) (v2128 : IVec S16 32) (v2151 : IVec S16 32) : Prop :=
  (∀ (k0_h7 : k0_cond7 k0_t1 = 1#1), ∀ a x, ((![v2128, v2151] : Fin 2 → IVec S16 32) a x).toNat < S512x16.size a)
theorem k0_idx1372_inb : ∀ (k0_t1 : Fin k0_t1_loop.trips) (v2128 : IVec S16 32) (v2151 : IVec S16 32) (k0_hw1372 : k0_chk1372 k0_t1 v2128 v2151), ∀ (k0_h7 : k0_cond7 k0_t1 = 1#1), ∀ a x, ((![v2128, v2151] : Fin 2 → IVec S16 32) a x).toNat < S512x16.size a := fun k0_t1 v2128 v2151 k0_hw1372 k0_h7 => k0_hw1372 k0_h7

def k0_chk1373 (k0_t1 : Fin k0_t1_loop.trips) (v2128 : IVec S16 32) (v2153 : IVec S16 32) : Prop :=
  (∀ (k0_h7 : k0_cond7 k0_t1 = 1#1), ∀ a x, ((![v2128, v2153] : Fin 2 → IVec S16 32) a x).toNat < S512x16.size a)
theorem k0_idx1373_inb : ∀ (k0_t1 : Fin k0_t1_loop.trips) (v2128 : IVec S16 32) (v2153 : IVec S16 32) (k0_hw1373 : k0_chk1373 k0_t1 v2128 v2153), ∀ (k0_h7 : k0_cond7 k0_t1 = 1#1), ∀ a x, ((![v2128, v2153] : Fin 2 → IVec S16 32) a x).toNat < S512x16.size a := fun k0_t1 v2128 v2153 k0_hw1373 k0_h7 => k0_hw1373 k0_h7

def k0_chk1374 (k0_t1 : Fin k0_t1_loop.trips) (v2128 : IVec S16 32) (v2155 : IVec S16 32) : Prop :=
  (∀ (k0_h7 : k0_cond7 k0_t1 = 1#1), ∀ a x, ((![v2128, v2155] : Fin 2 → IVec S16 32) a x).toNat < S512x16.size a)
theorem k0_idx1374_inb : ∀ (k0_t1 : Fin k0_t1_loop.trips) (v2128 : IVec S16 32) (v2155 : IVec S16 32) (k0_hw1374 : k0_chk1374 k0_t1 v2128 v2155), ∀ (k0_h7 : k0_cond7 k0_t1 = 1#1), ∀ a x, ((![v2128, v2155] : Fin 2 → IVec S16 32) a x).toNat < S512x16.size a := fun k0_t1 v2128 v2155 k0_hw1374 k0_h7 => k0_hw1374 k0_h7

def k0_chk1375 (k0_t1 : Fin k0_t1_loop.trips) (v2128 : IVec S16 32) (v2157 : IVec S16 32) : Prop :=
  (∀ (k0_h7 : k0_cond7 k0_t1 = 1#1), ∀ a x, ((![v2128, v2157] : Fin 2 → IVec S16 32) a x).toNat < S512x16.size a)
theorem k0_idx1375_inb : ∀ (k0_t1 : Fin k0_t1_loop.trips) (v2128 : IVec S16 32) (v2157 : IVec S16 32) (k0_hw1375 : k0_chk1375 k0_t1 v2128 v2157), ∀ (k0_h7 : k0_cond7 k0_t1 = 1#1), ∀ a x, ((![v2128, v2157] : Fin 2 → IVec S16 32) a x).toNat < S512x16.size a := fun k0_t1 v2128 v2157 k0_hw1375 k0_h7 => k0_hw1375 k0_h7

def k0_chk1376 (k0_t1 : Fin k0_t1_loop.trips) (v2128 : IVec S16 32) (v2159 : IVec S16 32) : Prop :=
  (∀ (k0_h7 : k0_cond7 k0_t1 = 1#1), ∀ a x, ((![v2128, v2159] : Fin 2 → IVec S16 32) a x).toNat < S512x16.size a)
theorem k0_idx1376_inb : ∀ (k0_t1 : Fin k0_t1_loop.trips) (v2128 : IVec S16 32) (v2159 : IVec S16 32) (k0_hw1376 : k0_chk1376 k0_t1 v2128 v2159), ∀ (k0_h7 : k0_cond7 k0_t1 = 1#1), ∀ a x, ((![v2128, v2159] : Fin 2 → IVec S16 32) a x).toNat < S512x16.size a := fun k0_t1 v2128 v2159 k0_hw1376 k0_h7 => k0_hw1376 k0_h7

def k0_chk1377 (k0_t1 : Fin k0_t1_loop.trips) (v2227 : IVec S16 32) (v2228 : IVec S16 32) : Prop :=
  (∀ (k0_h7 : k0_cond7 k0_t1 = 1#1), ∀ a x, ((![v2227, v2228] : Fin 2 → IVec S16 32) a x).toNat < S512x16.size a)
theorem k0_idx1377_inb : ∀ (k0_t1 : Fin k0_t1_loop.trips) (v2227 : IVec S16 32) (v2228 : IVec S16 32) (k0_hw1377 : k0_chk1377 k0_t1 v2227 v2228), ∀ (k0_h7 : k0_cond7 k0_t1 = 1#1), ∀ a x, ((![v2227, v2228] : Fin 2 → IVec S16 32) a x).toNat < S512x16.size a := fun k0_t1 v2227 v2228 k0_hw1377 k0_h7 => k0_hw1377 k0_h7

def k0_chk1378 (k0_t1 : Fin k0_t1_loop.trips) (v2227 : IVec S16 32) (v2230 : IVec S16 32) : Prop :=
  (∀ (k0_h7 : k0_cond7 k0_t1 = 1#1), ∀ a x, ((![v2227, v2230] : Fin 2 → IVec S16 32) a x).toNat < S512x16.size a)
theorem k0_idx1378_inb : ∀ (k0_t1 : Fin k0_t1_loop.trips) (v2227 : IVec S16 32) (v2230 : IVec S16 32) (k0_hw1378 : k0_chk1378 k0_t1 v2227 v2230), ∀ (k0_h7 : k0_cond7 k0_t1 = 1#1), ∀ a x, ((![v2227, v2230] : Fin 2 → IVec S16 32) a x).toNat < S512x16.size a := fun k0_t1 v2227 v2230 k0_hw1378 k0_h7 => k0_hw1378 k0_h7

def k0_chk1379 (k0_t1 : Fin k0_t1_loop.trips) (v2227 : IVec S16 32) (v2232 : IVec S16 32) : Prop :=
  (∀ (k0_h7 : k0_cond7 k0_t1 = 1#1), ∀ a x, ((![v2227, v2232] : Fin 2 → IVec S16 32) a x).toNat < S512x16.size a)
theorem k0_idx1379_inb : ∀ (k0_t1 : Fin k0_t1_loop.trips) (v2227 : IVec S16 32) (v2232 : IVec S16 32) (k0_hw1379 : k0_chk1379 k0_t1 v2227 v2232), ∀ (k0_h7 : k0_cond7 k0_t1 = 1#1), ∀ a x, ((![v2227, v2232] : Fin 2 → IVec S16 32) a x).toNat < S512x16.size a := fun k0_t1 v2227 v2232 k0_hw1379 k0_h7 => k0_hw1379 k0_h7

def k0_chk1380 (k0_t1 : Fin k0_t1_loop.trips) (v2227 : IVec S16 32) (v2234 : IVec S16 32) : Prop :=
  (∀ (k0_h7 : k0_cond7 k0_t1 = 1#1), ∀ a x, ((![v2227, v2234] : Fin 2 → IVec S16 32) a x).toNat < S512x16.size a)
theorem k0_idx1380_inb : ∀ (k0_t1 : Fin k0_t1_loop.trips) (v2227 : IVec S16 32) (v2234 : IVec S16 32) (k0_hw1380 : k0_chk1380 k0_t1 v2227 v2234), ∀ (k0_h7 : k0_cond7 k0_t1 = 1#1), ∀ a x, ((![v2227, v2234] : Fin 2 → IVec S16 32) a x).toNat < S512x16.size a := fun k0_t1 v2227 v2234 k0_hw1380 k0_h7 => k0_hw1380 k0_h7

def k0_chk1381 (k0_t1 : Fin k0_t1_loop.trips) (v2227 : IVec S16 32) (v2236 : IVec S16 32) : Prop :=
  (∀ (k0_h7 : k0_cond7 k0_t1 = 1#1), ∀ a x, ((![v2227, v2236] : Fin 2 → IVec S16 32) a x).toNat < S512x16.size a)
theorem k0_idx1381_inb : ∀ (k0_t1 : Fin k0_t1_loop.trips) (v2227 : IVec S16 32) (v2236 : IVec S16 32) (k0_hw1381 : k0_chk1381 k0_t1 v2227 v2236), ∀ (k0_h7 : k0_cond7 k0_t1 = 1#1), ∀ a x, ((![v2227, v2236] : Fin 2 → IVec S16 32) a x).toNat < S512x16.size a := fun k0_t1 v2227 v2236 k0_hw1381 k0_h7 => k0_hw1381 k0_h7

def k0_chk1382 (k0_t1 : Fin k0_t1_loop.trips) (v2227 : IVec S16 32) (v2238 : IVec S16 32) : Prop :=
  (∀ (k0_h7 : k0_cond7 k0_t1 = 1#1), ∀ a x, ((![v2227, v2238] : Fin 2 → IVec S16 32) a x).toNat < S512x16.size a)
theorem k0_idx1382_inb : ∀ (k0_t1 : Fin k0_t1_loop.trips) (v2227 : IVec S16 32) (v2238 : IVec S16 32) (k0_hw1382 : k0_chk1382 k0_t1 v2227 v2238), ∀ (k0_h7 : k0_cond7 k0_t1 = 1#1), ∀ a x, ((![v2227, v2238] : Fin 2 → IVec S16 32) a x).toNat < S512x16.size a := fun k0_t1 v2227 v2238 k0_hw1382 k0_h7 => k0_hw1382 k0_h7

def k0_chk1383 (k0_t1 : Fin k0_t1_loop.trips) (v2227 : IVec S16 32) (v2240 : IVec S16 32) : Prop :=
  (∀ (k0_h7 : k0_cond7 k0_t1 = 1#1), ∀ a x, ((![v2227, v2240] : Fin 2 → IVec S16 32) a x).toNat < S512x16.size a)
theorem k0_idx1383_inb : ∀ (k0_t1 : Fin k0_t1_loop.trips) (v2227 : IVec S16 32) (v2240 : IVec S16 32) (k0_hw1383 : k0_chk1383 k0_t1 v2227 v2240), ∀ (k0_h7 : k0_cond7 k0_t1 = 1#1), ∀ a x, ((![v2227, v2240] : Fin 2 → IVec S16 32) a x).toNat < S512x16.size a := fun k0_t1 v2227 v2240 k0_hw1383 k0_h7 => k0_hw1383 k0_h7

def k0_chk1384 (k0_t1 : Fin k0_t1_loop.trips) (v2227 : IVec S16 32) (v2242 : IVec S16 32) : Prop :=
  (∀ (k0_h7 : k0_cond7 k0_t1 = 1#1), ∀ a x, ((![v2227, v2242] : Fin 2 → IVec S16 32) a x).toNat < S512x16.size a)
theorem k0_idx1384_inb : ∀ (k0_t1 : Fin k0_t1_loop.trips) (v2227 : IVec S16 32) (v2242 : IVec S16 32) (k0_hw1384 : k0_chk1384 k0_t1 v2227 v2242), ∀ (k0_h7 : k0_cond7 k0_t1 = 1#1), ∀ a x, ((![v2227, v2242] : Fin 2 → IVec S16 32) a x).toNat < S512x16.size a := fun k0_t1 v2227 v2242 k0_hw1384 k0_h7 => k0_hw1384 k0_h7

def k0_chk1385 (k0_t1 : Fin k0_t1_loop.trips) (v2227 : IVec S16 32) (v2244 : IVec S16 32) : Prop :=
  (∀ (k0_h7 : k0_cond7 k0_t1 = 1#1), ∀ a x, ((![v2227, v2244] : Fin 2 → IVec S16 32) a x).toNat < S512x16.size a)
theorem k0_idx1385_inb : ∀ (k0_t1 : Fin k0_t1_loop.trips) (v2227 : IVec S16 32) (v2244 : IVec S16 32) (k0_hw1385 : k0_chk1385 k0_t1 v2227 v2244), ∀ (k0_h7 : k0_cond7 k0_t1 = 1#1), ∀ a x, ((![v2227, v2244] : Fin 2 → IVec S16 32) a x).toNat < S512x16.size a := fun k0_t1 v2227 v2244 k0_hw1385 k0_h7 => k0_hw1385 k0_h7

def k0_chk1386 (k0_t1 : Fin k0_t1_loop.trips) (v2227 : IVec S16 32) (v2246 : IVec S16 32) : Prop :=
  (∀ (k0_h7 : k0_cond7 k0_t1 = 1#1), ∀ a x, ((![v2227, v2246] : Fin 2 → IVec S16 32) a x).toNat < S512x16.size a)
theorem k0_idx1386_inb : ∀ (k0_t1 : Fin k0_t1_loop.trips) (v2227 : IVec S16 32) (v2246 : IVec S16 32) (k0_hw1386 : k0_chk1386 k0_t1 v2227 v2246), ∀ (k0_h7 : k0_cond7 k0_t1 = 1#1), ∀ a x, ((![v2227, v2246] : Fin 2 → IVec S16 32) a x).toNat < S512x16.size a := fun k0_t1 v2227 v2246 k0_hw1386 k0_h7 => k0_hw1386 k0_h7

def k0_chk1387 (k0_t1 : Fin k0_t1_loop.trips) (v2227 : IVec S16 32) (v2248 : IVec S16 32) : Prop :=
  (∀ (k0_h7 : k0_cond7 k0_t1 = 1#1), ∀ a x, ((![v2227, v2248] : Fin 2 → IVec S16 32) a x).toNat < S512x16.size a)
theorem k0_idx1387_inb : ∀ (k0_t1 : Fin k0_t1_loop.trips) (v2227 : IVec S16 32) (v2248 : IVec S16 32) (k0_hw1387 : k0_chk1387 k0_t1 v2227 v2248), ∀ (k0_h7 : k0_cond7 k0_t1 = 1#1), ∀ a x, ((![v2227, v2248] : Fin 2 → IVec S16 32) a x).toNat < S512x16.size a := fun k0_t1 v2227 v2248 k0_hw1387 k0_h7 => k0_hw1387 k0_h7

def k0_chk1388 (k0_t1 : Fin k0_t1_loop.trips) (v2227 : IVec S16 32) (v2250 : IVec S16 32) : Prop :=
  (∀ (k0_h7 : k0_cond7 k0_t1 = 1#1), ∀ a x, ((![v2227, v2250] : Fin 2 → IVec S16 32) a x).toNat < S512x16.size a)
theorem k0_idx1388_inb : ∀ (k0_t1 : Fin k0_t1_loop.trips) (v2227 : IVec S16 32) (v2250 : IVec S16 32) (k0_hw1388 : k0_chk1388 k0_t1 v2227 v2250), ∀ (k0_h7 : k0_cond7 k0_t1 = 1#1), ∀ a x, ((![v2227, v2250] : Fin 2 → IVec S16 32) a x).toNat < S512x16.size a := fun k0_t1 v2227 v2250 k0_hw1388 k0_h7 => k0_hw1388 k0_h7

def k0_chk1389 (k0_t1 : Fin k0_t1_loop.trips) (v2227 : IVec S16 32) (v2252 : IVec S16 32) : Prop :=
  (∀ (k0_h7 : k0_cond7 k0_t1 = 1#1), ∀ a x, ((![v2227, v2252] : Fin 2 → IVec S16 32) a x).toNat < S512x16.size a)
theorem k0_idx1389_inb : ∀ (k0_t1 : Fin k0_t1_loop.trips) (v2227 : IVec S16 32) (v2252 : IVec S16 32) (k0_hw1389 : k0_chk1389 k0_t1 v2227 v2252), ∀ (k0_h7 : k0_cond7 k0_t1 = 1#1), ∀ a x, ((![v2227, v2252] : Fin 2 → IVec S16 32) a x).toNat < S512x16.size a := fun k0_t1 v2227 v2252 k0_hw1389 k0_h7 => k0_hw1389 k0_h7

def k0_chk1390 (k0_t1 : Fin k0_t1_loop.trips) (v2227 : IVec S16 32) (v2254 : IVec S16 32) : Prop :=
  (∀ (k0_h7 : k0_cond7 k0_t1 = 1#1), ∀ a x, ((![v2227, v2254] : Fin 2 → IVec S16 32) a x).toNat < S512x16.size a)
theorem k0_idx1390_inb : ∀ (k0_t1 : Fin k0_t1_loop.trips) (v2227 : IVec S16 32) (v2254 : IVec S16 32) (k0_hw1390 : k0_chk1390 k0_t1 v2227 v2254), ∀ (k0_h7 : k0_cond7 k0_t1 = 1#1), ∀ a x, ((![v2227, v2254] : Fin 2 → IVec S16 32) a x).toNat < S512x16.size a := fun k0_t1 v2227 v2254 k0_hw1390 k0_h7 => k0_hw1390 k0_h7

def k0_chk1391 (k0_t1 : Fin k0_t1_loop.trips) (v2227 : IVec S16 32) (v2256 : IVec S16 32) : Prop :=
  (∀ (k0_h7 : k0_cond7 k0_t1 = 1#1), ∀ a x, ((![v2227, v2256] : Fin 2 → IVec S16 32) a x).toNat < S512x16.size a)
theorem k0_idx1391_inb : ∀ (k0_t1 : Fin k0_t1_loop.trips) (v2227 : IVec S16 32) (v2256 : IVec S16 32) (k0_hw1391 : k0_chk1391 k0_t1 v2227 v2256), ∀ (k0_h7 : k0_cond7 k0_t1 = 1#1), ∀ a x, ((![v2227, v2256] : Fin 2 → IVec S16 32) a x).toNat < S512x16.size a := fun k0_t1 v2227 v2256 k0_hw1391 k0_h7 => k0_hw1391 k0_h7

def k0_chk1392 (k0_t1 : Fin k0_t1_loop.trips) (v2227 : IVec S16 32) (v2258 : IVec S16 32) : Prop :=
  (∀ (k0_h7 : k0_cond7 k0_t1 = 1#1), ∀ a x, ((![v2227, v2258] : Fin 2 → IVec S16 32) a x).toNat < S512x16.size a)
theorem k0_idx1392_inb : ∀ (k0_t1 : Fin k0_t1_loop.trips) (v2227 : IVec S16 32) (v2258 : IVec S16 32) (k0_hw1392 : k0_chk1392 k0_t1 v2227 v2258), ∀ (k0_h7 : k0_cond7 k0_t1 = 1#1), ∀ a x, ((![v2227, v2258] : Fin 2 → IVec S16 32) a x).toNat < S512x16.size a := fun k0_t1 v2227 v2258 k0_hw1392 k0_h7 => k0_hw1392 k0_h7

def k0_chk1393 (k0_t1 : Fin k0_t1_loop.trips) (v2326 : IVec S16 32) (v2327 : IVec S16 32) : Prop :=
  (∀ (k0_h7 : k0_cond7 k0_t1 = 1#1), ∀ a x, ((![v2326, v2327] : Fin 2 → IVec S16 32) a x).toNat < S512x16.size a)
theorem k0_idx1393_inb : ∀ (k0_t1 : Fin k0_t1_loop.trips) (v2326 : IVec S16 32) (v2327 : IVec S16 32) (k0_hw1393 : k0_chk1393 k0_t1 v2326 v2327), ∀ (k0_h7 : k0_cond7 k0_t1 = 1#1), ∀ a x, ((![v2326, v2327] : Fin 2 → IVec S16 32) a x).toNat < S512x16.size a := fun k0_t1 v2326 v2327 k0_hw1393 k0_h7 => k0_hw1393 k0_h7

def k0_chk1394 (k0_t1 : Fin k0_t1_loop.trips) (v2326 : IVec S16 32) (v2329 : IVec S16 32) : Prop :=
  (∀ (k0_h7 : k0_cond7 k0_t1 = 1#1), ∀ a x, ((![v2326, v2329] : Fin 2 → IVec S16 32) a x).toNat < S512x16.size a)
theorem k0_idx1394_inb : ∀ (k0_t1 : Fin k0_t1_loop.trips) (v2326 : IVec S16 32) (v2329 : IVec S16 32) (k0_hw1394 : k0_chk1394 k0_t1 v2326 v2329), ∀ (k0_h7 : k0_cond7 k0_t1 = 1#1), ∀ a x, ((![v2326, v2329] : Fin 2 → IVec S16 32) a x).toNat < S512x16.size a := fun k0_t1 v2326 v2329 k0_hw1394 k0_h7 => k0_hw1394 k0_h7

def k0_chk1395 (k0_t1 : Fin k0_t1_loop.trips) (v2326 : IVec S16 32) (v2331 : IVec S16 32) : Prop :=
  (∀ (k0_h7 : k0_cond7 k0_t1 = 1#1), ∀ a x, ((![v2326, v2331] : Fin 2 → IVec S16 32) a x).toNat < S512x16.size a)
theorem k0_idx1395_inb : ∀ (k0_t1 : Fin k0_t1_loop.trips) (v2326 : IVec S16 32) (v2331 : IVec S16 32) (k0_hw1395 : k0_chk1395 k0_t1 v2326 v2331), ∀ (k0_h7 : k0_cond7 k0_t1 = 1#1), ∀ a x, ((![v2326, v2331] : Fin 2 → IVec S16 32) a x).toNat < S512x16.size a := fun k0_t1 v2326 v2331 k0_hw1395 k0_h7 => k0_hw1395 k0_h7

def k0_chk1396 (k0_t1 : Fin k0_t1_loop.trips) (v2326 : IVec S16 32) (v2333 : IVec S16 32) : Prop :=
  (∀ (k0_h7 : k0_cond7 k0_t1 = 1#1), ∀ a x, ((![v2326, v2333] : Fin 2 → IVec S16 32) a x).toNat < S512x16.size a)
theorem k0_idx1396_inb : ∀ (k0_t1 : Fin k0_t1_loop.trips) (v2326 : IVec S16 32) (v2333 : IVec S16 32) (k0_hw1396 : k0_chk1396 k0_t1 v2326 v2333), ∀ (k0_h7 : k0_cond7 k0_t1 = 1#1), ∀ a x, ((![v2326, v2333] : Fin 2 → IVec S16 32) a x).toNat < S512x16.size a := fun k0_t1 v2326 v2333 k0_hw1396 k0_h7 => k0_hw1396 k0_h7

def k0_chk1397 (k0_t1 : Fin k0_t1_loop.trips) (v2326 : IVec S16 32) (v2335 : IVec S16 32) : Prop :=
  (∀ (k0_h7 : k0_cond7 k0_t1 = 1#1), ∀ a x, ((![v2326, v2335] : Fin 2 → IVec S16 32) a x).toNat < S512x16.size a)
theorem k0_idx1397_inb : ∀ (k0_t1 : Fin k0_t1_loop.trips) (v2326 : IVec S16 32) (v2335 : IVec S16 32) (k0_hw1397 : k0_chk1397 k0_t1 v2326 v2335), ∀ (k0_h7 : k0_cond7 k0_t1 = 1#1), ∀ a x, ((![v2326, v2335] : Fin 2 → IVec S16 32) a x).toNat < S512x16.size a := fun k0_t1 v2326 v2335 k0_hw1397 k0_h7 => k0_hw1397 k0_h7

def k0_chk1398 (k0_t1 : Fin k0_t1_loop.trips) (v2326 : IVec S16 32) (v2337 : IVec S16 32) : Prop :=
  (∀ (k0_h7 : k0_cond7 k0_t1 = 1#1), ∀ a x, ((![v2326, v2337] : Fin 2 → IVec S16 32) a x).toNat < S512x16.size a)
theorem k0_idx1398_inb : ∀ (k0_t1 : Fin k0_t1_loop.trips) (v2326 : IVec S16 32) (v2337 : IVec S16 32) (k0_hw1398 : k0_chk1398 k0_t1 v2326 v2337), ∀ (k0_h7 : k0_cond7 k0_t1 = 1#1), ∀ a x, ((![v2326, v2337] : Fin 2 → IVec S16 32) a x).toNat < S512x16.size a := fun k0_t1 v2326 v2337 k0_hw1398 k0_h7 => k0_hw1398 k0_h7

def k0_chk1399 (k0_t1 : Fin k0_t1_loop.trips) (v2326 : IVec S16 32) (v2339 : IVec S16 32) : Prop :=
  (∀ (k0_h7 : k0_cond7 k0_t1 = 1#1), ∀ a x, ((![v2326, v2339] : Fin 2 → IVec S16 32) a x).toNat < S512x16.size a)
theorem k0_idx1399_inb : ∀ (k0_t1 : Fin k0_t1_loop.trips) (v2326 : IVec S16 32) (v2339 : IVec S16 32) (k0_hw1399 : k0_chk1399 k0_t1 v2326 v2339), ∀ (k0_h7 : k0_cond7 k0_t1 = 1#1), ∀ a x, ((![v2326, v2339] : Fin 2 → IVec S16 32) a x).toNat < S512x16.size a := fun k0_t1 v2326 v2339 k0_hw1399 k0_h7 => k0_hw1399 k0_h7

def k0_chk1400 (k0_t1 : Fin k0_t1_loop.trips) (v2326 : IVec S16 32) (v2341 : IVec S16 32) : Prop :=
  (∀ (k0_h7 : k0_cond7 k0_t1 = 1#1), ∀ a x, ((![v2326, v2341] : Fin 2 → IVec S16 32) a x).toNat < S512x16.size a)
theorem k0_idx1400_inb : ∀ (k0_t1 : Fin k0_t1_loop.trips) (v2326 : IVec S16 32) (v2341 : IVec S16 32) (k0_hw1400 : k0_chk1400 k0_t1 v2326 v2341), ∀ (k0_h7 : k0_cond7 k0_t1 = 1#1), ∀ a x, ((![v2326, v2341] : Fin 2 → IVec S16 32) a x).toNat < S512x16.size a := fun k0_t1 v2326 v2341 k0_hw1400 k0_h7 => k0_hw1400 k0_h7

def k0_chk1401 (k0_t1 : Fin k0_t1_loop.trips) (v2326 : IVec S16 32) (v2343 : IVec S16 32) : Prop :=
  (∀ (k0_h7 : k0_cond7 k0_t1 = 1#1), ∀ a x, ((![v2326, v2343] : Fin 2 → IVec S16 32) a x).toNat < S512x16.size a)
theorem k0_idx1401_inb : ∀ (k0_t1 : Fin k0_t1_loop.trips) (v2326 : IVec S16 32) (v2343 : IVec S16 32) (k0_hw1401 : k0_chk1401 k0_t1 v2326 v2343), ∀ (k0_h7 : k0_cond7 k0_t1 = 1#1), ∀ a x, ((![v2326, v2343] : Fin 2 → IVec S16 32) a x).toNat < S512x16.size a := fun k0_t1 v2326 v2343 k0_hw1401 k0_h7 => k0_hw1401 k0_h7

def k0_chk1402 (k0_t1 : Fin k0_t1_loop.trips) (v2326 : IVec S16 32) (v2345 : IVec S16 32) : Prop :=
  (∀ (k0_h7 : k0_cond7 k0_t1 = 1#1), ∀ a x, ((![v2326, v2345] : Fin 2 → IVec S16 32) a x).toNat < S512x16.size a)
theorem k0_idx1402_inb : ∀ (k0_t1 : Fin k0_t1_loop.trips) (v2326 : IVec S16 32) (v2345 : IVec S16 32) (k0_hw1402 : k0_chk1402 k0_t1 v2326 v2345), ∀ (k0_h7 : k0_cond7 k0_t1 = 1#1), ∀ a x, ((![v2326, v2345] : Fin 2 → IVec S16 32) a x).toNat < S512x16.size a := fun k0_t1 v2326 v2345 k0_hw1402 k0_h7 => k0_hw1402 k0_h7

def k0_chk1403 (k0_t1 : Fin k0_t1_loop.trips) (v2326 : IVec S16 32) (v2347 : IVec S16 32) : Prop :=
  (∀ (k0_h7 : k0_cond7 k0_t1 = 1#1), ∀ a x, ((![v2326, v2347] : Fin 2 → IVec S16 32) a x).toNat < S512x16.size a)
theorem k0_idx1403_inb : ∀ (k0_t1 : Fin k0_t1_loop.trips) (v2326 : IVec S16 32) (v2347 : IVec S16 32) (k0_hw1403 : k0_chk1403 k0_t1 v2326 v2347), ∀ (k0_h7 : k0_cond7 k0_t1 = 1#1), ∀ a x, ((![v2326, v2347] : Fin 2 → IVec S16 32) a x).toNat < S512x16.size a := fun k0_t1 v2326 v2347 k0_hw1403 k0_h7 => k0_hw1403 k0_h7

def k0_chk1404 (k0_t1 : Fin k0_t1_loop.trips) (v2326 : IVec S16 32) (v2349 : IVec S16 32) : Prop :=
  (∀ (k0_h7 : k0_cond7 k0_t1 = 1#1), ∀ a x, ((![v2326, v2349] : Fin 2 → IVec S16 32) a x).toNat < S512x16.size a)
theorem k0_idx1404_inb : ∀ (k0_t1 : Fin k0_t1_loop.trips) (v2326 : IVec S16 32) (v2349 : IVec S16 32) (k0_hw1404 : k0_chk1404 k0_t1 v2326 v2349), ∀ (k0_h7 : k0_cond7 k0_t1 = 1#1), ∀ a x, ((![v2326, v2349] : Fin 2 → IVec S16 32) a x).toNat < S512x16.size a := fun k0_t1 v2326 v2349 k0_hw1404 k0_h7 => k0_hw1404 k0_h7

def k0_chk1405 (k0_t1 : Fin k0_t1_loop.trips) (v2326 : IVec S16 32) (v2351 : IVec S16 32) : Prop :=
  (∀ (k0_h7 : k0_cond7 k0_t1 = 1#1), ∀ a x, ((![v2326, v2351] : Fin 2 → IVec S16 32) a x).toNat < S512x16.size a)
theorem k0_idx1405_inb : ∀ (k0_t1 : Fin k0_t1_loop.trips) (v2326 : IVec S16 32) (v2351 : IVec S16 32) (k0_hw1405 : k0_chk1405 k0_t1 v2326 v2351), ∀ (k0_h7 : k0_cond7 k0_t1 = 1#1), ∀ a x, ((![v2326, v2351] : Fin 2 → IVec S16 32) a x).toNat < S512x16.size a := fun k0_t1 v2326 v2351 k0_hw1405 k0_h7 => k0_hw1405 k0_h7

def k0_chk1406 (k0_t1 : Fin k0_t1_loop.trips) (v2326 : IVec S16 32) (v2353 : IVec S16 32) : Prop :=
  (∀ (k0_h7 : k0_cond7 k0_t1 = 1#1), ∀ a x, ((![v2326, v2353] : Fin 2 → IVec S16 32) a x).toNat < S512x16.size a)
theorem k0_idx1406_inb : ∀ (k0_t1 : Fin k0_t1_loop.trips) (v2326 : IVec S16 32) (v2353 : IVec S16 32) (k0_hw1406 : k0_chk1406 k0_t1 v2326 v2353), ∀ (k0_h7 : k0_cond7 k0_t1 = 1#1), ∀ a x, ((![v2326, v2353] : Fin 2 → IVec S16 32) a x).toNat < S512x16.size a := fun k0_t1 v2326 v2353 k0_hw1406 k0_h7 => k0_hw1406 k0_h7

def k0_chk1407 (k0_t1 : Fin k0_t1_loop.trips) (v2326 : IVec S16 32) (v2355 : IVec S16 32) : Prop :=
  (∀ (k0_h7 : k0_cond7 k0_t1 = 1#1), ∀ a x, ((![v2326, v2355] : Fin 2 → IVec S16 32) a x).toNat < S512x16.size a)
theorem k0_idx1407_inb : ∀ (k0_t1 : Fin k0_t1_loop.trips) (v2326 : IVec S16 32) (v2355 : IVec S16 32) (k0_hw1407 : k0_chk1407 k0_t1 v2326 v2355), ∀ (k0_h7 : k0_cond7 k0_t1 = 1#1), ∀ a x, ((![v2326, v2355] : Fin 2 → IVec S16 32) a x).toNat < S512x16.size a := fun k0_t1 v2326 v2355 k0_hw1407 k0_h7 => k0_hw1407 k0_h7

def k0_chk1408 (k0_t1 : Fin k0_t1_loop.trips) (v2326 : IVec S16 32) (v2357 : IVec S16 32) : Prop :=
  (∀ (k0_h7 : k0_cond7 k0_t1 = 1#1), ∀ a x, ((![v2326, v2357] : Fin 2 → IVec S16 32) a x).toNat < S512x16.size a)
theorem k0_idx1408_inb : ∀ (k0_t1 : Fin k0_t1_loop.trips) (v2326 : IVec S16 32) (v2357 : IVec S16 32) (k0_hw1408 : k0_chk1408 k0_t1 v2326 v2357), ∀ (k0_h7 : k0_cond7 k0_t1 = 1#1), ∀ a x, ((![v2326, v2357] : Fin 2 → IVec S16 32) a x).toNat < S512x16.size a := fun k0_t1 v2326 v2357 k0_hw1408 k0_h7 => k0_hw1408 k0_h7

def k0_chk1409 (k0_t1 : Fin k0_t1_loop.trips) (v2425 : IVec S16 32) (v2426 : IVec S16 32) : Prop :=
  (∀ (k0_h7 : k0_cond7 k0_t1 = 1#1), ∀ a x, ((![v2425, v2426] : Fin 2 → IVec S16 32) a x).toNat < S512x16.size a)
theorem k0_idx1409_inb : ∀ (k0_t1 : Fin k0_t1_loop.trips) (v2425 : IVec S16 32) (v2426 : IVec S16 32) (k0_hw1409 : k0_chk1409 k0_t1 v2425 v2426), ∀ (k0_h7 : k0_cond7 k0_t1 = 1#1), ∀ a x, ((![v2425, v2426] : Fin 2 → IVec S16 32) a x).toNat < S512x16.size a := fun k0_t1 v2425 v2426 k0_hw1409 k0_h7 => k0_hw1409 k0_h7

def k0_chk1410 (k0_t1 : Fin k0_t1_loop.trips) (v2425 : IVec S16 32) (v2428 : IVec S16 32) : Prop :=
  (∀ (k0_h7 : k0_cond7 k0_t1 = 1#1), ∀ a x, ((![v2425, v2428] : Fin 2 → IVec S16 32) a x).toNat < S512x16.size a)
theorem k0_idx1410_inb : ∀ (k0_t1 : Fin k0_t1_loop.trips) (v2425 : IVec S16 32) (v2428 : IVec S16 32) (k0_hw1410 : k0_chk1410 k0_t1 v2425 v2428), ∀ (k0_h7 : k0_cond7 k0_t1 = 1#1), ∀ a x, ((![v2425, v2428] : Fin 2 → IVec S16 32) a x).toNat < S512x16.size a := fun k0_t1 v2425 v2428 k0_hw1410 k0_h7 => k0_hw1410 k0_h7

def k0_chk1411 (k0_t1 : Fin k0_t1_loop.trips) (v2425 : IVec S16 32) (v2430 : IVec S16 32) : Prop :=
  (∀ (k0_h7 : k0_cond7 k0_t1 = 1#1), ∀ a x, ((![v2425, v2430] : Fin 2 → IVec S16 32) a x).toNat < S512x16.size a)
theorem k0_idx1411_inb : ∀ (k0_t1 : Fin k0_t1_loop.trips) (v2425 : IVec S16 32) (v2430 : IVec S16 32) (k0_hw1411 : k0_chk1411 k0_t1 v2425 v2430), ∀ (k0_h7 : k0_cond7 k0_t1 = 1#1), ∀ a x, ((![v2425, v2430] : Fin 2 → IVec S16 32) a x).toNat < S512x16.size a := fun k0_t1 v2425 v2430 k0_hw1411 k0_h7 => k0_hw1411 k0_h7

def k0_chk1412 (k0_t1 : Fin k0_t1_loop.trips) (v2425 : IVec S16 32) (v2432 : IVec S16 32) : Prop :=
  (∀ (k0_h7 : k0_cond7 k0_t1 = 1#1), ∀ a x, ((![v2425, v2432] : Fin 2 → IVec S16 32) a x).toNat < S512x16.size a)
theorem k0_idx1412_inb : ∀ (k0_t1 : Fin k0_t1_loop.trips) (v2425 : IVec S16 32) (v2432 : IVec S16 32) (k0_hw1412 : k0_chk1412 k0_t1 v2425 v2432), ∀ (k0_h7 : k0_cond7 k0_t1 = 1#1), ∀ a x, ((![v2425, v2432] : Fin 2 → IVec S16 32) a x).toNat < S512x16.size a := fun k0_t1 v2425 v2432 k0_hw1412 k0_h7 => k0_hw1412 k0_h7

def k0_chk1413 (k0_t1 : Fin k0_t1_loop.trips) (v2425 : IVec S16 32) (v2434 : IVec S16 32) : Prop :=
  (∀ (k0_h7 : k0_cond7 k0_t1 = 1#1), ∀ a x, ((![v2425, v2434] : Fin 2 → IVec S16 32) a x).toNat < S512x16.size a)
theorem k0_idx1413_inb : ∀ (k0_t1 : Fin k0_t1_loop.trips) (v2425 : IVec S16 32) (v2434 : IVec S16 32) (k0_hw1413 : k0_chk1413 k0_t1 v2425 v2434), ∀ (k0_h7 : k0_cond7 k0_t1 = 1#1), ∀ a x, ((![v2425, v2434] : Fin 2 → IVec S16 32) a x).toNat < S512x16.size a := fun k0_t1 v2425 v2434 k0_hw1413 k0_h7 => k0_hw1413 k0_h7

def k0_chk1414 (k0_t1 : Fin k0_t1_loop.trips) (v2425 : IVec S16 32) (v2436 : IVec S16 32) : Prop :=
  (∀ (k0_h7 : k0_cond7 k0_t1 = 1#1), ∀ a x, ((![v2425, v2436] : Fin 2 → IVec S16 32) a x).toNat < S512x16.size a)
theorem k0_idx1414_inb : ∀ (k0_t1 : Fin k0_t1_loop.trips) (v2425 : IVec S16 32) (v2436 : IVec S16 32) (k0_hw1414 : k0_chk1414 k0_t1 v2425 v2436), ∀ (k0_h7 : k0_cond7 k0_t1 = 1#1), ∀ a x, ((![v2425, v2436] : Fin 2 → IVec S16 32) a x).toNat < S512x16.size a := fun k0_t1 v2425 v2436 k0_hw1414 k0_h7 => k0_hw1414 k0_h7

def k0_chk1415 (k0_t1 : Fin k0_t1_loop.trips) (v2425 : IVec S16 32) (v2438 : IVec S16 32) : Prop :=
  (∀ (k0_h7 : k0_cond7 k0_t1 = 1#1), ∀ a x, ((![v2425, v2438] : Fin 2 → IVec S16 32) a x).toNat < S512x16.size a)
theorem k0_idx1415_inb : ∀ (k0_t1 : Fin k0_t1_loop.trips) (v2425 : IVec S16 32) (v2438 : IVec S16 32) (k0_hw1415 : k0_chk1415 k0_t1 v2425 v2438), ∀ (k0_h7 : k0_cond7 k0_t1 = 1#1), ∀ a x, ((![v2425, v2438] : Fin 2 → IVec S16 32) a x).toNat < S512x16.size a := fun k0_t1 v2425 v2438 k0_hw1415 k0_h7 => k0_hw1415 k0_h7

def k0_chk1416 (k0_t1 : Fin k0_t1_loop.trips) (v2425 : IVec S16 32) (v2440 : IVec S16 32) : Prop :=
  (∀ (k0_h7 : k0_cond7 k0_t1 = 1#1), ∀ a x, ((![v2425, v2440] : Fin 2 → IVec S16 32) a x).toNat < S512x16.size a)
theorem k0_idx1416_inb : ∀ (k0_t1 : Fin k0_t1_loop.trips) (v2425 : IVec S16 32) (v2440 : IVec S16 32) (k0_hw1416 : k0_chk1416 k0_t1 v2425 v2440), ∀ (k0_h7 : k0_cond7 k0_t1 = 1#1), ∀ a x, ((![v2425, v2440] : Fin 2 → IVec S16 32) a x).toNat < S512x16.size a := fun k0_t1 v2425 v2440 k0_hw1416 k0_h7 => k0_hw1416 k0_h7

def k0_chk1417 (k0_t1 : Fin k0_t1_loop.trips) (v2425 : IVec S16 32) (v2442 : IVec S16 32) : Prop :=
  (∀ (k0_h7 : k0_cond7 k0_t1 = 1#1), ∀ a x, ((![v2425, v2442] : Fin 2 → IVec S16 32) a x).toNat < S512x16.size a)
theorem k0_idx1417_inb : ∀ (k0_t1 : Fin k0_t1_loop.trips) (v2425 : IVec S16 32) (v2442 : IVec S16 32) (k0_hw1417 : k0_chk1417 k0_t1 v2425 v2442), ∀ (k0_h7 : k0_cond7 k0_t1 = 1#1), ∀ a x, ((![v2425, v2442] : Fin 2 → IVec S16 32) a x).toNat < S512x16.size a := fun k0_t1 v2425 v2442 k0_hw1417 k0_h7 => k0_hw1417 k0_h7

def k0_chk1418 (k0_t1 : Fin k0_t1_loop.trips) (v2425 : IVec S16 32) (v2444 : IVec S16 32) : Prop :=
  (∀ (k0_h7 : k0_cond7 k0_t1 = 1#1), ∀ a x, ((![v2425, v2444] : Fin 2 → IVec S16 32) a x).toNat < S512x16.size a)
theorem k0_idx1418_inb : ∀ (k0_t1 : Fin k0_t1_loop.trips) (v2425 : IVec S16 32) (v2444 : IVec S16 32) (k0_hw1418 : k0_chk1418 k0_t1 v2425 v2444), ∀ (k0_h7 : k0_cond7 k0_t1 = 1#1), ∀ a x, ((![v2425, v2444] : Fin 2 → IVec S16 32) a x).toNat < S512x16.size a := fun k0_t1 v2425 v2444 k0_hw1418 k0_h7 => k0_hw1418 k0_h7

def k0_chk1419 (k0_t1 : Fin k0_t1_loop.trips) (v2425 : IVec S16 32) (v2446 : IVec S16 32) : Prop :=
  (∀ (k0_h7 : k0_cond7 k0_t1 = 1#1), ∀ a x, ((![v2425, v2446] : Fin 2 → IVec S16 32) a x).toNat < S512x16.size a)
theorem k0_idx1419_inb : ∀ (k0_t1 : Fin k0_t1_loop.trips) (v2425 : IVec S16 32) (v2446 : IVec S16 32) (k0_hw1419 : k0_chk1419 k0_t1 v2425 v2446), ∀ (k0_h7 : k0_cond7 k0_t1 = 1#1), ∀ a x, ((![v2425, v2446] : Fin 2 → IVec S16 32) a x).toNat < S512x16.size a := fun k0_t1 v2425 v2446 k0_hw1419 k0_h7 => k0_hw1419 k0_h7

def k0_chk1420 (k0_t1 : Fin k0_t1_loop.trips) (v2425 : IVec S16 32) (v2448 : IVec S16 32) : Prop :=
  (∀ (k0_h7 : k0_cond7 k0_t1 = 1#1), ∀ a x, ((![v2425, v2448] : Fin 2 → IVec S16 32) a x).toNat < S512x16.size a)
theorem k0_idx1420_inb : ∀ (k0_t1 : Fin k0_t1_loop.trips) (v2425 : IVec S16 32) (v2448 : IVec S16 32) (k0_hw1420 : k0_chk1420 k0_t1 v2425 v2448), ∀ (k0_h7 : k0_cond7 k0_t1 = 1#1), ∀ a x, ((![v2425, v2448] : Fin 2 → IVec S16 32) a x).toNat < S512x16.size a := fun k0_t1 v2425 v2448 k0_hw1420 k0_h7 => k0_hw1420 k0_h7

def k0_chk1421 (k0_t1 : Fin k0_t1_loop.trips) (v2425 : IVec S16 32) (v2450 : IVec S16 32) : Prop :=
  (∀ (k0_h7 : k0_cond7 k0_t1 = 1#1), ∀ a x, ((![v2425, v2450] : Fin 2 → IVec S16 32) a x).toNat < S512x16.size a)
theorem k0_idx1421_inb : ∀ (k0_t1 : Fin k0_t1_loop.trips) (v2425 : IVec S16 32) (v2450 : IVec S16 32) (k0_hw1421 : k0_chk1421 k0_t1 v2425 v2450), ∀ (k0_h7 : k0_cond7 k0_t1 = 1#1), ∀ a x, ((![v2425, v2450] : Fin 2 → IVec S16 32) a x).toNat < S512x16.size a := fun k0_t1 v2425 v2450 k0_hw1421 k0_h7 => k0_hw1421 k0_h7

def k0_chk1422 (k0_t1 : Fin k0_t1_loop.trips) (v2425 : IVec S16 32) (v2452 : IVec S16 32) : Prop :=
  (∀ (k0_h7 : k0_cond7 k0_t1 = 1#1), ∀ a x, ((![v2425, v2452] : Fin 2 → IVec S16 32) a x).toNat < S512x16.size a)
theorem k0_idx1422_inb : ∀ (k0_t1 : Fin k0_t1_loop.trips) (v2425 : IVec S16 32) (v2452 : IVec S16 32) (k0_hw1422 : k0_chk1422 k0_t1 v2425 v2452), ∀ (k0_h7 : k0_cond7 k0_t1 = 1#1), ∀ a x, ((![v2425, v2452] : Fin 2 → IVec S16 32) a x).toNat < S512x16.size a := fun k0_t1 v2425 v2452 k0_hw1422 k0_h7 => k0_hw1422 k0_h7

def k0_chk1423 (k0_t1 : Fin k0_t1_loop.trips) (v2425 : IVec S16 32) (v2454 : IVec S16 32) : Prop :=
  (∀ (k0_h7 : k0_cond7 k0_t1 = 1#1), ∀ a x, ((![v2425, v2454] : Fin 2 → IVec S16 32) a x).toNat < S512x16.size a)
theorem k0_idx1423_inb : ∀ (k0_t1 : Fin k0_t1_loop.trips) (v2425 : IVec S16 32) (v2454 : IVec S16 32) (k0_hw1423 : k0_chk1423 k0_t1 v2425 v2454), ∀ (k0_h7 : k0_cond7 k0_t1 = 1#1), ∀ a x, ((![v2425, v2454] : Fin 2 → IVec S16 32) a x).toNat < S512x16.size a := fun k0_t1 v2425 v2454 k0_hw1423 k0_h7 => k0_hw1423 k0_h7

def k0_chk1424 (k0_t1 : Fin k0_t1_loop.trips) (v2425 : IVec S16 32) (v2456 : IVec S16 32) : Prop :=
  (∀ (k0_h7 : k0_cond7 k0_t1 = 1#1), ∀ a x, ((![v2425, v2456] : Fin 2 → IVec S16 32) a x).toNat < S512x16.size a)
theorem k0_idx1424_inb : ∀ (k0_t1 : Fin k0_t1_loop.trips) (v2425 : IVec S16 32) (v2456 : IVec S16 32) (k0_hw1424 : k0_chk1424 k0_t1 v2425 v2456), ∀ (k0_h7 : k0_cond7 k0_t1 = 1#1), ∀ a x, ((![v2425, v2456] : Fin 2 → IVec S16 32) a x).toNat < S512x16.size a := fun k0_t1 v2425 v2456 k0_hw1424 k0_h7 => k0_hw1424 k0_h7

def k0_chk1425 (k0_t1 : Fin k0_t1_loop.trips) (v2524 : IVec S16 32) (v2525 : IVec S16 32) : Prop :=
  (∀ (k0_h7 : k0_cond7 k0_t1 = 1#1), ∀ a x, ((![v2524, v2525] : Fin 2 → IVec S16 32) a x).toNat < S512x16.size a)
theorem k0_idx1425_inb : ∀ (k0_t1 : Fin k0_t1_loop.trips) (v2524 : IVec S16 32) (v2525 : IVec S16 32) (k0_hw1425 : k0_chk1425 k0_t1 v2524 v2525), ∀ (k0_h7 : k0_cond7 k0_t1 = 1#1), ∀ a x, ((![v2524, v2525] : Fin 2 → IVec S16 32) a x).toNat < S512x16.size a := fun k0_t1 v2524 v2525 k0_hw1425 k0_h7 => k0_hw1425 k0_h7

def k0_chk1426 (k0_t1 : Fin k0_t1_loop.trips) (v2524 : IVec S16 32) (v2527 : IVec S16 32) : Prop :=
  (∀ (k0_h7 : k0_cond7 k0_t1 = 1#1), ∀ a x, ((![v2524, v2527] : Fin 2 → IVec S16 32) a x).toNat < S512x16.size a)
theorem k0_idx1426_inb : ∀ (k0_t1 : Fin k0_t1_loop.trips) (v2524 : IVec S16 32) (v2527 : IVec S16 32) (k0_hw1426 : k0_chk1426 k0_t1 v2524 v2527), ∀ (k0_h7 : k0_cond7 k0_t1 = 1#1), ∀ a x, ((![v2524, v2527] : Fin 2 → IVec S16 32) a x).toNat < S512x16.size a := fun k0_t1 v2524 v2527 k0_hw1426 k0_h7 => k0_hw1426 k0_h7

def k0_chk1427 (k0_t1 : Fin k0_t1_loop.trips) (v2524 : IVec S16 32) (v2529 : IVec S16 32) : Prop :=
  (∀ (k0_h7 : k0_cond7 k0_t1 = 1#1), ∀ a x, ((![v2524, v2529] : Fin 2 → IVec S16 32) a x).toNat < S512x16.size a)
theorem k0_idx1427_inb : ∀ (k0_t1 : Fin k0_t1_loop.trips) (v2524 : IVec S16 32) (v2529 : IVec S16 32) (k0_hw1427 : k0_chk1427 k0_t1 v2524 v2529), ∀ (k0_h7 : k0_cond7 k0_t1 = 1#1), ∀ a x, ((![v2524, v2529] : Fin 2 → IVec S16 32) a x).toNat < S512x16.size a := fun k0_t1 v2524 v2529 k0_hw1427 k0_h7 => k0_hw1427 k0_h7

def k0_chk1428 (k0_t1 : Fin k0_t1_loop.trips) (v2524 : IVec S16 32) (v2531 : IVec S16 32) : Prop :=
  (∀ (k0_h7 : k0_cond7 k0_t1 = 1#1), ∀ a x, ((![v2524, v2531] : Fin 2 → IVec S16 32) a x).toNat < S512x16.size a)
theorem k0_idx1428_inb : ∀ (k0_t1 : Fin k0_t1_loop.trips) (v2524 : IVec S16 32) (v2531 : IVec S16 32) (k0_hw1428 : k0_chk1428 k0_t1 v2524 v2531), ∀ (k0_h7 : k0_cond7 k0_t1 = 1#1), ∀ a x, ((![v2524, v2531] : Fin 2 → IVec S16 32) a x).toNat < S512x16.size a := fun k0_t1 v2524 v2531 k0_hw1428 k0_h7 => k0_hw1428 k0_h7

def k0_chk1429 (k0_t1 : Fin k0_t1_loop.trips) (v2524 : IVec S16 32) (v2533 : IVec S16 32) : Prop :=
  (∀ (k0_h7 : k0_cond7 k0_t1 = 1#1), ∀ a x, ((![v2524, v2533] : Fin 2 → IVec S16 32) a x).toNat < S512x16.size a)
theorem k0_idx1429_inb : ∀ (k0_t1 : Fin k0_t1_loop.trips) (v2524 : IVec S16 32) (v2533 : IVec S16 32) (k0_hw1429 : k0_chk1429 k0_t1 v2524 v2533), ∀ (k0_h7 : k0_cond7 k0_t1 = 1#1), ∀ a x, ((![v2524, v2533] : Fin 2 → IVec S16 32) a x).toNat < S512x16.size a := fun k0_t1 v2524 v2533 k0_hw1429 k0_h7 => k0_hw1429 k0_h7

def k0_chk1430 (k0_t1 : Fin k0_t1_loop.trips) (v2524 : IVec S16 32) (v2535 : IVec S16 32) : Prop :=
  (∀ (k0_h7 : k0_cond7 k0_t1 = 1#1), ∀ a x, ((![v2524, v2535] : Fin 2 → IVec S16 32) a x).toNat < S512x16.size a)
theorem k0_idx1430_inb : ∀ (k0_t1 : Fin k0_t1_loop.trips) (v2524 : IVec S16 32) (v2535 : IVec S16 32) (k0_hw1430 : k0_chk1430 k0_t1 v2524 v2535), ∀ (k0_h7 : k0_cond7 k0_t1 = 1#1), ∀ a x, ((![v2524, v2535] : Fin 2 → IVec S16 32) a x).toNat < S512x16.size a := fun k0_t1 v2524 v2535 k0_hw1430 k0_h7 => k0_hw1430 k0_h7

def k0_chk1431 (k0_t1 : Fin k0_t1_loop.trips) (v2524 : IVec S16 32) (v2537 : IVec S16 32) : Prop :=
  (∀ (k0_h7 : k0_cond7 k0_t1 = 1#1), ∀ a x, ((![v2524, v2537] : Fin 2 → IVec S16 32) a x).toNat < S512x16.size a)
theorem k0_idx1431_inb : ∀ (k0_t1 : Fin k0_t1_loop.trips) (v2524 : IVec S16 32) (v2537 : IVec S16 32) (k0_hw1431 : k0_chk1431 k0_t1 v2524 v2537), ∀ (k0_h7 : k0_cond7 k0_t1 = 1#1), ∀ a x, ((![v2524, v2537] : Fin 2 → IVec S16 32) a x).toNat < S512x16.size a := fun k0_t1 v2524 v2537 k0_hw1431 k0_h7 => k0_hw1431 k0_h7

def k0_chk1432 (k0_t1 : Fin k0_t1_loop.trips) (v2524 : IVec S16 32) (v2539 : IVec S16 32) : Prop :=
  (∀ (k0_h7 : k0_cond7 k0_t1 = 1#1), ∀ a x, ((![v2524, v2539] : Fin 2 → IVec S16 32) a x).toNat < S512x16.size a)
theorem k0_idx1432_inb : ∀ (k0_t1 : Fin k0_t1_loop.trips) (v2524 : IVec S16 32) (v2539 : IVec S16 32) (k0_hw1432 : k0_chk1432 k0_t1 v2524 v2539), ∀ (k0_h7 : k0_cond7 k0_t1 = 1#1), ∀ a x, ((![v2524, v2539] : Fin 2 → IVec S16 32) a x).toNat < S512x16.size a := fun k0_t1 v2524 v2539 k0_hw1432 k0_h7 => k0_hw1432 k0_h7

def k0_chk1433 (k0_t1 : Fin k0_t1_loop.trips) (v2524 : IVec S16 32) (v2541 : IVec S16 32) : Prop :=
  (∀ (k0_h7 : k0_cond7 k0_t1 = 1#1), ∀ a x, ((![v2524, v2541] : Fin 2 → IVec S16 32) a x).toNat < S512x16.size a)
theorem k0_idx1433_inb : ∀ (k0_t1 : Fin k0_t1_loop.trips) (v2524 : IVec S16 32) (v2541 : IVec S16 32) (k0_hw1433 : k0_chk1433 k0_t1 v2524 v2541), ∀ (k0_h7 : k0_cond7 k0_t1 = 1#1), ∀ a x, ((![v2524, v2541] : Fin 2 → IVec S16 32) a x).toNat < S512x16.size a := fun k0_t1 v2524 v2541 k0_hw1433 k0_h7 => k0_hw1433 k0_h7

def k0_chk1434 (k0_t1 : Fin k0_t1_loop.trips) (v2524 : IVec S16 32) (v2543 : IVec S16 32) : Prop :=
  (∀ (k0_h7 : k0_cond7 k0_t1 = 1#1), ∀ a x, ((![v2524, v2543] : Fin 2 → IVec S16 32) a x).toNat < S512x16.size a)
theorem k0_idx1434_inb : ∀ (k0_t1 : Fin k0_t1_loop.trips) (v2524 : IVec S16 32) (v2543 : IVec S16 32) (k0_hw1434 : k0_chk1434 k0_t1 v2524 v2543), ∀ (k0_h7 : k0_cond7 k0_t1 = 1#1), ∀ a x, ((![v2524, v2543] : Fin 2 → IVec S16 32) a x).toNat < S512x16.size a := fun k0_t1 v2524 v2543 k0_hw1434 k0_h7 => k0_hw1434 k0_h7

variable {F : FTy → Type} [FloatOps F]

def k0_chk1435 (k0_t1 : Fin k0_t1_loop.trips) (v2524 : IVec S16 32) (v2545 : IVec S16 32) : Prop :=
  (∀ (k0_h7 : k0_cond7 k0_t1 = 1#1), ∀ a x, ((![v2524, v2545] : Fin 2 → IVec S16 32) a x).toNat < S512x16.size a)
theorem k0_idx1435_inb : ∀ (k0_t1 : Fin k0_t1_loop.trips) (v2524 : IVec S16 32) (v2545 : IVec S16 32) (k0_hw1435 : k0_chk1435 k0_t1 v2524 v2545), ∀ (k0_h7 : k0_cond7 k0_t1 = 1#1), ∀ a x, ((![v2524, v2545] : Fin 2 → IVec S16 32) a x).toNat < S512x16.size a := fun k0_t1 v2524 v2545 k0_hw1435 k0_h7 => k0_hw1435 k0_h7

def k0_chk1436 (k0_t1 : Fin k0_t1_loop.trips) (v2524 : IVec S16 32) (v2547 : IVec S16 32) : Prop :=
  (∀ (k0_h7 : k0_cond7 k0_t1 = 1#1), ∀ a x, ((![v2524, v2547] : Fin 2 → IVec S16 32) a x).toNat < S512x16.size a)
theorem k0_idx1436_inb : ∀ (k0_t1 : Fin k0_t1_loop.trips) (v2524 : IVec S16 32) (v2547 : IVec S16 32) (k0_hw1436 : k0_chk1436 k0_t1 v2524 v2547), ∀ (k0_h7 : k0_cond7 k0_t1 = 1#1), ∀ a x, ((![v2524, v2547] : Fin 2 → IVec S16 32) a x).toNat < S512x16.size a := fun k0_t1 v2524 v2547 k0_hw1436 k0_h7 => k0_hw1436 k0_h7

def k0_chk1437 (k0_t1 : Fin k0_t1_loop.trips) (v2524 : IVec S16 32) (v2549 : IVec S16 32) : Prop :=
  (∀ (k0_h7 : k0_cond7 k0_t1 = 1#1), ∀ a x, ((![v2524, v2549] : Fin 2 → IVec S16 32) a x).toNat < S512x16.size a)
theorem k0_idx1437_inb : ∀ (k0_t1 : Fin k0_t1_loop.trips) (v2524 : IVec S16 32) (v2549 : IVec S16 32) (k0_hw1437 : k0_chk1437 k0_t1 v2524 v2549), ∀ (k0_h7 : k0_cond7 k0_t1 = 1#1), ∀ a x, ((![v2524, v2549] : Fin 2 → IVec S16 32) a x).toNat < S512x16.size a := fun k0_t1 v2524 v2549 k0_hw1437 k0_h7 => k0_hw1437 k0_h7

def k0_chk1438 (k0_t1 : Fin k0_t1_loop.trips) (v2524 : IVec S16 32) (v2551 : IVec S16 32) : Prop :=
  (∀ (k0_h7 : k0_cond7 k0_t1 = 1#1), ∀ a x, ((![v2524, v2551] : Fin 2 → IVec S16 32) a x).toNat < S512x16.size a)
theorem k0_idx1438_inb : ∀ (k0_t1 : Fin k0_t1_loop.trips) (v2524 : IVec S16 32) (v2551 : IVec S16 32) (k0_hw1438 : k0_chk1438 k0_t1 v2524 v2551), ∀ (k0_h7 : k0_cond7 k0_t1 = 1#1), ∀ a x, ((![v2524, v2551] : Fin 2 → IVec S16 32) a x).toNat < S512x16.size a := fun k0_t1 v2524 v2551 k0_hw1438 k0_h7 => k0_hw1438 k0_h7

def k0_chk1439 (k0_t1 : Fin k0_t1_loop.trips) (v2524 : IVec S16 32) (v2553 : IVec S16 32) : Prop :=
  (∀ (k0_h7 : k0_cond7 k0_t1 = 1#1), ∀ a x, ((![v2524, v2553] : Fin 2 → IVec S16 32) a x).toNat < S512x16.size a)
theorem k0_idx1439_inb : ∀ (k0_t1 : Fin k0_t1_loop.trips) (v2524 : IVec S16 32) (v2553 : IVec S16 32) (k0_hw1439 : k0_chk1439 k0_t1 v2524 v2553), ∀ (k0_h7 : k0_cond7 k0_t1 = 1#1), ∀ a x, ((![v2524, v2553] : Fin 2 → IVec S16 32) a x).toNat < S512x16.size a := fun k0_t1 v2524 v2553 k0_hw1439 k0_h7 => k0_hw1439 k0_h7

def k0_chk1440 (k0_t1 : Fin k0_t1_loop.trips) (v2524 : IVec S16 32) (v2555 : IVec S16 32) : Prop :=
  (∀ (k0_h7 : k0_cond7 k0_t1 = 1#1), ∀ a x, ((![v2524, v2555] : Fin 2 → IVec S16 32) a x).toNat < S512x16.size a)
theorem k0_idx1440_inb : ∀ (k0_t1 : Fin k0_t1_loop.trips) (v2524 : IVec S16 32) (v2555 : IVec S16 32) (k0_hw1440 : k0_chk1440 k0_t1 v2524 v2555), ∀ (k0_h7 : k0_cond7 k0_t1 = 1#1), ∀ a x, ((![v2524, v2555] : Fin 2 → IVec S16 32) a x).toNat < S512x16.size a := fun k0_t1 v2524 v2555 k0_hw1440 k0_h7 => k0_hw1440 k0_h7

def k0_chk1441 (k0_t1 : Fin k0_t1_loop.trips) (v2623 : IVec S16 32) (v2624 : IVec S16 32) : Prop :=
  (∀ (k0_h7 : k0_cond7 k0_t1 = 1#1), ∀ a x, ((![v2623, v2624] : Fin 2 → IVec S16 32) a x).toNat < S512x16.size a)
theorem k0_idx1441_inb : ∀ (k0_t1 : Fin k0_t1_loop.trips) (v2623 : IVec S16 32) (v2624 : IVec S16 32) (k0_hw1441 : k0_chk1441 k0_t1 v2623 v2624), ∀ (k0_h7 : k0_cond7 k0_t1 = 1#1), ∀ a x, ((![v2623, v2624] : Fin 2 → IVec S16 32) a x).toNat < S512x16.size a := fun k0_t1 v2623 v2624 k0_hw1441 k0_h7 => k0_hw1441 k0_h7

def k0_chk1442 (k0_t1 : Fin k0_t1_loop.trips) (v2623 : IVec S16 32) (v2626 : IVec S16 32) : Prop :=
  (∀ (k0_h7 : k0_cond7 k0_t1 = 1#1), ∀ a x, ((![v2623, v2626] : Fin 2 → IVec S16 32) a x).toNat < S512x16.size a)
theorem k0_idx1442_inb : ∀ (k0_t1 : Fin k0_t1_loop.trips) (v2623 : IVec S16 32) (v2626 : IVec S16 32) (k0_hw1442 : k0_chk1442 k0_t1 v2623 v2626), ∀ (k0_h7 : k0_cond7 k0_t1 = 1#1), ∀ a x, ((![v2623, v2626] : Fin 2 → IVec S16 32) a x).toNat < S512x16.size a := fun k0_t1 v2623 v2626 k0_hw1442 k0_h7 => k0_hw1442 k0_h7

def k0_chk1443 (k0_t1 : Fin k0_t1_loop.trips) (v2623 : IVec S16 32) (v2628 : IVec S16 32) : Prop :=
  (∀ (k0_h7 : k0_cond7 k0_t1 = 1#1), ∀ a x, ((![v2623, v2628] : Fin 2 → IVec S16 32) a x).toNat < S512x16.size a)
theorem k0_idx1443_inb : ∀ (k0_t1 : Fin k0_t1_loop.trips) (v2623 : IVec S16 32) (v2628 : IVec S16 32) (k0_hw1443 : k0_chk1443 k0_t1 v2623 v2628), ∀ (k0_h7 : k0_cond7 k0_t1 = 1#1), ∀ a x, ((![v2623, v2628] : Fin 2 → IVec S16 32) a x).toNat < S512x16.size a := fun k0_t1 v2623 v2628 k0_hw1443 k0_h7 => k0_hw1443 k0_h7

def k0_chk1444 (k0_t1 : Fin k0_t1_loop.trips) (v2623 : IVec S16 32) (v2630 : IVec S16 32) : Prop :=
  (∀ (k0_h7 : k0_cond7 k0_t1 = 1#1), ∀ a x, ((![v2623, v2630] : Fin 2 → IVec S16 32) a x).toNat < S512x16.size a)
theorem k0_idx1444_inb : ∀ (k0_t1 : Fin k0_t1_loop.trips) (v2623 : IVec S16 32) (v2630 : IVec S16 32) (k0_hw1444 : k0_chk1444 k0_t1 v2623 v2630), ∀ (k0_h7 : k0_cond7 k0_t1 = 1#1), ∀ a x, ((![v2623, v2630] : Fin 2 → IVec S16 32) a x).toNat < S512x16.size a := fun k0_t1 v2623 v2630 k0_hw1444 k0_h7 => k0_hw1444 k0_h7

def k0_chk1445 (k0_t1 : Fin k0_t1_loop.trips) (v2623 : IVec S16 32) (v2632 : IVec S16 32) : Prop :=
  (∀ (k0_h7 : k0_cond7 k0_t1 = 1#1), ∀ a x, ((![v2623, v2632] : Fin 2 → IVec S16 32) a x).toNat < S512x16.size a)
theorem k0_idx1445_inb : ∀ (k0_t1 : Fin k0_t1_loop.trips) (v2623 : IVec S16 32) (v2632 : IVec S16 32) (k0_hw1445 : k0_chk1445 k0_t1 v2623 v2632), ∀ (k0_h7 : k0_cond7 k0_t1 = 1#1), ∀ a x, ((![v2623, v2632] : Fin 2 → IVec S16 32) a x).toNat < S512x16.size a := fun k0_t1 v2623 v2632 k0_hw1445 k0_h7 => k0_hw1445 k0_h7

def k0_chk1446 (k0_t1 : Fin k0_t1_loop.trips) (v2623 : IVec S16 32) (v2634 : IVec S16 32) : Prop :=
  (∀ (k0_h7 : k0_cond7 k0_t1 = 1#1), ∀ a x, ((![v2623, v2634] : Fin 2 → IVec S16 32) a x).toNat < S512x16.size a)
theorem k0_idx1446_inb : ∀ (k0_t1 : Fin k0_t1_loop.trips) (v2623 : IVec S16 32) (v2634 : IVec S16 32) (k0_hw1446 : k0_chk1446 k0_t1 v2623 v2634), ∀ (k0_h7 : k0_cond7 k0_t1 = 1#1), ∀ a x, ((![v2623, v2634] : Fin 2 → IVec S16 32) a x).toNat < S512x16.size a := fun k0_t1 v2623 v2634 k0_hw1446 k0_h7 => k0_hw1446 k0_h7

def k0_chk1447 (k0_t1 : Fin k0_t1_loop.trips) (v2623 : IVec S16 32) (v2636 : IVec S16 32) : Prop :=
  (∀ (k0_h7 : k0_cond7 k0_t1 = 1#1), ∀ a x, ((![v2623, v2636] : Fin 2 → IVec S16 32) a x).toNat < S512x16.size a)
theorem k0_idx1447_inb : ∀ (k0_t1 : Fin k0_t1_loop.trips) (v2623 : IVec S16 32) (v2636 : IVec S16 32) (k0_hw1447 : k0_chk1447 k0_t1 v2623 v2636), ∀ (k0_h7 : k0_cond7 k0_t1 = 1#1), ∀ a x, ((![v2623, v2636] : Fin 2 → IVec S16 32) a x).toNat < S512x16.size a := fun k0_t1 v2623 v2636 k0_hw1447 k0_h7 => k0_hw1447 k0_h7

def k0_chk1448 (k0_t1 : Fin k0_t1_loop.trips) (v2623 : IVec S16 32) (v2638 : IVec S16 32) : Prop :=
  (∀ (k0_h7 : k0_cond7 k0_t1 = 1#1), ∀ a x, ((![v2623, v2638] : Fin 2 → IVec S16 32) a x).toNat < S512x16.size a)
theorem k0_idx1448_inb : ∀ (k0_t1 : Fin k0_t1_loop.trips) (v2623 : IVec S16 32) (v2638 : IVec S16 32) (k0_hw1448 : k0_chk1448 k0_t1 v2623 v2638), ∀ (k0_h7 : k0_cond7 k0_t1 = 1#1), ∀ a x, ((![v2623, v2638] : Fin 2 → IVec S16 32) a x).toNat < S512x16.size a := fun k0_t1 v2623 v2638 k0_hw1448 k0_h7 => k0_hw1448 k0_h7

def k0_chk1449 (k0_t1 : Fin k0_t1_loop.trips) (v2623 : IVec S16 32) (v2640 : IVec S16 32) : Prop :=
  (∀ (k0_h7 : k0_cond7 k0_t1 = 1#1), ∀ a x, ((![v2623, v2640] : Fin 2 → IVec S16 32) a x).toNat < S512x16.size a)
theorem k0_idx1449_inb : ∀ (k0_t1 : Fin k0_t1_loop.trips) (v2623 : IVec S16 32) (v2640 : IVec S16 32) (k0_hw1449 : k0_chk1449 k0_t1 v2623 v2640), ∀ (k0_h7 : k0_cond7 k0_t1 = 1#1), ∀ a x, ((![v2623, v2640] : Fin 2 → IVec S16 32) a x).toNat < S512x16.size a := fun k0_t1 v2623 v2640 k0_hw1449 k0_h7 => k0_hw1449 k0_h7

def k0_chk1450 (k0_t1 : Fin k0_t1_loop.trips) (v2623 : IVec S16 32) (v2642 : IVec S16 32) : Prop :=
  (∀ (k0_h7 : k0_cond7 k0_t1 = 1#1), ∀ a x, ((![v2623, v2642] : Fin 2 → IVec S16 32) a x).toNat < S512x16.size a)
theorem k0_idx1450_inb : ∀ (k0_t1 : Fin k0_t1_loop.trips) (v2623 : IVec S16 32) (v2642 : IVec S16 32) (k0_hw1450 : k0_chk1450 k0_t1 v2623 v2642), ∀ (k0_h7 : k0_cond7 k0_t1 = 1#1), ∀ a x, ((![v2623, v2642] : Fin 2 → IVec S16 32) a x).toNat < S512x16.size a := fun k0_t1 v2623 v2642 k0_hw1450 k0_h7 => k0_hw1450 k0_h7

def k0_chk1451 (k0_t1 : Fin k0_t1_loop.trips) (v2623 : IVec S16 32) (v2644 : IVec S16 32) : Prop :=
  (∀ (k0_h7 : k0_cond7 k0_t1 = 1#1), ∀ a x, ((![v2623, v2644] : Fin 2 → IVec S16 32) a x).toNat < S512x16.size a)
theorem k0_idx1451_inb : ∀ (k0_t1 : Fin k0_t1_loop.trips) (v2623 : IVec S16 32) (v2644 : IVec S16 32) (k0_hw1451 : k0_chk1451 k0_t1 v2623 v2644), ∀ (k0_h7 : k0_cond7 k0_t1 = 1#1), ∀ a x, ((![v2623, v2644] : Fin 2 → IVec S16 32) a x).toNat < S512x16.size a := fun k0_t1 v2623 v2644 k0_hw1451 k0_h7 => k0_hw1451 k0_h7

def k0_chk1452 (k0_t1 : Fin k0_t1_loop.trips) (v2623 : IVec S16 32) (v2646 : IVec S16 32) : Prop :=
  (∀ (k0_h7 : k0_cond7 k0_t1 = 1#1), ∀ a x, ((![v2623, v2646] : Fin 2 → IVec S16 32) a x).toNat < S512x16.size a)
theorem k0_idx1452_inb : ∀ (k0_t1 : Fin k0_t1_loop.trips) (v2623 : IVec S16 32) (v2646 : IVec S16 32) (k0_hw1452 : k0_chk1452 k0_t1 v2623 v2646), ∀ (k0_h7 : k0_cond7 k0_t1 = 1#1), ∀ a x, ((![v2623, v2646] : Fin 2 → IVec S16 32) a x).toNat < S512x16.size a := fun k0_t1 v2623 v2646 k0_hw1452 k0_h7 => k0_hw1452 k0_h7

def k0_chk1453 (k0_t1 : Fin k0_t1_loop.trips) (v2623 : IVec S16 32) (v2648 : IVec S16 32) : Prop :=
  (∀ (k0_h7 : k0_cond7 k0_t1 = 1#1), ∀ a x, ((![v2623, v2648] : Fin 2 → IVec S16 32) a x).toNat < S512x16.size a)
theorem k0_idx1453_inb : ∀ (k0_t1 : Fin k0_t1_loop.trips) (v2623 : IVec S16 32) (v2648 : IVec S16 32) (k0_hw1453 : k0_chk1453 k0_t1 v2623 v2648), ∀ (k0_h7 : k0_cond7 k0_t1 = 1#1), ∀ a x, ((![v2623, v2648] : Fin 2 → IVec S16 32) a x).toNat < S512x16.size a := fun k0_t1 v2623 v2648 k0_hw1453 k0_h7 => k0_hw1453 k0_h7

def k0_chk1454 (k0_t1 : Fin k0_t1_loop.trips) (v2623 : IVec S16 32) (v2650 : IVec S16 32) : Prop :=
  (∀ (k0_h7 : k0_cond7 k0_t1 = 1#1), ∀ a x, ((![v2623, v2650] : Fin 2 → IVec S16 32) a x).toNat < S512x16.size a)
theorem k0_idx1454_inb : ∀ (k0_t1 : Fin k0_t1_loop.trips) (v2623 : IVec S16 32) (v2650 : IVec S16 32) (k0_hw1454 : k0_chk1454 k0_t1 v2623 v2650), ∀ (k0_h7 : k0_cond7 k0_t1 = 1#1), ∀ a x, ((![v2623, v2650] : Fin 2 → IVec S16 32) a x).toNat < S512x16.size a := fun k0_t1 v2623 v2650 k0_hw1454 k0_h7 => k0_hw1454 k0_h7

def k0_chk1455 (k0_t1 : Fin k0_t1_loop.trips) (v2623 : IVec S16 32) (v2652 : IVec S16 32) : Prop :=
  (∀ (k0_h7 : k0_cond7 k0_t1 = 1#1), ∀ a x, ((![v2623, v2652] : Fin 2 → IVec S16 32) a x).toNat < S512x16.size a)
theorem k0_idx1455_inb : ∀ (k0_t1 : Fin k0_t1_loop.trips) (v2623 : IVec S16 32) (v2652 : IVec S16 32) (k0_hw1455 : k0_chk1455 k0_t1 v2623 v2652), ∀ (k0_h7 : k0_cond7 k0_t1 = 1#1), ∀ a x, ((![v2623, v2652] : Fin 2 → IVec S16 32) a x).toNat < S512x16.size a := fun k0_t1 v2623 v2652 k0_hw1455 k0_h7 => k0_hw1455 k0_h7

def k0_chk1456 (k0_t1 : Fin k0_t1_loop.trips) (v2623 : IVec S16 32) (v2654 : IVec S16 32) : Prop :=
  (∀ (k0_h7 : k0_cond7 k0_t1 = 1#1), ∀ a x, ((![v2623, v2654] : Fin 2 → IVec S16 32) a x).toNat < S512x16.size a)
theorem k0_idx1456_inb : ∀ (k0_t1 : Fin k0_t1_loop.trips) (v2623 : IVec S16 32) (v2654 : IVec S16 32) (k0_hw1456 : k0_chk1456 k0_t1 v2623 v2654), ∀ (k0_h7 : k0_cond7 k0_t1 = 1#1), ∀ a x, ((![v2623, v2654] : Fin 2 → IVec S16 32) a x).toNat < S512x16.size a := fun k0_t1 v2623 v2654 k0_hw1456 k0_h7 => k0_hw1456 k0_h7

def k0_chk1457 (k0_t1 : Fin k0_t1_loop.trips) (v2722 : IVec S16 32) (v2723 : IVec S16 32) : Prop :=
  (∀ (k0_h7 : k0_cond7 k0_t1 = 1#1), ∀ a x, ((![v2722, v2723] : Fin 2 → IVec S16 32) a x).toNat < S512x16.size a)
theorem k0_idx1457_inb : ∀ (k0_t1 : Fin k0_t1_loop.trips) (v2722 : IVec S16 32) (v2723 : IVec S16 32) (k0_hw1457 : k0_chk1457 k0_t1 v2722 v2723), ∀ (k0_h7 : k0_cond7 k0_t1 = 1#1), ∀ a x, ((![v2722, v2723] : Fin 2 → IVec S16 32) a x).toNat < S512x16.size a := fun k0_t1 v2722 v2723 k0_hw1457 k0_h7 => k0_hw1457 k0_h7

def k0_chk1458 (k0_t1 : Fin k0_t1_loop.trips) (v2722 : IVec S16 32) (v2725 : IVec S16 32) : Prop :=
  (∀ (k0_h7 : k0_cond7 k0_t1 = 1#1), ∀ a x, ((![v2722, v2725] : Fin 2 → IVec S16 32) a x).toNat < S512x16.size a)
theorem k0_idx1458_inb : ∀ (k0_t1 : Fin k0_t1_loop.trips) (v2722 : IVec S16 32) (v2725 : IVec S16 32) (k0_hw1458 : k0_chk1458 k0_t1 v2722 v2725), ∀ (k0_h7 : k0_cond7 k0_t1 = 1#1), ∀ a x, ((![v2722, v2725] : Fin 2 → IVec S16 32) a x).toNat < S512x16.size a := fun k0_t1 v2722 v2725 k0_hw1458 k0_h7 => k0_hw1458 k0_h7

def k0_chk1459 (k0_t1 : Fin k0_t1_loop.trips) (v2722 : IVec S16 32) (v2727 : IVec S16 32) : Prop :=
  (∀ (k0_h7 : k0_cond7 k0_t1 = 1#1), ∀ a x, ((![v2722, v2727] : Fin 2 → IVec S16 32) a x).toNat < S512x16.size a)
theorem k0_idx1459_inb : ∀ (k0_t1 : Fin k0_t1_loop.trips) (v2722 : IVec S16 32) (v2727 : IVec S16 32) (k0_hw1459 : k0_chk1459 k0_t1 v2722 v2727), ∀ (k0_h7 : k0_cond7 k0_t1 = 1#1), ∀ a x, ((![v2722, v2727] : Fin 2 → IVec S16 32) a x).toNat < S512x16.size a := fun k0_t1 v2722 v2727 k0_hw1459 k0_h7 => k0_hw1459 k0_h7

def k0_chk1460 (k0_t1 : Fin k0_t1_loop.trips) (v2722 : IVec S16 32) (v2729 : IVec S16 32) : Prop :=
  (∀ (k0_h7 : k0_cond7 k0_t1 = 1#1), ∀ a x, ((![v2722, v2729] : Fin 2 → IVec S16 32) a x).toNat < S512x16.size a)
theorem k0_idx1460_inb : ∀ (k0_t1 : Fin k0_t1_loop.trips) (v2722 : IVec S16 32) (v2729 : IVec S16 32) (k0_hw1460 : k0_chk1460 k0_t1 v2722 v2729), ∀ (k0_h7 : k0_cond7 k0_t1 = 1#1), ∀ a x, ((![v2722, v2729] : Fin 2 → IVec S16 32) a x).toNat < S512x16.size a := fun k0_t1 v2722 v2729 k0_hw1460 k0_h7 => k0_hw1460 k0_h7

def k0_chk1461 (k0_t1 : Fin k0_t1_loop.trips) (v2722 : IVec S16 32) (v2731 : IVec S16 32) : Prop :=
  (∀ (k0_h7 : k0_cond7 k0_t1 = 1#1), ∀ a x, ((![v2722, v2731] : Fin 2 → IVec S16 32) a x).toNat < S512x16.size a)
theorem k0_idx1461_inb : ∀ (k0_t1 : Fin k0_t1_loop.trips) (v2722 : IVec S16 32) (v2731 : IVec S16 32) (k0_hw1461 : k0_chk1461 k0_t1 v2722 v2731), ∀ (k0_h7 : k0_cond7 k0_t1 = 1#1), ∀ a x, ((![v2722, v2731] : Fin 2 → IVec S16 32) a x).toNat < S512x16.size a := fun k0_t1 v2722 v2731 k0_hw1461 k0_h7 => k0_hw1461 k0_h7

def k0_chk1462 (k0_t1 : Fin k0_t1_loop.trips) (v2722 : IVec S16 32) (v2733 : IVec S16 32) : Prop :=
  (∀ (k0_h7 : k0_cond7 k0_t1 = 1#1), ∀ a x, ((![v2722, v2733] : Fin 2 → IVec S16 32) a x).toNat < S512x16.size a)
theorem k0_idx1462_inb : ∀ (k0_t1 : Fin k0_t1_loop.trips) (v2722 : IVec S16 32) (v2733 : IVec S16 32) (k0_hw1462 : k0_chk1462 k0_t1 v2722 v2733), ∀ (k0_h7 : k0_cond7 k0_t1 = 1#1), ∀ a x, ((![v2722, v2733] : Fin 2 → IVec S16 32) a x).toNat < S512x16.size a := fun k0_t1 v2722 v2733 k0_hw1462 k0_h7 => k0_hw1462 k0_h7

def k0_chk1463 (k0_t1 : Fin k0_t1_loop.trips) (v2722 : IVec S16 32) (v2735 : IVec S16 32) : Prop :=
  (∀ (k0_h7 : k0_cond7 k0_t1 = 1#1), ∀ a x, ((![v2722, v2735] : Fin 2 → IVec S16 32) a x).toNat < S512x16.size a)
theorem k0_idx1463_inb : ∀ (k0_t1 : Fin k0_t1_loop.trips) (v2722 : IVec S16 32) (v2735 : IVec S16 32) (k0_hw1463 : k0_chk1463 k0_t1 v2722 v2735), ∀ (k0_h7 : k0_cond7 k0_t1 = 1#1), ∀ a x, ((![v2722, v2735] : Fin 2 → IVec S16 32) a x).toNat < S512x16.size a := fun k0_t1 v2722 v2735 k0_hw1463 k0_h7 => k0_hw1463 k0_h7

def k0_chk1464 (k0_t1 : Fin k0_t1_loop.trips) (v2722 : IVec S16 32) (v2737 : IVec S16 32) : Prop :=
  (∀ (k0_h7 : k0_cond7 k0_t1 = 1#1), ∀ a x, ((![v2722, v2737] : Fin 2 → IVec S16 32) a x).toNat < S512x16.size a)
theorem k0_idx1464_inb : ∀ (k0_t1 : Fin k0_t1_loop.trips) (v2722 : IVec S16 32) (v2737 : IVec S16 32) (k0_hw1464 : k0_chk1464 k0_t1 v2722 v2737), ∀ (k0_h7 : k0_cond7 k0_t1 = 1#1), ∀ a x, ((![v2722, v2737] : Fin 2 → IVec S16 32) a x).toNat < S512x16.size a := fun k0_t1 v2722 v2737 k0_hw1464 k0_h7 => k0_hw1464 k0_h7

def k0_chk1465 (k0_t1 : Fin k0_t1_loop.trips) (v2722 : IVec S16 32) (v2739 : IVec S16 32) : Prop :=
  (∀ (k0_h7 : k0_cond7 k0_t1 = 1#1), ∀ a x, ((![v2722, v2739] : Fin 2 → IVec S16 32) a x).toNat < S512x16.size a)
theorem k0_idx1465_inb : ∀ (k0_t1 : Fin k0_t1_loop.trips) (v2722 : IVec S16 32) (v2739 : IVec S16 32) (k0_hw1465 : k0_chk1465 k0_t1 v2722 v2739), ∀ (k0_h7 : k0_cond7 k0_t1 = 1#1), ∀ a x, ((![v2722, v2739] : Fin 2 → IVec S16 32) a x).toNat < S512x16.size a := fun k0_t1 v2722 v2739 k0_hw1465 k0_h7 => k0_hw1465 k0_h7

def k0_chk1466 (k0_t1 : Fin k0_t1_loop.trips) (v2722 : IVec S16 32) (v2741 : IVec S16 32) : Prop :=
  (∀ (k0_h7 : k0_cond7 k0_t1 = 1#1), ∀ a x, ((![v2722, v2741] : Fin 2 → IVec S16 32) a x).toNat < S512x16.size a)
theorem k0_idx1466_inb : ∀ (k0_t1 : Fin k0_t1_loop.trips) (v2722 : IVec S16 32) (v2741 : IVec S16 32) (k0_hw1466 : k0_chk1466 k0_t1 v2722 v2741), ∀ (k0_h7 : k0_cond7 k0_t1 = 1#1), ∀ a x, ((![v2722, v2741] : Fin 2 → IVec S16 32) a x).toNat < S512x16.size a := fun k0_t1 v2722 v2741 k0_hw1466 k0_h7 => k0_hw1466 k0_h7

def k0_chk1467 (k0_t1 : Fin k0_t1_loop.trips) (v2722 : IVec S16 32) (v2743 : IVec S16 32) : Prop :=
  (∀ (k0_h7 : k0_cond7 k0_t1 = 1#1), ∀ a x, ((![v2722, v2743] : Fin 2 → IVec S16 32) a x).toNat < S512x16.size a)
theorem k0_idx1467_inb : ∀ (k0_t1 : Fin k0_t1_loop.trips) (v2722 : IVec S16 32) (v2743 : IVec S16 32) (k0_hw1467 : k0_chk1467 k0_t1 v2722 v2743), ∀ (k0_h7 : k0_cond7 k0_t1 = 1#1), ∀ a x, ((![v2722, v2743] : Fin 2 → IVec S16 32) a x).toNat < S512x16.size a := fun k0_t1 v2722 v2743 k0_hw1467 k0_h7 => k0_hw1467 k0_h7

def k0_chk1468 (k0_t1 : Fin k0_t1_loop.trips) (v2722 : IVec S16 32) (v2745 : IVec S16 32) : Prop :=
  (∀ (k0_h7 : k0_cond7 k0_t1 = 1#1), ∀ a x, ((![v2722, v2745] : Fin 2 → IVec S16 32) a x).toNat < S512x16.size a)
theorem k0_idx1468_inb : ∀ (k0_t1 : Fin k0_t1_loop.trips) (v2722 : IVec S16 32) (v2745 : IVec S16 32) (k0_hw1468 : k0_chk1468 k0_t1 v2722 v2745), ∀ (k0_h7 : k0_cond7 k0_t1 = 1#1), ∀ a x, ((![v2722, v2745] : Fin 2 → IVec S16 32) a x).toNat < S512x16.size a := fun k0_t1 v2722 v2745 k0_hw1468 k0_h7 => k0_hw1468 k0_h7

def k0_chk1469 (k0_t1 : Fin k0_t1_loop.trips) (v2722 : IVec S16 32) (v2747 : IVec S16 32) : Prop :=
  (∀ (k0_h7 : k0_cond7 k0_t1 = 1#1), ∀ a x, ((![v2722, v2747] : Fin 2 → IVec S16 32) a x).toNat < S512x16.size a)
theorem k0_idx1469_inb : ∀ (k0_t1 : Fin k0_t1_loop.trips) (v2722 : IVec S16 32) (v2747 : IVec S16 32) (k0_hw1469 : k0_chk1469 k0_t1 v2722 v2747), ∀ (k0_h7 : k0_cond7 k0_t1 = 1#1), ∀ a x, ((![v2722, v2747] : Fin 2 → IVec S16 32) a x).toNat < S512x16.size a := fun k0_t1 v2722 v2747 k0_hw1469 k0_h7 => k0_hw1469 k0_h7

def k0_chk1470 (k0_t1 : Fin k0_t1_loop.trips) (v2722 : IVec S16 32) (v2749 : IVec S16 32) : Prop :=
  (∀ (k0_h7 : k0_cond7 k0_t1 = 1#1), ∀ a x, ((![v2722, v2749] : Fin 2 → IVec S16 32) a x).toNat < S512x16.size a)
theorem k0_idx1470_inb : ∀ (k0_t1 : Fin k0_t1_loop.trips) (v2722 : IVec S16 32) (v2749 : IVec S16 32) (k0_hw1470 : k0_chk1470 k0_t1 v2722 v2749), ∀ (k0_h7 : k0_cond7 k0_t1 = 1#1), ∀ a x, ((![v2722, v2749] : Fin 2 → IVec S16 32) a x).toNat < S512x16.size a := fun k0_t1 v2722 v2749 k0_hw1470 k0_h7 => k0_hw1470 k0_h7

def k0_chk1471 (k0_t1 : Fin k0_t1_loop.trips) (v2722 : IVec S16 32) (v2751 : IVec S16 32) : Prop :=
  (∀ (k0_h7 : k0_cond7 k0_t1 = 1#1), ∀ a x, ((![v2722, v2751] : Fin 2 → IVec S16 32) a x).toNat < S512x16.size a)
theorem k0_idx1471_inb : ∀ (k0_t1 : Fin k0_t1_loop.trips) (v2722 : IVec S16 32) (v2751 : IVec S16 32) (k0_hw1471 : k0_chk1471 k0_t1 v2722 v2751), ∀ (k0_h7 : k0_cond7 k0_t1 = 1#1), ∀ a x, ((![v2722, v2751] : Fin 2 → IVec S16 32) a x).toNat < S512x16.size a := fun k0_t1 v2722 v2751 k0_hw1471 k0_h7 => k0_hw1471 k0_h7

def k0_chk1472 (k0_t1 : Fin k0_t1_loop.trips) (v2722 : IVec S16 32) (v2753 : IVec S16 32) : Prop :=
  (∀ (k0_h7 : k0_cond7 k0_t1 = 1#1), ∀ a x, ((![v2722, v2753] : Fin 2 → IVec S16 32) a x).toNat < S512x16.size a)
theorem k0_idx1472_inb : ∀ (k0_t1 : Fin k0_t1_loop.trips) (v2722 : IVec S16 32) (v2753 : IVec S16 32) (k0_hw1472 : k0_chk1472 k0_t1 v2722 v2753), ∀ (k0_h7 : k0_cond7 k0_t1 = 1#1), ∀ a x, ((![v2722, v2753] : Fin 2 → IVec S16 32) a x).toNat < S512x16.size a := fun k0_t1 v2722 v2753 k0_hw1472 k0_h7 => k0_hw1472 k0_h7

def k0_chk1473 (k0_t1 : Fin k0_t1_loop.trips) (v2821 : IVec S16 32) (v2822 : IVec S16 32) : Prop :=
  (∀ (k0_h7 : k0_cond7 k0_t1 = 1#1), ∀ a x, ((![v2821, v2822] : Fin 2 → IVec S16 32) a x).toNat < S512x16.size a)
theorem k0_idx1473_inb : ∀ (k0_t1 : Fin k0_t1_loop.trips) (v2821 : IVec S16 32) (v2822 : IVec S16 32) (k0_hw1473 : k0_chk1473 k0_t1 v2821 v2822), ∀ (k0_h7 : k0_cond7 k0_t1 = 1#1), ∀ a x, ((![v2821, v2822] : Fin 2 → IVec S16 32) a x).toNat < S512x16.size a := fun k0_t1 v2821 v2822 k0_hw1473 k0_h7 => k0_hw1473 k0_h7

def k0_chk1474 (k0_t1 : Fin k0_t1_loop.trips) (v2821 : IVec S16 32) (v2824 : IVec S16 32) : Prop :=
  (∀ (k0_h7 : k0_cond7 k0_t1 = 1#1), ∀ a x, ((![v2821, v2824] : Fin 2 → IVec S16 32) a x).toNat < S512x16.size a)
theorem k0_idx1474_inb : ∀ (k0_t1 : Fin k0_t1_loop.trips) (v2821 : IVec S16 32) (v2824 : IVec S16 32) (k0_hw1474 : k0_chk1474 k0_t1 v2821 v2824), ∀ (k0_h7 : k0_cond7 k0_t1 = 1#1), ∀ a x, ((![v2821, v2824] : Fin 2 → IVec S16 32) a x).toNat < S512x16.size a := fun k0_t1 v2821 v2824 k0_hw1474 k0_h7 => k0_hw1474 k0_h7

def k0_chk1475 (k0_t1 : Fin k0_t1_loop.trips) (v2821 : IVec S16 32) (v2826 : IVec S16 32) : Prop :=
  (∀ (k0_h7 : k0_cond7 k0_t1 = 1#1), ∀ a x, ((![v2821, v2826] : Fin 2 → IVec S16 32) a x).toNat < S512x16.size a)
theorem k0_idx1475_inb : ∀ (k0_t1 : Fin k0_t1_loop.trips) (v2821 : IVec S16 32) (v2826 : IVec S16 32) (k0_hw1475 : k0_chk1475 k0_t1 v2821 v2826), ∀ (k0_h7 : k0_cond7 k0_t1 = 1#1), ∀ a x, ((![v2821, v2826] : Fin 2 → IVec S16 32) a x).toNat < S512x16.size a := fun k0_t1 v2821 v2826 k0_hw1475 k0_h7 => k0_hw1475 k0_h7

def k0_chk1476 (k0_t1 : Fin k0_t1_loop.trips) (v2821 : IVec S16 32) (v2828 : IVec S16 32) : Prop :=
  (∀ (k0_h7 : k0_cond7 k0_t1 = 1#1), ∀ a x, ((![v2821, v2828] : Fin 2 → IVec S16 32) a x).toNat < S512x16.size a)
theorem k0_idx1476_inb : ∀ (k0_t1 : Fin k0_t1_loop.trips) (v2821 : IVec S16 32) (v2828 : IVec S16 32) (k0_hw1476 : k0_chk1476 k0_t1 v2821 v2828), ∀ (k0_h7 : k0_cond7 k0_t1 = 1#1), ∀ a x, ((![v2821, v2828] : Fin 2 → IVec S16 32) a x).toNat < S512x16.size a := fun k0_t1 v2821 v2828 k0_hw1476 k0_h7 => k0_hw1476 k0_h7

def k0_chk1477 (k0_t1 : Fin k0_t1_loop.trips) (v2821 : IVec S16 32) (v2830 : IVec S16 32) : Prop :=
  (∀ (k0_h7 : k0_cond7 k0_t1 = 1#1), ∀ a x, ((![v2821, v2830] : Fin 2 → IVec S16 32) a x).toNat < S512x16.size a)
theorem k0_idx1477_inb : ∀ (k0_t1 : Fin k0_t1_loop.trips) (v2821 : IVec S16 32) (v2830 : IVec S16 32) (k0_hw1477 : k0_chk1477 k0_t1 v2821 v2830), ∀ (k0_h7 : k0_cond7 k0_t1 = 1#1), ∀ a x, ((![v2821, v2830] : Fin 2 → IVec S16 32) a x).toNat < S512x16.size a := fun k0_t1 v2821 v2830 k0_hw1477 k0_h7 => k0_hw1477 k0_h7

def k0_chk1478 (k0_t1 : Fin k0_t1_loop.trips) (v2821 : IVec S16 32) (v2832 : IVec S16 32) : Prop :=
  (∀ (k0_h7 : k0_cond7 k0_t1 = 1#1), ∀ a x, ((![v2821, v2832] : Fin 2 → IVec S16 32) a x).toNat < S512x16.size a)
theorem k0_idx1478_inb : ∀ (k0_t1 : Fin k0_t1_loop.trips) (v2821 : IVec S16 32) (v2832 : IVec S16 32) (k0_hw1478 : k0_chk1478 k0_t1 v2821 v2832), ∀ (k0_h7 : k0_cond7 k0_t1 = 1#1), ∀ a x, ((![v2821, v2832] : Fin 2 → IVec S16 32) a x).toNat < S512x16.size a := fun k0_t1 v2821 v2832 k0_hw1478 k0_h7 => k0_hw1478 k0_h7

def k0_chk1479 (k0_t1 : Fin k0_t1_loop.trips) (v2821 : IVec S16 32) (v2834 : IVec S16 32) : Prop :=
  (∀ (k0_h7 : k0_cond7 k0_t1 = 1#1), ∀ a x, ((![v2821, v2834] : Fin 2 → IVec S16 32) a x).toNat < S512x16.size a)
theorem k0_idx1479_inb : ∀ (k0_t1 : Fin k0_t1_loop.trips) (v2821 : IVec S16 32) (v2834 : IVec S16 32) (k0_hw1479 : k0_chk1479 k0_t1 v2821 v2834), ∀ (k0_h7 : k0_cond7 k0_t1 = 1#1), ∀ a x, ((![v2821, v2834] : Fin 2 → IVec S16 32) a x).toNat < S512x16.size a := fun k0_t1 v2821 v2834 k0_hw1479 k0_h7 => k0_hw1479 k0_h7

def k0_chk1480 (k0_t1 : Fin k0_t1_loop.trips) (v2821 : IVec S16 32) (v2836 : IVec S16 32) : Prop :=
  (∀ (k0_h7 : k0_cond7 k0_t1 = 1#1), ∀ a x, ((![v2821, v2836] : Fin 2 → IVec S16 32) a x).toNat < S512x16.size a)
theorem k0_idx1480_inb : ∀ (k0_t1 : Fin k0_t1_loop.trips) (v2821 : IVec S16 32) (v2836 : IVec S16 32) (k0_hw1480 : k0_chk1480 k0_t1 v2821 v2836), ∀ (k0_h7 : k0_cond7 k0_t1 = 1#1), ∀ a x, ((![v2821, v2836] : Fin 2 → IVec S16 32) a x).toNat < S512x16.size a := fun k0_t1 v2821 v2836 k0_hw1480 k0_h7 => k0_hw1480 k0_h7

def k0_chk1481 (k0_t1 : Fin k0_t1_loop.trips) (v2821 : IVec S16 32) (v2838 : IVec S16 32) : Prop :=
  (∀ (k0_h7 : k0_cond7 k0_t1 = 1#1), ∀ a x, ((![v2821, v2838] : Fin 2 → IVec S16 32) a x).toNat < S512x16.size a)
theorem k0_idx1481_inb : ∀ (k0_t1 : Fin k0_t1_loop.trips) (v2821 : IVec S16 32) (v2838 : IVec S16 32) (k0_hw1481 : k0_chk1481 k0_t1 v2821 v2838), ∀ (k0_h7 : k0_cond7 k0_t1 = 1#1), ∀ a x, ((![v2821, v2838] : Fin 2 → IVec S16 32) a x).toNat < S512x16.size a := fun k0_t1 v2821 v2838 k0_hw1481 k0_h7 => k0_hw1481 k0_h7

def k0_chk1482 (k0_t1 : Fin k0_t1_loop.trips) (v2821 : IVec S16 32) (v2840 : IVec S16 32) : Prop :=
  (∀ (k0_h7 : k0_cond7 k0_t1 = 1#1), ∀ a x, ((![v2821, v2840] : Fin 2 → IVec S16 32) a x).toNat < S512x16.size a)
theorem k0_idx1482_inb : ∀ (k0_t1 : Fin k0_t1_loop.trips) (v2821 : IVec S16 32) (v2840 : IVec S16 32) (k0_hw1482 : k0_chk1482 k0_t1 v2821 v2840), ∀ (k0_h7 : k0_cond7 k0_t1 = 1#1), ∀ a x, ((![v2821, v2840] : Fin 2 → IVec S16 32) a x).toNat < S512x16.size a := fun k0_t1 v2821 v2840 k0_hw1482 k0_h7 => k0_hw1482 k0_h7

def k0_chk1483 (k0_t1 : Fin k0_t1_loop.trips) (v2821 : IVec S16 32) (v2842 : IVec S16 32) : Prop :=
  (∀ (k0_h7 : k0_cond7 k0_t1 = 1#1), ∀ a x, ((![v2821, v2842] : Fin 2 → IVec S16 32) a x).toNat < S512x16.size a)
theorem k0_idx1483_inb : ∀ (k0_t1 : Fin k0_t1_loop.trips) (v2821 : IVec S16 32) (v2842 : IVec S16 32) (k0_hw1483 : k0_chk1483 k0_t1 v2821 v2842), ∀ (k0_h7 : k0_cond7 k0_t1 = 1#1), ∀ a x, ((![v2821, v2842] : Fin 2 → IVec S16 32) a x).toNat < S512x16.size a := fun k0_t1 v2821 v2842 k0_hw1483 k0_h7 => k0_hw1483 k0_h7

def k0_chk1484 (k0_t1 : Fin k0_t1_loop.trips) (v2821 : IVec S16 32) (v2844 : IVec S16 32) : Prop :=
  (∀ (k0_h7 : k0_cond7 k0_t1 = 1#1), ∀ a x, ((![v2821, v2844] : Fin 2 → IVec S16 32) a x).toNat < S512x16.size a)
theorem k0_idx1484_inb : ∀ (k0_t1 : Fin k0_t1_loop.trips) (v2821 : IVec S16 32) (v2844 : IVec S16 32) (k0_hw1484 : k0_chk1484 k0_t1 v2821 v2844), ∀ (k0_h7 : k0_cond7 k0_t1 = 1#1), ∀ a x, ((![v2821, v2844] : Fin 2 → IVec S16 32) a x).toNat < S512x16.size a := fun k0_t1 v2821 v2844 k0_hw1484 k0_h7 => k0_hw1484 k0_h7

def k0_chk1485 (k0_t1 : Fin k0_t1_loop.trips) (v2821 : IVec S16 32) (v2846 : IVec S16 32) : Prop :=
  (∀ (k0_h7 : k0_cond7 k0_t1 = 1#1), ∀ a x, ((![v2821, v2846] : Fin 2 → IVec S16 32) a x).toNat < S512x16.size a)
theorem k0_idx1485_inb : ∀ (k0_t1 : Fin k0_t1_loop.trips) (v2821 : IVec S16 32) (v2846 : IVec S16 32) (k0_hw1485 : k0_chk1485 k0_t1 v2821 v2846), ∀ (k0_h7 : k0_cond7 k0_t1 = 1#1), ∀ a x, ((![v2821, v2846] : Fin 2 → IVec S16 32) a x).toNat < S512x16.size a := fun k0_t1 v2821 v2846 k0_hw1485 k0_h7 => k0_hw1485 k0_h7

def k0_chk1486 (k0_t1 : Fin k0_t1_loop.trips) (v2821 : IVec S16 32) (v2848 : IVec S16 32) : Prop :=
  (∀ (k0_h7 : k0_cond7 k0_t1 = 1#1), ∀ a x, ((![v2821, v2848] : Fin 2 → IVec S16 32) a x).toNat < S512x16.size a)
theorem k0_idx1486_inb : ∀ (k0_t1 : Fin k0_t1_loop.trips) (v2821 : IVec S16 32) (v2848 : IVec S16 32) (k0_hw1486 : k0_chk1486 k0_t1 v2821 v2848), ∀ (k0_h7 : k0_cond7 k0_t1 = 1#1), ∀ a x, ((![v2821, v2848] : Fin 2 → IVec S16 32) a x).toNat < S512x16.size a := fun k0_t1 v2821 v2848 k0_hw1486 k0_h7 => k0_hw1486 k0_h7

def k0_chk1487 (k0_t1 : Fin k0_t1_loop.trips) (v2821 : IVec S16 32) (v2850 : IVec S16 32) : Prop :=
  (∀ (k0_h7 : k0_cond7 k0_t1 = 1#1), ∀ a x, ((![v2821, v2850] : Fin 2 → IVec S16 32) a x).toNat < S512x16.size a)
theorem k0_idx1487_inb : ∀ (k0_t1 : Fin k0_t1_loop.trips) (v2821 : IVec S16 32) (v2850 : IVec S16 32) (k0_hw1487 : k0_chk1487 k0_t1 v2821 v2850), ∀ (k0_h7 : k0_cond7 k0_t1 = 1#1), ∀ a x, ((![v2821, v2850] : Fin 2 → IVec S16 32) a x).toNat < S512x16.size a := fun k0_t1 v2821 v2850 k0_hw1487 k0_h7 => k0_hw1487 k0_h7

def k0_chk1488 (k0_t1 : Fin k0_t1_loop.trips) (v2821 : IVec S16 32) (v2852 : IVec S16 32) : Prop :=
  (∀ (k0_h7 : k0_cond7 k0_t1 = 1#1), ∀ a x, ((![v2821, v2852] : Fin 2 → IVec S16 32) a x).toNat < S512x16.size a)
theorem k0_idx1488_inb : ∀ (k0_t1 : Fin k0_t1_loop.trips) (v2821 : IVec S16 32) (v2852 : IVec S16 32) (k0_hw1488 : k0_chk1488 k0_t1 v2821 v2852), ∀ (k0_h7 : k0_cond7 k0_t1 = 1#1), ∀ a x, ((![v2821, v2852] : Fin 2 → IVec S16 32) a x).toNat < S512x16.size a := fun k0_t1 v2821 v2852 k0_hw1488 k0_h7 => k0_hw1488 k0_h7

def k0_chk1489 (k0_t1 : Fin k0_t1_loop.trips) (v2920 : IVec S16 32) (v2921 : IVec S16 32) : Prop :=
  (∀ (k0_h7 : k0_cond7 k0_t1 = 1#1), ∀ a x, ((![v2920, v2921] : Fin 2 → IVec S16 32) a x).toNat < S512x16.size a)
theorem k0_idx1489_inb : ∀ (k0_t1 : Fin k0_t1_loop.trips) (v2920 : IVec S16 32) (v2921 : IVec S16 32) (k0_hw1489 : k0_chk1489 k0_t1 v2920 v2921), ∀ (k0_h7 : k0_cond7 k0_t1 = 1#1), ∀ a x, ((![v2920, v2921] : Fin 2 → IVec S16 32) a x).toNat < S512x16.size a := fun k0_t1 v2920 v2921 k0_hw1489 k0_h7 => k0_hw1489 k0_h7

def k0_chk1490 (k0_t1 : Fin k0_t1_loop.trips) (v2920 : IVec S16 32) (v2923 : IVec S16 32) : Prop :=
  (∀ (k0_h7 : k0_cond7 k0_t1 = 1#1), ∀ a x, ((![v2920, v2923] : Fin 2 → IVec S16 32) a x).toNat < S512x16.size a)
theorem k0_idx1490_inb : ∀ (k0_t1 : Fin k0_t1_loop.trips) (v2920 : IVec S16 32) (v2923 : IVec S16 32) (k0_hw1490 : k0_chk1490 k0_t1 v2920 v2923), ∀ (k0_h7 : k0_cond7 k0_t1 = 1#1), ∀ a x, ((![v2920, v2923] : Fin 2 → IVec S16 32) a x).toNat < S512x16.size a := fun k0_t1 v2920 v2923 k0_hw1490 k0_h7 => k0_hw1490 k0_h7

def k0_chk1491 (k0_t1 : Fin k0_t1_loop.trips) (v2920 : IVec S16 32) (v2925 : IVec S16 32) : Prop :=
  (∀ (k0_h7 : k0_cond7 k0_t1 = 1#1), ∀ a x, ((![v2920, v2925] : Fin 2 → IVec S16 32) a x).toNat < S512x16.size a)
theorem k0_idx1491_inb : ∀ (k0_t1 : Fin k0_t1_loop.trips) (v2920 : IVec S16 32) (v2925 : IVec S16 32) (k0_hw1491 : k0_chk1491 k0_t1 v2920 v2925), ∀ (k0_h7 : k0_cond7 k0_t1 = 1#1), ∀ a x, ((![v2920, v2925] : Fin 2 → IVec S16 32) a x).toNat < S512x16.size a := fun k0_t1 v2920 v2925 k0_hw1491 k0_h7 => k0_hw1491 k0_h7

def k0_chk1492 (k0_t1 : Fin k0_t1_loop.trips) (v2920 : IVec S16 32) (v2927 : IVec S16 32) : Prop :=
  (∀ (k0_h7 : k0_cond7 k0_t1 = 1#1), ∀ a x, ((![v2920, v2927] : Fin 2 → IVec S16 32) a x).toNat < S512x16.size a)
theorem k0_idx1492_inb : ∀ (k0_t1 : Fin k0_t1_loop.trips) (v2920 : IVec S16 32) (v2927 : IVec S16 32) (k0_hw1492 : k0_chk1492 k0_t1 v2920 v2927), ∀ (k0_h7 : k0_cond7 k0_t1 = 1#1), ∀ a x, ((![v2920, v2927] : Fin 2 → IVec S16 32) a x).toNat < S512x16.size a := fun k0_t1 v2920 v2927 k0_hw1492 k0_h7 => k0_hw1492 k0_h7

def k0_chk1493 (k0_t1 : Fin k0_t1_loop.trips) (v2920 : IVec S16 32) (v2929 : IVec S16 32) : Prop :=
  (∀ (k0_h7 : k0_cond7 k0_t1 = 1#1), ∀ a x, ((![v2920, v2929] : Fin 2 → IVec S16 32) a x).toNat < S512x16.size a)
theorem k0_idx1493_inb : ∀ (k0_t1 : Fin k0_t1_loop.trips) (v2920 : IVec S16 32) (v2929 : IVec S16 32) (k0_hw1493 : k0_chk1493 k0_t1 v2920 v2929), ∀ (k0_h7 : k0_cond7 k0_t1 = 1#1), ∀ a x, ((![v2920, v2929] : Fin 2 → IVec S16 32) a x).toNat < S512x16.size a := fun k0_t1 v2920 v2929 k0_hw1493 k0_h7 => k0_hw1493 k0_h7

def k0_chk1494 (k0_t1 : Fin k0_t1_loop.trips) (v2920 : IVec S16 32) (v2931 : IVec S16 32) : Prop :=
  (∀ (k0_h7 : k0_cond7 k0_t1 = 1#1), ∀ a x, ((![v2920, v2931] : Fin 2 → IVec S16 32) a x).toNat < S512x16.size a)
theorem k0_idx1494_inb : ∀ (k0_t1 : Fin k0_t1_loop.trips) (v2920 : IVec S16 32) (v2931 : IVec S16 32) (k0_hw1494 : k0_chk1494 k0_t1 v2920 v2931), ∀ (k0_h7 : k0_cond7 k0_t1 = 1#1), ∀ a x, ((![v2920, v2931] : Fin 2 → IVec S16 32) a x).toNat < S512x16.size a := fun k0_t1 v2920 v2931 k0_hw1494 k0_h7 => k0_hw1494 k0_h7

def k0_chk1495 (k0_t1 : Fin k0_t1_loop.trips) (v2920 : IVec S16 32) (v2933 : IVec S16 32) : Prop :=
  (∀ (k0_h7 : k0_cond7 k0_t1 = 1#1), ∀ a x, ((![v2920, v2933] : Fin 2 → IVec S16 32) a x).toNat < S512x16.size a)
theorem k0_idx1495_inb : ∀ (k0_t1 : Fin k0_t1_loop.trips) (v2920 : IVec S16 32) (v2933 : IVec S16 32) (k0_hw1495 : k0_chk1495 k0_t1 v2920 v2933), ∀ (k0_h7 : k0_cond7 k0_t1 = 1#1), ∀ a x, ((![v2920, v2933] : Fin 2 → IVec S16 32) a x).toNat < S512x16.size a := fun k0_t1 v2920 v2933 k0_hw1495 k0_h7 => k0_hw1495 k0_h7

def k0_chk1496 (k0_t1 : Fin k0_t1_loop.trips) (v2920 : IVec S16 32) (v2935 : IVec S16 32) : Prop :=
  (∀ (k0_h7 : k0_cond7 k0_t1 = 1#1), ∀ a x, ((![v2920, v2935] : Fin 2 → IVec S16 32) a x).toNat < S512x16.size a)
theorem k0_idx1496_inb : ∀ (k0_t1 : Fin k0_t1_loop.trips) (v2920 : IVec S16 32) (v2935 : IVec S16 32) (k0_hw1496 : k0_chk1496 k0_t1 v2920 v2935), ∀ (k0_h7 : k0_cond7 k0_t1 = 1#1), ∀ a x, ((![v2920, v2935] : Fin 2 → IVec S16 32) a x).toNat < S512x16.size a := fun k0_t1 v2920 v2935 k0_hw1496 k0_h7 => k0_hw1496 k0_h7

def k0_chk1497 (k0_t1 : Fin k0_t1_loop.trips) (v2920 : IVec S16 32) (v2937 : IVec S16 32) : Prop :=
  (∀ (k0_h7 : k0_cond7 k0_t1 = 1#1), ∀ a x, ((![v2920, v2937] : Fin 2 → IVec S16 32) a x).toNat < S512x16.size a)
theorem k0_idx1497_inb : ∀ (k0_t1 : Fin k0_t1_loop.trips) (v2920 : IVec S16 32) (v2937 : IVec S16 32) (k0_hw1497 : k0_chk1497 k0_t1 v2920 v2937), ∀ (k0_h7 : k0_cond7 k0_t1 = 1#1), ∀ a x, ((![v2920, v2937] : Fin 2 → IVec S16 32) a x).toNat < S512x16.size a := fun k0_t1 v2920 v2937 k0_hw1497 k0_h7 => k0_hw1497 k0_h7

def k0_chk1498 (k0_t1 : Fin k0_t1_loop.trips) (v2920 : IVec S16 32) (v2939 : IVec S16 32) : Prop :=
  (∀ (k0_h7 : k0_cond7 k0_t1 = 1#1), ∀ a x, ((![v2920, v2939] : Fin 2 → IVec S16 32) a x).toNat < S512x16.size a)
theorem k0_idx1498_inb : ∀ (k0_t1 : Fin k0_t1_loop.trips) (v2920 : IVec S16 32) (v2939 : IVec S16 32) (k0_hw1498 : k0_chk1498 k0_t1 v2920 v2939), ∀ (k0_h7 : k0_cond7 k0_t1 = 1#1), ∀ a x, ((![v2920, v2939] : Fin 2 → IVec S16 32) a x).toNat < S512x16.size a := fun k0_t1 v2920 v2939 k0_hw1498 k0_h7 => k0_hw1498 k0_h7

def k0_chk1499 (k0_t1 : Fin k0_t1_loop.trips) (v2920 : IVec S16 32) (v2941 : IVec S16 32) : Prop :=
  (∀ (k0_h7 : k0_cond7 k0_t1 = 1#1), ∀ a x, ((![v2920, v2941] : Fin 2 → IVec S16 32) a x).toNat < S512x16.size a)
theorem k0_idx1499_inb : ∀ (k0_t1 : Fin k0_t1_loop.trips) (v2920 : IVec S16 32) (v2941 : IVec S16 32) (k0_hw1499 : k0_chk1499 k0_t1 v2920 v2941), ∀ (k0_h7 : k0_cond7 k0_t1 = 1#1), ∀ a x, ((![v2920, v2941] : Fin 2 → IVec S16 32) a x).toNat < S512x16.size a := fun k0_t1 v2920 v2941 k0_hw1499 k0_h7 => k0_hw1499 k0_h7

def k0_chk1500 (k0_t1 : Fin k0_t1_loop.trips) (v2920 : IVec S16 32) (v2943 : IVec S16 32) : Prop :=
  (∀ (k0_h7 : k0_cond7 k0_t1 = 1#1), ∀ a x, ((![v2920, v2943] : Fin 2 → IVec S16 32) a x).toNat < S512x16.size a)
theorem k0_idx1500_inb : ∀ (k0_t1 : Fin k0_t1_loop.trips) (v2920 : IVec S16 32) (v2943 : IVec S16 32) (k0_hw1500 : k0_chk1500 k0_t1 v2920 v2943), ∀ (k0_h7 : k0_cond7 k0_t1 = 1#1), ∀ a x, ((![v2920, v2943] : Fin 2 → IVec S16 32) a x).toNat < S512x16.size a := fun k0_t1 v2920 v2943 k0_hw1500 k0_h7 => k0_hw1500 k0_h7

def k0_chk1501 (k0_t1 : Fin k0_t1_loop.trips) (v2920 : IVec S16 32) (v2945 : IVec S16 32) : Prop :=
  (∀ (k0_h7 : k0_cond7 k0_t1 = 1#1), ∀ a x, ((![v2920, v2945] : Fin 2 → IVec S16 32) a x).toNat < S512x16.size a)
theorem k0_idx1501_inb : ∀ (k0_t1 : Fin k0_t1_loop.trips) (v2920 : IVec S16 32) (v2945 : IVec S16 32) (k0_hw1501 : k0_chk1501 k0_t1 v2920 v2945), ∀ (k0_h7 : k0_cond7 k0_t1 = 1#1), ∀ a x, ((![v2920, v2945] : Fin 2 → IVec S16 32) a x).toNat < S512x16.size a := fun k0_t1 v2920 v2945 k0_hw1501 k0_h7 => k0_hw1501 k0_h7

def k0_chk1502 (k0_t1 : Fin k0_t1_loop.trips) (v2920 : IVec S16 32) (v2947 : IVec S16 32) : Prop :=
  (∀ (k0_h7 : k0_cond7 k0_t1 = 1#1), ∀ a x, ((![v2920, v2947] : Fin 2 → IVec S16 32) a x).toNat < S512x16.size a)
theorem k0_idx1502_inb : ∀ (k0_t1 : Fin k0_t1_loop.trips) (v2920 : IVec S16 32) (v2947 : IVec S16 32) (k0_hw1502 : k0_chk1502 k0_t1 v2920 v2947), ∀ (k0_h7 : k0_cond7 k0_t1 = 1#1), ∀ a x, ((![v2920, v2947] : Fin 2 → IVec S16 32) a x).toNat < S512x16.size a := fun k0_t1 v2920 v2947 k0_hw1502 k0_h7 => k0_hw1502 k0_h7

def k0_chk1503 (k0_t1 : Fin k0_t1_loop.trips) (v2920 : IVec S16 32) (v2949 : IVec S16 32) : Prop :=
  (∀ (k0_h7 : k0_cond7 k0_t1 = 1#1), ∀ a x, ((![v2920, v2949] : Fin 2 → IVec S16 32) a x).toNat < S512x16.size a)
theorem k0_idx1503_inb : ∀ (k0_t1 : Fin k0_t1_loop.trips) (v2920 : IVec S16 32) (v2949 : IVec S16 32) (k0_hw1503 : k0_chk1503 k0_t1 v2920 v2949), ∀ (k0_h7 : k0_cond7 k0_t1 = 1#1), ∀ a x, ((![v2920, v2949] : Fin 2 → IVec S16 32) a x).toNat < S512x16.size a := fun k0_t1 v2920 v2949 k0_hw1503 k0_h7 => k0_hw1503 k0_h7

def k0_chk1504 (k0_t1 : Fin k0_t1_loop.trips) (v2920 : IVec S16 32) (v2951 : IVec S16 32) : Prop :=
  (∀ (k0_h7 : k0_cond7 k0_t1 = 1#1), ∀ a x, ((![v2920, v2951] : Fin 2 → IVec S16 32) a x).toNat < S512x16.size a)
theorem k0_idx1504_inb : ∀ (k0_t1 : Fin k0_t1_loop.trips) (v2920 : IVec S16 32) (v2951 : IVec S16 32) (k0_hw1504 : k0_chk1504 k0_t1 v2920 v2951), ∀ (k0_h7 : k0_cond7 k0_t1 = 1#1), ∀ a x, ((![v2920, v2951] : Fin 2 → IVec S16 32) a x).toNat < S512x16.size a := fun k0_t1 v2920 v2951 k0_hw1504 k0_h7 => k0_hw1504 k0_h7

def k0_chk1505 (k0_t1 : Fin k0_t1_loop.trips) (v3019 : IVec S16 32) (v3020 : IVec S16 32) : Prop :=
  (∀ (k0_h7 : k0_cond7 k0_t1 = 1#1), ∀ a x, ((![v3019, v3020] : Fin 2 → IVec S16 32) a x).toNat < S512x16.size a)
theorem k0_idx1505_inb : ∀ (k0_t1 : Fin k0_t1_loop.trips) (v3019 : IVec S16 32) (v3020 : IVec S16 32) (k0_hw1505 : k0_chk1505 k0_t1 v3019 v3020), ∀ (k0_h7 : k0_cond7 k0_t1 = 1#1), ∀ a x, ((![v3019, v3020] : Fin 2 → IVec S16 32) a x).toNat < S512x16.size a := fun k0_t1 v3019 v3020 k0_hw1505 k0_h7 => k0_hw1505 k0_h7

def k0_chk1506 (k0_t1 : Fin k0_t1_loop.trips) (v3019 : IVec S16 32) (v3022 : IVec S16 32) : Prop :=
  (∀ (k0_h7 : k0_cond7 k0_t1 = 1#1), ∀ a x, ((![v3019, v3022] : Fin 2 → IVec S16 32) a x).toNat < S512x16.size a)
theorem k0_idx1506_inb : ∀ (k0_t1 : Fin k0_t1_loop.trips) (v3019 : IVec S16 32) (v3022 : IVec S16 32) (k0_hw1506 : k0_chk1506 k0_t1 v3019 v3022), ∀ (k0_h7 : k0_cond7 k0_t1 = 1#1), ∀ a x, ((![v3019, v3022] : Fin 2 → IVec S16 32) a x).toNat < S512x16.size a := fun k0_t1 v3019 v3022 k0_hw1506 k0_h7 => k0_hw1506 k0_h7

def k0_chk1507 (k0_t1 : Fin k0_t1_loop.trips) (v3019 : IVec S16 32) (v3024 : IVec S16 32) : Prop :=
  (∀ (k0_h7 : k0_cond7 k0_t1 = 1#1), ∀ a x, ((![v3019, v3024] : Fin 2 → IVec S16 32) a x).toNat < S512x16.size a)
theorem k0_idx1507_inb : ∀ (k0_t1 : Fin k0_t1_loop.trips) (v3019 : IVec S16 32) (v3024 : IVec S16 32) (k0_hw1507 : k0_chk1507 k0_t1 v3019 v3024), ∀ (k0_h7 : k0_cond7 k0_t1 = 1#1), ∀ a x, ((![v3019, v3024] : Fin 2 → IVec S16 32) a x).toNat < S512x16.size a := fun k0_t1 v3019 v3024 k0_hw1507 k0_h7 => k0_hw1507 k0_h7

def k0_chk1508 (k0_t1 : Fin k0_t1_loop.trips) (v3019 : IVec S16 32) (v3026 : IVec S16 32) : Prop :=
  (∀ (k0_h7 : k0_cond7 k0_t1 = 1#1), ∀ a x, ((![v3019, v3026] : Fin 2 → IVec S16 32) a x).toNat < S512x16.size a)
theorem k0_idx1508_inb : ∀ (k0_t1 : Fin k0_t1_loop.trips) (v3019 : IVec S16 32) (v3026 : IVec S16 32) (k0_hw1508 : k0_chk1508 k0_t1 v3019 v3026), ∀ (k0_h7 : k0_cond7 k0_t1 = 1#1), ∀ a x, ((![v3019, v3026] : Fin 2 → IVec S16 32) a x).toNat < S512x16.size a := fun k0_t1 v3019 v3026 k0_hw1508 k0_h7 => k0_hw1508 k0_h7

def k0_chk1509 (k0_t1 : Fin k0_t1_loop.trips) (v3019 : IVec S16 32) (v3028 : IVec S16 32) : Prop :=
  (∀ (k0_h7 : k0_cond7 k0_t1 = 1#1), ∀ a x, ((![v3019, v3028] : Fin 2 → IVec S16 32) a x).toNat < S512x16.size a)
theorem k0_idx1509_inb : ∀ (k0_t1 : Fin k0_t1_loop.trips) (v3019 : IVec S16 32) (v3028 : IVec S16 32) (k0_hw1509 : k0_chk1509 k0_t1 v3019 v3028), ∀ (k0_h7 : k0_cond7 k0_t1 = 1#1), ∀ a x, ((![v3019, v3028] : Fin 2 → IVec S16 32) a x).toNat < S512x16.size a := fun k0_t1 v3019 v3028 k0_hw1509 k0_h7 => k0_hw1509 k0_h7

def k0_chk1510 (k0_t1 : Fin k0_t1_loop.trips) (v3019 : IVec S16 32) (v3030 : IVec S16 32) : Prop :=
  (∀ (k0_h7 : k0_cond7 k0_t1 = 1#1), ∀ a x, ((![v3019, v3030] : Fin 2 → IVec S16 32) a x).toNat < S512x16.size a)
theorem k0_idx1510_inb : ∀ (k0_t1 : Fin k0_t1_loop.trips) (v3019 : IVec S16 32) (v3030 : IVec S16 32) (k0_hw1510 : k0_chk1510 k0_t1 v3019 v3030), ∀ (k0_h7 : k0_cond7 k0_t1 = 1#1), ∀ a x, ((![v3019, v3030] : Fin 2 → IVec S16 32) a x).toNat < S512x16.size a := fun k0_t1 v3019 v3030 k0_hw1510 k0_h7 => k0_hw1510 k0_h7

def k0_chk1511 (k0_t1 : Fin k0_t1_loop.trips) (v3019 : IVec S16 32) (v3032 : IVec S16 32) : Prop :=
  (∀ (k0_h7 : k0_cond7 k0_t1 = 1#1), ∀ a x, ((![v3019, v3032] : Fin 2 → IVec S16 32) a x).toNat < S512x16.size a)
theorem k0_idx1511_inb : ∀ (k0_t1 : Fin k0_t1_loop.trips) (v3019 : IVec S16 32) (v3032 : IVec S16 32) (k0_hw1511 : k0_chk1511 k0_t1 v3019 v3032), ∀ (k0_h7 : k0_cond7 k0_t1 = 1#1), ∀ a x, ((![v3019, v3032] : Fin 2 → IVec S16 32) a x).toNat < S512x16.size a := fun k0_t1 v3019 v3032 k0_hw1511 k0_h7 => k0_hw1511 k0_h7

def k0_chk1512 (k0_t1 : Fin k0_t1_loop.trips) (v3019 : IVec S16 32) (v3034 : IVec S16 32) : Prop :=
  (∀ (k0_h7 : k0_cond7 k0_t1 = 1#1), ∀ a x, ((![v3019, v3034] : Fin 2 → IVec S16 32) a x).toNat < S512x16.size a)
theorem k0_idx1512_inb : ∀ (k0_t1 : Fin k0_t1_loop.trips) (v3019 : IVec S16 32) (v3034 : IVec S16 32) (k0_hw1512 : k0_chk1512 k0_t1 v3019 v3034), ∀ (k0_h7 : k0_cond7 k0_t1 = 1#1), ∀ a x, ((![v3019, v3034] : Fin 2 → IVec S16 32) a x).toNat < S512x16.size a := fun k0_t1 v3019 v3034 k0_hw1512 k0_h7 => k0_hw1512 k0_h7

def k0_chk1513 (k0_t1 : Fin k0_t1_loop.trips) (v3019 : IVec S16 32) (v3036 : IVec S16 32) : Prop :=
  (∀ (k0_h7 : k0_cond7 k0_t1 = 1#1), ∀ a x, ((![v3019, v3036] : Fin 2 → IVec S16 32) a x).toNat < S512x16.size a)
theorem k0_idx1513_inb : ∀ (k0_t1 : Fin k0_t1_loop.trips) (v3019 : IVec S16 32) (v3036 : IVec S16 32) (k0_hw1513 : k0_chk1513 k0_t1 v3019 v3036), ∀ (k0_h7 : k0_cond7 k0_t1 = 1#1), ∀ a x, ((![v3019, v3036] : Fin 2 → IVec S16 32) a x).toNat < S512x16.size a := fun k0_t1 v3019 v3036 k0_hw1513 k0_h7 => k0_hw1513 k0_h7

def k0_chk1514 (k0_t1 : Fin k0_t1_loop.trips) (v3019 : IVec S16 32) (v3038 : IVec S16 32) : Prop :=
  (∀ (k0_h7 : k0_cond7 k0_t1 = 1#1), ∀ a x, ((![v3019, v3038] : Fin 2 → IVec S16 32) a x).toNat < S512x16.size a)
theorem k0_idx1514_inb : ∀ (k0_t1 : Fin k0_t1_loop.trips) (v3019 : IVec S16 32) (v3038 : IVec S16 32) (k0_hw1514 : k0_chk1514 k0_t1 v3019 v3038), ∀ (k0_h7 : k0_cond7 k0_t1 = 1#1), ∀ a x, ((![v3019, v3038] : Fin 2 → IVec S16 32) a x).toNat < S512x16.size a := fun k0_t1 v3019 v3038 k0_hw1514 k0_h7 => k0_hw1514 k0_h7

def k0_chk1515 (k0_t1 : Fin k0_t1_loop.trips) (v3019 : IVec S16 32) (v3040 : IVec S16 32) : Prop :=
  (∀ (k0_h7 : k0_cond7 k0_t1 = 1#1), ∀ a x, ((![v3019, v3040] : Fin 2 → IVec S16 32) a x).toNat < S512x16.size a)
theorem k0_idx1515_inb : ∀ (k0_t1 : Fin k0_t1_loop.trips) (v3019 : IVec S16 32) (v3040 : IVec S16 32) (k0_hw1515 : k0_chk1515 k0_t1 v3019 v3040), ∀ (k0_h7 : k0_cond7 k0_t1 = 1#1), ∀ a x, ((![v3019, v3040] : Fin 2 → IVec S16 32) a x).toNat < S512x16.size a := fun k0_t1 v3019 v3040 k0_hw1515 k0_h7 => k0_hw1515 k0_h7

def k0_chk1516 (k0_t1 : Fin k0_t1_loop.trips) (v3019 : IVec S16 32) (v3042 : IVec S16 32) : Prop :=
  (∀ (k0_h7 : k0_cond7 k0_t1 = 1#1), ∀ a x, ((![v3019, v3042] : Fin 2 → IVec S16 32) a x).toNat < S512x16.size a)
theorem k0_idx1516_inb : ∀ (k0_t1 : Fin k0_t1_loop.trips) (v3019 : IVec S16 32) (v3042 : IVec S16 32) (k0_hw1516 : k0_chk1516 k0_t1 v3019 v3042), ∀ (k0_h7 : k0_cond7 k0_t1 = 1#1), ∀ a x, ((![v3019, v3042] : Fin 2 → IVec S16 32) a x).toNat < S512x16.size a := fun k0_t1 v3019 v3042 k0_hw1516 k0_h7 => k0_hw1516 k0_h7

def k0_chk1517 (k0_t1 : Fin k0_t1_loop.trips) (v3019 : IVec S16 32) (v3044 : IVec S16 32) : Prop :=
  (∀ (k0_h7 : k0_cond7 k0_t1 = 1#1), ∀ a x, ((![v3019, v3044] : Fin 2 → IVec S16 32) a x).toNat < S512x16.size a)
theorem k0_idx1517_inb : ∀ (k0_t1 : Fin k0_t1_loop.trips) (v3019 : IVec S16 32) (v3044 : IVec S16 32) (k0_hw1517 : k0_chk1517 k0_t1 v3019 v3044), ∀ (k0_h7 : k0_cond7 k0_t1 = 1#1), ∀ a x, ((![v3019, v3044] : Fin 2 → IVec S16 32) a x).toNat < S512x16.size a := fun k0_t1 v3019 v3044 k0_hw1517 k0_h7 => k0_hw1517 k0_h7

def k0_chk1518 (k0_t1 : Fin k0_t1_loop.trips) (v3019 : IVec S16 32) (v3046 : IVec S16 32) : Prop :=
  (∀ (k0_h7 : k0_cond7 k0_t1 = 1#1), ∀ a x, ((![v3019, v3046] : Fin 2 → IVec S16 32) a x).toNat < S512x16.size a)
theorem k0_idx1518_inb : ∀ (k0_t1 : Fin k0_t1_loop.trips) (v3019 : IVec S16 32) (v3046 : IVec S16 32) (k0_hw1518 : k0_chk1518 k0_t1 v3019 v3046), ∀ (k0_h7 : k0_cond7 k0_t1 = 1#1), ∀ a x, ((![v3019, v3046] : Fin 2 → IVec S16 32) a x).toNat < S512x16.size a := fun k0_t1 v3019 v3046 k0_hw1518 k0_h7 => k0_hw1518 k0_h7

def k0_chk1519 (k0_t1 : Fin k0_t1_loop.trips) (v3019 : IVec S16 32) (v3048 : IVec S16 32) : Prop :=
  (∀ (k0_h7 : k0_cond7 k0_t1 = 1#1), ∀ a x, ((![v3019, v3048] : Fin 2 → IVec S16 32) a x).toNat < S512x16.size a)
theorem k0_idx1519_inb : ∀ (k0_t1 : Fin k0_t1_loop.trips) (v3019 : IVec S16 32) (v3048 : IVec S16 32) (k0_hw1519 : k0_chk1519 k0_t1 v3019 v3048), ∀ (k0_h7 : k0_cond7 k0_t1 = 1#1), ∀ a x, ((![v3019, v3048] : Fin 2 → IVec S16 32) a x).toNat < S512x16.size a := fun k0_t1 v3019 v3048 k0_hw1519 k0_h7 => k0_hw1519 k0_h7

def k0_chk1520 (k0_t1 : Fin k0_t1_loop.trips) (v3019 : IVec S16 32) (v3050 : IVec S16 32) : Prop :=
  (∀ (k0_h7 : k0_cond7 k0_t1 = 1#1), ∀ a x, ((![v3019, v3050] : Fin 2 → IVec S16 32) a x).toNat < S512x16.size a)
theorem k0_idx1520_inb : ∀ (k0_t1 : Fin k0_t1_loop.trips) (v3019 : IVec S16 32) (v3050 : IVec S16 32) (k0_hw1520 : k0_chk1520 k0_t1 v3019 v3050), ∀ (k0_h7 : k0_cond7 k0_t1 = 1#1), ∀ a x, ((![v3019, v3050] : Fin 2 → IVec S16 32) a x).toNat < S512x16.size a := fun k0_t1 v3019 v3050 k0_hw1520 k0_h7 => k0_hw1520 k0_h7

def k0_chk1521 (k0_t1 : Fin k0_t1_loop.trips) (v3118 : IVec S16 32) (v3119 : IVec S16 32) : Prop :=
  (∀ (k0_h7 : k0_cond7 k0_t1 = 1#1), ∀ a x, ((![v3118, v3119] : Fin 2 → IVec S16 32) a x).toNat < S512x16.size a)
theorem k0_idx1521_inb : ∀ (k0_t1 : Fin k0_t1_loop.trips) (v3118 : IVec S16 32) (v3119 : IVec S16 32) (k0_hw1521 : k0_chk1521 k0_t1 v3118 v3119), ∀ (k0_h7 : k0_cond7 k0_t1 = 1#1), ∀ a x, ((![v3118, v3119] : Fin 2 → IVec S16 32) a x).toNat < S512x16.size a := fun k0_t1 v3118 v3119 k0_hw1521 k0_h7 => k0_hw1521 k0_h7

def k0_chk1522 (k0_t1 : Fin k0_t1_loop.trips) (v3118 : IVec S16 32) (v3121 : IVec S16 32) : Prop :=
  (∀ (k0_h7 : k0_cond7 k0_t1 = 1#1), ∀ a x, ((![v3118, v3121] : Fin 2 → IVec S16 32) a x).toNat < S512x16.size a)
theorem k0_idx1522_inb : ∀ (k0_t1 : Fin k0_t1_loop.trips) (v3118 : IVec S16 32) (v3121 : IVec S16 32) (k0_hw1522 : k0_chk1522 k0_t1 v3118 v3121), ∀ (k0_h7 : k0_cond7 k0_t1 = 1#1), ∀ a x, ((![v3118, v3121] : Fin 2 → IVec S16 32) a x).toNat < S512x16.size a := fun k0_t1 v3118 v3121 k0_hw1522 k0_h7 => k0_hw1522 k0_h7

def k0_chk1523 (k0_t1 : Fin k0_t1_loop.trips) (v3118 : IVec S16 32) (v3123 : IVec S16 32) : Prop :=
  (∀ (k0_h7 : k0_cond7 k0_t1 = 1#1), ∀ a x, ((![v3118, v3123] : Fin 2 → IVec S16 32) a x).toNat < S512x16.size a)
theorem k0_idx1523_inb : ∀ (k0_t1 : Fin k0_t1_loop.trips) (v3118 : IVec S16 32) (v3123 : IVec S16 32) (k0_hw1523 : k0_chk1523 k0_t1 v3118 v3123), ∀ (k0_h7 : k0_cond7 k0_t1 = 1#1), ∀ a x, ((![v3118, v3123] : Fin 2 → IVec S16 32) a x).toNat < S512x16.size a := fun k0_t1 v3118 v3123 k0_hw1523 k0_h7 => k0_hw1523 k0_h7

def k0_chk1524 (k0_t1 : Fin k0_t1_loop.trips) (v3118 : IVec S16 32) (v3125 : IVec S16 32) : Prop :=
  (∀ (k0_h7 : k0_cond7 k0_t1 = 1#1), ∀ a x, ((![v3118, v3125] : Fin 2 → IVec S16 32) a x).toNat < S512x16.size a)
theorem k0_idx1524_inb : ∀ (k0_t1 : Fin k0_t1_loop.trips) (v3118 : IVec S16 32) (v3125 : IVec S16 32) (k0_hw1524 : k0_chk1524 k0_t1 v3118 v3125), ∀ (k0_h7 : k0_cond7 k0_t1 = 1#1), ∀ a x, ((![v3118, v3125] : Fin 2 → IVec S16 32) a x).toNat < S512x16.size a := fun k0_t1 v3118 v3125 k0_hw1524 k0_h7 => k0_hw1524 k0_h7

def k0_chk1525 (k0_t1 : Fin k0_t1_loop.trips) (v3118 : IVec S16 32) (v3127 : IVec S16 32) : Prop :=
  (∀ (k0_h7 : k0_cond7 k0_t1 = 1#1), ∀ a x, ((![v3118, v3127] : Fin 2 → IVec S16 32) a x).toNat < S512x16.size a)
theorem k0_idx1525_inb : ∀ (k0_t1 : Fin k0_t1_loop.trips) (v3118 : IVec S16 32) (v3127 : IVec S16 32) (k0_hw1525 : k0_chk1525 k0_t1 v3118 v3127), ∀ (k0_h7 : k0_cond7 k0_t1 = 1#1), ∀ a x, ((![v3118, v3127] : Fin 2 → IVec S16 32) a x).toNat < S512x16.size a := fun k0_t1 v3118 v3127 k0_hw1525 k0_h7 => k0_hw1525 k0_h7

def k0_chk1526 (k0_t1 : Fin k0_t1_loop.trips) (v3118 : IVec S16 32) (v3129 : IVec S16 32) : Prop :=
  (∀ (k0_h7 : k0_cond7 k0_t1 = 1#1), ∀ a x, ((![v3118, v3129] : Fin 2 → IVec S16 32) a x).toNat < S512x16.size a)
theorem k0_idx1526_inb : ∀ (k0_t1 : Fin k0_t1_loop.trips) (v3118 : IVec S16 32) (v3129 : IVec S16 32) (k0_hw1526 : k0_chk1526 k0_t1 v3118 v3129), ∀ (k0_h7 : k0_cond7 k0_t1 = 1#1), ∀ a x, ((![v3118, v3129] : Fin 2 → IVec S16 32) a x).toNat < S512x16.size a := fun k0_t1 v3118 v3129 k0_hw1526 k0_h7 => k0_hw1526 k0_h7

def k0_chk1527 (k0_t1 : Fin k0_t1_loop.trips) (v3118 : IVec S16 32) (v3131 : IVec S16 32) : Prop :=
  (∀ (k0_h7 : k0_cond7 k0_t1 = 1#1), ∀ a x, ((![v3118, v3131] : Fin 2 → IVec S16 32) a x).toNat < S512x16.size a)
theorem k0_idx1527_inb : ∀ (k0_t1 : Fin k0_t1_loop.trips) (v3118 : IVec S16 32) (v3131 : IVec S16 32) (k0_hw1527 : k0_chk1527 k0_t1 v3118 v3131), ∀ (k0_h7 : k0_cond7 k0_t1 = 1#1), ∀ a x, ((![v3118, v3131] : Fin 2 → IVec S16 32) a x).toNat < S512x16.size a := fun k0_t1 v3118 v3131 k0_hw1527 k0_h7 => k0_hw1527 k0_h7

def k0_chk1528 (k0_t1 : Fin k0_t1_loop.trips) (v3118 : IVec S16 32) (v3133 : IVec S16 32) : Prop :=
  (∀ (k0_h7 : k0_cond7 k0_t1 = 1#1), ∀ a x, ((![v3118, v3133] : Fin 2 → IVec S16 32) a x).toNat < S512x16.size a)
theorem k0_idx1528_inb : ∀ (k0_t1 : Fin k0_t1_loop.trips) (v3118 : IVec S16 32) (v3133 : IVec S16 32) (k0_hw1528 : k0_chk1528 k0_t1 v3118 v3133), ∀ (k0_h7 : k0_cond7 k0_t1 = 1#1), ∀ a x, ((![v3118, v3133] : Fin 2 → IVec S16 32) a x).toNat < S512x16.size a := fun k0_t1 v3118 v3133 k0_hw1528 k0_h7 => k0_hw1528 k0_h7

def k0_chk1529 (k0_t1 : Fin k0_t1_loop.trips) (v3118 : IVec S16 32) (v3135 : IVec S16 32) : Prop :=
  (∀ (k0_h7 : k0_cond7 k0_t1 = 1#1), ∀ a x, ((![v3118, v3135] : Fin 2 → IVec S16 32) a x).toNat < S512x16.size a)
theorem k0_idx1529_inb : ∀ (k0_t1 : Fin k0_t1_loop.trips) (v3118 : IVec S16 32) (v3135 : IVec S16 32) (k0_hw1529 : k0_chk1529 k0_t1 v3118 v3135), ∀ (k0_h7 : k0_cond7 k0_t1 = 1#1), ∀ a x, ((![v3118, v3135] : Fin 2 → IVec S16 32) a x).toNat < S512x16.size a := fun k0_t1 v3118 v3135 k0_hw1529 k0_h7 => k0_hw1529 k0_h7

def k0_chk1530 (k0_t1 : Fin k0_t1_loop.trips) (v3118 : IVec S16 32) (v3137 : IVec S16 32) : Prop :=
  (∀ (k0_h7 : k0_cond7 k0_t1 = 1#1), ∀ a x, ((![v3118, v3137] : Fin 2 → IVec S16 32) a x).toNat < S512x16.size a)
theorem k0_idx1530_inb : ∀ (k0_t1 : Fin k0_t1_loop.trips) (v3118 : IVec S16 32) (v3137 : IVec S16 32) (k0_hw1530 : k0_chk1530 k0_t1 v3118 v3137), ∀ (k0_h7 : k0_cond7 k0_t1 = 1#1), ∀ a x, ((![v3118, v3137] : Fin 2 → IVec S16 32) a x).toNat < S512x16.size a := fun k0_t1 v3118 v3137 k0_hw1530 k0_h7 => k0_hw1530 k0_h7

def k0_chk1531 (k0_t1 : Fin k0_t1_loop.trips) (v3118 : IVec S16 32) (v3139 : IVec S16 32) : Prop :=
  (∀ (k0_h7 : k0_cond7 k0_t1 = 1#1), ∀ a x, ((![v3118, v3139] : Fin 2 → IVec S16 32) a x).toNat < S512x16.size a)
theorem k0_idx1531_inb : ∀ (k0_t1 : Fin k0_t1_loop.trips) (v3118 : IVec S16 32) (v3139 : IVec S16 32) (k0_hw1531 : k0_chk1531 k0_t1 v3118 v3139), ∀ (k0_h7 : k0_cond7 k0_t1 = 1#1), ∀ a x, ((![v3118, v3139] : Fin 2 → IVec S16 32) a x).toNat < S512x16.size a := fun k0_t1 v3118 v3139 k0_hw1531 k0_h7 => k0_hw1531 k0_h7

def k0_chk1532 (k0_t1 : Fin k0_t1_loop.trips) (v3118 : IVec S16 32) (v3141 : IVec S16 32) : Prop :=
  (∀ (k0_h7 : k0_cond7 k0_t1 = 1#1), ∀ a x, ((![v3118, v3141] : Fin 2 → IVec S16 32) a x).toNat < S512x16.size a)
theorem k0_idx1532_inb : ∀ (k0_t1 : Fin k0_t1_loop.trips) (v3118 : IVec S16 32) (v3141 : IVec S16 32) (k0_hw1532 : k0_chk1532 k0_t1 v3118 v3141), ∀ (k0_h7 : k0_cond7 k0_t1 = 1#1), ∀ a x, ((![v3118, v3141] : Fin 2 → IVec S16 32) a x).toNat < S512x16.size a := fun k0_t1 v3118 v3141 k0_hw1532 k0_h7 => k0_hw1532 k0_h7

def k0_chk1533 (k0_t1 : Fin k0_t1_loop.trips) (v3118 : IVec S16 32) (v3143 : IVec S16 32) : Prop :=
  (∀ (k0_h7 : k0_cond7 k0_t1 = 1#1), ∀ a x, ((![v3118, v3143] : Fin 2 → IVec S16 32) a x).toNat < S512x16.size a)
theorem k0_idx1533_inb : ∀ (k0_t1 : Fin k0_t1_loop.trips) (v3118 : IVec S16 32) (v3143 : IVec S16 32) (k0_hw1533 : k0_chk1533 k0_t1 v3118 v3143), ∀ (k0_h7 : k0_cond7 k0_t1 = 1#1), ∀ a x, ((![v3118, v3143] : Fin 2 → IVec S16 32) a x).toNat < S512x16.size a := fun k0_t1 v3118 v3143 k0_hw1533 k0_h7 => k0_hw1533 k0_h7

def k0_chk1534 (k0_t1 : Fin k0_t1_loop.trips) (v3118 : IVec S16 32) (v3145 : IVec S16 32) : Prop :=
  (∀ (k0_h7 : k0_cond7 k0_t1 = 1#1), ∀ a x, ((![v3118, v3145] : Fin 2 → IVec S16 32) a x).toNat < S512x16.size a)
theorem k0_idx1534_inb : ∀ (k0_t1 : Fin k0_t1_loop.trips) (v3118 : IVec S16 32) (v3145 : IVec S16 32) (k0_hw1534 : k0_chk1534 k0_t1 v3118 v3145), ∀ (k0_h7 : k0_cond7 k0_t1 = 1#1), ∀ a x, ((![v3118, v3145] : Fin 2 → IVec S16 32) a x).toNat < S512x16.size a := fun k0_t1 v3118 v3145 k0_hw1534 k0_h7 => k0_hw1534 k0_h7

def k0_chk1535 (k0_t1 : Fin k0_t1_loop.trips) (v3118 : IVec S16 32) (v3147 : IVec S16 32) : Prop :=
  (∀ (k0_h7 : k0_cond7 k0_t1 = 1#1), ∀ a x, ((![v3118, v3147] : Fin 2 → IVec S16 32) a x).toNat < S512x16.size a)
theorem k0_idx1535_inb : ∀ (k0_t1 : Fin k0_t1_loop.trips) (v3118 : IVec S16 32) (v3147 : IVec S16 32) (k0_hw1535 : k0_chk1535 k0_t1 v3118 v3147), ∀ (k0_h7 : k0_cond7 k0_t1 = 1#1), ∀ a x, ((![v3118, v3147] : Fin 2 → IVec S16 32) a x).toNat < S512x16.size a := fun k0_t1 v3118 v3147 k0_hw1535 k0_h7 => k0_hw1535 k0_h7

def k0_chk1536 (k0_t1 : Fin k0_t1_loop.trips) (v3118 : IVec S16 32) (v3149 : IVec S16 32) : Prop :=
  (∀ (k0_h7 : k0_cond7 k0_t1 = 1#1), ∀ a x, ((![v3118, v3149] : Fin 2 → IVec S16 32) a x).toNat < S512x16.size a)
theorem k0_idx1536_inb : ∀ (k0_t1 : Fin k0_t1_loop.trips) (v3118 : IVec S16 32) (v3149 : IVec S16 32) (k0_hw1536 : k0_chk1536 k0_t1 v3118 v3149), ∀ (k0_h7 : k0_cond7 k0_t1 = 1#1), ∀ a x, ((![v3118, v3149] : Fin 2 → IVec S16 32) a x).toNat < S512x16.size a := fun k0_t1 v3118 v3149 k0_hw1536 k0_h7 => k0_hw1536 k0_h7
def k0_off9 (i : grid0.Coords) (k0_t1 : Fin k0_t1_loop.trips) : Fin 5 → Nat :=
  let c0_i32_11 : BitVec 32 := 0#32
  let c1_i32_12 : BitVec 32 := 1#32
  let arg18 : BitVec 32 := Scf.iv c0_i32_11 c1_i32_12 k0_t1
  let c3_i32_47 : BitVec 32 := 3#32
  let v36 : BitVec 32 := Scalar.muli arg18 c3_i32_47
  let c2_i32_48 : BitVec 32 := 2#32
  let v37 : BitVec 32 := Scalar.addi v36 c2_i32_48
  let c0_i32_2598 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_2599 : BitVec 32 := 0#32
  let c0_i32_2600 : BitVec 32 := 0#32
  ![v37.toNat, 0, v3.toNat, 0, 0]
def k0_cond9 (k0_t1 : Fin k0_t1_loop.trips) : BitVec 1 :=
  let c0_i32_11 : BitVec 32 := 0#32
  let c1_i32_12 : BitVec 32 := 1#32
  let arg18 : BitVec 32 := Scf.iv c0_i32_11 c1_i32_12 k0_t1
  let c3_i32_47 : BitVec 32 := 3#32
  let v36 : BitVec 32 := Scalar.muli arg18 c3_i32_47
  let c2_i32_48 : BitVec 32 := 2#32
  let v37 : BitVec 32 := Scalar.addi v36 c2_i32_48
  let c3_i32_2604 : BitVec 32 := 3#32
  let v3219 : BitVec 32 := Scalar.addi v37 c3_i32_2604
  let c50_i32_2605 : BitVec 32 := 50#32
  let v3220 : BitVec 1 := Scalar.cmpi .slt v3219 c50_i32_2605
  let v3221 : BitVec 32 := Scalar.extui v3220
  let c0_i32_2606 : BitVec 32 := 0#32
  let v3222 : BitVec 1 := Scalar.cmpi .ne v3221 c0_i32_2606
  v3222

def k0_off10 (k0_t1 : Fin k0_t1_loop.trips) : Fin 2 → Nat :=
  let c0_i32_11 : BitVec 32 := 0#32
  let c1_i32_12 : BitVec 32 := 1#32
  let arg18 : BitVec 32 := Scf.iv c0_i32_11 c1_i32_12 k0_t1
  let c3_i32_47 : BitVec 32 := 3#32
  let v36 : BitVec 32 := Scalar.muli arg18 c3_i32_47
  let c2_i32_48 : BitVec 32 := 2#32
  let v37 : BitVec 32 := Scalar.addi v36 c2_i32_48
  let c3_i32_2607 : BitVec 32 := 3#32
  let v3223 : BitVec 32 := Scalar.addi v37 c3_i32_2607
  let c0_i32_2608 : BitVec 32 := 0#32
  ![v3223.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x16 : Shape := ⟨2, ![1000000, 16]⟩
abbrev S16384x50 : Shape := ⟨2, ![16384, 50]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x16 : Shape := ⟨3, ![16384, 50, 16]⟩

abbrev nBuf : Space → Nat
  | .hbm => 25
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S16384x50, .i32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x16, .f32⟩
  | .hbm, ⟨21, _⟩ => ⟨S16384x50x16, .i1⟩
  | .hbm, ⟨22, _⟩ => ⟨S_, .f32⟩
  | .hbm, ⟨23, _⟩ => ⟨S16384x50x16, .f32⟩
  | .hbm, ⟨24, _⟩ => ⟨S16384x50x16, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/- The embedding lookup as the launch theorem sees it: the program's configuration, the resources its
   proof is carried out in, and the two contents a subcore's buffers are described by (a block of
   gathered rows; the same block turned into lane tiles). -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the launched program: the kernel's own and the (empty) pipelines'. -/
abbrev ΛP : Labels := Pipeline.Sig Λ₀ (Fin 0) fun p => (pcfgs (F := F) p).Adm
/-- The one SparseCore call. -/
abbrev K : SparseCore.Cfg τ sig (ΛP (F := F)) 1 := sc (F := F)
/-- It runs on the sixteen subcores of each SparseCore. -/
theorem nSub_zero : (K (F := F)).nSub 0 = 16 := rfl
/-- It runs on both SparseCores. -/
theorem nCore_zero : (K (F := F)).nCore 0 = 2 := rfl
/-- The launched program's body table. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores of the launch are distinct, unscoped, and no buffer is shared by a core's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resources: the handshakes' rounds and the transfers' counters. -/
abbrev UH : Type := URounds (GSem nD τ sig) ℕ
abbrev UU : Type := UH × Counters

/-- The model the proof's assertions speak of. -/
abbrev Mod (F : FTy → Type) : Type := MT nD τ sig (HIx 1) (Elt F) ℕ UU ℕ

abbrev EH : Emb UH (MT nD τ sig (HIx 1) (Elt F) ℕ UU ℕ) := embL

/-- A block of gathered rows: 512 rows of 16 floats. -/
abbrev Rows (F : FTy → Type) : Type := S512x16.Idx → Elt F .f32
/-- A block turned into lane tiles: 2 × 4 × 8 × 128 floats. -/
abbrev Tiles (F : FTy → Type) : Type := S2x4x8x128.Idx → Elt F .f32

/-- Row `r`, column `d` of a block of rows. -/
def at2 (r : Fin 512) (d : Fin 16) : S512x16.Idx := fun | 0 => r | 1 => d

/-- The block turned: tile `(p, q)`, sublane `s`, lane `l` is column `8 p + s` of row `128 q + l`. -/
def turn (X : Rows F) : Tiles F := fun y =>
  X (at2 ⟨(y 1).val * 128 + (y 3).val, by have h1 : (y 1).val < 4 := (y 1).isLt; have h3 : (y 3).val < 128 := (y 3).isLt; omega⟩
    ⟨(y 0).val * 8 + (y 2).val, by have h0 : (y 0).val < 2 := (y 0).isLt; have h2 : (y 2).val < 8 := (y 2).isLt; omega⟩)

/-- The order in which the kernel stores the sixteen-lane pieces: by lane tile, by group of lanes, by column. -/
def pos (y : S2x4x8x128.Idx) : ℕ := ((y 1).val * 8 + (y 3).val / 16) * 16 + (y 0).val * 8 + (y 2).val

/-- The first `n` pieces hold the turned block. -/
def Done (X : Rows F) (Y : Tiles F) (n : ℕ) : Prop := ∀ y, pos y < n → Y y = turn X y

/-- Nothing need be stored for the first none of the pieces. -/
theorem done_zero (X : Rows F) (Y : Tiles F) : Done X Y 0 := fun _ h => absurd h (Nat.not_lt_zero _)

/-- All 512 pieces stored, the buffer is the turned block. -/
theorem done_all {X : Rows F} {Y : Tiles F} (h : Done X Y 512) : Y = turn X := funext fun y => h y (by
  have h0 : (y 0).val < 2 := (y 0).isLt
  have h1 : (y 1).val < 4 := (y 1).isLt
  have h2 : (y 2).val < 8 := (y 2).isLt
  have h3 : (y 3).val < 128 := (y 3).isLt
  unfold pos; omega)

end Cert.Proof.Lookup

end
-- ==== Proof.Step.lean ====
/- One step of the block turn at a time: the check of a gather's indices, the gather of sixteen rows of
   one column, and the store of the sixteen lanes — each a rule from the assertion `Slab n` ("the rows
   are still held, and the first `n` pieces of the lane tiles are stored") to the next. -/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-- Sixteen consecutive row numbers from `c`. -/
abbrev lanes (c : ℕ) : IVec S16 32 := addi (iota .scVector S16 32 [0] iota_S16_d0_w32_scVector) (broadcast S16 (BitVec.ofNat 32 c))
/-- Column `d` in every lane. -/
abbrev col (d : ℕ) : IVec S16 32 := broadcast S16 (BitVec.ofNat 32 d)

/-- Lane `x` of `lanes c` is row `c + x`. -/
theorem lanes_toNat (c : ℕ) (hc : c + 16 ≤ 512) (x : S16.Idx) : (lanes c x).toNat = c + (x 0).val := by
  have hx : (x 0).val < 16 := (x 0).isLt
  have hi : (iota .scVector S16 32 [0] iota_S16_d0_w32_scVector x).toNat = (x 0).val := by
    simp [iota]; omega
  show ((iota .scVector S16 32 [0] iota_S16_d0_w32_scVector x) + BitVec.ofNat 32 c).toNat = _
  rw [BitVec.toNat_add, hi, BitVec.toNat_ofNat]; omega

/-- Every lane of `col d` is `d`. -/
theorem col_toNat (d : ℕ) (hd : d < 16) (x : S16.Idx) : (col d x).toNat = d := by
  show (BitVec.ofNat 32 d).toNat = d
  rw [BitVec.toNat_ofNat]; omega

/-- The indices of a gather name rows and columns of the block. -/
theorem chk_ok (c d : ℕ) (hc : c + 16 ≤ 512) (hd : d < 16) :
    ∀ a x, ((![lanes c, col d] : Fin 2 → IVec S16 32) a x).toNat < S512x16.size a := by
  intro a x
  have hx : (x 0).val < 16 := (x 0).isLt
  match a with
  | 0 => show (lanes c x).toNat < 512; rw [lanes_toNat c hc]; omega
  | 1 => show (col d x).toNat < 16; rw [col_toNat d hd]; exact hd

/-- What a gather reads: rows `c` to `c + 15` at column `d`. -/
def piece (X : Rows F) (c d : ℕ) : Vec F S16 .f32 := fun x =>
  X (at2 ⟨min (c + (x 0).val) 511, by omega⟩ ⟨min d 15, by omega⟩)

/-- The gather at those indices reads that piece. -/
theorem loadIdx_piece (X : Rows F) (c d : ℕ) (hc : c + 16 ≤ 512) (hd : d < 16)
    (h : ∀ a x, ((![lanes c, col d] : Fin 2 → IVec S16 32) a x).toNat < S512x16.size a) :
    loadIdx (F := F) (e := .f32) X ![lanes c, col d] h = piece X c d := by
  funext x
  show X _ = X _
  congr 1
  funext a
  apply Fin.ext
  have hx : (x 0).val < 16 := (x 0).isLt
  match a with
  | 0 => show (lanes c x).toNat = min (c + (x 0).val) 511; rw [lanes_toNat c hc]; omega
  | 1 => show (col d x).toNat = min d 15; rw [col_toNat d hd]; omega

variable [FloatOps F]
variable (d : Dev nD) (cc : Fin τ.nSC) (jj : Fin τ.nSub)

/-- A memref's elements held whole, reading as `X`. -/
def own {sp : Space} {s : Shape} {e : EltTy} (M : Memref sig .scVector sp s e) (X : s.Idx → Elt F e) : sProp (Mod F) :=
  iprop(∃ f, ⌜M.view.read (Elt F) f = X⌝ ∗ (M.view.loc (V d cc jj) ↦[M.view.set]{fullShare} f))

variable (rM : Memref sig .scVector .vmem S512x16 .f32) (tM : Memref sig .scVector .vmem S2x4x8x128 .f32)

/-- In the middle of a block turn: the rows are `X`, the first `n` pieces of the lane tiles are stored, and `R` waits. -/
def Slab (X : Rows F) (R : sProp (Mod F)) (n : ℕ) : sProp (Mod F) :=
  iprop(own d cc jj rM X ∗ (∃ Y, ⌜Done X Y n⌝ ∗ own d cc jj tM Y) ∗ R)

variable {d cc jj rM tM} {X : Rows F} {R : sProp (Mod F)} {n : ℕ}
variable {α β : Type} {P : sProp (Mod F)}

/-- The weakest precondition of a subcore's program over the kernel's own labels. -/
def WP (d : Dev nD) (cc : Fin τ.nSC) (jj : Fin τ.nSub) {α : Type}
    (p : Prog (TpuEff nD τ sig (Elt F) Λ₀ (.scVector cc jj)) α) (Q : α → sProp (Mod F)) : sProp (Mod F) :=
  wp frame (wpE (defs₀ (F := F)) 𝒱₀ (V d cc jj) none) Set.univ p Q

variable {Q : α → sProp (Mod F)}

/-- A program followed by another, the second in the first's postcondition under a name. -/
theorem bind_step {p : Prog (TpuEff nD τ sig (Elt F) Λ₀ (.scVector cc jj)) β} {k : β → Prog (TpuEff nD τ sig (Elt F) Λ₀ (.scVector cc jj)) α}
    (h : ∀ Φ : β → sProp (Mod F), (∀ b, Φ b = WP d cc jj (k b) Q) → P ⊢ WP d cc jj p Φ) : P ⊢ WP d cc jj (p >>= k) Q := by
  have h' := h _ fun _ => rfl
  unfold WP at *; rw [wp_bind]; exact h'

/-- A statement with a proof of its own, followed by another. -/
theorem wait_step {P₁ : sProp (Mod F)} {p : Prog (TpuEff nD τ sig (Elt F) Λ₀ (.scVector cc jj)) β}
    {k : β → Prog (TpuEff nD τ sig (Elt F) Λ₀ (.scVector cc jj)) α}
    (hp : P ⊢ WP d cc jj p fun _ => P₁) (h : ∀ b, P₁ ⊢ WP d cc jj (k b) Q) : P ⊢ WP d cc jj (p >>= k) Q := by
  unfold WP at *; rw [wp_bind]; exact BI.Entails.trans hp (wp_mono _ _ _ h)

/-- A statement run under a condition only, followed by another. -/
theorem either_step {P₁ : sProp (Mod F)} {c : Prop} [Decidable c] {p : Prog (TpuEff nD τ sig (Elt F) Λ₀ (.scVector cc jj)) PUnit}
    {k : PUnit → Prog (TpuEff nD τ sig (Elt F) Λ₀ (.scVector cc jj)) α}
    (ht : c → P ⊢ WP d cc jj p fun _ => P₁) (hf : ¬ c → P ⊢ P₁) (h : ∀ b, P₁ ⊢ WP d cc jj (k b) Q) :
    P ⊢ WP d cc jj (dite c (fun _ => p >>= fun b => k b) fun _ => k ⟨⟩) Q := by
  by_cases hc : c
  · rw [dif_pos hc]; exact wait_step (ht hc) h
  · rw [dif_neg hc]; exact BI.Entails.trans (hf hc) (h _)

/-- The end of a part: the rest runs at what it returns. -/
theorem pure_step {b : α} (h : P ⊢ Q b) : P ⊢ WP d cc jj (pure b) Q := by
  unfold WP; rw [wp_pure]; exact h.trans BI.fupd_intro

/-- What is left to run, by its name's meaning. -/
theorem rest_step {Ψ Φ : sProp (Mod F)} (e : Φ = Ψ) (h : P ⊢ Ψ) : P ⊢ Φ := e ▸ h

/-- A checked side condition that holds. -/
theorem assume_step {φ : Prop} {dec : Decidable φ} {k : PLift φ → Prog (TpuEff nD τ sig (Elt F) Λ₀ (.scVector cc jj)) α}
    (hφ : φ) (h : P ⊢ WP d cc jj (k ⟨hφ⟩) Q) : P ⊢ WP d cc jj (Prog.lift (TpuEff.assume φ dec) >>= k) Q :=
  BI.Entails.trans h (wp_assume 𝒱₀ (V d cc jj) none Set.univ hφ)

/-- The gather of one piece. -/
theorem gather_step (c e : ℕ) (hc : c + 16 ≤ 512) (he : e < 16)
    {hin : ∀ a x, ((![lanes c, col e] : Fin 2 → IVec S16 32) a x).toNat < S512x16.size a} {hl : rM.view.Loads}
    {k : Vec F S16 .f32 → Prog (TpuEff nD τ sig (Elt F) Λ₀ (.scVector cc jj)) α}
    (h : Slab d cc jj rM tM X R n ⊢ WP d cc jj (k (piece X c e)) Q) :
    Slab d cc jj rM tM X R n ⊢ WP d cc jj (SparseCore.vectorLoadIdx rM ![lanes c, col e] hin hl >>= k) Q := by
  unfold WP at *
  show iprop((∃ f, ⌜rM.view.read (Elt F) f = X⌝ ∗ (rM.view.loc (V d cc jj) ↦[rM.view.set]{fullShare} f))
    ∗ (∃ Y, ⌜Done X Y n⌝ ∗ own d cc jj tM Y) ∗ R) ⊢ _
  iintro ⟨⟨%f, %hf, Hr⟩, Ht, HR⟩
  have hX : (rM.access (.whole S512x16)).read (Elt F) f = X := by
    rw [← hf]; funext y; exact congrArg (rM.view.read (Elt F) f) (Rect.emb_whole_apply S512x16 y)
  iapply (SparseCore.wp_vectorLoadIdx 𝒱₀ (V d cc jj) none Set.univ (base := rM) (f := f) (S := rM.view.set) (q := fullShare)
    (View.set_slice_subset _ _)) $$ Hr
  iintro Hr
  rw [hX, loadIdx_piece X c e hc he]
  iapply h
  unfold Slab own
  isplitl [Hr]
  · iexists f; isplitr
    · ipureintro; exact hf
    · iexact Hr
  isplitl [Ht]
  · iexact Ht
  · iexact HR

/-- The read-back before a store: its value is not used. -/
theorem load_step {r : LoadRect S2x4x8x128} {hl : tM.view.LoadsAt r}
    {k : (r.shape.Idx → Elt F .f32) → Prog (TpuEff nD τ sig (Elt F) Λ₀ (.scVector cc jj)) α}
    (h : ∀ v, Slab d cc jj rM tM X R n ⊢ WP d cc jj (k v) Q) :
    Slab d cc jj rM tM X R n ⊢ WP d cc jj (Prog.lift (.load tM r hl) >>= k) Q := by
  unfold WP at *
  show iprop(own d cc jj rM X
    ∗ (∃ Y, ⌜Done X Y n⌝ ∗ ∃ f, ⌜tM.view.read (Elt F) f = Y⌝ ∗ (tM.view.loc (V d cc jj) ↦[tM.view.set]{fullShare} f)) ∗ R) ⊢ _
  iintro ⟨Hr, ⟨%Y, %hY, %f, %hf, Ht⟩, HR⟩
  iapply (wp_load 𝒱₀ (V d cc jj) none Set.univ (m := tM) (r := r) (f := f) (S := tM.view.set) (q := fullShare)
    (Finset.map_subset_map.mpr (Finset.subset_univ _))) $$ Ht
  iintro Ht
  iapply (h _)
  unfold Slab own
  isplitl [Hr]
  · iexact Hr
  isplitl [Ht]
  · iexists Y; isplitr
    · ipureintro; exact hY
    iexists f; isplitr
    · ipureintro; exact hf
    · iexact Ht
  · iexact HR

/-- A sixteen-lane vector as a 1 × 1 × 1 × 16 block keeps its lanes. -/
theorem reshape_lane : ∀ j : S1x1x1x16.Idx, ((Shape.reshapeEquiv shapeCasts_S16_S1x1x1x16 j) 0).val = (j 3).val := by decide

/-- Storing the next piece: the first `n + 1` pieces hold the turned block. -/
theorem done_store {f : tM.view.ty.Contents (Elt F)} (a bt s l : ℕ)
    {inb : ∀ i, (![a, bt, s, l] : Fin 4 → ℕ) i + S1x1x1x16.size i ≤ S2x4x8x128.size i}
    (hl : l % 16 = 0) {w : Vec F S1x1x1x16 .f32}
    (hw : w = shapeCast S1x1x1x16 (piece X (bt * 128 + l) (a * 8 + s)) shapeCasts_S16_S1x1x1x16)
    (h : Done X (tM.view.read (Elt F) f) ((bt * 8 + l / 16) * 16 + a * 8 + s)) :
    Done X (tM.view.read (Elt F) ((tM.view.slice (Rect.unit (s := S2x4x8x128) ![a, bt, s, l] S1x1x1x16.size inb)).write (Elt F) f w Finset.univ))
      ((bt * 8 + l / 16) * 16 + a * 8 + s + 1) := by
  have i0 : a + 1 ≤ 2 := inb 0
  have i1 : bt + 1 ≤ 4 := inb 1
  have i2 : s + 1 ≤ 8 := inb 2
  have i3 : l + 16 ≤ 128 := inb 3
  intro y hy
  have y0 : (y 0).val < 2 := (y 0).isLt
  have y1 : (y 1).val < 4 := (y 1).isLt
  have y2 : (y 2).val < 8 := (y 2).isLt
  have y3 : (y 3).val < 128 := (y 3).isLt
  by_cases hm : y ∈ Finset.univ.map (Rect.unit (s := S2x4x8x128) ![a, bt, s, l] S1x1x1x16.size inb).emb
  · obtain ⟨j, -, rfl⟩ := Finset.mem_map.mp hm
    rw [View.read_slice_write_emb (v := tM.view) _ f w (Finset.mem_univ j), hw]
    show X _ = X _
    have j0 : (j 0).val < 1 := (j 0).isLt
    have j1 : (j 1).val < 1 := (j 1).isLt
    have j2 : (j 2).val < 1 := (j 2).isLt
    have j3 : (j 3).val < 16 := (j 3).isLt
    congr 1
    funext i
    apply Fin.ext
    match i with
    | 0 =>
      show min (bt * 128 + l + ((Shape.reshapeEquiv shapeCasts_S16_S1x1x1x16 j) 0).val) 511 = (bt + 1 * (j 1).val) * 128 + (l + 1 * (j 3).val)
      rw [reshape_lane j]; omega
    | 1 => show min (a * 8 + s) 15 = (a + 1 * (j 0).val) * 8 + (s + 1 * (j 2).val); omega
  · rw [View.read_slice_write_of_not_mem (v := tM.view) _ f w _ hm]
    refine h y ?_
    rw [Rect.map_emb_univ, Rect.mem_set_unit] at hm
    have key : ¬ pos y = (bt * 8 + l / 16) * 16 + a * 8 + s := fun e => hm (fun i => by
      unfold pos at e
      match i with
      | 0 => show a ≤ (y 0).val ∧ (y 0).val < a + 1; omega
      | 1 => show bt ≤ (y 1).val ∧ (y 1).val < bt + 1; omega
      | 2 => show s ≤ (y 2).val ∧ (y 2).val < s + 1; omega
      | 3 => show l ≤ (y 3).val ∧ (y 3).val < l + 16; omega)
    omega

/-- The store of the next piece. -/
theorem store_step (a bt s l c e : ℕ)
    {inb : ∀ i, (![a, bt, s, l] : Fin 4 → ℕ) i + S1x1x1x16.size i ≤ S2x4x8x128.size i}
    {hsc : S16.ShapeCasts S1x1x1x16}
    {hx : (tM.access (Rect.unit (s := S2x4x8x128) ![a, bt, s, l] S1x1x1x16.size inb)).Stores Finset.univ}
    {hm : (Finset.univ : Finset S1x1x1x16.Idx) = Finset.univ ∨ ∀ i, (Rect.unit (s := S2x4x8x128) ![a, bt, s, l] S1x1x1x16.size inb).stride i = 1}
    {k : PUnit → Prog (TpuEff nD τ sig (Elt F) Λ₀ (.scVector cc jj)) α}
    (hl : l % 16 = 0) (hc : c = bt * 128 + l) (he : e = a * 8 + s) (hn : n = (bt * 8 + l / 16) * 16 + a * 8 + s)
    (h : Slab d cc jj rM tM X R ((bt * 8 + l / 16) * 16 + a * 8 + s + 1) ⊢ WP d cc jj (k ⟨⟩) Q) :
    Slab d cc jj rM tM X R n ⊢ WP d cc jj (Prog.lift (.store tM (Rect.unit (s := S2x4x8x128) ![a, bt, s, l] S1x1x1x16.size inb)
      (shapeCast S1x1x1x16 (piece X c e) hsc) Finset.univ hx hm) >>= k) Q := by
  subst hc he hn
  unfold WP at *
  show iprop(own d cc jj rM X
    ∗ (∃ Y, ⌜Done X Y ((bt * 8 + l / 16) * 16 + a * 8 + s)⌝ ∗ ∃ f, ⌜tM.view.read (Elt F) f = Y⌝ ∗ (tM.view.loc (V d cc jj) ↦[tM.view.set]{fullShare} f)) ∗ R) ⊢ _
  iintro ⟨Hr, ⟨%Y, %hY, %f, %hf, Ht⟩, HR⟩
  iapply (wp_store 𝒱₀ (V d cc jj) none Set.univ (m := tM) (r := Rect.unit (s := S2x4x8x128) ![a, bt, s, l] S1x1x1x16.size inb)
    (f := f) (S := tM.view.set) (Mk := Finset.univ) (by rw [View.setOn_univ]; exact View.set_slice_subset _ _)) $$ Ht
  iintro Ht
  iapply h
  unfold Slab own
  isplitl [Hr]
  · iexact Hr
  isplitl [Ht]
  · iexists (tM.view.read (Elt F) ((tM.access (Rect.unit (s := S2x4x8x128) ![a, bt, s, l] S1x1x1x16.size inb)).write (Elt F) f
      (shapeCast S1x1x1x16 (piece X (bt * 128 + l) (a * 8 + s)) hsc) Finset.univ)); isplitr
    · ipureintro; exact done_store (X := X) (tM := tM) (f := f) a bt s l (inb := inb) hl rfl (by rw [hf]; exact hY)
    iexists ((tM.access (Rect.unit (s := S2x4x8x128) ![a, bt, s, l] S1x1x1x16.size inb)).write (Elt F) f
      (shapeCast S1x1x1x16 (piece X (bt * 128 + l) (a * 8 + s)) hsc) Finset.univ); isplitr
    · ipureintro; rfl
    · iexact Ht
  · iexact HR

/-- The count of pieces in another form. -/
theorem count_step {m : ℕ} {Ψ : sProp (Mod F)} (e : n = m) (h : Slab d cc jj rM tM X R m ⊢ Ψ) : Slab d cc jj rM tM X R n ⊢ Ψ := e ▸ h

/-- The last statement: after it nothing is left to run. -/
theorem last_step {p : Prog (TpuEff nD τ sig (Elt F) Λ₀ (.scVector cc jj)) β} {Φ : β → sProp (Mod F)} {u : α}
    (e : ∀ b, Φ b = WP d cc jj (pure u) Q) (h : P ⊢ WP d cc jj p fun _ => Q u) : P ⊢ WP d cc jj p Φ := by
  rw [show Φ = fun _ => WP d cc jj (pure u) Q from funext e]
  unfold WP at *
  exact BI.Entails.trans h (wp_mono _ _ _ fun _ => pure_step (d := d) (cc := cc) (jj := jj) (BI.Entails.refl _))

/-- The last statement of a part and what follows the part. -/
theorem end_step {γ : Type} {p : Prog (TpuEff nD τ sig (Elt F) Λ₀ (.scVector cc jj)) γ} {Φ : β → sProp (Mod F)} {u : β} {P₂ : sProp (Mod F)}
    {k : β → Prog (TpuEff nD τ sig (Elt F) Λ₀ (.scVector cc jj)) α}
    (e : ∀ b, Φ b = WP d cc jj (k b) Q) (h : P ⊢ WP d cc jj p fun _ => P₂) (hk : ∀ b, P₂ ⊢ WP d cc jj (k b) Q) :
    P ⊢ WP d cc jj p fun _ => Φ u := by
  unfold WP at h ⊢
  exact BI.Entails.trans h (wp_mono _ _ _ fun _ => rest_step (e u) (hk u))

end Cert.Proof.Lookup

end
-- ==== Proof.Index.lean ====
/- Where the kernel's copies read and write: the windows of the index matrix, the table rows a gather
   fetches, and the blocks of the result, each as coordinates and as contents. -/
module

public import proofs.«01_k».proof.Proof.Step

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-- The table, the transposed indices, the result, and the index window of a subcore, as it addresses them. -/
abbrev tV : Memref sig .scVector .hbm S1000000x16 .f32 := Memref.whole main_arg0_scv
abbrev xV : Memref sig .scVector .hbm S50x16384 .i32 := Memref.whole main_v0_scv
abbrev oV : Memref sig .scVector .hbm S50x2x128x8x128 .f32 := Memref.whole main_v1_scv
abbrev lV : Memref sig .scVector .vmem S50x512 .i32 := Memref.whole cc0_scratch0

/-- The table's entry at row `r` (the last row, past the end), column `c`. -/
def tix (r : ℕ) (c : Fin 16) : S1000000x16.Idx := fun | 0 => ⟨min r 999999, show min r 999999 < 1000000 by omega⟩ | 1 => c
/-- The index matrix's entry at row `h`, column `b`, each clamped to the matrix. -/
def xix (h b : ℕ) : S50x16384.Idx := fun | 0 => ⟨min h 49, show min h 49 < 50 by omega⟩ | 1 => ⟨min b 16383, show min b 16383 < 16384 by omega⟩

variable (TBL : S1000000x16.Idx → Elt F .f32) (XT : S50x16384.Idx → Elt F .i32)

/-- The 512 columns of the index matrix that worker `w` serves. -/
def lstAt (w : ℕ) : S50x512.Idx → Elt F .i32 := fun y => XT (xix (y 0).val (w * 512 + (y 1).val))
/-- The 512 table rows worker `w` gathers for row `h` of the index matrix. -/
def rowsAt (w h : ℕ) : Rows F := fun y => TBL (tix (XT (xix h (w * 512 + (y 0).val)) : BitVec 32).toNat (y 1))
/-- The whole result, in lane tiles. -/
def outAt : S50x2x128x8x128.Idx → Elt F .f32 := fun z =>
  TBL (tix (XT (xix (z 0).val ((z 2).val * 128 + (z 4).val)) : BitVec 32).toNat
    ⟨(z 1).val * 8 + (z 3).val, by have h1 : (z 1).val < 2 := (z 1).isLt; have h3 : (z 3).val < 8 := (z 3).isLt; omega⟩)

/-- The elements of the result that worker `w` writes for row `h`. -/
def oset (w h : ℕ) : Finset S50x2x128x8x128.Idx := Finset.univ.filter fun z => (z 0).val = h ∧ w * 4 ≤ (z 2).val ∧ (z 2).val < w * 4 + 4

/-- All of the table, as the gathers address it. -/
abbrev tS : Memref sig .scVector .hbm S1000000x16 .f32 :=
  tV.slice (Rect.unit (s := S1000000x16) ![0, 0] S1000000x16.size inb_S1000000x16_S1000000x16_0_0) (fun _ => rfl)
/-- One row of the index window, as a gather's list. -/
abbrev lS (off : Fin 2 → ℕ) (inb : ∀ a, off a + S1x512.size a ≤ S50x512.size a) : Memref sig .scVector .vmem S512 .i32 :=
  (lV.slice (Rect.unit (s := S50x512) off S1x512.size inb) (fun _ => rfl)).squeeze S512 squeezes_S1x512_S512
/-- One block of the result, as a write addresses it. -/
abbrev oS (off : Fin 5 → ℕ) (inb : ∀ a, off a + S1x2x4x8x128.size a ≤ S50x2x128x8x128.size a) : Memref sig .scVector .hbm S2x4x8x128 .f32 :=
  (oV.slice (Rect.unit (s := S50x2x128x8x128) off S1x2x4x8x128.size inb) (fun _ => rfl)).squeeze S2x4x8x128 squeezes_S1x2x4x8x128_S2x4x8x128

/-- A row of the window reads as the worker's indices of that row. -/
theorem read_lS (w h : ℕ) {off : Fin 2 → ℕ} (inb) (ho : off = ![h, 0]) (x : S512.Idx) :
    (lS off inb).view.read (Elt F) (lstAt XT w) x = XT (xix h (w * 512 + (x 0).val)) := by
  subst ho
  show lstAt XT w ((Rect.unit (s := S50x512) ![h, 0] S1x512.size inb).emb (Shape.reshapeEquiv squeezes_S1x512_S512.numel_eq x)) = _
  rw [show Shape.reshapeEquiv squeezes_S1x512_S512.numel_eq x = Fin.cons ⟨0, Nat.one_pos⟩ x from Shape.reshapeEquiv_cons_one _ x]
  unfold lstAt
  refine congrArg XT (congrArg₂ xix ?_ ?_)
  · show h + 1 * 0 = h; omega
  · show w * 512 + (0 + 1 * (x 0).val) = _; omega

/-- The gather of a row of the window reads the worker's table rows. -/
theorem payload_eq (w h : ℕ) {off : Fin 2 → ℕ} (inb) (ho : off = ![h, 0]) (hg : S1000000x16.Gathers 0 S512x16) (hn)
    (hin : ∀ x, ((lS off inb).view.read (Elt F) (lstAt XT w) x : BitVec 32).toNat < S1000000x16.size hg.axis) :
    SparseCore.gatherPayload hg (tS.view.read (Elt F) TBL) (SparseCore.rows ((lS off inb).view.read (Elt F) (lstAt XT w)) hn hin)
      = rowsAt TBL XT w h := by
  funext y
  show TBL ((Rect.unit (s := S1000000x16) ![0, 0] S1000000x16.size inb_S1000000x16_S1000000x16_0_0).emb _) = TBL _
  congr 1
  funext a
  apply Fin.ext
  match a with
  | 0 =>
    show 0 + 1 * (hg.idx _ y hg.axis).val = min _ 999999
    rw [Shape.Gathers.idx_axis]
    have hh := hin (S512.rowMajor.symm ((y 0).cast hn.symm))
    show 0 + 1 * ((lS off inb).view.read (Elt F) (lstAt XT w) (S512.rowMajor.symm ((y 0).cast hn.symm)) : BitVec 32).toNat = _
    rw [read_lS XT w h inb ho] at hh ⊢
    have hx : ((S512.rowMajor.symm ((y 0).cast hn.symm)) 0).val = (y 0).val := by
      rw [← Shape.rowMajor_val_one, Equiv.apply_symm_apply]; rfl
    rw [hx] at hh ⊢
    have h1 : (XT (xix h (w * 512 + (y 0).val)) : BitVec 32).toNat < 1000000 := hh
    omega
  | 1 =>
    show 0 + 1 * (hg.idx _ y 1).val = (y 1).val
    rw [Shape.Gathers.idx_of_ne hg _ y 1 (by decide)]
    show 0 + 1 * (y 1).val = _; omega

/-- The window's copy fetches the worker's columns. -/
theorem read_xS (w : ℕ) (hw : w < 32) {off : Fin 2 → ℕ} (inb) (ho : off = ![0, w * 512]) :
    (xV.slice (Rect.unit (s := S50x16384) off S50x512.size inb) (fun _ => rfl)).view.read (Elt F) XT = lstAt XT w := by
  subst ho
  funext y
  have h0 : (y 0).val < 50 := (y 0).isLt
  have h1 : (y 1).val < 512 := (y 1).isLt
  show XT ((Rect.unit (s := S50x16384) ![0, w * 512] S50x512.size inb).emb y) = XT _
  congr 1
  funext a
  apply Fin.ext
  match a with
  | 0 => show 0 + 1 * (y 0).val = min (y 0).val 49; omega
  | 1 => show w * 512 + 1 * (y 1).val = min (w * 512 + (y 1).val) 16383; omega

/-- The elements under a block of the result. -/
theorem set_oS (w h : ℕ) {off : Fin 5 → ℕ} (inb) (ho : off = ![h, 0, w * 4, 0, 0]) : (oS off inb).view.set = oset w h := by
  subst ho
  show ((oV.view.slice (Rect.unit (s := S50x2x128x8x128) ![h, 0, w * 4, 0, 0] S1x2x4x8x128.size inb)).reshape S2x4x8x128
    squeezes_S1x2x4x8x128_S2x4x8x128.numel_eq).set = _
  rw [View.set_reshape]
  show ((View.whole main_v1_scv).slice _).set = _
  rw [View.set_slice]
  refine (Finset.map_refl ).trans ?_
  ext z
  rw [Rect.mem_set_unit]
  unfold oset
  rw [Finset.mem_filter]
  have h1 : (z 1).val < 2 := (z 1).isLt
  have h3 : (z 3).val < 8 := (z 3).isLt
  have h4 : (z 4).val < 128 := (z 4).isLt
  constructor
  · intro hz
    have a0 : h ≤ (z 0).val ∧ (z 0).val < h + 1 := hz 0
    have a2 : w * 4 ≤ (z 2).val ∧ (z 2).val < w * 4 + 4 := hz 2
    exact ⟨Finset.mem_univ _, by omega, a2⟩
  · rintro ⟨-, e0, e2⟩ a
    match a with
    | 0 => show h ≤ (z 0).val ∧ (z 0).val < h + 1; omega
    | 1 => show 0 ≤ (z 1).val ∧ (z 1).val < 0 + 2; omega
    | 2 => exact e2
    | 3 => show 0 ≤ (z 3).val ∧ (z 3).val < 0 + 8; omega
    | 4 => show 0 ≤ (z 4).val ∧ (z 4).val < 0 + 128; omega

/-- What the write of the turned rows leaves on its block is the result there. -/
theorem write_oS (w h : ℕ) {off : Fin 5 → ℕ} (inb) (ho : off = ![h, 0, w * 4, 0, 0]) (f : S50x2x128x8x128.Idx → Elt F .f32) :
    ∀ z ∈ (oS off inb).view.set, (oS off inb).view.write (Elt F) f (turn (rowsAt TBL XT w h)) Finset.univ z = outAt TBL XT z := by
  subst ho
  intro z hz
  obtain ⟨y, -, rfl⟩ := Finset.mem_map.mp hz
  refine (View.write_emb_of_mem (Val := Elt F) (v := (oS _ inb).view) f _ (Finset.mem_univ y)).trans ?_
  have e : (oS ![h, 0, w * 4, 0, 0] inb).view.emb y
      = (Rect.unit (s := S50x2x128x8x128) ![h, 0, w * 4, 0, 0] S1x2x4x8x128.size inb).emb (Fin.cons ⟨0, Nat.one_pos⟩ y) := by
    show (Rect.unit (s := S50x2x128x8x128) ![h, 0, w * 4, 0, 0] S1x2x4x8x128.size inb).emb
      (Shape.reshapeEquiv squeezes_S1x2x4x8x128_S2x4x8x128.numel_eq y) = _
    rw [show Shape.reshapeEquiv squeezes_S1x2x4x8x128_S2x4x8x128.numel_eq y = Fin.cons ⟨0, Nat.one_pos⟩ y from Shape.reshapeEquiv_cons_one _ y]
  rw [e]
  refine (cast_eq _ _).trans ?_
  unfold turn rowsAt outAt
  refine congrArg TBL (congrArg₂ tix (congrArg (fun i => BitVec.toNat (XT i : BitVec 32)) (congrArg₂ xix ?_ ?_)) (Fin.ext ?_))
  · show h = h + 1 * 0; omega
  · show w * 512 + ((y 1).val * 128 + (y 3).val) = (w * 4 + 1 * (y 1).val) * 128 + (0 + 1 * (y 3).val); omega
  · show (y 0).val * 8 + (y 2).val = (0 + 1 * (y 0).val) * 8 + (0 + 1 * (y 2).val); omega

end Cert.Proof.Lookup

end
-- ==== Proof.Ring.lean ====
/- One buffer of the ring: what its gather and its write are doing after it has served `n` rows, and the
   five moves of the loop's body on it (wait for the gather, wait for the last write, start the write,
   start the next gather). -/
module

public import proofs.«01_k».proof.Proof.Index

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (TBL : S1000000x16.Idx → Elt F .f32) (XT : S50x16384.Idx → Elt F .i32) (f0 : S50x2x128x8x128.Idx → Elt F .f32)
variable (d : Dev nD) (cc : Fin τ.nSC) (jj : Fin τ.nSub) (w : ℕ)
variable (O : CellTallies nD τ sig (HIx 1)) (W : Waits sig (HIx 1))
variable (rM : Memref sig .scVector .vmem S512x16 .f32) (tM : Memref sig .scVector .vmem S2x4x8x128 .f32)
variable (gs ws : DmaSem sig) (q q' : PosShare TreeShare)

/-- A share of the table. -/
def tabP : sProp (Mod F) := iprop(tV.view.loc (V d cc jj) ↦{q} TBL)
/-- A share of the index window, holding the worker's columns. -/
def lstP : sProp (Mod F) := iprop(lV.view.loc (V d cc jj) ↦{q'} (lstAt XT w))
/-- The worker's block of the result for row `h`, at contents `f`. -/
def blk (f : S50x2x128x8x128.Idx → Elt F .f32) (h : ℕ) : sProp (Mod F) := iprop(oV.view.loc (V d cc jj) ↦[oset w h]{fullShare} f)
/-- What the subcore owes, and its leave to wait for its own transfers. -/
def OW : sProp (Mod F) := iprop(Transfers.MayWaits (V d cc jj) (default : HIx 1) O
  ∗ ∃ W', ⌜∀ p ∈ W', p ∈ W ∨ p.2 = none⌝ ∗ owes (V d cc jj) O W')

/-- A wait for a transfer in flight: what it delivers, the semaphore back at zero. -/
theorem flight_wait {sp sp' : Space} {s s' : Shape} {e e' : EltTy} {κ' : Kind} {sem : DmaSem sig} {srcw : Memref sig .scVector sp' s' e'} {dstw : Memref sig κ' sp s e}
    {hsrc : srcw.view.WordExact} {hdst : dstw.view.WordExact} {N : ℕ} (hN : dstw.view.dmaCredit = N) {D R : sProp (Mod F)} :
    iprop(OW d cc jj O W ∗ Transfers.Flight countersEmb (V d cc jj) (.dma sem) (default : HIx 1) N D ∗ R)
      ⊢ WP d cc jj (Prog.lift (.waitDma2 sem srcw dstw hsrc hdst))
          fun _ => iprop(OW d cc jj O W ∗ D ∗ semVal (V d cc jj, .dma sem) 0 ∗ R) := by
  unfold WP OW
  change _ ⊢ wp frame (wpE (defs₀ (F := F)) 𝒱₀ (V d cc jj) none) Set.univ (Prog.op (TpuEff.waitDma2 (p := .scVector cc jj) sem srcw dstw hsrc hdst) Prog.ret) _
  iintro ⟨⟨#Hm, %W', %hW, HO⟩, Hf, HR⟩
  iapply (Transfers.wp_waitLocalO countersEmb 𝒱₀ (V d cc jj) none (default : HIx 1) hN) $$ [Hf HO]
  · isplitl [Hf]; · iexact Hf
    isplitl [HO]; · iexact HO
    iapply (Transfers.MayWaits.elim (SemLoc.dma sem)) $$ Hm
  iintro ⟨HD, Hs, HO⟩
  rw [wp_ret]
  imodintro
  isplitl [HO]
  · isplitr; · iexact Hm
    iexists _; isplitr
    swap; · iexact HO
    ipureintro; intro p hp
    rcases Finset.mem_insert.mp hp with hp | hp
    · exact .inr (hp ▸ rfl)
    · exact hW p hp
  isplitl [HD]; · iexact HD
  isplitl [Hs]; · iexact Hs
  iexact HR

/-- A gather in flight: with what stays behind, it delivers row `h`'s table rows and the shares back. -/
def Gat (h : ℕ) : sProp (Mod F) := iprop(∃ D R : sProp (Mod F),
  ⌜iprop(D ∗ R) ⊢ iprop(own d cc jj rM (rowsAt TBL XT w h) ∗ tabP TBL d cc jj q ∗ lstP XT d cc jj w q')⌝
    ∗ Transfers.Flight countersEmb (V d cc jj) (.dma gs) (default : HIx 1) rM.view.dmaCredit D ∗ R)

/-- The credit of a write. -/
abbrev NO : ℕ := (oS ![0, 0, 0, 0, 0] inb_S50x2x128x8x128_S1x2x4x8x128_0_0_0_0_0).view.dmaCredit

/-- A write in flight: it delivers the lane tiles' buffer, and row `h`'s block of the result finished. -/
def Wri (h : ℕ) : sProp (Mod F) := iprop(∃ D : sProp (Mod F),
  ⌜D ⊢ iprop((∃ Y, own d cc jj tM Y) ∗ blk d cc jj w (outAt TBL XT) h)⌝
    ∗ Transfers.Flight countersEmb (V d cc jj) (.dma ws) (default : HIx 1) NO D)

variable {TBL XT f0 d cc jj w O W rM tM gs ws q q'}

/-- The start of the gather for row `h`. -/
theorem gather_start {h : ℕ} {off : Fin 2 → ℕ} {inb} (ho : off = ![h, 0]) (hX : ∀ j, (XT j : BitVec 32).toNat < 1000000)
    (hN : ∀ hg : S1000000x16.Gathers 0 S512x16, ∑ j, (rM.slice (S512x16.rowRect hg.axis' j) (S512x16.stride_rowRect hg.axis' j)).view.dmaCredit = rM.view.dmaCredit)
    {hg : S1000000x16.Gathers 0 S512x16} {hp hn hsrc he hsp hr} {α : Type} {k : PUnit → Prog (TpuEff nD τ sig (Elt F) Λ₀ (.scVector cc jj)) α}
    {Q : α → sProp (Mod F)} {R : sProp (Mod F)}
    (hk : iprop(Gat TBL XT d cc jj w rM gs q q' h ∗ R) ⊢ WP d cc jj (k ⟨⟩) Q) :
    iprop((∃ X, own d cc jj rM X) ∗ tabP TBL d cc jj q ∗ lstP XT d cc jj w q' ∗ semVal (V d cc jj, .dma gs) 0 ∗ R)
      ⊢ WP d cc jj (SparseCore.enqueueIndirectGather hp tS rM hg (lS off inb) hn gs hsrc he hsp hr >>= k) Q := by
  have hin : ∀ x, ((lS off inb).view.read (Elt F) (lstAt XT w) x : BitVec 32).toNat < S1000000x16.size hg.axis := fun x => by
    rw [read_lS XT w h inb ho]; exact hX _
  unfold WP at *
  unfold tabP lstP own
  iintro ⟨⟨%X, %f, -, Hr⟩, Ht, Hl, Hs, HR⟩
  ihave Ht := (pointsTo_split_subset (Finset.subset_univ tS.view.set)).1 $$ Ht
  icases Ht with ⟨Ht, Ht'⟩
  ihave Hl := (pointsTo_split_subset (Finset.subset_univ (lS off inb).view.set)).1 $$ Hl
  icases Hl with ⟨Hl, Hl'⟩
  iapply (SparseCore.wp_indirectGatherLocal countersEmb 𝒱₀ (V d cc jj) none (hg := hg) (default : HIx 1)
      rM.view.dmaCredit (hN _) (by decide) hin) $$ [Hr Ht Hl Hs]
  · isplitl [Ht]; · iexact Ht
    isplitl [Hr]; · iexact Hr
    isplitl [Hl]; · iexact Hl
    iexact Hs
  iintro Hfl
  iapply hk
  isplitr [HR]
  swap; · iexact HR
  unfold Gat
  iexists _, iprop((tV.view.loc (V d cc jj) ↦[Finset.univ \ tS.view.set]{q} TBL) ∗ (lV.view.loc (V d cc jj) ↦[Finset.univ \ (lS off inb).view.set]{q'} (lstAt XT w)))
  isplitr
  swap
  · isplitl [Hfl]; · iexact Hfl
    isplitl [Ht']; · iexact Ht'
    iexact Hl'
  ipureintro
  unfold tabP lstP own
  iintro ⟨⟨Hr, Ht, Hl⟩, Ht', Hl'⟩
  isplitl [Hr]
  · iexists _
    isplitr
    swap; · iexact Hr
    ipureintro
    rw [View.read_write_univ]
    exact payload_eq TBL XT w h inb ho hg hn hin
  isplitl [Ht Ht']
  · iapply (pointsTo_split_subset (Finset.subset_univ tS.view.set)).2
    isplitl [Ht] <;> iassumption
  · iapply (pointsTo_split_subset (Finset.subset_univ (lS off inb).view.set)).2
    isplitl [Hl] <;> iassumption

/-- The start of the write of row `h`'s block. -/
theorem write_start {h : ℕ} {off : Fin 5 → ℕ} {inb} (ho : off = ![h, 0, w * 4, 0, 0]) {R : sProp (Mod F)}
    {hsrc hdst hsem} :
    iprop(own d cc jj tM (turn (rowsAt TBL XT w h)) ∗ blk d cc jj w f0 h ∗ semVal (V d cc jj, .dma ws) 0 ∗ R)
      ⊢ WP d cc jj (Prog.lift (.enqueueDma tM (.here (oS off inb)) (.dma ws) hsrc hdst hsem))
          fun _ => iprop(Wri TBL XT d cc jj w tM ws h ∗ R) := by
  unfold WP own blk
  change _ ⊢ wp frame (wpE (defs₀ (F := F)) 𝒱₀ (V d cc jj) none) Set.univ (Prog.op (TpuEff.enqueueDma (p := .scVector cc jj) tM (.here (oS off inb)) (.dma ws) hsrc hdst hsem) Prog.ret) _
  rw [← set_oS w h inb ho]
  iintro ⟨⟨%f, %hf, Ht⟩, Ho, Hs, HR⟩
  iapply (Transfers.wp_dmaLocal countersEmb 𝒱₀ (V d cc jj) none (default : HIx 1) NO rfl
    (View.dmaCredit_pos _ (by decide)) (Finset.Subset.refl _)) $$ [Ht Ho Hs]
  · isplitl [Ht]; · iexact Ht
    isplitl [Ho]; · iexact Ho
    iexact Hs
  iintro Hfl
  rw [wp_ret]
  imodintro
  isplitr [HR]
  swap; · iexact HR
  unfold Wri
  iexists _
  isplitr
  swap; · iexact Hfl
  ipureintro
  unfold own blk
  rw [← set_oS w h inb ho]
  iintro ⟨Ho, Ht⟩
  isplitl [Ht]
  · iexists _, _
    isplitr
    swap; · iexact Ht
    ipureintro; rfl
  have hw : ∀ z ∈ (oS off inb).view.set, (oS off inb).view.write (Elt F) f0 (tM.view.read (Elt F) f) Finset.univ z = outAt TBL XT z :=
    hf ▸ write_oS TBL XT w h inb ho f0
  iapply (Entails.of_eq (pointsTo_congr (q := fullShare) (ℓ := oV.view.loc (V d cc jj)) hw))
  iexact Ho

end Cert.Proof.Lookup

end
-- ==== Proof.Turn.lean ====
/- What one buffer of the ring holds after serving `n` rows, and that each move of the loop's body takes
   it from one such state to the next. -/
module

public import proofs.«01_k».proof.Proof.Ring

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (TBL : S1000000x16.Idx → Elt F .f32) (XT : S50x16384.Idx → Elt F .i32) (f0 : S50x2x128x8x128.Idx → Elt F .f32)
variable (d : Dev nD) (cc : Fin τ.nSC) (jj : Fin τ.nSub) (w : ℕ)
variable (O : CellTallies nD τ sig (HIx 1)) (W : Waits sig (HIx 1))
variable (rM : Memref sig .scVector .vmem S512x16 .f32) (tM : Memref sig .scVector .vmem S2x4x8x128 .f32)
variable (gs ws : DmaSem sig) (q q' : PosShare TreeShare) (b n : ℕ)

omit [FloatOps F] in
/-- One entailment after another. -/
theorem ent_trans {A B C : sProp (Mod F)} (h : A ⊢ B) (h' : B ⊢ C) : A ⊢ C := BI.Entails.trans h h'

/-- A weaker postcondition. -/
theorem post_mono {d : Dev nD} {cc : Fin τ.nSC} {jj : Fin τ.nSub} {α : Type} {p : Prog (TpuEff nD τ sig (Elt F) Λ₀ (.scVector cc jj)) α}
    {A B C : sProp (Mod F)} (h : A ⊢ WP d cc jj p fun _ => B) (h' : B ⊢ C) : A ⊢ WP d cc jj p fun _ => C := by
  unfold WP at *
  exact BI.Entails.trans h (wp_mono _ _ _ fun _ => h')

/-- The rows buffer's side at rest: some contents, the shares back, the semaphore at zero. -/
def Idle : sProp (Mod F) := iprop((∃ X, own d cc jj rM X) ∗ tabP TBL d cc jj q ∗ lstP XT d cc jj w q' ∗ semVal (V d cc jj, .dma gs) 0)
/-- The rows buffer's side: the gather of its next row in flight, or at rest when there is none. -/
def Gst : sProp (Mod F) := if 3 * n + b < 50 then Gat TBL XT d cc jj w rM gs q q' (3 * n + b) else Idle TBL XT d cc jj w rM gs q q'
/-- The lane tiles' side: at rest before the first row, the last write in flight after it. -/
def Wst : sProp (Mod F) := match n with
  | 0 => iprop((∃ Y, own d cc jj tM Y) ∗ semVal (V d cc jj, .dma ws) 0)
  | n + 1 => Wri TBL XT d cc jj w tM ws (3 * n + b)
/-- The blocks the buffer has not begun to write. -/
def Pend : sProp (Mod F) := bigSep (Finset.univ.filter fun h : Fin 50 => h.val % 3 = b ∧ 3 * n + b ≤ h.val) fun h => blk d cc jj w f0 h.val
/-- The blocks the buffer has finished and waited for. -/
def Fini : sProp (Mod F) := bigSep (Finset.univ.filter fun h : Fin 50 => h.val % 3 = b ∧ h.val + 3 < 3 * n + b) fun h => blk d cc jj w (outAt TBL XT) h.val
/-- The buffer after `n` rows. -/
def BufSt : sProp (Mod F) := iprop(Gst TBL XT d cc jj w rM gs q q' b n ∗ Wst TBL XT d cc jj w tM ws b n
  ∗ Pend f0 d cc jj w b n ∗ Fini TBL XT d cc jj w b n)

variable (R : sProp (Mod F))

/-- Between the two waits: the row's gather has arrived. -/
def Got : sProp (Mod F) := iprop(OW d cc jj O W ∗ own d cc jj rM (rowsAt TBL XT w (3 * n + b)) ∗ tabP TBL d cc jj q ∗ lstP XT d cc jj w q'
  ∗ semVal (V d cc jj, .dma gs) 0 ∗ Wst TBL XT d cc jj w tM ws b n ∗ Pend f0 d cc jj w b n ∗ Fini TBL XT d cc jj w b n ∗ R)
/-- All that waits while the block is turned. -/
def Held : sProp (Mod F) := iprop(OW d cc jj O W ∗ tabP TBL d cc jj q ∗ lstP XT d cc jj w q'
  ∗ semVal (V d cc jj, .dma gs) 0 ∗ semVal (V d cc jj, .dma ws) 0 ∗ blk d cc jj w f0 (3 * n + b) ∗ Pend f0 d cc jj w b (n + 1)
  ∗ Fini TBL XT d cc jj w b (n + 1) ∗ R)
/-- The write begun, the rows buffer at rest. -/
def Sent : sProp (Mod F) := iprop(Idle TBL XT d cc jj w rM gs q q' ∗ OW d cc jj O W ∗ Wri TBL XT d cc jj w tM ws (3 * n + b)
  ∗ Pend f0 d cc jj w b (n + 1) ∗ Fini TBL XT d cc jj w b (n + 1) ∗ R)

variable {TBL XT f0 d cc jj w O W rM tM gs ws q q' b n R}

/-- The next block to write is among those not begun. -/
theorem pend_take (hb : b < 3) (hn : 3 * n + b < 50) :
    Pend f0 d cc jj w b n = iprop(blk d cc jj w f0 (3 * n + b) ∗ Pend f0 d cc jj w b (n + 1)) := by
  unfold Pend
  rw [show (Finset.univ.filter fun h : Fin 50 => h.val % 3 = b ∧ 3 * n + b ≤ h.val)
      = insert ⟨3 * n + b, hn⟩ (Finset.univ.filter fun h : Fin 50 => h.val % 3 = b ∧ 3 * (n + 1) + b ≤ h.val) from by
    ext h
    simp only [Finset.mem_insert, Finset.mem_filter, Finset.mem_univ, true_and, Fin.ext_iff]
    omega]
  rw [SparseCore.bigSep_insert' (by simp)]

/-- A block waited for joins those finished. -/
theorem fini_put (hb : b < 3) (hn : 3 * n + b < 50) :
    Fini TBL XT d cc jj w b (n + 2) = iprop(blk d cc jj w (outAt TBL XT) (3 * n + b) ∗ Fini TBL XT d cc jj w b (n + 1)) := by
  unfold Fini
  rw [show (Finset.univ.filter fun h : Fin 50 => h.val % 3 = b ∧ h.val + 3 < 3 * (n + 2) + b)
      = insert ⟨3 * n + b, hn⟩ (Finset.univ.filter fun h : Fin 50 => h.val % 3 = b ∧ h.val + 3 < 3 * (n + 1) + b) from by
    ext h
    simp only [Finset.mem_insert, Finset.mem_filter, Finset.mem_univ, true_and, Fin.ext_iff]
    omega]
  rw [SparseCore.bigSep_insert' (by
    simp only [Finset.mem_filter, Finset.mem_univ, true_and]; omega)]

/-- The first row finishes nothing. -/
theorem fini_one (hb : b < 3) : Fini TBL XT d cc jj w b 0 = Fini TBL XT d cc jj w b 1 := by
  unfold Fini
  congr 1
  ext h
  simp only [Finset.mem_filter, Finset.mem_univ, true_and]
  omega

/-- The wait for the row's gather. -/
theorem got_wait (hn : 3 * n + b < 50) {srcw : Memref sig .scVector .hbm S1000000x16 .f32} {hsrc hdst} :
    iprop(OW d cc jj O W ∗ BufSt TBL XT f0 d cc jj w rM tM gs ws q q' b n ∗ R)
      ⊢ WP d cc jj (SparseCore.waitIndirectGather gs srcw rM hsrc hdst) fun _ => Got TBL XT f0 d cc jj w O W rM tM gs ws q q' b n R := by
  unfold BufSt Gst Gat
  rw [if_pos hn]
  iintro ⟨HO, ⟨⟨%D, %R', %hD, Hf, HR'⟩, Hw, Hp, Hd⟩, HR⟩
  have key := flight_wait (d := d) (cc := cc) (jj := jj) (O := O) (W := W) (sem := gs) (srcw := srcw) (dstw := rM) (hsrc := hsrc) (hdst := hdst) rfl (D := D)
    (R := iprop(R' ∗ Wst TBL XT d cc jj w tM ws b n ∗ Pend f0 d cc jj w b n ∗ Fini TBL XT d cc jj w b n ∗ R))
  have mono : iprop(OW d cc jj O W ∗ D ∗ semVal (V d cc jj, .dma gs) 0 ∗ R' ∗ Wst TBL XT d cc jj w tM ws b n ∗ Pend f0 d cc jj w b n ∗ Fini TBL XT d cc jj w b n ∗ R)
      ⊢ Got TBL XT f0 d cc jj w O W rM tM gs ws q q' b n R := by
    unfold Got
    iintro ⟨HO, HD, Hs, HR', Hw, Hp, Hd, HR⟩
    ihave Hg := hD $$ [HD HR']; · isplitl [HD] <;> iassumption
    icases Hg with ⟨Hr, Ht, Hl⟩
    isplitl [HO]; · iexact HO
    isplitl [Hr]; · iexact Hr
    isplitl [Ht]; · iexact Ht
    isplitl [Hl]; · iexact Hl
    isplitl [Hs]; · iexact Hs
    isplitl [Hw]; · iexact Hw
    isplitl [Hp]; · iexact Hp
    isplitl [Hd]; · iexact Hd
    iexact HR
  have key' := post_mono key mono
  iapply key'
  isplitl [HO]; · iexact HO
  isplitl [Hf]; · iexact Hf
  isplitl [HR']; · iexact HR'
  isplitl [Hw]; · iexact Hw
  isplitl [Hp]; · iexact Hp
  isplitl [Hd]; · iexact Hd
  iexact HR

/-- Before the first write there is none to wait for. -/
theorem got_none (hb : b < 3) (hn : 3 * n + b < 50) (h0 : n = 0) :
    Got TBL XT f0 d cc jj w O W rM tM gs ws q q' b n R
      ⊢ Slab d cc jj rM tM (rowsAt TBL XT w (3 * n + b)) (Held TBL XT f0 d cc jj w O W gs ws q q' b n R) 0 := by
  unfold Got Slab Held
  rw [pend_take hb hn]
  subst h0
  rw [← fini_one hb]
  unfold Wst
  iintro ⟨HO, Hr, Ht, Hl, Hs, ⟨⟨%Y, HY⟩, Hws⟩, ⟨Hb, Hp⟩, Hd, HR⟩
  isplitl [Hr]; · iexact Hr
  isplitl [HY]
  · iexists Y; isplitr
    · ipureintro; exact done_zero _ _
    · iexact HY
  isplitl [HO]; · iexact HO
  isplitl [Ht]; · iexact Ht
  isplitl [Hl]; · iexact Hl
  isplitl [Hs]; · iexact Hs
  isplitl [Hws]; · iexact Hws
  isplitl [Hb]; · iexact Hb
  isplitl [Hp]; · iexact Hp
  isplitl [Hd]; · iexact Hd
  iexact HR

/-- The wait for the last write. -/
theorem got_prev (hb : b < 3) (hn : 3 * n + b < 50) (h0 : 0 < n) {srcw : Memref sig .scVector .vmem S2x4x8x128 .f32} {hsrc hdst} :
    Got TBL XT f0 d cc jj w O W rM tM gs ws q q' b n R
      ⊢ WP d cc jj (Prog.lift (.waitDma2 ws srcw (oS ![0, 0, 0, 0, 0] inb_S50x2x128x8x128_S1x2x4x8x128_0_0_0_0_0) hsrc hdst))
          fun _ => Slab d cc jj rM tM (rowsAt TBL XT w (3 * n + b)) (Held TBL XT f0 d cc jj w O W gs ws q q' b n R) 0 := by
  obtain ⟨n, rfl⟩ : ∃ k, n = k + 1 := ⟨n - 1, by omega⟩
  unfold Got Wst Wri
  iintro ⟨HO, Hr, Ht, Hl, Hs, ⟨%D, %hD, Hf⟩, Hp, Hd, HR⟩
  have key := flight_wait (d := d) (cc := cc) (jj := jj) (O := O) (W := W) (sem := ws) (srcw := srcw)
    (dstw := oS ![0, 0, 0, 0, 0] inb_S50x2x128x8x128_S1x2x4x8x128_0_0_0_0_0) (hsrc := hsrc) (hdst := hdst) rfl (D := D)
    (R := iprop(own d cc jj rM (rowsAt TBL XT w (3 * (n + 1) + b)) ∗ tabP TBL d cc jj q ∗ lstP XT d cc jj w q'
      ∗ semVal (V d cc jj, .dma gs) 0 ∗ Pend f0 d cc jj w b (n + 1) ∗ Fini TBL XT d cc jj w b (n + 1) ∗ R))
  have mono : iprop(OW d cc jj O W ∗ D ∗ semVal (V d cc jj, .dma ws) 0 ∗ own d cc jj rM (rowsAt TBL XT w (3 * (n + 1) + b)) ∗ tabP TBL d cc jj q ∗ lstP XT d cc jj w q'
      ∗ semVal (V d cc jj, .dma gs) 0 ∗ Pend f0 d cc jj w b (n + 1) ∗ Fini TBL XT d cc jj w b (n + 1) ∗ R)
      ⊢ Slab d cc jj rM tM (rowsAt TBL XT w (3 * (n + 1) + b)) (Held TBL XT f0 d cc jj w O W gs ws q q' b (n + 1) R) 0 := by
    unfold Slab Held
    rw [pend_take hb hn, fini_put hb (by omega)]
    iintro ⟨HO, HD, Hws, Hr, Ht, Hl, Hs, ⟨Hb, Hp⟩, Hd, HR⟩
    ihave Hg := hD $$ HD
    icases Hg with ⟨⟨%Y, HY⟩, Hk⟩
    isplitl [Hr]; · iexact Hr
    isplitl [HY]
    · iexists Y; isplitr
      · ipureintro; exact done_zero _ _
      · iexact HY
    isplitl [HO]; · iexact HO
    isplitl [Ht]; · iexact Ht
    isplitl [Hl]; · iexact Hl
    isplitl [Hs]; · iexact Hs
    isplitl [Hws]; · iexact Hws
    isplitl [Hb]; · iexact Hb
    isplitl [Hp]; · iexact Hp
    isplitl [Hk Hd]; · isplitl [Hk] <;> iassumption
    iexact HR
  have key' := post_mono key mono
  iapply key'
  isplitl [HO]; · iexact HO
  isplitl [Hf]; · iexact Hf
  isplitl [Hr]; · iexact Hr
  isplitl [Ht]; · iexact Ht
  isplitl [Hl]; · iexact Hl
  isplitl [Hs]; · iexact Hs
  isplitl [Hp]; · iexact Hp
  isplitl [Hd]; · iexact Hd
  iexact HR

/-- The start of the row's write. -/
theorem slab_put {off : Fin 5 → ℕ} {inb} (ho : off = ![3 * n + b, 0, w * 4, 0, 0]) {hsrc hdst hsem} :
    Slab d cc jj rM tM (rowsAt TBL XT w (3 * n + b)) (Held TBL XT f0 d cc jj w O W gs ws q q' b n R) 512
      ⊢ WP d cc jj (Prog.lift (.enqueueDma tM (.here (oS off inb)) (.dma ws) hsrc hdst hsem))
          fun _ => Sent TBL XT f0 d cc jj w O W rM tM gs ws q q' b n R := by
  have key := write_start (TBL := TBL) (XT := XT) (f0 := f0) (d := d) (cc := cc) (jj := jj) (tM := tM) (ws := ws) (w := w) (inb := inb) ho
    (hsrc := hsrc) (hdst := hdst) (hsem := hsem)
    (R := iprop(Idle TBL XT d cc jj w rM gs q q' ∗ OW d cc jj O W ∗ Pend f0 d cc jj w b (n + 1) ∗ Fini TBL XT d cc jj w b (n + 1) ∗ R))
  have mono : iprop(Wri TBL XT d cc jj w tM ws (3 * n + b) ∗ Idle TBL XT d cc jj w rM gs q q' ∗ OW d cc jj O W ∗ Pend f0 d cc jj w b (n + 1) ∗ Fini TBL XT d cc jj w b (n + 1) ∗ R)
      ⊢ Sent TBL XT f0 d cc jj w O W rM tM gs ws q q' b n R := by
    unfold Sent
    iintro ⟨Hw, Hi, HO, Hr⟩
    isplitl [Hi]; · iexact Hi
    isplitl [HO]; · iexact HO
    isplitl [Hw]; · iexact Hw
    iexact Hr
  have key' := post_mono key mono
  unfold Slab Held
  iintro ⟨Hr, ⟨%Y, %hY, HY⟩, HO, Ht, Hl, Hs, Hws, Hb, Hp, Hd, HR⟩
  obtain rfl := done_all hY
  iapply key'
  isplitl [HY]; · iexact HY
  isplitl [Hb]; · iexact Hb
  isplitl [Hws]; · iexact Hws
  isplitl [Hr Ht Hl Hs]
  · unfold Idle
    isplitl [Hr]; · iexists _; iexact Hr
    isplitl [Ht]; · iexact Ht
    isplitl [Hl]; · iexact Hl
    iexact Hs
  isplitl [HO]; · iexact HO
  isplitl [Hp]; · iexact Hp
  isplitl [Hd]; · iexact Hd
  iexact HR

/-- No further row for this buffer: it stays at rest. -/
theorem sent_none (h : ¬ 3 * n + b + 3 < 50) :
    Sent TBL XT f0 d cc jj w O W rM tM gs ws q q' b n R
      ⊢ iprop(OW d cc jj O W ∗ BufSt TBL XT f0 d cc jj w rM tM gs ws q q' b (n + 1) ∗ R) := by
  unfold Sent BufSt Gst Wst
  rw [if_neg (by omega)]
  iintro ⟨Hi, HO, Hw, Hp, Hd, HR⟩
  isplitl [HO]; · iexact HO
  isplitr [HR]
  · isplitl [Hi]; · iexact Hi
    isplitl [Hw]; · iexact Hw
    isplitl [Hp]; · iexact Hp
    iexact Hd
  iexact HR

/-- The start of the buffer's next gather. -/
theorem sent_next (h : 3 * n + b + 3 < 50) {off : Fin 2 → ℕ} {inb} (ho : off = ![3 * n + b + 3, 0]) (hX : ∀ j, (XT j : BitVec 32).toNat < 1000000)
    (hN : ∀ hg : S1000000x16.Gathers 0 S512x16, ∑ j, (rM.slice (S512x16.rowRect hg.axis' j) (S512x16.stride_rowRect hg.axis' j)).view.dmaCredit = rM.view.dmaCredit)
    {hg : S1000000x16.Gathers 0 S512x16} {hp hn hsrc he hsp hr} {α : Type} {k : PUnit → Prog (TpuEff nD τ sig (Elt F) Λ₀ (.scVector cc jj)) α}
    {Q : α → sProp (Mod F)}
    (hk : iprop(OW d cc jj O W ∗ BufSt TBL XT f0 d cc jj w rM tM gs ws q q' b (n + 1) ∗ R) ⊢ WP d cc jj (k ⟨⟩) Q) :
    Sent TBL XT f0 d cc jj w O W rM tM gs ws q q' b n R
      ⊢ WP d cc jj (SparseCore.enqueueIndirectGather hp tS rM hg (lS off inb) hn gs hsrc he hsp hr >>= k) Q := by
  have key := gather_start (TBL := TBL) (d := d) (cc := cc) (jj := jj) (w := w) (gs := gs) (q := q) (q' := q') (inb := inb) ho hX hN
    (hg := hg) (hp := hp) (hn := hn) (hsrc := hsrc) (he := he) (hsp := hsp) (hr := hr) (k := k) (Q := Q)
    (R := iprop(OW d cc jj O W ∗ Wri TBL XT d cc jj w tM ws (3 * n + b) ∗ Pend f0 d cc jj w b (n + 1) ∗ Fini TBL XT d cc jj w b (n + 1) ∗ R))
    (ent_trans (by
      unfold BufSt Gst Wst
      rw [if_pos (show 3 * (n + 1) + b < 50 by omega), show 3 * (n + 1) + b = 3 * n + b + 3 by omega]
      iintro ⟨Hg, HO, Hw, Hp, Hd, HR⟩
      isplitl [HO]; · iexact HO
      isplitr [HR]
      · isplitl [Hg]; · iexact Hg
        isplitl [Hw]; · iexact Hw
        isplitl [Hp]; · iexact Hp
        iexact Hd
      iexact HR) hk)
  unfold Sent Idle
  iintro ⟨⟨Hr, Ht, Hl, Hs⟩, HR⟩
  iapply key
  isplitl [Hr]; · iexact Hr
  isplitl [Ht]; · iexact Ht
  isplitl [Hl]; · iexact Hl
  isplitl [Hs]; · iexact Hs
  iexact HR

end Cert.Proof.Lookup

end
-- ==== Proof.Tile.lean ====
/- The stages of the kernel on one vector subcore: the copy of its index window, the loop's tests, the state
   between two trips, and what there is before the first and after the last. -/
module

public import proofs.«01_k».proof.Proof.Turn
@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {TBL : S1000000x16.Idx → Elt F .f32} {XT : S50x16384.Idx → Elt F .i32} {f0 : S50x2x128x8x128.Idx → Elt F .f32}
variable {d : Dev nD}
variable {O : CellTallies nD τ sig (HIx 1)} {W : Waits sig (HIx 1)}

/-- The three buffers of gathered rows and the three of lane tiles. -/
abbrev rA : Memref sig .scVector .vmem S512x16 .f32 := Memref.whole cc0_scratch1
abbrev rB : Memref sig .scVector .vmem S512x16 .f32 := Memref.whole cc0_scratch2
abbrev rC : Memref sig .scVector .vmem S512x16 .f32 := Memref.whole cc0_scratch3
abbrev tA : Memref sig .scVector .vmem S2x4x8x128 .f32 := Memref.whole cc0_scratch4
abbrev tB : Memref sig .scVector .vmem S2x4x8x128 .f32 := Memref.whole cc0_scratch5
abbrev tC : Memref sig .scVector .vmem S2x4x8x128 .f32 := Memref.whole cc0_scratch6

/-- The worker's number. -/
abbrev wid (i : grid0.Coords) : ℕ := 2 * (i 1).val + (i 0).val
/-- The subcore of a grid point. -/
abbrev cV (i : grid0.Coords) : Fin τ.nSC := (i 0).castLE hcore0
abbrev jV (i : grid0.Coords) : Fin τ.nSub := (i 1).castLE hsub0

/-- A loop, from its invariant. -/
theorem loop_step {cc : Fin τ.nSC} {jj : Fin τ.nSub} {l : Scf.Loop 32} {hok : l.OK} {α : Type}
    {body : Fin l.trips → PUnit → Prog (TpuEff nD τ sig (Elt F) Λ₀ (.scVector cc jj)) PUnit}
    {k : PUnit → Prog (TpuEff nD τ sig (Elt F) Λ₀ (.scVector cc jj)) α} {Q : α → sProp (Mod F)} {P : sProp (Mod F)} (I : ℕ → sProp (Mod F))
    (h0 : P ⊢ I 0) (hbody : ∀ t : Fin l.trips, I t.val ⊢ WP d cc jj (body t ⟨⟩) fun _ => I (t.val + 1))
    (hk : I l.trips ⊢ WP d cc jj (k ⟨⟩) Q) :
    P ⊢ WP d cc jj (Scf.Loop.for l hok ⟨⟩ body >>= k) Q := by
  unfold WP at *
  have key := Scf.wp_for_bind frame (wpE (defs₀ (F := F)) 𝒱₀ (V d cc jj) none) Set.univ l.lb l.ub l.st hok (⟨⟩ : PUnit) body
    (fun n _ => I n) (fun t _ => hbody t) (kk := k) (Q := Q)
  iintro HP
  ihave HI := h0 $$ HP
  iapply key $$ HI
  iintro %_ HI
  iapply hk
  iexact HI

/-- The first test of the loop's body passes at every trip. -/
theorem cond1_pos : ∀ t : Fin k0_t1_loop.trips, k0_cond1 t = 1#1 := by decide
/-- The second buffer's passes at every trip. -/
theorem cond4_pos : ∀ t : Fin k0_t1_loop.trips, k0_cond4 t = 1#1 := by decide
/-- The third buffer's passes at every trip but the last. -/
theorem cond7_iff : ∀ t : Fin k0_t1_loop.trips, k0_cond7 t = 1#1 ↔ t.val < 16 := by decide
/-- Whether there is a further row for each buffer. -/
theorem cond3_iff : ∀ t : Fin k0_t1_loop.trips, k0_cond3 t = 1#1 ↔ 3 * t.val + 0 + 3 < 50 := by decide
/-- The same for the second buffer. -/
theorem cond6_iff : ∀ t : Fin k0_t1_loop.trips, k0_cond6 t = 1#1 ↔ 3 * t.val + 1 + 3 < 50 := by decide
/-- The same for the third buffer. -/
theorem cond9_iff : ∀ t : Fin k0_t1_loop.trips, k0_cond9 t = 1#1 ↔ 3 * t.val + 2 + 3 < 50 := by decide
/-- Whether a write is to be waited for: on every trip but the first. -/
theorem later_iff : ∀ t : Fin k0_t1_loop.trips,
    Scalar.cmpi .ne (Scalar.extui (Scalar.cmpi .sgt (Scf.iv 0#32 1#32 t.val) 0#32) : BitVec 32) 0#32 = 1#1 ↔ 0 < t.val := by decide

/-- The rows of a gather together credit its whole destination. -/
theorem credit_rA : ∀ hg : S1000000x16.Gathers 0 S512x16,
    ∑ j, (rA.slice (S512x16.rowRect hg.axis' j) (S512x16.stride_rowRect hg.axis' j)).view.dmaCredit = rA.view.dmaCredit := by decide +kernel
/-- The same for the second buffer. -/
theorem credit_rB : ∀ hg : S1000000x16.Gathers 0 S512x16,
    ∑ j, (rB.slice (S512x16.rowRect hg.axis' j) (S512x16.stride_rowRect hg.axis' j)).view.dmaCredit = rB.view.dmaCredit := by decide +kernel
/-- The same for the third buffer. -/
theorem credit_rC : ∀ hg : S1000000x16.Gathers 0 S512x16,
    ∑ j, (rC.slice (S512x16.rowRect hg.axis' j) (S512x16.stride_rowRect hg.axis' j)).view.dmaCredit = rC.view.dmaCredit := by decide +kernel

section Win

variable {cc : Fin τ.nSC} {jj : Fin τ.nSub} {w : ℕ} {q : PosShare TreeShare} {R : sProp (Mod F)} {ss : DmaSem sig}

/-- The subcore's share of the index matrix. -/
def idxP (XT : S50x16384.Idx → Elt F .i32) (d : Dev nD) (cc : Fin τ.nSC) (jj : Fin τ.nSub) (q : PosShare TreeShare) : sProp (Mod F) :=
  iprop(xV.view.loc (V d cc jj) ↦{q} XT)
/-- The copy of the index window in flight. -/
def Win (XT : S50x16384.Idx → Elt F .i32) (d : Dev nD) (cc : Fin τ.nSC) (jj : Fin τ.nSub) (w : ℕ) (q : PosShare TreeShare) (ss : DmaSem sig) : sProp (Mod F) :=
  iprop(∃ D R : sProp (Mod F), ⌜iprop(D ∗ R) ⊢ iprop(lstP XT d cc jj w fullShare ∗ idxP XT d cc jj q)⌝
    ∗ Transfers.Flight countersEmb (V d cc jj) (.dma ss) (default : HIx 1) lV.view.dmaCredit D ∗ R)

/-- The start of the copy of the index window. -/
theorem win_start {off : Fin 2 → ℕ} {inb} (hw : w < 32) (ho : off = ![0, w * 512]) {hsrc hdst hsem} :
    iprop((∃ f, lV.view.loc (V d cc jj) ↦{fullShare} f) ∗ idxP XT d cc jj q ∗ semVal (V d cc jj, .dma ss) 0 ∗ R)
      ⊢ WP d cc jj (Prog.lift (.enqueueDma (xV.slice (Rect.unit (s := S50x16384) off S50x512.size inb) (fun _ => rfl)) (.here lV) (.dma ss) hsrc hdst hsem))
          fun _ => iprop(Win XT d cc jj w q ss ∗ R) := by
  unfold WP idxP
  change _ ⊢ wp frame (wpE (defs₀ (F := F)) 𝒱₀ (V d cc jj) none) Set.univ (Prog.op (TpuEff.enqueueDma (p := .scVector cc jj)
    (xV.slice (Rect.unit (s := S50x16384) off S50x512.size inb) (fun _ => rfl)) (.here lV) (.dma ss) hsrc hdst hsem) Prog.ret) _
  iintro ⟨⟨%f, Hl⟩, Hx, Hs, HR⟩
  ihave Hx := (pointsTo_split_subset (Finset.subset_univ (xV.slice (Rect.unit (s := S50x16384) off S50x512.size inb) (fun _ => rfl)).view.set)).1 $$ Hx
  icases Hx with ⟨Hx, Hx'⟩
  iapply (Transfers.wp_dmaLocal countersEmb 𝒱₀ (V d cc jj) none (default : HIx 1) lV.view.dmaCredit rfl
    (View.dmaCredit_pos _ (by decide)) (Finset.subset_univ _)) $$ [Hl Hx Hs]
  · isplitl [Hx]; · iexact Hx
    isplitl [Hl]; · iexact Hl
    iexact Hs
  iintro Hfl
  rw [wp_ret]
  imodintro
  isplitr [HR]
  swap; · iexact HR
  unfold Win
  iexists _, iprop(xV.view.loc (V d cc jj) ↦[Finset.univ \ (xV.slice (Rect.unit (s := S50x16384) off S50x512.size inb) (fun _ => rfl)).view.set]{q} XT)
  isplitr
  swap
  · isplitl [Hfl]; · iexact Hfl
    iexact Hx'
  ipureintro
  unfold lstP idxP
  iintro ⟨⟨Hl, Hx⟩, Hx'⟩
  isplitl [Hl]
  · have e : ∀ z ∈ (Finset.univ : Finset (Idx (lV.view.loc (V d cc jj)))), lV.view.write (Elt F) f ((xV.slice (Rect.unit (s := S50x16384) off S50x512.size inb) (fun _ => rfl)).view.read (Elt F) XT) Finset.univ z = lstAt XT w z := by
      intro z _
      rw [View.write_whole_univ, read_xS XT w hw inb ho]
    iapply (Entails.of_eq (pointsTo_congr (q := fullShare) (ℓ := lV.view.loc (V d cc jj)) e))
    iexact Hl
  · iapply (pointsTo_split_subset (Finset.subset_univ (xV.slice (Rect.unit (s := S50x16384) off S50x512.size inb) (fun _ => rfl)).view.set)).2
    isplitl [Hx] <;> iassumption

/-- The wait for it. -/
theorem win_wait {sp' : Space} {s' : Shape} {e' : EltTy} {srcw : Memref sig .scVector sp' s' e'} {hsrc hdst} :
    iprop(OW d cc jj O W ∗ Win XT d cc jj w q ss ∗ R)
      ⊢ WP d cc jj (Prog.lift (.waitDma2 ss srcw lV hsrc hdst))
          fun _ => iprop(OW d cc jj O W ∗ lstP XT d cc jj w fullShare ∗ idxP XT d cc jj q ∗ semVal (V d cc jj, .dma ss) 0 ∗ R) := by
  unfold Win
  iintro ⟨HO, ⟨%D, %R', %hD, Hf, HR'⟩, HR⟩
  have key := flight_wait (d := d) (cc := cc) (jj := jj) (O := O) (W := W) (sem := ss) (srcw := srcw) (dstw := lV) (hsrc := hsrc) (hdst := hdst) rfl (D := D)
    (R := iprop(R' ∗ R))
  have mono : iprop(OW d cc jj O W ∗ D ∗ semVal (V d cc jj, .dma ss) 0 ∗ R' ∗ R)
      ⊢ iprop(OW d cc jj O W ∗ lstP XT d cc jj w fullShare ∗ idxP XT d cc jj q ∗ semVal (V d cc jj, .dma ss) 0 ∗ R) := by
    iintro ⟨HO, HD, Hs, HR', HR⟩
    ihave Hg := hD $$ [HD HR']; · isplitl [HD] <;> iassumption
    icases Hg with ⟨Hl, Hx⟩
    isplitl [HO]; · iexact HO
    isplitl [Hl]; · iexact Hl
    isplitl [Hx]; · iexact Hx
    isplitl [Hs]; · iexact Hs
    iexact HR
  have key' := post_mono key mono
  iapply key'
  isplitl [HO]; · iexact HO
  isplitl [Hf]; · iexact Hf
  isplitl [HR']; · iexact HR'
  iexact HR

end Win

/-- The start of a gather on a buffer at rest. -/
theorem idle_start {cc : Fin τ.nSC} {jj : Fin τ.nSub} {w : ℕ} {q q' : PosShare TreeShare} {R : sProp (Mod F)} {gs : DmaSem sig}
    {rM : Memref sig .scVector .vmem S512x16 .f32} {h : ℕ} {off : Fin 2 → ℕ} {inb} (ho : off = ![h, 0]) (hX : ∀ j, (XT j : BitVec 32).toNat < 1000000)
    (hN : ∀ hg : S1000000x16.Gathers 0 S512x16, ∑ j, (rM.slice (S512x16.rowRect hg.axis' j) (S512x16.stride_rowRect hg.axis' j)).view.dmaCredit = rM.view.dmaCredit)
    {hg : S1000000x16.Gathers 0 S512x16} {hp hn hsrc he hsp hr} {α : Type} {k : PUnit → Prog (TpuEff nD τ sig (Elt F) Λ₀ (.scVector cc jj)) α}
    {Q : α → sProp (Mod F)}
    (hk : iprop(R ∗ Gat TBL XT d cc jj w rM gs q q' h) ⊢ WP d cc jj (k ⟨⟩) Q) :
    iprop(Idle TBL XT d cc jj w rM gs q q' ∗ R)
      ⊢ WP d cc jj (SparseCore.enqueueIndirectGather hp tS rM hg (lS off inb) hn gs hsrc he hsp hr >>= k) Q := by
  have key := gather_start (TBL := TBL) (d := d) (cc := cc) (jj := jj) (w := w) (gs := gs) (q := q) (q' := q') (inb := inb) ho hX hN
    (hg := hg) (hp := hp) (hn := hn) (hsrc := hsrc) (he := he) (hsp := hsp) (hr := hr) (k := k) (Q := Q) (R := R)
    (ent_trans sep_comm.1 hk)
  unfold Idle
  iintro ⟨⟨Hr, Ht, Hl, Hs⟩, HR⟩
  iapply key
  isplitl [Hr]; · iexact Hr
  isplitl [Ht]; · iexact Ht
  isplitl [Hl]; · iexact Hl
  isplitl [Hs]; · iexact Hs
  iexact HR

/-- The start of the buffer's next gather, when there is a further row for it. -/
theorem next_step {cc : Fin τ.nSC} {jj : Fin τ.nSub} {w : ℕ} {q q' : PosShare TreeShare} {R : sProp (Mod F)} {gs ws : DmaSem sig} {b n : ℕ}
    {rM : Memref sig .scVector .vmem S512x16 .f32} {tM : Memref sig .scVector .vmem S2x4x8x128 .f32} {off : Fin 2 → ℕ} {c : Prop} [Decidable c] {inb : c → _}
    (hc : c ↔ 3 * n + b + 3 < 50) (ho : off = ![3 * n + b + 3, 0]) (hX : ∀ j, (XT j : BitVec 32).toNat < 1000000)
    (hN : ∀ hg : S1000000x16.Gathers 0 S512x16, ∑ j, (rM.slice (S512x16.rowRect hg.axis' j) (S512x16.stride_rowRect hg.axis' j)).view.dmaCredit = rM.view.dmaCredit)
    {hg : S1000000x16.Gathers 0 S512x16} {hp hn hsrc he hsp hr} {α : Type} {k : PUnit → Prog (TpuEff nD τ sig (Elt F) Λ₀ (.scVector cc jj)) α}
    {Q : α → sProp (Mod F)}
    (hk : iprop(OW d cc jj O W ∗ BufSt TBL XT f0 d cc jj w rM tM gs ws q q' b (n + 1) ∗ R) ⊢ WP d cc jj (k ⟨⟩) Q) :
    Sent TBL XT f0 d cc jj w O W rM tM gs ws q q' b n R
      ⊢ WP d cc jj (dite c (fun h => SparseCore.enqueueIndirectGather hp tS rM hg (lS off (inb h)) hn gs hsrc he hsp hr >>= k) fun _ => k ⟨⟩) Q := by
  by_cases h : c
  · rw [dif_pos h]; exact sent_next (hc.mp h) ho hX hN hk
  · rw [dif_neg h]; exact ent_trans (sent_none fun h' => h (hc.mpr h')) hk

section Body

variable (TBL XT f0 d O W)
variable (i : grid0.Coords) (q : PosShare TreeShare) (b n : ℕ)

/-- The three buffers' states, each with its own share of the table and of the window. -/
abbrev stA (n : ℕ) : sProp (Mod F) := BufSt TBL XT f0 d (cV i) (jV i) (wid i) rA tA cc0_scratch7.sem cc0_scratch10.sem q.left fullShare.left 0 n
abbrev stB (n : ℕ) : sProp (Mod F) := BufSt TBL XT f0 d (cV i) (jV i) (wid i) rB tB cc0_scratch8.sem cc0_scratch11.sem q.right.left fullShare.right.left 1 n
abbrev stC (n : ℕ) : sProp (Mod F) := BufSt TBL XT f0 d (cV i) (jV i) (wid i) rC tC cc0_scratch9.sem cc0_scratch12.sem q.right.right fullShare.right.right 2 n
/-- Between two trips of the loop. -/
def Inv (R : sProp (Mod F)) (n : ℕ) : sProp (Mod F) := iprop(OW d (cV i) (jV i) O W ∗ stA TBL XT f0 d i q n ∗ stB TBL XT f0 d i q n
  ∗ stC TBL XT f0 d i q (min n 16) ∗ R)

variable {TBL XT f0 d O W i q}

end Body

/-- The buffer before its first row and after its last: rows and lane tiles at some contents, both semaphores at zero. -/
def Rest (d : Dev nD) (cc : Fin τ.nSC) (jj : Fin τ.nSub) (rM : Memref sig .scVector .vmem S512x16 .f32) (tM : Memref sig .scVector .vmem S2x4x8x128 .f32)
    (gs ws : DmaSem sig) : sProp (Mod F) :=
  iprop((∃ X, own d cc jj rM X) ∗ semVal (V d cc jj, .dma gs) 0 ∗ (∃ Y, own d cc jj tM Y) ∗ semVal (V d cc jj, .dma ws) 0)
/-- All the worker's blocks of the result. -/
def Blks (d : Dev nD) (cc : Fin τ.nSC) (jj : Fin τ.nSub) (w : ℕ) (f : S50x2x128x8x128.Idx → Elt F .f32) : sProp (Mod F) :=
  bigSep Finset.univ fun h : Fin 50 => blk d cc jj w f h.val

/-- A share of the table in three. -/
theorem tab_three {cc : Fin τ.nSC} {jj : Fin τ.nSub} (q : PosShare TreeShare) :
    tabP TBL d cc jj q = iprop(tabP TBL d cc jj q.left ∗ tabP TBL d cc jj q.right.left ∗ tabP TBL d cc jj q.right.right) := by
  have h (q : PosShare TreeShare) : tabP TBL d cc jj q = iprop(tabP TBL d cc jj q.left ∗ tabP TBL d cc jj q.right) := by
    unfold tabP
    exact BI.Entails.antisymm (pointsTo_share (PosShare.mem_left_op_right q)).1 (pointsTo_share (PosShare.mem_left_op_right q)).2
  rw [h q, h q.right]
/-- A share of the window in three. -/
theorem lst_three {cc : Fin τ.nSC} {jj : Fin τ.nSub} {w : ℕ} (q : PosShare TreeShare) :
    lstP XT d cc jj w q = iprop(lstP XT d cc jj w q.left ∗ lstP XT d cc jj w q.right.left ∗ lstP XT d cc jj w q.right.right) := by
  have h (q : PosShare TreeShare) : lstP XT d cc jj w q = iprop(lstP XT d cc jj w q.left ∗ lstP XT d cc jj w q.right) := by
    unfold lstP
    exact BI.Entails.antisymm (pointsTo_share (PosShare.mem_left_op_right q)).1 (pointsTo_share (PosShare.mem_left_op_right q)).2
  rw [h q, h q.right]
/-- Fifty blocks, by which buffer they go through. -/
theorem three_sets {cc : Fin τ.nSC} {jj : Fin τ.nSub} {w : ℕ} (f : S50x2x128x8x128.Idx → Elt F .f32) (s₀ s₁ s₂ : Finset (Fin 50))
    (h₀ : Disjoint s₀ (s₁ ∪ s₂)) (h₁ : Disjoint s₁ s₂) (h : s₀ ∪ (s₁ ∪ s₂) = Finset.univ) :
    Blks d cc jj w f = iprop(bigSep s₀ (fun h : Fin 50 => blk d cc jj w f h.val) ∗ bigSep s₁ (fun h : Fin 50 => blk d cc jj w f h.val)
      ∗ bigSep s₂ (fun h : Fin 50 => blk d cc jj w f h.val)) := by
  unfold Blks
  rw [← h, bigSep_union h₀, bigSep_union h₁]
  rfl
/-- Before the first row no block is begun. -/
theorem blks_pend {cc : Fin τ.nSC} {jj : Fin τ.nSub} {w : ℕ} :
    Blks d cc jj w f0 = iprop(Pend f0 d cc jj w 0 0 ∗ Pend f0 d cc jj w 1 0 ∗ Pend f0 d cc jj w 2 0) :=
  three_sets f0 _ _ _ (by decide) (by decide) (by decide)
/-- After the last every block is finished. -/
theorem blks_fini {cc : Fin τ.nSC} {jj : Fin τ.nSub} {w : ℕ} :
    Blks d cc jj w (outAt TBL XT) = iprop(Fini TBL XT d cc jj w 0 18 ∗ Fini TBL XT d cc jj w 1 18 ∗ Fini TBL XT d cc jj w 2 17) :=
  three_sets (outAt TBL XT) _ _ _ (by decide) (by decide) (by decide)
/-- None is finished before the first. -/
theorem fini_zero {cc : Fin τ.nSC} {jj : Fin τ.nSub} {w b : ℕ} (hb : b < 3) : Fini TBL XT d cc jj w b 0 = iprop(emp) := by
  unfold Fini
  rw [Finset.filter_false_of_mem fun h _ => by omega, bigSep_empty]
  rfl

/-- The last wait for a buffer's write. -/
theorem end_wait {cc : Fin τ.nSC} {jj : Fin τ.nSub} {w b n : ℕ} {q q' : PosShare TreeShare} {R : sProp (Mod F)} {gs ws : DmaSem sig}
    {rM : Memref sig .scVector .vmem S512x16 .f32} {tM : Memref sig .scVector .vmem S2x4x8x128 .f32} (hb : b < 3) (hn : 3 * n + b < 50) (hl : 50 ≤ 3 * (n + 1) + b)
    {srcw : Memref sig .scVector .vmem S2x4x8x128 .f32} {hsrc hdst} :
    iprop(OW d cc jj O W ∗ BufSt TBL XT f0 d cc jj w rM tM gs ws q q' b (n + 1) ∗ R)
      ⊢ WP d cc jj (Prog.lift (.waitDma2 ws srcw (oS ![0, 0, 0, 0, 0] inb_S50x2x128x8x128_S1x2x4x8x128_0_0_0_0_0) hsrc hdst))
          fun _ => iprop(OW d cc jj O W ∗ R ∗ Rest d cc jj rM tM gs ws ∗ tabP TBL d cc jj q ∗ lstP XT d cc jj w q' ∗ Fini TBL XT d cc jj w b (n + 2)) := by
  unfold BufSt Gst Wst Wri Idle
  rw [if_neg (by omega), fini_put hb hn]
  iintro ⟨HO, ⟨⟨Hr, Ht, Hl, Hs⟩, ⟨%D, %hD, Hf⟩, -, Hd⟩, HR⟩
  have key := flight_wait (d := d) (cc := cc) (jj := jj) (O := O) (W := W) (sem := ws) (srcw := srcw)
    (dstw := oS ![0, 0, 0, 0, 0] inb_S50x2x128x8x128_S1x2x4x8x128_0_0_0_0_0) (hsrc := hsrc) (hdst := hdst) rfl (D := D)
    (R := iprop((∃ X, own d cc jj rM X) ∗ tabP TBL d cc jj q ∗ lstP XT d cc jj w q'
      ∗ semVal (V d cc jj, .dma gs) 0 ∗ Fini TBL XT d cc jj w b (n + 1) ∗ R))
  have mono : iprop(OW d cc jj O W ∗ D ∗ semVal (V d cc jj, .dma ws) 0 ∗ (∃ X, own d cc jj rM X) ∗ tabP TBL d cc jj q ∗ lstP XT d cc jj w q'
      ∗ semVal (V d cc jj, .dma gs) 0 ∗ Fini TBL XT d cc jj w b (n + 1) ∗ R)
      ⊢ iprop(OW d cc jj O W ∗ R ∗ Rest d cc jj rM tM gs ws ∗ tabP TBL d cc jj q ∗ lstP XT d cc jj w q'
        ∗ blk d cc jj w (outAt TBL XT) (3 * n + b) ∗ Fini TBL XT d cc jj w b (n + 1)) := by
    unfold Rest
    iintro ⟨HO, HD, Hws, Hr, Ht, Hl, Hs, Hd, HR⟩
    ihave Hg := hD $$ HD
    icases Hg with ⟨HY, Hk⟩
    isplitl [HO]; · iexact HO
    isplitl [HR]; · iexact HR
    isplitl [Hr Hs HY Hws]
    · isplitl [Hr]; · iexact Hr
      isplitl [Hs]; · iexact Hs
      isplitl [HY]; · iexact HY
      iexact Hws
    isplitl [Ht]; · iexact Ht
    isplitl [Hl]; · iexact Hl
    isplitl [Hk]; · iexact Hk
    iexact Hd
  have key' := post_mono key mono
  iapply key'
  isplitl [HO]; · iexact HO
  isplitl [Hf]; · iexact Hf
  isplitl [Hr]; · iexact Hr
  isplitl [Ht]; · iexact Ht
  isplitl [Hl]; · iexact Hl
  isplitl [Hs]; · iexact Hs
  isplitl [Hd]; · iexact Hd
  iexact HR

section Ends

variable (TBL XT f0 d O W)
variable (i : grid0.Coords) (q qx : PosShare TreeShare) (R : sProp (Mod F))

/-- The three buffers at rest. -/
abbrev restA : sProp (Mod F) := Rest d (cV i) (jV i) rA tA cc0_scratch7.sem cc0_scratch10.sem
abbrev restB : sProp (Mod F) := Rest d (cV i) (jV i) rB tB cc0_scratch8.sem cc0_scratch11.sem
abbrev restC : sProp (Mod F) := Rest d (cV i) (jV i) rC tC cc0_scratch9.sem cc0_scratch12.sem
/-- What waits while the index window is copied. -/
def Wait0 : sProp (Mod F) := iprop(tabP TBL d (cV i) (jV i) q ∗ restA d i ∗ restB d i ∗ restC d i ∗ Blks d (cV i) (jV i) (wid i) f0 ∗ R)
/-- The index matrix's share and the window's semaphore, done with after the copy. -/
def Past : sProp (Mod F) := iprop(idxP XT d (cV i) (jV i) qx ∗ semVal (V d (cV i) (jV i), .dma cc0_scoped0.sem) 0 ∗ R)
/-- What waits while the first three gathers start. -/
def Wait1 : sProp (Mod F) := iprop(OW d (cV i) (jV i) O W
  ∗ Wst TBL XT d (cV i) (jV i) (wid i) tA cc0_scratch10.sem 0 0 ∗ Wst TBL XT d (cV i) (jV i) (wid i) tB cc0_scratch11.sem 1 0
  ∗ Wst TBL XT d (cV i) (jV i) (wid i) tC cc0_scratch12.sem 2 0 ∗ Blks d (cV i) (jV i) (wid i) f0 ∗ Past XT d i qx R)
/-- The buffers' own sides at rest, each with its shares. -/
abbrev idleA : sProp (Mod F) := Idle TBL XT d (cV i) (jV i) (wid i) rA cc0_scratch7.sem q.left fullShare.left
abbrev idleB : sProp (Mod F) := Idle TBL XT d (cV i) (jV i) (wid i) rB cc0_scratch8.sem q.right.left fullShare.right.left
abbrev idleC : sProp (Mod F) := Idle TBL XT d (cV i) (jV i) (wid i) rC cc0_scratch9.sem q.right.right fullShare.right.right
/-- Their first gathers in flight. -/
abbrev gatA : sProp (Mod F) := Gat TBL XT d (cV i) (jV i) (wid i) rA cc0_scratch7.sem q.left fullShare.left 0
abbrev gatB : sProp (Mod F) := Gat TBL XT d (cV i) (jV i) (wid i) rB cc0_scratch8.sem q.right.left fullShare.right.left 1
abbrev gatC : sProp (Mod F) := Gat TBL XT d (cV i) (jV i) (wid i) rC cc0_scratch9.sem q.right.right fullShare.right.right 2
/-- What the kernel starts with and what it leaves: the window at some contents, the blocks at `f`. -/
def Ends (f : S50x2x128x8x128.Idx → Elt F .f32) : sProp (Mod F) := iprop(OW d (cV i) (jV i) O W ∗ (∃ f, lV.view.loc (V d (cV i) (jV i)) ↦{fullShare} f)
  ∗ tabP TBL d (cV i) (jV i) q ∗ restA d i ∗ restB d i ∗ restC d i ∗ Blks d (cV i) (jV i) (wid i) f ∗ Past XT d i qx R)

variable {TBL XT f0 d O W i q qx R}

/-- The start, as the window's copy takes it. -/
theorem ends_in : Ends TBL XT d O W i q qx R f0 ⊢ iprop((∃ f, lV.view.loc (V d (cV i) (jV i)) ↦{fullShare} f) ∗ idxP XT d (cV i) (jV i) qx
    ∗ semVal (V d (cV i) (jV i), .dma cc0_scoped0.sem) 0 ∗ OW d (cV i) (jV i) O W ∗ Wait0 TBL f0 d i q R) := by
  unfold Ends Past Wait0
  iintro ⟨HO, Hl, Ht, HA, HB, HC, Hb, Hx, Hs, HR⟩
  isplitl [Hl]; · iexact Hl
  isplitl [Hx]; · iexact Hx
  isplitl [Hs]; · iexact Hs
  isplitl [HO]; · iexact HO
  isplitl [Ht]; · iexact Ht
  isplitl [HA]; · iexact HA
  isplitl [HB]; · iexact HB
  isplitl [HC]; · iexact HC
  isplitl [Hb]; · iexact Hb
  iexact HR

/-- The window arrived: the shares are dealt. -/
theorem deal : iprop(OW d (cV i) (jV i) O W ∗ lstP XT d (cV i) (jV i) (wid i) fullShare ∗ idxP XT d (cV i) (jV i) qx
      ∗ semVal (V d (cV i) (jV i), .dma cc0_scoped0.sem) 0 ∗ Wait0 TBL f0 d i q R)
    ⊢ iprop(idleA TBL XT d i q ∗ idleB TBL XT d i q ∗ idleC TBL XT d i q ∗ Wait1 TBL XT f0 d O W i qx R) := by
  unfold Wait0 Wait1 Past idleA idleB idleC Idle restA restB restC Rest Wst
  rw [tab_three q, lst_three fullShare]
  iintro ⟨HO, ⟨HlA, HlB, HlC⟩, Hx, Hs, ⟨HtA, HtB, HtC⟩, ⟨HrA, HgA, HyA, HwA⟩, ⟨HrB, HgB, HyB, HwB⟩, ⟨HrC, HgC, HyC, HwC⟩, Hb, HR⟩
  isplitl [HrA HtA HlA HgA]
  · isplitl [HrA]; · iexact HrA
    isplitl [HtA]; · iexact HtA
    isplitl [HlA]; · iexact HlA
    iexact HgA
  isplitl [HrB HtB HlB HgB]
  · isplitl [HrB]; · iexact HrB
    isplitl [HtB]; · iexact HtB
    isplitl [HlB]; · iexact HlB
    iexact HgB
  isplitl [HrC HtC HlC HgC]
  · isplitl [HrC]; · iexact HrC
    isplitl [HtC]; · iexact HtC
    isplitl [HlC]; · iexact HlC
    iexact HgC
  isplitl [HO]; · iexact HO
  isplitl [HyA HwA]; · isplitl [HyA] <;> iassumption
  isplitl [HyB HwB]; · isplitl [HyB] <;> iassumption
  isplitl [HyC HwC]; · isplitl [HyC] <;> iassumption
  isplitl [Hb]; · iexact Hb
  isplitl [Hx]; · iexact Hx
  isplitl [Hs]; · iexact Hs
  iexact HR

/-- Three gathers in flight: the loop may start. -/
theorem begin_loop : iprop((Wait1 TBL XT f0 d O W i qx R ∗ gatA TBL XT d i q ∗ gatB TBL XT d i q) ∗ gatC TBL XT d i q)
    ⊢ Inv TBL XT f0 d O W i q (Past XT d i qx R) 0 := by
  have e₀ : Gst TBL XT d (cV i) (jV i) (wid i) rA cc0_scratch7.sem q.left fullShare.left 0 0 = gatA TBL XT d i q := if_pos (by decide)
  have e₁ : Gst TBL XT d (cV i) (jV i) (wid i) rB cc0_scratch8.sem q.right.left fullShare.right.left 1 0 = gatB TBL XT d i q := if_pos (by decide)
  have e₂ : Gst TBL XT d (cV i) (jV i) (wid i) rC cc0_scratch9.sem q.right.right fullShare.right.right 2 0 = gatC TBL XT d i q := if_pos (by decide)
  unfold Wait1 Inv stA stB stC BufSt
  rw [show min 0 16 = 0 from rfl, e₀, e₁, e₂, fini_zero (by decide), fini_zero (by decide), fini_zero (by decide), blks_pend]
  iintro ⟨⟨⟨HO, HA, HB, HC, ⟨Hp, Hp₁, Hp₂⟩, HR⟩, HgA, HgB⟩, HgC⟩
  isplitl [HO]; · iexact HO
  isplitl [HgA HA Hp]
  · isplitl [HgA]; · iexact HgA
    isplitl [HA]; · iexact HA
    isplitl [Hp]; · iexact Hp
    iempintro
  isplitl [HgB HB Hp₁]
  · isplitl [HgB]; · iexact HgB
    isplitl [HB]; · iexact HB
    isplitl [Hp₁]; · iexact Hp₁
    iempintro
  isplitl [HgC HC Hp₂]
  · isplitl [HgC]; · iexact HgC
    isplitl [HC]; · iexact HC
    isplitl [Hp₂]; · iexact Hp₂
    iempintro
  iexact HR

/-- The pieces after the last three waits, together. -/
theorem gather_up : iprop(OW d (cV i) (jV i) O W ∗ ((Past XT d i qx R
      ∗ restA d i ∗ tabP TBL d (cV i) (jV i) q.left ∗ lstP XT d (cV i) (jV i) (wid i) fullShare.left ∗ Fini TBL XT d (cV i) (jV i) (wid i) 0 18)
      ∗ restB d i ∗ tabP TBL d (cV i) (jV i) q.right.left ∗ lstP XT d (cV i) (jV i) (wid i) fullShare.right.left ∗ Fini TBL XT d (cV i) (jV i) (wid i) 1 18)
      ∗ restC d i ∗ tabP TBL d (cV i) (jV i) q.right.right ∗ lstP XT d (cV i) (jV i) (wid i) fullShare.right.right ∗ Fini TBL XT d (cV i) (jV i) (wid i) 2 17)
    ⊢ Ends TBL XT d O W i q qx R (outAt TBL XT) := by
  unfold Ends
  rw [blks_fini, tab_three q]
  iintro ⟨HO, ⟨⟨HP, HA, HtA, HlA, HfA⟩, HB, HtB, HlB, HfB⟩, HC, HtC, HlC, HfC⟩
  ihave Hl := (Entails.of_eq (lst_three (XT := XT) (d := d) (cc := cV i) (jj := jV i) (w := wid i) fullShare).symm) $$ [HlA HlB HlC]
  · isplitl [HlA]; · iexact HlA
    isplitl [HlB]; · iexact HlB
    iexact HlC
  isplitl [HO]; · iexact HO
  isplitl [Hl]
  · unfold lstP; iexists _; iexact Hl
  isplitl [HtA HtB HtC]
  · isplitl [HtA]; · iexact HtA
    isplitl [HtB]; · iexact HtB
    iexact HtC
  isplitl [HA]; · iexact HA
  isplitl [HB]; · iexact HB
  isplitl [HC]; · iexact HC
  isplitl [HfA HfB HfC]
  · isplitl [HfA]; · iexact HfA
    isplitl [HfB]; · iexact HfB
    iexact HfC
  iexact HP

end Ends

end Cert.Proof.Lookup

end
-- ==== Proof.Slab0.lean ====
/- The body of the loop for buffer 0, from the wait for its gather to the start of its write: the block turn
   is 512 gathers and 512 stores, each by its step rule. -/
module

public import proofs.«01_k».proof.Proof.Step
public import proofs.«01_k».proof.KernelIdeal

@[expose] public section

noncomputable section

namespace Cert.Proof.Lookup

open Cert.KernelIdeal Cert.KernelIdeal.Gen

open Idealize.ShloMosaic
open Idealize.SL Idealize.SL.BI
open scoped Idealize.SL.BI
open Idealize.SL.BI.BIBase Idealize.SL.Sem

variable {F : FTy → Type} [FloatOps F]

set_option maxHeartbeats 40000000 in
/-- The body of the loop for buffer 0: given what the wait for the gather and the wait for the previous write
    leave — the gathered rows `X` and the lane tiles' buffer — and what the start of the write needs — the turned
    block in that buffer — the whole body runs, and then what follows it. -/
theorem slab0 (d : Dev nD) (i : grid0.Coords) (arg2 : Memref sig .scVector .hbm S1000000x16 .f32) (harg2 : arg2.IsWhole) (arg3 : Memref sig .scVector .hbm S50x16384 .i32) (harg3 : arg3.IsWhole) (arg4 : Memref sig .scVector .hbm S50x2x128x8x128 .f32) (harg4 : arg4.IsWhole) (arg5 : Memref sig .scVector .vmem S50x512 .i32) (harg5 : arg5.IsWhole) (arg6 : Memref sig .scVector .vmem S512x16 .f32) (harg6 : arg6.IsWhole) (arg7 : Memref sig .scVector .vmem S512x16 .f32) (harg7 : arg7.IsWhole) (arg8 : Memref sig .scVector .vmem S512x16 .f32) (harg8 : arg8.IsWhole) (arg9 : Memref sig .scVector .vmem S2x4x8x128 .f32) (harg9 : arg9.IsWhole) (arg10 : Memref sig .scVector .vmem S2x4x8x128 .f32) (harg10 : arg10.IsWhole) (arg11 : Memref sig .scVector .vmem S2x4x8x128 .f32) (harg11 : arg11.IsWhole) (arg12 : DmaSems sig S_) (arg13 : DmaSems sig S_) (arg14 : DmaSems sig S_) (arg15 : DmaSems sig S_) (arg16 : DmaSems sig S_) (arg17 : DmaSems sig S_) (v26_r0 : DmaSems sig S_) (k0_t1 : Fin k0_t1_loop.trips) (arg18 : BitVec 32) (k0_h1 : k0_cond1 k0_t1 = 1#1)
    (X : Rows F) (R P₀ P₁ P₂ : sProp (Mod F))
    (k : PUnit → Prog (TpuEff nD τ sig (Elt F) Λ₀ (.scVector ((i 0).castLE hcore0) ((i 1).castLE hsub0))) PUnit) (Q : PUnit → sProp (Mod F))
    (hwait : P₀ ⊢ WP d ((i 0).castLE hcore0) ((i 1).castLE hsub0) (do
          let v41 : Memref sig .scVector .vmem S1x512 .i32 := arg5.slice (Rect.unit (s := S50x512) (k0_off2 k0_t1) S1x512.size (k0_off2_inb k0_t1 k0_h1)) (fun _ => rfl)
          let v43 : Memref sig .scVector .hbm S1000000x16 .f32 := arg2.slice (Rect.unit (s := S1000000x16) ![0, 0] S1000000x16.size inb_S1000000x16_S1000000x16_0_0) (fun _ => rfl)
          SparseCore.waitIndirectGather arg12.sem v43 arg6 (View.wordExact_bits rfl) harg6.wordExact) fun _ => P₁)
    (hprev : Scalar.cmpi .ne (Scalar.extui (Scalar.cmpi .sgt arg18 0#32)) 0#32 = 1#1 → P₁ ⊢ WP d ((i 0).castLE hcore0) ((i 1).castLE hsub0) (do
          let v3223 : Memref sig .scVector .hbm S1x2x4x8x128 .f32 := arg4.slice (Rect.unit (s := S50x2x128x8x128) ![0, 0, 0, 0, 0] S1x2x4x8x128.size inb_S50x2x128x8x128_S1x2x4x8x128_0_0_0_0_0) (fun _ => rfl)
          let v3225 : Memref sig .scVector .hbm S1x2x4x8x128 .f32 := arg4.slice (Rect.unit (s := S50x2x128x8x128) ![0, 0, 0, 0, 0] S1x2x4x8x128.size inb_S50x2x128x8x128_S1x2x4x8x128_0_0_0_0_0) (fun _ => rfl)
          let v3226 : Memref sig .scVector .hbm S2x4x8x128 .f32 := v3225.squeeze S2x4x8x128 squeezes_S1x2x4x8x128_S2x4x8x128
          Prog.lift (.waitDma2 arg15.sem arg9 v3226 harg9.wordExact ((View.wordExact_bits rfl).reshape _ _))) fun _ => Slab d ((i 0).castLE hcore0) ((i 1).castLE hsub0) arg6 arg9 X R 0)
    (hnone : ¬ Scalar.cmpi .ne (Scalar.extui (Scalar.cmpi .sgt arg18 0#32)) 0#32 = 1#1 → P₁ ⊢ Slab d ((i 0).castLE hcore0) ((i 1).castLE hsub0) arg6 arg9 X R 0)
    (hput : Slab d ((i 0).castLE hcore0) ((i 1).castLE hsub0) arg6 arg9 X R 512 ⊢ WP d ((i 0).castLE hcore0) ((i 1).castLE hsub0) (do
          let v3215 : Memref sig .scVector .hbm S1x2x4x8x128 .f32 := arg4.slice (Rect.unit (s := S50x2x128x8x128) (k0_off3 i k0_t1) S1x2x4x8x128.size (k0_off3_inb i k0_t1 k0_h1)) (fun _ => rfl)
          let v3217 : Memref sig .scVector .hbm S1x2x4x8x128 .f32 := arg4.slice (Rect.unit (s := S50x2x128x8x128) (k0_off3 i k0_t1) S1x2x4x8x128.size (k0_off3_inb i k0_t1 k0_h1)) (fun _ => rfl)
          let v3218 : Memref sig .scVector .hbm S2x4x8x128 .f32 := v3217.squeeze S2x4x8x128 squeezes_S1x2x4x8x128_S2x4x8x128
          Prog.lift (.enqueueDma arg9 (.here v3218) (.dma arg15.sem) harg9.wordExact ((View.wordExact_bits rfl).reshape _ _) ⟨Or.inl rfl, trivial⟩)) fun _ => P₂)
    (hrest : ∀ u, P₂ ⊢ WP d ((i 0).castLE hcore0) ((i 1).castLE hsub0) (k u) Q) :
    P₀ ⊢ WP d ((i 0).castLE hcore0) ((i 1).castLE hsub0) (do
      let ⟨v1554, v1556, v1558, v1560, v1562, v1564, v1566⟩ : Σ' (v1554 : Vec F S16 .f32) (v1556 : Vec F S16 .f32) (v1558 : Vec F S16 .f32) (v1560 : Vec F S16 .f32) (v1562 : Vec F S16 .f32) (v1564 : Vec F S16 .f32), Vec F S16 .f32 ← k0_part123 i arg2 harg2 arg3 harg3 arg4 harg4 arg5 harg5 arg6 harg6 arg7 harg7 arg8 harg8 arg9 harg9 arg10 harg10 arg11 harg11 arg12 arg13 arg14 arg15 arg16 arg17 v26_r0 k0_t1 arg18 k0_h1
      let ⟨v3130, v3132, v3134, v3136, v3138, v3140, v3142, v3144, v3146, v3148, v3150, c0_i32_2554⟩ : Σ' (v3130 : Vec F S16 .f32) (v3132 : Vec F S16 .f32) (v3134 : Vec F S16 .f32) (v3136 : Vec F S16 .f32) (v3138 : Vec F S16 .f32) (v3140 : Vec F S16 .f32) (v3142 : Vec F S16 .f32) (v3144 : Vec F S16 .f32) (v3146 : Vec F S16 .f32) (v3148 : Vec F S16 .f32) (v3150 : Vec F S16 .f32), BitVec 32 ← k0_part124 i arg2 harg2 arg3 harg3 arg4 harg4 arg5 harg5 arg6 harg6 arg7 harg7 arg8 harg8 arg9 harg9 arg10 harg10 arg11 harg11 arg12 arg13 arg14 arg15 arg16 arg17 v26_r0 k0_t1 k0_h1 v1554 v1556 v1558 v1560 v1562 v1564 v1566
      let c1_i32_2578 : BitVec 32 ← k0_part121 i arg2 harg2 arg3 harg3 arg4 harg4 arg5 harg5 arg6 harg6 arg7 harg7 arg8 harg8 arg9 harg9 arg10 harg10 arg11 harg11 arg12 arg13 arg14 arg15 arg16 arg17 v26_r0 v3130 v3132 v3134 v3136 v3138 v3140 c0_i32_2554
      let u : PUnit ← k0_part122 i arg2 harg2 arg3 harg3 arg4 harg4 arg5 harg5 arg6 harg6 arg7 harg7 arg8 harg8 arg9 harg9 arg10 harg10 arg11 harg11 arg12 arg13 arg14 arg15 arg16 arg17 v26_r0 k0_t1 k0_h1 v3142 v3144 v3146 v3148 v3150 c1_i32_2578
      k u) Q := by
  refine bind_step fun Φ hΦ => ?_
  delta k0_part123
  refine bind_step fun Φ hΦ => ?_
  delta k0_part1
  refine wait_step hwait fun _ => ?_

  refine either_step hprev hnone fun _ => ?_
  repeat first
    | ((with_reducible refine gather_step _ _ ?_ ?_ ?_); iterate 2 decide)
    | ((with_reducible refine assume_step ?_ ?_); exact fun _ => chk_ok _ _ (by decide) (by decide))
    | with_reducible refine load_step fun _ => ?_
    | ((with_reducible refine store_step _ _ _ _ _ _ ?_ ?_ ?_ ?_ ?_); iterate 4 decide)
    | ((with_reducible refine pure_step ?_); refine rest_step (hΦ _) ?_; clear hΦ Φ)
    | ((with_reducible refine bind_step fun Φ hΦ => ?_)
       try delta k0_part124)
    | fail_if_no_progress (delta k0_part1 k0_part2 k0_part3 k0_part4 k0_part5 k0_part6 k0_part7 k0_part8 k0_part9 k0_part10 k0_part11 k0_part12
                                   k0_part13 k0_part14 k0_part15 k0_part16 k0_part17 k0_part18 k0_part19 k0_part20 k0_part21 k0_part22 k0_part23
                                   k0_part24 k0_part25 k0_part26 k0_part27 k0_part28 k0_part29 k0_part30 k0_part31 k0_part32 k0_part33 k0_part34
                                   k0_part35 k0_part36 k0_part37 k0_part38 k0_part39 k0_part40 k0_part41 k0_part42 k0_part43 k0_part44 k0_part45
                                   k0_part46 k0_part47 k0_part48 k0_part49 k0_part50 k0_part51 k0_part52 k0_part53 k0_part54 k0_part55 k0_part56
                                   k0_part57 k0_part58 k0_part59 k0_part60 k0_part61 k0_part62 k0_part63 k0_part64 k0_part65 k0_part66 k0_part67
                                   k0_part68 k0_part69 k0_part70 k0_part71 k0_part72 k0_part73 k0_part74 k0_part75 k0_part76 k0_part77 k0_part78
                                   k0_part79 k0_part80 k0_part81 k0_part82 k0_part83 k0_part84 k0_part85 k0_part86 k0_part87 k0_part88 k0_part89
                                   k0_part90 k0_part91 k0_part92 k0_part93 k0_part94 k0_part95 k0_part96 k0_part97 k0_part98 k0_part99 k0_part100
                                   k0_part101 k0_part102 k0_part103 k0_part104 k0_part105 k0_part106 k0_part107 k0_part108 k0_part109 k0_part110
                                   k0_part111 k0_part112 k0_part113 k0_part114 k0_part115 k0_part116 k0_part117 k0_part118 k0_part119 k0_part120
                                   k0_part121 k0_part122)
  with_reducible refine count_step (m := 512) ?_ ?_
  · decide
  refine last_step hΦ ?_
  clear hΦ Φ
  with_reducible exact end_step hΦ hput hrest

end Cert.Proof.Lookup

end
-- ==== Proof.Slab1.lean ====
/- The body of the loop for buffer 1, from the wait for its gather to the start of its write: the block turn
   is 512 gathers and 512 stores, each by its step rule. -/
module

public import proofs.«01_k».proof.Proof.Step
public import proofs.«01_k».proof.KernelIdeal

@[expose] public section

noncomputable section

namespace Cert.Proof.Lookup

open Cert.KernelIdeal Cert.KernelIdeal.Gen

open Idealize.ShloMosaic
open Idealize.SL Idealize.SL.BI
open scoped Idealize.SL.BI
open Idealize.SL.BI.BIBase Idealize.SL.Sem

variable {F : FTy → Type} [FloatOps F]

set_option maxHeartbeats 40000000 in
/-- The body of the loop for buffer 1: given what the wait for the gather and the wait for the previous write
    leave — the gathered rows `X` and the lane tiles' buffer — and what the start of the write needs — the turned
    block in that buffer — the whole body runs, and then what follows it. -/
theorem slab1 (d : Dev nD) (i : grid0.Coords) (arg2 : Memref sig .scVector .hbm S1000000x16 .f32) (harg2 : arg2.IsWhole) (arg3 : Memref sig .scVector .hbm S50x16384 .i32) (harg3 : arg3.IsWhole) (arg4 : Memref sig .scVector .hbm S50x2x128x8x128 .f32) (harg4 : arg4.IsWhole) (arg5 : Memref sig .scVector .vmem S50x512 .i32) (harg5 : arg5.IsWhole) (arg6 : Memref sig .scVector .vmem S512x16 .f32) (harg6 : arg6.IsWhole) (arg7 : Memref sig .scVector .vmem S512x16 .f32) (harg7 : arg7.IsWhole) (arg8 : Memref sig .scVector .vmem S512x16 .f32) (harg8 : arg8.IsWhole) (arg9 : Memref sig .scVector .vmem S2x4x8x128 .f32) (harg9 : arg9.IsWhole) (arg10 : Memref sig .scVector .vmem S2x4x8x128 .f32) (harg10 : arg10.IsWhole) (arg11 : Memref sig .scVector .vmem S2x4x8x128 .f32) (harg11 : arg11.IsWhole) (arg12 : DmaSems sig S_) (arg13 : DmaSems sig S_) (arg14 : DmaSems sig S_) (arg15 : DmaSems sig S_) (arg16 : DmaSems sig S_) (arg17 : DmaSems sig S_) (v26_r0 : DmaSems sig S_) (k0_t1 : Fin k0_t1_loop.trips) (arg18 : BitVec 32) (k0_h4 : k0_cond4 k0_t1 = 1#1)
    (X : Rows F) (R P₀ P₁ P₂ : sProp (Mod F))
    (k : PUnit → Prog (TpuEff nD τ sig (Elt F) Λ₀ (.scVector ((i 0).castLE hcore0) ((i 1).castLE hsub0))) PUnit) (Q : PUnit → sProp (Mod F))
    (hwait : P₀ ⊢ WP d ((i 0).castLE hcore0) ((i 1).castLE hsub0) (do
          let v41 : Memref sig .scVector .vmem S1x512 .i32 := arg5.slice (Rect.unit (s := S50x512) (k0_off5 k0_t1) S1x512.size (k0_off5_inb k0_t1 k0_h4)) (fun _ => rfl)
          let v43 : Memref sig .scVector .hbm S1000000x16 .f32 := arg2.slice (Rect.unit (s := S1000000x16) ![0, 0] S1000000x16.size inb_S1000000x16_S1000000x16_0_0) (fun _ => rfl)
          SparseCore.waitIndirectGather arg13.sem v43 arg7 (View.wordExact_bits rfl) harg7.wordExact) fun _ => P₁)
    (hprev : Scalar.cmpi .ne (Scalar.extui (Scalar.cmpi .sgt arg18 0#32)) 0#32 = 1#1 → P₁ ⊢ WP d ((i 0).castLE hcore0) ((i 1).castLE hsub0) (do
          let v3223 : Memref sig .scVector .hbm S1x2x4x8x128 .f32 := arg4.slice (Rect.unit (s := S50x2x128x8x128) ![0, 0, 0, 0, 0] S1x2x4x8x128.size inb_S50x2x128x8x128_S1x2x4x8x128_0_0_0_0_0) (fun _ => rfl)
          let v3225 : Memref sig .scVector .hbm S1x2x4x8x128 .f32 := arg4.slice (Rect.unit (s := S50x2x128x8x128) ![0, 0, 0, 0, 0] S1x2x4x8x128.size inb_S50x2x128x8x128_S1x2x4x8x128_0_0_0_0_0) (fun _ => rfl)
          let v3226 : Memref sig .scVector .hbm S2x4x8x128 .f32 := v3225.squeeze S2x4x8x128 squeezes_S1x2x4x8x128_S2x4x8x128
          Prog.lift (.waitDma2 arg16.sem arg10 v3226 harg10.wordExact ((View.wordExact_bits rfl).reshape _ _))) fun _ => Slab d ((i 0).castLE hcore0) ((i 1).castLE hsub0) arg7 arg10 X R 0)
    (hnone : ¬ Scalar.cmpi .ne (Scalar.extui (Scalar.cmpi .sgt arg18 0#32)) 0#32 = 1#1 → P₁ ⊢ Slab d ((i 0).castLE hcore0) ((i 1).castLE hsub0) arg7 arg10 X R 0)
    (hput : Slab d ((i 0).castLE hcore0) ((i 1).castLE hsub0) arg7 arg10 X R 512 ⊢ WP d ((i 0).castLE hcore0) ((i 1).castLE hsub0) (do
          let v3215 : Memref sig .scVector .hbm S1x2x4x8x128 .f32 := arg4.slice (Rect.unit (s := S50x2x128x8x128) (k0_off6 i k0_t1) S1x2x4x8x128.size (k0_off6_inb i k0_t1 k0_h4)) (fun _ => rfl)
          let v3217 : Memref sig .scVector .hbm S1x2x4x8x128 .f32 := arg4.slice (Rect.unit (s := S50x2x128x8x128) (k0_off6 i k0_t1) S1x2x4x8x128.size (k0_off6_inb i k0_t1 k0_h4)) (fun _ => rfl)
          let v3218 : Memref sig .scVector .hbm S2x4x8x128 .f32 := v3217.squeeze S2x4x8x128 squeezes_S1x2x4x8x128_S2x4x8x128
          Prog.lift (.enqueueDma arg10 (.here v3218) (.dma arg16.sem) harg10.wordExact ((View.wordExact_bits rfl).reshape _ _) ⟨Or.inl rfl, trivial⟩)) fun _ => P₂)
    (hrest : ∀ u, P₂ ⊢ WP d ((i 0).castLE hcore0) ((i 1).castLE hsub0) (k u) Q) :
    P₀ ⊢ WP d ((i 0).castLE hcore0) ((i 1).castLE hsub0) (do
      let ⟨v1554, v1556, v1558, v1560, v1562, v1564, v1566⟩ : Σ' (v1554 : Vec F S16 .f32) (v1556 : Vec F S16 .f32) (v1558 : Vec F S16 .f32) (v1560 : Vec F S16 .f32) (v1562 : Vec F S16 .f32) (v1564 : Vec F S16 .f32), Vec F S16 .f32 ← k0_part247 i arg2 harg2 arg3 harg3 arg4 harg4 arg5 harg5 arg6 harg6 arg7 harg7 arg8 harg8 arg9 harg9 arg10 harg10 arg11 harg11 arg12 arg13 arg14 arg15 arg16 arg17 v26_r0 k0_t1 arg18 k0_h4
      let ⟨v3130, v3132, v3134, v3136, v3138, v3140, v3142, v3144, v3146, v3148, v3150, c0_i32_2554⟩ : Σ' (v3130 : Vec F S16 .f32) (v3132 : Vec F S16 .f32) (v3134 : Vec F S16 .f32) (v3136 : Vec F S16 .f32) (v3138 : Vec F S16 .f32) (v3140 : Vec F S16 .f32) (v3142 : Vec F S16 .f32) (v3144 : Vec F S16 .f32) (v3146 : Vec F S16 .f32) (v3148 : Vec F S16 .f32) (v3150 : Vec F S16 .f32), BitVec 32 ← k0_part248 i arg2 harg2 arg3 harg3 arg4 harg4 arg5 harg5 arg6 harg6 arg7 harg7 arg8 harg8 arg9 harg9 arg10 harg10 arg11 harg11 arg12 arg13 arg14 arg15 arg16 arg17 v26_r0 k0_t1 k0_h4 v1554 v1556 v1558 v1560 v1562 v1564 v1566
      let c1_i32_2578 : BitVec 32 ← k0_part245 i arg2 harg2 arg3 harg3 arg4 harg4 arg5 harg5 arg6 harg6 arg7 harg7 arg8 harg8 arg9 harg9 arg10 harg10 arg11 harg11 arg12 arg13 arg14 arg15 arg16 arg17 v26_r0 v3130 v3132 v3134 v3136 v3138 v3140 c0_i32_2554
      let u : PUnit ← k0_part246 i arg2 harg2 arg3 harg3 arg4 harg4 arg5 harg5 arg6 harg6 arg7 harg7 arg8 harg8 arg9 harg9 arg10 harg10 arg11 harg11 arg12 arg13 arg14 arg15 arg16 arg17 v26_r0 k0_t1 k0_h4 v3142 v3144 v3146 v3148 v3150 c1_i32_2578
      k u) Q := by
  refine bind_step fun Φ hΦ => ?_
  delta k0_part247
  refine bind_step fun Φ hΦ => ?_
  delta k0_part125
  refine wait_step hwait fun _ => ?_

  refine either_step hprev hnone fun _ => ?_
  repeat first
    | ((with_reducible refine gather_step _ _ ?_ ?_ ?_); iterate 2 decide)
    | ((with_reducible refine assume_step ?_ ?_); exact fun _ => chk_ok _ _ (by decide) (by decide))
    | with_reducible refine load_step fun _ => ?_
    | ((with_reducible refine store_step _ _ _ _ _ _ ?_ ?_ ?_ ?_ ?_); iterate 4 decide)
    | ((with_reducible refine pure_step ?_); refine rest_step (hΦ _) ?_; clear hΦ Φ)
    | ((with_reducible refine bind_step fun Φ hΦ => ?_)
       try delta k0_part248)
    | fail_if_no_progress (delta k0_part125 k0_part126 k0_part127 k0_part128 k0_part129 k0_part130 k0_part131 k0_part132 k0_part133 k0_part134
                                   k0_part135 k0_part136 k0_part137 k0_part138 k0_part139 k0_part140 k0_part141 k0_part142 k0_part143 k0_part144
                                   k0_part145 k0_part146 k0_part147 k0_part148 k0_part149 k0_part150 k0_part151 k0_part152 k0_part153 k0_part154
                                   k0_part155 k0_part156 k0_part157 k0_part158 k0_part159 k0_part160 k0_part161 k0_part162 k0_part163 k0_part164
                                   k0_part165 k0_part166 k0_part167 k0_part168 k0_part169 k0_part170 k0_part171 k0_part172 k0_part173 k0_part174
                                   k0_part175 k0_part176 k0_part177 k0_part178 k0_part179 k0_part180 k0_part181 k0_part182 k0_part183 k0_part184
                                   k0_part185 k0_part186 k0_part187 k0_part188 k0_part189 k0_part190 k0_part191 k0_part192 k0_part193 k0_part194
                                   k0_part195 k0_part196 k0_part197 k0_part198 k0_part199 k0_part200 k0_part201 k0_part202 k0_part203 k0_part204
                                   k0_part205 k0_part206 k0_part207 k0_part208 k0_part209 k0_part210 k0_part211 k0_part212 k0_part213 k0_part214
                                   k0_part215 k0_part216 k0_part217 k0_part218 k0_part219 k0_part220 k0_part221 k0_part222 k0_part223 k0_part224
                                   k0_part225 k0_part226 k0_part227 k0_part228 k0_part229 k0_part230 k0_part231 k0_part232 k0_part233 k0_part234
                                   k0_part235 k0_part236 k0_part237 k0_part238 k0_part239 k0_part240 k0_part241 k0_part242 k0_part243 k0_part244
                                   k0_part245 k0_part246)
  with_reducible refine count_step (m := 512) ?_ ?_
  · decide
  refine last_step hΦ ?_
  clear hΦ Φ
  with_reducible exact end_step hΦ hput hrest

end Cert.Proof.Lookup

end
-- ==== Proof.Slab2.lean ====
/- The body of the loop for buffer 2, from the wait for its gather to the start of its write: the block turn
   is 512 gathers and 512 stores, each by its step rule. -/
module

public import proofs.«01_k».proof.Proof.Step
public import proofs.«01_k».proof.KernelIdeal

@[expose] public section

noncomputable section

namespace Cert.Proof.Lookup

open Cert.KernelIdeal Cert.KernelIdeal.Gen

open Idealize.ShloMosaic
open Idealize.SL Idealize.SL.BI
open scoped Idealize.SL.BI
open Idealize.SL.BI.BIBase Idealize.SL.Sem

variable {F : FTy → Type} [FloatOps F]

set_option maxHeartbeats 40000000 in
/-- The body of the loop for buffer 2: given what the wait for the gather and the wait for the previous write
    leave — the gathered rows `X` and the lane tiles' buffer — and what the start of the write needs — the turned
    block in that buffer — the whole body runs, and then what follows it. -/
theorem slab2 (d : Dev nD) (i : grid0.Coords) (arg2 : Memref sig .scVector .hbm S1000000x16 .f32) (harg2 : arg2.IsWhole) (arg3 : Memref sig .scVector .hbm S50x16384 .i32) (harg3 : arg3.IsWhole) (arg4 : Memref sig .scVector .hbm S50x2x128x8x128 .f32) (harg4 : arg4.IsWhole) (arg5 : Memref sig .scVector .vmem S50x512 .i32) (harg5 : arg5.IsWhole) (arg6 : Memref sig .scVector .vmem S512x16 .f32) (harg6 : arg6.IsWhole) (arg7 : Memref sig .scVector .vmem S512x16 .f32) (harg7 : arg7.IsWhole) (arg8 : Memref sig .scVector .vmem S512x16 .f32) (harg8 : arg8.IsWhole) (arg9 : Memref sig .scVector .vmem S2x4x8x128 .f32) (harg9 : arg9.IsWhole) (arg10 : Memref sig .scVector .vmem S2x4x8x128 .f32) (harg10 : arg10.IsWhole) (arg11 : Memref sig .scVector .vmem S2x4x8x128 .f32) (harg11 : arg11.IsWhole) (arg12 : DmaSems sig S_) (arg13 : DmaSems sig S_) (arg14 : DmaSems sig S_) (arg15 : DmaSems sig S_) (arg16 : DmaSems sig S_) (arg17 : DmaSems sig S_) (v26_r0 : DmaSems sig S_) (k0_t1 : Fin k0_t1_loop.trips) (arg18 : BitVec 32) (k0_h7 : k0_cond7 k0_t1 = 1#1)
    (X : Rows F) (R P₀ P₁ P₂ : sProp (Mod F))
    (k : PUnit → Prog (TpuEff nD τ sig (Elt F) Λ₀ (.scVector ((i 0).castLE hcore0) ((i 1).castLE hsub0))) PUnit) (Q : PUnit → sProp (Mod F))
    (hwait : P₀ ⊢ WP d ((i 0).castLE hcore0) ((i 1).castLE hsub0) (do
          let v41 : Memref sig .scVector .vmem S1x512 .i32 := arg5.slice (Rect.unit (s := S50x512) (k0_off8 k0_t1) S1x512.size (k0_off8_inb k0_t1 k0_h7)) (fun _ => rfl)
          let v43 : Memref sig .scVector .hbm S1000000x16 .f32 := arg2.slice (Rect.unit (s := S1000000x16) ![0, 0] S1000000x16.size inb_S1000000x16_S1000000x16_0_0) (fun _ => rfl)
          SparseCore.waitIndirectGather arg14.sem v43 arg8 (View.wordExact_bits rfl) harg8.wordExact) fun _ => P₁)
    (hprev : Scalar.cmpi .ne (Scalar.extui (Scalar.cmpi .sgt arg18 0#32)) 0#32 = 1#1 → P₁ ⊢ WP d ((i 0).castLE hcore0) ((i 1).castLE hsub0) (do
          let v3223 : Memref sig .scVector .hbm S1x2x4x8x128 .f32 := arg4.slice (Rect.unit (s := S50x2x128x8x128) ![0, 0, 0, 0, 0] S1x2x4x8x128.size inb_S50x2x128x8x128_S1x2x4x8x128_0_0_0_0_0) (fun _ => rfl)
          let v3225 : Memref sig .scVector .hbm S1x2x4x8x128 .f32 := arg4.slice (Rect.unit (s := S50x2x128x8x128) ![0, 0, 0, 0, 0] S1x2x4x8x128.size inb_S50x2x128x8x128_S1x2x4x8x128_0_0_0_0_0) (fun _ => rfl)
          let v3226 : Memref sig .scVector .hbm S2x4x8x128 .f32 := v3225.squeeze S2x4x8x128 squeezes_S1x2x4x8x128_S2x4x8x128
          Prog.lift (.waitDma2 arg17.sem arg11 v3226 harg11.wordExact ((View.wordExact_bits rfl).reshape _ _))) fun _ => Slab d ((i 0).castLE hcore0) ((i 1).castLE hsub0) arg8 arg11 X R 0)
    (hnone : ¬ Scalar.cmpi .ne (Scalar.extui (Scalar.cmpi .sgt arg18 0#32)) 0#32 = 1#1 → P₁ ⊢ Slab d ((i 0).castLE hcore0) ((i 1).castLE hsub0) arg8 arg11 X R 0)
    (hput : Slab d ((i 0).castLE hcore0) ((i 1).castLE hsub0) arg8 arg11 X R 512 ⊢ WP d ((i 0).castLE hcore0) ((i 1).castLE hsub0) (do
          let v3215 : Memref sig .scVector .hbm S1x2x4x8x128 .f32 := arg4.slice (Rect.unit (s := S50x2x128x8x128) (k0_off9 i k0_t1) S1x2x4x8x128.size (k0_off9_inb i k0_t1 k0_h7)) (fun _ => rfl)
          let v3217 : Memref sig .scVector .hbm S1x2x4x8x128 .f32 := arg4.slice (Rect.unit (s := S50x2x128x8x128) (k0_off9 i k0_t1) S1x2x4x8x128.size (k0_off9_inb i k0_t1 k0_h7)) (fun _ => rfl)
          let v3218 : Memref sig .scVector .hbm S2x4x8x128 .f32 := v3217.squeeze S2x4x8x128 squeezes_S1x2x4x8x128_S2x4x8x128
          Prog.lift (.enqueueDma arg11 (.here v3218) (.dma arg17.sem) harg11.wordExact ((View.wordExact_bits rfl).reshape _ _) ⟨Or.inl rfl, trivial⟩)) fun _ => P₂)
    (hrest : ∀ u, P₂ ⊢ WP d ((i 0).castLE hcore0) ((i 1).castLE hsub0) (k u) Q) :
    P₀ ⊢ WP d ((i 0).castLE hcore0) ((i 1).castLE hsub0) (do
      let ⟨v1554, v1556, v1558, v1560, v1562, v1564, v1566⟩ : Σ' (v1554 : Vec F S16 .f32) (v1556 : Vec F S16 .f32) (v1558 : Vec F S16 .f32) (v1560 : Vec F S16 .f32) (v1562 : Vec F S16 .f32) (v1564 : Vec F S16 .f32), Vec F S16 .f32 ← k0_part371 i arg2 harg2 arg3 harg3 arg4 harg4 arg5 harg5 arg6 harg6 arg7 harg7 arg8 harg8 arg9 harg9 arg10 harg10 arg11 harg11 arg12 arg13 arg14 arg15 arg16 arg17 v26_r0 k0_t1 arg18 k0_h7
      let ⟨v3130, v3132, v3134, v3136, v3138, v3140, v3142, v3144, v3146, v3148, v3150, c0_i32_2554⟩ : Σ' (v3130 : Vec F S16 .f32) (v3132 : Vec F S16 .f32) (v3134 : Vec F S16 .f32) (v3136 : Vec F S16 .f32) (v3138 : Vec F S16 .f32) (v3140 : Vec F S16 .f32) (v3142 : Vec F S16 .f32) (v3144 : Vec F S16 .f32) (v3146 : Vec F S16 .f32) (v3148 : Vec F S16 .f32) (v3150 : Vec F S16 .f32), BitVec 32 ← k0_part372 i arg2 harg2 arg3 harg3 arg4 harg4 arg5 harg5 arg6 harg6 arg7 harg7 arg8 harg8 arg9 harg9 arg10 harg10 arg11 harg11 arg12 arg13 arg14 arg15 arg16 arg17 v26_r0 k0_t1 k0_h7 v1554 v1556 v1558 v1560 v1562 v1564 v1566
      let c1_i32_2578 : BitVec 32 ← k0_part369 i arg2 harg2 arg3 harg3 arg4 harg4 arg5 harg5 arg6 harg6 arg7 harg7 arg8 harg8 arg9 harg9 arg10 harg10 arg11 harg11 arg12 arg13 arg14 arg15 arg16 arg17 v26_r0 v3130 v3132 v3134 v3136 v3138 v3140 c0_i32_2554
      let u : PUnit ← k0_part370 i arg2 harg2 arg3 harg3 arg4 harg4 arg5 harg5 arg6 harg6 arg7 harg7 arg8 harg8 arg9 harg9 arg10 harg10 arg11 harg11 arg12 arg13 arg14 arg15 arg16 arg17 v26_r0 k0_t1 k0_h7 v3142 v3144 v3146 v3148 v3150 c1_i32_2578
      k u) Q := by
  refine bind_step fun Φ hΦ => ?_
  delta k0_part371
  refine bind_step fun Φ hΦ => ?_
  delta k0_part249
  refine wait_step hwait fun _ => ?_

  refine either_step hprev hnone fun _ => ?_
  repeat first
    | ((with_reducible refine gather_step _ _ ?_ ?_ ?_); iterate 2 decide)
    | ((with_reducible refine assume_step ?_ ?_); exact fun _ => chk_ok _ _ (by decide) (by decide))
    | with_reducible refine load_step fun _ => ?_
    | ((with_reducible refine store_step _ _ _ _ _ _ ?_ ?_ ?_ ?_ ?_); iterate 4 decide)
    | ((with_reducible refine pure_step ?_); refine rest_step (hΦ _) ?_; clear hΦ Φ)
    | ((with_reducible refine bind_step fun Φ hΦ => ?_)
       try delta k0_part372)
    | fail_if_no_progress (delta k0_part249 k0_part250 k0_part251 k0_part252 k0_part253 k0_part254 k0_part255 k0_part256 k0_part257 k0_part258
                                   k0_part259 k0_part260 k0_part261 k0_part262 k0_part263 k0_part264 k0_part265 k0_part266 k0_part267 k0_part268
                                   k0_part269 k0_part270 k0_part271 k0_part272 k0_part273 k0_part274 k0_part275 k0_part276 k0_part277 k0_part278
                                   k0_part279 k0_part280 k0_part281 k0_part282 k0_part283 k0_part284 k0_part285 k0_part286 k0_part287 k0_part288
                                   k0_part289 k0_part290 k0_part291 k0_part292 k0_part293 k0_part294 k0_part295 k0_part296 k0_part297 k0_part298
                                   k0_part299 k0_part300 k0_part301 k0_part302 k0_part303 k0_part304 k0_part305 k0_part306 k0_part307 k0_part308
                                   k0_part309 k0_part310 k0_part311 k0_part312 k0_part313 k0_part314 k0_part315 k0_part316 k0_part317 k0_part318
                                   k0_part319 k0_part320 k0_part321 k0_part322 k0_part323 k0_part324 k0_part325 k0_part326 k0_part327 k0_part328
                                   k0_part329 k0_part330 k0_part331 k0_part332 k0_part333 k0_part334 k0_part335 k0_part336 k0_part337 k0_part338
                                   k0_part339 k0_part340 k0_part341 k0_part342 k0_part343 k0_part344 k0_part345 k0_part346 k0_part347 k0_part348
                                   k0_part349 k0_part350 k0_part351 k0_part352 k0_part353 k0_part354 k0_part355 k0_part356 k0_part357 k0_part358
                                   k0_part359 k0_part360 k0_part361 k0_part362 k0_part363 k0_part364 k0_part365 k0_part366 k0_part367 k0_part368
                                   k0_part369 k0_part370)
  with_reducible refine count_step (m := 512) ?_ ?_
  · decide
  refine last_step hΦ ?_
  clear hΦ Φ
  with_reducible exact end_step hΦ hput hrest

end Cert.Proof.Lookup

end
-- ==== Proof.Loop.lean ====
/- The kernel on one vector subcore: the copy of its index window, the ring of three buffers over fifty
   rows, and the last three waits. -/
module

public import proofs.«01_k».proof.Proof.Tile
public import proofs.«01_k».proof.Proof.Slab0
public import proofs.«01_k».proof.Proof.Slab1
public import proofs.«01_k».proof.Proof.Slab2

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {TBL : S1000000x16.Idx → Elt F .f32} {XT : S50x16384.Idx → Elt F .i32} {f0 : S50x2x128x8x128.Idx → Elt F .f32}
variable {d : Dev nD}
variable {O : CellTallies nD τ sig (HIx 1)} {W : Waits sig (HIx 1)}

variable {i : grid0.Coords} {q qx : PosShare TreeShare} {R : sProp (Mod F)}

/-- The kernel on one subcore, up to the last three waits. -/
theorem loop_run (hX : ∀ j, (XT j : BitVec 32).toNat < 1000000) :
    Ends TBL XT d O W i q qx R f0 ⊢ WP d (cV i) (jV i) (k0_part373 (F := F) i tV (Memref.isWhole_whole _) xV (Memref.isWhole_whole _) oV (Memref.isWhole_whole _)
       lV (Memref.isWhole_whole _) rA (Memref.isWhole_whole _) rB (Memref.isWhole_whole _) rC (Memref.isWhole_whole _) tA (Memref.isWhole_whole _)
       tB (Memref.isWhole_whole _) tC (Memref.isWhole_whole _) cc0_scratch7 cc0_scratch8 cc0_scratch9 cc0_scratch10 cc0_scratch11 cc0_scratch12 cc0_scoped0)
       fun _ => Inv TBL XT f0 d O W i q (Past XT d i qx R) 17 := by
  delta k0_part373
  refine ent_trans ends_in ?_
  refine wait_step (win_start (w := wid i) (by have := (i 1).isLt; have := (i 0).isLt; have h1 : (i 1).val < 16 := (i 1).isLt; have h0 : (i 0).val < 2 := (i 0).isLt; show 2 * (i 1).val + (i 0).val < 32; omega)
    ((k0_off1_eq i).trans (by rw [show wid i * 512 = 1024 * (i 1).val + 512 * (i 0).val from by show (2 * (i 1).val + (i 0).val) * 512 = _; omega]))) fun _ => ?_
  refine ent_trans (B := iprop(OW d (cV i) (jV i) O W ∗ Win XT d (cV i) (jV i) (wid i) qx cc0_scoped0.sem ∗ Wait0 TBL f0 d i q R)) ?_ ?_
  · iintro ⟨Hw, HO, HR⟩
    isplitl [HO]; · iexact HO
    isplitl [Hw]; · iexact Hw
    iexact HR
  refine wait_step win_wait fun _ => ?_
  refine ent_trans deal ?_
  refine idle_start (h := 0) rfl hX credit_rA ?_
  refine ent_trans (B := iprop(idleB TBL XT d i q ∗ idleC TBL XT d i q ∗ Wait1 TBL XT f0 d O W i qx R ∗ gatA TBL XT d i q)) ?_ ?_
  · iintro ⟨⟨HB, HC, HR⟩, HA⟩
    isplitl [HB]; · iexact HB
    isplitl [HC]; · iexact HC
    isplitl [HR]; · iexact HR
    iexact HA
  refine idle_start (h := 1) rfl hX credit_rB ?_
  refine ent_trans (B := iprop(idleC TBL XT d i q ∗ Wait1 TBL XT f0 d O W i qx R ∗ gatA TBL XT d i q ∗ gatB TBL XT d i q)) ?_ ?_
  · iintro ⟨⟨HC, HR, HA⟩, HB⟩
    isplitl [HC]; · iexact HC
    isplitl [HR]; · iexact HR
    isplitl [HA]; · iexact HA
    iexact HB
  refine idle_start (h := 2) rfl hX credit_rC ?_
  refine loop_step (Inv TBL XT f0 d O W i q (Past XT d i qx R)) begin_loop ?_ ?_
  · generalize Past XT d i qx R = R
    intro t
    have hw : wid i * 4 = 8 * (i 1).val + 4 * (i 0).val := by show (2 * (i 1).val + (i 0).val) * 4 = _; omega
    have ht : t.val < 17 := t.isLt
    unfold Inv
    refine ent_trans (B := iprop(OW d (cV i) (jV i) O W ∗ stA TBL XT f0 d i q (t.val) ∗ stB TBL XT f0 d i q (t.val) ∗ stC TBL XT f0 d i q (min t.val 16) ∗ R)) ?_ ?_
    · iintro ⟨HO, HA, HB, HC, HR⟩
      isplitl [HO]; · iexact HO
      isplitl [HA]; · iexact HA
      isplitl [HB]; · iexact HB
      isplitl [HC]; · iexact HC
      iexact HR
    rw [dif_pos (cond1_pos t)]
    refine slab0 (F := F) (d := d) (i := i) (k0_t1 := t) (X := rowsAt TBL XT (wid i) (3 * t.val + 0))
      (R := Held TBL XT f0 d (cV i) (jV i) (wid i) O W cc0_scratch7.sem cc0_scratch10.sem q.left fullShare.left 0 t.val iprop(stB TBL XT f0 d i q (t.val) ∗ stC TBL XT f0 d i q (min t.val 16) ∗ R))
      (P₁ := Got TBL XT f0 d (cV i) (jV i) (wid i) O W rA tA cc0_scratch7.sem cc0_scratch10.sem q.left fullShare.left 0 t.val iprop(stB TBL XT f0 d i q (t.val) ∗ stC TBL XT f0 d i q (min t.val 16) ∗ R))
      (P₂ := Sent TBL XT f0 d (cV i) (jV i) (wid i) O W rA tA cc0_scratch7.sem cc0_scratch10.sem q.left fullShare.left 0 t.val iprop(stB TBL XT f0 d i q (t.val) ∗ stC TBL XT f0 d i q (min t.val 16) ∗ R))
      (hwait := got_wait (by omega)) (hprev := ?_) (hnone := ?_) (hput := ?_) (hrest := fun _ => ?_)
      _ _ _ _ _ _ _ _ _ _ _ _ _ _ _ _ _ _ _ _ _ _ _ _ _ _ _
    · exact fun hc => got_prev (by omega) (by omega) ((later_iff t).mp hc)
    · exact fun hc => got_none (by omega) (by omega) (Nat.eq_zero_of_not_pos fun h => hc ((later_iff t).mpr h))
    · exact slab_put ((k0_off3_eq i t).trans (by simp only [hw, Nat.add_zero]))
    refine next_step (cond3_iff t) (k0_off4_eq t) hX credit_rA ?_
    refine ent_trans (B := iprop(OW d (cV i) (jV i) O W ∗ stB TBL XT f0 d i q (t.val) ∗ stC TBL XT f0 d i q (min t.val 16) ∗ R ∗ stA TBL XT f0 d i q (t.val + 1))) ?_ ?_
    · iintro ⟨HO, HA, HB, HC, HR⟩
      isplitl [HO]; · iexact HO
      isplitl [HB]; · iexact HB
      isplitl [HC]; · iexact HC
      isplitl [HR]; · iexact HR
      iexact HA
    change _ ⊢ WP _ _ _ (dite _ _ _) _
    rw [dif_pos (cond4_pos t)]
    refine slab1 (F := F) (d := d) (i := i) (k0_t1 := t) (X := rowsAt TBL XT (wid i) (3 * t.val + 1))
      (R := Held TBL XT f0 d (cV i) (jV i) (wid i) O W cc0_scratch8.sem cc0_scratch11.sem q.right.left fullShare.right.left 1 t.val iprop(stC TBL XT f0 d i q (min t.val 16) ∗ R ∗ stA TBL XT f0 d i q (t.val + 1)))
      (P₁ := Got TBL XT f0 d (cV i) (jV i) (wid i) O W rB tB cc0_scratch8.sem cc0_scratch11.sem q.right.left fullShare.right.left 1 t.val iprop(stC TBL XT f0 d i q (min t.val 16) ∗ R ∗ stA TBL XT f0 d i q (t.val + 1)))
      (P₂ := Sent TBL XT f0 d (cV i) (jV i) (wid i) O W rB tB cc0_scratch8.sem cc0_scratch11.sem q.right.left fullShare.right.left 1 t.val iprop(stC TBL XT f0 d i q (min t.val 16) ∗ R ∗ stA TBL XT f0 d i q (t.val + 1)))
      (hwait := got_wait (by omega)) (hprev := ?_) (hnone := ?_) (hput := ?_) (hrest := fun _ => ?_)
      _ _ _ _ _ _ _ _ _ _ _ _ _ _ _ _ _ _ _ _ _ _ _ _ _ _ _
    · exact fun hc => got_prev (by omega) (by omega) ((later_iff t).mp hc)
    · exact fun hc => got_none (by omega) (by omega) (Nat.eq_zero_of_not_pos fun h => hc ((later_iff t).mpr h))
    · exact slab_put ((k0_off6_eq i t).trans (by simp only [hw, Nat.add_zero]))
    refine next_step (cond6_iff t) (k0_off7_eq t) hX credit_rB ?_
    change _ ⊢ WP _ _ _ (dite _ _ _) _
    by_cases h7 : k0_cond7 t = 1#1
    · have ht' := (cond7_iff t).mp h7
      rw [dif_pos h7]
      refine ent_trans (B := iprop(OW d (cV i) (jV i) O W ∗ stC TBL XT f0 d i q (t.val) ∗ R ∗ stA TBL XT f0 d i q (t.val + 1) ∗ stB TBL XT f0 d i q (t.val + 1))) ?_ ?_
      · rw [Nat.min_eq_left (by omega)]
        iintro ⟨HO, HB, HC, HR, HA⟩
        isplitl [HO]; · iexact HO
        isplitl [HC]; · iexact HC
        isplitl [HR]; · iexact HR
        isplitl [HA]; · iexact HA
        iexact HB
      refine slab2 (F := F) (d := d) (i := i) (k0_t1 := t) (X := rowsAt TBL XT (wid i) (3 * t.val + 2))
        (R := Held TBL XT f0 d (cV i) (jV i) (wid i) O W cc0_scratch9.sem cc0_scratch12.sem q.right.right fullShare.right.right 2 t.val iprop(R ∗ stA TBL XT f0 d i q (t.val + 1) ∗ stB TBL XT f0 d i q (t.val + 1)))
        (P₁ := Got TBL XT f0 d (cV i) (jV i) (wid i) O W rC tC cc0_scratch9.sem cc0_scratch12.sem q.right.right fullShare.right.right 2 t.val iprop(R ∗ stA TBL XT f0 d i q (t.val + 1) ∗ stB TBL XT f0 d i q (t.val + 1)))
        (P₂ := Sent TBL XT f0 d (cV i) (jV i) (wid i) O W rC tC cc0_scratch9.sem cc0_scratch12.sem q.right.right fullShare.right.right 2 t.val iprop(R ∗ stA TBL XT f0 d i q (t.val + 1) ∗ stB TBL XT f0 d i q (t.val + 1)))
        (hwait := got_wait (by omega)) (hprev := ?_) (hnone := ?_) (hput := ?_) (hrest := fun _ => ?_)
        _ _ _ _ _ _ _ _ _ _ _ _ _ _ _ _ _ _ _ _ _ _ _ _ _ _ _
      · exact fun hc => got_prev (by omega) (by omega) ((later_iff t).mp hc)
      · exact fun hc => got_none (by omega) (by omega) (Nat.eq_zero_of_not_pos fun h => hc ((later_iff t).mpr h))
      · exact slab_put ((k0_off9_eq i t).trans (by simp only [hw, Nat.add_zero]))
      refine next_step (cond9_iff t) (k0_off10_eq t) hX credit_rC ?_
      rw [Nat.min_eq_left (show t.val + 1 ≤ 16 by omega)]
      refine pure_step ?_
      iintro ⟨HO, HC, HR, HA, HB⟩
      isplitl [HO]; · iexact HO
      isplitl [HA]; · iexact HA
      isplitl [HB]; · iexact HB
      isplitl [HC]; · iexact HC
      iexact HR
    · have ht' : ¬ t.val < 16 := fun h => h7 ((cond7_iff t).mpr h)
      rw [dif_neg h7]
      rw [Nat.min_eq_right (show 16 ≤ t.val by omega), Nat.min_eq_right (show 16 ≤ t.val + 1 by omega)]
      refine pure_step ?_
      iintro ⟨HO, HB, HC, HR, HA⟩
      isplitl [HO]; · iexact HO
      isplitl [HA]; · iexact HA
      isplitl [HB]; · iexact HB
      isplitl [HC]; · iexact HC
      iexact HR
  · exact pure_step (Entails.of_eq rfl)

/-- The kernel on one subcore. -/
theorem kernel_run (hX : ∀ j, (XT j : BitVec 32).toNat < 1000000) :
    Ends TBL XT d O W i q qx R f0 ⊢ WP d (cV i) (jV i) (cc0_gather_kernel (F := F) i tV (Memref.isWhole_whole _) xV (Memref.isWhole_whole _) oV (Memref.isWhole_whole _)
       lV (Memref.isWhole_whole _) rA (Memref.isWhole_whole _) rB (Memref.isWhole_whole _) rC (Memref.isWhole_whole _) tA (Memref.isWhole_whole _)
       tB (Memref.isWhole_whole _) tC (Memref.isWhole_whole _) cc0_scratch7 cc0_scratch8 cc0_scratch9 cc0_scratch10 cc0_scratch11 cc0_scratch12 cc0_scoped0)
       fun _ => Ends TBL XT d O W i q qx R (outAt TBL XT) := by
  delta cc0_gather_kernel
  refine wait_step (loop_run hX) fun _ => ?_
  unfold Inv
  rw [show min 17 16 = 15 + 1 from rfl]
  refine ent_trans (B := iprop(OW d (cV i) (jV i) O W ∗ stA TBL XT f0 d i q 17 ∗ Past XT d i qx R ∗ stB TBL XT f0 d i q 17 ∗ stC TBL XT f0 d i q (15 + 1))) ?_ ?_
  · iintro ⟨HO, HA, HB, HC, HR⟩
    isplitl [HO]; · iexact HO
    isplitl [HA]; · iexact HA
    isplitl [HR]; · iexact HR
    isplitl [HB]; · iexact HB
    iexact HC
  refine wait_step (end_wait (n := 16) (by decide) (by decide) (by decide)) fun _ => ?_
  refine ent_trans (B := iprop(OW d (cV i) (jV i) O W ∗ stB TBL XT f0 d i q 17 ∗ (Past XT d i qx R
      ∗ restA d i ∗ tabP TBL d (cV i) (jV i) q.left ∗ lstP XT d (cV i) (jV i) (wid i) fullShare.left ∗ Fini TBL XT d (cV i) (jV i) (wid i) 0 18)
      ∗ stC TBL XT f0 d i q (15 + 1))) ?_ ?_
  · iintro ⟨HO, ⟨HR, HB, HC⟩, HA⟩
    isplitl [HO]; · iexact HO
    isplitl [HB]; · iexact HB
    isplitl [HR HA]; · isplitl [HR] <;> iassumption
    iexact HC
  refine wait_step (end_wait (n := 16) (by decide) (by decide) (by decide)) fun _ => ?_
  refine ent_trans (B := iprop(OW d (cV i) (jV i) O W ∗ stC TBL XT f0 d i q (15 + 1) ∗ (Past XT d i qx R
      ∗ restA d i ∗ tabP TBL d (cV i) (jV i) q.left ∗ lstP XT d (cV i) (jV i) (wid i) fullShare.left ∗ Fini TBL XT d (cV i) (jV i) (wid i) 0 18)
      ∗ restB d i ∗ tabP TBL d (cV i) (jV i) q.right.left ∗ lstP XT d (cV i) (jV i) (wid i) fullShare.right.left ∗ Fini TBL XT d (cV i) (jV i) (wid i) 1 18)) ?_ ?_
  · iintro ⟨HO, ⟨HR, HC⟩, HB⟩
    isplitl [HO]; · iexact HO
    isplitl [HC]; · iexact HC
    isplitl [HR] <;> iassumption
  refine wait_step (end_wait (n := 15) (by decide) (by decide) (by decide)) fun _ => ?_
  exact pure_step gather_up

end Cert.Proof.Lookup

end
-- ==== Proof.Task.lean ====
/- The launch of the lookup's kernel on the subcores: what the launch hands each subcore and gets back, and
   the subcore's run stated over its own buffers and semaphores. -/
module

public import proofs.«01_k».proof.Proof.Loop
public import Idealize.ShloMosaic.Lib.ShareLeaves

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg) (d : Dev nD)

/-- The table, the indices, their transpose and the result in lane tiles, in memory. -/
abbrev aLoc (d : Dev nD) : Loc nD τ sig := (SparseCore.T d).loc main_arg0
abbrev xLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

/-- The launched table, and the transposed indices. -/
abbrev tblM : S1000000x16.Idx → Elt F .f32 := m (aLoc d)
abbrev xtM : S50x16384.Idx → Elt F .i32 :=
  transpose S50x16384 [1, 0] (m (xLoc d) : S16384x50.Idx → Elt F .i32) transposes_S16384x50_S50x16384_1_0
/-- The result in lane tiles, before and after. -/
abbrev oldM : S50x2x128x8x128.Idx → Elt F .f32 := m (oLoc d)
abbrev newM : S50x2x128x8x128.Idx → Elt F .f32 := outAt (tblM m d) (xtM m d)

/-- What worker `w` is handed, and hands back: a share of the table and of the indices, and its blocks of the result. -/
def tile (w : ℕ) (q : PosShare TreeShare) (f : S50x2x128x8x128.Idx → Elt F .f32) : sProp (Mod F) :=
  iprop((aLoc d ↦{q} tblM m d) ∗ (vLoc d ↦{q} xtM m d) ∗ bigSep Finset.univ fun h : Fin 50 => oLoc d ↦[oset w h.val]{fullShare} f)

/-- The share of the tables that subcore `i` of SparseCore `c` reads at. -/
def shr (c : Fin 2) (i : Fin 16) : PosShare TreeShare := ShareLeaves.leaf 4 (ShareLeaves.leaf 1 fullShare c) i

/-- What subcore `i` of SparseCore `c` is handed. -/
abbrev tileOf (f : S50x2x128x8x128.Idx → Elt F .f32) (c : Fin 2) (i : Fin 16) : sProp (Mod F) := tile m d (2 * i.val + c.val) (shr c i) f
/-- Every call runs on both SparseCores, and on sixteen subcores of each. -/
theorem nCore_all : ∀ q : Fin 1, (K (F := F)).nCore q = 2 | 0 => nCore_zero
/-- Every call runs on sixteen tiles of a SparseCore. -/
theorem nSub_all : ∀ q : Fin 1, (K (F := F)).nSub q = 16 | 0 => nSub_zero

instance tile_storable (w : ℕ) (q : PosShare TreeShare) (f : S50x2x128x8x128.Idx → Elt F .f32) :
    BI.Storable (upEmb : UEmb _ (Mod F)) (tile m d w q f) := by unfold tile; infer_instance

/-- What the handshakes carry: a SparseCore its subcores' parts, a subcore its own. -/
def P : (K (F := F)).Pay (nD := nD) (Val := Elt F) (Name := ℕ) (U := UU) where
  st := fun q d c => bigSep Finset.univ fun i => tileOf m d (oldM m d) (Fin.cast (nCore_all (F := F) q) c) (Fin.cast (nSub_all (F := F) q) i)
  dn := fun q d c => bigSep Finset.univ fun i => tileOf m d (newM m d) (Fin.cast (nCore_all (F := F) q) c) (Fin.cast (nSub_all (F := F) q) i)
  go := fun q d c i => tileOf m d (oldM m d) (Fin.cast (nCore_all (F := F) q) c) (Fin.cast (nSub_all (F := F) q) i)
  td := fun q d c i => tileOf m d (newM m d) (Fin.cast (nCore_all (F := F) q) c) (Fin.cast (nSub_all (F := F) q) i)
  x := fun _ _ => iprop(emp)

instance P_storable : (P (F := F) m).IsStorable where
  st q d c := (inferInstance : BI.Storable (upEmb : UEmb _ (Mod F))
    (bigSep Finset.univ fun i => tileOf m d (oldM m d) (Fin.cast (nCore_all (F := F) q) c) (Fin.cast (nSub_all (F := F) q) i)))
  dn q d c := (inferInstance : BI.Storable (upEmb : UEmb _ (Mod F))
    (bigSep Finset.univ fun i => tileOf m d (newM m d) (Fin.cast (nCore_all (F := F) q) c) (Fin.cast (nSub_all (F := F) q) i)))
  go q d c i := (inferInstance : BI.Storable (upEmb : UEmb _ (Mod F)) (tileOf m d (oldM m d) (Fin.cast (nCore_all (F := F) q) c) (Fin.cast (nSub_all (F := F) q) i)))
  td q d c i := (inferInstance : BI.Storable (upEmb : UEmb _ (Mod F)) (tileOf m d (newM m d) (Fin.cast (nCore_all (F := F) q) c) (Fin.cast (nSub_all (F := F) q) i)))

/-- What the proof asks of the launched memory: every index is below a million. -/
def PreOK : Prop := ∀ (d : Dev nD) (j : S16384x50.Idx), (m (xLoc d) j : BitVec 32).toNat < 1000000

/-- A separating product, some of its members first. -/
theorem bigSep_peel {M : Type} [URA M] {I : Type} [DecidableEq I] (Φ : I → sProp M) (l : List I) (hn : l.Nodup) :
    ∀ (s : Finset I), (∀ a ∈ l, a ∈ s) → bigSep s Φ = l.foldr (fun a X => iprop(Φ a ∗ X)) (bigSep (s \ l.toFinset) Φ) := by
  induction l with
  | nil => intro s _; simp
  | cons a l ih =>
    intro s hs
    rw [SparseCore.bigSep_erase' (hs a List.mem_cons_self), ih (List.nodup_cons.mp hn).2 (s.erase a) fun b hb =>
      Finset.mem_erase.mpr ⟨fun e => (List.nodup_cons.mp hn).1 (e ▸ hb), hs b (List.mem_cons_of_mem _ hb)⟩]
    rw [List.foldr_cons, List.toFinset_cons, Finset.sdiff_insert, ← Finset.erase_sdiff_comm]

/-- The subcore's semaphores and buffers. -/
abbrev sems : List (DmaSem sig) :=
  [cc0_scratch7.sem, cc0_scratch8.sem, cc0_scratch9.sem, cc0_scratch10.sem, cc0_scratch11.sem, cc0_scratch12.sem, cc0_scoped0.sem]
abbrev bufs : List (Ref sig .scVector) :=
  [cc0_scratch0, cc0_scratch1, cc0_scratch2, cc0_scratch3, cc0_scratch4, cc0_scratch5, cc0_scratch6]

/-- A subcore's semaphores: the kernel's seven, and the rest. -/
theorem ownSems0_V (c : Fin τ.nSC) (j : Fin τ.nSub) : ∃ X, (ownSems0 (V d c j) : sProp (Mod F))
    = sems.foldr (fun s Y => iprop(semVal (V d c j, .dma s) 0 ∗ Y)) X := by
  unfold SparseCore.Cfg.ownSems0
  have hi : Function.Injective fun s : DmaSem sig => ((V d c j, SemLoc.dma s) : GSem nD τ sig) := by
    intro a b e; simpa using e
  have hd : ∀ s ∈ sems, (SemLoc.dma s : SemLoc sig).isScoped .scVector = true := by decide
  rw [bigSep_peel _ (sems.map fun s => ((V d c j, SemLoc.dma s) : GSem nD τ sig)) ((by decide : sems.Nodup).map hi) _ (by
    intro a ha
    obtain ⟨s, hs, rfl⟩ := List.mem_map.mp ha
    exact mem_ownCells.mpr ⟨rfl, hd s hs⟩), List.foldr_map]
  exact ⟨_, rfl⟩

/-- A subcore's buffers: the kernel's seven, and the rest. -/
theorem ownBufs_V (c : Fin τ.nSC) (j : Fin τ.nSub) : ∃ X, (ownBufs (V d c j) : sProp (Mod F))
    = bufs.foldr (fun b Y => iprop((∃ f, (V d c j).loc b ↦{fullShare} f) ∗ Y)) X := by
  unfold SparseCore.Cfg.ownBufs
  have hd : ∀ b ∈ bufs, ((Proc.scVector c j).devRef b).owner = .proc (.scVector c j) := by
    simp only [bufs, List.forall_mem_cons]
    exact ⟨rfl, rfl, rfl, rfl, rfl, rfl, rfl, fun _ h => absurd h List.not_mem_nil⟩
  rw [bigSep_peel _ (bufs.map (Proc.scVector c j).devRef) ((by decide : bufs.Nodup).map (Proc.devRef_injective _)) _ (by
    intro a ha
    obtain ⟨b, hb, rfl⟩ := List.mem_map.mp ha
    exact SparseCore.Cfg.mem_ownRefs_of_owner (hd b hb)), List.foldr_map]
  exact ⟨_, rfl⟩

/-- A whole buffer, seen as a memref's elements. -/
theorem own_in {c : Fin τ.nSC} {j : Fin τ.nSub} {sp : Space} {s : Shape} {e : EltTy} {M : Memref sig .scVector sp s e} (hM : M.view.set = Finset.univ) :
    iprop(∃ f, M.view.loc (V d c j) ↦{fullShare} f) ⊢ (iprop(∃ X, own d c j M X) : sProp (Mod F)) := by
  iintro ⟨%f, H⟩
  iexists _
  unfold own
  iexists f
  isplitr
  · ipureintro; rfl
  rw [hM]; iexact H
/-- And back. -/
theorem own_out {c : Fin τ.nSC} {j : Fin τ.nSub} {sp : Space} {s : Shape} {e : EltTy} {M : Memref sig .scVector sp s e} (hM : M.view.set = Finset.univ) :
    (iprop(∃ X, own d c j M X) : sProp (Mod F)) ⊢ iprop(∃ f, M.view.loc (V d c j) ↦{fullShare} f) := by
  unfold own
  rw [hM]
  iintro ⟨%X, %f, -, H⟩
  iexists f; iexact H

/-- The subcore's resources as the kernel's run takes them. -/
theorem launch_in {i : grid0.Coords} {q : PosShare TreeShare} {f : S50x2x128x8x128.Idx → Elt F .f32} {O : CellTallies nD τ sig (HIx 1)} {W : Waits sig (HIx 1)}
    {X Y : sProp (Mod F)} :
    iprop(OW d (cV i) (jV i) O W ∗ tile m d (wid i) q f
        ∗ bufs.foldr (fun b Z => iprop((∃ f, (V d (cV i) (jV i)).loc b ↦{fullShare} f) ∗ Z)) X
        ∗ sems.foldr (fun s Z => iprop(semVal (V d (cV i) (jV i), .dma s) 0 ∗ Z)) Y)
      ⊢ Ends (tblM m d) (xtM m d) d O W i q q iprop(X ∗ Y) f := by
  unfold tile Ends restA restB restC Rest Blks Past tabP idxP blk
  simp only [List.foldr_cons, List.foldr_nil]
  iintro ⟨HO, ⟨Ht, Hx, Hb⟩, ⟨B0, B1, B2, B3, B4, B5, B6, HX⟩, ⟨S7, S8, S9, S10, S11, S12, S0, HY⟩⟩
  isplitl [HO]; · iexact HO
  isplitl [B0]; · iexact B0
  isplitl [Ht]; · iexact Ht
  isplitl [B1 B4 S7 S10]
  · isplitl [B1]; · iapply own_in d (M := rA) (View.set_whole _); iexact B1
    isplitl [S7]; · iexact S7
    isplitl [B4]; · iapply own_in d (M := tA) (View.set_whole _); iexact B4
    iexact S10
  isplitl [B2 B5 S8 S11]
  · isplitl [B2]; · iapply own_in d (M := rB) (View.set_whole _); iexact B2
    isplitl [S8]; · iexact S8
    isplitl [B5]; · iapply own_in d (M := tB) (View.set_whole _); iexact B5
    iexact S11
  isplitl [B3 B6 S9 S12]
  · isplitl [B3]; · iapply own_in d (M := rC) (View.set_whole _); iexact B3
    isplitl [S9]; · iexact S9
    isplitl [B6]; · iapply own_in d (M := tC) (View.set_whole _); iexact B6
    iexact S12
  isplitl [Hb]; · iexact Hb
  isplitl [Hx]; · iexact Hx
  isplitl [S0]; · iexact S0
  isplitl [HX] <;> iassumption

/-- And as the launch takes them back. -/
theorem launch_out {i : grid0.Coords} {q : PosShare TreeShare} {f : S50x2x128x8x128.Idx → Elt F .f32} {O : CellTallies nD τ sig (HIx 1)} {W : Waits sig (HIx 1)}
    {X Y : sProp (Mod F)} :
    Ends (tblM m d) (xtM m d) d O W i q q iprop(X ∗ Y) f
      ⊢ iprop(tile m d (wid i) q f
        ∗ bufs.foldr (fun b Z => iprop((∃ f, (V d (cV i) (jV i)).loc b ↦{fullShare} f) ∗ Z)) X
        ∗ sems.foldr (fun s Z => iprop(semVal (V d (cV i) (jV i), .dma s) 0 ∗ Z)) Y
        ∗ ∃ W', ⌜∀ p ∈ W', p ∈ W ∨ p.2 = none⌝ ∗ owes (V d (cV i) (jV i)) O W') := by
  unfold tile Ends restA restB restC Rest Blks Past OW tabP idxP blk
  simp only [List.foldr_cons, List.foldr_nil]
  iintro ⟨⟨-, HO⟩, B0, Ht, ⟨B1, S7, B4, S10⟩, ⟨B2, S8, B5, S11⟩, ⟨B3, S9, B6, S12⟩, Hb, Hx, S0, HX, HY⟩
  isplitl [Ht Hx Hb]
  · isplitl [Ht]; · iexact Ht
    isplitl [Hx] <;> iassumption
  isplitl [B0 B1 B2 B3 B4 B5 B6 HX]
  · isplitl [B0]; · iexact B0
    isplitl [B1]; · iapply own_out d (M := rA) (View.set_whole _); iexact B1
    isplitl [B2]; · iapply own_out d (M := rB) (View.set_whole _); iexact B2
    isplitl [B3]; · iapply own_out d (M := rC) (View.set_whole _); iexact B3
    isplitl [B4]; · iapply own_out d (M := tA) (View.set_whole _); iexact B4
    isplitl [B5]; · iapply own_out d (M := tB) (View.set_whole _); iexact B5
    isplitl [B6]; · iapply own_out d (M := tC) (View.set_whole _); iexact B6
    iexact HX
  isplitr [HO]
  · isplitl [S7]; · iexact S7
    isplitl [S8]; · iexact S8
    isplitl [S9]; · iexact S9
    isplitl [S10]; · iexact S10
    isplitl [S11]; · iexact S11
    isplitl [S12]; · iexact S12
    isplitl [S0] <;> iassumption
  iexact HO

/-- The kernel on one subcore, from what the launch hands it to what it hands back. -/
theorem tile_body (hpre : PreOK m) (i : grid0.Coords) (q : PosShare TreeShare) (f : S50x2x128x8x128.Idx → Elt F .f32)
    (O : CellTallies nD τ sig (HIx 1)) (W : Waits sig (HIx 1)) (hO : ∀ g, O g none = 0) :
    iprop(levAts (K (F := F)).L (K (F := F)).lev ∗ emp ∗ tile m d (wid i) q f
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_gather_kernel (F := F) i tV (Memref.isWhole_whole _) xV (Memref.isWhole_whole _) oV (Memref.isWhole_whole _) lV (Memref.isWhole_whole _)
            rA (Memref.isWhole_whole _) rB (Memref.isWhole_whole _) rC (Memref.isWhole_whole _) tA (Memref.isWhole_whole _) tB (Memref.isWhole_whole _)
            tC (Memref.isWhole_whole _) cc0_scratch7 cc0_scratch8 cc0_scratch9 cc0_scratch10 cc0_scratch11 cc0_scratch12 cc0_scoped0)
          fun _ => iprop(tile m d (wid i) q (newM m d) ∗ scopedBufs (V d (cV i) (jV i)) ∗ scopedSems0 (V d (cV i) (jV i))
            ∗ ∃ W', ⌜∀ p ∈ W', p ∈ W ∨ p.2 = none⌝ ∗ owes (V d (cV i) (jV i)) O W') := by
  obtain ⟨X, hX⟩ := ownBufs_V (F := F) d (cV i) (jV i)
  obtain ⟨Y, hY⟩ := ownSems0_V (F := F) d (cV i) (jV i)
  rw [(K (F := F)).scopedBufs_V facts d (cV i) (jV i), SparseCore.Cfg.scopedSems0_V (Val := Elt F) d (cV i) (jV i), hX, hY]
  refine ent_trans ?_ (ent_trans (kernel_run (TBL := tblM m d) (XT := xtM m d) (f0 := f) (O := O) (W := W) (i := i) (q := q) (qx := q)
    (R := iprop(X ∗ Y)) fun j => hpre d _) (wp_mono frame _ _ fun _ => launch_out m d))
  refine ent_trans ?_ (launch_in m d)
  iintro ⟨Hl, -, Ht, HB, HS, HO⟩
  isplitl [Hl HO]
  · unfold OW
    isplitl [Hl]
    · iapply (show levAts (K (F := F)).L (K (F := F)).lev ⊢ Transfers.MayWaits (V d (cV i) (jV i)) (default : HIx 1) O from
        (K (F := F)).mayWaits_none (thr := V d (cV i) (jV i)) hO)
      iexact Hl
    iexists W
    isplitr
    · ipureintro; exact fun p hp => Or.inl hp
    iexact HO
  isplitl [Ht]; · iexact Ht
  isplitl [HB] <;> iassumption

/-- The grid point of subcore `s` of SparseCore `c`. -/
def coordsV (c : Fin (grid0.bound 0)) (s : Fin (grid0.bound 1)) : grid0.Coords
  | 0 => c
  | 1 => s
  | ⟨_ + 2, h⟩ => absurd h (Nat.not_lt.2 (Nat.le_add_left _ _))

/-- What the launch's body is on a subcore. -/
theorem defs₀_vector (c : Fin τ.nSC) (s : Fin τ.nSub) :
    (defs₀ (F := F) (.scVector c s) 0 () : Prog (TpuEff nD τ sig (Elt F) Λ₀ (.scVector c s)) PUnit)
      = SparseCore.onTile hcore0 hsub0 (fun c s => cc0_gather_kernel (F := F) (coordsV c s) tV (Memref.isWhole_whole _) xV (Memref.isWhole_whole _) oV (Memref.isWhole_whole _) lV (Memref.isWhole_whole _)
            rA (Memref.isWhole_whole _) rB (Memref.isWhole_whole _) rC (Memref.isWhole_whole _) tA (Memref.isWhole_whole _) tB (Memref.isWhole_whole _)
            tC (Memref.isWhole_whole _) cc0_scratch7 cc0_scratch8 cc0_scratch9 cc0_scratch10 cc0_scratch11 cc0_scratch12 cc0_scoped0) ⟨⟩ c s := rfl

/-- The waits recorded, as the launch states them. -/
theorem obl_post {thr : Thread nD τ} {A B C : sProp (Mod F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The launch's obligation on each subcore. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m d hpre (coordsV ⟨_, hci.1⟩ ⟨_, hci.2⟩) (shr (Fin.cast (nCore_all (F := F) 0) c) (Fin.cast (nSub_all (F := F) 0) i)) (oldM m d) O W hO).trans
    (wp_mono frame _ _ fun _ => obl_post)

/-- What is handed on comes back as it is returned. -/
theorem keep_back (A B : sProp (Mod F)) : A ⊢ |={Set.univ}=> iprop(A ∗ (B -∗ B)) := by
  iintro H
  imodintro
  isplitl [H]; · iexact H
  iintro H; iexact H

/-- A SparseCore's part is its subcores', there and back. -/
theorem vecSplit : (K (F := F)).VecSplit' (P m) 0 := by
  intro d c
  exact keep_back (bigSep Finset.univ fun i => tileOf m d (oldM m d) (Fin.cast (nCore_all (F := F) 0) c) (Fin.cast (nSub_all (F := F) 0) i))
    (bigSep Finset.univ fun i => tileOf m d (newM m d) (Fin.cast (nCore_all (F := F) 0) c) (Fin.cast (nSub_all (F := F) 0) i))

/-- The launch's own resources: the handshakes' rounds and the counters. -/
def u₀ : UU := (initOf (K (F := F)).hsCells (K (F := F)).hsToks, 1)

/-- They are what the launch theorem asks for. -/
theorem hu₀ : (ownU (u₀ (F := F)) : sProp (Mod F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have he : ∀ {I : Type} (s : Finset I), (bigSep s fun _ => iprop(emp)) = (iprop(emp) : sProp (Mod F)) := fun s => bigSep_emp_const s
  isplitr; · rw [he]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

end Cert.Proof.Lookup

end
-- ==== Proof.Launch.lean ====
/- The whole program: the operations of the host around the launch, the parts handed to the subcores and
   joined again, and the run's outcome. -/
module

public import proofs.«01_k».proof.Proof.Task

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]
variable (m : (ℓ : Loc nD τ sig) → Buf (Elt F) ℓ) (ρ : Dev nD → PrngReg) (d : Dev nD)

/-- Two workers' blocks, or two blocks of one, share no element. -/
theorem oset_disjoint (a b : Fin 2 × Fin 16 × Fin 50) (hab : a ≠ b) :
    Disjoint (oset (2 * a.2.1.val + a.1.val) a.2.2.val) (oset (2 * b.2.1.val + b.1.val) b.2.2.val) := by
  rw [Finset.disjoint_left]
  intro z ha hb
  have ha' := (Finset.mem_filter.mp ha).2
  have hb' := (Finset.mem_filter.mp hb).2
  obtain ⟨⟨c, hc⟩, ⟨s, hs⟩, ⟨h, hh⟩⟩ := a
  obtain ⟨⟨c', hc'⟩, ⟨s', hs'⟩, ⟨h', hh'⟩⟩ := b
  simp only at ha' hb'
  refine hab ?_
  obtain rfl : h = h' := by omega
  obtain rfl : s = s' := by omega
  obtain rfl : c = c' := by omega
  rfl

/-- Every element of the result is some worker's. -/
theorem oset_cover : ((Finset.univ : Finset (Fin 2 × Fin 16 × Fin 50)).biUnion fun a => oset (2 * a.2.1.val + a.1.val) a.2.2.val)
    = (Finset.univ : Finset S50x2x128x8x128.Idx) := by
  refine Finset.eq_univ_of_forall fun z => ?_
  rw [Finset.mem_biUnion]
  have h0 : (z 0).val < 50 := (z 0).isLt
  have h2 : (z 2).val < 128 := (z 2).isLt
  refine ⟨(⟨(z 2).val / 4 % 2, by omega⟩, ⟨(z 2).val / 8, by omega⟩, ⟨(z 0).val, h0⟩), Finset.mem_univ _, Finset.mem_filter.mpr ⟨Finset.mem_univ _, rfl, ?_, ?_⟩⟩
  · show (2 * ((z 2).val / 8) + (z 2).val / 4 % 2) * 4 ≤ (z 2).val; omega
  · show (z 2).val < (2 * ((z 2).val / 8) + (z 2).val / 4 % 2) * 4 + 4; omega

/-- A buffer, in shares for the subcores. -/
theorem shares {ℓ : Loc nD τ sig} (f : Buf (Elt F) ℓ) : (ℓ ↦{fullShare} f : sProp (Mod F))
    = bigSep Finset.univ fun c : Fin 2 => bigSep Finset.univ fun i : Fin 16 => ℓ ↦{shr c i} f :=
  (ShareLeaves.pointsTo_leaves Finset.univ f 1 fullShare).trans (bigSep_congr fun _ _ => ShareLeaves.pointsTo_leaves Finset.univ f 4 _)

/-- The result, in blocks for the subcores. -/
theorem blocks (f : S50x2x128x8x128.Idx → Elt F .f32) : (oLoc d ↦{fullShare} f : sProp (Mod F))
    = bigSep Finset.univ fun c : Fin 2 => bigSep Finset.univ fun i : Fin 16 => bigSep Finset.univ fun h : Fin 50 =>
        oLoc d ↦[oset (2 * i.val + c.val) h.val]{fullShare} f := by
  have h : (oLoc d ↦[(Finset.univ : Finset (Fin 2 × Fin 16 × Fin 50)).biUnion fun a => oset (2 * a.2.1.val + a.1.val) a.2.2.val]{fullShare} f : sProp (Mod F))
      = bigSep Finset.univ fun a : Fin 2 × Fin 16 × Fin 50 => oLoc d ↦[oset (2 * a.2.1.val + a.1.val) a.2.2.val]{fullShare} f :=
    pointsTo_biUnion _ _ fun a _ b _ => oset_disjoint a b
  rw [oset_cover] at h
  refine h.trans ?_
  rw [bigSep_univ_prod]
  exact bigSep_congr fun _ _ => bigSep_univ_prod _

/-- The launch's three arrays are the subcores' parts. -/
theorem parts (f : S50x2x128x8x128.Idx → Elt F .f32) :
    (bigSep Finset.univ fun c : Fin 2 => bigSep Finset.univ fun i : Fin 16 => tileOf m d f c i)
      = (iprop((aLoc d ↦{fullShare} tblM m d) ∗ (vLoc d ↦{fullShare} xtM m d) ∗ oLoc d ↦{fullShare} f) : sProp (Mod F)) := by
  rw [shares, shares, blocks]
  simp only [← bigSep_sep']
  rfl

/-- A separating product over a range, the range spelled another way. -/
theorem bigSep_cast {M : Type} [URA M] {n k : ℕ} (h : n = k) (Φ : Fin k → sProp M) :
    (bigSep Finset.univ fun i : Fin n => Φ (Fin.cast h i)) = bigSep Finset.univ Φ := by subst h; rfl

/-- What the launch takes, and what it hands back. -/
theorem parts_launch (f : S50x2x128x8x128.Idx → Elt F .f32) :
    (bigSep Finset.univ fun c : Fin ((K (F := F)).nCore 0) => bigSep Finset.univ fun i : Fin ((K (F := F)).nSub 0) =>
        tileOf m d f (Fin.cast (nCore_all (F := F) 0) c) (Fin.cast (nSub_all (F := F) 0) i))
      = (iprop((aLoc d ↦{fullShare} tblM m d) ∗ (vLoc d ↦{fullShare} xtM m d) ∗ oLoc d ↦{fullShare} f) : sProp (Mod F)) := by
  rw [← parts, bigSep_cast (nCore_all (F := F) 0) fun c => bigSep Finset.univ fun i : Fin ((K (F := F)).nSub 0) => tileOf m d f c (Fin.cast (nSub_all (F := F) 0) i)]
  exact bigSep_congr fun c _ => bigSep_cast (nSub_all (F := F) 0) (tileOf m d f c)
/-- What all the SparseCores are handed at the start. -/
theorem st0_eq : (bigSep Finset.univ fun c : Fin ((K (F := F)).nCore 0) => (P m).st 0 d c)
    = (iprop((aLoc d ↦{fullShare} tblM m d) ∗ (vLoc d ↦{fullShare} xtM m d) ∗ oLoc d ↦{fullShare} oldM m d) : sProp (Mod F)) := parts_launch m d _
/-- What all the SparseCores hand back at the end. -/
theorem dn0_eq : (bigSep Finset.univ fun c : Fin ((K (F := F)).nCore 0) => (P m).dn 0 d c)
    = (iprop((aLoc d ↦{fullShare} tblM m d) ∗ (vLoc d ↦{fullShare} xtM m d) ∗ oLoc d ↦{fullShare} newM m d) : sProp (Mod F)) := parts_launch m d _

abbrev a' : DevRef τ sig := Proc.devRef .tc (main_arg0 : Ref sig .tc)
abbrev x' : DevRef τ sig := Proc.devRef .tc (main_arg1 : Ref sig .tc)
abbrev v' : DevRef τ sig := Proc.devRef .tc (main_v0 : Ref sig .tc)
abbrev o' : DevRef τ sig := Proc.devRef .tc (main_v1 : Ref sig .tc)
abbrev p' : DevRef τ sig := Proc.devRef .tc (main_v2 : Ref sig .tc)
abbrev r' : DevRef τ sig := Proc.devRef .tc (main_v3 : Ref sig .tc)
/-- The host's arrays. -/
abbrev S6 : Finset (DevRef τ sig) := {a', x', v', o', p', r'}

/-- The host's three operations: the indices transposed; the lane tiles transposed; and seen in the result's shape. -/
abbrev opT : HloOp τ sig (Elt F) := StableHlo.unary main_arg1 main_v0
  ((transpose S50x16384 [1, 0] · transposes_S16384x50_S50x16384_1_0) : (⟨S16384x50, .i32⟩ : BufTy).Contents (Elt F) → (⟨S50x16384, .i32⟩ : BufTy).Contents (Elt F))
abbrev opP : HloOp τ sig (Elt F) := StableHlo.unary main_v1 main_v2
  ((transpose S128x128x50x2x8 [2, 4, 0, 1, 3] · transposes_S50x2x128x8x128_S128x128x50x2x8_2_4_0_1_3) : (⟨S50x2x128x8x128, .f32⟩ : BufTy).Contents (Elt F) → (⟨S128x128x50x2x8, .f32⟩ : BufTy).Contents (Elt F))
abbrev opR : HloOp τ sig (Elt F) := StableHlo.reshape main_v2 main_v3 (rfl : (.f32 : EltTy) = .f32) shapeCasts_S128x128x50x2x8_S16384x50x16

/-- The six arrays, one by one. -/
theorem held_S6 (W : Valuation τ sig (Elt F)) : (held (SparseCore.T d) S6 W : sProp (Mod F))
    = iprop((aLoc d ↦{fullShare} W a') ∗ (xLoc d ↦{fullShare} W x') ∗ (vLoc d ↦{fullShare} W v') ∗ (oLoc d ↦{fullShare} W o')
      ∗ ((SparseCore.T d).loc main_v2 ↦{fullShare} W p') ∗ (SparseCore.T d).loc main_v3 ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The launched contents; those at the call; those after it; and the last. -/
def V0 : Valuation τ sig (Elt F) := fun b => m (d, b)
/-- The memory after the transpose of the indices. -/
def V1 : Valuation τ sig (Elt F) := (opT (F := F)).result (V0 m d)
/-- The memory after the kernel. -/
def V2 : Valuation τ sig (Elt F) := Function.update (V1 m d) o' (newM m d)
/-- The memory after the output's transpose and reshape. -/
def V3 : Valuation τ sig (Elt F) := (opR (F := F)).result ((opP (F := F)).result (V2 m d))

/-- The host's arrays are its unscoped ones. -/
theorem unscoped_held : (unscopedBufs d (fun b => m ((SparseCore.T d).loc b)) : sProp (Mod F)) = held (SparseCore.T d) S6 (V0 m d) := by
  rw [held_S6]
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- The transposed indices. -/
theorem V1_v : V1 m d v' = xtM m d := StableHlo.unary_result ..
/-- The transpose writes nothing else. -/
theorem V1_ne {b : Ref sig .tc} (hb : b ≠ main_v0) : V1 m d (Proc.devRef .tc b) = m (d, Proc.devRef .tc b) := StableHlo.unary_result_ne (h := hb) ..
/-- The kernel's output. -/
theorem V2_o : V2 m d o' = newM m d := Function.update_self _ _ _
/-- The kernel writes nothing else. -/
theorem V2_ne {b : DevRef τ sig} (hb : b ≠ o') : V2 m d b = V1 m d b := Function.update_of_ne hb _ _

/-- The six arrays at the call, and after it. -/
theorem held_V1 : (held (SparseCore.T d) S6 ((opT (F := F)).result (V0 m d)) : sProp (Mod F))
    = iprop((aLoc d ↦{fullShare} tblM m d) ∗ (xLoc d ↦{fullShare} m (xLoc d)) ∗ (vLoc d ↦{fullShare} xtM m d) ∗ (oLoc d ↦{fullShare} oldM m d)
      ∗ ((SparseCore.T d).loc main_v2 ↦{fullShare} m ((SparseCore.T d).loc main_v2)) ∗ (SparseCore.T d).loc main_v3 ↦{fullShare} m ((SparseCore.T d).loc main_v3)) := by
  refine (held_S6 d (V1 m d)).trans ?_
  rw [V1_v, V1_ne m d (b := main_arg0) (by decide), V1_ne m d (b := main_arg1) (by decide), V1_ne m d (b := main_v1) (by decide),
    V1_ne m d (b := main_v2) (by decide), V1_ne m d (b := main_v3) (by decide)]
/-- The held buffers after the kernel, one by one. -/
theorem held_V2 : (held (SparseCore.T d) S6 (V2 m d) : sProp (Mod F))
    = iprop((aLoc d ↦{fullShare} tblM m d) ∗ (xLoc d ↦{fullShare} m (xLoc d)) ∗ (vLoc d ↦{fullShare} xtM m d) ∗ (oLoc d ↦{fullShare} newM m d)
      ∗ ((SparseCore.T d).loc main_v2 ↦{fullShare} m ((SparseCore.T d).loc main_v2)) ∗ (SparseCore.T d).loc main_v3 ↦{fullShare} m ((SparseCore.T d).loc main_v3)) := by
  rw [held_S6, V2_o, V2_ne m d (b := a') (by decide), V2_ne m d (b := x') (by decide), V2_ne m d (b := v') (by decide),
    V2_ne m d (b := p') (by decide), V2_ne m d (b := r') (by decide), V1_v, V1_ne m d (b := main_arg0) (by decide), V1_ne m d (b := main_arg1) (by decide),
    V1_ne m d (b := main_v2) (by decide), V1_ne m d (b := main_v3) (by decide)]

/-- The result: the lane tiles turned back. -/
abbrev resM : S16384x50x16.Idx → Elt F .f32 :=
  shapeCast S16384x50x16 (transpose S128x128x50x2x8 [2, 4, 0, 1, 3] (newM m d) transposes_S50x2x128x8x128_S128x128x50x2x8_2_4_0_1_3)
    shapeCasts_S128x128x50x2x8_S16384x50x16

/-- The result. -/
theorem V3_r : V3 m d r' = resM m d := by
  unfold V3
  rw [StableHlo.reshape_result, StableHlo.unary_result, V2_o]
  rfl
/-- The last two operations write nothing else. -/
theorem V3_ne {b : Ref sig .tc} (h3 : b ≠ main_v3) (h2 : b ≠ main_v2) (h1 : b ≠ main_v1) (h0 : b ≠ main_v0) :
    V3 m d (Proc.devRef .tc b) = m (d, Proc.devRef .tc b) := by
  unfold V3
  rw [StableHlo.reshape_result_ne (h := h3), StableHlo.unary_result_ne (h := h2), V2_ne m d (StableHlo.devRef_ne_of_ne h1), V1_ne m d h0]

/-- What the host's program leaves: the table and the indices as launched, and the result. -/
def FIN : sProp (Mod F) := iprop((aLoc d ↦{fullShare} m (aLoc d)) ∗ (xLoc d ↦{fullShare} m (xLoc d)) ∗ (SparseCore.T d).loc main_v3 ↦{fullShare} resM m d)

/-- The last contents give it. -/
theorem fin_of : (held (SparseCore.T d) S6 (V3 m d) : sProp (Mod F)) ⊢ FIN m d := by
  rw [held_S6, V3_r, V3_ne m d (b := main_arg0) (by decide) (by decide) (by decide) (by decide),
    V3_ne m d (b := main_arg1) (by decide) (by decide) (by decide) (by decide)]
  unfold FIN
  iintro ⟨Ha, Hx, -, -, -, Hr⟩
  isplitl [Ha]; · iexact Ha
  isplitl [Hx] <;> iassumption

/-- The host's program: its first operation, the call, and the two after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S6) (show ({x', v'} : Finset (DevRef τ sig)) ⊆ S6 by decide) (V := V0 m d)) $$ [Hb Hheld]
  · isplitl [Hb] <;> iassumption
  iintro ⟨Hb, Hheld⟩
  rw [wp_ret]; imodintro
  ihave Hh := (Entails.of_eq (held_V1 m d)) $$ Hheld
  icases Hh with ⟨Ha, Hx, Hv, Ho, Hp, Hr⟩
  iapply ((K (F := F)).wp_run (D (F := F)) 𝒱 (EH := EH) (P := P m) κ d 0) $$ [Hst Ha Hx Hv Ho Hp Hr Hb Hts]
  isplitr; · iexact Hctx
  isplitl [Hst]; · iexact Hst
  isplitl [Ha Hv Ho]
  · rw [st0_eq]
    isplitl [Ha]; · iexact Ha
    isplitl [Hv] <;> iassumption
  iintro ⟨Hst, Hdn⟩
  ihave Hdn' := (Entails.of_eq (dn0_eq m d)) $$ Hdn
  icases Hdn' with ⟨Ha, Hv, Ho⟩
  iapply (wp_hlo_within 𝒱 (SparseCore.T d) none Set.univ (op := opP) (S := S6) (show ({o', p'} : Finset (DevRef τ sig)) ⊆ S6 by decide) (V := V2 m d)) $$ [Hb Ha Hx Hv Ho Hp Hr]
  · isplitl [Hb]; · iexact Hb
    rw [held_V2]
    isplitl [Ha]; · iexact Ha
    isplitl [Hx]; · iexact Hx
    isplitl [Hv]; · iexact Hv
    isplitl [Ho]; · iexact Ho
    isplitl [Hp] <;> iassumption
  iintro ⟨Hb, Hheld⟩
  rw [wp_ret]; imodintro
  iapply (wp_hlo_within 𝒱 (SparseCore.T d) none Set.univ (op := opR) (S := S6) (show ({p', r'} : Finset (DevRef τ sig)) ⊆ S6 by decide) (V := (opP (F := F)).result (V2 m d))) $$ [Hb Hheld]
  · isplitl [Hb] <;> iassumption
  iintro ⟨Hb, Hheld⟩
  rw [wp_ret]; imodintro; imodintro
  isplitl [Hst]; · iexact Hst
  isplitl [Hheld]
  · iapply (fin_of m d); iexact Hheld
  isplitl [Hb] <;> iassumption

/-- The host's outcome, in the final memory. -/
def fq (d : Dev nD) (s' : Phys nD τ sig (Elt F)) : Prop :=
  s'.mem.mem ((SparseCore.T d).loc main_v3) = resM m d ∧ s'.mem.mem (aLoc d) = m (aLoc d) ∧ s'.mem.mem (xLoc d) = m (xLoc d)

/-- A whole buffer that is held is what the memory holds. -/
theorem agree {ℓ : Loc nD τ sig} {f : Buf (Elt F) ℓ} {s' : Phys nD τ sig (Elt F)} :
    iprop(SI s' ∗ ℓ ↦{fullShare} f) ⊢ (iprop(⌜s'.mem.mem ℓ = f⌝ ∗ SI s') : sProp (Mod F)) := by
  refine ent_trans (persistent_entails_right SI_pointsTo_agree) ?_
  iintro ⟨%h, HS, -⟩
  isplitr
  · ipureintro; exact funext fun i => h i (Finset.mem_univ i)
  iexact HS

/-- What the end says of the final memory. -/
theorem hfin (d : Dev nD) (s' : Phys nD τ sig (Elt F)) : iprop(FIN m d ∗ SI s') ⊢ (⌜fq m d s'⌝ : sProp (Mod F)) := by
  unfold FIN
  iintro ⟨⟨Ha, Hx, Hr⟩, HS⟩
  ihave H := agree $$ [HS Ha]
  · isplitl [HS] <;> iassumption
  icases H with ⟨%ha, HS⟩
  ihave H := agree $$ [HS Hx]
  · isplitl [HS] <;> iassumption
  icases H with ⟨%hx, HS⟩
  ihave H := agree $$ [HS Hr]
  · isplitl [HS] <;> iassumption
  icases H with ⟨%hr, -⟩
  ipureintro; exact ⟨hr, ha, hx⟩

/-- The outcome on every device, and every semaphore back at zero. -/
def QC : PUnit × MemSt nD τ sig (Elt F) → Prop := fun r =>
  (∀ c : Dev nD, r.2.mem ((SparseCore.T c).loc main_v3) = resM m c ∧ r.2.mem (aLoc c) = m (aLoc c) ∧ r.2.mem (xLoc c) = m (xLoc c)) ∧ r.2.sem = fun _ => 0

/-- The program's run. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/- What the kernel's program computes: the lane tiles turned back are the table's rows at the indices. And
   what the precondition says of the indices. -/
module

public import proofs.«01_k».proof.Proof.Launch
public import Idealize.ShloMosaic.Lib.Pipeline.Value
public import Idealize.ShloMosaic.Lib.ReduceAll
public import proofs.«01_k».proof.Proof.Gen.Pre_in_range

@[expose] public section

noncomputable section

namespace Cert.Proof.Lookup

open Cert.KernelIdeal Cert.KernelIdeal.Gen
open Idealize.ShloMosaic

variable {F : FTy → Type} [FloatOps F]

/-- Row `b`, column `h` of the index matrix. -/
def pair (b : Fin 16384) (h : Fin 50) : S16384x50.Idx := fun | 0 => b | 1 => h
/-- Place `(b, h, e)` of the result. -/
def trip (b : Fin 16384) (h : Fin 50) (e : Fin 16) : S16384x50x16.Idx := fun | 0 => b | 1 => h | 2 => e
/-- Every place is one of these. -/
theorem trip_eta (y : S16384x50x16.Idx) : y = trip (y 0) (y 1) (y 2) := by
  funext a
  match a with
  | 0 => rfl
  | 1 => rfl
  | 2 => rfl
/-- An index of the indices is the pair of its coordinates. -/
theorem pair_eta (y : S16384x50.Idx) : y = pair (y 0) (y 1) := by
  funext a
  match a with
  | 0 => rfl
  | 1 => rfl

/-- The lookup: at `(b, h, e)`, column `e` of the table's row numbered by the index at `(b, h)`. -/
def look {α : Type} (TBL : S1000000x16.Idx → α) (X : S16384x50.Idx → BitVec 32) : S16384x50x16.Idx → α :=
  fun y => TBL (tix (X (pair (y 0) (y 1))).toNat (y 2))

/-- The transposed indices. -/
theorem transposed (X : S16384x50.Idx → BitVec 32) (b : Fin 16384) (h : Fin 50) :
    transpose S50x16384 [1, 0] X transposes_S16384x50_S50x16384_1_0 (xix h.val b.val) = X (pair b h) := by
  refine transpose_apply _ _ _ _ _ fun a => ?_
  match a with
  | ⟨0, _⟩ => show h.val = min h.val 49; have := h.isLt; omega
  | ⟨1, _⟩ => show b.val = min b.val 16383; have := b.isLt; omega

/-- The place of the lane tiles' transpose, and of the lane tiles, that `(b, h, e)` is read from. -/
def place (b : Fin 16384) (h : Fin 50) (e : Fin 16) : S128x128x50x2x8.Idx
  | 0 => ⟨b.val / 128, show b.val / 128 < 128 by have := b.isLt; omega⟩
  | 1 => ⟨b.val % 128, show b.val % 128 < 128 by omega⟩
  | 2 => h
  | 3 => ⟨e.val / 8, show e.val / 8 < 2 by have := e.isLt; omega⟩
  | 4 => ⟨e.val % 8, show e.val % 8 < 8 by omega⟩
/-- Where the kernel's output holds an element of the result. -/
def source (b : Fin 16384) (h : Fin 50) (e : Fin 16) : S50x2x128x8x128.Idx
  | 0 => h
  | 1 => ⟨e.val / 8, show e.val / 8 < 2 by have := e.isLt; omega⟩
  | 2 => ⟨b.val / 128, show b.val / 128 < 128 by have := b.isLt; omega⟩
  | 3 => ⟨e.val % 8, show e.val % 8 < 8 by omega⟩
  | 4 => ⟨b.val % 128, show b.val % 128 < 128 by omega⟩

/-- The kernel's result is the lookup. -/
theorem res_eq (TBL : S1000000x16.Idx → Elt F .f32) (X : S16384x50.Idx → BitVec 32) :
    shapeCast S16384x50x16 (transpose S128x128x50x2x8 [2, 4, 0, 1, 3]
      (outAt TBL (transpose S50x16384 [1, 0] X transposes_S16384x50_S50x16384_1_0 : S50x16384.Idx → Elt F .i32))
      transposes_S50x2x128x8x128_S128x128x50x2x8_2_4_0_1_3) shapeCasts_S128x128x50x2x8_S16384x50x16 = look TBL X := by
  funext y
  obtain ⟨b, h, e, rfl⟩ : ∃ b h e, y = trip b h e := ⟨_, _, _, trip_eta y⟩
  have hb := b.isLt
  have he := e.isLt
  rw [shapeCast_apply _ _ _ (place b h e) (by
    rw [Shape.rowMajor_val_five, Shape.rowMajor_val_three]
    show (((b.val / 128 * 128 + b.val % 128) * 50 + h.val) * 2 + e.val / 8) * 8 + e.val % 8 = (b.val * 50 + h.val) * 16 + e.val
    omega),
    transpose_apply _ _ _ _ (source b h e) (by
      intro a
      match a with
      | ⟨0, _⟩ => rfl
      | ⟨1, _⟩ => rfl
      | ⟨2, _⟩ => rfl
      | ⟨3, _⟩ => rfl
      | ⟨4, _⟩ => rfl)]
  show TBL (tix (transpose S50x16384 [1, 0] X transposes_S16384x50_S50x16384_1_0 (xix h.val (b.val / 128 * 128 + b.val % 128))).toNat
    ⟨e.val / 8 * 8 + e.val % 8, _⟩) = TBL (tix (X (pair b h)).toNat e)
  have h1 : b.val / 128 * 128 + b.val % 128 = b.val := by omega
  have h2 : (⟨e.val / 8 * 8 + e.val % 8, by omega⟩ : Fin 16) = e := Fin.ext (by show e.val / 8 * 8 + e.val % 8 = e.val; omega)
  rw [h1, h2, transposed]

/-- A bit of a truth value. -/
theorem and_bits (p q : Bool) : IntOp.andi (BitVec.ofBool p) (BitVec.ofBool q) = BitVec.ofBool (p && q) := by cases p <;> cases q <;> decide
/-- A truth value as a bit. -/
theorem bit_one (p : Bool) : (BitVec.ofBool p = 1#1) ↔ p = true := by cases p <;> decide

/-- The precondition's test of one word. -/
theorem word_range {v : BitVec 32} (e : IntOp.andi (IntOp.cmpi .sge v 0#32) (IntOp.cmpi .slt v 1000000#32) = 1#1) : v.toNat < 1000000 := by
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega
/-- The reference's tests of a word in range: it is not negative, and it passes. -/
theorem word_pos {v : BitVec 32} (h : v.toNat < 1000000) : IntOp.cmpi .slt v 0#32 = 0#1 := by
  rw [show (0#1 : BitVec 1) = BitVec.ofBool false from rfl]
  simp only [IntOp.cmpi]
  congr 1
  simp only [BitVec.slt_eq_decide, decide_eq_false_iff_not, BitVec.toInt_eq_toNat_cond, BitVec.toNat_ofNat, Nat.reducePow, Nat.reduceMod]
  omega
/-- An index in range passes the reference's mask. -/
theorem word_pass {v : BitVec 32} (h : v.toNat < 1000000) : IntOp.andi (IntOp.cmpi .sge v 0#32) (IntOp.cmpi .sle v 999999#32) = 1#1 := by
  simp only [IntOp.cmpi, and_bits, bit_one, Bool.and_eq_true, BitVec.sle_eq_decide,
    decide_eq_true_eq, BitVec.toInt_eq_toNat_cond, BitVec.toNat_ofNat, Nat.reducePow, Nat.reduceMod]
  omega
/-- An index in range is the same read with a sign. -/
theorem word_int {v : BitVec 32} (h : v.toNat < 1000000) : v.toInt.toNat = v.toNat := by
  rw [BitVec.toInt_eq_toNat_cond, if_pos (by omega), Int.toNat_natCast]

/-- The precondition says every index is in range. -/
theorem range_of_pre (A : S1000000x16.Idx → Elt F .f32) (X : S16384x50.Idx → BitVec 32)
    (h : Cert.Pre_in_range.fn (F := F) A X = fun _ => 1#1) (j : S16384x50.Idx) : (X j).toNat < 1000000 := by
  haveI : Subsingleton Cert.Pre_in_range.S_.Idx := ⟨fun a b => funext fun i => i.elim0⟩
  have e := congrFun h fun i => i.elim0
  exact word_range (Host.reduce_andi_all _ _ _ _ _ e j)

end Cert.Proof.Lookup

end
-- ==== Proof.Ref.lean ====
/- What the reference computes: its gather under its masks is the table's rows at the indices. -/
module

public import proofs.«01_k».proof.Proof.Value
public import proofs.«01_k».proof.Proof.Gen.ReferenceIdeal.Run

@[expose] public section

noncomputable section

namespace Cert.Proof.Lookup

open Cert.ReferenceIdeal Cert.ReferenceIdeal.Gen Cert.ReferenceIdeal.Facts
open Idealize.ShloMosaic

variable {F : FTy → Type} [FloatOps F]

/-- The reference's place for the index at `(b, h)`. -/
def slot (b : Fin 16384) (h : Fin 50) : S16384x50x1.Idx := fun | 0 => b | 1 => h | 2 => ⟨0, Nat.one_pos⟩

/-- The reference's gather at `(b, h, e)`: the table's row numbered by the start index there. -/
theorem gather_at {α : Type} (TBL : S1000000x16.Idx → α) (I : IVec S16384x50x1 32) (b : Fin 16384) (h : Fin 50) (e : Fin 16)
    (hI : (I (slot b h)).toNat < 1000000) :
    Host.gather gather_S1000000x16_S16384x50x1_S16384x50x16_2_0_n_n_0_2_116 TBL I (trip b h e) = TBL (tix (I (slot b h)).toNat e) := by
  unfold Host.gather
  refine congrArg TBL (funext fun a => Fin.ext ?_)
  generalize hd : gather_S1000000x16_S16384x50x1_S16384x50x16_2_0_n_n_0_2_116 = D
  have hob : ∀ a, a ∉ D.operandBatchingDims := fun a => by rw [← hd]; exact List.not_mem_nil
  match a with
  | 0 =>
    show D.start (trip b h e) I 0 + D.batchCoord (trip b h e) 0 + D.offCoord (trip b h e) 0 = min _ 999999
    rw [D.batchCoord_eq_zero _ _ (hob 0), D.offCoord_eq_zero _ _ fun hk => ((D.mem_sKept 0).mp hk).1 (by rw [← hd]; exact List.mem_singleton.mpr rfl)]
    subst hd
    unfold GatherDims.start
    rw [dif_pos (show (0 : Fin 2) ∈ gather_S1000000x16_S16384x50x1_S16384x50x16_2_0_n_n_0_2_116.startIndexMap from List.mem_singleton.mpr rfl)]
    have hs : gather_S1000000x16_S16384x50x1_S16384x50x16_2_0_n_n_0_2_116.siIdx (trip b h e) ⟨List.idxOf (0 : Fin 2) gather_S1000000x16_S16384x50x1_S16384x50x16_2_0_n_n_0_2_116.startIndexMap,
        List.idxOf_lt_length_iff.2 (List.mem_singleton.mpr rfl)⟩ = slot b h := by
      funext c
      refine Fin.ext ?_
      match c with
      | ⟨0, _⟩ => rfl
      | ⟨1, _⟩ => rfl
      | ⟨2, _⟩ => rfl
    show min (I (gather_S1000000x16_S16384x50x1_S16384x50x16_2_0_n_n_0_2_116.siIdx (trip b h e) _)).toInt.toNat (1000000 - 1) + 0 + 0 = _
    rw [hs, word_int hI]
    rfl
  | 1 =>
    show D.start (trip b h e) I 1 + D.batchCoord (trip b h e) 1 + D.offCoord (trip b h e) 1 = e.val
    rw [D.batchCoord_eq_zero _ _ (hob 1)]
    subst hd
    unfold GatherDims.start GatherDims.offCoord
    rw [dif_neg (show (1 : Fin 2) ∉ gather_S1000000x16_S16384x50x1_S16384x50x16_2_0_n_n_0_2_116.startIndexMap from fun h => absurd (List.mem_singleton.mp h) (by decide)), dif_pos ((gather_S1000000x16_S16384x50x1_S16384x50x16_2_0_n_n_0_2_116.mem_sKept 1).mpr ⟨fun h => absurd (List.mem_singleton.mp h) (by decide), hob 1⟩)]
    show 0 + 0 + (trip b h e 2).val = e.val
    rw [Nat.zero_add]
    rfl

/-- The reference's start indices, when every index is in range, are the indices. -/
theorem starts (X : IVec S16384x50 32) (hX : ∀ j, (X j).toNat < 1000000) (i : S16384x50x1.Idx) :
    broadcastInDim S16384x50x1 ![0, 1] bcast_S16384x50_S16384x50x1_0_1
      (select (cmpi .slt X (broadcastInDim S16384x50 ![] bcast_S_S16384x50 (constantI S_ 32 0#32)))
        (addi X (broadcastInDim S16384x50 ![] bcast_S_S16384x50 (constantI S_ 32 1000000#32))) X) i = X (pair (i 0) (i 1)) := by
  rw [broadcastInDim_apply _ _ _ _ (pair (i 0) (i 1)) (by
    intro a
    match a with
    | 0 => rfl
    | 1 => rfl)]
  show Scalar.select (IntOp.cmpi .slt (X (pair (i 0) (i 1))) 0#32) _ _ = _
  rw [word_pos (hX _)]
  rfl

/-- A choice under a mask of ones. -/
theorem unmask {α : Type} (M : IVec S16384x50 1) (hM : ∀ j, M j = 1#1) (A B : S16384x50x16.Idx → α) :
    select (broadcastInDim S16384x50x16 ![0, 1] bcast_S16384x50_S16384x50x16_0_1 M) A B = A := by
  funext y
  obtain rfl : M = fun _ => 1#1 := funext hM
  rfl

/-- The reference's result is the lookup. -/
theorem ref_eq (TBL : FVec F S1000000x16 .f32) (X : IVec S16384x50 32) (hX : ∀ j, (X j).toNat < 1000000) (I : IVec S16384x50x1 32)
    (hI : ∀ i, I i = X (pair (i 0) (i 1))) (N : FVec F S16384x50x16 .f32) :
    select (broadcastInDim S16384x50x16 ![0, 1] bcast_S16384x50_S16384x50x16_0_1
        (Host.reduce IntOp.andi (andi (cmpi .sge I (broadcastInDim S16384x50x1 ![] bcast_S_S16384x50x1 (constantI S_ 32 0#32)))
          (cmpi .sle I (broadcastInDim S16384x50x1 ![0, 1, 2] bcast_S1x1x1_S16384x50x1_0_1_2 (broadcastInDim S1x1x1 ![2] bcast_S1_S1x1x1_2 (constantI S1 32 999999#32)))))
          (constantI S_ 1 1#1) reducesTo_S16384x50x1_S16384x50_d2 h_S_))
      (Host.gather gather_S1000000x16_S16384x50x1_S16384x50x16_2_0_n_n_0_2_116 TBL I) N = look TBL X := by
  funext y
  obtain ⟨b, h, e, rfl⟩ : ∃ b h e, y = trip b h e := ⟨_, _, _, trip_eta y⟩
  have hm : ∀ j, Host.reduce IntOp.andi (andi (cmpi .sge I (broadcastInDim S16384x50x1 ![] bcast_S_S16384x50x1 (constantI S_ 32 0#32)))
          (cmpi .sle I (broadcastInDim S16384x50x1 ![0, 1, 2] bcast_S1x1x1_S16384x50x1_0_1_2 (broadcastInDim S1x1x1 ![2] bcast_S1_S1x1x1_2 (constantI S1 32 999999#32)))))
          (constantI S_ 1 1#1) reducesTo_S16384x50x1_S16384x50_d2 h_S_ j = 1#1 := fun j =>
    Host.reduce_andi_one _ _ _ _ j rfl fun i => by
      show IntOp.andi (IntOp.cmpi .sge (I i) 0#32) (IntOp.cmpi .sle (I i) 999999#32) = 1#1
      rw [hI i]; exact word_pass (hX _)
  rw [unmask _ hm]
  show Host.gather gather_S1000000x16_S16384x50x1_S16384x50x16_2_0_n_n_0_2_116 TBL I (trip b h e) = TBL (tix (X (pair b h)).toNat e)
  have hs : I (slot b h) = X (pair b h) := hI _
  rw [gather_at TBL I b h e (by rw [hs]; exact hX _), hs]

end Cert.Proof.Lookup

end
-- ==== Proof.Claims.lean ====
/- The claims, from the kernel's run and the reference's. -/
module

public import proofs.«01_k».proof.Proof.Ref
public import proofs.«01_k».proof.Proof.Gen.Kernel

@[expose] public section

noncomputable section

namespace Cert.Proof.Lookup

open Idealize.ShloMosaic Idealize.SL.Sem

/-- The precondition gives the range of the indices the kernel's run asks for. -/
theorem ok_ideal (m : (ℓ : Loc Cert.KernelIdeal.nD Cert.KernelIdeal.τ Cert.KernelIdeal.sig) → Buf (Elt Ideal) ℓ) (h : Cert.Pre_KernelIdeal m) :
    PreOK (F := Ideal) m := fun d j => range_of_pre (F := Ideal) _ _ (h d) j
/-- The same for the bits. -/
theorem ok_bits (m : (ℓ : Loc Cert.Kernel.nD Cert.Kernel.τ Cert.Kernel.sig) → Buf (Elt Bits) ℓ) (h : Cert.Pre_Kernel m) :
    PreOK (F := Bits) m := fun d j => range_of_pre (F := Bits) _ _ (h d) j

/-- The kernel's frame. -/
theorem frame_kernel : Cert.quiescent_Kernel := fun m ρ h =>
  (θ_run (Cert.KernelIdeal.defs (F := Bits)) _ _).mono (fun _ hq => ⟨fun c => (hq.1 c).2, hq.2⟩) (run_main (F := Bits) m ρ (ok_bits m h))

/-- The ideal kernel's frame. -/
theorem frame_ideal : Cert.quiescent_KernelIdeal := fun m ρ h =>
  (θ_run (Cert.KernelIdeal.defs (F := Ideal)) _ _).mono (fun _ hq => ⟨fun c => (hq.1 c).2, hq.2⟩) (run_main (F := Ideal) m ρ (ok_ideal m h))

/-- The reference's frame. -/
theorem frame_reference : Cert.quiescent_ReferenceIdeal := fun m ρ _ =>
  (θ_run (Cert.ReferenceIdeal.defs (F := Ideal)) _ _).mono (fun r hq => ⟨fun c => (hq c).2, sem_eq_zero_of_no_sems (by decide) r.2⟩)
    (Cert.ReferenceIdeal.Value.run (F := Ideal) m ρ)
/-- The reference's frame under the precondition. -/
theorem frame_reference_pre : Cert.quiescent_ReferenceIdeal_pre_in_range := fun m ρ _ =>
  (θ_run (Cert.ReferenceIdeal.defs (F := Ideal)) _ _).mono (fun r hq => ⟨fun c => (hq c).2, sem_eq_zero_of_no_sems (by decide) r.2⟩)
    (Cert.ReferenceIdeal.Value.run (F := Ideal) m ρ)

/-- Both compute the lookup. -/
theorem algebraic : Cert.algebraic_KernelIdeal_ReferenceIdeal := by
  intro m ρ m' ρ' hpre hag
  have hok := ok_ideal m hpre
  refine ⟨fun c => look (m (aLoc c)) (m (xLoc c)), ?_, ?_⟩
  · exact (θ_run (Cert.KernelIdeal.defs (F := Ideal)) _ _).mono
      (fun _ hq c => ⟨(hq.1 c).1.trans (res_eq (F := Ideal) _ _), (hq.1 c).2⟩) (run_main (F := Ideal) m ρ hok)
  · refine (θ_run (Cert.ReferenceIdeal.defs (F := Ideal)) _ _).mono (fun _ hq c => ⟨(hq c).1.trans ?_, (hq c).2⟩)
      (Cert.ReferenceIdeal.Value.run (F := Ideal) m' ρ')
    rw [(hag c).1, (hag c).2]
    exact ref_eq (F := Ideal) _ _ (hok c) _ (starts _ (hok c)) _

end Cert.Proof.Lookup

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All the claims. -/
theorem claim : Cert.Claim :=
  ⟨Cert.Kernel.Gen.facts, Cert.KernelIdeal.Gen.facts, Cert.ReferenceIdeal.Gen.facts, Cert.Pre_in_range.Gen.facts,
    Lookup.frame_kernel, Lookup.frame_ideal, Lookup.frame_reference, Lookup.frame_reference_pre, trivial, Lookup.algebraic⟩

end Cert.Proof

end
